-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xa_finite [hPre_xa_finite : Cert.Pre_xa_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xa_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xa_finite [hPre_xa_finite : Cert.Pre_xa_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xa_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3))) = (fun _ => 1#1)

def Pre_InNt (m : (ℓ : Loc Cert.InNt.nD Cert.InNt.τ Cert.InNt.sig) → Buf (Elt Bits) ℓ) : Prop :=
  True

def Pre_InNtIdeal (m : (ℓ : Loc Cert.InNtIdeal.nD Cert.InNtIdeal.τ Cert.InNtIdeal.sig) → Buf (Elt Ideal) ℓ) : Prop :=
  True

def Pre_InNtRefIdeal (m : (ℓ : Loc Cert.InNtRefIdeal.nD Cert.InNtRefIdeal.τ Cert.InNtRefIdeal.sig) → Buf (Elt Ideal) ℓ) : Prop :=
  True

def Pre_InTn (m : (ℓ : Loc Cert.InTn.nD Cert.InTn.τ Cert.InTn.sig) → Buf (Elt Bits) ℓ) : Prop :=
  True

def Pre_InTnIdeal (m : (ℓ : Loc Cert.InTnIdeal.nD Cert.InTnIdeal.τ Cert.InTnIdeal.sig) → Buf (Elt Ideal) ℓ) : Prop :=
  True

def Pre_InTnRefIdeal (m : (ℓ : Loc Cert.InTnRefIdeal.nD Cert.InTnRefIdeal.τ Cert.InTnRefIdeal.sig) → Buf (Elt Ideal) ℓ) : Prop :=
  True

def Pre_InNn (m : (ℓ : Loc Cert.InNn.nD Cert.InNn.τ Cert.InNn.sig) → Buf (Elt Bits) ℓ) : Prop :=
  True

def Pre_InNnIdeal (m : (ℓ : Loc Cert.InNnIdeal.nD Cert.InNnIdeal.τ Cert.InNnIdeal.sig) → Buf (Elt Ideal) ℓ) : Prop :=
  True

def Pre_InNnRefIdeal (m : (ℓ : Loc Cert.InNnRefIdeal.nD Cert.InNnRefIdeal.τ Cert.InNnRefIdeal.sig) → Buf (Elt Ideal) ℓ) : Prop :=
  True

def Pre_QbNt (m : (ℓ : Loc Cert.QbNt.nD Cert.QbNt.τ Cert.QbNt.sig) → Buf (Elt Bits) ℓ) : Prop :=
  True

def Pre_QbNtIdeal (m : (ℓ : Loc Cert.QbNtIdeal.nD Cert.QbNtIdeal.τ Cert.QbNtIdeal.sig) → Buf (Elt Ideal) ℓ) : Prop :=
  True

def Pre_QbNtRefIdeal (m : (ℓ : Loc Cert.QbNtRefIdeal.nD Cert.QbNtRefIdeal.τ Cert.QbNtRefIdeal.sig) → Buf (Elt Ideal) ℓ) : Prop :=
  True

def Pre_QbTn (m : (ℓ : Loc Cert.QbTn.nD Cert.QbTn.τ Cert.QbTn.sig) → Buf (Elt Bits) ℓ) : Prop :=
  True

def Pre_QbTnIdeal (m : (ℓ : Loc Cert.QbTnIdeal.nD Cert.QbTnIdeal.τ Cert.QbTnIdeal.sig) → Buf (Elt Ideal) ℓ) : Prop :=
  True

def Pre_QbTnRefIdeal (m : (ℓ : Loc Cert.QbTnRefIdeal.nD Cert.QbTnRefIdeal.τ Cert.QbTnRefIdeal.sig) → Buf (Elt Ideal) ℓ) : Prop :=
  True

def Pre_QbNn (m : (ℓ : Loc Cert.QbNn.nD Cert.QbNn.τ Cert.QbNn.sig) → Buf (Elt Bits) ℓ) : Prop :=
  True

def Pre_QbNnIdeal (m : (ℓ : Loc Cert.QbNnIdeal.nD Cert.QbNnIdeal.τ Cert.QbNnIdeal.sig) → Buf (Elt Ideal) ℓ) : Prop :=
  True

def Pre_QbNnRefIdeal (m : (ℓ : Loc Cert.QbNnRefIdeal.nD Cert.QbNnRefIdeal.τ Cert.QbNnRefIdeal.sig) → Buf (Elt Ideal) ℓ) : Prop :=
  True

def Pre_KvbNt (m : (ℓ : Loc Cert.KvbNt.nD Cert.KvbNt.τ Cert.KvbNt.sig) → Buf (Elt Bits) ℓ) : Prop :=
  True

def Pre_KvbNtIdeal (m : (ℓ : Loc Cert.KvbNtIdeal.nD Cert.KvbNtIdeal.τ Cert.KvbNtIdeal.sig) → Buf (Elt Ideal) ℓ) : Prop :=
  True

def Pre_KvbNtRefIdeal (m : (ℓ : Loc Cert.KvbNtRefIdeal.nD Cert.KvbNtRefIdeal.τ Cert.KvbNtRefIdeal.sig) → Buf (Elt Ideal) ℓ) : Prop :=
  True

def Pre_KvbTn (m : (ℓ : Loc Cert.KvbTn.nD Cert.KvbTn.τ Cert.KvbTn.sig) → Buf (Elt Bits) ℓ) : Prop :=
  True

def Pre_KvbTnIdeal (m : (ℓ : Loc Cert.KvbTnIdeal.nD Cert.KvbTnIdeal.τ Cert.KvbTnIdeal.sig) → Buf (Elt Ideal) ℓ) : Prop :=
  True

def Pre_KvbTnRefIdeal (m : (ℓ : Loc Cert.KvbTnRefIdeal.nD Cert.KvbTnRefIdeal.τ Cert.KvbTnRefIdeal.sig) → Buf (Elt Ideal) ℓ) : Prop :=
  True

def Pre_KvbNn (m : (ℓ : Loc Cert.KvbNn.nD Cert.KvbNn.τ Cert.KvbNn.sig) → Buf (Elt Bits) ℓ) : Prop :=
  True

def Pre_KvbNnIdeal (m : (ℓ : Loc Cert.KvbNnIdeal.nD Cert.KvbNnIdeal.τ Cert.KvbNnIdeal.sig) → Buf (Elt Ideal) ℓ) : Prop :=
  True

def Pre_KvbNnRefIdeal (m : (ℓ : Loc Cert.KvbNnRefIdeal.nD Cert.KvbNnRefIdeal.τ Cert.KvbNnRefIdeal.sig) → Buf (Elt Ideal) ℓ) : Prop :=
  True

def Pre_SqNt (m : (ℓ : Loc Cert.SqNt.nD Cert.SqNt.τ Cert.SqNt.sig) → Buf (Elt Bits) ℓ) : Prop :=
  True

def Pre_SqNtIdeal (m : (ℓ : Loc Cert.SqNtIdeal.nD Cert.SqNtIdeal.τ Cert.SqNtIdeal.sig) → Buf (Elt Ideal) ℓ) : Prop :=
  True

def Pre_SqNtRefIdeal (m : (ℓ : Loc Cert.SqNtRefIdeal.nD Cert.SqNtRefIdeal.τ Cert.SqNtRefIdeal.sig) → Buf (Elt Ideal) ℓ) : Prop :=
  True

def Pre_SqTn (m : (ℓ : Loc Cert.SqTn.nD Cert.SqTn.τ Cert.SqTn.sig) → Buf (Elt Bits) ℓ) : Prop :=
  True

def Pre_SqTnIdeal (m : (ℓ : Loc Cert.SqTnIdeal.nD Cert.SqTnIdeal.τ Cert.SqTnIdeal.sig) → Buf (Elt Ideal) ℓ) : Prop :=
  True

def Pre_SqTnRefIdeal (m : (ℓ : Loc Cert.SqTnRefIdeal.nD Cert.SqTnRefIdeal.τ Cert.SqTnRefIdeal.sig) → Buf (Elt Ideal) ℓ) : Prop :=
  True

def Pre_SqNn (m : (ℓ : Loc Cert.SqNn.nD Cert.SqNn.τ Cert.SqNn.sig) → Buf (Elt Bits) ℓ) : Prop :=
  True

def Pre_SqNnIdeal (m : (ℓ : Loc Cert.SqNnIdeal.nD Cert.SqNnIdeal.τ Cert.SqNnIdeal.sig) → Buf (Elt Ideal) ℓ) : Prop :=
  True

def Pre_SqNnRefIdeal (m : (ℓ : Loc Cert.SqNnRefIdeal.nD Cert.SqNnRefIdeal.τ Cert.SqNnRefIdeal.sig) → Buf (Elt Ideal) ℓ) : Prop :=
  True

def Pre_SqRes (m : (ℓ : Loc Cert.SqRes.nD Cert.SqRes.τ Cert.SqRes.sig) → Buf (Elt Bits) ℓ) : Prop :=
  True

def Pre_SqResIdeal (m : (ℓ : Loc Cert.SqResIdeal.nD Cert.SqResIdeal.τ Cert.SqResIdeal.sig) → Buf (Elt Ideal) ℓ) : Prop :=
  True

def Pre_SqResRefIdeal (m : (ℓ : Loc Cert.SqResRefIdeal.nD Cert.SqResRefIdeal.τ Cert.SqResRefIdeal.sig) → Buf (Elt Ideal) ℓ) : Prop :=
  True

def Pre_MemNt (m : (ℓ : Loc Cert.MemNt.nD Cert.MemNt.τ Cert.MemNt.sig) → Buf (Elt Bits) ℓ) : Prop :=
  True

def Pre_MemNtIdeal (m : (ℓ : Loc Cert.MemNtIdeal.nD Cert.MemNtIdeal.τ Cert.MemNtIdeal.sig) → Buf (Elt Ideal) ℓ) : Prop :=
  True

def Pre_MemNtRefIdeal (m : (ℓ : Loc Cert.MemNtRefIdeal.nD Cert.MemNtRefIdeal.τ Cert.MemNtRefIdeal.sig) → Buf (Elt Ideal) ℓ) : Prop :=
  True

def Pre_MemTn (m : (ℓ : Loc Cert.MemTn.nD Cert.MemTn.τ Cert.MemTn.sig) → Buf (Elt Bits) ℓ) : Prop :=
  True

def Pre_MemTnIdeal (m : (ℓ : Loc Cert.MemTnIdeal.nD Cert.MemTnIdeal.τ Cert.MemTnIdeal.sig) → Buf (Elt Ideal) ℓ) : Prop :=
  True

def Pre_MemTnRefIdeal (m : (ℓ : Loc Cert.MemTnRefIdeal.nD Cert.MemTnRefIdeal.τ Cert.MemTnRefIdeal.sig) → Buf (Elt Ideal) ℓ) : Prop :=
  True

def Pre_MemNn (m : (ℓ : Loc Cert.MemNn.nD Cert.MemNn.τ Cert.MemNn.sig) → Buf (Elt Bits) ℓ) : Prop :=
  True

def Pre_MemNnIdeal (m : (ℓ : Loc Cert.MemNnIdeal.nD Cert.MemNnIdeal.τ Cert.MemNnIdeal.sig) → Buf (Elt Ideal) ℓ) : Prop :=
  True

def Pre_MemNnRefIdeal (m : (ℓ : Loc Cert.MemNnRefIdeal.nD Cert.MemNnRefIdeal.τ Cert.MemNnRefIdeal.sig) → Buf (Elt Ideal) ℓ) : Prop :=
  True

def Pre_UpNt (m : (ℓ : Loc Cert.UpNt.nD Cert.UpNt.τ Cert.UpNt.sig) → Buf (Elt Bits) ℓ) : Prop :=
  True

def Pre_UpNtIdeal (m : (ℓ : Loc Cert.UpNtIdeal.nD Cert.UpNtIdeal.τ Cert.UpNtIdeal.sig) → Buf (Elt Ideal) ℓ) : Prop :=
  True

def Pre_UpNtRefIdeal (m : (ℓ : Loc Cert.UpNtRefIdeal.nD Cert.UpNtRefIdeal.τ Cert.UpNtRefIdeal.sig) → Buf (Elt Ideal) ℓ) : Prop :=
  True

def Pre_UpTn (m : (ℓ : Loc Cert.UpTn.nD Cert.UpTn.τ Cert.UpTn.sig) → Buf (Elt Bits) ℓ) : Prop :=
  True

def Pre_UpTnIdeal (m : (ℓ : Loc Cert.UpTnIdeal.nD Cert.UpTnIdeal.τ Cert.UpTnIdeal.sig) → Buf (Elt Ideal) ℓ) : Prop :=
  True

def Pre_UpTnRefIdeal (m : (ℓ : Loc Cert.UpTnRefIdeal.nD Cert.UpTnRefIdeal.τ Cert.UpTnRefIdeal.sig) → Buf (Elt Ideal) ℓ) : Prop :=
  True

def Pre_UpNn (m : (ℓ : Loc Cert.UpNn.nD Cert.UpNn.τ Cert.UpNn.sig) → Buf (Elt Bits) ℓ) : Prop :=
  True

def Pre_UpNnIdeal (m : (ℓ : Loc Cert.UpNnIdeal.nD Cert.UpNnIdeal.τ Cert.UpNnIdeal.sig) → Buf (Elt Ideal) ℓ) : Prop :=
  True

def Pre_UpNnRefIdeal (m : (ℓ : Loc Cert.UpNnRefIdeal.nD Cert.UpNnRefIdeal.τ Cert.UpNnRefIdeal.sig) → Buf (Elt Ideal) ℓ) : Prop :=
  True

def Pre_DownNt (m : (ℓ : Loc Cert.DownNt.nD Cert.DownNt.τ Cert.DownNt.sig) → Buf (Elt Bits) ℓ) : Prop :=
  True

def Pre_DownNtIdeal (m : (ℓ : Loc Cert.DownNtIdeal.nD Cert.DownNtIdeal.τ Cert.DownNtIdeal.sig) → Buf (Elt Ideal) ℓ) : Prop :=
  True

def Pre_DownNtRefIdeal (m : (ℓ : Loc Cert.DownNtRefIdeal.nD Cert.DownNtRefIdeal.τ Cert.DownNtRefIdeal.sig) → Buf (Elt Ideal) ℓ) : Prop :=
  True

def Pre_DownTn (m : (ℓ : Loc Cert.DownTn.nD Cert.DownTn.τ Cert.DownTn.sig) → Buf (Elt Bits) ℓ) : Prop :=
  True

def Pre_DownTnIdeal (m : (ℓ : Loc Cert.DownTnIdeal.nD Cert.DownTnIdeal.τ Cert.DownTnIdeal.sig) → Buf (Elt Ideal) ℓ) : Prop :=
  True

def Pre_DownTnRefIdeal (m : (ℓ : Loc Cert.DownTnRefIdeal.nD Cert.DownTnRefIdeal.τ Cert.DownTnRefIdeal.sig) → Buf (Elt Ideal) ℓ) : Prop :=
  True

def Pre_DownRes (m : (ℓ : Loc Cert.DownRes.nD Cert.DownRes.τ Cert.DownRes.sig) → Buf (Elt Bits) ℓ) : Prop :=
  True

def Pre_DownResIdeal (m : (ℓ : Loc Cert.DownResIdeal.nD Cert.DownResIdeal.τ Cert.DownResIdeal.sig) → Buf (Elt Ideal) ℓ) : Prop :=
  True

def Pre_DownResRefIdeal (m : (ℓ : Loc Cert.DownResRefIdeal.nD Cert.DownResRefIdeal.τ Cert.DownResRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPacked (m : (ℓ : Loc Cert.AdamPacked.nD Cert.AdamPacked.τ Cert.AdamPacked.sig) → Buf (Elt Bits) ℓ) : Prop :=
  True

def Pre_AdamPackedIdeal (m : (ℓ : Loc Cert.AdamPackedIdeal.nD Cert.AdamPackedIdeal.τ Cert.AdamPackedIdeal.sig) → Buf (Elt Ideal) ℓ) : Prop :=
  True

def Pre_AdamPackedRefIdeal (m : (ℓ : Loc Cert.AdamPackedRefIdeal.nD Cert.AdamPackedRefIdeal.τ Cert.AdamPackedRefIdeal.sig) → Buf (Elt Ideal) ℓ) : Prop :=
  True

def Pre_AdamQb (m : (ℓ : Loc Cert.AdamQb.nD Cert.AdamQb.τ Cert.AdamQb.sig) → Buf (Elt Bits) ℓ) : Prop :=
  True

def Pre_AdamQbIdeal (m : (ℓ : Loc Cert.AdamQbIdeal.nD Cert.AdamQbIdeal.τ Cert.AdamQbIdeal.sig) → Buf (Elt Ideal) ℓ) : Prop :=
  True

def Pre_AdamQbRefIdeal (m : (ℓ : Loc Cert.AdamQbRefIdeal.nD Cert.AdamQbRefIdeal.τ Cert.AdamQbRefIdeal.sig) → Buf (Elt Ideal) ℓ) : Prop :=
  True

def Pre_AdamKvb (m : (ℓ : Loc Cert.AdamKvb.nD Cert.AdamKvb.τ Cert.AdamKvb.sig) → Buf (Elt Bits) ℓ) : Prop :=
  True

def Pre_AdamKvbIdeal (m : (ℓ : Loc Cert.AdamKvbIdeal.nD Cert.AdamKvbIdeal.τ Cert.AdamKvbIdeal.sig) → Buf (Elt Ideal) ℓ) : Prop :=
  True

def Pre_AdamKvbRefIdeal (m : (ℓ : Loc Cert.AdamKvbRefIdeal.nD Cert.AdamKvbRefIdeal.τ Cert.AdamKvbRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))) = (fun _ => 1#1)

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemIdeal_norm_mem_finite [hPre_norm_mem_finite : Cert.Pre_norm_mem_finite.Facts] (m : (ℓ : Loc Cert.NormMemIdeal.nD Cert.NormMemIdeal.τ Cert.NormMemIdeal.sig) → Buf (Elt Ideal) ℓ) : Prop :=
  ∀ c : Dev Cert.NormMemIdeal.nD,
    (Cert.Pre_norm_mem_finite.fn (F := Ideal) (m ((c.tc : Thread Cert.NormMemIdeal.nD Cert.NormMemIdeal.τ).loc Cert.NormMemIdeal.main_arg0)) (m ((c.tc : Thread Cert.NormMemIdeal.nD Cert.NormMemIdeal.τ).loc Cert.NormMemIdeal.main_arg1)) (m ((c.tc : Thread Cert.NormMemIdeal.nD Cert.NormMemIdeal.τ).loc Cert.NormMemIdeal.main_arg2))) = (fun _ => 1#1)

def Pre_NormMemRefIdeal (m : (ℓ : Loc Cert.NormMemRefIdeal.nD Cert.NormMemRefIdeal.τ Cert.NormMemRefIdeal.sig) → Buf (Elt Ideal) ℓ) : Prop :=
  True

def Pre_NormMemRefIdeal_norm_mem_finite [hPre_norm_mem_finite : Cert.Pre_norm_mem_finite.Facts] (m : (ℓ : Loc Cert.NormMemRefIdeal.nD Cert.NormMemRefIdeal.τ Cert.NormMemRefIdeal.sig) → Buf (Elt Ideal) ℓ) : Prop :=
  ∀ c : Dev Cert.NormMemRefIdeal.nD,
    (Cert.Pre_norm_mem_finite.fn (F := Ideal) (m ((c.tc : Thread Cert.NormMemRefIdeal.nD Cert.NormMemRefIdeal.τ).loc Cert.NormMemRefIdeal.main_arg0)) (m ((c.tc : Thread Cert.NormMemRefIdeal.nD Cert.NormMemRefIdeal.τ).loc Cert.NormMemRefIdeal.main_arg1)) (m ((c.tc : Thread Cert.NormMemRefIdeal.nD Cert.NormMemRefIdeal.τ).loc Cert.NormMemRefIdeal.main_arg2))) = (fun _ => 1#1)

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQIdeal_norm_q_finite [hPre_norm_q_finite : Cert.Pre_norm_q_finite.Facts] (m : (ℓ : Loc Cert.NormQIdeal.nD Cert.NormQIdeal.τ Cert.NormQIdeal.sig) → Buf (Elt Ideal) ℓ) : Prop :=
  ∀ c : Dev Cert.NormQIdeal.nD,
    (Cert.Pre_norm_q_finite.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2))) = (fun _ => 1#1)

def Pre_NormQRefIdeal (m : (ℓ : Loc Cert.NormQRefIdeal.nD Cert.NormQRefIdeal.τ Cert.NormQRefIdeal.sig) → Buf (Elt Ideal) ℓ) : Prop :=
  True

def Pre_NormQRefIdeal_norm_q_finite [hPre_norm_q_finite : Cert.Pre_norm_q_finite.Facts] (m : (ℓ : Loc Cert.NormQRefIdeal.nD Cert.NormQRefIdeal.τ Cert.NormQRefIdeal.sig) → Buf (Elt Ideal) ℓ) : Prop :=
  ∀ c : Dev Cert.NormQRefIdeal.nD,
    (Cert.Pre_norm_q_finite.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2))) = (fun _ => 1#1)

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvIdeal_norm_kv_finite [hPre_norm_kv_finite : Cert.Pre_norm_kv_finite.Facts] (m : (ℓ : Loc Cert.NormKvIdeal.nD Cert.NormKvIdeal.τ Cert.NormKvIdeal.sig) → Buf (Elt Ideal) ℓ) : Prop :=
  ∀ c : Dev Cert.NormKvIdeal.nD,
    (Cert.Pre_norm_kv_finite.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2))) = (fun _ => 1#1)

def Pre_NormKvRefIdeal (m : (ℓ : Loc Cert.NormKvRefIdeal.nD Cert.NormKvRefIdeal.τ Cert.NormKvRefIdeal.sig) → Buf (Elt Ideal) ℓ) : Prop :=
  True

def Pre_NormKvRefIdeal_norm_kv_finite [hPre_norm_kv_finite : Cert.Pre_norm_kv_finite.Facts] (m : (ℓ : Loc Cert.NormKvRefIdeal.nD Cert.NormKvRefIdeal.τ Cert.NormKvRefIdeal.sig) → Buf (Elt Ideal) ℓ) : Prop :=
  ∀ c : Dev Cert.NormKvRefIdeal.nD,
    (Cert.Pre_norm_kv_finite.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvSilu (m : (ℓ : Loc Cert.ConvSilu.nD Cert.ConvSilu.τ Cert.ConvSilu.sig) → Buf (Elt Bits) ℓ) : Prop :=
  True

def Pre_ConvSiluIdeal (m : (ℓ : Loc Cert.ConvSiluIdeal.nD Cert.ConvSiluIdeal.τ Cert.ConvSiluIdeal.sig) → Buf (Elt Ideal) ℓ) : Prop :=
  True

def Pre_ConvSiluIdeal_conv_finite [hPre_conv_finite : Cert.Pre_conv_finite.Facts] (m : (ℓ : Loc Cert.ConvSiluIdeal.nD Cert.ConvSiluIdeal.τ Cert.ConvSiluIdeal.sig) → Buf (Elt Ideal) ℓ) : Prop :=
  ∀ c : Dev Cert.ConvSiluIdeal.nD,
    (Cert.Pre_conv_finite.fn (F := Ideal) (m ((c.tc : Thread Cert.ConvSiluIdeal.nD Cert.ConvSiluIdeal.τ).loc Cert.ConvSiluIdeal.main_arg0)) (m ((c.tc : Thread Cert.ConvSiluIdeal.nD Cert.ConvSiluIdeal.τ).loc Cert.ConvSiluIdeal.main_arg1)) (m ((c.tc : Thread Cert.ConvSiluIdeal.nD Cert.ConvSiluIdeal.τ).loc Cert.ConvSiluIdeal.main_arg2))) = (fun _ => 1#1)

def Pre_ConvSiluRefIdeal (m : (ℓ : Loc Cert.ConvSiluRefIdeal.nD Cert.ConvSiluRefIdeal.τ Cert.ConvSiluRefIdeal.sig) → Buf (Elt Ideal) ℓ) : Prop :=
  True

def Pre_ConvSiluRefIdeal_conv_finite [hPre_conv_finite : Cert.Pre_conv_finite.Facts] (m : (ℓ : Loc Cert.ConvSiluRefIdeal.nD Cert.ConvSiluRefIdeal.τ Cert.ConvSiluRefIdeal.sig) → Buf (Elt Ideal) ℓ) : Prop :=
  ∀ c : Dev Cert.ConvSiluRefIdeal.nD,
    (Cert.Pre_conv_finite.fn (F := Ideal) (m ((c.tc : Thread Cert.ConvSiluRefIdeal.nD Cert.ConvSiluRefIdeal.τ).loc Cert.ConvSiluRefIdeal.main_arg0)) (m ((c.tc : Thread Cert.ConvSiluRefIdeal.nD Cert.ConvSiluRefIdeal.τ).loc Cert.ConvSiluRefIdeal.main_arg1)) (m ((c.tc : Thread Cert.ConvSiluRefIdeal.nD Cert.ConvSiluRefIdeal.τ).loc Cert.ConvSiluRefIdeal.main_arg2))) = (fun _ => 1#1)

def Pre_ConvGlu (m : (ℓ : Loc Cert.ConvGlu.nD Cert.ConvGlu.τ Cert.ConvGlu.sig) → Buf (Elt Bits) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvGluIdeal_glu_finite [hPre_glu_finite : Cert.Pre_glu_finite.Facts] (m : (ℓ : Loc Cert.ConvGluIdeal.nD Cert.ConvGluIdeal.τ Cert.ConvGluIdeal.sig) → Buf (Elt Ideal) ℓ) : Prop :=
  ∀ c : Dev Cert.ConvGluIdeal.nD,
    (Cert.Pre_glu_finite.fn (F := Ideal) (m ((c.tc : Thread Cert.ConvGluIdeal.nD Cert.ConvGluIdeal.τ).loc Cert.ConvGluIdeal.main_arg0)) (m ((c.tc : Thread Cert.ConvGluIdeal.nD Cert.ConvGluIdeal.τ).loc Cert.ConvGluIdeal.main_arg1)) (m ((c.tc : Thread Cert.ConvGluIdeal.nD Cert.ConvGluIdeal.τ).loc Cert.ConvGluIdeal.main_arg2)) (m ((c.tc : Thread Cert.ConvGluIdeal.nD Cert.ConvGluIdeal.τ).loc Cert.ConvGluIdeal.main_arg3))) = (fun _ => 1#1)

def Pre_ConvGluRefIdeal (m : (ℓ : Loc Cert.ConvGluRefIdeal.nD Cert.ConvGluRefIdeal.τ Cert.ConvGluRefIdeal.sig) → Buf (Elt Ideal) ℓ) : Prop :=
  True

def Pre_ConvGluRefIdeal_glu_finite [hPre_glu_finite : Cert.Pre_glu_finite.Facts] (m : (ℓ : Loc Cert.ConvGluRefIdeal.nD Cert.ConvGluRefIdeal.τ Cert.ConvGluRefIdeal.sig) → Buf (Elt Ideal) ℓ) : Prop :=
  ∀ c : Dev Cert.ConvGluRefIdeal.nD,
    (Cert.Pre_glu_finite.fn (F := Ideal) (m ((c.tc : Thread Cert.ConvGluRefIdeal.nD Cert.ConvGluRefIdeal.τ).loc Cert.ConvGluRefIdeal.main_arg0)) (m ((c.tc : Thread Cert.ConvGluRefIdeal.nD Cert.ConvGluRefIdeal.τ).loc Cert.ConvGluRefIdeal.main_arg1)) (m ((c.tc : Thread Cert.ConvGluRefIdeal.nD Cert.ConvGluRefIdeal.τ).loc Cert.ConvGluRefIdeal.main_arg2)) (m ((c.tc : Thread Cert.ConvGluRefIdeal.nD Cert.ConvGluRefIdeal.τ).loc Cert.ConvGluRefIdeal.main_arg3))) = (fun _ => 1#1)

def Pre_GroupNorm (m : (ℓ : Loc Cert.GroupNorm.nD Cert.GroupNorm.τ Cert.GroupNorm.sig) → Buf (Elt Bits) ℓ) : Prop :=
  True

def Pre_GroupNormIdeal (m : (ℓ : Loc Cert.GroupNormIdeal.nD Cert.GroupNormIdeal.τ Cert.GroupNormIdeal.sig) → Buf (Elt Ideal) ℓ) : Prop :=
  True

def Pre_GroupNormIdeal_group_norm_finite [hPre_group_norm_finite : Cert.Pre_group_norm_finite.Facts] (m : (ℓ : Loc Cert.GroupNormIdeal.nD Cert.GroupNormIdeal.τ Cert.GroupNormIdeal.sig) → Buf (Elt Ideal) ℓ) : Prop :=
  ∀ c : Dev Cert.GroupNormIdeal.nD,
    (Cert.Pre_group_norm_finite.fn (F := Ideal) (m ((c.tc : Thread Cert.GroupNormIdeal.nD Cert.GroupNormIdeal.τ).loc Cert.GroupNormIdeal.main_arg0)) (m ((c.tc : Thread Cert.GroupNormIdeal.nD Cert.GroupNormIdeal.τ).loc Cert.GroupNormIdeal.main_arg1)) (m ((c.tc : Thread Cert.GroupNormIdeal.nD Cert.GroupNormIdeal.τ).loc Cert.GroupNormIdeal.main_arg2))) = (fun _ => 1#1)

def Pre_GroupNormRefIdeal (m : (ℓ : Loc Cert.GroupNormRefIdeal.nD Cert.GroupNormRefIdeal.τ Cert.GroupNormRefIdeal.sig) → Buf (Elt Ideal) ℓ) : Prop :=
  True

def Pre_GroupNormRefIdeal_group_norm_finite [hPre_group_norm_finite : Cert.Pre_group_norm_finite.Facts] (m : (ℓ : Loc Cert.GroupNormRefIdeal.nD Cert.GroupNormRefIdeal.τ Cert.GroupNormRefIdeal.sig) → Buf (Elt Ideal) ℓ) : Prop :=
  ∀ c : Dev Cert.GroupNormRefIdeal.nD,
    (Cert.Pre_group_norm_finite.fn (F := Ideal) (m ((c.tc : Thread Cert.GroupNormRefIdeal.nD Cert.GroupNormRefIdeal.τ).loc Cert.GroupNormRefIdeal.main_arg0)) (m ((c.tc : Thread Cert.GroupNormRefIdeal.nD Cert.GroupNormRefIdeal.τ).loc Cert.GroupNormRefIdeal.main_arg1)) (m ((c.tc : Thread Cert.GroupNormRefIdeal.nD Cert.GroupNormRefIdeal.τ).loc Cert.GroupNormRefIdeal.main_arg2))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ r.2.sem = fun _ => 0)

def quiescent_XattnIdeal_pre_xa_finite [hXattnIdeal : Cert.XattnIdeal.Facts] [hPre_xa_finite : Cert.Pre_xa_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xa_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def quiescent_XattnRefIdeal_pre_xa_finite [hXattnRefIdeal : Cert.XattnRefIdeal.Facts] [hPre_xa_finite : Cert.Pre_xa_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xa_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3))
      ∧ r.2.sem = fun _ => 0)

def quiescent_InNt [hInNt : Cert.InNt.Facts] : Prop :=
  ∀ (m : (ℓ : Loc Cert.InNt.nD Cert.InNt.τ Cert.InNt.sig) → Buf (Elt Bits) ℓ) (g : Dev Cert.InNt.nD → PrngReg), Pre_InNt m →
    θ_run (Cert.InNt.defs (F := Bits)) (onTc (τ := Cert.InNt.τ) (Cert.InNt.main (F := Bits))) ⟨m, fun _ => 0, g⟩ (fun r => (∀ c : Dev Cert.InNt.nD,
      r.2.mem ((c.tc : Thread Cert.InNt.nD Cert.InNt.τ).loc Cert.InNt.main_arg0) = m ((c.tc : Thread Cert.InNt.nD Cert.InNt.τ).loc Cert.InNt.main_arg0)
      ∧ r.2.mem ((c.tc : Thread Cert.InNt.nD Cert.InNt.τ).loc Cert.InNt.main_arg1) = m ((c.tc : Thread Cert.InNt.nD Cert.InNt.τ).loc Cert.InNt.main_arg1))
      ∧ r.2.sem = fun _ => 0)

def quiescent_InNtIdeal [hInNtIdeal : Cert.InNtIdeal.Facts] : Prop :=
  ∀ (m : (ℓ : Loc Cert.InNtIdeal.nD Cert.InNtIdeal.τ Cert.InNtIdeal.sig) → Buf (Elt Ideal) ℓ) (g : Dev Cert.InNtIdeal.nD → PrngReg), Pre_InNtIdeal m →
    θ_run (Cert.InNtIdeal.defs (F := Ideal)) (onTc (τ := Cert.InNtIdeal.τ) (Cert.InNtIdeal.main (F := Ideal))) ⟨m, fun _ => 0, g⟩ (fun r => (∀ c : Dev Cert.InNtIdeal.nD,
      r.2.mem ((c.tc : Thread Cert.InNtIdeal.nD Cert.InNtIdeal.τ).loc Cert.InNtIdeal.main_arg0) = m ((c.tc : Thread Cert.InNtIdeal.nD Cert.InNtIdeal.τ).loc Cert.InNtIdeal.main_arg0)
      ∧ r.2.mem ((c.tc : Thread Cert.InNtIdeal.nD Cert.InNtIdeal.τ).loc Cert.InNtIdeal.main_arg1) = m ((c.tc : Thread Cert.InNtIdeal.nD Cert.InNtIdeal.τ).loc Cert.InNtIdeal.main_arg1))
      ∧ r.2.sem = fun _ => 0)

def quiescent_InNtRefIdeal [hInNtRefIdeal : Cert.InNtRefIdeal.Facts] : Prop :=
  ∀ (m : (ℓ : Loc Cert.InNtRefIdeal.nD Cert.InNtRefIdeal.τ Cert.InNtRefIdeal.sig) → Buf (Elt Ideal) ℓ) (g : Dev Cert.InNtRefIdeal.nD → PrngReg), Pre_InNtRefIdeal m →
    θ_run (Cert.InNtRefIdeal.defs (F := Ideal)) (onTc (τ := Cert.InNtRefIdeal.τ) (Cert.InNtRefIdeal.main (F := Ideal))) ⟨m, fun _ => 0, g⟩ (fun r => (∀ c : Dev Cert.InNtRefIdeal.nD,
      r.2.mem ((c.tc : Thread Cert.InNtRefIdeal.nD Cert.InNtRefIdeal.τ).loc Cert.InNtRefIdeal.main_arg0) = m ((c.tc : Thread Cert.InNtRefIdeal.nD Cert.InNtRefIdeal.τ).loc Cert.InNtRefIdeal.main_arg0)
      ∧ r.2.mem ((c.tc : Thread Cert.InNtRefIdeal.nD Cert.InNtRefIdeal.τ).loc Cert.InNtRefIdeal.main_arg1) = m ((c.tc : Thread Cert.InNtRefIdeal.nD Cert.InNtRefIdeal.τ).loc Cert.InNtRefIdeal.main_arg1))
      ∧ r.2.sem = fun _ => 0)

def quiescent_InTn [hInTn : Cert.InTn.Facts] : Prop :=
  ∀ (m : (ℓ : Loc Cert.InTn.nD Cert.InTn.τ Cert.InTn.sig) → Buf (Elt Bits) ℓ) (g : Dev Cert.InTn.nD → PrngReg), Pre_InTn m →
    θ_run (Cert.InTn.defs (F := Bits)) (onTc (τ := Cert.InTn.τ) (Cert.InTn.main (F := Bits))) ⟨m, fun _ => 0, g⟩ (fun r => (∀ c : Dev Cert.InTn.nD,
      r.2.mem ((c.tc : Thread Cert.InTn.nD Cert.InTn.τ).loc Cert.InTn.main_arg0) = m ((c.tc : Thread Cert.InTn.nD Cert.InTn.τ).loc Cert.InTn.main_arg0)
      ∧ r.2.mem ((c.tc : Thread Cert.InTn.nD Cert.InTn.τ).loc Cert.InTn.main_arg1) = m ((c.tc : Thread Cert.InTn.nD Cert.InTn.τ).loc Cert.InTn.main_arg1))
      ∧ r.2.sem = fun _ => 0)

def quiescent_InTnIdeal [hInTnIdeal : Cert.InTnIdeal.Facts] : Prop :=
  ∀ (m : (ℓ : Loc Cert.InTnIdeal.nD Cert.InTnIdeal.τ Cert.InTnIdeal.sig) → Buf (Elt Ideal) ℓ) (g : Dev Cert.InTnIdeal.nD → PrngReg), Pre_InTnIdeal m →
    θ_run (Cert.InTnIdeal.defs (F := Ideal)) (onTc (τ := Cert.InTnIdeal.τ) (Cert.InTnIdeal.main (F := Ideal))) ⟨m, fun _ => 0, g⟩ (fun r => (∀ c : Dev Cert.InTnIdeal.nD,
      r.2.mem ((c.tc : Thread Cert.InTnIdeal.nD Cert.InTnIdeal.τ).loc Cert.InTnIdeal.main_arg0) = m ((c.tc : Thread Cert.InTnIdeal.nD Cert.InTnIdeal.τ).loc Cert.InTnIdeal.main_arg0)
      ∧ r.2.mem ((c.tc : Thread Cert.InTnIdeal.nD Cert.InTnIdeal.τ).loc Cert.InTnIdeal.main_arg1) = m ((c.tc : Thread Cert.InTnIdeal.nD Cert.InTnIdeal.τ).loc Cert.InTnIdeal.main_arg1))
      ∧ r.2.sem = fun _ => 0)

def quiescent_InTnRefIdeal [hInTnRefIdeal : Cert.InTnRefIdeal.Facts] : Prop :=
  ∀ (m : (ℓ : Loc Cert.InTnRefIdeal.nD Cert.InTnRefIdeal.τ Cert.InTnRefIdeal.sig) → Buf (Elt Ideal) ℓ) (g : Dev Cert.InTnRefIdeal.nD → PrngReg), Pre_InTnRefIdeal m →
    θ_run (Cert.InTnRefIdeal.defs (F := Ideal)) (onTc (τ := Cert.InTnRefIdeal.τ) (Cert.InTnRefIdeal.main (F := Ideal))) ⟨m, fun _ => 0, g⟩ (fun r => (∀ c : Dev Cert.InTnRefIdeal.nD,
      r.2.mem ((c.tc : Thread Cert.InTnRefIdeal.nD Cert.InTnRefIdeal.τ).loc Cert.InTnRefIdeal.main_arg0) = m ((c.tc : Thread Cert.InTnRefIdeal.nD Cert.InTnRefIdeal.τ).loc Cert.InTnRefIdeal.main_arg0)
      ∧ r.2.mem ((c.tc : Thread Cert.InTnRefIdeal.nD Cert.InTnRefIdeal.τ).loc Cert.InTnRefIdeal.main_arg1) = m ((c.tc : Thread Cert.InTnRefIdeal.nD Cert.InTnRefIdeal.τ).loc Cert.InTnRefIdeal.main_arg1))
      ∧ r.2.sem = fun _ => 0)

def quiescent_InNn [hInNn : Cert.InNn.Facts] : Prop :=
  ∀ (m : (ℓ : Loc Cert.InNn.nD Cert.InNn.τ Cert.InNn.sig) → Buf (Elt Bits) ℓ) (g : Dev Cert.InNn.nD → PrngReg), Pre_InNn m →
    θ_run (Cert.InNn.defs (F := Bits)) (onTc (τ := Cert.InNn.τ) (Cert.InNn.main (F := Bits))) ⟨m, fun _ => 0, g⟩ (fun r => (∀ c : Dev Cert.InNn.nD,
      r.2.mem ((c.tc : Thread Cert.InNn.nD Cert.InNn.τ).loc Cert.InNn.main_arg0) = m ((c.tc : Thread Cert.InNn.nD Cert.InNn.τ).loc Cert.InNn.main_arg0)
      ∧ r.2.mem ((c.tc : Thread Cert.InNn.nD Cert.InNn.τ).loc Cert.InNn.main_arg1) = m ((c.tc : Thread Cert.InNn.nD Cert.InNn.τ).loc Cert.InNn.main_arg1))
      ∧ r.2.sem = fun _ => 0)

def quiescent_InNnIdeal [hInNnIdeal : Cert.InNnIdeal.Facts] : Prop :=
  ∀ (m : (ℓ : Loc Cert.InNnIdeal.nD Cert.InNnIdeal.τ Cert.InNnIdeal.sig) → Buf (Elt Ideal) ℓ) (g : Dev Cert.InNnIdeal.nD → PrngReg), Pre_InNnIdeal m →
    θ_run (Cert.InNnIdeal.defs (F := Ideal)) (onTc (τ := Cert.InNnIdeal.τ) (Cert.InNnIdeal.main (F := Ideal))) ⟨m, fun _ => 0, g⟩ (fun r => (∀ c : Dev Cert.InNnIdeal.nD,
      r.2.mem ((c.tc : Thread Cert.InNnIdeal.nD Cert.InNnIdeal.τ).loc Cert.InNnIdeal.main_arg0) = m ((c.tc : Thread Cert.InNnIdeal.nD Cert.InNnIdeal.τ).loc Cert.InNnIdeal.main_arg0)
      ∧ r.2.mem ((c.tc : Thread Cert.InNnIdeal.nD Cert.InNnIdeal.τ).loc Cert.InNnIdeal.main_arg1) = m ((c.tc : Thread Cert.InNnIdeal.nD Cert.InNnIdeal.τ).loc Cert.InNnIdeal.main_arg1))
      ∧ r.2.sem = fun _ => 0)

def quiescent_InNnRefIdeal [hInNnRefIdeal : Cert.InNnRefIdeal.Facts] : Prop :=
  ∀ (m : (ℓ : Loc Cert.InNnRefIdeal.nD Cert.InNnRefIdeal.τ Cert.InNnRefIdeal.sig) → Buf (Elt Ideal) ℓ) (g : Dev Cert.InNnRefIdeal.nD → PrngReg), Pre_InNnRefIdeal m →
    θ_run (Cert.InNnRefIdeal.defs (F := Ideal)) (onTc (τ := Cert.InNnRefIdeal.τ) (Cert.InNnRefIdeal.main (F := Ideal))) ⟨m, fun _ => 0, g⟩ (fun r => (∀ c : Dev Cert.InNnRefIdeal.nD,
      r.2.mem ((c.tc : Thread Cert.InNnRefIdeal.nD Cert.InNnRefIdeal.τ).loc Cert.InNnRefIdeal.main_arg0) = m ((c.tc : Thread Cert.InNnRefIdeal.nD Cert.InNnRefIdeal.τ).loc Cert.InNnRefIdeal.main_arg0)
      ∧ r.2.mem ((c.tc : Thread Cert.InNnRefIdeal.nD Cert.InNnRefIdeal.τ).loc Cert.InNnRefIdeal.main_arg1) = m ((c.tc : Thread Cert.InNnRefIdeal.nD Cert.InNnRefIdeal.τ).loc Cert.InNnRefIdeal.main_arg1))
      ∧ r.2.sem = fun _ => 0)

def quiescent_QbNt [hQbNt : Cert.QbNt.Facts] : Prop :=
  ∀ (m : (ℓ : Loc Cert.QbNt.nD Cert.QbNt.τ Cert.QbNt.sig) → Buf (Elt Bits) ℓ) (g : Dev Cert.QbNt.nD → PrngReg), Pre_QbNt m →
    θ_run (Cert.QbNt.defs (F := Bits)) (onTc (τ := Cert.QbNt.τ) (Cert.QbNt.main (F := Bits))) ⟨m, fun _ => 0, g⟩ (fun r => (∀ c : Dev Cert.QbNt.nD,
      r.2.mem ((c.tc : Thread Cert.QbNt.nD Cert.QbNt.τ).loc Cert.QbNt.main_arg0) = m ((c.tc : Thread Cert.QbNt.nD Cert.QbNt.τ).loc Cert.QbNt.main_arg0)
      ∧ r.2.mem ((c.tc : Thread Cert.QbNt.nD Cert.QbNt.τ).loc Cert.QbNt.main_arg1) = m ((c.tc : Thread Cert.QbNt.nD Cert.QbNt.τ).loc Cert.QbNt.main_arg1))
      ∧ r.2.sem = fun _ => 0)

def quiescent_QbNtIdeal [hQbNtIdeal : Cert.QbNtIdeal.Facts] : Prop :=
  ∀ (m : (ℓ : Loc Cert.QbNtIdeal.nD Cert.QbNtIdeal.τ Cert.QbNtIdeal.sig) → Buf (Elt Ideal) ℓ) (g : Dev Cert.QbNtIdeal.nD → PrngReg), Pre_QbNtIdeal m →
    θ_run (Cert.QbNtIdeal.defs (F := Ideal)) (onTc (τ := Cert.QbNtIdeal.τ) (Cert.QbNtIdeal.main (F := Ideal))) ⟨m, fun _ => 0, g⟩ (fun r => (∀ c : Dev Cert.QbNtIdeal.nD,
      r.2.mem ((c.tc : Thread Cert.QbNtIdeal.nD Cert.QbNtIdeal.τ).loc Cert.QbNtIdeal.main_arg0) = m ((c.tc : Thread Cert.QbNtIdeal.nD Cert.QbNtIdeal.τ).loc Cert.QbNtIdeal.main_arg0)
      ∧ r.2.mem ((c.tc : Thread Cert.QbNtIdeal.nD Cert.QbNtIdeal.τ).loc Cert.QbNtIdeal.main_arg1) = m ((c.tc : Thread Cert.QbNtIdeal.nD Cert.QbNtIdeal.τ).loc Cert.QbNtIdeal.main_arg1))
      ∧ r.2.sem = fun _ => 0)

def quiescent_QbNtRefIdeal [hQbNtRefIdeal : Cert.QbNtRefIdeal.Facts] : Prop :=
  ∀ (m : (ℓ : Loc Cert.QbNtRefIdeal.nD Cert.QbNtRefIdeal.τ Cert.QbNtRefIdeal.sig) → Buf (Elt Ideal) ℓ) (g : Dev Cert.QbNtRefIdeal.nD → PrngReg), Pre_QbNtRefIdeal m →
    θ_run (Cert.QbNtRefIdeal.defs (F := Ideal)) (onTc (τ := Cert.QbNtRefIdeal.τ) (Cert.QbNtRefIdeal.main (F := Ideal))) ⟨m, fun _ => 0, g⟩ (fun r => (∀ c : Dev Cert.QbNtRefIdeal.nD,
      r.2.mem ((c.tc : Thread Cert.QbNtRefIdeal.nD Cert.QbNtRefIdeal.τ).loc Cert.QbNtRefIdeal.main_arg0) = m ((c.tc : Thread Cert.QbNtRefIdeal.nD Cert.QbNtRefIdeal.τ).loc Cert.QbNtRefIdeal.main_arg0)
      ∧ r.2.mem ((c.tc : Thread Cert.QbNtRefIdeal.nD Cert.QbNtRefIdeal.τ).loc Cert.QbNtRefIdeal.main_arg1) = m ((c.tc : Thread Cert.QbNtRefIdeal.nD Cert.QbNtRefIdeal.τ).loc Cert.QbNtRefIdeal.main_arg1))
      ∧ r.2.sem = fun _ => 0)

def quiescent_QbTn [hQbTn : Cert.QbTn.Facts] : Prop :=
  ∀ (m : (ℓ : Loc Cert.QbTn.nD Cert.QbTn.τ Cert.QbTn.sig) → Buf (Elt Bits) ℓ) (g : Dev Cert.QbTn.nD → PrngReg), Pre_QbTn m →
    θ_run (Cert.QbTn.defs (F := Bits)) (onTc (τ := Cert.QbTn.τ) (Cert.QbTn.main (F := Bits))) ⟨m, fun _ => 0, g⟩ (fun r => (∀ c : Dev Cert.QbTn.nD,
      r.2.mem ((c.tc : Thread Cert.QbTn.nD Cert.QbTn.τ).loc Cert.QbTn.main_arg0) = m ((c.tc : Thread Cert.QbTn.nD Cert.QbTn.τ).loc Cert.QbTn.main_arg0)
      ∧ r.2.mem ((c.tc : Thread Cert.QbTn.nD Cert.QbTn.τ).loc Cert.QbTn.main_arg1) = m ((c.tc : Thread Cert.QbTn.nD Cert.QbTn.τ).loc Cert.QbTn.main_arg1))
      ∧ r.2.sem = fun _ => 0)

def quiescent_QbTnIdeal [hQbTnIdeal : Cert.QbTnIdeal.Facts] : Prop :=
  ∀ (m : (ℓ : Loc Cert.QbTnIdeal.nD Cert.QbTnIdeal.τ Cert.QbTnIdeal.sig) → Buf (Elt Ideal) ℓ) (g : Dev Cert.QbTnIdeal.nD → PrngReg), Pre_QbTnIdeal m →
    θ_run (Cert.QbTnIdeal.defs (F := Ideal)) (onTc (τ := Cert.QbTnIdeal.τ) (Cert.QbTnIdeal.main (F := Ideal))) ⟨m, fun _ => 0, g⟩ (fun r => (∀ c : Dev Cert.QbTnIdeal.nD,
      r.2.mem ((c.tc : Thread Cert.QbTnIdeal.nD Cert.QbTnIdeal.τ).loc Cert.QbTnIdeal.main_arg0) = m ((c.tc : Thread Cert.QbTnIdeal.nD Cert.QbTnIdeal.τ).loc Cert.QbTnIdeal.main_arg0)
      ∧ r.2.mem ((c.tc : Thread Cert.QbTnIdeal.nD Cert.QbTnIdeal.τ).loc Cert.QbTnIdeal.main_arg1) = m ((c.tc : Thread Cert.QbTnIdeal.nD Cert.QbTnIdeal.τ).loc Cert.QbTnIdeal.main_arg1))
      ∧ r.2.sem = fun _ => 0)

def quiescent_QbTnRefIdeal [hQbTnRefIdeal : Cert.QbTnRefIdeal.Facts] : Prop :=
  ∀ (m : (ℓ : Loc Cert.QbTnRefIdeal.nD Cert.QbTnRefIdeal.τ Cert.QbTnRefIdeal.sig) → Buf (Elt Ideal) ℓ) (g : Dev Cert.QbTnRefIdeal.nD → PrngReg), Pre_QbTnRefIdeal m →
    θ_run (Cert.QbTnRefIdeal.defs (F := Ideal)) (onTc (τ := Cert.QbTnRefIdeal.τ) (Cert.QbTnRefIdeal.main (F := Ideal))) ⟨m, fun _ => 0, g⟩ (fun r => (∀ c : Dev Cert.QbTnRefIdeal.nD,
      r.2.mem ((c.tc : Thread Cert.QbTnRefIdeal.nD Cert.QbTnRefIdeal.τ).loc Cert.QbTnRefIdeal.main_arg0) = m ((c.tc : Thread Cert.QbTnRefIdeal.nD Cert.QbTnRefIdeal.τ).loc Cert.QbTnRefIdeal.main_arg0)
      ∧ r.2.mem ((c.tc : Thread Cert.QbTnRefIdeal.nD Cert.QbTnRefIdeal.τ).loc Cert.QbTnRefIdeal.main_arg1) = m ((c.tc : Thread Cert.QbTnRefIdeal.nD Cert.QbTnRefIdeal.τ).loc Cert.QbTnRefIdeal.main_arg1))
      ∧ r.2.sem = fun _ => 0)

def quiescent_QbNn [hQbNn : Cert.QbNn.Facts] : Prop :=
  ∀ (m : (ℓ : Loc Cert.QbNn.nD Cert.QbNn.τ Cert.QbNn.sig) → Buf (Elt Bits) ℓ) (g : Dev Cert.QbNn.nD → PrngReg), Pre_QbNn m →
    θ_run (Cert.QbNn.defs (F := Bits)) (onTc (τ := Cert.QbNn.τ) (Cert.QbNn.main (F := Bits))) ⟨m, fun _ => 0, g⟩ (fun r => (∀ c : Dev Cert.QbNn.nD,
      r.2.mem ((c.tc : Thread Cert.QbNn.nD Cert.QbNn.τ).loc Cert.QbNn.main_arg0) = m ((c.tc : Thread Cert.QbNn.nD Cert.QbNn.τ).loc Cert.QbNn.main_arg0)
      ∧ r.2.mem ((c.tc : Thread Cert.QbNn.nD Cert.QbNn.τ).loc Cert.QbNn.main_arg1) = m ((c.tc : Thread Cert.QbNn.nD Cert.QbNn.τ).loc Cert.QbNn.main_arg1))
      ∧ r.2.sem = fun _ => 0)

def quiescent_QbNnIdeal [hQbNnIdeal : Cert.QbNnIdeal.Facts] : Prop :=
  ∀ (m : (ℓ : Loc Cert.QbNnIdeal.nD Cert.QbNnIdeal.τ Cert.QbNnIdeal.sig) → Buf (Elt Ideal) ℓ) (g : Dev Cert.QbNnIdeal.nD → PrngReg), Pre_QbNnIdeal m →
    θ_run (Cert.QbNnIdeal.defs (F := Ideal)) (onTc (τ := Cert.QbNnIdeal.τ) (Cert.QbNnIdeal.main (F := Ideal))) ⟨m, fun _ => 0, g⟩ (fun r => (∀ c : Dev Cert.QbNnIdeal.nD,
      r.2.mem ((c.tc : Thread Cert.QbNnIdeal.nD Cert.QbNnIdeal.τ).loc Cert.QbNnIdeal.main_arg0) = m ((c.tc : Thread Cert.QbNnIdeal.nD Cert.QbNnIdeal.τ).loc Cert.QbNnIdeal.main_arg0)
      ∧ r.2.mem ((c.tc : Thread Cert.QbNnIdeal.nD Cert.QbNnIdeal.τ).loc Cert.QbNnIdeal.main_arg1) = m ((c.tc : Thread Cert.QbNnIdeal.nD Cert.QbNnIdeal.τ).loc Cert.QbNnIdeal.main_arg1))
      ∧ r.2.sem = fun _ => 0)

def quiescent_QbNnRefIdeal [hQbNnRefIdeal : Cert.QbNnRefIdeal.Facts] : Prop :=
  ∀ (m : (ℓ : Loc Cert.QbNnRefIdeal.nD Cert.QbNnRefIdeal.τ Cert.QbNnRefIdeal.sig) → Buf (Elt Ideal) ℓ) (g : Dev Cert.QbNnRefIdeal.nD → PrngReg), Pre_QbNnRefIdeal m →
    θ_run (Cert.QbNnRefIdeal.defs (F := Ideal)) (onTc (τ := Cert.QbNnRefIdeal.τ) (Cert.QbNnRefIdeal.main (F := Ideal))) ⟨m, fun _ => 0, g⟩ (fun r => (∀ c : Dev Cert.QbNnRefIdeal.nD,
      r.2.mem ((c.tc : Thread Cert.QbNnRefIdeal.nD Cert.QbNnRefIdeal.τ).loc Cert.QbNnRefIdeal.main_arg0) = m ((c.tc : Thread Cert.QbNnRefIdeal.nD Cert.QbNnRefIdeal.τ).loc Cert.QbNnRefIdeal.main_arg0)
      ∧ r.2.mem ((c.tc : Thread Cert.QbNnRefIdeal.nD Cert.QbNnRefIdeal.τ).loc Cert.QbNnRefIdeal.main_arg1) = m ((c.tc : Thread Cert.QbNnRefIdeal.nD Cert.QbNnRefIdeal.τ).loc Cert.QbNnRefIdeal.main_arg1))
      ∧ r.2.sem = fun _ => 0)

def quiescent_KvbNt [hKvbNt : Cert.KvbNt.Facts] : Prop :=
  ∀ (m : (ℓ : Loc Cert.KvbNt.nD Cert.KvbNt.τ Cert.KvbNt.sig) → Buf (Elt Bits) ℓ) (g : Dev Cert.KvbNt.nD → PrngReg), Pre_KvbNt m →
    θ_run (Cert.KvbNt.defs (F := Bits)) (onTc (τ := Cert.KvbNt.τ) (Cert.KvbNt.main (F := Bits))) ⟨m, fun _ => 0, g⟩ (fun r => (∀ c : Dev Cert.KvbNt.nD,
      r.2.mem ((c.tc : Thread Cert.KvbNt.nD Cert.KvbNt.τ).loc Cert.KvbNt.main_arg0) = m ((c.tc : Thread Cert.KvbNt.nD Cert.KvbNt.τ).loc Cert.KvbNt.main_arg0)
      ∧ r.2.mem ((c.tc : Thread Cert.KvbNt.nD Cert.KvbNt.τ).loc Cert.KvbNt.main_arg1) = m ((c.tc : Thread Cert.KvbNt.nD Cert.KvbNt.τ).loc Cert.KvbNt.main_arg1))
      ∧ r.2.sem = fun _ => 0)

def quiescent_KvbNtIdeal [hKvbNtIdeal : Cert.KvbNtIdeal.Facts] : Prop :=
  ∀ (m : (ℓ : Loc Cert.KvbNtIdeal.nD Cert.KvbNtIdeal.τ Cert.KvbNtIdeal.sig) → Buf (Elt Ideal) ℓ) (g : Dev Cert.KvbNtIdeal.nD → PrngReg), Pre_KvbNtIdeal m →
    θ_run (Cert.KvbNtIdeal.defs (F := Ideal)) (onTc (τ := Cert.KvbNtIdeal.τ) (Cert.KvbNtIdeal.main (F := Ideal))) ⟨m, fun _ => 0, g⟩ (fun r => (∀ c : Dev Cert.KvbNtIdeal.nD,
      r.2.mem ((c.tc : Thread Cert.KvbNtIdeal.nD Cert.KvbNtIdeal.τ).loc Cert.KvbNtIdeal.main_arg0) = m ((c.tc : Thread Cert.KvbNtIdeal.nD Cert.KvbNtIdeal.τ).loc Cert.KvbNtIdeal.main_arg0)
      ∧ r.2.mem ((c.tc : Thread Cert.KvbNtIdeal.nD Cert.KvbNtIdeal.τ).loc Cert.KvbNtIdeal.main_arg1) = m ((c.tc : Thread Cert.KvbNtIdeal.nD Cert.KvbNtIdeal.τ).loc Cert.KvbNtIdeal.main_arg1))
      ∧ r.2.sem = fun _ => 0)

def quiescent_KvbNtRefIdeal [hKvbNtRefIdeal : Cert.KvbNtRefIdeal.Facts] : Prop :=
  ∀ (m : (ℓ : Loc Cert.KvbNtRefIdeal.nD Cert.KvbNtRefIdeal.τ Cert.KvbNtRefIdeal.sig) → Buf (Elt Ideal) ℓ) (g : Dev Cert.KvbNtRefIdeal.nD → PrngReg), Pre_KvbNtRefIdeal m →
    θ_run (Cert.KvbNtRefIdeal.defs (F := Ideal)) (onTc (τ := Cert.KvbNtRefIdeal.τ) (Cert.KvbNtRefIdeal.main (F := Ideal))) ⟨m, fun _ => 0, g⟩ (fun r => (∀ c : Dev Cert.KvbNtRefIdeal.nD,
      r.2.mem ((c.tc : Thread Cert.KvbNtRefIdeal.nD Cert.KvbNtRefIdeal.τ).loc Cert.KvbNtRefIdeal.main_arg0) = m ((c.tc : Thread Cert.KvbNtRefIdeal.nD Cert.KvbNtRefIdeal.τ).loc Cert.KvbNtRefIdeal.main_arg0)
      ∧ r.2.mem ((c.tc : Thread Cert.KvbNtRefIdeal.nD Cert.KvbNtRefIdeal.τ).loc Cert.KvbNtRefIdeal.main_arg1) = m ((c.tc : Thread Cert.KvbNtRefIdeal.nD Cert.KvbNtRefIdeal.τ).loc Cert.KvbNtRefIdeal.main_arg1))
      ∧ r.2.sem = fun _ => 0)

def quiescent_KvbTn [hKvbTn : Cert.KvbTn.Facts] : Prop :=
  ∀ (m : (ℓ : Loc Cert.KvbTn.nD Cert.KvbTn.τ Cert.KvbTn.sig) → Buf (Elt Bits) ℓ) (g : Dev Cert.KvbTn.nD → PrngReg), Pre_KvbTn m →
    θ_run (Cert.KvbTn.defs (F := Bits)) (onTc (τ := Cert.KvbTn.τ) (Cert.KvbTn.main (F := Bits))) ⟨m, fun _ => 0, g⟩ (fun r => (∀ c : Dev Cert.KvbTn.nD,
      r.2.mem ((c.tc : Thread Cert.KvbTn.nD Cert.KvbTn.τ).loc Cert.KvbTn.main_arg0) = m ((c.tc : Thread Cert.KvbTn.nD Cert.KvbTn.τ).loc Cert.KvbTn.main_arg0)
      ∧ r.2.mem ((c.tc : Thread Cert.KvbTn.nD Cert.KvbTn.τ).loc Cert.KvbTn.main_arg1) = m ((c.tc : Thread Cert.KvbTn.nD Cert.KvbTn.τ).loc Cert.KvbTn.main_arg1))
      ∧ r.2.sem = fun _ => 0)

def quiescent_KvbTnIdeal [hKvbTnIdeal : Cert.KvbTnIdeal.Facts] : Prop :=
  ∀ (m : (ℓ : Loc Cert.KvbTnIdeal.nD Cert.KvbTnIdeal.τ Cert.KvbTnIdeal.sig) → Buf (Elt Ideal) ℓ) (g : Dev Cert.KvbTnIdeal.nD → PrngReg), Pre_KvbTnIdeal m →
    θ_run (Cert.KvbTnIdeal.defs (F := Ideal)) (onTc (τ := Cert.KvbTnIdeal.τ) (Cert.KvbTnIdeal.main (F := Ideal))) ⟨m, fun _ => 0, g⟩ (fun r => (∀ c : Dev Cert.KvbTnIdeal.nD,
      r.2.mem ((c.tc : Thread Cert.KvbTnIdeal.nD Cert.KvbTnIdeal.τ).loc Cert.KvbTnIdeal.main_arg0) = m ((c.tc : Thread Cert.KvbTnIdeal.nD Cert.KvbTnIdeal.τ).loc Cert.KvbTnIdeal.main_arg0)
      ∧ r.2.mem ((c.tc : Thread Cert.KvbTnIdeal.nD Cert.KvbTnIdeal.τ).loc Cert.KvbTnIdeal.main_arg1) = m ((c.tc : Thread Cert.KvbTnIdeal.nD Cert.KvbTnIdeal.τ).loc Cert.KvbTnIdeal.main_arg1))
      ∧ r.2.sem = fun _ => 0)

def quiescent_KvbTnRefIdeal [hKvbTnRefIdeal : Cert.KvbTnRefIdeal.Facts] : Prop :=
  ∀ (m : (ℓ : Loc Cert.KvbTnRefIdeal.nD Cert.KvbTnRefIdeal.τ Cert.KvbTnRefIdeal.sig) → Buf (Elt Ideal) ℓ) (g : Dev Cert.KvbTnRefIdeal.nD → PrngReg), Pre_KvbTnRefIdeal m →
    θ_run (Cert.KvbTnRefIdeal.defs (F := Ideal)) (onTc (τ := Cert.KvbTnRefIdeal.τ) (Cert.KvbTnRefIdeal.main (F := Ideal))) ⟨m, fun _ => 0, g⟩ (fun r => (∀ c : Dev Cert.KvbTnRefIdeal.nD,
      r.2.mem ((c.tc : Thread Cert.KvbTnRefIdeal.nD Cert.KvbTnRefIdeal.τ).loc Cert.KvbTnRefIdeal.main_arg0) = m ((c.tc : Thread Cert.KvbTnRefIdeal.nD Cert.KvbTnRefIdeal.τ).loc Cert.KvbTnRefIdeal.main_arg0)
      ∧ r.2.mem ((c.tc : Thread Cert.KvbTnRefIdeal.nD Cert.KvbTnRefIdeal.τ).loc Cert.KvbTnRefIdeal.main_arg1) = m ((c.tc : Thread Cert.KvbTnRefIdeal.nD Cert.KvbTnRefIdeal.τ).loc Cert.KvbTnRefIdeal.main_arg1))
      ∧ r.2.sem = fun _ => 0)

def quiescent_KvbNn [hKvbNn : Cert.KvbNn.Facts] : Prop :=
  ∀ (m : (ℓ : Loc Cert.KvbNn.nD Cert.KvbNn.τ Cert.KvbNn.sig) → Buf (Elt Bits) ℓ) (g : Dev Cert.KvbNn.nD → PrngReg), Pre_KvbNn m →
    θ_run (Cert.KvbNn.defs (F := Bits)) (onTc (τ := Cert.KvbNn.τ) (Cert.KvbNn.main (F := Bits))) ⟨m, fun _ => 0, g⟩ (fun r => (∀ c : Dev Cert.KvbNn.nD,
      r.2.mem ((c.tc : Thread Cert.KvbNn.nD Cert.KvbNn.τ).loc Cert.KvbNn.main_arg0) = m ((c.tc : Thread Cert.KvbNn.nD Cert.KvbNn.τ).loc Cert.KvbNn.main_arg0)
      ∧ r.2.mem ((c.tc : Thread Cert.KvbNn.nD Cert.KvbNn.τ).loc Cert.KvbNn.main_arg1) = m ((c.tc : Thread Cert.KvbNn.nD Cert.KvbNn.τ).loc Cert.KvbNn.main_arg1))
      ∧ r.2.sem = fun _ => 0)

def quiescent_KvbNnIdeal [hKvbNnIdeal : Cert.KvbNnIdeal.Facts] : Prop :=
  ∀ (m : (ℓ : Loc Cert.KvbNnIdeal.nD Cert.KvbNnIdeal.τ Cert.KvbNnIdeal.sig) → Buf (Elt Ideal) ℓ) (g : Dev Cert.KvbNnIdeal.nD → PrngReg), Pre_KvbNnIdeal m →
    θ_run (Cert.KvbNnIdeal.defs (F := Ideal)) (onTc (τ := Cert.KvbNnIdeal.τ) (Cert.KvbNnIdeal.main (F := Ideal))) ⟨m, fun _ => 0, g⟩ (fun r => (∀ c : Dev Cert.KvbNnIdeal.nD,
      r.2.mem ((c.tc : Thread Cert.KvbNnIdeal.nD Cert.KvbNnIdeal.τ).loc Cert.KvbNnIdeal.main_arg0) = m ((c.tc : Thread Cert.KvbNnIdeal.nD Cert.KvbNnIdeal.τ).loc Cert.KvbNnIdeal.main_arg0)
      ∧ r.2.mem ((c.tc : Thread Cert.KvbNnIdeal.nD Cert.KvbNnIdeal.τ).loc Cert.KvbNnIdeal.main_arg1) = m ((c.tc : Thread Cert.KvbNnIdeal.nD Cert.KvbNnIdeal.τ).loc Cert.KvbNnIdeal.main_arg1))
      ∧ r.2.sem = fun _ => 0)

def quiescent_KvbNnRefIdeal [hKvbNnRefIdeal : Cert.KvbNnRefIdeal.Facts] : Prop :=
  ∀ (m : (ℓ : Loc Cert.KvbNnRefIdeal.nD Cert.KvbNnRefIdeal.τ Cert.KvbNnRefIdeal.sig) → Buf (Elt Ideal) ℓ) (g : Dev Cert.KvbNnRefIdeal.nD → PrngReg), Pre_KvbNnRefIdeal m →
    θ_run (Cert.KvbNnRefIdeal.defs (F := Ideal)) (onTc (τ := Cert.KvbNnRefIdeal.τ) (Cert.KvbNnRefIdeal.main (F := Ideal))) ⟨m, fun _ => 0, g⟩ (fun r => (∀ c : Dev Cert.KvbNnRefIdeal.nD,
      r.2.mem ((c.tc : Thread Cert.KvbNnRefIdeal.nD Cert.KvbNnRefIdeal.τ).loc Cert.KvbNnRefIdeal.main_arg0) = m ((c.tc : Thread Cert.KvbNnRefIdeal.nD Cert.KvbNnRefIdeal.τ).loc Cert.KvbNnRefIdeal.main_arg0)
      ∧ r.2.mem ((c.tc : Thread Cert.KvbNnRefIdeal.nD Cert.KvbNnRefIdeal.τ).loc Cert.KvbNnRefIdeal.main_arg1) = m ((c.tc : Thread Cert.KvbNnRefIdeal.nD Cert.KvbNnRefIdeal.τ).loc Cert.KvbNnRefIdeal.main_arg1))
      ∧ r.2.sem = fun _ => 0)

def quiescent_SqNt [hSqNt : Cert.SqNt.Facts] : Prop :=
  ∀ (m : (ℓ : Loc Cert.SqNt.nD Cert.SqNt.τ Cert.SqNt.sig) → Buf (Elt Bits) ℓ) (g : Dev Cert.SqNt.nD → PrngReg), Pre_SqNt m →
    θ_run (Cert.SqNt.defs (F := Bits)) (onTc (τ := Cert.SqNt.τ) (Cert.SqNt.main (F := Bits))) ⟨m, fun _ => 0, g⟩ (fun r => (∀ c : Dev Cert.SqNt.nD,
      r.2.mem ((c.tc : Thread Cert.SqNt.nD Cert.SqNt.τ).loc Cert.SqNt.main_arg0) = m ((c.tc : Thread Cert.SqNt.nD Cert.SqNt.τ).loc Cert.SqNt.main_arg0)
      ∧ r.2.mem ((c.tc : Thread Cert.SqNt.nD Cert.SqNt.τ).loc Cert.SqNt.main_arg1) = m ((c.tc : Thread Cert.SqNt.nD Cert.SqNt.τ).loc Cert.SqNt.main_arg1))
      ∧ r.2.sem = fun _ => 0)

def quiescent_SqNtIdeal [hSqNtIdeal : Cert.SqNtIdeal.Facts] : Prop :=
  ∀ (m : (ℓ : Loc Cert.SqNtIdeal.nD Cert.SqNtIdeal.τ Cert.SqNtIdeal.sig) → Buf (Elt Ideal) ℓ) (g : Dev Cert.SqNtIdeal.nD → PrngReg), Pre_SqNtIdeal m →
    θ_run (Cert.SqNtIdeal.defs (F := Ideal)) (onTc (τ := Cert.SqNtIdeal.τ) (Cert.SqNtIdeal.main (F := Ideal))) ⟨m, fun _ => 0, g⟩ (fun r => (∀ c : Dev Cert.SqNtIdeal.nD,
      r.2.mem ((c.tc : Thread Cert.SqNtIdeal.nD Cert.SqNtIdeal.τ).loc Cert.SqNtIdeal.main_arg0) = m ((c.tc : Thread Cert.SqNtIdeal.nD Cert.SqNtIdeal.τ).loc Cert.SqNtIdeal.main_arg0)
      ∧ r.2.mem ((c.tc : Thread Cert.SqNtIdeal.nD Cert.SqNtIdeal.τ).loc Cert.SqNtIdeal.main_arg1) = m ((c.tc : Thread Cert.SqNtIdeal.nD Cert.SqNtIdeal.τ).loc Cert.SqNtIdeal.main_arg1))
      ∧ r.2.sem = fun _ => 0)

def quiescent_SqNtRefIdeal [hSqNtRefIdeal : Cert.SqNtRefIdeal.Facts] : Prop :=
  ∀ (m : (ℓ : Loc Cert.SqNtRefIdeal.nD Cert.SqNtRefIdeal.τ Cert.SqNtRefIdeal.sig) → Buf (Elt Ideal) ℓ) (g : Dev Cert.SqNtRefIdeal.nD → PrngReg), Pre_SqNtRefIdeal m →
    θ_run (Cert.SqNtRefIdeal.defs (F := Ideal)) (onTc (τ := Cert.SqNtRefIdeal.τ) (Cert.SqNtRefIdeal.main (F := Ideal))) ⟨m, fun _ => 0, g⟩ (fun r => (∀ c : Dev Cert.SqNtRefIdeal.nD,
      r.2.mem ((c.tc : Thread Cert.SqNtRefIdeal.nD Cert.SqNtRefIdeal.τ).loc Cert.SqNtRefIdeal.main_arg0) = m ((c.tc : Thread Cert.SqNtRefIdeal.nD Cert.SqNtRefIdeal.τ).loc Cert.SqNtRefIdeal.main_arg0)
      ∧ r.2.mem ((c.tc : Thread Cert.SqNtRefIdeal.nD Cert.SqNtRefIdeal.τ).loc Cert.SqNtRefIdeal.main_arg1) = m ((c.tc : Thread Cert.SqNtRefIdeal.nD Cert.SqNtRefIdeal.τ).loc Cert.SqNtRefIdeal.main_arg1))
      ∧ r.2.sem = fun _ => 0)

def quiescent_SqTn [hSqTn : Cert.SqTn.Facts] : Prop :=
  ∀ (m : (ℓ : Loc Cert.SqTn.nD Cert.SqTn.τ Cert.SqTn.sig) → Buf (Elt Bits) ℓ) (g : Dev Cert.SqTn.nD → PrngReg), Pre_SqTn m →
    θ_run (Cert.SqTn.defs (F := Bits)) (onTc (τ := Cert.SqTn.τ) (Cert.SqTn.main (F := Bits))) ⟨m, fun _ => 0, g⟩ (fun r => (∀ c : Dev Cert.SqTn.nD,
      r.2.mem ((c.tc : Thread Cert.SqTn.nD Cert.SqTn.τ).loc Cert.SqTn.main_arg0) = m ((c.tc : Thread Cert.SqTn.nD Cert.SqTn.τ).loc Cert.SqTn.main_arg0)
      ∧ r.2.mem ((c.tc : Thread Cert.SqTn.nD Cert.SqTn.τ).loc Cert.SqTn.main_arg1) = m ((c.tc : Thread Cert.SqTn.nD Cert.SqTn.τ).loc Cert.SqTn.main_arg1))
      ∧ r.2.sem = fun _ => 0)

def quiescent_SqTnIdeal [hSqTnIdeal : Cert.SqTnIdeal.Facts] : Prop :=
  ∀ (m : (ℓ : Loc Cert.SqTnIdeal.nD Cert.SqTnIdeal.τ Cert.SqTnIdeal.sig) → Buf (Elt Ideal) ℓ) (g : Dev Cert.SqTnIdeal.nD → PrngReg), Pre_SqTnIdeal m →
    θ_run (Cert.SqTnIdeal.defs (F := Ideal)) (onTc (τ := Cert.SqTnIdeal.τ) (Cert.SqTnIdeal.main (F := Ideal))) ⟨m, fun _ => 0, g⟩ (fun r => (∀ c : Dev Cert.SqTnIdeal.nD,
      r.2.mem ((c.tc : Thread Cert.SqTnIdeal.nD Cert.SqTnIdeal.τ).loc Cert.SqTnIdeal.main_arg0) = m ((c.tc : Thread Cert.SqTnIdeal.nD Cert.SqTnIdeal.τ).loc Cert.SqTnIdeal.main_arg0)
      ∧ r.2.mem ((c.tc : Thread Cert.SqTnIdeal.nD Cert.SqTnIdeal.τ).loc Cert.SqTnIdeal.main_arg1) = m ((c.tc : Thread Cert.SqTnIdeal.nD Cert.SqTnIdeal.τ).loc Cert.SqTnIdeal.main_arg1))
      ∧ r.2.sem = fun _ => 0)

def quiescent_SqTnRefIdeal [hSqTnRefIdeal : Cert.SqTnRefIdeal.Facts] : Prop :=
  ∀ (m : (ℓ : Loc Cert.SqTnRefIdeal.nD Cert.SqTnRefIdeal.τ Cert.SqTnRefIdeal.sig) → Buf (Elt Ideal) ℓ) (g : Dev Cert.SqTnRefIdeal.nD → PrngReg), Pre_SqTnRefIdeal m →
    θ_run (Cert.SqTnRefIdeal.defs (F := Ideal)) (onTc (τ := Cert.SqTnRefIdeal.τ) (Cert.SqTnRefIdeal.main (F := Ideal))) ⟨m, fun _ => 0, g⟩ (fun r => (∀ c : Dev Cert.SqTnRefIdeal.nD,
      r.2.mem ((c.tc : Thread Cert.SqTnRefIdeal.nD Cert.SqTnRefIdeal.τ).loc Cert.SqTnRefIdeal.main_arg0) = m ((c.tc : Thread Cert.SqTnRefIdeal.nD Cert.SqTnRefIdeal.τ).loc Cert.SqTnRefIdeal.main_arg0)
      ∧ r.2.mem ((c.tc : Thread Cert.SqTnRefIdeal.nD Cert.SqTnRefIdeal.τ).loc Cert.SqTnRefIdeal.main_arg1) = m ((c.tc : Thread Cert.SqTnRefIdeal.nD Cert.SqTnRefIdeal.τ).loc Cert.SqTnRefIdeal.main_arg1))
      ∧ r.2.sem = fun _ => 0)

def quiescent_SqNn [hSqNn : Cert.SqNn.Facts] : Prop :=
  ∀ (m : (ℓ : Loc Cert.SqNn.nD Cert.SqNn.τ Cert.SqNn.sig) → Buf (Elt Bits) ℓ) (g : Dev Cert.SqNn.nD → PrngReg), Pre_SqNn m →
    θ_run (Cert.SqNn.defs (F := Bits)) (onTc (τ := Cert.SqNn.τ) (Cert.SqNn.main (F := Bits))) ⟨m, fun _ => 0, g⟩ (fun r => (∀ c : Dev Cert.SqNn.nD,
      r.2.mem ((c.tc : Thread Cert.SqNn.nD Cert.SqNn.τ).loc Cert.SqNn.main_arg0) = m ((c.tc : Thread Cert.SqNn.nD Cert.SqNn.τ).loc Cert.SqNn.main_arg0)
      ∧ r.2.mem ((c.tc : Thread Cert.SqNn.nD Cert.SqNn.τ).loc Cert.SqNn.main_arg1) = m ((c.tc : Thread Cert.SqNn.nD Cert.SqNn.τ).loc Cert.SqNn.main_arg1))
      ∧ r.2.sem = fun _ => 0)

def quiescent_SqNnIdeal [hSqNnIdeal : Cert.SqNnIdeal.Facts] : Prop :=
  ∀ (m : (ℓ : Loc Cert.SqNnIdeal.nD Cert.SqNnIdeal.τ Cert.SqNnIdeal.sig) → Buf (Elt Ideal) ℓ) (g : Dev Cert.SqNnIdeal.nD → PrngReg), Pre_SqNnIdeal m →
    θ_run (Cert.SqNnIdeal.defs (F := Ideal)) (onTc (τ := Cert.SqNnIdeal.τ) (Cert.SqNnIdeal.main (F := Ideal))) ⟨m, fun _ => 0, g⟩ (fun r => (∀ c : Dev Cert.SqNnIdeal.nD,
      r.2.mem ((c.tc : Thread Cert.SqNnIdeal.nD Cert.SqNnIdeal.τ).loc Cert.SqNnIdeal.main_arg0) = m ((c.tc : Thread Cert.SqNnIdeal.nD Cert.SqNnIdeal.τ).loc Cert.SqNnIdeal.main_arg0)
      ∧ r.2.mem ((c.tc : Thread Cert.SqNnIdeal.nD Cert.SqNnIdeal.τ).loc Cert.SqNnIdeal.main_arg1) = m ((c.tc : Thread Cert.SqNnIdeal.nD Cert.SqNnIdeal.τ).loc Cert.SqNnIdeal.main_arg1))
      ∧ r.2.sem = fun _ => 0)

def quiescent_SqNnRefIdeal [hSqNnRefIdeal : Cert.SqNnRefIdeal.Facts] : Prop :=
  ∀ (m : (ℓ : Loc Cert.SqNnRefIdeal.nD Cert.SqNnRefIdeal.τ Cert.SqNnRefIdeal.sig) → Buf (Elt Ideal) ℓ) (g : Dev Cert.SqNnRefIdeal.nD → PrngReg), Pre_SqNnRefIdeal m →
    θ_run (Cert.SqNnRefIdeal.defs (F := Ideal)) (onTc (τ := Cert.SqNnRefIdeal.τ) (Cert.SqNnRefIdeal.main (F := Ideal))) ⟨m, fun _ => 0, g⟩ (fun r => (∀ c : Dev Cert.SqNnRefIdeal.nD,
      r.2.mem ((c.tc : Thread Cert.SqNnRefIdeal.nD Cert.SqNnRefIdeal.τ).loc Cert.SqNnRefIdeal.main_arg0) = m ((c.tc : Thread Cert.SqNnRefIdeal.nD Cert.SqNnRefIdeal.τ).loc Cert.SqNnRefIdeal.main_arg0)
      ∧ r.2.mem ((c.tc : Thread Cert.SqNnRefIdeal.nD Cert.SqNnRefIdeal.τ).loc Cert.SqNnRefIdeal.main_arg1) = m ((c.tc : Thread Cert.SqNnRefIdeal.nD Cert.SqNnRefIdeal.τ).loc Cert.SqNnRefIdeal.main_arg1))
      ∧ r.2.sem = fun _ => 0)

def quiescent_SqRes [hSqRes : Cert.SqRes.Facts] : Prop :=
  ∀ (m : (ℓ : Loc Cert.SqRes.nD Cert.SqRes.τ Cert.SqRes.sig) → Buf (Elt Bits) ℓ) (g : Dev Cert.SqRes.nD → PrngReg), Pre_SqRes m →
    θ_run (Cert.SqRes.defs (F := Bits)) (onTc (τ := Cert.SqRes.τ) (Cert.SqRes.main (F := Bits))) ⟨m, fun _ => 0, g⟩ (fun r => (∀ c : Dev Cert.SqRes.nD,
      r.2.mem ((c.tc : Thread Cert.SqRes.nD Cert.SqRes.τ).loc Cert.SqRes.main_arg0) = m ((c.tc : Thread Cert.SqRes.nD Cert.SqRes.τ).loc Cert.SqRes.main_arg0)
      ∧ r.2.mem ((c.tc : Thread Cert.SqRes.nD Cert.SqRes.τ).loc Cert.SqRes.main_arg1) = m ((c.tc : Thread Cert.SqRes.nD Cert.SqRes.τ).loc Cert.SqRes.main_arg1)
      ∧ r.2.mem ((c.tc : Thread Cert.SqRes.nD Cert.SqRes.τ).loc Cert.SqRes.main_arg2) = m ((c.tc : Thread Cert.SqRes.nD Cert.SqRes.τ).loc Cert.SqRes.main_arg2))
      ∧ r.2.sem = fun _ => 0)

def quiescent_SqResIdeal [hSqResIdeal : Cert.SqResIdeal.Facts] : Prop :=
  ∀ (m : (ℓ : Loc Cert.SqResIdeal.nD Cert.SqResIdeal.τ Cert.SqResIdeal.sig) → Buf (Elt Ideal) ℓ) (g : Dev Cert.SqResIdeal.nD → PrngReg), Pre_SqResIdeal m →
    θ_run (Cert.SqResIdeal.defs (F := Ideal)) (onTc (τ := Cert.SqResIdeal.τ) (Cert.SqResIdeal.main (F := Ideal))) ⟨m, fun _ => 0, g⟩ (fun r => (∀ c : Dev Cert.SqResIdeal.nD,
      r.2.mem ((c.tc : Thread Cert.SqResIdeal.nD Cert.SqResIdeal.τ).loc Cert.SqResIdeal.main_arg0) = m ((c.tc : Thread Cert.SqResIdeal.nD Cert.SqResIdeal.τ).loc Cert.SqResIdeal.main_arg0)
      ∧ r.2.mem ((c.tc : Thread Cert.SqResIdeal.nD Cert.SqResIdeal.τ).loc Cert.SqResIdeal.main_arg1) = m ((c.tc : Thread Cert.SqResIdeal.nD Cert.SqResIdeal.τ).loc Cert.SqResIdeal.main_arg1)
      ∧ r.2.mem ((c.tc : Thread Cert.SqResIdeal.nD Cert.SqResIdeal.τ).loc Cert.SqResIdeal.main_arg2) = m ((c.tc : Thread Cert.SqResIdeal.nD Cert.SqResIdeal.τ).loc Cert.SqResIdeal.main_arg2))
      ∧ r.2.sem = fun _ => 0)

def quiescent_SqResRefIdeal [hSqResRefIdeal : Cert.SqResRefIdeal.Facts] : Prop :=
  ∀ (m : (ℓ : Loc Cert.SqResRefIdeal.nD Cert.SqResRefIdeal.τ Cert.SqResRefIdeal.sig) → Buf (Elt Ideal) ℓ) (g : Dev Cert.SqResRefIdeal.nD → PrngReg), Pre_SqResRefIdeal m →
    θ_run (Cert.SqResRefIdeal.defs (F := Ideal)) (onTc (τ := Cert.SqResRefIdeal.τ) (Cert.SqResRefIdeal.main (F := Ideal))) ⟨m, fun _ => 0, g⟩ (fun r => (∀ c : Dev Cert.SqResRefIdeal.nD,
      r.2.mem ((c.tc : Thread Cert.SqResRefIdeal.nD Cert.SqResRefIdeal.τ).loc Cert.SqResRefIdeal.main_arg0) = m ((c.tc : Thread Cert.SqResRefIdeal.nD Cert.SqResRefIdeal.τ).loc Cert.SqResRefIdeal.main_arg0)
      ∧ r.2.mem ((c.tc : Thread Cert.SqResRefIdeal.nD Cert.SqResRefIdeal.τ).loc Cert.SqResRefIdeal.main_arg1) = m ((c.tc : Thread Cert.SqResRefIdeal.nD Cert.SqResRefIdeal.τ).loc Cert.SqResRefIdeal.main_arg1)
      ∧ r.2.mem ((c.tc : Thread Cert.SqResRefIdeal.nD Cert.SqResRefIdeal.τ).loc Cert.SqResRefIdeal.main_arg2) = m ((c.tc : Thread Cert.SqResRefIdeal.nD Cert.SqResRefIdeal.τ).loc Cert.SqResRefIdeal.main_arg2))
      ∧ r.2.sem = fun _ => 0)

def quiescent_MemNt [hMemNt : Cert.MemNt.Facts] : Prop :=
  ∀ (m : (ℓ : Loc Cert.MemNt.nD Cert.MemNt.τ Cert.MemNt.sig) → Buf (Elt Bits) ℓ) (g : Dev Cert.MemNt.nD → PrngReg), Pre_MemNt m →
    θ_run (Cert.MemNt.defs (F := Bits)) (onTc (τ := Cert.MemNt.τ) (Cert.MemNt.main (F := Bits))) ⟨m, fun _ => 0, g⟩ (fun r => (∀ c : Dev Cert.MemNt.nD,
      r.2.mem ((c.tc : Thread Cert.MemNt.nD Cert.MemNt.τ).loc Cert.MemNt.main_arg0) = m ((c.tc : Thread Cert.MemNt.nD Cert.MemNt.τ).loc Cert.MemNt.main_arg0)
      ∧ r.2.mem ((c.tc : Thread Cert.MemNt.nD Cert.MemNt.τ).loc Cert.MemNt.main_arg1) = m ((c.tc : Thread Cert.MemNt.nD Cert.MemNt.τ).loc Cert.MemNt.main_arg1))
      ∧ r.2.sem = fun _ => 0)

def quiescent_MemNtIdeal [hMemNtIdeal : Cert.MemNtIdeal.Facts] : Prop :=
  ∀ (m : (ℓ : Loc Cert.MemNtIdeal.nD Cert.MemNtIdeal.τ Cert.MemNtIdeal.sig) → Buf (Elt Ideal) ℓ) (g : Dev Cert.MemNtIdeal.nD → PrngReg), Pre_MemNtIdeal m →
    θ_run (Cert.MemNtIdeal.defs (F := Ideal)) (onTc (τ := Cert.MemNtIdeal.τ) (Cert.MemNtIdeal.main (F := Ideal))) ⟨m, fun _ => 0, g⟩ (fun r => (∀ c : Dev Cert.MemNtIdeal.nD,
      r.2.mem ((c.tc : Thread Cert.MemNtIdeal.nD Cert.MemNtIdeal.τ).loc Cert.MemNtIdeal.main_arg0) = m ((c.tc : Thread Cert.MemNtIdeal.nD Cert.MemNtIdeal.τ).loc Cert.MemNtIdeal.main_arg0)
      ∧ r.2.mem ((c.tc : Thread Cert.MemNtIdeal.nD Cert.MemNtIdeal.τ).loc Cert.MemNtIdeal.main_arg1) = m ((c.tc : Thread Cert.MemNtIdeal.nD Cert.MemNtIdeal.τ).loc Cert.MemNtIdeal.main_arg1))
      ∧ r.2.sem = fun _ => 0)

def quiescent_MemNtRefIdeal [hMemNtRefIdeal : Cert.MemNtRefIdeal.Facts] : Prop :=
  ∀ (m : (ℓ : Loc Cert.MemNtRefIdeal.nD Cert.MemNtRefIdeal.τ Cert.MemNtRefIdeal.sig) → Buf (Elt Ideal) ℓ) (g : Dev Cert.MemNtRefIdeal.nD → PrngReg), Pre_MemNtRefIdeal m →
    θ_run (Cert.MemNtRefIdeal.defs (F := Ideal)) (onTc (τ := Cert.MemNtRefIdeal.τ) (Cert.MemNtRefIdeal.main (F := Ideal))) ⟨m, fun _ => 0, g⟩ (fun r => (∀ c : Dev Cert.MemNtRefIdeal.nD,
      r.2.mem ((c.tc : Thread Cert.MemNtRefIdeal.nD Cert.MemNtRefIdeal.τ).loc Cert.MemNtRefIdeal.main_arg0) = m ((c.tc : Thread Cert.MemNtRefIdeal.nD Cert.MemNtRefIdeal.τ).loc Cert.MemNtRefIdeal.main_arg0)
      ∧ r.2.mem ((c.tc : Thread Cert.MemNtRefIdeal.nD Cert.MemNtRefIdeal.τ).loc Cert.MemNtRefIdeal.main_arg1) = m ((c.tc : Thread Cert.MemNtRefIdeal.nD Cert.MemNtRefIdeal.τ).loc Cert.MemNtRefIdeal.main_arg1))
      ∧ r.2.sem = fun _ => 0)

def quiescent_MemTn [hMemTn : Cert.MemTn.Facts] : Prop :=
  ∀ (m : (ℓ : Loc Cert.MemTn.nD Cert.MemTn.τ Cert.MemTn.sig) → Buf (Elt Bits) ℓ) (g : Dev Cert.MemTn.nD → PrngReg), Pre_MemTn m →
    θ_run (Cert.MemTn.defs (F := Bits)) (onTc (τ := Cert.MemTn.τ) (Cert.MemTn.main (F := Bits))) ⟨m, fun _ => 0, g⟩ (fun r => (∀ c : Dev Cert.MemTn.nD,
      r.2.mem ((c.tc : Thread Cert.MemTn.nD Cert.MemTn.τ).loc Cert.MemTn.main_arg0) = m ((c.tc : Thread Cert.MemTn.nD Cert.MemTn.τ).loc Cert.MemTn.main_arg0)
      ∧ r.2.mem ((c.tc : Thread Cert.MemTn.nD Cert.MemTn.τ).loc Cert.MemTn.main_arg1) = m ((c.tc : Thread Cert.MemTn.nD Cert.MemTn.τ).loc Cert.MemTn.main_arg1))
      ∧ r.2.sem = fun _ => 0)

def quiescent_MemTnIdeal [hMemTnIdeal : Cert.MemTnIdeal.Facts] : Prop :=
  ∀ (m : (ℓ : Loc Cert.MemTnIdeal.nD Cert.MemTnIdeal.τ Cert.MemTnIdeal.sig) → Buf (Elt Ideal) ℓ) (g : Dev Cert.MemTnIdeal.nD → PrngReg), Pre_MemTnIdeal m →
    θ_run (Cert.MemTnIdeal.defs (F := Ideal)) (onTc (τ := Cert.MemTnIdeal.τ) (Cert.MemTnIdeal.main (F := Ideal))) ⟨m, fun _ => 0, g⟩ (fun r => (∀ c : Dev Cert.MemTnIdeal.nD,
      r.2.mem ((c.tc : Thread Cert.MemTnIdeal.nD Cert.MemTnIdeal.τ).loc Cert.MemTnIdeal.main_arg0) = m ((c.tc : Thread Cert.MemTnIdeal.nD Cert.MemTnIdeal.τ).loc Cert.MemTnIdeal.main_arg0)
      ∧ r.2.mem ((c.tc : Thread Cert.MemTnIdeal.nD Cert.MemTnIdeal.τ).loc Cert.MemTnIdeal.main_arg1) = m ((c.tc : Thread Cert.MemTnIdeal.nD Cert.MemTnIdeal.τ).loc Cert.MemTnIdeal.main_arg1))
      ∧ r.2.sem = fun _ => 0)

def quiescent_MemTnRefIdeal [hMemTnRefIdeal : Cert.MemTnRefIdeal.Facts] : Prop :=
  ∀ (m : (ℓ : Loc Cert.MemTnRefIdeal.nD Cert.MemTnRefIdeal.τ Cert.MemTnRefIdeal.sig) → Buf (Elt Ideal) ℓ) (g : Dev Cert.MemTnRefIdeal.nD → PrngReg), Pre_MemTnRefIdeal m →
    θ_run (Cert.MemTnRefIdeal.defs (F := Ideal)) (onTc (τ := Cert.MemTnRefIdeal.τ) (Cert.MemTnRefIdeal.main (F := Ideal))) ⟨m, fun _ => 0, g⟩ (fun r => (∀ c : Dev Cert.MemTnRefIdeal.nD,
      r.2.mem ((c.tc : Thread Cert.MemTnRefIdeal.nD Cert.MemTnRefIdeal.τ).loc Cert.MemTnRefIdeal.main_arg0) = m ((c.tc : Thread Cert.MemTnRefIdeal.nD Cert.MemTnRefIdeal.τ).loc Cert.MemTnRefIdeal.main_arg0)
      ∧ r.2.mem ((c.tc : Thread Cert.MemTnRefIdeal.nD Cert.MemTnRefIdeal.τ).loc Cert.MemTnRefIdeal.main_arg1) = m ((c.tc : Thread Cert.MemTnRefIdeal.nD Cert.MemTnRefIdeal.τ).loc Cert.MemTnRefIdeal.main_arg1))
      ∧ r.2.sem = fun _ => 0)

def quiescent_MemNn [hMemNn : Cert.MemNn.Facts] : Prop :=
  ∀ (m : (ℓ : Loc Cert.MemNn.nD Cert.MemNn.τ Cert.MemNn.sig) → Buf (Elt Bits) ℓ) (g : Dev Cert.MemNn.nD → PrngReg), Pre_MemNn m →
    θ_run (Cert.MemNn.defs (F := Bits)) (onTc (τ := Cert.MemNn.τ) (Cert.MemNn.main (F := Bits))) ⟨m, fun _ => 0, g⟩ (fun r => (∀ c : Dev Cert.MemNn.nD,
      r.2.mem ((c.tc : Thread Cert.MemNn.nD Cert.MemNn.τ).loc Cert.MemNn.main_arg0) = m ((c.tc : Thread Cert.MemNn.nD Cert.MemNn.τ).loc Cert.MemNn.main_arg0)
      ∧ r.2.mem ((c.tc : Thread Cert.MemNn.nD Cert.MemNn.τ).loc Cert.MemNn.main_arg1) = m ((c.tc : Thread Cert.MemNn.nD Cert.MemNn.τ).loc Cert.MemNn.main_arg1))
      ∧ r.2.sem = fun _ => 0)

def quiescent_MemNnIdeal [hMemNnIdeal : Cert.MemNnIdeal.Facts] : Prop :=
  ∀ (m : (ℓ : Loc Cert.MemNnIdeal.nD Cert.MemNnIdeal.τ Cert.MemNnIdeal.sig) → Buf (Elt Ideal) ℓ) (g : Dev Cert.MemNnIdeal.nD → PrngReg), Pre_MemNnIdeal m →
    θ_run (Cert.MemNnIdeal.defs (F := Ideal)) (onTc (τ := Cert.MemNnIdeal.τ) (Cert.MemNnIdeal.main (F := Ideal))) ⟨m, fun _ => 0, g⟩ (fun r => (∀ c : Dev Cert.MemNnIdeal.nD,
      r.2.mem ((c.tc : Thread Cert.MemNnIdeal.nD Cert.MemNnIdeal.τ).loc Cert.MemNnIdeal.main_arg0) = m ((c.tc : Thread Cert.MemNnIdeal.nD Cert.MemNnIdeal.τ).loc Cert.MemNnIdeal.main_arg0)
      ∧ r.2.mem ((c.tc : Thread Cert.MemNnIdeal.nD Cert.MemNnIdeal.τ).loc Cert.MemNnIdeal.main_arg1) = m ((c.tc : Thread Cert.MemNnIdeal.nD Cert.MemNnIdeal.τ).loc Cert.MemNnIdeal.main_arg1))
      ∧ r.2.sem = fun _ => 0)

def quiescent_MemNnRefIdeal [hMemNnRefIdeal : Cert.MemNnRefIdeal.Facts] : Prop :=
  ∀ (m : (ℓ : Loc Cert.MemNnRefIdeal.nD Cert.MemNnRefIdeal.τ Cert.MemNnRefIdeal.sig) → Buf (Elt Ideal) ℓ) (g : Dev Cert.MemNnRefIdeal.nD → PrngReg), Pre_MemNnRefIdeal m →
    θ_run (Cert.MemNnRefIdeal.defs (F := Ideal)) (onTc (τ := Cert.MemNnRefIdeal.τ) (Cert.MemNnRefIdeal.main (F := Ideal))) ⟨m, fun _ => 0, g⟩ (fun r => (∀ c : Dev Cert.MemNnRefIdeal.nD,
      r.2.mem ((c.tc : Thread Cert.MemNnRefIdeal.nD Cert.MemNnRefIdeal.τ).loc Cert.MemNnRefIdeal.main_arg0) = m ((c.tc : Thread Cert.MemNnRefIdeal.nD Cert.MemNnRefIdeal.τ).loc Cert.MemNnRefIdeal.main_arg0)
      ∧ r.2.mem ((c.tc : Thread Cert.MemNnRefIdeal.nD Cert.MemNnRefIdeal.τ).loc Cert.MemNnRefIdeal.main_arg1) = m ((c.tc : Thread Cert.MemNnRefIdeal.nD Cert.MemNnRefIdeal.τ).loc Cert.MemNnRefIdeal.main_arg1))
      ∧ r.2.sem = fun _ => 0)

def quiescent_UpNt [hUpNt : Cert.UpNt.Facts] : Prop :=
  ∀ (m : (ℓ : Loc Cert.UpNt.nD Cert.UpNt.τ Cert.UpNt.sig) → Buf (Elt Bits) ℓ) (g : Dev Cert.UpNt.nD → PrngReg), Pre_UpNt m →
    θ_run (Cert.UpNt.defs (F := Bits)) (onTc (τ := Cert.UpNt.τ) (Cert.UpNt.main (F := Bits))) ⟨m, fun _ => 0, g⟩ (fun r => (∀ c : Dev Cert.UpNt.nD,
      r.2.mem ((c.tc : Thread Cert.UpNt.nD Cert.UpNt.τ).loc Cert.UpNt.main_arg0) = m ((c.tc : Thread Cert.UpNt.nD Cert.UpNt.τ).loc Cert.UpNt.main_arg0)
      ∧ r.2.mem ((c.tc : Thread Cert.UpNt.nD Cert.UpNt.τ).loc Cert.UpNt.main_arg1) = m ((c.tc : Thread Cert.UpNt.nD Cert.UpNt.τ).loc Cert.UpNt.main_arg1))
      ∧ r.2.sem = fun _ => 0)

def quiescent_UpNtIdeal [hUpNtIdeal : Cert.UpNtIdeal.Facts] : Prop :=
  ∀ (m : (ℓ : Loc Cert.UpNtIdeal.nD Cert.UpNtIdeal.τ Cert.UpNtIdeal.sig) → Buf (Elt Ideal) ℓ) (g : Dev Cert.UpNtIdeal.nD → PrngReg), Pre_UpNtIdeal m →
    θ_run (Cert.UpNtIdeal.defs (F := Ideal)) (onTc (τ := Cert.UpNtIdeal.τ) (Cert.UpNtIdeal.main (F := Ideal))) ⟨m, fun _ => 0, g⟩ (fun r => (∀ c : Dev Cert.UpNtIdeal.nD,
      r.2.mem ((c.tc : Thread Cert.UpNtIdeal.nD Cert.UpNtIdeal.τ).loc Cert.UpNtIdeal.main_arg0) = m ((c.tc : Thread Cert.UpNtIdeal.nD Cert.UpNtIdeal.τ).loc Cert.UpNtIdeal.main_arg0)
      ∧ r.2.mem ((c.tc : Thread Cert.UpNtIdeal.nD Cert.UpNtIdeal.τ).loc Cert.UpNtIdeal.main_arg1) = m ((c.tc : Thread Cert.UpNtIdeal.nD Cert.UpNtIdeal.τ).loc Cert.UpNtIdeal.main_arg1))
      ∧ r.2.sem = fun _ => 0)

def quiescent_UpNtRefIdeal [hUpNtRefIdeal : Cert.UpNtRefIdeal.Facts] : Prop :=
  ∀ (m : (ℓ : Loc Cert.UpNtRefIdeal.nD Cert.UpNtRefIdeal.τ Cert.UpNtRefIdeal.sig) → Buf (Elt Ideal) ℓ) (g : Dev Cert.UpNtRefIdeal.nD → PrngReg), Pre_UpNtRefIdeal m →
    θ_run (Cert.UpNtRefIdeal.defs (F := Ideal)) (onTc (τ := Cert.UpNtRefIdeal.τ) (Cert.UpNtRefIdeal.main (F := Ideal))) ⟨m, fun _ => 0, g⟩ (fun r => (∀ c : Dev Cert.UpNtRefIdeal.nD,
      r.2.mem ((c.tc : Thread Cert.UpNtRefIdeal.nD Cert.UpNtRefIdeal.τ).loc Cert.UpNtRefIdeal.main_arg0) = m ((c.tc : Thread Cert.UpNtRefIdeal.nD Cert.UpNtRefIdeal.τ).loc Cert.UpNtRefIdeal.main_arg0)
      ∧ r.2.mem ((c.tc : Thread Cert.UpNtRefIdeal.nD Cert.UpNtRefIdeal.τ).loc Cert.UpNtRefIdeal.main_arg1) = m ((c.tc : Thread Cert.UpNtRefIdeal.nD Cert.UpNtRefIdeal.τ).loc Cert.UpNtRefIdeal.main_arg1))
      ∧ r.2.sem = fun _ => 0)

def quiescent_UpTn [hUpTn : Cert.UpTn.Facts] : Prop :=
  ∀ (m : (ℓ : Loc Cert.UpTn.nD Cert.UpTn.τ Cert.UpTn.sig) → Buf (Elt Bits) ℓ) (g : Dev Cert.UpTn.nD → PrngReg), Pre_UpTn m →
    θ_run (Cert.UpTn.defs (F := Bits)) (onTc (τ := Cert.UpTn.τ) (Cert.UpTn.main (F := Bits))) ⟨m, fun _ => 0, g⟩ (fun r => (∀ c : Dev Cert.UpTn.nD,
      r.2.mem ((c.tc : Thread Cert.UpTn.nD Cert.UpTn.τ).loc Cert.UpTn.main_arg0) = m ((c.tc : Thread Cert.UpTn.nD Cert.UpTn.τ).loc Cert.UpTn.main_arg0)
      ∧ r.2.mem ((c.tc : Thread Cert.UpTn.nD Cert.UpTn.τ).loc Cert.UpTn.main_arg1) = m ((c.tc : Thread Cert.UpTn.nD Cert.UpTn.τ).loc Cert.UpTn.main_arg1))
      ∧ r.2.sem = fun _ => 0)

def quiescent_UpTnIdeal [hUpTnIdeal : Cert.UpTnIdeal.Facts] : Prop :=
  ∀ (m : (ℓ : Loc Cert.UpTnIdeal.nD Cert.UpTnIdeal.τ Cert.UpTnIdeal.sig) → Buf (Elt Ideal) ℓ) (g : Dev Cert.UpTnIdeal.nD → PrngReg), Pre_UpTnIdeal m →
    θ_run (Cert.UpTnIdeal.defs (F := Ideal)) (onTc (τ := Cert.UpTnIdeal.τ) (Cert.UpTnIdeal.main (F := Ideal))) ⟨m, fun _ => 0, g⟩ (fun r => (∀ c : Dev Cert.UpTnIdeal.nD,
      r.2.mem ((c.tc : Thread Cert.UpTnIdeal.nD Cert.UpTnIdeal.τ).loc Cert.UpTnIdeal.main_arg0) = m ((c.tc : Thread Cert.UpTnIdeal.nD Cert.UpTnIdeal.τ).loc Cert.UpTnIdeal.main_arg0)
      ∧ r.2.mem ((c.tc : Thread Cert.UpTnIdeal.nD Cert.UpTnIdeal.τ).loc Cert.UpTnIdeal.main_arg1) = m ((c.tc : Thread Cert.UpTnIdeal.nD Cert.UpTnIdeal.τ).loc Cert.UpTnIdeal.main_arg1))
      ∧ r.2.sem = fun _ => 0)

def quiescent_UpTnRefIdeal [hUpTnRefIdeal : Cert.UpTnRefIdeal.Facts] : Prop :=
  ∀ (m : (ℓ : Loc Cert.UpTnRefIdeal.nD Cert.UpTnRefIdeal.τ Cert.UpTnRefIdeal.sig) → Buf (Elt Ideal) ℓ) (g : Dev Cert.UpTnRefIdeal.nD → PrngReg), Pre_UpTnRefIdeal m →
    θ_run (Cert.UpTnRefIdeal.defs (F := Ideal)) (onTc (τ := Cert.UpTnRefIdeal.τ) (Cert.UpTnRefIdeal.main (F := Ideal))) ⟨m, fun _ => 0, g⟩ (fun r => (∀ c : Dev Cert.UpTnRefIdeal.nD,
      r.2.mem ((c.tc : Thread Cert.UpTnRefIdeal.nD Cert.UpTnRefIdeal.τ).loc Cert.UpTnRefIdeal.main_arg0) = m ((c.tc : Thread Cert.UpTnRefIdeal.nD Cert.UpTnRefIdeal.τ).loc Cert.UpTnRefIdeal.main_arg0)
      ∧ r.2.mem ((c.tc : Thread Cert.UpTnRefIdeal.nD Cert.UpTnRefIdeal.τ).loc Cert.UpTnRefIdeal.main_arg1) = m ((c.tc : Thread Cert.UpTnRefIdeal.nD Cert.UpTnRefIdeal.τ).loc Cert.UpTnRefIdeal.main_arg1))
      ∧ r.2.sem = fun _ => 0)

def quiescent_UpNn [hUpNn : Cert.UpNn.Facts] : Prop :=
  ∀ (m : (ℓ : Loc Cert.UpNn.nD Cert.UpNn.τ Cert.UpNn.sig) → Buf (Elt Bits) ℓ) (g : Dev Cert.UpNn.nD → PrngReg), Pre_UpNn m →
    θ_run (Cert.UpNn.defs (F := Bits)) (onTc (τ := Cert.UpNn.τ) (Cert.UpNn.main (F := Bits))) ⟨m, fun _ => 0, g⟩ (fun r => (∀ c : Dev Cert.UpNn.nD,
      r.2.mem ((c.tc : Thread Cert.UpNn.nD Cert.UpNn.τ).loc Cert.UpNn.main_arg0) = m ((c.tc : Thread Cert.UpNn.nD Cert.UpNn.τ).loc Cert.UpNn.main_arg0)
      ∧ r.2.mem ((c.tc : Thread Cert.UpNn.nD Cert.UpNn.τ).loc Cert.UpNn.main_arg1) = m ((c.tc : Thread Cert.UpNn.nD Cert.UpNn.τ).loc Cert.UpNn.main_arg1))
      ∧ r.2.sem = fun _ => 0)

def quiescent_UpNnIdeal [hUpNnIdeal : Cert.UpNnIdeal.Facts] : Prop :=
  ∀ (m : (ℓ : Loc Cert.UpNnIdeal.nD Cert.UpNnIdeal.τ Cert.UpNnIdeal.sig) → Buf (Elt Ideal) ℓ) (g : Dev Cert.UpNnIdeal.nD → PrngReg), Pre_UpNnIdeal m →
    θ_run (Cert.UpNnIdeal.defs (F := Ideal)) (onTc (τ := Cert.UpNnIdeal.τ) (Cert.UpNnIdeal.main (F := Ideal))) ⟨m, fun _ => 0, g⟩ (fun r => (∀ c : Dev Cert.UpNnIdeal.nD,
      r.2.mem ((c.tc : Thread Cert.UpNnIdeal.nD Cert.UpNnIdeal.τ).loc Cert.UpNnIdeal.main_arg0) = m ((c.tc : Thread Cert.UpNnIdeal.nD Cert.UpNnIdeal.τ).loc Cert.UpNnIdeal.main_arg0)
      ∧ r.2.mem ((c.tc : Thread Cert.UpNnIdeal.nD Cert.UpNnIdeal.τ).loc Cert.UpNnIdeal.main_arg1) = m ((c.tc : Thread Cert.UpNnIdeal.nD Cert.UpNnIdeal.τ).loc Cert.UpNnIdeal.main_arg1))
      ∧ r.2.sem = fun _ => 0)

def quiescent_UpNnRefIdeal [hUpNnRefIdeal : Cert.UpNnRefIdeal.Facts] : Prop :=
  ∀ (m : (ℓ : Loc Cert.UpNnRefIdeal.nD Cert.UpNnRefIdeal.τ Cert.UpNnRefIdeal.sig) → Buf (Elt Ideal) ℓ) (g : Dev Cert.UpNnRefIdeal.nD → PrngReg), Pre_UpNnRefIdeal m →
    θ_run (Cert.UpNnRefIdeal.defs (F := Ideal)) (onTc (τ := Cert.UpNnRefIdeal.τ) (Cert.UpNnRefIdeal.main (F := Ideal))) ⟨m, fun _ => 0, g⟩ (fun r => (∀ c : Dev Cert.UpNnRefIdeal.nD,
      r.2.mem ((c.tc : Thread Cert.UpNnRefIdeal.nD Cert.UpNnRefIdeal.τ).loc Cert.UpNnRefIdeal.main_arg0) = m ((c.tc : Thread Cert.UpNnRefIdeal.nD Cert.UpNnRefIdeal.τ).loc Cert.UpNnRefIdeal.main_arg0)
      ∧ r.2.mem ((c.tc : Thread Cert.UpNnRefIdeal.nD Cert.UpNnRefIdeal.τ).loc Cert.UpNnRefIdeal.main_arg1) = m ((c.tc : Thread Cert.UpNnRefIdeal.nD Cert.UpNnRefIdeal.τ).loc Cert.UpNnRefIdeal.main_arg1))
      ∧ r.2.sem = fun _ => 0)

def quiescent_DownNt [hDownNt : Cert.DownNt.Facts] : Prop :=
  ∀ (m : (ℓ : Loc Cert.DownNt.nD Cert.DownNt.τ Cert.DownNt.sig) → Buf (Elt Bits) ℓ) (g : Dev Cert.DownNt.nD → PrngReg), Pre_DownNt m →
    θ_run (Cert.DownNt.defs (F := Bits)) (onTc (τ := Cert.DownNt.τ) (Cert.DownNt.main (F := Bits))) ⟨m, fun _ => 0, g⟩ (fun r => (∀ c : Dev Cert.DownNt.nD,
      r.2.mem ((c.tc : Thread Cert.DownNt.nD Cert.DownNt.τ).loc Cert.DownNt.main_arg0) = m ((c.tc : Thread Cert.DownNt.nD Cert.DownNt.τ).loc Cert.DownNt.main_arg0)
      ∧ r.2.mem ((c.tc : Thread Cert.DownNt.nD Cert.DownNt.τ).loc Cert.DownNt.main_arg1) = m ((c.tc : Thread Cert.DownNt.nD Cert.DownNt.τ).loc Cert.DownNt.main_arg1))
      ∧ r.2.sem = fun _ => 0)

def quiescent_DownNtIdeal [hDownNtIdeal : Cert.DownNtIdeal.Facts] : Prop :=
  ∀ (m : (ℓ : Loc Cert.DownNtIdeal.nD Cert.DownNtIdeal.τ Cert.DownNtIdeal.sig) → Buf (Elt Ideal) ℓ) (g : Dev Cert.DownNtIdeal.nD → PrngReg), Pre_DownNtIdeal m →
    θ_run (Cert.DownNtIdeal.defs (F := Ideal)) (onTc (τ := Cert.DownNtIdeal.τ) (Cert.DownNtIdeal.main (F := Ideal))) ⟨m, fun _ => 0, g⟩ (fun r => (∀ c : Dev Cert.DownNtIdeal.nD,
      r.2.mem ((c.tc : Thread Cert.DownNtIdeal.nD Cert.DownNtIdeal.τ).loc Cert.DownNtIdeal.main_arg0) = m ((c.tc : Thread Cert.DownNtIdeal.nD Cert.DownNtIdeal.τ).loc Cert.DownNtIdeal.main_arg0)
      ∧ r.2.mem ((c.tc : Thread Cert.DownNtIdeal.nD Cert.DownNtIdeal.τ).loc Cert.DownNtIdeal.main_arg1) = m ((c.tc : Thread Cert.DownNtIdeal.nD Cert.DownNtIdeal.τ).loc Cert.DownNtIdeal.main_arg1))
      ∧ r.2.sem = fun _ => 0)

def quiescent_DownNtRefIdeal [hDownNtRefIdeal : Cert.DownNtRefIdeal.Facts] : Prop :=
  ∀ (m : (ℓ : Loc Cert.DownNtRefIdeal.nD Cert.DownNtRefIdeal.τ Cert.DownNtRefIdeal.sig) → Buf (Elt Ideal) ℓ) (g : Dev Cert.DownNtRefIdeal.nD → PrngReg), Pre_DownNtRefIdeal m →
    θ_run (Cert.DownNtRefIdeal.defs (F := Ideal)) (onTc (τ := Cert.DownNtRefIdeal.τ) (Cert.DownNtRefIdeal.main (F := Ideal))) ⟨m, fun _ => 0, g⟩ (fun r => (∀ c : Dev Cert.DownNtRefIdeal.nD,
      r.2.mem ((c.tc : Thread Cert.DownNtRefIdeal.nD Cert.DownNtRefIdeal.τ).loc Cert.DownNtRefIdeal.main_arg0) = m ((c.tc : Thread Cert.DownNtRefIdeal.nD Cert.DownNtRefIdeal.τ).loc Cert.DownNtRefIdeal.main_arg0)
      ∧ r.2.mem ((c.tc : Thread Cert.DownNtRefIdeal.nD Cert.DownNtRefIdeal.τ).loc Cert.DownNtRefIdeal.main_arg1) = m ((c.tc : Thread Cert.DownNtRefIdeal.nD Cert.DownNtRefIdeal.τ).loc Cert.DownNtRefIdeal.main_arg1))
      ∧ r.2.sem = fun _ => 0)

def quiescent_DownTn [hDownTn : Cert.DownTn.Facts] : Prop :=
  ∀ (m : (ℓ : Loc Cert.DownTn.nD Cert.DownTn.τ Cert.DownTn.sig) → Buf (Elt Bits) ℓ) (g : Dev Cert.DownTn.nD → PrngReg), Pre_DownTn m →
    θ_run (Cert.DownTn.defs (F := Bits)) (onTc (τ := Cert.DownTn.τ) (Cert.DownTn.main (F := Bits))) ⟨m, fun _ => 0, g⟩ (fun r => (∀ c : Dev Cert.DownTn.nD,
      r.2.mem ((c.tc : Thread Cert.DownTn.nD Cert.DownTn.τ).loc Cert.DownTn.main_arg0) = m ((c.tc : Thread Cert.DownTn.nD Cert.DownTn.τ).loc Cert.DownTn.main_arg0)
      ∧ r.2.mem ((c.tc : Thread Cert.DownTn.nD Cert.DownTn.τ).loc Cert.DownTn.main_arg1) = m ((c.tc : Thread Cert.DownTn.nD Cert.DownTn.τ).loc Cert.DownTn.main_arg1))
      ∧ r.2.sem = fun _ => 0)

def quiescent_DownTnIdeal [hDownTnIdeal : Cert.DownTnIdeal.Facts] : Prop :=
  ∀ (m : (ℓ : Loc Cert.DownTnIdeal.nD Cert.DownTnIdeal.τ Cert.DownTnIdeal.sig) → Buf (Elt Ideal) ℓ) (g : Dev Cert.DownTnIdeal.nD → PrngReg), Pre_DownTnIdeal m →
    θ_run (Cert.DownTnIdeal.defs (F := Ideal)) (onTc (τ := Cert.DownTnIdeal.τ) (Cert.DownTnIdeal.main (F := Ideal))) ⟨m, fun _ => 0, g⟩ (fun r => (∀ c : Dev Cert.DownTnIdeal.nD,
      r.2.mem ((c.tc : Thread Cert.DownTnIdeal.nD Cert.DownTnIdeal.τ).loc Cert.DownTnIdeal.main_arg0) = m ((c.tc : Thread Cert.DownTnIdeal.nD Cert.DownTnIdeal.τ).loc Cert.DownTnIdeal.main_arg0)
      ∧ r.2.mem ((c.tc : Thread Cert.DownTnIdeal.nD Cert.DownTnIdeal.τ).loc Cert.DownTnIdeal.main_arg1) = m ((c.tc : Thread Cert.DownTnIdeal.nD Cert.DownTnIdeal.τ).loc Cert.DownTnIdeal.main_arg1))
      ∧ r.2.sem = fun _ => 0)

def quiescent_DownTnRefIdeal [hDownTnRefIdeal : Cert.DownTnRefIdeal.Facts] : Prop :=
  ∀ (m : (ℓ : Loc Cert.DownTnRefIdeal.nD Cert.DownTnRefIdeal.τ Cert.DownTnRefIdeal.sig) → Buf (Elt Ideal) ℓ) (g : Dev Cert.DownTnRefIdeal.nD → PrngReg), Pre_DownTnRefIdeal m →
    θ_run (Cert.DownTnRefIdeal.defs (F := Ideal)) (onTc (τ := Cert.DownTnRefIdeal.τ) (Cert.DownTnRefIdeal.main (F := Ideal))) ⟨m, fun _ => 0, g⟩ (fun r => (∀ c : Dev Cert.DownTnRefIdeal.nD,
      r.2.mem ((c.tc : Thread Cert.DownTnRefIdeal.nD Cert.DownTnRefIdeal.τ).loc Cert.DownTnRefIdeal.main_arg0) = m ((c.tc : Thread Cert.DownTnRefIdeal.nD Cert.DownTnRefIdeal.τ).loc Cert.DownTnRefIdeal.main_arg0)
      ∧ r.2.mem ((c.tc : Thread Cert.DownTnRefIdeal.nD Cert.DownTnRefIdeal.τ).loc Cert.DownTnRefIdeal.main_arg1) = m ((c.tc : Thread Cert.DownTnRefIdeal.nD Cert.DownTnRefIdeal.τ).loc Cert.DownTnRefIdeal.main_arg1))
      ∧ r.2.sem = fun _ => 0)

def quiescent_DownRes [hDownRes : Cert.DownRes.Facts] : Prop :=
  ∀ (m : (ℓ : Loc Cert.DownRes.nD Cert.DownRes.τ Cert.DownRes.sig) → Buf (Elt Bits) ℓ) (g : Dev Cert.DownRes.nD → PrngReg), Pre_DownRes m →
    θ_run (Cert.DownRes.defs (F := Bits)) (onTc (τ := Cert.DownRes.τ) (Cert.DownRes.main (F := Bits))) ⟨m, fun _ => 0, g⟩ (fun r => (∀ c : Dev Cert.DownRes.nD,
      r.2.mem ((c.tc : Thread Cert.DownRes.nD Cert.DownRes.τ).loc Cert.DownRes.main_arg0) = m ((c.tc : Thread Cert.DownRes.nD Cert.DownRes.τ).loc Cert.DownRes.main_arg0)
      ∧ r.2.mem ((c.tc : Thread Cert.DownRes.nD Cert.DownRes.τ).loc Cert.DownRes.main_arg1) = m ((c.tc : Thread Cert.DownRes.nD Cert.DownRes.τ).loc Cert.DownRes.main_arg1)
      ∧ r.2.mem ((c.tc : Thread Cert.DownRes.nD Cert.DownRes.τ).loc Cert.DownRes.main_arg2) = m ((c.tc : Thread Cert.DownRes.nD Cert.DownRes.τ).loc Cert.DownRes.main_arg2))
      ∧ r.2.sem = fun _ => 0)

def quiescent_DownResIdeal [hDownResIdeal : Cert.DownResIdeal.Facts] : Prop :=
  ∀ (m : (ℓ : Loc Cert.DownResIdeal.nD Cert.DownResIdeal.τ Cert.DownResIdeal.sig) → Buf (Elt Ideal) ℓ) (g : Dev Cert.DownResIdeal.nD → PrngReg), Pre_DownResIdeal m →
    θ_run (Cert.DownResIdeal.defs (F := Ideal)) (onTc (τ := Cert.DownResIdeal.τ) (Cert.DownResIdeal.main (F := Ideal))) ⟨m, fun _ => 0, g⟩ (fun r => (∀ c : Dev Cert.DownResIdeal.nD,
      r.2.mem ((c.tc : Thread Cert.DownResIdeal.nD Cert.DownResIdeal.τ).loc Cert.DownResIdeal.main_arg0) = m ((c.tc : Thread Cert.DownResIdeal.nD Cert.DownResIdeal.τ).loc Cert.DownResIdeal.main_arg0)
      ∧ r.2.mem ((c.tc : Thread Cert.DownResIdeal.nD Cert.DownResIdeal.τ).loc Cert.DownResIdeal.main_arg1) = m ((c.tc : Thread Cert.DownResIdeal.nD Cert.DownResIdeal.τ).loc Cert.DownResIdeal.main_arg1)
      ∧ r.2.mem ((c.tc : Thread Cert.DownResIdeal.nD Cert.DownResIdeal.τ).loc Cert.DownResIdeal.main_arg2) = m ((c.tc : Thread Cert.DownResIdeal.nD Cert.DownResIdeal.τ).loc Cert.DownResIdeal.main_arg2))
      ∧ r.2.sem = fun _ => 0)

def quiescent_DownResRefIdeal [hDownResRefIdeal : Cert.DownResRefIdeal.Facts] : Prop :=
  ∀ (m : (ℓ : Loc Cert.DownResRefIdeal.nD Cert.DownResRefIdeal.τ Cert.DownResRefIdeal.sig) → Buf (Elt Ideal) ℓ) (g : Dev Cert.DownResRefIdeal.nD → PrngReg), Pre_DownResRefIdeal m →
    θ_run (Cert.DownResRefIdeal.defs (F := Ideal)) (onTc (τ := Cert.DownResRefIdeal.τ) (Cert.DownResRefIdeal.main (F := Ideal))) ⟨m, fun _ => 0, g⟩ (fun r => (∀ c : Dev Cert.DownResRefIdeal.nD,
      r.2.mem ((c.tc : Thread Cert.DownResRefIdeal.nD Cert.DownResRefIdeal.τ).loc Cert.DownResRefIdeal.main_arg0) = m ((c.tc : Thread Cert.DownResRefIdeal.nD Cert.DownResRefIdeal.τ).loc Cert.DownResRefIdeal.main_arg0)
      ∧ r.2.mem ((c.tc : Thread Cert.DownResRefIdeal.nD Cert.DownResRefIdeal.τ).loc Cert.DownResRefIdeal.main_arg1) = m ((c.tc : Thread Cert.DownResRefIdeal.nD Cert.DownResRefIdeal.τ).loc Cert.DownResRefIdeal.main_arg1)
      ∧ r.2.mem ((c.tc : Thread Cert.DownResRefIdeal.nD Cert.DownResRefIdeal.τ).loc Cert.DownResRefIdeal.main_arg2) = m ((c.tc : Thread Cert.DownResRefIdeal.nD Cert.DownResRefIdeal.τ).loc Cert.DownResRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamPacked [hAdamPacked : Cert.AdamPacked.Facts] : Prop :=
  ∀ (m : (ℓ : Loc Cert.AdamPacked.nD Cert.AdamPacked.τ Cert.AdamPacked.sig) → Buf (Elt Bits) ℓ) (g : Dev Cert.AdamPacked.nD → PrngReg), Pre_AdamPacked m →
    θ_run (Cert.AdamPacked.defs (F := Bits)) (onTc (τ := Cert.AdamPacked.τ) (Cert.AdamPacked.main (F := Bits))) ⟨m, fun _ => 0, g⟩ (fun r => (∀ c : Dev Cert.AdamPacked.nD,
      r.2.mem ((c.tc : Thread Cert.AdamPacked.nD Cert.AdamPacked.τ).loc Cert.AdamPacked.main_arg0) = m ((c.tc : Thread Cert.AdamPacked.nD Cert.AdamPacked.τ).loc Cert.AdamPacked.main_arg0)
      ∧ r.2.mem ((c.tc : Thread Cert.AdamPacked.nD Cert.AdamPacked.τ).loc Cert.AdamPacked.main_arg1) = m ((c.tc : Thread Cert.AdamPacked.nD Cert.AdamPacked.τ).loc Cert.AdamPacked.main_arg1)
      ∧ r.2.mem ((c.tc : Thread Cert.AdamPacked.nD Cert.AdamPacked.τ).loc Cert.AdamPacked.main_arg2) = m ((c.tc : Thread Cert.AdamPacked.nD Cert.AdamPacked.τ).loc Cert.AdamPacked.main_arg2)
      ∧ r.2.mem ((c.tc : Thread Cert.AdamPacked.nD Cert.AdamPacked.τ).loc Cert.AdamPacked.main_arg3) = m ((c.tc : Thread Cert.AdamPacked.nD Cert.AdamPacked.τ).loc Cert.AdamPacked.main_arg3))
      ∧ r.2.sem = fun _ => 0)

def quiescent_AdamPackedIdeal [hAdamPackedIdeal : Cert.AdamPackedIdeal.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg), Pre_AdamPackedIdeal m →
    θ_run (Cert.AdamPackedIdeal.defs (F := Ideal)) (onTc (τ := Cert.AdamPackedIdeal.τ) (Cert.AdamPackedIdeal.main (F := Ideal))) ⟨m, fun _ => 0, g⟩ (fun r => (∀ c : Dev Cert.AdamPackedIdeal.nD,
      r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
      ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
      ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
      ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3))
      ∧ r.2.sem = fun _ => 0)

def quiescent_AdamPackedRefIdeal [hAdamPackedRefIdeal : Cert.AdamPackedRefIdeal.Facts] : Prop :=
  ∀ (m : (ℓ : Loc Cert.AdamPackedRefIdeal.nD Cert.AdamPackedRefIdeal.τ Cert.AdamPackedRefIdeal.sig) → Buf (Elt Ideal) ℓ) (g : Dev Cert.AdamPackedRefIdeal.nD → PrngReg), Pre_AdamPackedRefIdeal m →
    θ_run (Cert.AdamPackedRefIdeal.defs (F := Ideal)) (onTc (τ := Cert.AdamPackedRefIdeal.τ) (Cert.AdamPackedRefIdeal.main (F := Ideal))) ⟨m, fun _ => 0, g⟩ (fun r => (∀ c : Dev Cert.AdamPackedRefIdeal.nD,
      r.2.mem ((c.tc : Thread Cert.AdamPackedRefIdeal.nD Cert.AdamPackedRefIdeal.τ).loc Cert.AdamPackedRefIdeal.main_arg0) = m ((c.tc : Thread Cert.AdamPackedRefIdeal.nD Cert.AdamPackedRefIdeal.τ).loc Cert.AdamPackedRefIdeal.main_arg0)
      ∧ r.2.mem ((c.tc : Thread Cert.AdamPackedRefIdeal.nD Cert.AdamPackedRefIdeal.τ).loc Cert.AdamPackedRefIdeal.main_arg1) = m ((c.tc : Thread Cert.AdamPackedRefIdeal.nD Cert.AdamPackedRefIdeal.τ).loc Cert.AdamPackedRefIdeal.main_arg1)
      ∧ r.2.mem ((c.tc : Thread Cert.AdamPackedRefIdeal.nD Cert.AdamPackedRefIdeal.τ).loc Cert.AdamPackedRefIdeal.main_arg2) = m ((c.tc : Thread Cert.AdamPackedRefIdeal.nD Cert.AdamPackedRefIdeal.τ).loc Cert.AdamPackedRefIdeal.main_arg2)
      ∧ r.2.mem ((c.tc : Thread Cert.AdamPackedRefIdeal.nD Cert.AdamPackedRefIdeal.τ).loc Cert.AdamPackedRefIdeal.main_arg3) = m ((c.tc : Thread Cert.AdamPackedRefIdeal.nD Cert.AdamPackedRefIdeal.τ).loc Cert.AdamPackedRefIdeal.main_arg3))
      ∧ r.2.sem = fun _ => 0)

def quiescent_AdamQb [hAdamQb : Cert.AdamQb.Facts] : Prop :=
  ∀ (m : (ℓ : Loc Cert.AdamQb.nD Cert.AdamQb.τ Cert.AdamQb.sig) → Buf (Elt Bits) ℓ) (g : Dev Cert.AdamQb.nD → PrngReg), Pre_AdamQb m →
    θ_run (Cert.AdamQb.defs (F := Bits)) (onTc (τ := Cert.AdamQb.τ) (Cert.AdamQb.main (F := Bits))) ⟨m, fun _ => 0, g⟩ (fun r => (∀ c : Dev Cert.AdamQb.nD,
      r.2.mem ((c.tc : Thread Cert.AdamQb.nD Cert.AdamQb.τ).loc Cert.AdamQb.main_arg0) = m ((c.tc : Thread Cert.AdamQb.nD Cert.AdamQb.τ).loc Cert.AdamQb.main_arg0)
      ∧ r.2.mem ((c.tc : Thread Cert.AdamQb.nD Cert.AdamQb.τ).loc Cert.AdamQb.main_arg1) = m ((c.tc : Thread Cert.AdamQb.nD Cert.AdamQb.τ).loc Cert.AdamQb.main_arg1)
      ∧ r.2.mem ((c.tc : Thread Cert.AdamQb.nD Cert.AdamQb.τ).loc Cert.AdamQb.main_arg2) = m ((c.tc : Thread Cert.AdamQb.nD Cert.AdamQb.τ).loc Cert.AdamQb.main_arg2)
      ∧ r.2.mem ((c.tc : Thread Cert.AdamQb.nD Cert.AdamQb.τ).loc Cert.AdamQb.main_arg3) = m ((c.tc : Thread Cert.AdamQb.nD Cert.AdamQb.τ).loc Cert.AdamQb.main_arg3)
      ∧ r.2.mem ((c.tc : Thread Cert.AdamQb.nD Cert.AdamQb.τ).loc Cert.AdamQb.main_arg4) = m ((c.tc : Thread Cert.AdamQb.nD Cert.AdamQb.τ).loc Cert.AdamQb.main_arg4)
      ∧ r.2.mem ((c.tc : Thread Cert.AdamQb.nD Cert.AdamQb.τ).loc Cert.AdamQb.main_arg5) = m ((c.tc : Thread Cert.AdamQb.nD Cert.AdamQb.τ).loc Cert.AdamQb.main_arg5))
      ∧ r.2.sem = fun _ => 0)

def quiescent_AdamQbIdeal [hAdamQbIdeal : Cert.AdamQbIdeal.Facts] : Prop :=
  ∀ (m : (ℓ : Loc Cert.AdamQbIdeal.nD Cert.AdamQbIdeal.τ Cert.AdamQbIdeal.sig) → Buf (Elt Ideal) ℓ) (g : Dev Cert.AdamQbIdeal.nD → PrngReg), Pre_AdamQbIdeal m →
    θ_run (Cert.AdamQbIdeal.defs (F := Ideal)) (onTc (τ := Cert.AdamQbIdeal.τ) (Cert.AdamQbIdeal.main (F := Ideal))) ⟨m, fun _ => 0, g⟩ (fun r => (∀ c : Dev Cert.AdamQbIdeal.nD,
      r.2.mem ((c.tc : Thread Cert.AdamQbIdeal.nD Cert.AdamQbIdeal.τ).loc Cert.AdamQbIdeal.main_arg0) = m ((c.tc : Thread Cert.AdamQbIdeal.nD Cert.AdamQbIdeal.τ).loc Cert.AdamQbIdeal.main_arg0)
      ∧ r.2.mem ((c.tc : Thread Cert.AdamQbIdeal.nD Cert.AdamQbIdeal.τ).loc Cert.AdamQbIdeal.main_arg1) = m ((c.tc : Thread Cert.AdamQbIdeal.nD Cert.AdamQbIdeal.τ).loc Cert.AdamQbIdeal.main_arg1)
      ∧ r.2.mem ((c.tc : Thread Cert.AdamQbIdeal.nD Cert.AdamQbIdeal.τ).loc Cert.AdamQbIdeal.main_arg2) = m ((c.tc : Thread Cert.AdamQbIdeal.nD Cert.AdamQbIdeal.τ).loc Cert.AdamQbIdeal.main_arg2)
      ∧ r.2.mem ((c.tc : Thread Cert.AdamQbIdeal.nD Cert.AdamQbIdeal.τ).loc Cert.AdamQbIdeal.main_arg3) = m ((c.tc : Thread Cert.AdamQbIdeal.nD Cert.AdamQbIdeal.τ).loc Cert.AdamQbIdeal.main_arg3)
      ∧ r.2.mem ((c.tc : Thread Cert.AdamQbIdeal.nD Cert.AdamQbIdeal.τ).loc Cert.AdamQbIdeal.main_arg4) = m ((c.tc : Thread Cert.AdamQbIdeal.nD Cert.AdamQbIdeal.τ).loc Cert.AdamQbIdeal.main_arg4)
      ∧ r.2.mem ((c.tc : Thread Cert.AdamQbIdeal.nD Cert.AdamQbIdeal.τ).loc Cert.AdamQbIdeal.main_arg5) = m ((c.tc : Thread Cert.AdamQbIdeal.nD Cert.AdamQbIdeal.τ).loc Cert.AdamQbIdeal.main_arg5))
      ∧ r.2.sem = fun _ => 0)

def quiescent_AdamQbRefIdeal [hAdamQbRefIdeal : Cert.AdamQbRefIdeal.Facts] : Prop :=
  ∀ (m : (ℓ : Loc Cert.AdamQbRefIdeal.nD Cert.AdamQbRefIdeal.τ Cert.AdamQbRefIdeal.sig) → Buf (Elt Ideal) ℓ) (g : Dev Cert.AdamQbRefIdeal.nD → PrngReg), Pre_AdamQbRefIdeal m →
    θ_run (Cert.AdamQbRefIdeal.defs (F := Ideal)) (onTc (τ := Cert.AdamQbRefIdeal.τ) (Cert.AdamQbRefIdeal.main (F := Ideal))) ⟨m, fun _ => 0, g⟩ (fun r => (∀ c : Dev Cert.AdamQbRefIdeal.nD,
      r.2.mem ((c.tc : Thread Cert.AdamQbRefIdeal.nD Cert.AdamQbRefIdeal.τ).loc Cert.AdamQbRefIdeal.main_arg0) = m ((c.tc : Thread Cert.AdamQbRefIdeal.nD Cert.AdamQbRefIdeal.τ).loc Cert.AdamQbRefIdeal.main_arg0)
      ∧ r.2.mem ((c.tc : Thread Cert.AdamQbRefIdeal.nD Cert.AdamQbRefIdeal.τ).loc Cert.AdamQbRefIdeal.main_arg1) = m ((c.tc : Thread Cert.AdamQbRefIdeal.nD Cert.AdamQbRefIdeal.τ).loc Cert.AdamQbRefIdeal.main_arg1)
      ∧ r.2.mem ((c.tc : Thread Cert.AdamQbRefIdeal.nD Cert.AdamQbRefIdeal.τ).loc Cert.AdamQbRefIdeal.main_arg2) = m ((c.tc : Thread Cert.AdamQbRefIdeal.nD Cert.AdamQbRefIdeal.τ).loc Cert.AdamQbRefIdeal.main_arg2)
      ∧ r.2.mem ((c.tc : Thread Cert.AdamQbRefIdeal.nD Cert.AdamQbRefIdeal.τ).loc Cert.AdamQbRefIdeal.main_arg3) = m ((c.tc : Thread Cert.AdamQbRefIdeal.nD Cert.AdamQbRefIdeal.τ).loc Cert.AdamQbRefIdeal.main_arg3)
      ∧ r.2.mem ((c.tc : Thread Cert.AdamQbRefIdeal.nD Cert.AdamQbRefIdeal.τ).loc Cert.AdamQbRefIdeal.main_arg4) = m ((c.tc : Thread Cert.AdamQbRefIdeal.nD Cert.AdamQbRefIdeal.τ).loc Cert.AdamQbRefIdeal.main_arg4)
      ∧ r.2.mem ((c.tc : Thread Cert.AdamQbRefIdeal.nD Cert.AdamQbRefIdeal.τ).loc Cert.AdamQbRefIdeal.main_arg5) = m ((c.tc : Thread Cert.AdamQbRefIdeal.nD Cert.AdamQbRefIdeal.τ).loc Cert.AdamQbRefIdeal.main_arg5))
      ∧ r.2.sem = fun _ => 0)

def quiescent_AdamKvb [hAdamKvb : Cert.AdamKvb.Facts] : Prop :=
  ∀ (m : (ℓ : Loc Cert.AdamKvb.nD Cert.AdamKvb.τ Cert.AdamKvb.sig) → Buf (Elt Bits) ℓ) (g : Dev Cert.AdamKvb.nD → PrngReg), Pre_AdamKvb m →
    θ_run (Cert.AdamKvb.defs (F := Bits)) (onTc (τ := Cert.AdamKvb.τ) (Cert.AdamKvb.main (F := Bits))) ⟨m, fun _ => 0, g⟩ (fun r => (∀ c : Dev Cert.AdamKvb.nD,
      r.2.mem ((c.tc : Thread Cert.AdamKvb.nD Cert.AdamKvb.τ).loc Cert.AdamKvb.main_arg0) = m ((c.tc : Thread Cert.AdamKvb.nD Cert.AdamKvb.τ).loc Cert.AdamKvb.main_arg0)
      ∧ r.2.mem ((c.tc : Thread Cert.AdamKvb.nD Cert.AdamKvb.τ).loc Cert.AdamKvb.main_arg1) = m ((c.tc : Thread Cert.AdamKvb.nD Cert.AdamKvb.τ).loc Cert.AdamKvb.main_arg1)
      ∧ r.2.mem ((c.tc : Thread Cert.AdamKvb.nD Cert.AdamKvb.τ).loc Cert.AdamKvb.main_arg2) = m ((c.tc : Thread Cert.AdamKvb.nD Cert.AdamKvb.τ).loc Cert.AdamKvb.main_arg2)
      ∧ r.2.mem ((c.tc : Thread Cert.AdamKvb.nD Cert.AdamKvb.τ).loc Cert.AdamKvb.main_arg3) = m ((c.tc : Thread Cert.AdamKvb.nD Cert.AdamKvb.τ).loc Cert.AdamKvb.main_arg3)
      ∧ r.2.mem ((c.tc : Thread Cert.AdamKvb.nD Cert.AdamKvb.τ).loc Cert.AdamKvb.main_arg4) = m ((c.tc : Thread Cert.AdamKvb.nD Cert.AdamKvb.τ).loc Cert.AdamKvb.main_arg4)
      ∧ r.2.mem ((c.tc : Thread Cert.AdamKvb.nD Cert.AdamKvb.τ).loc Cert.AdamKvb.main_arg5) = m ((c.tc : Thread Cert.AdamKvb.nD Cert.AdamKvb.τ).loc Cert.AdamKvb.main_arg5))
      ∧ r.2.sem = fun _ => 0)

def quiescent_AdamKvbIdeal [hAdamKvbIdeal : Cert.AdamKvbIdeal.Facts] : Prop :=
  ∀ (m : (ℓ : Loc Cert.AdamKvbIdeal.nD Cert.AdamKvbIdeal.τ Cert.AdamKvbIdeal.sig) → Buf (Elt Ideal) ℓ) (g : Dev Cert.AdamKvbIdeal.nD → PrngReg), Pre_AdamKvbIdeal m →
    θ_run (Cert.AdamKvbIdeal.defs (F := Ideal)) (onTc (τ := Cert.AdamKvbIdeal.τ) (Cert.AdamKvbIdeal.main (F := Ideal))) ⟨m, fun _ => 0, g⟩ (fun r => (∀ c : Dev Cert.AdamKvbIdeal.nD,
      r.2.mem ((c.tc : Thread Cert.AdamKvbIdeal.nD Cert.AdamKvbIdeal.τ).loc Cert.AdamKvbIdeal.main_arg0) = m ((c.tc : Thread Cert.AdamKvbIdeal.nD Cert.AdamKvbIdeal.τ).loc Cert.AdamKvbIdeal.main_arg0)
      ∧ r.2.mem ((c.tc : Thread Cert.AdamKvbIdeal.nD Cert.AdamKvbIdeal.τ).loc Cert.AdamKvbIdeal.main_arg1) = m ((c.tc : Thread Cert.AdamKvbIdeal.nD Cert.AdamKvbIdeal.τ).loc Cert.AdamKvbIdeal.main_arg1)
      ∧ r.2.mem ((c.tc : Thread Cert.AdamKvbIdeal.nD Cert.AdamKvbIdeal.τ).loc Cert.AdamKvbIdeal.main_arg2) = m ((c.tc : Thread Cert.AdamKvbIdeal.nD Cert.AdamKvbIdeal.τ).loc Cert.AdamKvbIdeal.main_arg2)
      ∧ r.2.mem ((c.tc : Thread Cert.AdamKvbIdeal.nD Cert.AdamKvbIdeal.τ).loc Cert.AdamKvbIdeal.main_arg3) = m ((c.tc : Thread Cert.AdamKvbIdeal.nD Cert.AdamKvbIdeal.τ).loc Cert.AdamKvbIdeal.main_arg3)
      ∧ r.2.mem ((c.tc : Thread Cert.AdamKvbIdeal.nD Cert.AdamKvbIdeal.τ).loc Cert.AdamKvbIdeal.main_arg4) = m ((c.tc : Thread Cert.AdamKvbIdeal.nD Cert.AdamKvbIdeal.τ).loc Cert.AdamKvbIdeal.main_arg4)
      ∧ r.2.mem ((c.tc : Thread Cert.AdamKvbIdeal.nD Cert.AdamKvbIdeal.τ).loc Cert.AdamKvbIdeal.main_arg5) = m ((c.tc : Thread Cert.AdamKvbIdeal.nD Cert.AdamKvbIdeal.τ).loc Cert.AdamKvbIdeal.main_arg5))
      ∧ r.2.sem = fun _ => 0)

def quiescent_AdamKvbRefIdeal [hAdamKvbRefIdeal : Cert.AdamKvbRefIdeal.Facts] : Prop :=
  ∀ (m : (ℓ : Loc Cert.AdamKvbRefIdeal.nD Cert.AdamKvbRefIdeal.τ Cert.AdamKvbRefIdeal.sig) → Buf (Elt Ideal) ℓ) (g : Dev Cert.AdamKvbRefIdeal.nD → PrngReg), Pre_AdamKvbRefIdeal m →
    θ_run (Cert.AdamKvbRefIdeal.defs (F := Ideal)) (onTc (τ := Cert.AdamKvbRefIdeal.τ) (Cert.AdamKvbRefIdeal.main (F := Ideal))) ⟨m, fun _ => 0, g⟩ (fun r => (∀ c : Dev Cert.AdamKvbRefIdeal.nD,
      r.2.mem ((c.tc : Thread Cert.AdamKvbRefIdeal.nD Cert.AdamKvbRefIdeal.τ).loc Cert.AdamKvbRefIdeal.main_arg0) = m ((c.tc : Thread Cert.AdamKvbRefIdeal.nD Cert.AdamKvbRefIdeal.τ).loc Cert.AdamKvbRefIdeal.main_arg0)
      ∧ r.2.mem ((c.tc : Thread Cert.AdamKvbRefIdeal.nD Cert.AdamKvbRefIdeal.τ).loc Cert.AdamKvbRefIdeal.main_arg1) = m ((c.tc : Thread Cert.AdamKvbRefIdeal.nD Cert.AdamKvbRefIdeal.τ).loc Cert.AdamKvbRefIdeal.main_arg1)
      ∧ r.2.mem ((c.tc : Thread Cert.AdamKvbRefIdeal.nD Cert.AdamKvbRefIdeal.τ).loc Cert.AdamKvbRefIdeal.main_arg2) = m ((c.tc : Thread Cert.AdamKvbRefIdeal.nD Cert.AdamKvbRefIdeal.τ).loc Cert.AdamKvbRefIdeal.main_arg2)
      ∧ r.2.mem ((c.tc : Thread Cert.AdamKvbRefIdeal.nD Cert.AdamKvbRefIdeal.τ).loc Cert.AdamKvbRefIdeal.main_arg3) = m ((c.tc : Thread Cert.AdamKvbRefIdeal.nD Cert.AdamKvbRefIdeal.τ).loc Cert.AdamKvbRefIdeal.main_arg3)
      ∧ r.2.mem ((c.tc : Thread Cert.AdamKvbRefIdeal.nD Cert.AdamKvbRefIdeal.τ).loc Cert.AdamKvbRefIdeal.main_arg4) = m ((c.tc : Thread Cert.AdamKvbRefIdeal.nD Cert.AdamKvbRefIdeal.τ).loc Cert.AdamKvbRefIdeal.main_arg4)
      ∧ r.2.mem ((c.tc : Thread Cert.AdamKvbRefIdeal.nD Cert.AdamKvbRefIdeal.τ).loc Cert.AdamKvbRefIdeal.main_arg5) = m ((c.tc : Thread Cert.AdamKvbRefIdeal.nD Cert.AdamKvbRefIdeal.τ).loc Cert.AdamKvbRefIdeal.main_arg5))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3)
      ∧ r.2.mem ((c.tc : Thread Cert.AdamSq.nD Cert.AdamSq.τ).loc Cert.AdamSq.main_arg4) = m ((c.tc : Thread Cert.AdamSq.nD Cert.AdamSq.τ).loc Cert.AdamSq.main_arg4)
      ∧ r.2.mem ((c.tc : Thread Cert.AdamSq.nD Cert.AdamSq.τ).loc Cert.AdamSq.main_arg5) = m ((c.tc : Thread Cert.AdamSq.nD Cert.AdamSq.τ).loc Cert.AdamSq.main_arg5))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
      ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4)
      ∧ r.2.mem ((c.tc : Thread Cert.AdamSqIdeal.nD Cert.AdamSqIdeal.τ).loc Cert.AdamSqIdeal.main_arg5) = m ((c.tc : Thread Cert.AdamSqIdeal.nD Cert.AdamSqIdeal.τ).loc Cert.AdamSqIdeal.main_arg5))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3)
      ∧ r.2.mem ((c.tc : Thread Cert.AdamSqRefIdeal.nD Cert.AdamSqRefIdeal.τ).loc Cert.AdamSqRefIdeal.main_arg4) = m ((c.tc : Thread Cert.AdamSqRefIdeal.nD Cert.AdamSqRefIdeal.τ).loc Cert.AdamSqRefIdeal.main_arg4)
      ∧ r.2.mem ((c.tc : Thread Cert.AdamSqRefIdeal.nD Cert.AdamSqRefIdeal.τ).loc Cert.AdamSqRefIdeal.main_arg5) = m ((c.tc : Thread Cert.AdamSqRefIdeal.nD Cert.AdamSqRefIdeal.τ).loc Cert.AdamSqRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemIdeal_pre_norm_mem_finite [hNormMemIdeal : Cert.NormMemIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal_norm_mem_finite m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_NormMemRefIdeal_pre_norm_mem_finite [hNormMemRefIdeal : Cert.NormMemRefIdeal.Facts] [hPre_norm_mem_finite : Cert.Pre_norm_mem_finite.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal_norm_mem_finite m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQIdeal_pre_norm_q_finite [hNormQIdeal : Cert.NormQIdeal.Facts] [hPre_norm_q_finite : Cert.Pre_norm_q_finite.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal_norm_q_finite m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2))
      ∧ r.2.sem = fun _ => 0)

def quiescent_NormQRefIdeal_pre_norm_q_finite [hNormQRefIdeal : Cert.NormQRefIdeal.Facts] [hPre_norm_q_finite : Cert.Pre_norm_q_finite.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal_norm_q_finite m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvIdeal_pre_norm_kv_finite [hNormKvIdeal : Cert.NormKvIdeal.Facts] [hPre_norm_kv_finite : Cert.Pre_norm_kv_finite.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal_norm_kv_finite m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_NormKvRefIdeal_pre_norm_kv_finite [hNormKvRefIdeal : Cert.NormKvRefIdeal.Facts] [hPre_norm_kv_finite : Cert.Pre_norm_kv_finite.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal_norm_kv_finite m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_ConvSilu [hConvSilu : Cert.ConvSilu.Facts] : Prop :=
  ∀ (m : (ℓ : Loc Cert.ConvSilu.nD Cert.ConvSilu.τ Cert.ConvSilu.sig) → Buf (Elt Bits) ℓ) (g : Dev Cert.ConvSilu.nD → PrngReg), Pre_ConvSilu m →
    θ_run (Cert.ConvSilu.defs (F := Bits)) (onTc (τ := Cert.ConvSilu.τ) (Cert.ConvSilu.main (F := Bits))) ⟨m, fun _ => 0, g⟩ (fun r => (∀ c : Dev Cert.ConvSilu.nD,
      r.2.mem ((c.tc : Thread Cert.ConvSilu.nD Cert.ConvSilu.τ).loc Cert.ConvSilu.main_arg0) = m ((c.tc : Thread Cert.ConvSilu.nD Cert.ConvSilu.τ).loc Cert.ConvSilu.main_arg0)
      ∧ r.2.mem ((c.tc : Thread Cert.ConvSilu.nD Cert.ConvSilu.τ).loc Cert.ConvSilu.main_arg1) = m ((c.tc : Thread Cert.ConvSilu.nD Cert.ConvSilu.τ).loc Cert.ConvSilu.main_arg1)
      ∧ r.2.mem ((c.tc : Thread Cert.ConvSilu.nD Cert.ConvSilu.τ).loc Cert.ConvSilu.main_arg2) = m ((c.tc : Thread Cert.ConvSilu.nD Cert.ConvSilu.τ).loc Cert.ConvSilu.main_arg2))
      ∧ r.2.sem = fun _ => 0)

def quiescent_ConvSiluIdeal [hConvSiluIdeal : Cert.ConvSiluIdeal.Facts] : Prop :=
  ∀ (m : (ℓ : Loc Cert.ConvSiluIdeal.nD Cert.ConvSiluIdeal.τ Cert.ConvSiluIdeal.sig) → Buf (Elt Ideal) ℓ) (g : Dev Cert.ConvSiluIdeal.nD → PrngReg), Pre_ConvSiluIdeal m →
    θ_run (Cert.ConvSiluIdeal.defs (F := Ideal)) (onTc (τ := Cert.ConvSiluIdeal.τ) (Cert.ConvSiluIdeal.main (F := Ideal))) ⟨m, fun _ => 0, g⟩ (fun r => (∀ c : Dev Cert.ConvSiluIdeal.nD,
      r.2.mem ((c.tc : Thread Cert.ConvSiluIdeal.nD Cert.ConvSiluIdeal.τ).loc Cert.ConvSiluIdeal.main_arg0) = m ((c.tc : Thread Cert.ConvSiluIdeal.nD Cert.ConvSiluIdeal.τ).loc Cert.ConvSiluIdeal.main_arg0)
      ∧ r.2.mem ((c.tc : Thread Cert.ConvSiluIdeal.nD Cert.ConvSiluIdeal.τ).loc Cert.ConvSiluIdeal.main_arg1) = m ((c.tc : Thread Cert.ConvSiluIdeal.nD Cert.ConvSiluIdeal.τ).loc Cert.ConvSiluIdeal.main_arg1)
      ∧ r.2.mem ((c.tc : Thread Cert.ConvSiluIdeal.nD Cert.ConvSiluIdeal.τ).loc Cert.ConvSiluIdeal.main_arg2) = m ((c.tc : Thread Cert.ConvSiluIdeal.nD Cert.ConvSiluIdeal.τ).loc Cert.ConvSiluIdeal.main_arg2))
      ∧ r.2.sem = fun _ => 0)

def quiescent_ConvSiluIdeal_pre_conv_finite [hConvSiluIdeal : Cert.ConvSiluIdeal.Facts] [hPre_conv_finite : Cert.Pre_conv_finite.Facts] : Prop :=
  ∀ (m : (ℓ : Loc Cert.ConvSiluIdeal.nD Cert.ConvSiluIdeal.τ Cert.ConvSiluIdeal.sig) → Buf (Elt Ideal) ℓ) (g : Dev Cert.ConvSiluIdeal.nD → PrngReg), Pre_ConvSiluIdeal_conv_finite m →
    θ_run (Cert.ConvSiluIdeal.defs (F := Ideal)) (onTc (τ := Cert.ConvSiluIdeal.τ) (Cert.ConvSiluIdeal.main (F := Ideal))) ⟨m, fun _ => 0, g⟩ (fun r => (∀ c : Dev Cert.ConvSiluIdeal.nD,
      r.2.mem ((c.tc : Thread Cert.ConvSiluIdeal.nD Cert.ConvSiluIdeal.τ).loc Cert.ConvSiluIdeal.main_arg0) = m ((c.tc : Thread Cert.ConvSiluIdeal.nD Cert.ConvSiluIdeal.τ).loc Cert.ConvSiluIdeal.main_arg0)
      ∧ r.2.mem ((c.tc : Thread Cert.ConvSiluIdeal.nD Cert.ConvSiluIdeal.τ).loc Cert.ConvSiluIdeal.main_arg1) = m ((c.tc : Thread Cert.ConvSiluIdeal.nD Cert.ConvSiluIdeal.τ).loc Cert.ConvSiluIdeal.main_arg1)
      ∧ r.2.mem ((c.tc : Thread Cert.ConvSiluIdeal.nD Cert.ConvSiluIdeal.τ).loc Cert.ConvSiluIdeal.main_arg2) = m ((c.tc : Thread Cert.ConvSiluIdeal.nD Cert.ConvSiluIdeal.τ).loc Cert.ConvSiluIdeal.main_arg2))
      ∧ r.2.sem = fun _ => 0)

def quiescent_ConvSiluRefIdeal [hConvSiluRefIdeal : Cert.ConvSiluRefIdeal.Facts] : Prop :=
  ∀ (m : (ℓ : Loc Cert.ConvSiluRefIdeal.nD Cert.ConvSiluRefIdeal.τ Cert.ConvSiluRefIdeal.sig) → Buf (Elt Ideal) ℓ) (g : Dev Cert.ConvSiluRefIdeal.nD → PrngReg), Pre_ConvSiluRefIdeal m →
    θ_run (Cert.ConvSiluRefIdeal.defs (F := Ideal)) (onTc (τ := Cert.ConvSiluRefIdeal.τ) (Cert.ConvSiluRefIdeal.main (F := Ideal))) ⟨m, fun _ => 0, g⟩ (fun r => (∀ c : Dev Cert.ConvSiluRefIdeal.nD,
      r.2.mem ((c.tc : Thread Cert.ConvSiluRefIdeal.nD Cert.ConvSiluRefIdeal.τ).loc Cert.ConvSiluRefIdeal.main_arg0) = m ((c.tc : Thread Cert.ConvSiluRefIdeal.nD Cert.ConvSiluRefIdeal.τ).loc Cert.ConvSiluRefIdeal.main_arg0)
      ∧ r.2.mem ((c.tc : Thread Cert.ConvSiluRefIdeal.nD Cert.ConvSiluRefIdeal.τ).loc Cert.ConvSiluRefIdeal.main_arg1) = m ((c.tc : Thread Cert.ConvSiluRefIdeal.nD Cert.ConvSiluRefIdeal.τ).loc Cert.ConvSiluRefIdeal.main_arg1)
      ∧ r.2.mem ((c.tc : Thread Cert.ConvSiluRefIdeal.nD Cert.ConvSiluRefIdeal.τ).loc Cert.ConvSiluRefIdeal.main_arg2) = m ((c.tc : Thread Cert.ConvSiluRefIdeal.nD Cert.ConvSiluRefIdeal.τ).loc Cert.ConvSiluRefIdeal.main_arg2))
      ∧ r.2.sem = fun _ => 0)

def quiescent_ConvSiluRefIdeal_pre_conv_finite [hConvSiluRefIdeal : Cert.ConvSiluRefIdeal.Facts] [hPre_conv_finite : Cert.Pre_conv_finite.Facts] : Prop :=
  ∀ (m : (ℓ : Loc Cert.ConvSiluRefIdeal.nD Cert.ConvSiluRefIdeal.τ Cert.ConvSiluRefIdeal.sig) → Buf (Elt Ideal) ℓ) (g : Dev Cert.ConvSiluRefIdeal.nD → PrngReg), Pre_ConvSiluRefIdeal_conv_finite m →
    θ_run (Cert.ConvSiluRefIdeal.defs (F := Ideal)) (onTc (τ := Cert.ConvSiluRefIdeal.τ) (Cert.ConvSiluRefIdeal.main (F := Ideal))) ⟨m, fun _ => 0, g⟩ (fun r => (∀ c : Dev Cert.ConvSiluRefIdeal.nD,
      r.2.mem ((c.tc : Thread Cert.ConvSiluRefIdeal.nD Cert.ConvSiluRefIdeal.τ).loc Cert.ConvSiluRefIdeal.main_arg0) = m ((c.tc : Thread Cert.ConvSiluRefIdeal.nD Cert.ConvSiluRefIdeal.τ).loc Cert.ConvSiluRefIdeal.main_arg0)
      ∧ r.2.mem ((c.tc : Thread Cert.ConvSiluRefIdeal.nD Cert.ConvSiluRefIdeal.τ).loc Cert.ConvSiluRefIdeal.main_arg1) = m ((c.tc : Thread Cert.ConvSiluRefIdeal.nD Cert.ConvSiluRefIdeal.τ).loc Cert.ConvSiluRefIdeal.main_arg1)
      ∧ r.2.mem ((c.tc : Thread Cert.ConvSiluRefIdeal.nD Cert.ConvSiluRefIdeal.τ).loc Cert.ConvSiluRefIdeal.main_arg2) = m ((c.tc : Thread Cert.ConvSiluRefIdeal.nD Cert.ConvSiluRefIdeal.τ).loc Cert.ConvSiluRefIdeal.main_arg2))
      ∧ r.2.sem = fun _ => 0)

def quiescent_ConvGlu [hConvGlu : Cert.ConvGlu.Facts] : Prop :=
  ∀ (m : (ℓ : Loc Cert.ConvGlu.nD Cert.ConvGlu.τ Cert.ConvGlu.sig) → Buf (Elt Bits) ℓ) (g : Dev Cert.ConvGlu.nD → PrngReg), Pre_ConvGlu m →
    θ_run (Cert.ConvGlu.defs (F := Bits)) (onTc (τ := Cert.ConvGlu.τ) (Cert.ConvGlu.main (F := Bits))) ⟨m, fun _ => 0, g⟩ (fun r => (∀ c : Dev Cert.ConvGlu.nD,
      r.2.mem ((c.tc : Thread Cert.ConvGlu.nD Cert.ConvGlu.τ).loc Cert.ConvGlu.main_arg0) = m ((c.tc : Thread Cert.ConvGlu.nD Cert.ConvGlu.τ).loc Cert.ConvGlu.main_arg0)
      ∧ r.2.mem ((c.tc : Thread Cert.ConvGlu.nD Cert.ConvGlu.τ).loc Cert.ConvGlu.main_arg1) = m ((c.tc : Thread Cert.ConvGlu.nD Cert.ConvGlu.τ).loc Cert.ConvGlu.main_arg1)
      ∧ r.2.mem ((c.tc : Thread Cert.ConvGlu.nD Cert.ConvGlu.τ).loc Cert.ConvGlu.main_arg2) = m ((c.tc : Thread Cert.ConvGlu.nD Cert.ConvGlu.τ).loc Cert.ConvGlu.main_arg2)
      ∧ r.2.mem ((c.tc : Thread Cert.ConvGlu.nD Cert.ConvGlu.τ).loc Cert.ConvGlu.main_arg3) = m ((c.tc : Thread Cert.ConvGlu.nD Cert.ConvGlu.τ).loc Cert.ConvGlu.main_arg3))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3))
      ∧ r.2.sem = fun _ => 0)

def quiescent_ConvGluIdeal_pre_glu_finite [hConvGluIdeal : Cert.ConvGluIdeal.Facts] [hPre_glu_finite : Cert.Pre_glu_finite.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal_glu_finite m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
      ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3))
      ∧ r.2.sem = fun _ => 0)

def quiescent_ConvGluRefIdeal [hConvGluRefIdeal : Cert.ConvGluRefIdeal.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3))
      ∧ r.2.sem = fun _ => 0)

def quiescent_ConvGluRefIdeal_pre_glu_finite [hConvGluRefIdeal : Cert.ConvGluRefIdeal.Facts] [hPre_glu_finite : Cert.Pre_glu_finite.Facts] : Prop :=
  ∀ (m : (ℓ : Loc Cert.ConvGluRefIdeal.nD Cert.ConvGluRefIdeal.τ Cert.ConvGluRefIdeal.sig) → Buf (Elt Ideal) ℓ) (g : Dev Cert.ConvGluRefIdeal.nD → PrngReg), Pre_ConvGluRefIdeal_glu_finite m →
    θ_run (Cert.ConvGluRefIdeal.defs (F := Ideal)) (onTc (τ := Cert.ConvGluRefIdeal.τ) (Cert.ConvGluRefIdeal.main (F := Ideal))) ⟨m, fun _ => 0, g⟩ (fun r => (∀ c : Dev Cert.ConvGluRefIdeal.nD,
      r.2.mem ((c.tc : Thread Cert.ConvGluRefIdeal.nD Cert.ConvGluRefIdeal.τ).loc Cert.ConvGluRefIdeal.main_arg0) = m ((c.tc : Thread Cert.ConvGluRefIdeal.nD Cert.ConvGluRefIdeal.τ).loc Cert.ConvGluRefIdeal.main_arg0)
      ∧ r.2.mem ((c.tc : Thread Cert.ConvGluRefIdeal.nD Cert.ConvGluRefIdeal.τ).loc Cert.ConvGluRefIdeal.main_arg1) = m ((c.tc : Thread Cert.ConvGluRefIdeal.nD Cert.ConvGluRefIdeal.τ).loc Cert.ConvGluRefIdeal.main_arg1)
      ∧ r.2.mem ((c.tc : Thread Cert.ConvGluRefIdeal.nD Cert.ConvGluRefIdeal.τ).loc Cert.ConvGluRefIdeal.main_arg2) = m ((c.tc : Thread Cert.ConvGluRefIdeal.nD Cert.ConvGluRefIdeal.τ).loc Cert.ConvGluRefIdeal.main_arg2)
      ∧ r.2.mem ((c.tc : Thread Cert.ConvGluRefIdeal.nD Cert.ConvGluRefIdeal.τ).loc Cert.ConvGluRefIdeal.main_arg3) = m ((c.tc : Thread Cert.ConvGluRefIdeal.nD Cert.ConvGluRefIdeal.τ).loc Cert.ConvGluRefIdeal.main_arg3))
      ∧ r.2.sem = fun _ => 0)

def quiescent_GroupNorm [hGroupNorm : Cert.GroupNorm.Facts] : Prop :=
  ∀ (m : (ℓ : Loc Cert.GroupNorm.nD Cert.GroupNorm.τ Cert.GroupNorm.sig) → Buf (Elt Bits) ℓ) (g : Dev Cert.GroupNorm.nD → PrngReg), Pre_GroupNorm m →
    θ_run (Cert.GroupNorm.defs (F := Bits)) (onTc (τ := Cert.GroupNorm.τ) (Cert.GroupNorm.main (F := Bits))) ⟨m, fun _ => 0, g⟩ (fun r => (∀ c : Dev Cert.GroupNorm.nD,
      r.2.mem ((c.tc : Thread Cert.GroupNorm.nD Cert.GroupNorm.τ).loc Cert.GroupNorm.main_arg0) = m ((c.tc : Thread Cert.GroupNorm.nD Cert.GroupNorm.τ).loc Cert.GroupNorm.main_arg0)
      ∧ r.2.mem ((c.tc : Thread Cert.GroupNorm.nD Cert.GroupNorm.τ).loc Cert.GroupNorm.main_arg1) = m ((c.tc : Thread Cert.GroupNorm.nD Cert.GroupNorm.τ).loc Cert.GroupNorm.main_arg1)
      ∧ r.2.mem ((c.tc : Thread Cert.GroupNorm.nD Cert.GroupNorm.τ).loc Cert.GroupNorm.main_arg2) = m ((c.tc : Thread Cert.GroupNorm.nD Cert.GroupNorm.τ).loc Cert.GroupNorm.main_arg2))
      ∧ r.2.sem = fun _ => 0)

def quiescent_GroupNormIdeal [hGroupNormIdeal : Cert.GroupNormIdeal.Facts] : Prop :=
  ∀ (m : (ℓ : Loc Cert.GroupNormIdeal.nD Cert.GroupNormIdeal.τ Cert.GroupNormIdeal.sig) → Buf (Elt Ideal) ℓ) (g : Dev Cert.GroupNormIdeal.nD → PrngReg), Pre_GroupNormIdeal m →
    θ_run (Cert.GroupNormIdeal.defs (F := Ideal)) (onTc (τ := Cert.GroupNormIdeal.τ) (Cert.GroupNormIdeal.main (F := Ideal))) ⟨m, fun _ => 0, g⟩ (fun r => (∀ c : Dev Cert.GroupNormIdeal.nD,
      r.2.mem ((c.tc : Thread Cert.GroupNormIdeal.nD Cert.GroupNormIdeal.τ).loc Cert.GroupNormIdeal.main_arg0) = m ((c.tc : Thread Cert.GroupNormIdeal.nD Cert.GroupNormIdeal.τ).loc Cert.GroupNormIdeal.main_arg0)
      ∧ r.2.mem ((c.tc : Thread Cert.GroupNormIdeal.nD Cert.GroupNormIdeal.τ).loc Cert.GroupNormIdeal.main_arg1) = m ((c.tc : Thread Cert.GroupNormIdeal.nD Cert.GroupNormIdeal.τ).loc Cert.GroupNormIdeal.main_arg1)
      ∧ r.2.mem ((c.tc : Thread Cert.GroupNormIdeal.nD Cert.GroupNormIdeal.τ).loc Cert.GroupNormIdeal.main_arg2) = m ((c.tc : Thread Cert.GroupNormIdeal.nD Cert.GroupNormIdeal.τ).loc Cert.GroupNormIdeal.main_arg2))
      ∧ r.2.sem = fun _ => 0)

def quiescent_GroupNormIdeal_pre_group_norm_finite [hGroupNormIdeal : Cert.GroupNormIdeal.Facts] [hPre_group_norm_finite : Cert.Pre_group_norm_finite.Facts] : Prop :=
  ∀ (m : (ℓ : Loc Cert.GroupNormIdeal.nD Cert.GroupNormIdeal.τ Cert.GroupNormIdeal.sig) → Buf (Elt Ideal) ℓ) (g : Dev Cert.GroupNormIdeal.nD → PrngReg), Pre_GroupNormIdeal_group_norm_finite m →
    θ_run (Cert.GroupNormIdeal.defs (F := Ideal)) (onTc (τ := Cert.GroupNormIdeal.τ) (Cert.GroupNormIdeal.main (F := Ideal))) ⟨m, fun _ => 0, g⟩ (fun r => (∀ c : Dev Cert.GroupNormIdeal.nD,
      r.2.mem ((c.tc : Thread Cert.GroupNormIdeal.nD Cert.GroupNormIdeal.τ).loc Cert.GroupNormIdeal.main_arg0) = m ((c.tc : Thread Cert.GroupNormIdeal.nD Cert.GroupNormIdeal.τ).loc Cert.GroupNormIdeal.main_arg0)
      ∧ r.2.mem ((c.tc : Thread Cert.GroupNormIdeal.nD Cert.GroupNormIdeal.τ).loc Cert.GroupNormIdeal.main_arg1) = m ((c.tc : Thread Cert.GroupNormIdeal.nD Cert.GroupNormIdeal.τ).loc Cert.GroupNormIdeal.main_arg1)
      ∧ r.2.mem ((c.tc : Thread Cert.GroupNormIdeal.nD Cert.GroupNormIdeal.τ).loc Cert.GroupNormIdeal.main_arg2) = m ((c.tc : Thread Cert.GroupNormIdeal.nD Cert.GroupNormIdeal.τ).loc Cert.GroupNormIdeal.main_arg2))
      ∧ r.2.sem = fun _ => 0)

def quiescent_GroupNormRefIdeal [hGroupNormRefIdeal : Cert.GroupNormRefIdeal.Facts] : Prop :=
  ∀ (m : (ℓ : Loc Cert.GroupNormRefIdeal.nD Cert.GroupNormRefIdeal.τ Cert.GroupNormRefIdeal.sig) → Buf (Elt Ideal) ℓ) (g : Dev Cert.GroupNormRefIdeal.nD → PrngReg), Pre_GroupNormRefIdeal m →
    θ_run (Cert.GroupNormRefIdeal.defs (F := Ideal)) (onTc (τ := Cert.GroupNormRefIdeal.τ) (Cert.GroupNormRefIdeal.main (F := Ideal))) ⟨m, fun _ => 0, g⟩ (fun r => (∀ c : Dev Cert.GroupNormRefIdeal.nD,
      r.2.mem ((c.tc : Thread Cert.GroupNormRefIdeal.nD Cert.GroupNormRefIdeal.τ).loc Cert.GroupNormRefIdeal.main_arg0) = m ((c.tc : Thread Cert.GroupNormRefIdeal.nD Cert.GroupNormRefIdeal.τ).loc Cert.GroupNormRefIdeal.main_arg0)
      ∧ r.2.mem ((c.tc : Thread Cert.GroupNormRefIdeal.nD Cert.GroupNormRefIdeal.τ).loc Cert.GroupNormRefIdeal.main_arg1) = m ((c.tc : Thread Cert.GroupNormRefIdeal.nD Cert.GroupNormRefIdeal.τ).loc Cert.GroupNormRefIdeal.main_arg1)
      ∧ r.2.mem ((c.tc : Thread Cert.GroupNormRefIdeal.nD Cert.GroupNormRefIdeal.τ).loc Cert.GroupNormRefIdeal.main_arg2) = m ((c.tc : Thread Cert.GroupNormRefIdeal.nD Cert.GroupNormRefIdeal.τ).loc Cert.GroupNormRefIdeal.main_arg2))
      ∧ r.2.sem = fun _ => 0)

def quiescent_GroupNormRefIdeal_pre_group_norm_finite [hGroupNormRefIdeal : Cert.GroupNormRefIdeal.Facts] [hPre_group_norm_finite : Cert.Pre_group_norm_finite.Facts] : Prop :=
  ∀ (m : (ℓ : Loc Cert.GroupNormRefIdeal.nD Cert.GroupNormRefIdeal.τ Cert.GroupNormRefIdeal.sig) → Buf (Elt Ideal) ℓ) (g : Dev Cert.GroupNormRefIdeal.nD → PrngReg), Pre_GroupNormRefIdeal_group_norm_finite m →
    θ_run (Cert.GroupNormRefIdeal.defs (F := Ideal)) (onTc (τ := Cert.GroupNormRefIdeal.τ) (Cert.GroupNormRefIdeal.main (F := Ideal))) ⟨m, fun _ => 0, g⟩ (fun r => (∀ c : Dev Cert.GroupNormRefIdeal.nD,
      r.2.mem ((c.tc : Thread Cert.GroupNormRefIdeal.nD Cert.GroupNormRefIdeal.τ).loc Cert.GroupNormRefIdeal.main_arg0) = m ((c.tc : Thread Cert.GroupNormRefIdeal.nD Cert.GroupNormRefIdeal.τ).loc Cert.GroupNormRefIdeal.main_arg0)
      ∧ r.2.mem ((c.tc : Thread Cert.GroupNormRefIdeal.nD Cert.GroupNormRefIdeal.τ).loc Cert.GroupNormRefIdeal.main_arg1) = m ((c.tc : Thread Cert.GroupNormRefIdeal.nD Cert.GroupNormRefIdeal.τ).loc Cert.GroupNormRefIdeal.main_arg1)
      ∧ r.2.mem ((c.tc : Thread Cert.GroupNormRefIdeal.nD Cert.GroupNormRefIdeal.τ).loc Cert.GroupNormRefIdeal.main_arg2) = m ((c.tc : Thread Cert.GroupNormRefIdeal.nD Cert.GroupNormRefIdeal.τ).loc Cert.GroupNormRefIdeal.main_arg2))
      ∧ r.2.sem = fun _ => 0)

def preserves_Attn_AttnIdeal : Prop :=
  IdealRules.named_const.Statement Cert.AttnIdeal.κ "mask" .f32 0xF149F2CA#32 ⊥

def preserves_Xattn_XattnIdeal : Prop :=
  True

def algebraic_XattnIdeal_XattnRefIdeal_pre_xa_finite [hXattnIdeal : Cert.XattnIdeal.Facts] [hXattnRefIdeal : Cert.XattnRefIdeal.Facts] [hPre_xa_finite : Cert.Pre_xa_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xa_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)) →
    ∃ (v0 : (c : Dev Cert.XattnIdeal.nD) → Buf (Elt Ideal) ((c.tc : Thread Cert.XattnIdeal.nD Cert.XattnIdeal.τ).loc Cert.XattnIdeal.main_v1_0)) (v1 : (c : Dev Cert.XattnIdeal.nD) → Buf (Elt Ideal) ((c.tc : Thread Cert.XattnIdeal.nD Cert.XattnIdeal.τ).loc Cert.XattnIdeal.main_v1_1)) (v2 : (c : Dev Cert.XattnIdeal.nD) → Buf (Elt Ideal) ((c.tc : Thread Cert.XattnIdeal.nD Cert.XattnIdeal.τ).loc Cert.XattnIdeal.main_v1_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v1_0) = v0 c
          ∧ r.2.mem ((c.tc : Thread Cert.XattnIdeal.nD Cert.XattnIdeal.τ).loc Cert.XattnIdeal.main_v1_1) = v1 c
          ∧ r.2.mem ((c.tc : Thread Cert.XattnIdeal.nD Cert.XattnIdeal.τ).loc Cert.XattnIdeal.main_v1_2) = v2 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v62) = v0 c
          ∧ r.2.mem ((c.tc : Thread Cert.XattnRefIdeal.nD Cert.XattnRefIdeal.τ).loc Cert.XattnRefIdeal.main_v61) = v1 c
          ∧ r.2.mem ((c.tc : Thread Cert.XattnRefIdeal.nD Cert.XattnRefIdeal.τ).loc Cert.XattnRefIdeal.main_v60) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3))

def preserves_InNt_InNtIdeal : Prop :=
  True

def algebraic_InNtIdeal_InNtRefIdeal [hInNtIdeal : Cert.InNtIdeal.Facts] [hInNtRefIdeal : Cert.InNtRefIdeal.Facts] : Prop :=
  ∀ (m : (ℓ : Loc Cert.InNtIdeal.nD Cert.InNtIdeal.τ Cert.InNtIdeal.sig) → Buf (Elt Ideal) ℓ) (g : Dev Cert.InNtIdeal.nD → PrngReg)
    (m' : (ℓ : Loc Cert.InNtRefIdeal.nD Cert.InNtRefIdeal.τ Cert.InNtRefIdeal.sig) → Buf (Elt Ideal) ℓ) (g' : Dev Cert.InNtRefIdeal.nD → PrngReg), Pre_InNtIdeal m →
    (∀ c : Dev Cert.InNtIdeal.nD,
      m' ((c.tc : Thread Cert.InNtRefIdeal.nD Cert.InNtRefIdeal.τ).loc Cert.InNtRefIdeal.main_arg0) = m ((c.tc : Thread Cert.InNtIdeal.nD Cert.InNtIdeal.τ).loc Cert.InNtIdeal.main_arg0)
      ∧ m' ((c.tc : Thread Cert.InNtRefIdeal.nD Cert.InNtRefIdeal.τ).loc Cert.InNtRefIdeal.main_arg1) = m ((c.tc : Thread Cert.InNtIdeal.nD Cert.InNtIdeal.τ).loc Cert.InNtIdeal.main_arg1)) →
    ∃ (v0 : (c : Dev Cert.InNtIdeal.nD) → Buf (Elt Ideal) ((c.tc : Thread Cert.InNtIdeal.nD Cert.InNtIdeal.τ).loc Cert.InNtIdeal.main_v8)),
      θ_run (Cert.InNtIdeal.defs (F := Ideal)) (onTc (τ := Cert.InNtIdeal.τ) (Cert.InNtIdeal.main (F := Ideal))) ⟨m, fun _ => 0, g⟩ (fun r => ∀ c : Dev Cert.InNtIdeal.nD,
          r.2.mem ((c.tc : Thread Cert.InNtIdeal.nD Cert.InNtIdeal.τ).loc Cert.InNtIdeal.main_v8) = v0 c
          ∧ r.2.mem ((c.tc : Thread Cert.InNtIdeal.nD Cert.InNtIdeal.τ).loc Cert.InNtIdeal.main_arg0) = m ((c.tc : Thread Cert.InNtIdeal.nD Cert.InNtIdeal.τ).loc Cert.InNtIdeal.main_arg0)
          ∧ r.2.mem ((c.tc : Thread Cert.InNtIdeal.nD Cert.InNtIdeal.τ).loc Cert.InNtIdeal.main_arg1) = m ((c.tc : Thread Cert.InNtIdeal.nD Cert.InNtIdeal.τ).loc Cert.InNtIdeal.main_arg1))
      ∧ θ_run (Cert.InNtRefIdeal.defs (F := Ideal)) (onTc (τ := Cert.InNtRefIdeal.τ) (Cert.InNtRefIdeal.main (F := Ideal))) ⟨m', fun _ => 0, g'⟩ (fun r => ∀ c : Dev Cert.InNtRefIdeal.nD,
          r.2.mem ((c.tc : Thread Cert.InNtRefIdeal.nD Cert.InNtRefIdeal.τ).loc Cert.InNtRefIdeal.main_v2) = v0 c
          ∧ r.2.mem ((c.tc : Thread Cert.InNtRefIdeal.nD Cert.InNtRefIdeal.τ).loc Cert.InNtRefIdeal.main_arg0) = m' ((c.tc : Thread Cert.InNtRefIdeal.nD Cert.InNtRefIdeal.τ).loc Cert.InNtRefIdeal.main_arg0)
          ∧ r.2.mem ((c.tc : Thread Cert.InNtRefIdeal.nD Cert.InNtRefIdeal.τ).loc Cert.InNtRefIdeal.main_arg1) = m' ((c.tc : Thread Cert.InNtRefIdeal.nD Cert.InNtRefIdeal.τ).loc Cert.InNtRefIdeal.main_arg1))

def preserves_InTn_InTnIdeal : Prop :=
  True

def algebraic_InTnIdeal_InTnRefIdeal [hInTnIdeal : Cert.InTnIdeal.Facts] [hInTnRefIdeal : Cert.InTnRefIdeal.Facts] : Prop :=
  ∀ (m : (ℓ : Loc Cert.InTnIdeal.nD Cert.InTnIdeal.τ Cert.InTnIdeal.sig) → Buf (Elt Ideal) ℓ) (g : Dev Cert.InTnIdeal.nD → PrngReg)
    (m' : (ℓ : Loc Cert.InTnRefIdeal.nD Cert.InTnRefIdeal.τ Cert.InTnRefIdeal.sig) → Buf (Elt Ideal) ℓ) (g' : Dev Cert.InTnRefIdeal.nD → PrngReg), Pre_InTnIdeal m →
    (∀ c : Dev Cert.InTnIdeal.nD,
      m' ((c.tc : Thread Cert.InTnRefIdeal.nD Cert.InTnRefIdeal.τ).loc Cert.InTnRefIdeal.main_arg0) = m ((c.tc : Thread Cert.InTnIdeal.nD Cert.InTnIdeal.τ).loc Cert.InTnIdeal.main_arg0)
      ∧ m' ((c.tc : Thread Cert.InTnRefIdeal.nD Cert.InTnRefIdeal.τ).loc Cert.InTnRefIdeal.main_arg1) = m ((c.tc : Thread Cert.InTnIdeal.nD Cert.InTnIdeal.τ).loc Cert.InTnIdeal.main_arg1)) →
    ∃ (v0 : (c : Dev Cert.InTnIdeal.nD) → Buf (Elt Ideal) ((c.tc : Thread Cert.InTnIdeal.nD Cert.InTnIdeal.τ).loc Cert.InTnIdeal.main_v6)),
      θ_run (Cert.InTnIdeal.defs (F := Ideal)) (onTc (τ := Cert.InTnIdeal.τ) (Cert.InTnIdeal.main (F := Ideal))) ⟨m, fun _ => 0, g⟩ (fun r => ∀ c : Dev Cert.InTnIdeal.nD,
          r.2.mem ((c.tc : Thread Cert.InTnIdeal.nD Cert.InTnIdeal.τ).loc Cert.InTnIdeal.main_v6) = v0 c
          ∧ r.2.mem ((c.tc : Thread Cert.InTnIdeal.nD Cert.InTnIdeal.τ).loc Cert.InTnIdeal.main_arg0) = m ((c.tc : Thread Cert.InTnIdeal.nD Cert.InTnIdeal.τ).loc Cert.InTnIdeal.main_arg0)
          ∧ r.2.mem ((c.tc : Thread Cert.InTnIdeal.nD Cert.InTnIdeal.τ).loc Cert.InTnIdeal.main_arg1) = m ((c.tc : Thread Cert.InTnIdeal.nD Cert.InTnIdeal.τ).loc Cert.InTnIdeal.main_arg1))
      ∧ θ_run (Cert.InTnRefIdeal.defs (F := Ideal)) (onTc (τ := Cert.InTnRefIdeal.τ) (Cert.InTnRefIdeal.main (F := Ideal))) ⟨m', fun _ => 0, g'⟩ (fun r => ∀ c : Dev Cert.InTnRefIdeal.nD,
          r.2.mem ((c.tc : Thread Cert.InTnRefIdeal.nD Cert.InTnRefIdeal.τ).loc Cert.InTnRefIdeal.main_v7) = v0 c
          ∧ r.2.mem ((c.tc : Thread Cert.InTnRefIdeal.nD Cert.InTnRefIdeal.τ).loc Cert.InTnRefIdeal.main_arg0) = m' ((c.tc : Thread Cert.InTnRefIdeal.nD Cert.InTnRefIdeal.τ).loc Cert.InTnRefIdeal.main_arg0)
          ∧ r.2.mem ((c.tc : Thread Cert.InTnRefIdeal.nD Cert.InTnRefIdeal.τ).loc Cert.InTnRefIdeal.main_arg1) = m' ((c.tc : Thread Cert.InTnRefIdeal.nD Cert.InTnRefIdeal.τ).loc Cert.InTnRefIdeal.main_arg1))

def preserves_InNn_InNnIdeal : Prop :=
  True

def algebraic_InNnIdeal_InNnRefIdeal [hInNnIdeal : Cert.InNnIdeal.Facts] [hInNnRefIdeal : Cert.InNnRefIdeal.Facts] : Prop :=
  ∀ (m : (ℓ : Loc Cert.InNnIdeal.nD Cert.InNnIdeal.τ Cert.InNnIdeal.sig) → Buf (Elt Ideal) ℓ) (g : Dev Cert.InNnIdeal.nD → PrngReg)
    (m' : (ℓ : Loc Cert.InNnRefIdeal.nD Cert.InNnRefIdeal.τ Cert.InNnRefIdeal.sig) → Buf (Elt Ideal) ℓ) (g' : Dev Cert.InNnRefIdeal.nD → PrngReg), Pre_InNnIdeal m →
    (∀ c : Dev Cert.InNnIdeal.nD,
      m' ((c.tc : Thread Cert.InNnRefIdeal.nD Cert.InNnRefIdeal.τ).loc Cert.InNnRefIdeal.main_arg0) = m ((c.tc : Thread Cert.InNnIdeal.nD Cert.InNnIdeal.τ).loc Cert.InNnIdeal.main_arg0)
      ∧ m' ((c.tc : Thread Cert.InNnRefIdeal.nD Cert.InNnRefIdeal.τ).loc Cert.InNnRefIdeal.main_arg1) = m ((c.tc : Thread Cert.InNnIdeal.nD Cert.InNnIdeal.τ).loc Cert.InNnIdeal.main_arg1)) →
    ∃ (v0 : (c : Dev Cert.InNnIdeal.nD) → Buf (Elt Ideal) ((c.tc : Thread Cert.InNnIdeal.nD Cert.InNnIdeal.τ).loc Cert.InNnIdeal.main_v5)),
      θ_run (Cert.InNnIdeal.defs (F := Ideal)) (onTc (τ := Cert.InNnIdeal.τ) (Cert.InNnIdeal.main (F := Ideal))) ⟨m, fun _ => 0, g⟩ (fun r => ∀ c : Dev Cert.InNnIdeal.nD,
          r.2.mem ((c.tc : Thread Cert.InNnIdeal.nD Cert.InNnIdeal.τ).loc Cert.InNnIdeal.main_v5) = v0 c
          ∧ r.2.mem ((c.tc : Thread Cert.InNnIdeal.nD Cert.InNnIdeal.τ).loc Cert.InNnIdeal.main_arg0) = m ((c.tc : Thread Cert.InNnIdeal.nD Cert.InNnIdeal.τ).loc Cert.InNnIdeal.main_arg0)
          ∧ r.2.mem ((c.tc : Thread Cert.InNnIdeal.nD Cert.InNnIdeal.τ).loc Cert.InNnIdeal.main_arg1) = m ((c.tc : Thread Cert.InNnIdeal.nD Cert.InNnIdeal.τ).loc Cert.InNnIdeal.main_arg1))
      ∧ θ_run (Cert.InNnRefIdeal.defs (F := Ideal)) (onTc (τ := Cert.InNnRefIdeal.τ) (Cert.InNnRefIdeal.main (F := Ideal))) ⟨m', fun _ => 0, g'⟩ (fun r => ∀ c : Dev Cert.InNnRefIdeal.nD,
          r.2.mem ((c.tc : Thread Cert.InNnRefIdeal.nD Cert.InNnRefIdeal.τ).loc Cert.InNnRefIdeal.main_v3) = v0 c
          ∧ r.2.mem ((c.tc : Thread Cert.InNnRefIdeal.nD Cert.InNnRefIdeal.τ).loc Cert.InNnRefIdeal.main_arg0) = m' ((c.tc : Thread Cert.InNnRefIdeal.nD Cert.InNnRefIdeal.τ).loc Cert.InNnRefIdeal.main_arg0)
          ∧ r.2.mem ((c.tc : Thread Cert.InNnRefIdeal.nD Cert.InNnRefIdeal.τ).loc Cert.InNnRefIdeal.main_arg1) = m' ((c.tc : Thread Cert.InNnRefIdeal.nD Cert.InNnRefIdeal.τ).loc Cert.InNnRefIdeal.main_arg1))

def preserves_QbNt_QbNtIdeal : Prop :=
  True

def algebraic_QbNtIdeal_QbNtRefIdeal [hQbNtIdeal : Cert.QbNtIdeal.Facts] [hQbNtRefIdeal : Cert.QbNtRefIdeal.Facts] : Prop :=
  ∀ (m : (ℓ : Loc Cert.QbNtIdeal.nD Cert.QbNtIdeal.τ Cert.QbNtIdeal.sig) → Buf (Elt Ideal) ℓ) (g : Dev Cert.QbNtIdeal.nD → PrngReg)
    (m' : (ℓ : Loc Cert.QbNtRefIdeal.nD Cert.QbNtRefIdeal.τ Cert.QbNtRefIdeal.sig) → Buf (Elt Ideal) ℓ) (g' : Dev Cert.QbNtRefIdeal.nD → PrngReg), Pre_QbNtIdeal m →
    (∀ c : Dev Cert.QbNtIdeal.nD,
      m' ((c.tc : Thread Cert.QbNtRefIdeal.nD Cert.QbNtRefIdeal.τ).loc Cert.QbNtRefIdeal.main_arg0) = m ((c.tc : Thread Cert.QbNtIdeal.nD Cert.QbNtIdeal.τ).loc Cert.QbNtIdeal.main_arg0)
      ∧ m' ((c.tc : Thread Cert.QbNtRefIdeal.nD Cert.QbNtRefIdeal.τ).loc Cert.QbNtRefIdeal.main_arg1) = m ((c.tc : Thread Cert.QbNtIdeal.nD Cert.QbNtIdeal.τ).loc Cert.QbNtIdeal.main_arg1)) →
    ∃ (v0 : (c : Dev Cert.QbNtIdeal.nD) → Buf (Elt Ideal) ((c.tc : Thread Cert.QbNtIdeal.nD Cert.QbNtIdeal.τ).loc Cert.QbNtIdeal.main_v4)),
      θ_run (Cert.QbNtIdeal.defs (F := Ideal)) (onTc (τ := Cert.QbNtIdeal.τ) (Cert.QbNtIdeal.main (F := Ideal))) ⟨m, fun _ => 0, g⟩ (fun r => ∀ c : Dev Cert.QbNtIdeal.nD,
          r.2.mem ((c.tc : Thread Cert.QbNtIdeal.nD Cert.QbNtIdeal.τ).loc Cert.QbNtIdeal.main_v4) = v0 c
          ∧ r.2.mem ((c.tc : Thread Cert.QbNtIdeal.nD Cert.QbNtIdeal.τ).loc Cert.QbNtIdeal.main_arg0) = m ((c.tc : Thread Cert.QbNtIdeal.nD Cert.QbNtIdeal.τ).loc Cert.QbNtIdeal.main_arg0)
          ∧ r.2.mem ((c.tc : Thread Cert.QbNtIdeal.nD Cert.QbNtIdeal.τ).loc Cert.QbNtIdeal.main_arg1) = m ((c.tc : Thread Cert.QbNtIdeal.nD Cert.QbNtIdeal.τ).loc Cert.QbNtIdeal.main_arg1))
      ∧ θ_run (Cert.QbNtRefIdeal.defs (F := Ideal)) (onTc (τ := Cert.QbNtRefIdeal.τ) (Cert.QbNtRefIdeal.main (F := Ideal))) ⟨m', fun _ => 0, g'⟩ (fun r => ∀ c : Dev Cert.QbNtRefIdeal.nD,
          r.2.mem ((c.tc : Thread Cert.QbNtRefIdeal.nD Cert.QbNtRefIdeal.τ).loc Cert.QbNtRefIdeal.main_v2) = v0 c
          ∧ r.2.mem ((c.tc : Thread Cert.QbNtRefIdeal.nD Cert.QbNtRefIdeal.τ).loc Cert.QbNtRefIdeal.main_arg0) = m' ((c.tc : Thread Cert.QbNtRefIdeal.nD Cert.QbNtRefIdeal.τ).loc Cert.QbNtRefIdeal.main_arg0)
          ∧ r.2.mem ((c.tc : Thread Cert.QbNtRefIdeal.nD Cert.QbNtRefIdeal.τ).loc Cert.QbNtRefIdeal.main_arg1) = m' ((c.tc : Thread Cert.QbNtRefIdeal.nD Cert.QbNtRefIdeal.τ).loc Cert.QbNtRefIdeal.main_arg1))

def preserves_QbTn_QbTnIdeal : Prop :=
  True

def algebraic_QbTnIdeal_QbTnRefIdeal [hQbTnIdeal : Cert.QbTnIdeal.Facts] [hQbTnRefIdeal : Cert.QbTnRefIdeal.Facts] : Prop :=
  ∀ (m : (ℓ : Loc Cert.QbTnIdeal.nD Cert.QbTnIdeal.τ Cert.QbTnIdeal.sig) → Buf (Elt Ideal) ℓ) (g : Dev Cert.QbTnIdeal.nD → PrngReg)
    (m' : (ℓ : Loc Cert.QbTnRefIdeal.nD Cert.QbTnRefIdeal.τ Cert.QbTnRefIdeal.sig) → Buf (Elt Ideal) ℓ) (g' : Dev Cert.QbTnRefIdeal.nD → PrngReg), Pre_QbTnIdeal m →
    (∀ c : Dev Cert.QbTnIdeal.nD,
      m' ((c.tc : Thread Cert.QbTnRefIdeal.nD Cert.QbTnRefIdeal.τ).loc Cert.QbTnRefIdeal.main_arg0) = m ((c.tc : Thread Cert.QbTnIdeal.nD Cert.QbTnIdeal.τ).loc Cert.QbTnIdeal.main_arg0)
      ∧ m' ((c.tc : Thread Cert.QbTnRefIdeal.nD Cert.QbTnRefIdeal.τ).loc Cert.QbTnRefIdeal.main_arg1) = m ((c.tc : Thread Cert.QbTnIdeal.nD Cert.QbTnIdeal.τ).loc Cert.QbTnIdeal.main_arg1)) →
    ∃ (v0 : (c : Dev Cert.QbTnIdeal.nD) → Buf (Elt Ideal) ((c.tc : Thread Cert.QbTnIdeal.nD Cert.QbTnIdeal.τ).loc Cert.QbTnIdeal.main_v3)),
      θ_run (Cert.QbTnIdeal.defs (F := Ideal)) (onTc (τ := Cert.QbTnIdeal.τ) (Cert.QbTnIdeal.main (F := Ideal))) ⟨m, fun _ => 0, g⟩ (fun r => ∀ c : Dev Cert.QbTnIdeal.nD,
          r.2.mem ((c.tc : Thread Cert.QbTnIdeal.nD Cert.QbTnIdeal.τ).loc Cert.QbTnIdeal.main_v3) = v0 c
          ∧ r.2.mem ((c.tc : Thread Cert.QbTnIdeal.nD Cert.QbTnIdeal.τ).loc Cert.QbTnIdeal.main_arg0) = m ((c.tc : Thread Cert.QbTnIdeal.nD Cert.QbTnIdeal.τ).loc Cert.QbTnIdeal.main_arg0)
          ∧ r.2.mem ((c.tc : Thread Cert.QbTnIdeal.nD Cert.QbTnIdeal.τ).loc Cert.QbTnIdeal.main_arg1) = m ((c.tc : Thread Cert.QbTnIdeal.nD Cert.QbTnIdeal.τ).loc Cert.QbTnIdeal.main_arg1))
      ∧ θ_run (Cert.QbTnRefIdeal.defs (F := Ideal)) (onTc (τ := Cert.QbTnRefIdeal.τ) (Cert.QbTnRefIdeal.main (F := Ideal))) ⟨m', fun _ => 0, g'⟩ (fun r => ∀ c : Dev Cert.QbTnRefIdeal.nD,
          r.2.mem ((c.tc : Thread Cert.QbTnRefIdeal.nD Cert.QbTnRefIdeal.τ).loc Cert.QbTnRefIdeal.main_v6) = v0 c
          ∧ r.2.mem ((c.tc : Thread Cert.QbTnRefIdeal.nD Cert.QbTnRefIdeal.τ).loc Cert.QbTnRefIdeal.main_arg0) = m' ((c.tc : Thread Cert.QbTnRefIdeal.nD Cert.QbTnRefIdeal.τ).loc Cert.QbTnRefIdeal.main_arg0)
          ∧ r.2.mem ((c.tc : Thread Cert.QbTnRefIdeal.nD Cert.QbTnRefIdeal.τ).loc Cert.QbTnRefIdeal.main_arg1) = m' ((c.tc : Thread Cert.QbTnRefIdeal.nD Cert.QbTnRefIdeal.τ).loc Cert.QbTnRefIdeal.main_arg1))

def preserves_QbNn_QbNnIdeal : Prop :=
  True

def algebraic_QbNnIdeal_QbNnRefIdeal [hQbNnIdeal : Cert.QbNnIdeal.Facts] [hQbNnRefIdeal : Cert.QbNnRefIdeal.Facts] : Prop :=
  ∀ (m : (ℓ : Loc Cert.QbNnIdeal.nD Cert.QbNnIdeal.τ Cert.QbNnIdeal.sig) → Buf (Elt Ideal) ℓ) (g : Dev Cert.QbNnIdeal.nD → PrngReg)
    (m' : (ℓ : Loc Cert.QbNnRefIdeal.nD Cert.QbNnRefIdeal.τ Cert.QbNnRefIdeal.sig) → Buf (Elt Ideal) ℓ) (g' : Dev Cert.QbNnRefIdeal.nD → PrngReg), Pre_QbNnIdeal m →
    (∀ c : Dev Cert.QbNnIdeal.nD,
      m' ((c.tc : Thread Cert.QbNnRefIdeal.nD Cert.QbNnRefIdeal.τ).loc Cert.QbNnRefIdeal.main_arg0) = m ((c.tc : Thread Cert.QbNnIdeal.nD Cert.QbNnIdeal.τ).loc Cert.QbNnIdeal.main_arg0)
      ∧ m' ((c.tc : Thread Cert.QbNnRefIdeal.nD Cert.QbNnRefIdeal.τ).loc Cert.QbNnRefIdeal.main_arg1) = m ((c.tc : Thread Cert.QbNnIdeal.nD Cert.QbNnIdeal.τ).loc Cert.QbNnIdeal.main_arg1)) →
    ∃ (v0 : (c : Dev Cert.QbNnIdeal.nD) → Buf (Elt Ideal) ((c.tc : Thread Cert.QbNnIdeal.nD Cert.QbNnIdeal.τ).loc Cert.QbNnIdeal.main_v4)),
      θ_run (Cert.QbNnIdeal.defs (F := Ideal)) (onTc (τ := Cert.QbNnIdeal.τ) (Cert.QbNnIdeal.main (F := Ideal))) ⟨m, fun _ => 0, g⟩ (fun r => ∀ c : Dev Cert.QbNnIdeal.nD,
          r.2.mem ((c.tc : Thread Cert.QbNnIdeal.nD Cert.QbNnIdeal.τ).loc Cert.QbNnIdeal.main_v4) = v0 c
          ∧ r.2.mem ((c.tc : Thread Cert.QbNnIdeal.nD Cert.QbNnIdeal.τ).loc Cert.QbNnIdeal.main_arg0) = m ((c.tc : Thread Cert.QbNnIdeal.nD Cert.QbNnIdeal.τ).loc Cert.QbNnIdeal.main_arg0)
          ∧ r.2.mem ((c.tc : Thread Cert.QbNnIdeal.nD Cert.QbNnIdeal.τ).loc Cert.QbNnIdeal.main_arg1) = m ((c.tc : Thread Cert.QbNnIdeal.nD Cert.QbNnIdeal.τ).loc Cert.QbNnIdeal.main_arg1))
      ∧ θ_run (Cert.QbNnRefIdeal.defs (F := Ideal)) (onTc (τ := Cert.QbNnRefIdeal.τ) (Cert.QbNnRefIdeal.main (F := Ideal))) ⟨m', fun _ => 0, g'⟩ (fun r => ∀ c : Dev Cert.QbNnRefIdeal.nD,
          r.2.mem ((c.tc : Thread Cert.QbNnRefIdeal.nD Cert.QbNnRefIdeal.τ).loc Cert.QbNnRefIdeal.main_v0) = v0 c
          ∧ r.2.mem ((c.tc : Thread Cert.QbNnRefIdeal.nD Cert.QbNnRefIdeal.τ).loc Cert.QbNnRefIdeal.main_arg0) = m' ((c.tc : Thread Cert.QbNnRefIdeal.nD Cert.QbNnRefIdeal.τ).loc Cert.QbNnRefIdeal.main_arg0)
          ∧ r.2.mem ((c.tc : Thread Cert.QbNnRefIdeal.nD Cert.QbNnRefIdeal.τ).loc Cert.QbNnRefIdeal.main_arg1) = m' ((c.tc : Thread Cert.QbNnRefIdeal.nD Cert.QbNnRefIdeal.τ).loc Cert.QbNnRefIdeal.main_arg1))

def preserves_KvbNt_KvbNtIdeal : Prop :=
  True

def algebraic_KvbNtIdeal_KvbNtRefIdeal [hKvbNtIdeal : Cert.KvbNtIdeal.Facts] [hKvbNtRefIdeal : Cert.KvbNtRefIdeal.Facts] : Prop :=
  ∀ (m : (ℓ : Loc Cert.KvbNtIdeal.nD Cert.KvbNtIdeal.τ Cert.KvbNtIdeal.sig) → Buf (Elt Ideal) ℓ) (g : Dev Cert.KvbNtIdeal.nD → PrngReg)
    (m' : (ℓ : Loc Cert.KvbNtRefIdeal.nD Cert.KvbNtRefIdeal.τ Cert.KvbNtRefIdeal.sig) → Buf (Elt Ideal) ℓ) (g' : Dev Cert.KvbNtRefIdeal.nD → PrngReg), Pre_KvbNtIdeal m →
    (∀ c : Dev Cert.KvbNtIdeal.nD,
      m' ((c.tc : Thread Cert.KvbNtRefIdeal.nD Cert.KvbNtRefIdeal.τ).loc Cert.KvbNtRefIdeal.main_arg0) = m ((c.tc : Thread Cert.KvbNtIdeal.nD Cert.KvbNtIdeal.τ).loc Cert.KvbNtIdeal.main_arg0)
      ∧ m' ((c.tc : Thread Cert.KvbNtRefIdeal.nD Cert.KvbNtRefIdeal.τ).loc Cert.KvbNtRefIdeal.main_arg1) = m ((c.tc : Thread Cert.KvbNtIdeal.nD Cert.KvbNtIdeal.τ).loc Cert.KvbNtIdeal.main_arg1)) →
    ∃ (v0 : (c : Dev Cert.KvbNtIdeal.nD) → Buf (Elt Ideal) ((c.tc : Thread Cert.KvbNtIdeal.nD Cert.KvbNtIdeal.τ).loc Cert.KvbNtIdeal.main_v4)),
      θ_run (Cert.KvbNtIdeal.defs (F := Ideal)) (onTc (τ := Cert.KvbNtIdeal.τ) (Cert.KvbNtIdeal.main (F := Ideal))) ⟨m, fun _ => 0, g⟩ (fun r => ∀ c : Dev Cert.KvbNtIdeal.nD,
          r.2.mem ((c.tc : Thread Cert.KvbNtIdeal.nD Cert.KvbNtIdeal.τ).loc Cert.KvbNtIdeal.main_v4) = v0 c
          ∧ r.2.mem ((c.tc : Thread Cert.KvbNtIdeal.nD Cert.KvbNtIdeal.τ).loc Cert.KvbNtIdeal.main_arg0) = m ((c.tc : Thread Cert.KvbNtIdeal.nD Cert.KvbNtIdeal.τ).loc Cert.KvbNtIdeal.main_arg0)
          ∧ r.2.mem ((c.tc : Thread Cert.KvbNtIdeal.nD Cert.KvbNtIdeal.τ).loc Cert.KvbNtIdeal.main_arg1) = m ((c.tc : Thread Cert.KvbNtIdeal.nD Cert.KvbNtIdeal.τ).loc Cert.KvbNtIdeal.main_arg1))
      ∧ θ_run (Cert.KvbNtRefIdeal.defs (F := Ideal)) (onTc (τ := Cert.KvbNtRefIdeal.τ) (Cert.KvbNtRefIdeal.main (F := Ideal))) ⟨m', fun _ => 0, g'⟩ (fun r => ∀ c : Dev Cert.KvbNtRefIdeal.nD,
          r.2.mem ((c.tc : Thread Cert.KvbNtRefIdeal.nD Cert.KvbNtRefIdeal.τ).loc Cert.KvbNtRefIdeal.main_v2) = v0 c
          ∧ r.2.mem ((c.tc : Thread Cert.KvbNtRefIdeal.nD Cert.KvbNtRefIdeal.τ).loc Cert.KvbNtRefIdeal.main_arg0) = m' ((c.tc : Thread Cert.KvbNtRefIdeal.nD Cert.KvbNtRefIdeal.τ).loc Cert.KvbNtRefIdeal.main_arg0)
          ∧ r.2.mem ((c.tc : Thread Cert.KvbNtRefIdeal.nD Cert.KvbNtRefIdeal.τ).loc Cert.KvbNtRefIdeal.main_arg1) = m' ((c.tc : Thread Cert.KvbNtRefIdeal.nD Cert.KvbNtRefIdeal.τ).loc Cert.KvbNtRefIdeal.main_arg1))

def preserves_KvbTn_KvbTnIdeal : Prop :=
  True

def algebraic_KvbTnIdeal_KvbTnRefIdeal [hKvbTnIdeal : Cert.KvbTnIdeal.Facts] [hKvbTnRefIdeal : Cert.KvbTnRefIdeal.Facts] : Prop :=
  ∀ (m : (ℓ : Loc Cert.KvbTnIdeal.nD Cert.KvbTnIdeal.τ Cert.KvbTnIdeal.sig) → Buf (Elt Ideal) ℓ) (g : Dev Cert.KvbTnIdeal.nD → PrngReg)
    (m' : (ℓ : Loc Cert.KvbTnRefIdeal.nD Cert.KvbTnRefIdeal.τ Cert.KvbTnRefIdeal.sig) → Buf (Elt Ideal) ℓ) (g' : Dev Cert.KvbTnRefIdeal.nD → PrngReg), Pre_KvbTnIdeal m →
    (∀ c : Dev Cert.KvbTnIdeal.nD,
      m' ((c.tc : Thread Cert.KvbTnRefIdeal.nD Cert.KvbTnRefIdeal.τ).loc Cert.KvbTnRefIdeal.main_arg0) = m ((c.tc : Thread Cert.KvbTnIdeal.nD Cert.KvbTnIdeal.τ).loc Cert.KvbTnIdeal.main_arg0)
      ∧ m' ((c.tc : Thread Cert.KvbTnRefIdeal.nD Cert.KvbTnRefIdeal.τ).loc Cert.KvbTnRefIdeal.main_arg1) = m ((c.tc : Thread Cert.KvbTnIdeal.nD Cert.KvbTnIdeal.τ).loc Cert.KvbTnIdeal.main_arg1)) →
    ∃ (v0 : (c : Dev Cert.KvbTnIdeal.nD) → Buf (Elt Ideal) ((c.tc : Thread Cert.KvbTnIdeal.nD Cert.KvbTnIdeal.τ).loc Cert.KvbTnIdeal.main_v3)),
      θ_run (Cert.KvbTnIdeal.defs (F := Ideal)) (onTc (τ := Cert.KvbTnIdeal.τ) (Cert.KvbTnIdeal.main (F := Ideal))) ⟨m, fun _ => 0, g⟩ (fun r => ∀ c : Dev Cert.KvbTnIdeal.nD,
          r.2.mem ((c.tc : Thread Cert.KvbTnIdeal.nD Cert.KvbTnIdeal.τ).loc Cert.KvbTnIdeal.main_v3) = v0 c
          ∧ r.2.mem ((c.tc : Thread Cert.KvbTnIdeal.nD Cert.KvbTnIdeal.τ).loc Cert.KvbTnIdeal.main_arg0) = m ((c.tc : Thread Cert.KvbTnIdeal.nD Cert.KvbTnIdeal.τ).loc Cert.KvbTnIdeal.main_arg0)
          ∧ r.2.mem ((c.tc : Thread Cert.KvbTnIdeal.nD Cert.KvbTnIdeal.τ).loc Cert.KvbTnIdeal.main_arg1) = m ((c.tc : Thread Cert.KvbTnIdeal.nD Cert.KvbTnIdeal.τ).loc Cert.KvbTnIdeal.main_arg1))
      ∧ θ_run (Cert.KvbTnRefIdeal.defs (F := Ideal)) (onTc (τ := Cert.KvbTnRefIdeal.τ) (Cert.KvbTnRefIdeal.main (F := Ideal))) ⟨m', fun _ => 0, g'⟩ (fun r => ∀ c : Dev Cert.KvbTnRefIdeal.nD,
          r.2.mem ((c.tc : Thread Cert.KvbTnRefIdeal.nD Cert.KvbTnRefIdeal.τ).loc Cert.KvbTnRefIdeal.main_v6) = v0 c
          ∧ r.2.mem ((c.tc : Thread Cert.KvbTnRefIdeal.nD Cert.KvbTnRefIdeal.τ).loc Cert.KvbTnRefIdeal.main_arg0) = m' ((c.tc : Thread Cert.KvbTnRefIdeal.nD Cert.KvbTnRefIdeal.τ).loc Cert.KvbTnRefIdeal.main_arg0)
          ∧ r.2.mem ((c.tc : Thread Cert.KvbTnRefIdeal.nD Cert.KvbTnRefIdeal.τ).loc Cert.KvbTnRefIdeal.main_arg1) = m' ((c.tc : Thread Cert.KvbTnRefIdeal.nD Cert.KvbTnRefIdeal.τ).loc Cert.KvbTnRefIdeal.main_arg1))

def preserves_KvbNn_KvbNnIdeal : Prop :=
  True

def algebraic_KvbNnIdeal_KvbNnRefIdeal [hKvbNnIdeal : Cert.KvbNnIdeal.Facts] [hKvbNnRefIdeal : Cert.KvbNnRefIdeal.Facts] : Prop :=
  ∀ (m : (ℓ : Loc Cert.KvbNnIdeal.nD Cert.KvbNnIdeal.τ Cert.KvbNnIdeal.sig) → Buf (Elt Ideal) ℓ) (g : Dev Cert.KvbNnIdeal.nD → PrngReg)
    (m' : (ℓ : Loc Cert.KvbNnRefIdeal.nD Cert.KvbNnRefIdeal.τ Cert.KvbNnRefIdeal.sig) → Buf (Elt Ideal) ℓ) (g' : Dev Cert.KvbNnRefIdeal.nD → PrngReg), Pre_KvbNnIdeal m →
    (∀ c : Dev Cert.KvbNnIdeal.nD,
      m' ((c.tc : Thread Cert.KvbNnRefIdeal.nD Cert.KvbNnRefIdeal.τ).loc Cert.KvbNnRefIdeal.main_arg0) = m ((c.tc : Thread Cert.KvbNnIdeal.nD Cert.KvbNnIdeal.τ).loc Cert.KvbNnIdeal.main_arg0)
      ∧ m' ((c.tc : Thread Cert.KvbNnRefIdeal.nD Cert.KvbNnRefIdeal.τ).loc Cert.KvbNnRefIdeal.main_arg1) = m ((c.tc : Thread Cert.KvbNnIdeal.nD Cert.KvbNnIdeal.τ).loc Cert.KvbNnIdeal.main_arg1)) →
    ∃ (v0 : (c : Dev Cert.KvbNnIdeal.nD) → Buf (Elt Ideal) ((c.tc : Thread Cert.KvbNnIdeal.nD Cert.KvbNnIdeal.τ).loc Cert.KvbNnIdeal.main_v4)),
      θ_run (Cert.KvbNnIdeal.defs (F := Ideal)) (onTc (τ := Cert.KvbNnIdeal.τ) (Cert.KvbNnIdeal.main (F := Ideal))) ⟨m, fun _ => 0, g⟩ (fun r => ∀ c : Dev Cert.KvbNnIdeal.nD,
          r.2.mem ((c.tc : Thread Cert.KvbNnIdeal.nD Cert.KvbNnIdeal.τ).loc Cert.KvbNnIdeal.main_v4) = v0 c
          ∧ r.2.mem ((c.tc : Thread Cert.KvbNnIdeal.nD Cert.KvbNnIdeal.τ).loc Cert.KvbNnIdeal.main_arg0) = m ((c.tc : Thread Cert.KvbNnIdeal.nD Cert.KvbNnIdeal.τ).loc Cert.KvbNnIdeal.main_arg0)
          ∧ r.2.mem ((c.tc : Thread Cert.KvbNnIdeal.nD Cert.KvbNnIdeal.τ).loc Cert.KvbNnIdeal.main_arg1) = m ((c.tc : Thread Cert.KvbNnIdeal.nD Cert.KvbNnIdeal.τ).loc Cert.KvbNnIdeal.main_arg1))
      ∧ θ_run (Cert.KvbNnRefIdeal.defs (F := Ideal)) (onTc (τ := Cert.KvbNnRefIdeal.τ) (Cert.KvbNnRefIdeal.main (F := Ideal))) ⟨m', fun _ => 0, g'⟩ (fun r => ∀ c : Dev Cert.KvbNnRefIdeal.nD,
          r.2.mem ((c.tc : Thread Cert.KvbNnRefIdeal.nD Cert.KvbNnRefIdeal.τ).loc Cert.KvbNnRefIdeal.main_v0) = v0 c
          ∧ r.2.mem ((c.tc : Thread Cert.KvbNnRefIdeal.nD Cert.KvbNnRefIdeal.τ).loc Cert.KvbNnRefIdeal.main_arg0) = m' ((c.tc : Thread Cert.KvbNnRefIdeal.nD Cert.KvbNnRefIdeal.τ).loc Cert.KvbNnRefIdeal.main_arg0)
          ∧ r.2.mem ((c.tc : Thread Cert.KvbNnRefIdeal.nD Cert.KvbNnRefIdeal.τ).loc Cert.KvbNnRefIdeal.main_arg1) = m' ((c.tc : Thread Cert.KvbNnRefIdeal.nD Cert.KvbNnRefIdeal.τ).loc Cert.KvbNnRefIdeal.main_arg1))

def preserves_SqNt_SqNtIdeal : Prop :=
  True

def algebraic_SqNtIdeal_SqNtRefIdeal [hSqNtIdeal : Cert.SqNtIdeal.Facts] [hSqNtRefIdeal : Cert.SqNtRefIdeal.Facts] : Prop :=
  ∀ (m : (ℓ : Loc Cert.SqNtIdeal.nD Cert.SqNtIdeal.τ Cert.SqNtIdeal.sig) → Buf (Elt Ideal) ℓ) (g : Dev Cert.SqNtIdeal.nD → PrngReg)
    (m' : (ℓ : Loc Cert.SqNtRefIdeal.nD Cert.SqNtRefIdeal.τ Cert.SqNtRefIdeal.sig) → Buf (Elt Ideal) ℓ) (g' : Dev Cert.SqNtRefIdeal.nD → PrngReg), Pre_SqNtIdeal m →
    (∀ c : Dev Cert.SqNtIdeal.nD,
      m' ((c.tc : Thread Cert.SqNtRefIdeal.nD Cert.SqNtRefIdeal.τ).loc Cert.SqNtRefIdeal.main_arg0) = m ((c.tc : Thread Cert.SqNtIdeal.nD Cert.SqNtIdeal.τ).loc Cert.SqNtIdeal.main_arg0)
      ∧ m' ((c.tc : Thread Cert.SqNtRefIdeal.nD Cert.SqNtRefIdeal.τ).loc Cert.SqNtRefIdeal.main_arg1) = m ((c.tc : Thread Cert.SqNtIdeal.nD Cert.SqNtIdeal.τ).loc Cert.SqNtIdeal.main_arg1)) →
    ∃ (v0 : (c : Dev Cert.SqNtIdeal.nD) → Buf (Elt Ideal) ((c.tc : Thread Cert.SqNtIdeal.nD Cert.SqNtIdeal.τ).loc Cert.SqNtIdeal.main_v3)),
      θ_run (Cert.SqNtIdeal.defs (F := Ideal)) (onTc (τ := Cert.SqNtIdeal.τ) (Cert.SqNtIdeal.main (F := Ideal))) ⟨m, fun _ => 0, g⟩ (fun r => ∀ c : Dev Cert.SqNtIdeal.nD,
          r.2.mem ((c.tc : Thread Cert.SqNtIdeal.nD Cert.SqNtIdeal.τ).loc Cert.SqNtIdeal.main_v3) = v0 c
          ∧ r.2.mem ((c.tc : Thread Cert.SqNtIdeal.nD Cert.SqNtIdeal.τ).loc Cert.SqNtIdeal.main_arg0) = m ((c.tc : Thread Cert.SqNtIdeal.nD Cert.SqNtIdeal.τ).loc Cert.SqNtIdeal.main_arg0)
          ∧ r.2.mem ((c.tc : Thread Cert.SqNtIdeal.nD Cert.SqNtIdeal.τ).loc Cert.SqNtIdeal.main_arg1) = m ((c.tc : Thread Cert.SqNtIdeal.nD Cert.SqNtIdeal.τ).loc Cert.SqNtIdeal.main_arg1))
      ∧ θ_run (Cert.SqNtRefIdeal.defs (F := Ideal)) (onTc (τ := Cert.SqNtRefIdeal.τ) (Cert.SqNtRefIdeal.main (F := Ideal))) ⟨m', fun _ => 0, g'⟩ (fun r => ∀ c : Dev Cert.SqNtRefIdeal.nD,
          r.2.mem ((c.tc : Thread Cert.SqNtRefIdeal.nD Cert.SqNtRefIdeal.τ).loc Cert.SqNtRefIdeal.main_v2) = v0 c
          ∧ r.2.mem ((c.tc : Thread Cert.SqNtRefIdeal.nD Cert.SqNtRefIdeal.τ).loc Cert.SqNtRefIdeal.main_arg0) = m' ((c.tc : Thread Cert.SqNtRefIdeal.nD Cert.SqNtRefIdeal.τ).loc Cert.SqNtRefIdeal.main_arg0)
          ∧ r.2.mem ((c.tc : Thread Cert.SqNtRefIdeal.nD Cert.SqNtRefIdeal.τ).loc Cert.SqNtRefIdeal.main_arg1) = m' ((c.tc : Thread Cert.SqNtRefIdeal.nD Cert.SqNtRefIdeal.τ).loc Cert.SqNtRefIdeal.main_arg1))

def preserves_SqTn_SqTnIdeal : Prop :=
  True

def algebraic_SqTnIdeal_SqTnRefIdeal [hSqTnIdeal : Cert.SqTnIdeal.Facts] [hSqTnRefIdeal : Cert.SqTnRefIdeal.Facts] : Prop :=
  ∀ (m : (ℓ : Loc Cert.SqTnIdeal.nD Cert.SqTnIdeal.τ Cert.SqTnIdeal.sig) → Buf (Elt Ideal) ℓ) (g : Dev Cert.SqTnIdeal.nD → PrngReg)
    (m' : (ℓ : Loc Cert.SqTnRefIdeal.nD Cert.SqTnRefIdeal.τ Cert.SqTnRefIdeal.sig) → Buf (Elt Ideal) ℓ) (g' : Dev Cert.SqTnRefIdeal.nD → PrngReg), Pre_SqTnIdeal m →
    (∀ c : Dev Cert.SqTnIdeal.nD,
      m' ((c.tc : Thread Cert.SqTnRefIdeal.nD Cert.SqTnRefIdeal.τ).loc Cert.SqTnRefIdeal.main_arg0) = m ((c.tc : Thread Cert.SqTnIdeal.nD Cert.SqTnIdeal.τ).loc Cert.SqTnIdeal.main_arg0)
      ∧ m' ((c.tc : Thread Cert.SqTnRefIdeal.nD Cert.SqTnRefIdeal.τ).loc Cert.SqTnRefIdeal.main_arg1) = m ((c.tc : Thread Cert.SqTnIdeal.nD Cert.SqTnIdeal.τ).loc Cert.SqTnIdeal.main_arg1)) →
    ∃ (v0 : (c : Dev Cert.SqTnIdeal.nD) → Buf (Elt Ideal) ((c.tc : Thread Cert.SqTnIdeal.nD Cert.SqTnIdeal.τ).loc Cert.SqTnIdeal.main_v3)),
      θ_run (Cert.SqTnIdeal.defs (F := Ideal)) (onTc (τ := Cert.SqTnIdeal.τ) (Cert.SqTnIdeal.main (F := Ideal))) ⟨m, fun _ => 0, g⟩ (fun r => ∀ c : Dev Cert.SqTnIdeal.nD,
          r.2.mem ((c.tc : Thread Cert.SqTnIdeal.nD Cert.SqTnIdeal.τ).loc Cert.SqTnIdeal.main_v3) = v0 c
          ∧ r.2.mem ((c.tc : Thread Cert.SqTnIdeal.nD Cert.SqTnIdeal.τ).loc Cert.SqTnIdeal.main_arg0) = m ((c.tc : Thread Cert.SqTnIdeal.nD Cert.SqTnIdeal.τ).loc Cert.SqTnIdeal.main_arg0)
          ∧ r.2.mem ((c.tc : Thread Cert.SqTnIdeal.nD Cert.SqTnIdeal.τ).loc Cert.SqTnIdeal.main_arg1) = m ((c.tc : Thread Cert.SqTnIdeal.nD Cert.SqTnIdeal.τ).loc Cert.SqTnIdeal.main_arg1))
      ∧ θ_run (Cert.SqTnRefIdeal.defs (F := Ideal)) (onTc (τ := Cert.SqTnRefIdeal.τ) (Cert.SqTnRefIdeal.main (F := Ideal))) ⟨m', fun _ => 0, g'⟩ (fun r => ∀ c : Dev Cert.SqTnRefIdeal.nD,
          r.2.mem ((c.tc : Thread Cert.SqTnRefIdeal.nD Cert.SqTnRefIdeal.τ).loc Cert.SqTnRefIdeal.main_v6) = v0 c
          ∧ r.2.mem ((c.tc : Thread Cert.SqTnRefIdeal.nD Cert.SqTnRefIdeal.τ).loc Cert.SqTnRefIdeal.main_arg0) = m' ((c.tc : Thread Cert.SqTnRefIdeal.nD Cert.SqTnRefIdeal.τ).loc Cert.SqTnRefIdeal.main_arg0)
          ∧ r.2.mem ((c.tc : Thread Cert.SqTnRefIdeal.nD Cert.SqTnRefIdeal.τ).loc Cert.SqTnRefIdeal.main_arg1) = m' ((c.tc : Thread Cert.SqTnRefIdeal.nD Cert.SqTnRefIdeal.τ).loc Cert.SqTnRefIdeal.main_arg1))

def preserves_SqNn_SqNnIdeal : Prop :=
  True

def algebraic_SqNnIdeal_SqNnRefIdeal [hSqNnIdeal : Cert.SqNnIdeal.Facts] [hSqNnRefIdeal : Cert.SqNnRefIdeal.Facts] : Prop :=
  ∀ (m : (ℓ : Loc Cert.SqNnIdeal.nD Cert.SqNnIdeal.τ Cert.SqNnIdeal.sig) → Buf (Elt Ideal) ℓ) (g : Dev Cert.SqNnIdeal.nD → PrngReg)
    (m' : (ℓ : Loc Cert.SqNnRefIdeal.nD Cert.SqNnRefIdeal.τ Cert.SqNnRefIdeal.sig) → Buf (Elt Ideal) ℓ) (g' : Dev Cert.SqNnRefIdeal.nD → PrngReg), Pre_SqNnIdeal m →
    (∀ c : Dev Cert.SqNnIdeal.nD,
      m' ((c.tc : Thread Cert.SqNnRefIdeal.nD Cert.SqNnRefIdeal.τ).loc Cert.SqNnRefIdeal.main_arg0) = m ((c.tc : Thread Cert.SqNnIdeal.nD Cert.SqNnIdeal.τ).loc Cert.SqNnIdeal.main_arg0)
      ∧ m' ((c.tc : Thread Cert.SqNnRefIdeal.nD Cert.SqNnRefIdeal.τ).loc Cert.SqNnRefIdeal.main_arg1) = m ((c.tc : Thread Cert.SqNnIdeal.nD Cert.SqNnIdeal.τ).loc Cert.SqNnIdeal.main_arg1)) →
    ∃ (v0 : (c : Dev Cert.SqNnIdeal.nD) → Buf (Elt Ideal) ((c.tc : Thread Cert.SqNnIdeal.nD Cert.SqNnIdeal.τ).loc Cert.SqNnIdeal.main_v3)),
      θ_run (Cert.SqNnIdeal.defs (F := Ideal)) (onTc (τ := Cert.SqNnIdeal.τ) (Cert.SqNnIdeal.main (F := Ideal))) ⟨m, fun _ => 0, g⟩ (fun r => ∀ c : Dev Cert.SqNnIdeal.nD,
          r.2.mem ((c.tc : Thread Cert.SqNnIdeal.nD Cert.SqNnIdeal.τ).loc Cert.SqNnIdeal.main_v3) = v0 c
          ∧ r.2.mem ((c.tc : Thread Cert.SqNnIdeal.nD Cert.SqNnIdeal.τ).loc Cert.SqNnIdeal.main_arg0) = m ((c.tc : Thread Cert.SqNnIdeal.nD Cert.SqNnIdeal.τ).loc Cert.SqNnIdeal.main_arg0)
          ∧ r.2.mem ((c.tc : Thread Cert.SqNnIdeal.nD Cert.SqNnIdeal.τ).loc Cert.SqNnIdeal.main_arg1) = m ((c.tc : Thread Cert.SqNnIdeal.nD Cert.SqNnIdeal.τ).loc Cert.SqNnIdeal.main_arg1))
      ∧ θ_run (Cert.SqNnRefIdeal.defs (F := Ideal)) (onTc (τ := Cert.SqNnRefIdeal.τ) (Cert.SqNnRefIdeal.main (F := Ideal))) ⟨m', fun _ => 0, g'⟩ (fun r => ∀ c : Dev Cert.SqNnRefIdeal.nD,
          r.2.mem ((c.tc : Thread Cert.SqNnRefIdeal.nD Cert.SqNnRefIdeal.τ).loc Cert.SqNnRefIdeal.main_v0) = v0 c
          ∧ r.2.mem ((c.tc : Thread Cert.SqNnRefIdeal.nD Cert.SqNnRefIdeal.τ).loc Cert.SqNnRefIdeal.main_arg0) = m' ((c.tc : Thread Cert.SqNnRefIdeal.nD Cert.SqNnRefIdeal.τ).loc Cert.SqNnRefIdeal.main_arg0)
          ∧ r.2.mem ((c.tc : Thread Cert.SqNnRefIdeal.nD Cert.SqNnRefIdeal.τ).loc Cert.SqNnRefIdeal.main_arg1) = m' ((c.tc : Thread Cert.SqNnRefIdeal.nD Cert.SqNnRefIdeal.τ).loc Cert.SqNnRefIdeal.main_arg1))

def preserves_SqRes_SqResIdeal : Prop :=
  True

def algebraic_SqResIdeal_SqResRefIdeal [hSqResIdeal : Cert.SqResIdeal.Facts] [hSqResRefIdeal : Cert.SqResRefIdeal.Facts] : Prop :=
  ∀ (m : (ℓ : Loc Cert.SqResIdeal.nD Cert.SqResIdeal.τ Cert.SqResIdeal.sig) → Buf (Elt Ideal) ℓ) (g : Dev Cert.SqResIdeal.nD → PrngReg)
    (m' : (ℓ : Loc Cert.SqResRefIdeal.nD Cert.SqResRefIdeal.τ Cert.SqResRefIdeal.sig) → Buf (Elt Ideal) ℓ) (g' : Dev Cert.SqResRefIdeal.nD → PrngReg), Pre_SqResIdeal m →
    (∀ c : Dev Cert.SqResIdeal.nD,
      m' ((c.tc : Thread Cert.SqResRefIdeal.nD Cert.SqResRefIdeal.τ).loc Cert.SqResRefIdeal.main_arg0) = m ((c.tc : Thread Cert.SqResIdeal.nD Cert.SqResIdeal.τ).loc Cert.SqResIdeal.main_arg0)
      ∧ m' ((c.tc : Thread Cert.SqResRefIdeal.nD Cert.SqResRefIdeal.τ).loc Cert.SqResRefIdeal.main_arg1) = m ((c.tc : Thread Cert.SqResIdeal.nD Cert.SqResIdeal.τ).loc Cert.SqResIdeal.main_arg1)
      ∧ m' ((c.tc : Thread Cert.SqResRefIdeal.nD Cert.SqResRefIdeal.τ).loc Cert.SqResRefIdeal.main_arg2) = m ((c.tc : Thread Cert.SqResIdeal.nD Cert.SqResIdeal.τ).loc Cert.SqResIdeal.main_arg2)) →
    ∃ (v0 : (c : Dev Cert.SqResIdeal.nD) → Buf (Elt Ideal) ((c.tc : Thread Cert.SqResIdeal.nD Cert.SqResIdeal.τ).loc Cert.SqResIdeal.main_v3)),
      θ_run (Cert.SqResIdeal.defs (F := Ideal)) (onTc (τ := Cert.SqResIdeal.τ) (Cert.SqResIdeal.main (F := Ideal))) ⟨m, fun _ => 0, g⟩ (fun r => ∀ c : Dev Cert.SqResIdeal.nD,
          r.2.mem ((c.tc : Thread Cert.SqResIdeal.nD Cert.SqResIdeal.τ).loc Cert.SqResIdeal.main_v3) = v0 c
          ∧ r.2.mem ((c.tc : Thread Cert.SqResIdeal.nD Cert.SqResIdeal.τ).loc Cert.SqResIdeal.main_arg0) = m ((c.tc : Thread Cert.SqResIdeal.nD Cert.SqResIdeal.τ).loc Cert.SqResIdeal.main_arg0)
          ∧ r.2.mem ((c.tc : Thread Cert.SqResIdeal.nD Cert.SqResIdeal.τ).loc Cert.SqResIdeal.main_arg1) = m ((c.tc : Thread Cert.SqResIdeal.nD Cert.SqResIdeal.τ).loc Cert.SqResIdeal.main_arg1)
          ∧ r.2.mem ((c.tc : Thread Cert.SqResIdeal.nD Cert.SqResIdeal.τ).loc Cert.SqResIdeal.main_arg2) = m ((c.tc : Thread Cert.SqResIdeal.nD Cert.SqResIdeal.τ).loc Cert.SqResIdeal.main_arg2))
      ∧ θ_run (Cert.SqResRefIdeal.defs (F := Ideal)) (onTc (τ := Cert.SqResRefIdeal.τ) (Cert.SqResRefIdeal.main (F := Ideal))) ⟨m', fun _ => 0, g'⟩ (fun r => ∀ c : Dev Cert.SqResRefIdeal.nD,
          r.2.mem ((c.tc : Thread Cert.SqResRefIdeal.nD Cert.SqResRefIdeal.τ).loc Cert.SqResRefIdeal.main_v1) = v0 c
          ∧ r.2.mem ((c.tc : Thread Cert.SqResRefIdeal.nD Cert.SqResRefIdeal.τ).loc Cert.SqResRefIdeal.main_arg0) = m' ((c.tc : Thread Cert.SqResRefIdeal.nD Cert.SqResRefIdeal.τ).loc Cert.SqResRefIdeal.main_arg0)
          ∧ r.2.mem ((c.tc : Thread Cert.SqResRefIdeal.nD Cert.SqResRefIdeal.τ).loc Cert.SqResRefIdeal.main_arg1) = m' ((c.tc : Thread Cert.SqResRefIdeal.nD Cert.SqResRefIdeal.τ).loc Cert.SqResRefIdeal.main_arg1)
          ∧ r.2.mem ((c.tc : Thread Cert.SqResRefIdeal.nD Cert.SqResRefIdeal.τ).loc Cert.SqResRefIdeal.main_arg2) = m' ((c.tc : Thread Cert.SqResRefIdeal.nD Cert.SqResRefIdeal.τ).loc Cert.SqResRefIdeal.main_arg2))

def preserves_MemNt_MemNtIdeal : Prop :=
  True

def algebraic_MemNtIdeal_MemNtRefIdeal [hMemNtIdeal : Cert.MemNtIdeal.Facts] [hMemNtRefIdeal : Cert.MemNtRefIdeal.Facts] : Prop :=
  ∀ (m : (ℓ : Loc Cert.MemNtIdeal.nD Cert.MemNtIdeal.τ Cert.MemNtIdeal.sig) → Buf (Elt Ideal) ℓ) (g : Dev Cert.MemNtIdeal.nD → PrngReg)
    (m' : (ℓ : Loc Cert.MemNtRefIdeal.nD Cert.MemNtRefIdeal.τ Cert.MemNtRefIdeal.sig) → Buf (Elt Ideal) ℓ) (g' : Dev Cert.MemNtRefIdeal.nD → PrngReg), Pre_MemNtIdeal m →
    (∀ c : Dev Cert.MemNtIdeal.nD,
      m' ((c.tc : Thread Cert.MemNtRefIdeal.nD Cert.MemNtRefIdeal.τ).loc Cert.MemNtRefIdeal.main_arg0) = m ((c.tc : Thread Cert.MemNtIdeal.nD Cert.MemNtIdeal.τ).loc Cert.MemNtIdeal.main_arg0)
      ∧ m' ((c.tc : Thread Cert.MemNtRefIdeal.nD Cert.MemNtRefIdeal.τ).loc Cert.MemNtRefIdeal.main_arg1) = m ((c.tc : Thread Cert.MemNtIdeal.nD Cert.MemNtIdeal.τ).loc Cert.MemNtIdeal.main_arg1)) →
    ∃ (v0 : (c : Dev Cert.MemNtIdeal.nD) → Buf (Elt Ideal) ((c.tc : Thread Cert.MemNtIdeal.nD Cert.MemNtIdeal.τ).loc Cert.MemNtIdeal.main_v3)),
      θ_run (Cert.MemNtIdeal.defs (F := Ideal)) (onTc (τ := Cert.MemNtIdeal.τ) (Cert.MemNtIdeal.main (F := Ideal))) ⟨m, fun _ => 0, g⟩ (fun r => ∀ c : Dev Cert.MemNtIdeal.nD,
          r.2.mem ((c.tc : Thread Cert.MemNtIdeal.nD Cert.MemNtIdeal.τ).loc Cert.MemNtIdeal.main_v3) = v0 c
          ∧ r.2.mem ((c.tc : Thread Cert.MemNtIdeal.nD Cert.MemNtIdeal.τ).loc Cert.MemNtIdeal.main_arg0) = m ((c.tc : Thread Cert.MemNtIdeal.nD Cert.MemNtIdeal.τ).loc Cert.MemNtIdeal.main_arg0)
          ∧ r.2.mem ((c.tc : Thread Cert.MemNtIdeal.nD Cert.MemNtIdeal.τ).loc Cert.MemNtIdeal.main_arg1) = m ((c.tc : Thread Cert.MemNtIdeal.nD Cert.MemNtIdeal.τ).loc Cert.MemNtIdeal.main_arg1))
      ∧ θ_run (Cert.MemNtRefIdeal.defs (F := Ideal)) (onTc (τ := Cert.MemNtRefIdeal.τ) (Cert.MemNtRefIdeal.main (F := Ideal))) ⟨m', fun _ => 0, g'⟩ (fun r => ∀ c : Dev Cert.MemNtRefIdeal.nD,
          r.2.mem ((c.tc : Thread Cert.MemNtRefIdeal.nD Cert.MemNtRefIdeal.τ).loc Cert.MemNtRefIdeal.main_v2) = v0 c
          ∧ r.2.mem ((c.tc : Thread Cert.MemNtRefIdeal.nD Cert.MemNtRefIdeal.τ).loc Cert.MemNtRefIdeal.main_arg0) = m' ((c.tc : Thread Cert.MemNtRefIdeal.nD Cert.MemNtRefIdeal.τ).loc Cert.MemNtRefIdeal.main_arg0)
          ∧ r.2.mem ((c.tc : Thread Cert.MemNtRefIdeal.nD Cert.MemNtRefIdeal.τ).loc Cert.MemNtRefIdeal.main_arg1) = m' ((c.tc : Thread Cert.MemNtRefIdeal.nD Cert.MemNtRefIdeal.τ).loc Cert.MemNtRefIdeal.main_arg1))

def preserves_MemTn_MemTnIdeal : Prop :=
  True

def algebraic_MemTnIdeal_MemTnRefIdeal [hMemTnIdeal : Cert.MemTnIdeal.Facts] [hMemTnRefIdeal : Cert.MemTnRefIdeal.Facts] : Prop :=
  ∀ (m : (ℓ : Loc Cert.MemTnIdeal.nD Cert.MemTnIdeal.τ Cert.MemTnIdeal.sig) → Buf (Elt Ideal) ℓ) (g : Dev Cert.MemTnIdeal.nD → PrngReg)
    (m' : (ℓ : Loc Cert.MemTnRefIdeal.nD Cert.MemTnRefIdeal.τ Cert.MemTnRefIdeal.sig) → Buf (Elt Ideal) ℓ) (g' : Dev Cert.MemTnRefIdeal.nD → PrngReg), Pre_MemTnIdeal m →
    (∀ c : Dev Cert.MemTnIdeal.nD,
      m' ((c.tc : Thread Cert.MemTnRefIdeal.nD Cert.MemTnRefIdeal.τ).loc Cert.MemTnRefIdeal.main_arg0) = m ((c.tc : Thread Cert.MemTnIdeal.nD Cert.MemTnIdeal.τ).loc Cert.MemTnIdeal.main_arg0)
      ∧ m' ((c.tc : Thread Cert.MemTnRefIdeal.nD Cert.MemTnRefIdeal.τ).loc Cert.MemTnRefIdeal.main_arg1) = m ((c.tc : Thread Cert.MemTnIdeal.nD Cert.MemTnIdeal.τ).loc Cert.MemTnIdeal.main_arg1)) →
    ∃ (v0 : (c : Dev Cert.MemTnIdeal.nD) → Buf (Elt Ideal) ((c.tc : Thread Cert.MemTnIdeal.nD Cert.MemTnIdeal.τ).loc Cert.MemTnIdeal.main_v3)),
      θ_run (Cert.MemTnIdeal.defs (F := Ideal)) (onTc (τ := Cert.MemTnIdeal.τ) (Cert.MemTnIdeal.main (F := Ideal))) ⟨m, fun _ => 0, g⟩ (fun r => ∀ c : Dev Cert.MemTnIdeal.nD,
          r.2.mem ((c.tc : Thread Cert.MemTnIdeal.nD Cert.MemTnIdeal.τ).loc Cert.MemTnIdeal.main_v3) = v0 c
          ∧ r.2.mem ((c.tc : Thread Cert.MemTnIdeal.nD Cert.MemTnIdeal.τ).loc Cert.MemTnIdeal.main_arg0) = m ((c.tc : Thread Cert.MemTnIdeal.nD Cert.MemTnIdeal.τ).loc Cert.MemTnIdeal.main_arg0)
          ∧ r.2.mem ((c.tc : Thread Cert.MemTnIdeal.nD Cert.MemTnIdeal.τ).loc Cert.MemTnIdeal.main_arg1) = m ((c.tc : Thread Cert.MemTnIdeal.nD Cert.MemTnIdeal.τ).loc Cert.MemTnIdeal.main_arg1))
      ∧ θ_run (Cert.MemTnRefIdeal.defs (F := Ideal)) (onTc (τ := Cert.MemTnRefIdeal.τ) (Cert.MemTnRefIdeal.main (F := Ideal))) ⟨m', fun _ => 0, g'⟩ (fun r => ∀ c : Dev Cert.MemTnRefIdeal.nD,
          r.2.mem ((c.tc : Thread Cert.MemTnRefIdeal.nD Cert.MemTnRefIdeal.τ).loc Cert.MemTnRefIdeal.main_v6) = v0 c
          ∧ r.2.mem ((c.tc : Thread Cert.MemTnRefIdeal.nD Cert.MemTnRefIdeal.τ).loc Cert.MemTnRefIdeal.main_arg0) = m' ((c.tc : Thread Cert.MemTnRefIdeal.nD Cert.MemTnRefIdeal.τ).loc Cert.MemTnRefIdeal.main_arg0)
          ∧ r.2.mem ((c.tc : Thread Cert.MemTnRefIdeal.nD Cert.MemTnRefIdeal.τ).loc Cert.MemTnRefIdeal.main_arg1) = m' ((c.tc : Thread Cert.MemTnRefIdeal.nD Cert.MemTnRefIdeal.τ).loc Cert.MemTnRefIdeal.main_arg1))

def preserves_MemNn_MemNnIdeal : Prop :=
  True

def algebraic_MemNnIdeal_MemNnRefIdeal [hMemNnIdeal : Cert.MemNnIdeal.Facts] [hMemNnRefIdeal : Cert.MemNnRefIdeal.Facts] : Prop :=
  ∀ (m : (ℓ : Loc Cert.MemNnIdeal.nD Cert.MemNnIdeal.τ Cert.MemNnIdeal.sig) → Buf (Elt Ideal) ℓ) (g : Dev Cert.MemNnIdeal.nD → PrngReg)
    (m' : (ℓ : Loc Cert.MemNnRefIdeal.nD Cert.MemNnRefIdeal.τ Cert.MemNnRefIdeal.sig) → Buf (Elt Ideal) ℓ) (g' : Dev Cert.MemNnRefIdeal.nD → PrngReg), Pre_MemNnIdeal m →
    (∀ c : Dev Cert.MemNnIdeal.nD,
      m' ((c.tc : Thread Cert.MemNnRefIdeal.nD Cert.MemNnRefIdeal.τ).loc Cert.MemNnRefIdeal.main_arg0) = m ((c.tc : Thread Cert.MemNnIdeal.nD Cert.MemNnIdeal.τ).loc Cert.MemNnIdeal.main_arg0)
      ∧ m' ((c.tc : Thread Cert.MemNnRefIdeal.nD Cert.MemNnRefIdeal.τ).loc Cert.MemNnRefIdeal.main_arg1) = m ((c.tc : Thread Cert.MemNnIdeal.nD Cert.MemNnIdeal.τ).loc Cert.MemNnIdeal.main_arg1)) →
    ∃ (v0 : (c : Dev Cert.MemNnIdeal.nD) → Buf (Elt Ideal) ((c.tc : Thread Cert.MemNnIdeal.nD Cert.MemNnIdeal.τ).loc Cert.MemNnIdeal.main_v3)),
      θ_run (Cert.MemNnIdeal.defs (F := Ideal)) (onTc (τ := Cert.MemNnIdeal.τ) (Cert.MemNnIdeal.main (F := Ideal))) ⟨m, fun _ => 0, g⟩ (fun r => ∀ c : Dev Cert.MemNnIdeal.nD,
          r.2.mem ((c.tc : Thread Cert.MemNnIdeal.nD Cert.MemNnIdeal.τ).loc Cert.MemNnIdeal.main_v3) = v0 c
          ∧ r.2.mem ((c.tc : Thread Cert.MemNnIdeal.nD Cert.MemNnIdeal.τ).loc Cert.MemNnIdeal.main_arg0) = m ((c.tc : Thread Cert.MemNnIdeal.nD Cert.MemNnIdeal.τ).loc Cert.MemNnIdeal.main_arg0)
          ∧ r.2.mem ((c.tc : Thread Cert.MemNnIdeal.nD Cert.MemNnIdeal.τ).loc Cert.MemNnIdeal.main_arg1) = m ((c.tc : Thread Cert.MemNnIdeal.nD Cert.MemNnIdeal.τ).loc Cert.MemNnIdeal.main_arg1))
      ∧ θ_run (Cert.MemNnRefIdeal.defs (F := Ideal)) (onTc (τ := Cert.MemNnRefIdeal.τ) (Cert.MemNnRefIdeal.main (F := Ideal))) ⟨m', fun _ => 0, g'⟩ (fun r => ∀ c : Dev Cert.MemNnRefIdeal.nD,
          r.2.mem ((c.tc : Thread Cert.MemNnRefIdeal.nD Cert.MemNnRefIdeal.τ).loc Cert.MemNnRefIdeal.main_v0) = v0 c
          ∧ r.2.mem ((c.tc : Thread Cert.MemNnRefIdeal.nD Cert.MemNnRefIdeal.τ).loc Cert.MemNnRefIdeal.main_arg0) = m' ((c.tc : Thread Cert.MemNnRefIdeal.nD Cert.MemNnRefIdeal.τ).loc Cert.MemNnRefIdeal.main_arg0)
          ∧ r.2.mem ((c.tc : Thread Cert.MemNnRefIdeal.nD Cert.MemNnRefIdeal.τ).loc Cert.MemNnRefIdeal.main_arg1) = m' ((c.tc : Thread Cert.MemNnRefIdeal.nD Cert.MemNnRefIdeal.τ).loc Cert.MemNnRefIdeal.main_arg1))

def preserves_UpNt_UpNtIdeal : Prop :=
  True

def algebraic_UpNtIdeal_UpNtRefIdeal [hUpNtIdeal : Cert.UpNtIdeal.Facts] [hUpNtRefIdeal : Cert.UpNtRefIdeal.Facts] : Prop :=
  ∀ (m : (ℓ : Loc Cert.UpNtIdeal.nD Cert.UpNtIdeal.τ Cert.UpNtIdeal.sig) → Buf (Elt Ideal) ℓ) (g : Dev Cert.UpNtIdeal.nD → PrngReg)
    (m' : (ℓ : Loc Cert.UpNtRefIdeal.nD Cert.UpNtRefIdeal.τ Cert.UpNtRefIdeal.sig) → Buf (Elt Ideal) ℓ) (g' : Dev Cert.UpNtRefIdeal.nD → PrngReg), Pre_UpNtIdeal m →
    (∀ c : Dev Cert.UpNtIdeal.nD,
      m' ((c.tc : Thread Cert.UpNtRefIdeal.nD Cert.UpNtRefIdeal.τ).loc Cert.UpNtRefIdeal.main_arg0) = m ((c.tc : Thread Cert.UpNtIdeal.nD Cert.UpNtIdeal.τ).loc Cert.UpNtIdeal.main_arg0)
      ∧ m' ((c.tc : Thread Cert.UpNtRefIdeal.nD Cert.UpNtRefIdeal.τ).loc Cert.UpNtRefIdeal.main_arg1) = m ((c.tc : Thread Cert.UpNtIdeal.nD Cert.UpNtIdeal.τ).loc Cert.UpNtIdeal.main_arg1)) →
    ∃ (v0 : (c : Dev Cert.UpNtIdeal.nD) → Buf (Elt Ideal) ((c.tc : Thread Cert.UpNtIdeal.nD Cert.UpNtIdeal.τ).loc Cert.UpNtIdeal.main_v7)),
      θ_run (Cert.UpNtIdeal.defs (F := Ideal)) (onTc (τ := Cert.UpNtIdeal.τ) (Cert.UpNtIdeal.main (F := Ideal))) ⟨m, fun _ => 0, g⟩ (fun r => ∀ c : Dev Cert.UpNtIdeal.nD,
          r.2.mem ((c.tc : Thread Cert.UpNtIdeal.nD Cert.UpNtIdeal.τ).loc Cert.UpNtIdeal.main_v7) = v0 c
          ∧ r.2.mem ((c.tc : Thread Cert.UpNtIdeal.nD Cert.UpNtIdeal.τ).loc Cert.UpNtIdeal.main_arg0) = m ((c.tc : Thread Cert.UpNtIdeal.nD Cert.UpNtIdeal.τ).loc Cert.UpNtIdeal.main_arg0)
          ∧ r.2.mem ((c.tc : Thread Cert.UpNtIdeal.nD Cert.UpNtIdeal.τ).loc Cert.UpNtIdeal.main_arg1) = m ((c.tc : Thread Cert.UpNtIdeal.nD Cert.UpNtIdeal.τ).loc Cert.UpNtIdeal.main_arg1))
      ∧ θ_run (Cert.UpNtRefIdeal.defs (F := Ideal)) (onTc (τ := Cert.UpNtRefIdeal.τ) (Cert.UpNtRefIdeal.main (F := Ideal))) ⟨m', fun _ => 0, g'⟩ (fun r => ∀ c : Dev Cert.UpNtRefIdeal.nD,
          r.2.mem ((c.tc : Thread Cert.UpNtRefIdeal.nD Cert.UpNtRefIdeal.τ).loc Cert.UpNtRefIdeal.main_v2) = v0 c
          ∧ r.2.mem ((c.tc : Thread Cert.UpNtRefIdeal.nD Cert.UpNtRefIdeal.τ).loc Cert.UpNtRefIdeal.main_arg0) = m' ((c.tc : Thread Cert.UpNtRefIdeal.nD Cert.UpNtRefIdeal.τ).loc Cert.UpNtRefIdeal.main_arg0)
          ∧ r.2.mem ((c.tc : Thread Cert.UpNtRefIdeal.nD Cert.UpNtRefIdeal.τ).loc Cert.UpNtRefIdeal.main_arg1) = m' ((c.tc : Thread Cert.UpNtRefIdeal.nD Cert.UpNtRefIdeal.τ).loc Cert.UpNtRefIdeal.main_arg1))

def preserves_UpTn_UpTnIdeal : Prop :=
  True

def algebraic_UpTnIdeal_UpTnRefIdeal [hUpTnIdeal : Cert.UpTnIdeal.Facts] [hUpTnRefIdeal : Cert.UpTnRefIdeal.Facts] : Prop :=
  ∀ (m : (ℓ : Loc Cert.UpTnIdeal.nD Cert.UpTnIdeal.τ Cert.UpTnIdeal.sig) → Buf (Elt Ideal) ℓ) (g : Dev Cert.UpTnIdeal.nD → PrngReg)
    (m' : (ℓ : Loc Cert.UpTnRefIdeal.nD Cert.UpTnRefIdeal.τ Cert.UpTnRefIdeal.sig) → Buf (Elt Ideal) ℓ) (g' : Dev Cert.UpTnRefIdeal.nD → PrngReg), Pre_UpTnIdeal m →
    (∀ c : Dev Cert.UpTnIdeal.nD,
      m' ((c.tc : Thread Cert.UpTnRefIdeal.nD Cert.UpTnRefIdeal.τ).loc Cert.UpTnRefIdeal.main_arg0) = m ((c.tc : Thread Cert.UpTnIdeal.nD Cert.UpTnIdeal.τ).loc Cert.UpTnIdeal.main_arg0)
      ∧ m' ((c.tc : Thread Cert.UpTnRefIdeal.nD Cert.UpTnRefIdeal.τ).loc Cert.UpTnRefIdeal.main_arg1) = m ((c.tc : Thread Cert.UpTnIdeal.nD Cert.UpTnIdeal.τ).loc Cert.UpTnIdeal.main_arg1)) →
    ∃ (v0 : (c : Dev Cert.UpTnIdeal.nD) → Buf (Elt Ideal) ((c.tc : Thread Cert.UpTnIdeal.nD Cert.UpTnIdeal.τ).loc Cert.UpTnIdeal.main_v6)),
      θ_run (Cert.UpTnIdeal.defs (F := Ideal)) (onTc (τ := Cert.UpTnIdeal.τ) (Cert.UpTnIdeal.main (F := Ideal))) ⟨m, fun _ => 0, g⟩ (fun r => ∀ c : Dev Cert.UpTnIdeal.nD,
          r.2.mem ((c.tc : Thread Cert.UpTnIdeal.nD Cert.UpTnIdeal.τ).loc Cert.UpTnIdeal.main_v6) = v0 c
          ∧ r.2.mem ((c.tc : Thread Cert.UpTnIdeal.nD Cert.UpTnIdeal.τ).loc Cert.UpTnIdeal.main_arg0) = m ((c.tc : Thread Cert.UpTnIdeal.nD Cert.UpTnIdeal.τ).loc Cert.UpTnIdeal.main_arg0)
          ∧ r.2.mem ((c.tc : Thread Cert.UpTnIdeal.nD Cert.UpTnIdeal.τ).loc Cert.UpTnIdeal.main_arg1) = m ((c.tc : Thread Cert.UpTnIdeal.nD Cert.UpTnIdeal.τ).loc Cert.UpTnIdeal.main_arg1))
      ∧ θ_run (Cert.UpTnRefIdeal.defs (F := Ideal)) (onTc (τ := Cert.UpTnRefIdeal.τ) (Cert.UpTnRefIdeal.main (F := Ideal))) ⟨m', fun _ => 0, g'⟩ (fun r => ∀ c : Dev Cert.UpTnRefIdeal.nD,
          r.2.mem ((c.tc : Thread Cert.UpTnRefIdeal.nD Cert.UpTnRefIdeal.τ).loc Cert.UpTnRefIdeal.main_v6) = v0 c
          ∧ r.2.mem ((c.tc : Thread Cert.UpTnRefIdeal.nD Cert.UpTnRefIdeal.τ).loc Cert.UpTnRefIdeal.main_arg0) = m' ((c.tc : Thread Cert.UpTnRefIdeal.nD Cert.UpTnRefIdeal.τ).loc Cert.UpTnRefIdeal.main_arg0)
          ∧ r.2.mem ((c.tc : Thread Cert.UpTnRefIdeal.nD Cert.UpTnRefIdeal.τ).loc Cert.UpTnRefIdeal.main_arg1) = m' ((c.tc : Thread Cert.UpTnRefIdeal.nD Cert.UpTnRefIdeal.τ).loc Cert.UpTnRefIdeal.main_arg1))

def preserves_UpNn_UpNnIdeal : Prop :=
  True

def algebraic_UpNnIdeal_UpNnRefIdeal [hUpNnIdeal : Cert.UpNnIdeal.Facts] [hUpNnRefIdeal : Cert.UpNnRefIdeal.Facts] : Prop :=
  ∀ (m : (ℓ : Loc Cert.UpNnIdeal.nD Cert.UpNnIdeal.τ Cert.UpNnIdeal.sig) → Buf (Elt Ideal) ℓ) (g : Dev Cert.UpNnIdeal.nD → PrngReg)
    (m' : (ℓ : Loc Cert.UpNnRefIdeal.nD Cert.UpNnRefIdeal.τ Cert.UpNnRefIdeal.sig) → Buf (Elt Ideal) ℓ) (g' : Dev Cert.UpNnRefIdeal.nD → PrngReg), Pre_UpNnIdeal m →
    (∀ c : Dev Cert.UpNnIdeal.nD,
      m' ((c.tc : Thread Cert.UpNnRefIdeal.nD Cert.UpNnRefIdeal.τ).loc Cert.UpNnRefIdeal.main_arg0) = m ((c.tc : Thread Cert.UpNnIdeal.nD Cert.UpNnIdeal.τ).loc Cert.UpNnIdeal.main_arg0)
      ∧ m' ((c.tc : Thread Cert.UpNnRefIdeal.nD Cert.UpNnRefIdeal.τ).loc Cert.UpNnRefIdeal.main_arg1) = m ((c.tc : Thread Cert.UpNnIdeal.nD Cert.UpNnIdeal.τ).loc Cert.UpNnIdeal.main_arg1)) →
    ∃ (v0 : (c : Dev Cert.UpNnIdeal.nD) → Buf (Elt Ideal) ((c.tc : Thread Cert.UpNnIdeal.nD Cert.UpNnIdeal.τ).loc Cert.UpNnIdeal.main_v4)),
      θ_run (Cert.UpNnIdeal.defs (F := Ideal)) (onTc (τ := Cert.UpNnIdeal.τ) (Cert.UpNnIdeal.main (F := Ideal))) ⟨m, fun _ => 0, g⟩ (fun r => ∀ c : Dev Cert.UpNnIdeal.nD,
          r.2.mem ((c.tc : Thread Cert.UpNnIdeal.nD Cert.UpNnIdeal.τ).loc Cert.UpNnIdeal.main_v4) = v0 c
          ∧ r.2.mem ((c.tc : Thread Cert.UpNnIdeal.nD Cert.UpNnIdeal.τ).loc Cert.UpNnIdeal.main_arg0) = m ((c.tc : Thread Cert.UpNnIdeal.nD Cert.UpNnIdeal.τ).loc Cert.UpNnIdeal.main_arg0)
          ∧ r.2.mem ((c.tc : Thread Cert.UpNnIdeal.nD Cert.UpNnIdeal.τ).loc Cert.UpNnIdeal.main_arg1) = m ((c.tc : Thread Cert.UpNnIdeal.nD Cert.UpNnIdeal.τ).loc Cert.UpNnIdeal.main_arg1))
      ∧ θ_run (Cert.UpNnRefIdeal.defs (F := Ideal)) (onTc (τ := Cert.UpNnRefIdeal.τ) (Cert.UpNnRefIdeal.main (F := Ideal))) ⟨m', fun _ => 0, g'⟩ (fun r => ∀ c : Dev Cert.UpNnRefIdeal.nD,
          r.2.mem ((c.tc : Thread Cert.UpNnRefIdeal.nD Cert.UpNnRefIdeal.τ).loc Cert.UpNnRefIdeal.main_v3) = v0 c
          ∧ r.2.mem ((c.tc : Thread Cert.UpNnRefIdeal.nD Cert.UpNnRefIdeal.τ).loc Cert.UpNnRefIdeal.main_arg0) = m' ((c.tc : Thread Cert.UpNnRefIdeal.nD Cert.UpNnRefIdeal.τ).loc Cert.UpNnRefIdeal.main_arg0)
          ∧ r.2.mem ((c.tc : Thread Cert.UpNnRefIdeal.nD Cert.UpNnRefIdeal.τ).loc Cert.UpNnRefIdeal.main_arg1) = m' ((c.tc : Thread Cert.UpNnRefIdeal.nD Cert.UpNnRefIdeal.τ).loc Cert.UpNnRefIdeal.main_arg1))

def preserves_DownNt_DownNtIdeal : Prop :=
  True

def algebraic_DownNtIdeal_DownNtRefIdeal [hDownNtIdeal : Cert.DownNtIdeal.Facts] [hDownNtRefIdeal : Cert.DownNtRefIdeal.Facts] : Prop :=
  ∀ (m : (ℓ : Loc Cert.DownNtIdeal.nD Cert.DownNtIdeal.τ Cert.DownNtIdeal.sig) → Buf (Elt Ideal) ℓ) (g : Dev Cert.DownNtIdeal.nD → PrngReg)
    (m' : (ℓ : Loc Cert.DownNtRefIdeal.nD Cert.DownNtRefIdeal.τ Cert.DownNtRefIdeal.sig) → Buf (Elt Ideal) ℓ) (g' : Dev Cert.DownNtRefIdeal.nD → PrngReg), Pre_DownNtIdeal m →
    (∀ c : Dev Cert.DownNtIdeal.nD,
      m' ((c.tc : Thread Cert.DownNtRefIdeal.nD Cert.DownNtRefIdeal.τ).loc Cert.DownNtRefIdeal.main_arg0) = m ((c.tc : Thread Cert.DownNtIdeal.nD Cert.DownNtIdeal.τ).loc Cert.DownNtIdeal.main_arg0)
      ∧ m' ((c.tc : Thread Cert.DownNtRefIdeal.nD Cert.DownNtRefIdeal.τ).loc Cert.DownNtRefIdeal.main_arg1) = m ((c.tc : Thread Cert.DownNtIdeal.nD Cert.DownNtIdeal.τ).loc Cert.DownNtIdeal.main_arg1)) →
    ∃ (v0 : (c : Dev Cert.DownNtIdeal.nD) → Buf (Elt Ideal) ((c.tc : Thread Cert.DownNtIdeal.nD Cert.DownNtIdeal.τ).loc Cert.DownNtIdeal.main_v3)),
      θ_run (Cert.DownNtIdeal.defs (F := Ideal)) (onTc (τ := Cert.DownNtIdeal.τ) (Cert.DownNtIdeal.main (F := Ideal))) ⟨m, fun _ => 0, g⟩ (fun r => ∀ c : Dev Cert.DownNtIdeal.nD,
          r.2.mem ((c.tc : Thread Cert.DownNtIdeal.nD Cert.DownNtIdeal.τ).loc Cert.DownNtIdeal.main_v3) = v0 c
          ∧ r.2.mem ((c.tc : Thread Cert.DownNtIdeal.nD Cert.DownNtIdeal.τ).loc Cert.DownNtIdeal.main_arg0) = m ((c.tc : Thread Cert.DownNtIdeal.nD Cert.DownNtIdeal.τ).loc Cert.DownNtIdeal.main_arg0)
          ∧ r.2.mem ((c.tc : Thread Cert.DownNtIdeal.nD Cert.DownNtIdeal.τ).loc Cert.DownNtIdeal.main_arg1) = m ((c.tc : Thread Cert.DownNtIdeal.nD Cert.DownNtIdeal.τ).loc Cert.DownNtIdeal.main_arg1))
      ∧ θ_run (Cert.DownNtRefIdeal.defs (F := Ideal)) (onTc (τ := Cert.DownNtRefIdeal.τ) (Cert.DownNtRefIdeal.main (F := Ideal))) ⟨m', fun _ => 0, g'⟩ (fun r => ∀ c : Dev Cert.DownNtRefIdeal.nD,
          r.2.mem ((c.tc : Thread Cert.DownNtRefIdeal.nD Cert.DownNtRefIdeal.τ).loc Cert.DownNtRefIdeal.main_v2) = v0 c
          ∧ r.2.mem ((c.tc : Thread Cert.DownNtRefIdeal.nD Cert.DownNtRefIdeal.τ).loc Cert.DownNtRefIdeal.main_arg0) = m' ((c.tc : Thread Cert.DownNtRefIdeal.nD Cert.DownNtRefIdeal.τ).loc Cert.DownNtRefIdeal.main_arg0)
          ∧ r.2.mem ((c.tc : Thread Cert.DownNtRefIdeal.nD Cert.DownNtRefIdeal.τ).loc Cert.DownNtRefIdeal.main_arg1) = m' ((c.tc : Thread Cert.DownNtRefIdeal.nD Cert.DownNtRefIdeal.τ).loc Cert.DownNtRefIdeal.main_arg1))

def preserves_DownTn_DownTnIdeal : Prop :=
  True

def algebraic_DownTnIdeal_DownTnRefIdeal [hDownTnIdeal : Cert.DownTnIdeal.Facts] [hDownTnRefIdeal : Cert.DownTnRefIdeal.Facts] : Prop :=
  ∀ (m : (ℓ : Loc Cert.DownTnIdeal.nD Cert.DownTnIdeal.τ Cert.DownTnIdeal.sig) → Buf (Elt Ideal) ℓ) (g : Dev Cert.DownTnIdeal.nD → PrngReg)
    (m' : (ℓ : Loc Cert.DownTnRefIdeal.nD Cert.DownTnRefIdeal.τ Cert.DownTnRefIdeal.sig) → Buf (Elt Ideal) ℓ) (g' : Dev Cert.DownTnRefIdeal.nD → PrngReg), Pre_DownTnIdeal m →
    (∀ c : Dev Cert.DownTnIdeal.nD,
      m' ((c.tc : Thread Cert.DownTnRefIdeal.nD Cert.DownTnRefIdeal.τ).loc Cert.DownTnRefIdeal.main_arg0) = m ((c.tc : Thread Cert.DownTnIdeal.nD Cert.DownTnIdeal.τ).loc Cert.DownTnIdeal.main_arg0)
      ∧ m' ((c.tc : Thread Cert.DownTnRefIdeal.nD Cert.DownTnRefIdeal.τ).loc Cert.DownTnRefIdeal.main_arg1) = m ((c.tc : Thread Cert.DownTnIdeal.nD Cert.DownTnIdeal.τ).loc Cert.DownTnIdeal.main_arg1)) →
    ∃ (v0 : (c : Dev Cert.DownTnIdeal.nD) → Buf (Elt Ideal) ((c.tc : Thread Cert.DownTnIdeal.nD Cert.DownTnIdeal.τ).loc Cert.DownTnIdeal.main_v3)),
      θ_run (Cert.DownTnIdeal.defs (F := Ideal)) (onTc (τ := Cert.DownTnIdeal.τ) (Cert.DownTnIdeal.main (F := Ideal))) ⟨m, fun _ => 0, g⟩ (fun r => ∀ c : Dev Cert.DownTnIdeal.nD,
          r.2.mem ((c.tc : Thread Cert.DownTnIdeal.nD Cert.DownTnIdeal.τ).loc Cert.DownTnIdeal.main_v3) = v0 c
          ∧ r.2.mem ((c.tc : Thread Cert.DownTnIdeal.nD Cert.DownTnIdeal.τ).loc Cert.DownTnIdeal.main_arg0) = m ((c.tc : Thread Cert.DownTnIdeal.nD Cert.DownTnIdeal.τ).loc Cert.DownTnIdeal.main_arg0)
          ∧ r.2.mem ((c.tc : Thread Cert.DownTnIdeal.nD Cert.DownTnIdeal.τ).loc Cert.DownTnIdeal.main_arg1) = m ((c.tc : Thread Cert.DownTnIdeal.nD Cert.DownTnIdeal.τ).loc Cert.DownTnIdeal.main_arg1))
      ∧ θ_run (Cert.DownTnRefIdeal.defs (F := Ideal)) (onTc (τ := Cert.DownTnRefIdeal.τ) (Cert.DownTnRefIdeal.main (F := Ideal))) ⟨m', fun _ => 0, g'⟩ (fun r => ∀ c : Dev Cert.DownTnRefIdeal.nD,
          r.2.mem ((c.tc : Thread Cert.DownTnRefIdeal.nD Cert.DownTnRefIdeal.τ).loc Cert.DownTnRefIdeal.main_v6) = v0 c
          ∧ r.2.mem ((c.tc : Thread Cert.DownTnRefIdeal.nD Cert.DownTnRefIdeal.τ).loc Cert.DownTnRefIdeal.main_arg0) = m' ((c.tc : Thread Cert.DownTnRefIdeal.nD Cert.DownTnRefIdeal.τ).loc Cert.DownTnRefIdeal.main_arg0)
          ∧ r.2.mem ((c.tc : Thread Cert.DownTnRefIdeal.nD Cert.DownTnRefIdeal.τ).loc Cert.DownTnRefIdeal.main_arg1) = m' ((c.tc : Thread Cert.DownTnRefIdeal.nD Cert.DownTnRefIdeal.τ).loc Cert.DownTnRefIdeal.main_arg1))

def preserves_DownRes_DownResIdeal : Prop :=
  True

def algebraic_DownResIdeal_DownResRefIdeal [hDownResIdeal : Cert.DownResIdeal.Facts] [hDownResRefIdeal : Cert.DownResRefIdeal.Facts] : Prop :=
  ∀ (m : (ℓ : Loc Cert.DownResIdeal.nD Cert.DownResIdeal.τ Cert.DownResIdeal.sig) → Buf (Elt Ideal) ℓ) (g : Dev Cert.DownResIdeal.nD → PrngReg)
    (m' : (ℓ : Loc Cert.DownResRefIdeal.nD Cert.DownResRefIdeal.τ Cert.DownResRefIdeal.sig) → Buf (Elt Ideal) ℓ) (g' : Dev Cert.DownResRefIdeal.nD → PrngReg), Pre_DownResIdeal m →
    (∀ c : Dev Cert.DownResIdeal.nD,
      m' ((c.tc : Thread Cert.DownResRefIdeal.nD Cert.DownResRefIdeal.τ).loc Cert.DownResRefIdeal.main_arg0) = m ((c.tc : Thread Cert.DownResIdeal.nD Cert.DownResIdeal.τ).loc Cert.DownResIdeal.main_arg0)
      ∧ m' ((c.tc : Thread Cert.DownResRefIdeal.nD Cert.DownResRefIdeal.τ).loc Cert.DownResRefIdeal.main_arg1) = m ((c.tc : Thread Cert.DownResIdeal.nD Cert.DownResIdeal.τ).loc Cert.DownResIdeal.main_arg1)
      ∧ m' ((c.tc : Thread Cert.DownResRefIdeal.nD Cert.DownResRefIdeal.τ).loc Cert.DownResRefIdeal.main_arg2) = m ((c.tc : Thread Cert.DownResIdeal.nD Cert.DownResIdeal.τ).loc Cert.DownResIdeal.main_arg2)) →
    ∃ (v0 : (c : Dev Cert.DownResIdeal.nD) → Buf (Elt Ideal) ((c.tc : Thread Cert.DownResIdeal.nD Cert.DownResIdeal.τ).loc Cert.DownResIdeal.main_v3)),
      θ_run (Cert.DownResIdeal.defs (F := Ideal)) (onTc (τ := Cert.DownResIdeal.τ) (Cert.DownResIdeal.main (F := Ideal))) ⟨m, fun _ => 0, g⟩ (fun r => ∀ c : Dev Cert.DownResIdeal.nD,
          r.2.mem ((c.tc : Thread Cert.DownResIdeal.nD Cert.DownResIdeal.τ).loc Cert.DownResIdeal.main_v3) = v0 c
          ∧ r.2.mem ((c.tc : Thread Cert.DownResIdeal.nD Cert.DownResIdeal.τ).loc Cert.DownResIdeal.main_arg0) = m ((c.tc : Thread Cert.DownResIdeal.nD Cert.DownResIdeal.τ).loc Cert.DownResIdeal.main_arg0)
          ∧ r.2.mem ((c.tc : Thread Cert.DownResIdeal.nD Cert.DownResIdeal.τ).loc Cert.DownResIdeal.main_arg1) = m ((c.tc : Thread Cert.DownResIdeal.nD Cert.DownResIdeal.τ).loc Cert.DownResIdeal.main_arg1)
          ∧ r.2.mem ((c.tc : Thread Cert.DownResIdeal.nD Cert.DownResIdeal.τ).loc Cert.DownResIdeal.main_arg2) = m ((c.tc : Thread Cert.DownResIdeal.nD Cert.DownResIdeal.τ).loc Cert.DownResIdeal.main_arg2))
      ∧ θ_run (Cert.DownResRefIdeal.defs (F := Ideal)) (onTc (τ := Cert.DownResRefIdeal.τ) (Cert.DownResRefIdeal.main (F := Ideal))) ⟨m', fun _ => 0, g'⟩ (fun r => ∀ c : Dev Cert.DownResRefIdeal.nD,
          r.2.mem ((c.tc : Thread Cert.DownResRefIdeal.nD Cert.DownResRefIdeal.τ).loc Cert.DownResRefIdeal.main_v1) = v0 c
          ∧ r.2.mem ((c.tc : Thread Cert.DownResRefIdeal.nD Cert.DownResRefIdeal.τ).loc Cert.DownResRefIdeal.main_arg0) = m' ((c.tc : Thread Cert.DownResRefIdeal.nD Cert.DownResRefIdeal.τ).loc Cert.DownResRefIdeal.main_arg0)
          ∧ r.2.mem ((c.tc : Thread Cert.DownResRefIdeal.nD Cert.DownResRefIdeal.τ).loc Cert.DownResRefIdeal.main_arg1) = m' ((c.tc : Thread Cert.DownResRefIdeal.nD Cert.DownResRefIdeal.τ).loc Cert.DownResRefIdeal.main_arg1)
          ∧ r.2.mem ((c.tc : Thread Cert.DownResRefIdeal.nD Cert.DownResRefIdeal.τ).loc Cert.DownResRefIdeal.main_arg2) = m' ((c.tc : Thread Cert.DownResRefIdeal.nD Cert.DownResRefIdeal.τ).loc Cert.DownResRefIdeal.main_arg2))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamPacked_AdamPackedIdeal : Prop :=
  IdealRules.named_const.Statement Cert.AdamPackedIdeal.κ "c1" .f32 0x3FC48605#32 ((8388608 / 5463681 : ℝ) : EReal)
  ∧ IdealRules.named_const.Statement Cert.AdamPackedIdeal.κ "c2" .f32 0x42C8E6D3#32 ((268435456 / 2672307 : ℝ) : EReal)

def algebraic_AdamPackedIdeal_AdamPackedRefIdeal [hAdamPackedIdeal : Cert.AdamPackedIdeal.Facts] [hAdamPackedRefIdeal : Cert.AdamPackedRefIdeal.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg)
    (m' : (ℓ : Loc Cert.AdamPackedRefIdeal.nD Cert.AdamPackedRefIdeal.τ Cert.AdamPackedRefIdeal.sig) → Buf (Elt Ideal) ℓ) (g' : Dev Cert.AdamPackedRefIdeal.nD → PrngReg), Pre_AdamPackedIdeal m →
    (∀ c : Dev Cert.AdamPackedIdeal.nD,
      m' ((c.tc : Thread Cert.AdamPackedRefIdeal.nD Cert.AdamPackedRefIdeal.τ).loc Cert.AdamPackedRefIdeal.main_arg0) = m ((c.tc : Thread Cert.AdamPackedIdeal.nD Cert.AdamPackedIdeal.τ).loc Cert.AdamPackedIdeal.main_arg0)
      ∧ m' ((c.tc : Thread Cert.AdamPackedRefIdeal.nD Cert.AdamPackedRefIdeal.τ).loc Cert.AdamPackedRefIdeal.main_arg1) = m ((c.tc : Thread Cert.AdamPackedIdeal.nD Cert.AdamPackedIdeal.τ).loc Cert.AdamPackedIdeal.main_arg1)
      ∧ m' ((c.tc : Thread Cert.AdamPackedRefIdeal.nD Cert.AdamPackedRefIdeal.τ).loc Cert.AdamPackedRefIdeal.main_arg2) = m ((c.tc : Thread Cert.AdamPackedIdeal.nD Cert.AdamPackedIdeal.τ).loc Cert.AdamPackedIdeal.main_arg2)
      ∧ m' ((c.tc : Thread Cert.AdamPackedRefIdeal.nD Cert.AdamPackedRefIdeal.τ).loc Cert.AdamPackedRefIdeal.main_arg3) = m ((c.tc : Thread Cert.AdamPackedIdeal.nD Cert.AdamPackedIdeal.τ).loc Cert.AdamPackedIdeal.main_arg3)) →
    ∃ (v0 : (c : Dev Cert.AdamPackedIdeal.nD) → Buf (Elt Ideal) ((c.tc : Thread Cert.AdamPackedIdeal.nD Cert.AdamPackedIdeal.τ).loc Cert.AdamPackedIdeal.main_v0_0)) (v1 : (c : Dev Cert.AdamPackedIdeal.nD) → Buf (Elt Ideal) ((c.tc : Thread Cert.AdamPackedIdeal.nD Cert.AdamPackedIdeal.τ).loc Cert.AdamPackedIdeal.main_v0_1)) (v2 : (c : Dev Cert.AdamPackedIdeal.nD) → Buf (Elt Ideal) ((c.tc : Thread Cert.AdamPackedIdeal.nD Cert.AdamPackedIdeal.τ).loc Cert.AdamPackedIdeal.main_v0_2)),
      θ_run (Cert.AdamPackedIdeal.defs (F := Ideal)) (onTc (τ := Cert.AdamPackedIdeal.τ) (Cert.AdamPackedIdeal.main (F := Ideal))) ⟨m, fun _ => 0, g⟩ (fun r => ∀ c : Dev Cert.AdamPackedIdeal.nD,
          r.2.mem ((c.tc : Thread Cert.AdamPackedIdeal.nD Cert.AdamPackedIdeal.τ).loc Cert.AdamPackedIdeal.main_v0_0) = v0 c
          ∧ r.2.mem ((c.tc : Thread Cert.AdamPackedIdeal.nD Cert.AdamPackedIdeal.τ).loc Cert.AdamPackedIdeal.main_v0_1) = v1 c
          ∧ r.2.mem ((c.tc : Thread Cert.AdamPackedIdeal.nD Cert.AdamPackedIdeal.τ).loc Cert.AdamPackedIdeal.main_v0_2) = v2 c
          ∧ r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
          ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
          ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
          ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3))
      ∧ θ_run (Cert.AdamPackedRefIdeal.defs (F := Ideal)) (onTc (τ := Cert.AdamPackedRefIdeal.τ) (Cert.AdamPackedRefIdeal.main (F := Ideal))) ⟨m', fun _ => 0, g'⟩ (fun r => ∀ c : Dev Cert.AdamPackedRefIdeal.nD,
          r.2.mem ((c.tc : Thread Cert.AdamPackedRefIdeal.nD Cert.AdamPackedRefIdeal.τ).loc Cert.AdamPackedRefIdeal.main_v23) = v0 c
          ∧ r.2.mem ((c.tc : Thread Cert.AdamPackedRefIdeal.nD Cert.AdamPackedRefIdeal.τ).loc Cert.AdamPackedRefIdeal.main_v4) = v1 c
          ∧ r.2.mem ((c.tc : Thread Cert.AdamPackedRefIdeal.nD Cert.AdamPackedRefIdeal.τ).loc Cert.AdamPackedRefIdeal.main_v10) = v2 c
          ∧ r.2.mem ((c.tc : Thread Cert.AdamPackedRefIdeal.nD Cert.AdamPackedRefIdeal.τ).loc Cert.AdamPackedRefIdeal.main_arg0) = m' ((c.tc : Thread Cert.AdamPackedRefIdeal.nD Cert.AdamPackedRefIdeal.τ).loc Cert.AdamPackedRefIdeal.main_arg0)
          ∧ r.2.mem ((c.tc : Thread Cert.AdamPackedRefIdeal.nD Cert.AdamPackedRefIdeal.τ).loc Cert.AdamPackedRefIdeal.main_arg1) = m' ((c.tc : Thread Cert.AdamPackedRefIdeal.nD Cert.AdamPackedRefIdeal.τ).loc Cert.AdamPackedRefIdeal.main_arg1)
          ∧ r.2.mem ((c.tc : Thread Cert.AdamPackedRefIdeal.nD Cert.AdamPackedRefIdeal.τ).loc Cert.AdamPackedRefIdeal.main_arg2) = m' ((c.tc : Thread Cert.AdamPackedRefIdeal.nD Cert.AdamPackedRefIdeal.τ).loc Cert.AdamPackedRefIdeal.main_arg2)
          ∧ r.2.mem ((c.tc : Thread Cert.AdamPackedRefIdeal.nD Cert.AdamPackedRefIdeal.τ).loc Cert.AdamPackedRefIdeal.main_arg3) = m' ((c.tc : Thread Cert.AdamPackedRefIdeal.nD Cert.AdamPackedRefIdeal.τ).loc Cert.AdamPackedRefIdeal.main_arg3))

def preserves_AdamQb_AdamQbIdeal : Prop :=
  IdealRules.named_const.Statement Cert.AdamQbIdeal.κ "c1" .f32 0x3FC48605#32 ((8388608 / 5463681 : ℝ) : EReal)
  ∧ IdealRules.named_const.Statement Cert.AdamQbIdeal.κ "c2" .f32 0x42C8E6D3#32 ((268435456 / 2672307 : ℝ) : EReal)

def algebraic_AdamQbIdeal_AdamQbRefIdeal [hAdamQbIdeal : Cert.AdamQbIdeal.Facts] [hAdamQbRefIdeal : Cert.AdamQbRefIdeal.Facts] : Prop :=
  ∀ (m : (ℓ : Loc Cert.AdamQbIdeal.nD Cert.AdamQbIdeal.τ Cert.AdamQbIdeal.sig) → Buf (Elt Ideal) ℓ) (g : Dev Cert.AdamQbIdeal.nD → PrngReg)
    (m' : (ℓ : Loc Cert.AdamQbRefIdeal.nD Cert.AdamQbRefIdeal.τ Cert.AdamQbRefIdeal.sig) → Buf (Elt Ideal) ℓ) (g' : Dev Cert.AdamQbRefIdeal.nD → PrngReg), Pre_AdamQbIdeal m →
    (∀ c : Dev Cert.AdamQbIdeal.nD,
      m' ((c.tc : Thread Cert.AdamQbRefIdeal.nD Cert.AdamQbRefIdeal.τ).loc Cert.AdamQbRefIdeal.main_arg0) = m ((c.tc : Thread Cert.AdamQbIdeal.nD Cert.AdamQbIdeal.τ).loc Cert.AdamQbIdeal.main_arg0)
      ∧ m' ((c.tc : Thread Cert.AdamQbRefIdeal.nD Cert.AdamQbRefIdeal.τ).loc Cert.AdamQbRefIdeal.main_arg1) = m ((c.tc : Thread Cert.AdamQbIdeal.nD Cert.AdamQbIdeal.τ).loc Cert.AdamQbIdeal.main_arg1)
      ∧ m' ((c.tc : Thread Cert.AdamQbRefIdeal.nD Cert.AdamQbRefIdeal.τ).loc Cert.AdamQbRefIdeal.main_arg2) = m ((c.tc : Thread Cert.AdamQbIdeal.nD Cert.AdamQbIdeal.τ).loc Cert.AdamQbIdeal.main_arg2)
      ∧ m' ((c.tc : Thread Cert.AdamQbRefIdeal.nD Cert.AdamQbRefIdeal.τ).loc Cert.AdamQbRefIdeal.main_arg3) = m ((c.tc : Thread Cert.AdamQbIdeal.nD Cert.AdamQbIdeal.τ).loc Cert.AdamQbIdeal.main_arg3)
      ∧ m' ((c.tc : Thread Cert.AdamQbRefIdeal.nD Cert.AdamQbRefIdeal.τ).loc Cert.AdamQbRefIdeal.main_arg4) = m ((c.tc : Thread Cert.AdamQbIdeal.nD Cert.AdamQbIdeal.τ).loc Cert.AdamQbIdeal.main_arg4)
      ∧ m' ((c.tc : Thread Cert.AdamQbRefIdeal.nD Cert.AdamQbRefIdeal.τ).loc Cert.AdamQbRefIdeal.main_arg5) = m ((c.tc : Thread Cert.AdamQbIdeal.nD Cert.AdamQbIdeal.τ).loc Cert.AdamQbIdeal.main_arg5)) →
    ∃ (v0 : (c : Dev Cert.AdamQbIdeal.nD) → Buf (Elt Ideal) ((c.tc : Thread Cert.AdamQbIdeal.nD Cert.AdamQbIdeal.τ).loc Cert.AdamQbIdeal.main_v0_0)) (v1 : (c : Dev Cert.AdamQbIdeal.nD) → Buf (Elt Ideal) ((c.tc : Thread Cert.AdamQbIdeal.nD Cert.AdamQbIdeal.τ).loc Cert.AdamQbIdeal.main_v0_1)) (v2 : (c : Dev Cert.AdamQbIdeal.nD) → Buf (Elt Ideal) ((c.tc : Thread Cert.AdamQbIdeal.nD Cert.AdamQbIdeal.τ).loc Cert.AdamQbIdeal.main_v0_2)) (v3 : (c : Dev Cert.AdamQbIdeal.nD) → Buf (Elt Ideal) ((c.tc : Thread Cert.AdamQbIdeal.nD Cert.AdamQbIdeal.τ).loc Cert.AdamQbIdeal.main_v0_3)),
      θ_run (Cert.AdamQbIdeal.defs (F := Ideal)) (onTc (τ := Cert.AdamQbIdeal.τ) (Cert.AdamQbIdeal.main (F := Ideal))) ⟨m, fun _ => 0, g⟩ (fun r => ∀ c : Dev Cert.AdamQbIdeal.nD,
          r.2.mem ((c.tc : Thread Cert.AdamQbIdeal.nD Cert.AdamQbIdeal.τ).loc Cert.AdamQbIdeal.main_v0_0) = v0 c
          ∧ r.2.mem ((c.tc : Thread Cert.AdamQbIdeal.nD Cert.AdamQbIdeal.τ).loc Cert.AdamQbIdeal.main_v0_1) = v1 c
          ∧ r.2.mem ((c.tc : Thread Cert.AdamQbIdeal.nD Cert.AdamQbIdeal.τ).loc Cert.AdamQbIdeal.main_v0_2) = v2 c
          ∧ r.2.mem ((c.tc : Thread Cert.AdamQbIdeal.nD Cert.AdamQbIdeal.τ).loc Cert.AdamQbIdeal.main_v0_3) = v3 c
          ∧ r.2.mem ((c.tc : Thread Cert.AdamQbIdeal.nD Cert.AdamQbIdeal.τ).loc Cert.AdamQbIdeal.main_arg0) = m ((c.tc : Thread Cert.AdamQbIdeal.nD Cert.AdamQbIdeal.τ).loc Cert.AdamQbIdeal.main_arg0)
          ∧ r.2.mem ((c.tc : Thread Cert.AdamQbIdeal.nD Cert.AdamQbIdeal.τ).loc Cert.AdamQbIdeal.main_arg1) = m ((c.tc : Thread Cert.AdamQbIdeal.nD Cert.AdamQbIdeal.τ).loc Cert.AdamQbIdeal.main_arg1)
          ∧ r.2.mem ((c.tc : Thread Cert.AdamQbIdeal.nD Cert.AdamQbIdeal.τ).loc Cert.AdamQbIdeal.main_arg2) = m ((c.tc : Thread Cert.AdamQbIdeal.nD Cert.AdamQbIdeal.τ).loc Cert.AdamQbIdeal.main_arg2)
          ∧ r.2.mem ((c.tc : Thread Cert.AdamQbIdeal.nD Cert.AdamQbIdeal.τ).loc Cert.AdamQbIdeal.main_arg3) = m ((c.tc : Thread Cert.AdamQbIdeal.nD Cert.AdamQbIdeal.τ).loc Cert.AdamQbIdeal.main_arg3)
          ∧ r.2.mem ((c.tc : Thread Cert.AdamQbIdeal.nD Cert.AdamQbIdeal.τ).loc Cert.AdamQbIdeal.main_arg4) = m ((c.tc : Thread Cert.AdamQbIdeal.nD Cert.AdamQbIdeal.τ).loc Cert.AdamQbIdeal.main_arg4)
          ∧ r.2.mem ((c.tc : Thread Cert.AdamQbIdeal.nD Cert.AdamQbIdeal.τ).loc Cert.AdamQbIdeal.main_arg5) = m ((c.tc : Thread Cert.AdamQbIdeal.nD Cert.AdamQbIdeal.τ).loc Cert.AdamQbIdeal.main_arg5))
      ∧ θ_run (Cert.AdamQbRefIdeal.defs (F := Ideal)) (onTc (τ := Cert.AdamQbRefIdeal.τ) (Cert.AdamQbRefIdeal.main (F := Ideal))) ⟨m', fun _ => 0, g'⟩ (fun r => ∀ c : Dev Cert.AdamQbRefIdeal.nD,
          r.2.mem ((c.tc : Thread Cert.AdamQbRefIdeal.nD Cert.AdamQbRefIdeal.τ).loc Cert.AdamQbRefIdeal.main_v6) = v0 c
          ∧ r.2.mem ((c.tc : Thread Cert.AdamQbRefIdeal.nD Cert.AdamQbRefIdeal.τ).loc Cert.AdamQbRefIdeal.main_v30) = v1 c
          ∧ r.2.mem ((c.tc : Thread Cert.AdamQbRefIdeal.nD Cert.AdamQbRefIdeal.τ).loc Cert.AdamQbRefIdeal.main_v11) = v2 c
          ∧ r.2.mem ((c.tc : Thread Cert.AdamQbRefIdeal.nD Cert.AdamQbRefIdeal.τ).loc Cert.AdamQbRefIdeal.main_v17) = v3 c
          ∧ r.2.mem ((c.tc : Thread Cert.AdamQbRefIdeal.nD Cert.AdamQbRefIdeal.τ).loc Cert.AdamQbRefIdeal.main_arg0) = m' ((c.tc : Thread Cert.AdamQbRefIdeal.nD Cert.AdamQbRefIdeal.τ).loc Cert.AdamQbRefIdeal.main_arg0)
          ∧ r.2.mem ((c.tc : Thread Cert.AdamQbRefIdeal.nD Cert.AdamQbRefIdeal.τ).loc Cert.AdamQbRefIdeal.main_arg1) = m' ((c.tc : Thread Cert.AdamQbRefIdeal.nD Cert.AdamQbRefIdeal.τ).loc Cert.AdamQbRefIdeal.main_arg1)
          ∧ r.2.mem ((c.tc : Thread Cert.AdamQbRefIdeal.nD Cert.AdamQbRefIdeal.τ).loc Cert.AdamQbRefIdeal.main_arg2) = m' ((c.tc : Thread Cert.AdamQbRefIdeal.nD Cert.AdamQbRefIdeal.τ).loc Cert.AdamQbRefIdeal.main_arg2)
          ∧ r.2.mem ((c.tc : Thread Cert.AdamQbRefIdeal.nD Cert.AdamQbRefIdeal.τ).loc Cert.AdamQbRefIdeal.main_arg3) = m' ((c.tc : Thread Cert.AdamQbRefIdeal.nD Cert.AdamQbRefIdeal.τ).loc Cert.AdamQbRefIdeal.main_arg3)
          ∧ r.2.mem ((c.tc : Thread Cert.AdamQbRefIdeal.nD Cert.AdamQbRefIdeal.τ).loc Cert.AdamQbRefIdeal.main_arg4) = m' ((c.tc : Thread Cert.AdamQbRefIdeal.nD Cert.AdamQbRefIdeal.τ).loc Cert.AdamQbRefIdeal.main_arg4)
          ∧ r.2.mem ((c.tc : Thread Cert.AdamQbRefIdeal.nD Cert.AdamQbRefIdeal.τ).loc Cert.AdamQbRefIdeal.main_arg5) = m' ((c.tc : Thread Cert.AdamQbRefIdeal.nD Cert.AdamQbRefIdeal.τ).loc Cert.AdamQbRefIdeal.main_arg5))

def preserves_AdamKvb_AdamKvbIdeal : Prop :=
  IdealRules.named_const.Statement Cert.AdamKvbIdeal.κ "c1" .f32 0x3FC48605#32 ((8388608 / 5463681 : ℝ) : EReal)
  ∧ IdealRules.named_const.Statement Cert.AdamKvbIdeal.κ "c2" .f32 0x42C8E6D3#32 ((268435456 / 2672307 : ℝ) : EReal)

def algebraic_AdamKvbIdeal_AdamKvbRefIdeal [hAdamKvbIdeal : Cert.AdamKvbIdeal.Facts] [hAdamKvbRefIdeal : Cert.AdamKvbRefIdeal.Facts] : Prop :=
  ∀ (m : (ℓ : Loc Cert.AdamKvbIdeal.nD Cert.AdamKvbIdeal.τ Cert.AdamKvbIdeal.sig) → Buf (Elt Ideal) ℓ) (g : Dev Cert.AdamKvbIdeal.nD → PrngReg)
    (m' : (ℓ : Loc Cert.AdamKvbRefIdeal.nD Cert.AdamKvbRefIdeal.τ Cert.AdamKvbRefIdeal.sig) → Buf (Elt Ideal) ℓ) (g' : Dev Cert.AdamKvbRefIdeal.nD → PrngReg), Pre_AdamKvbIdeal m →
    (∀ c : Dev Cert.AdamKvbIdeal.nD,
      m' ((c.tc : Thread Cert.AdamKvbRefIdeal.nD Cert.AdamKvbRefIdeal.τ).loc Cert.AdamKvbRefIdeal.main_arg0) = m ((c.tc : Thread Cert.AdamKvbIdeal.nD Cert.AdamKvbIdeal.τ).loc Cert.AdamKvbIdeal.main_arg0)
      ∧ m' ((c.tc : Thread Cert.AdamKvbRefIdeal.nD Cert.AdamKvbRefIdeal.τ).loc Cert.AdamKvbRefIdeal.main_arg1) = m ((c.tc : Thread Cert.AdamKvbIdeal.nD Cert.AdamKvbIdeal.τ).loc Cert.AdamKvbIdeal.main_arg1)
      ∧ m' ((c.tc : Thread Cert.AdamKvbRefIdeal.nD Cert.AdamKvbRefIdeal.τ).loc Cert.AdamKvbRefIdeal.main_arg2) = m ((c.tc : Thread Cert.AdamKvbIdeal.nD Cert.AdamKvbIdeal.τ).loc Cert.AdamKvbIdeal.main_arg2)
      ∧ m' ((c.tc : Thread Cert.AdamKvbRefIdeal.nD Cert.AdamKvbRefIdeal.τ).loc Cert.AdamKvbRefIdeal.main_arg3) = m ((c.tc : Thread Cert.AdamKvbIdeal.nD Cert.AdamKvbIdeal.τ).loc Cert.AdamKvbIdeal.main_arg3)
      ∧ m' ((c.tc : Thread Cert.AdamKvbRefIdeal.nD Cert.AdamKvbRefIdeal.τ).loc Cert.AdamKvbRefIdeal.main_arg4) = m ((c.tc : Thread Cert.AdamKvbIdeal.nD Cert.AdamKvbIdeal.τ).loc Cert.AdamKvbIdeal.main_arg4)
      ∧ m' ((c.tc : Thread Cert.AdamKvbRefIdeal.nD Cert.AdamKvbRefIdeal.τ).loc Cert.AdamKvbRefIdeal.main_arg5) = m ((c.tc : Thread Cert.AdamKvbIdeal.nD Cert.AdamKvbIdeal.τ).loc Cert.AdamKvbIdeal.main_arg5)) →
    ∃ (v0 : (c : Dev Cert.AdamKvbIdeal.nD) → Buf (Elt Ideal) ((c.tc : Thread Cert.AdamKvbIdeal.nD Cert.AdamKvbIdeal.τ).loc Cert.AdamKvbIdeal.main_v0_0)) (v1 : (c : Dev Cert.AdamKvbIdeal.nD) → Buf (Elt Ideal) ((c.tc : Thread Cert.AdamKvbIdeal.nD Cert.AdamKvbIdeal.τ).loc Cert.AdamKvbIdeal.main_v0_1)) (v2 : (c : Dev Cert.AdamKvbIdeal.nD) → Buf (Elt Ideal) ((c.tc : Thread Cert.AdamKvbIdeal.nD Cert.AdamKvbIdeal.τ).loc Cert.AdamKvbIdeal.main_v0_2)) (v3 : (c : Dev Cert.AdamKvbIdeal.nD) → Buf (Elt Ideal) ((c.tc : Thread Cert.AdamKvbIdeal.nD Cert.AdamKvbIdeal.τ).loc Cert.AdamKvbIdeal.main_v0_3)),
      θ_run (Cert.AdamKvbIdeal.defs (F := Ideal)) (onTc (τ := Cert.AdamKvbIdeal.τ) (Cert.AdamKvbIdeal.main (F := Ideal))) ⟨m, fun _ => 0, g⟩ (fun r => ∀ c : Dev Cert.AdamKvbIdeal.nD,
          r.2.mem ((c.tc : Thread Cert.AdamKvbIdeal.nD Cert.AdamKvbIdeal.τ).loc Cert.AdamKvbIdeal.main_v0_0) = v0 c
          ∧ r.2.mem ((c.tc : Thread Cert.AdamKvbIdeal.nD Cert.AdamKvbIdeal.τ).loc Cert.AdamKvbIdeal.main_v0_1) = v1 c
          ∧ r.2.mem ((c.tc : Thread Cert.AdamKvbIdeal.nD Cert.AdamKvbIdeal.τ).loc Cert.AdamKvbIdeal.main_v0_2) = v2 c
          ∧ r.2.mem ((c.tc : Thread Cert.AdamKvbIdeal.nD Cert.AdamKvbIdeal.τ).loc Cert.AdamKvbIdeal.main_v0_3) = v3 c
          ∧ r.2.mem ((c.tc : Thread Cert.AdamKvbIdeal.nD Cert.AdamKvbIdeal.τ).loc Cert.AdamKvbIdeal.main_arg0) = m ((c.tc : Thread Cert.AdamKvbIdeal.nD Cert.AdamKvbIdeal.τ).loc Cert.AdamKvbIdeal.main_arg0)
          ∧ r.2.mem ((c.tc : Thread Cert.AdamKvbIdeal.nD Cert.AdamKvbIdeal.τ).loc Cert.AdamKvbIdeal.main_arg1) = m ((c.tc : Thread Cert.AdamKvbIdeal.nD Cert.AdamKvbIdeal.τ).loc Cert.AdamKvbIdeal.main_arg1)
          ∧ r.2.mem ((c.tc : Thread Cert.AdamKvbIdeal.nD Cert.AdamKvbIdeal.τ).loc Cert.AdamKvbIdeal.main_arg2) = m ((c.tc : Thread Cert.AdamKvbIdeal.nD Cert.AdamKvbIdeal.τ).loc Cert.AdamKvbIdeal.main_arg2)
          ∧ r.2.mem ((c.tc : Thread Cert.AdamKvbIdeal.nD Cert.AdamKvbIdeal.τ).loc Cert.AdamKvbIdeal.main_arg3) = m ((c.tc : Thread Cert.AdamKvbIdeal.nD Cert.AdamKvbIdeal.τ).loc Cert.AdamKvbIdeal.main_arg3)
          ∧ r.2.mem ((c.tc : Thread Cert.AdamKvbIdeal.nD Cert.AdamKvbIdeal.τ).loc Cert.AdamKvbIdeal.main_arg4) = m ((c.tc : Thread Cert.AdamKvbIdeal.nD Cert.AdamKvbIdeal.τ).loc Cert.AdamKvbIdeal.main_arg4)
          ∧ r.2.mem ((c.tc : Thread Cert.AdamKvbIdeal.nD Cert.AdamKvbIdeal.τ).loc Cert.AdamKvbIdeal.main_arg5) = m ((c.tc : Thread Cert.AdamKvbIdeal.nD Cert.AdamKvbIdeal.τ).loc Cert.AdamKvbIdeal.main_arg5))
      ∧ θ_run (Cert.AdamKvbRefIdeal.defs (F := Ideal)) (onTc (τ := Cert.AdamKvbRefIdeal.τ) (Cert.AdamKvbRefIdeal.main (F := Ideal))) ⟨m', fun _ => 0, g'⟩ (fun r => ∀ c : Dev Cert.AdamKvbRefIdeal.nD,
          r.2.mem ((c.tc : Thread Cert.AdamKvbRefIdeal.nD Cert.AdamKvbRefIdeal.τ).loc Cert.AdamKvbRefIdeal.main_v6) = v0 c
          ∧ r.2.mem ((c.tc : Thread Cert.AdamKvbRefIdeal.nD Cert.AdamKvbRefIdeal.τ).loc Cert.AdamKvbRefIdeal.main_v30) = v1 c
          ∧ r.2.mem ((c.tc : Thread Cert.AdamKvbRefIdeal.nD Cert.AdamKvbRefIdeal.τ).loc Cert.AdamKvbRefIdeal.main_v11) = v2 c
          ∧ r.2.mem ((c.tc : Thread Cert.AdamKvbRefIdeal.nD Cert.AdamKvbRefIdeal.τ).loc Cert.AdamKvbRefIdeal.main_v17) = v3 c
          ∧ r.2.mem ((c.tc : Thread Cert.AdamKvbRefIdeal.nD Cert.AdamKvbRefIdeal.τ).loc Cert.AdamKvbRefIdeal.main_arg0) = m' ((c.tc : Thread Cert.AdamKvbRefIdeal.nD Cert.AdamKvbRefIdeal.τ).loc Cert.AdamKvbRefIdeal.main_arg0)
          ∧ r.2.mem ((c.tc : Thread Cert.AdamKvbRefIdeal.nD Cert.AdamKvbRefIdeal.τ).loc Cert.AdamKvbRefIdeal.main_arg1) = m' ((c.tc : Thread Cert.AdamKvbRefIdeal.nD Cert.AdamKvbRefIdeal.τ).loc Cert.AdamKvbRefIdeal.main_arg1)
          ∧ r.2.mem ((c.tc : Thread Cert.AdamKvbRefIdeal.nD Cert.AdamKvbRefIdeal.τ).loc Cert.AdamKvbRefIdeal.main_arg2) = m' ((c.tc : Thread Cert.AdamKvbRefIdeal.nD Cert.AdamKvbRefIdeal.τ).loc Cert.AdamKvbRefIdeal.main_arg2)
          ∧ r.2.mem ((c.tc : Thread Cert.AdamKvbRefIdeal.nD Cert.AdamKvbRefIdeal.τ).loc Cert.AdamKvbRefIdeal.main_arg3) = m' ((c.tc : Thread Cert.AdamKvbRefIdeal.nD Cert.AdamKvbRefIdeal.τ).loc Cert.AdamKvbRefIdeal.main_arg3)
          ∧ r.2.mem ((c.tc : Thread Cert.AdamKvbRefIdeal.nD Cert.AdamKvbRefIdeal.τ).loc Cert.AdamKvbRefIdeal.main_arg4) = m' ((c.tc : Thread Cert.AdamKvbRefIdeal.nD Cert.AdamKvbRefIdeal.τ).loc Cert.AdamKvbRefIdeal.main_arg4)
          ∧ r.2.mem ((c.tc : Thread Cert.AdamKvbRefIdeal.nD Cert.AdamKvbRefIdeal.τ).loc Cert.AdamKvbRefIdeal.main_arg5) = m' ((c.tc : Thread Cert.AdamKvbRefIdeal.nD Cert.AdamKvbRefIdeal.τ).loc Cert.AdamKvbRefIdeal.main_arg5))

def preserves_AdamSq_AdamSqIdeal : Prop :=
  IdealRules.named_const.Statement Cert.AdamSqIdeal.κ "c1" .f32 0x3FC48605#32 ((8388608 / 5463681 : ℝ) : EReal)
  ∧ IdealRules.named_const.Statement Cert.AdamSqIdeal.κ "c2" .f32 0x42C8E6D3#32 ((268435456 / 2672307 : ℝ) : EReal)

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)
      ∧ m' ((c.tc : Thread Cert.AdamSqRefIdeal.nD Cert.AdamSqRefIdeal.τ).loc Cert.AdamSqRefIdeal.main_arg4) = m ((c.tc : Thread Cert.AdamSqIdeal.nD Cert.AdamSqIdeal.τ).loc Cert.AdamSqIdeal.main_arg4)
      ∧ m' ((c.tc : Thread Cert.AdamSqRefIdeal.nD Cert.AdamSqRefIdeal.τ).loc Cert.AdamSqRefIdeal.main_arg5) = m ((c.tc : Thread Cert.AdamSqIdeal.nD Cert.AdamSqIdeal.τ).loc Cert.AdamSqIdeal.main_arg5)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
          ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4)
          ∧ r.2.mem ((c.tc : Thread Cert.AdamSqIdeal.nD Cert.AdamSqIdeal.τ).loc Cert.AdamSqIdeal.main_arg5) = m ((c.tc : Thread Cert.AdamSqIdeal.nD Cert.AdamSqIdeal.τ).loc Cert.AdamSqIdeal.main_arg5))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v6) = v0 c
          ∧ r.2.mem ((c.tc : Thread Cert.AdamSqRefIdeal.nD Cert.AdamSqRefIdeal.τ).loc Cert.AdamSqRefIdeal.main_v30) = v1 c
          ∧ r.2.mem ((c.tc : Thread Cert.AdamSqRefIdeal.nD Cert.AdamSqRefIdeal.τ).loc Cert.AdamSqRefIdeal.main_v11) = v2 c
          ∧ r.2.mem ((c.tc : Thread Cert.AdamSqRefIdeal.nD Cert.AdamSqRefIdeal.τ).loc Cert.AdamSqRefIdeal.main_v17) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3)
          ∧ r.2.mem ((c.tc : Thread Cert.AdamSqRefIdeal.nD Cert.AdamSqRefIdeal.τ).loc Cert.AdamSqRefIdeal.main_arg4) = m' ((c.tc : Thread Cert.AdamSqRefIdeal.nD Cert.AdamSqRefIdeal.τ).loc Cert.AdamSqRefIdeal.main_arg4)
          ∧ r.2.mem ((c.tc : Thread Cert.AdamSqRefIdeal.nD Cert.AdamSqRefIdeal.τ).loc Cert.AdamSqRefIdeal.main_arg5) = m' ((c.tc : Thread Cert.AdamSqRefIdeal.nD Cert.AdamSqRefIdeal.τ).loc Cert.AdamSqRefIdeal.main_arg5))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormMem_NormMemIdeal : Prop :=
  True

def algebraic_NormMemIdeal_NormMemRefIdeal_pre_norm_mem_finite [hNormMemIdeal : Cert.NormMemIdeal.Facts] [hNormMemRefIdeal : Cert.NormMemRefIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal_norm_mem_finite m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v1_0)) (v1 : (c : Dev Cert.NormMemIdeal.nD) → Buf (Elt Ideal) ((c.tc : Thread Cert.NormMemIdeal.nD Cert.NormMemIdeal.τ).loc Cert.NormMemIdeal.main_v1_1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1_0) = v0 c
          ∧ r.2.mem ((c.tc : Thread Cert.NormMemIdeal.nD Cert.NormMemIdeal.τ).loc Cert.NormMemIdeal.main_v1_1) = v1 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v35) = v0 c
          ∧ r.2.mem ((c.tc : Thread Cert.NormMemRefIdeal.nD Cert.NormMemRefIdeal.τ).loc Cert.NormMemRefIdeal.main_v36) = v1 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_NormQ_NormQIdeal : Prop :=
  True

def algebraic_NormQIdeal_NormQRefIdeal_pre_norm_q_finite [hNormQIdeal : Cert.NormQIdeal.Facts] [hNormQRefIdeal : Cert.NormQRefIdeal.Facts] [hPre_norm_q_finite : Cert.Pre_norm_q_finite.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal_norm_q_finite m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)
      ∧ m' ((c.tc : Thread Cert.NormQRefIdeal.nD Cert.NormQRefIdeal.τ).loc Cert.NormQRefIdeal.main_arg2) = m ((c.tc : Thread Cert.NormQIdeal.nD Cert.NormQIdeal.τ).loc Cert.NormQIdeal.main_arg2)) →
    ∃ (v0 : (c : Dev Cert.NormQIdeal.nD) → Buf (Elt Ideal) ((c.tc : Thread Cert.NormQIdeal.nD Cert.NormQIdeal.τ).loc Cert.NormQIdeal.main_v1_0)) (v1 : (c : Dev Cert.NormQIdeal.nD) → Buf (Elt Ideal) ((c.tc : Thread Cert.NormQIdeal.nD Cert.NormQIdeal.τ).loc Cert.NormQIdeal.main_v1_1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1_0) = v0 c
          ∧ r.2.mem ((c.tc : Thread Cert.NormQIdeal.nD Cert.NormQIdeal.τ).loc Cert.NormQIdeal.main_v1_1) = v1 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v35) = v0 c
          ∧ r.2.mem ((c.tc : Thread Cert.NormQRefIdeal.nD Cert.NormQRefIdeal.τ).loc Cert.NormQRefIdeal.main_v36) = v1 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1)
          ∧ r.2.mem ((c.tc : Thread Cert.NormQRefIdeal.nD Cert.NormQRefIdeal.τ).loc Cert.NormQRefIdeal.main_arg2) = m' ((c.tc : Thread Cert.NormQRefIdeal.nD Cert.NormQRefIdeal.τ).loc Cert.NormQRefIdeal.main_arg2))

def preserves_NormKv_NormKvIdeal : Prop :=
  True

def algebraic_NormKvIdeal_NormKvRefIdeal_pre_norm_kv_finite [hNormKvIdeal : Cert.NormKvIdeal.Facts] [hNormKvRefIdeal : Cert.NormKvRefIdeal.Facts] [hPre_norm_kv_finite : Cert.Pre_norm_kv_finite.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal_norm_kv_finite m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)) →
    ∃ (v0 : (c : Dev Cert.NormKvIdeal.nD) → Buf (Elt Ideal) ((c.tc : Thread Cert.NormKvIdeal.nD Cert.NormKvIdeal.τ).loc Cert.NormKvIdeal.main_v1_0)) (v1 : (c : Dev Cert.NormKvIdeal.nD) → Buf (Elt Ideal) ((c.tc : Thread Cert.NormKvIdeal.nD Cert.NormKvIdeal.τ).loc Cert.NormKvIdeal.main_v1_1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v1_0) = v0 c
          ∧ r.2.mem ((c.tc : Thread Cert.NormKvIdeal.nD Cert.NormKvIdeal.τ).loc Cert.NormKvIdeal.main_v1_1) = v1 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v35) = v0 c
          ∧ r.2.mem ((c.tc : Thread Cert.NormKvRefIdeal.nD Cert.NormKvRefIdeal.τ).loc Cert.NormKvRefIdeal.main_v36) = v1 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_ConvSilu_ConvSiluIdeal : Prop :=
  True

def algebraic_ConvSiluIdeal_ConvSiluRefIdeal_pre_conv_finite [hConvSiluIdeal : Cert.ConvSiluIdeal.Facts] [hConvSiluRefIdeal : Cert.ConvSiluRefIdeal.Facts] [hPre_conv_finite : Cert.Pre_conv_finite.Facts] : Prop :=
  ∀ (m : (ℓ : Loc Cert.ConvSiluIdeal.nD Cert.ConvSiluIdeal.τ Cert.ConvSiluIdeal.sig) → Buf (Elt Ideal) ℓ) (g : Dev Cert.ConvSiluIdeal.nD → PrngReg)
    (m' : (ℓ : Loc Cert.ConvSiluRefIdeal.nD Cert.ConvSiluRefIdeal.τ Cert.ConvSiluRefIdeal.sig) → Buf (Elt Ideal) ℓ) (g' : Dev Cert.ConvSiluRefIdeal.nD → PrngReg), Pre_ConvSiluIdeal_conv_finite m →
    (∀ c : Dev Cert.ConvSiluIdeal.nD,
      m' ((c.tc : Thread Cert.ConvSiluRefIdeal.nD Cert.ConvSiluRefIdeal.τ).loc Cert.ConvSiluRefIdeal.main_arg0) = m ((c.tc : Thread Cert.ConvSiluIdeal.nD Cert.ConvSiluIdeal.τ).loc Cert.ConvSiluIdeal.main_arg0)
      ∧ m' ((c.tc : Thread Cert.ConvSiluRefIdeal.nD Cert.ConvSiluRefIdeal.τ).loc Cert.ConvSiluRefIdeal.main_arg1) = m ((c.tc : Thread Cert.ConvSiluIdeal.nD Cert.ConvSiluIdeal.τ).loc Cert.ConvSiluIdeal.main_arg1)
      ∧ m' ((c.tc : Thread Cert.ConvSiluRefIdeal.nD Cert.ConvSiluRefIdeal.τ).loc Cert.ConvSiluRefIdeal.main_arg2) = m ((c.tc : Thread Cert.ConvSiluIdeal.nD Cert.ConvSiluIdeal.τ).loc Cert.ConvSiluIdeal.main_arg2)) →
    ∃ (v0 : (c : Dev Cert.ConvSiluIdeal.nD) → Buf (Elt Ideal) ((c.tc : Thread Cert.ConvSiluIdeal.nD Cert.ConvSiluIdeal.τ).loc Cert.ConvSiluIdeal.main_v0_0)) (v1 : (c : Dev Cert.ConvSiluIdeal.nD) → Buf (Elt Ideal) ((c.tc : Thread Cert.ConvSiluIdeal.nD Cert.ConvSiluIdeal.τ).loc Cert.ConvSiluIdeal.main_v0_1)),
      θ_run (Cert.ConvSiluIdeal.defs (F := Ideal)) (onTc (τ := Cert.ConvSiluIdeal.τ) (Cert.ConvSiluIdeal.main (F := Ideal))) ⟨m, fun _ => 0, g⟩ (fun r => ∀ c : Dev Cert.ConvSiluIdeal.nD,
          r.2.mem ((c.tc : Thread Cert.ConvSiluIdeal.nD Cert.ConvSiluIdeal.τ).loc Cert.ConvSiluIdeal.main_v0_0) = v0 c
          ∧ r.2.mem ((c.tc : Thread Cert.ConvSiluIdeal.nD Cert.ConvSiluIdeal.τ).loc Cert.ConvSiluIdeal.main_v0_1) = v1 c
          ∧ r.2.mem ((c.tc : Thread Cert.ConvSiluIdeal.nD Cert.ConvSiluIdeal.τ).loc Cert.ConvSiluIdeal.main_arg0) = m ((c.tc : Thread Cert.ConvSiluIdeal.nD Cert.ConvSiluIdeal.τ).loc Cert.ConvSiluIdeal.main_arg0)
          ∧ r.2.mem ((c.tc : Thread Cert.ConvSiluIdeal.nD Cert.ConvSiluIdeal.τ).loc Cert.ConvSiluIdeal.main_arg1) = m ((c.tc : Thread Cert.ConvSiluIdeal.nD Cert.ConvSiluIdeal.τ).loc Cert.ConvSiluIdeal.main_arg1)
          ∧ r.2.mem ((c.tc : Thread Cert.ConvSiluIdeal.nD Cert.ConvSiluIdeal.τ).loc Cert.ConvSiluIdeal.main_arg2) = m ((c.tc : Thread Cert.ConvSiluIdeal.nD Cert.ConvSiluIdeal.τ).loc Cert.ConvSiluIdeal.main_arg2))
      ∧ θ_run (Cert.ConvSiluRefIdeal.defs (F := Ideal)) (onTc (τ := Cert.ConvSiluRefIdeal.τ) (Cert.ConvSiluRefIdeal.main (F := Ideal))) ⟨m', fun _ => 0, g'⟩ (fun r => ∀ c : Dev Cert.ConvSiluRefIdeal.nD,
          r.2.mem ((c.tc : Thread Cert.ConvSiluRefIdeal.nD Cert.ConvSiluRefIdeal.τ).loc Cert.ConvSiluRefIdeal.main_v61) = v0 c
          ∧ r.2.mem ((c.tc : Thread Cert.ConvSiluRefIdeal.nD Cert.ConvSiluRefIdeal.τ).loc Cert.ConvSiluRefIdeal.main_v57) = v1 c
          ∧ r.2.mem ((c.tc : Thread Cert.ConvSiluRefIdeal.nD Cert.ConvSiluRefIdeal.τ).loc Cert.ConvSiluRefIdeal.main_arg0) = m' ((c.tc : Thread Cert.ConvSiluRefIdeal.nD Cert.ConvSiluRefIdeal.τ).loc Cert.ConvSiluRefIdeal.main_arg0)
          ∧ r.2.mem ((c.tc : Thread Cert.ConvSiluRefIdeal.nD Cert.ConvSiluRefIdeal.τ).loc Cert.ConvSiluRefIdeal.main_arg1) = m' ((c.tc : Thread Cert.ConvSiluRefIdeal.nD Cert.ConvSiluRefIdeal.τ).loc Cert.ConvSiluRefIdeal.main_arg1)
          ∧ r.2.mem ((c.tc : Thread Cert.ConvSiluRefIdeal.nD Cert.ConvSiluRefIdeal.τ).loc Cert.ConvSiluRefIdeal.main_arg2) = m' ((c.tc : Thread Cert.ConvSiluRefIdeal.nD Cert.ConvSiluRefIdeal.τ).loc Cert.ConvSiluRefIdeal.main_arg2))

def preserves_ConvGlu_ConvGluIdeal : Prop :=
  True

def algebraic_ConvGluIdeal_ConvGluRefIdeal_pre_glu_finite [hConvGluIdeal : Cert.ConvGluIdeal.Facts] [hConvGluRefIdeal : Cert.ConvGluRefIdeal.Facts] [hPre_glu_finite : Cert.Pre_glu_finite.Facts] : Prop :=
  ∀ (m : (ℓ : Loc Cert.ConvGluIdeal.nD Cert.ConvGluIdeal.τ Cert.ConvGluIdeal.sig) → Buf (Elt Ideal) ℓ) (g : Dev Cert.ConvGluIdeal.nD → PrngReg)
    (m' : (ℓ : Loc Cert.ConvGluRefIdeal.nD Cert.ConvGluRefIdeal.τ Cert.ConvGluRefIdeal.sig) → Buf (Elt Ideal) ℓ) (g' : Dev Cert.ConvGluRefIdeal.nD → PrngReg), Pre_ConvGluIdeal_glu_finite m →
    (∀ c : Dev Cert.ConvGluIdeal.nD,
      m' ((c.tc : Thread Cert.ConvGluRefIdeal.nD Cert.ConvGluRefIdeal.τ).loc Cert.ConvGluRefIdeal.main_arg0) = m ((c.tc : Thread Cert.ConvGluIdeal.nD Cert.ConvGluIdeal.τ).loc Cert.ConvGluIdeal.main_arg0)
      ∧ m' ((c.tc : Thread Cert.ConvGluRefIdeal.nD Cert.ConvGluRefIdeal.τ).loc Cert.ConvGluRefIdeal.main_arg1) = m ((c.tc : Thread Cert.ConvGluIdeal.nD Cert.ConvGluIdeal.τ).loc Cert.ConvGluIdeal.main_arg1)
      ∧ m' ((c.tc : Thread Cert.ConvGluRefIdeal.nD Cert.ConvGluRefIdeal.τ).loc Cert.ConvGluRefIdeal.main_arg2) = m ((c.tc : Thread Cert.ConvGluIdeal.nD Cert.ConvGluIdeal.τ).loc Cert.ConvGluIdeal.main_arg2)
      ∧ m' ((c.tc : Thread Cert.ConvGluRefIdeal.nD Cert.ConvGluRefIdeal.τ).loc Cert.ConvGluRefIdeal.main_arg3) = m ((c.tc : Thread Cert.ConvGluIdeal.nD Cert.ConvGluIdeal.τ).loc Cert.ConvGluIdeal.main_arg3)) →
    ∃ (v0 : (c : Dev Cert.ConvGluIdeal.nD) → Buf (Elt Ideal) ((c.tc : Thread Cert.ConvGluIdeal.nD Cert.ConvGluIdeal.τ).loc Cert.ConvGluIdeal.main_v0_0)) (v1 : (c : Dev Cert.ConvGluIdeal.nD) → Buf (Elt Ideal) ((c.tc : Thread Cert.ConvGluIdeal.nD Cert.ConvGluIdeal.τ).loc Cert.ConvGluIdeal.main_v0_1)) (v2 : (c : Dev Cert.ConvGluIdeal.nD) → Buf (Elt Ideal) ((c.tc : Thread Cert.ConvGluIdeal.nD Cert.ConvGluIdeal.τ).loc Cert.ConvGluIdeal.main_v0_2)),
      θ_run (Cert.ConvGluIdeal.defs (F := Ideal)) (onTc (τ := Cert.ConvGluIdeal.τ) (Cert.ConvGluIdeal.main (F := Ideal))) ⟨m, fun _ => 0, g⟩ (fun r => ∀ c : Dev Cert.ConvGluIdeal.nD,
          r.2.mem ((c.tc : Thread Cert.ConvGluIdeal.nD Cert.ConvGluIdeal.τ).loc Cert.ConvGluIdeal.main_v0_0) = v0 c
          ∧ r.2.mem ((c.tc : Thread Cert.ConvGluIdeal.nD Cert.ConvGluIdeal.τ).loc Cert.ConvGluIdeal.main_v0_1) = v1 c
          ∧ r.2.mem ((c.tc : Thread Cert.ConvGluIdeal.nD Cert.ConvGluIdeal.τ).loc Cert.ConvGluIdeal.main_v0_2) = v2 c
          ∧ r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
          ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2)
          ∧ r.2.mem ((c.tc : Thread Cert.ConvGluIdeal.nD Cert.ConvGluIdeal.τ).loc Cert.ConvGluIdeal.main_arg3) = m ((c.tc : Thread Cert.ConvGluIdeal.nD Cert.ConvGluIdeal.τ).loc Cert.ConvGluIdeal.main_arg3))
      ∧ θ_run (Cert.ConvGluRefIdeal.defs (F := Ideal)) (onTc (τ := Cert.ConvGluRefIdeal.τ) (Cert.ConvGluRefIdeal.main (F := Ideal))) ⟨m', fun _ => 0, g'⟩ (fun r => ∀ c : Dev Cert.ConvGluRefIdeal.nD,
          r.2.mem ((c.tc : Thread Cert.ConvGluRefIdeal.nD Cert.ConvGluRefIdeal.τ).loc Cert.ConvGluRefIdeal.main_v67) = v0 c
          ∧ r.2.mem ((c.tc : Thread Cert.ConvGluRefIdeal.nD Cert.ConvGluRefIdeal.τ).loc Cert.ConvGluRefIdeal.main_v63) = v1 c
          ∧ r.2.mem ((c.tc : Thread Cert.ConvGluRefIdeal.nD Cert.ConvGluRefIdeal.τ).loc Cert.ConvGluRefIdeal.main_v40) = v2 c
          ∧ r.2.mem ((c.tc : Thread Cert.ConvGluRefIdeal.nD Cert.ConvGluRefIdeal.τ).loc Cert.ConvGluRefIdeal.main_arg0) = m' ((c.tc : Thread Cert.ConvGluRefIdeal.nD Cert.ConvGluRefIdeal.τ).loc Cert.ConvGluRefIdeal.main_arg0)
          ∧ r.2.mem ((c.tc : Thread Cert.ConvGluRefIdeal.nD Cert.ConvGluRefIdeal.τ).loc Cert.ConvGluRefIdeal.main_arg1) = m' ((c.tc : Thread Cert.ConvGluRefIdeal.nD Cert.ConvGluRefIdeal.τ).loc Cert.ConvGluRefIdeal.main_arg1)
          ∧ r.2.mem ((c.tc : Thread Cert.ConvGluRefIdeal.nD Cert.ConvGluRefIdeal.τ).loc Cert.ConvGluRefIdeal.main_arg2) = m' ((c.tc : Thread Cert.ConvGluRefIdeal.nD Cert.ConvGluRefIdeal.τ).loc Cert.ConvGluRefIdeal.main_arg2)
          ∧ r.2.mem ((c.tc : Thread Cert.ConvGluRefIdeal.nD Cert.ConvGluRefIdeal.τ).loc Cert.ConvGluRefIdeal.main_arg3) = m' ((c.tc : Thread Cert.ConvGluRefIdeal.nD Cert.ConvGluRefIdeal.τ).loc Cert.ConvGluRefIdeal.main_arg3))

def preserves_GroupNorm_GroupNormIdeal : Prop :=
  True

def algebraic_GroupNormIdeal_GroupNormRefIdeal_pre_group_norm_finite [hGroupNormIdeal : Cert.GroupNormIdeal.Facts] [hGroupNormRefIdeal : Cert.GroupNormRefIdeal.Facts] [hPre_group_norm_finite : Cert.Pre_group_norm_finite.Facts] : Prop :=
  ∀ (m : (ℓ : Loc Cert.GroupNormIdeal.nD Cert.GroupNormIdeal.τ Cert.GroupNormIdeal.sig) → Buf (Elt Ideal) ℓ) (g : Dev Cert.GroupNormIdeal.nD → PrngReg)
    (m' : (ℓ : Loc Cert.GroupNormRefIdeal.nD Cert.GroupNormRefIdeal.τ Cert.GroupNormRefIdeal.sig) → Buf (Elt Ideal) ℓ) (g' : Dev Cert.GroupNormRefIdeal.nD → PrngReg), Pre_GroupNormIdeal_group_norm_finite m →
    (∀ c : Dev Cert.GroupNormIdeal.nD,
      m' ((c.tc : Thread Cert.GroupNormRefIdeal.nD Cert.GroupNormRefIdeal.τ).loc Cert.GroupNormRefIdeal.main_arg0) = m ((c.tc : Thread Cert.GroupNormIdeal.nD Cert.GroupNormIdeal.τ).loc Cert.GroupNormIdeal.main_arg0)
      ∧ m' ((c.tc : Thread Cert.GroupNormRefIdeal.nD Cert.GroupNormRefIdeal.τ).loc Cert.GroupNormRefIdeal.main_arg1) = m ((c.tc : Thread Cert.GroupNormIdeal.nD Cert.GroupNormIdeal.τ).loc Cert.GroupNormIdeal.main_arg1)
      ∧ m' ((c.tc : Thread Cert.GroupNormRefIdeal.nD Cert.GroupNormRefIdeal.τ).loc Cert.GroupNormRefIdeal.main_arg2) = m ((c.tc : Thread Cert.GroupNormIdeal.nD Cert.GroupNormIdeal.τ).loc Cert.GroupNormIdeal.main_arg2)) →
    ∃ (v0 : (c : Dev Cert.GroupNormIdeal.nD) → Buf (Elt Ideal) ((c.tc : Thread Cert.GroupNormIdeal.nD Cert.GroupNormIdeal.τ).loc Cert.GroupNormIdeal.main_v1_0)) (v1 : (c : Dev Cert.GroupNormIdeal.nD) → Buf (Elt Ideal) ((c.tc : Thread Cert.GroupNormIdeal.nD Cert.GroupNormIdeal.τ).loc Cert.GroupNormIdeal.main_v1_1)),
      θ_run (Cert.GroupNormIdeal.defs (F := Ideal)) (onTc (τ := Cert.GroupNormIdeal.τ) (Cert.GroupNormIdeal.main (F := Ideal))) ⟨m, fun _ => 0, g⟩ (fun r => ∀ c : Dev Cert.GroupNormIdeal.nD,
          r.2.mem ((c.tc : Thread Cert.GroupNormIdeal.nD Cert.GroupNormIdeal.τ).loc Cert.GroupNormIdeal.main_v1_0) = v0 c
          ∧ r.2.mem ((c.tc : Thread Cert.GroupNormIdeal.nD Cert.GroupNormIdeal.τ).loc Cert.GroupNormIdeal.main_v1_1) = v1 c
          ∧ r.2.mem ((c.tc : Thread Cert.GroupNormIdeal.nD Cert.GroupNormIdeal.τ).loc Cert.GroupNormIdeal.main_arg0) = m ((c.tc : Thread Cert.GroupNormIdeal.nD Cert.GroupNormIdeal.τ).loc Cert.GroupNormIdeal.main_arg0)
          ∧ r.2.mem ((c.tc : Thread Cert.GroupNormIdeal.nD Cert.GroupNormIdeal.τ).loc Cert.GroupNormIdeal.main_arg1) = m ((c.tc : Thread Cert.GroupNormIdeal.nD Cert.GroupNormIdeal.τ).loc Cert.GroupNormIdeal.main_arg1)
          ∧ r.2.mem ((c.tc : Thread Cert.GroupNormIdeal.nD Cert.GroupNormIdeal.τ).loc Cert.GroupNormIdeal.main_arg2) = m ((c.tc : Thread Cert.GroupNormIdeal.nD Cert.GroupNormIdeal.τ).loc Cert.GroupNormIdeal.main_arg2))
      ∧ θ_run (Cert.GroupNormRefIdeal.defs (F := Ideal)) (onTc (τ := Cert.GroupNormRefIdeal.τ) (Cert.GroupNormRefIdeal.main (F := Ideal))) ⟨m', fun _ => 0, g'⟩ (fun r => ∀ c : Dev Cert.GroupNormRefIdeal.nD,
          r.2.mem ((c.tc : Thread Cert.GroupNormRefIdeal.nD Cert.GroupNormRefIdeal.τ).loc Cert.GroupNormRefIdeal.main_v39) = v0 c
          ∧ r.2.mem ((c.tc : Thread Cert.GroupNormRefIdeal.nD Cert.GroupNormRefIdeal.τ).loc Cert.GroupNormRefIdeal.main_v40) = v1 c
          ∧ r.2.mem ((c.tc : Thread Cert.GroupNormRefIdeal.nD Cert.GroupNormRefIdeal.τ).loc Cert.GroupNormRefIdeal.main_arg0) = m' ((c.tc : Thread Cert.GroupNormRefIdeal.nD Cert.GroupNormRefIdeal.τ).loc Cert.GroupNormRefIdeal.main_arg0)
          ∧ r.2.mem ((c.tc : Thread Cert.GroupNormRefIdeal.nD Cert.GroupNormRefIdeal.τ).loc Cert.GroupNormRefIdeal.main_arg1) = m' ((c.tc : Thread Cert.GroupNormRefIdeal.nD Cert.GroupNormRefIdeal.τ).loc Cert.GroupNormRefIdeal.main_arg1)
          ∧ r.2.mem ((c.tc : Thread Cert.GroupNormRefIdeal.nD Cert.GroupNormRefIdeal.τ).loc Cert.GroupNormRefIdeal.main_arg2) = m' ((c.tc : Thread Cert.GroupNormRefIdeal.nD Cert.GroupNormRefIdeal.τ).loc Cert.GroupNormRefIdeal.main_arg2))

def Claim : Prop :=
  ∃ (hAttn : Cert.Attn.Facts) (hAttnIdeal : Cert.AttnIdeal.Facts) (hAttnRefIdeal : Cert.AttnRefIdeal.Facts) (hXattn : Cert.Xattn.Facts) (hXattnIdeal : Cert.XattnIdeal.Facts) (hXattnRefIdeal : Cert.XattnRefIdeal.Facts) (hInNt : Cert.InNt.Facts) (hInNtIdeal : Cert.InNtIdeal.Facts) (hInNtRefIdeal : Cert.InNtRefIdeal.Facts) (hInTn : Cert.InTn.Facts) (hInTnIdeal : Cert.InTnIdeal.Facts) (hInTnRefIdeal : Cert.InTnRefIdeal.Facts) (hInNn : Cert.InNn.Facts) (hInNnIdeal : Cert.InNnIdeal.Facts) (hInNnRefIdeal : Cert.InNnRefIdeal.Facts) (hQbNt : Cert.QbNt.Facts) (hQbNtIdeal : Cert.QbNtIdeal.Facts) (hQbNtRefIdeal : Cert.QbNtRefIdeal.Facts) (hQbTn : Cert.QbTn.Facts) (hQbTnIdeal : Cert.QbTnIdeal.Facts) (hQbTnRefIdeal : Cert.QbTnRefIdeal.Facts) (hQbNn : Cert.QbNn.Facts) (hQbNnIdeal : Cert.QbNnIdeal.Facts) (hQbNnRefIdeal : Cert.QbNnRefIdeal.Facts) (hKvbNt : Cert.KvbNt.Facts) (hKvbNtIdeal : Cert.KvbNtIdeal.Facts) (hKvbNtRefIdeal : Cert.KvbNtRefIdeal.Facts) (hKvbTn : Cert.KvbTn.Facts) (hKvbTnIdeal : Cert.KvbTnIdeal.Facts) (hKvbTnRefIdeal : Cert.KvbTnRefIdeal.Facts) (hKvbNn : Cert.KvbNn.Facts) (hKvbNnIdeal : Cert.KvbNnIdeal.Facts) (hKvbNnRefIdeal : Cert.KvbNnRefIdeal.Facts) (hSqNt : Cert.SqNt.Facts) (hSqNtIdeal : Cert.SqNtIdeal.Facts) (hSqNtRefIdeal : Cert.SqNtRefIdeal.Facts) (hSqTn : Cert.SqTn.Facts) (hSqTnIdeal : Cert.SqTnIdeal.Facts) (hSqTnRefIdeal : Cert.SqTnRefIdeal.Facts) (hSqNn : Cert.SqNn.Facts) (hSqNnIdeal : Cert.SqNnIdeal.Facts) (hSqNnRefIdeal : Cert.SqNnRefIdeal.Facts) (hSqRes : Cert.SqRes.Facts) (hSqResIdeal : Cert.SqResIdeal.Facts) (hSqResRefIdeal : Cert.SqResRefIdeal.Facts) (hMemNt : Cert.MemNt.Facts) (hMemNtIdeal : Cert.MemNtIdeal.Facts) (hMemNtRefIdeal : Cert.MemNtRefIdeal.Facts) (hMemTn : Cert.MemTn.Facts) (hMemTnIdeal : Cert.MemTnIdeal.Facts) (hMemTnRefIdeal : Cert.MemTnRefIdeal.Facts) (hMemNn : Cert.MemNn.Facts) (hMemNnIdeal : Cert.MemNnIdeal.Facts) (hMemNnRefIdeal : Cert.MemNnRefIdeal.Facts) (hUpNt : Cert.UpNt.Facts) (hUpNtIdeal : Cert.UpNtIdeal.Facts) (hUpNtRefIdeal : Cert.UpNtRefIdeal.Facts) (hUpTn : Cert.UpTn.Facts) (hUpTnIdeal : Cert.UpTnIdeal.Facts) (hUpTnRefIdeal : Cert.UpTnRefIdeal.Facts) (hUpNn : Cert.UpNn.Facts) (hUpNnIdeal : Cert.UpNnIdeal.Facts) (hUpNnRefIdeal : Cert.UpNnRefIdeal.Facts) (hDownNt : Cert.DownNt.Facts) (hDownNtIdeal : Cert.DownNtIdeal.Facts) (hDownNtRefIdeal : Cert.DownNtRefIdeal.Facts) (hDownTn : Cert.DownTn.Facts) (hDownTnIdeal : Cert.DownTnIdeal.Facts) (hDownTnRefIdeal : Cert.DownTnRefIdeal.Facts) (hDownRes : Cert.DownRes.Facts) (hDownResIdeal : Cert.DownResIdeal.Facts) (hDownResRefIdeal : Cert.DownResRefIdeal.Facts) (hAdamIn : Cert.AdamIn.Facts) (hAdamInIdeal : Cert.AdamInIdeal.Facts) (hAdamInRefIdeal : Cert.AdamInRefIdeal.Facts) (hAdamPacked : Cert.AdamPacked.Facts) (hAdamPackedIdeal : Cert.AdamPackedIdeal.Facts) (hAdamPackedRefIdeal : Cert.AdamPackedRefIdeal.Facts) (hAdamQb : Cert.AdamQb.Facts) (hAdamQbIdeal : Cert.AdamQbIdeal.Facts) (hAdamQbRefIdeal : Cert.AdamQbRefIdeal.Facts) (hAdamKvb : Cert.AdamKvb.Facts) (hAdamKvbIdeal : Cert.AdamKvbIdeal.Facts) (hAdamKvbRefIdeal : Cert.AdamKvbRefIdeal.Facts) (hAdamSq : Cert.AdamSq.Facts) (hAdamSqIdeal : Cert.AdamSqIdeal.Facts) (hAdamSqRefIdeal : Cert.AdamSqRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hNorm : Cert.Norm.Facts) (hNormIdeal : Cert.NormIdeal.Facts) (hNormRefIdeal : Cert.NormRefIdeal.Facts) (hNormMem : Cert.NormMem.Facts) (hNormMemIdeal : Cert.NormMemIdeal.Facts) (hNormMemRefIdeal : Cert.NormMemRefIdeal.Facts) (hNormQ : Cert.NormQ.Facts) (hNormQIdeal : Cert.NormQIdeal.Facts) (hNormQRefIdeal : Cert.NormQRefIdeal.Facts) (hNormKv : Cert.NormKv.Facts) (hNormKvIdeal : Cert.NormKvIdeal.Facts) (hNormKvRefIdeal : Cert.NormKvRefIdeal.Facts) (hLoss : Cert.Loss.Facts) (hLossIdeal : Cert.LossIdeal.Facts) (hLossRefIdeal : Cert.LossRefIdeal.Facts) (hConvSilu : Cert.ConvSilu.Facts) (hConvSiluIdeal : Cert.ConvSiluIdeal.Facts) (hConvSiluRefIdeal : Cert.ConvSiluRefIdeal.Facts) (hConvGlu : Cert.ConvGlu.Facts) (hConvGluIdeal : Cert.ConvGluIdeal.Facts) (hConvGluRefIdeal : Cert.ConvGluRefIdeal.Facts) (hGroupNorm : Cert.GroupNorm.Facts) (hGroupNormIdeal : Cert.GroupNormIdeal.Facts) (hGroupNormRefIdeal : Cert.GroupNormRefIdeal.Facts) (hPre_xa_finite : Cert.Pre_xa_finite.Facts) (hPre_norm_finite : Cert.Pre_norm_finite.Facts) (hPre_norm_mem_finite : Cert.Pre_norm_mem_finite.Facts) (hPre_norm_q_finite : Cert.Pre_norm_q_finite.Facts) (hPre_norm_kv_finite : Cert.Pre_norm_kv_finite.Facts) (hPre_conv_finite : Cert.Pre_conv_finite.Facts) (hPre_glu_finite : Cert.Pre_glu_finite.Facts) (hPre_group_norm_finite : Cert.Pre_group_norm_finite.Facts),
    quiescent_Attn (hAttn := hAttn)
    ∧ quiescent_AttnIdeal (hAttnIdeal := hAttnIdeal)
    ∧ quiescent_AttnRefIdeal (hAttnRefIdeal := hAttnRefIdeal)
    ∧ quiescent_Xattn (hXattn := hXattn)
    ∧ quiescent_XattnIdeal (hXattnIdeal := hXattnIdeal)
    ∧ quiescent_XattnIdeal_pre_xa_finite (hXattnIdeal := hXattnIdeal) (hPre_xa_finite := hPre_xa_finite)
    ∧ quiescent_XattnRefIdeal (hXattnRefIdeal := hXattnRefIdeal)
    ∧ quiescent_XattnRefIdeal_pre_xa_finite (hXattnRefIdeal := hXattnRefIdeal) (hPre_xa_finite := hPre_xa_finite)
    ∧ quiescent_InNt (hInNt := hInNt)
    ∧ quiescent_InNtIdeal (hInNtIdeal := hInNtIdeal)
    ∧ quiescent_InNtRefIdeal (hInNtRefIdeal := hInNtRefIdeal)
    ∧ quiescent_InTn (hInTn := hInTn)
    ∧ quiescent_InTnIdeal (hInTnIdeal := hInTnIdeal)
    ∧ quiescent_InTnRefIdeal (hInTnRefIdeal := hInTnRefIdeal)
    ∧ quiescent_InNn (hInNn := hInNn)
    ∧ quiescent_InNnIdeal (hInNnIdeal := hInNnIdeal)
    ∧ quiescent_InNnRefIdeal (hInNnRefIdeal := hInNnRefIdeal)
    ∧ quiescent_QbNt (hQbNt := hQbNt)
    ∧ quiescent_QbNtIdeal (hQbNtIdeal := hQbNtIdeal)
    ∧ quiescent_QbNtRefIdeal (hQbNtRefIdeal := hQbNtRefIdeal)
    ∧ quiescent_QbTn (hQbTn := hQbTn)
    ∧ quiescent_QbTnIdeal (hQbTnIdeal := hQbTnIdeal)
    ∧ quiescent_QbTnRefIdeal (hQbTnRefIdeal := hQbTnRefIdeal)
    ∧ quiescent_QbNn (hQbNn := hQbNn)
    ∧ quiescent_QbNnIdeal (hQbNnIdeal := hQbNnIdeal)
    ∧ quiescent_QbNnRefIdeal (hQbNnRefIdeal := hQbNnRefIdeal)
    ∧ quiescent_KvbNt (hKvbNt := hKvbNt)
    ∧ quiescent_KvbNtIdeal (hKvbNtIdeal := hKvbNtIdeal)
    ∧ quiescent_KvbNtRefIdeal (hKvbNtRefIdeal := hKvbNtRefIdeal)
    ∧ quiescent_KvbTn (hKvbTn := hKvbTn)
    ∧ quiescent_KvbTnIdeal (hKvbTnIdeal := hKvbTnIdeal)
    ∧ quiescent_KvbTnRefIdeal (hKvbTnRefIdeal := hKvbTnRefIdeal)
    ∧ quiescent_KvbNn (hKvbNn := hKvbNn)
    ∧ quiescent_KvbNnIdeal (hKvbNnIdeal := hKvbNnIdeal)
    ∧ quiescent_KvbNnRefIdeal (hKvbNnRefIdeal := hKvbNnRefIdeal)
    ∧ quiescent_SqNt (hSqNt := hSqNt)
    ∧ quiescent_SqNtIdeal (hSqNtIdeal := hSqNtIdeal)
    ∧ quiescent_SqNtRefIdeal (hSqNtRefIdeal := hSqNtRefIdeal)
    ∧ quiescent_SqTn (hSqTn := hSqTn)
    ∧ quiescent_SqTnIdeal (hSqTnIdeal := hSqTnIdeal)
    ∧ quiescent_SqTnRefIdeal (hSqTnRefIdeal := hSqTnRefIdeal)
    ∧ quiescent_SqNn (hSqNn := hSqNn)
    ∧ quiescent_SqNnIdeal (hSqNnIdeal := hSqNnIdeal)
    ∧ quiescent_SqNnRefIdeal (hSqNnRefIdeal := hSqNnRefIdeal)
    ∧ quiescent_SqRes (hSqRes := hSqRes)
    ∧ quiescent_SqResIdeal (hSqResIdeal := hSqResIdeal)
    ∧ quiescent_SqResRefIdeal (hSqResRefIdeal := hSqResRefIdeal)
    ∧ quiescent_MemNt (hMemNt := hMemNt)
    ∧ quiescent_MemNtIdeal (hMemNtIdeal := hMemNtIdeal)
    ∧ quiescent_MemNtRefIdeal (hMemNtRefIdeal := hMemNtRefIdeal)
    ∧ quiescent_MemTn (hMemTn := hMemTn)
    ∧ quiescent_MemTnIdeal (hMemTnIdeal := hMemTnIdeal)
    ∧ quiescent_MemTnRefIdeal (hMemTnRefIdeal := hMemTnRefIdeal)
    ∧ quiescent_MemNn (hMemNn := hMemNn)
    ∧ quiescent_MemNnIdeal (hMemNnIdeal := hMemNnIdeal)
    ∧ quiescent_MemNnRefIdeal (hMemNnRefIdeal := hMemNnRefIdeal)
    ∧ quiescent_UpNt (hUpNt := hUpNt)
    ∧ quiescent_UpNtIdeal (hUpNtIdeal := hUpNtIdeal)
    ∧ quiescent_UpNtRefIdeal (hUpNtRefIdeal := hUpNtRefIdeal)
    ∧ quiescent_UpTn (hUpTn := hUpTn)
    ∧ quiescent_UpTnIdeal (hUpTnIdeal := hUpTnIdeal)
    ∧ quiescent_UpTnRefIdeal (hUpTnRefIdeal := hUpTnRefIdeal)
    ∧ quiescent_UpNn (hUpNn := hUpNn)
    ∧ quiescent_UpNnIdeal (hUpNnIdeal := hUpNnIdeal)
    ∧ quiescent_UpNnRefIdeal (hUpNnRefIdeal := hUpNnRefIdeal)
    ∧ quiescent_DownNt (hDownNt := hDownNt)
    ∧ quiescent_DownNtIdeal (hDownNtIdeal := hDownNtIdeal)
    ∧ quiescent_DownNtRefIdeal (hDownNtRefIdeal := hDownNtRefIdeal)
    ∧ quiescent_DownTn (hDownTn := hDownTn)
    ∧ quiescent_DownTnIdeal (hDownTnIdeal := hDownTnIdeal)
    ∧ quiescent_DownTnRefIdeal (hDownTnRefIdeal := hDownTnRefIdeal)
    ∧ quiescent_DownRes (hDownRes := hDownRes)
    ∧ quiescent_DownResIdeal (hDownResIdeal := hDownResIdeal)
    ∧ quiescent_DownResRefIdeal (hDownResRefIdeal := hDownResRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPacked (hAdamPacked := hAdamPacked)
    ∧ quiescent_AdamPackedIdeal (hAdamPackedIdeal := hAdamPackedIdeal)
    ∧ quiescent_AdamPackedRefIdeal (hAdamPackedRefIdeal := hAdamPackedRefIdeal)
    ∧ quiescent_AdamQb (hAdamQb := hAdamQb)
    ∧ quiescent_AdamQbIdeal (hAdamQbIdeal := hAdamQbIdeal)
    ∧ quiescent_AdamQbRefIdeal (hAdamQbRefIdeal := hAdamQbRefIdeal)
    ∧ quiescent_AdamKvb (hAdamKvb := hAdamKvb)
    ∧ quiescent_AdamKvbIdeal (hAdamKvbIdeal := hAdamKvbIdeal)
    ∧ quiescent_AdamKvbRefIdeal (hAdamKvbRefIdeal := hAdamKvbRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_NormMem (hNormMem := hNormMem)
    ∧ quiescent_NormMemIdeal (hNormMemIdeal := hNormMemIdeal)
    ∧ quiescent_NormMemIdeal_pre_norm_mem_finite (hNormMemIdeal := hNormMemIdeal) (hPre_norm_mem_finite := hPre_norm_mem_finite)
    ∧ quiescent_NormMemRefIdeal (hNormMemRefIdeal := hNormMemRefIdeal)
    ∧ quiescent_NormMemRefIdeal_pre_norm_mem_finite (hNormMemRefIdeal := hNormMemRefIdeal) (hPre_norm_mem_finite := hPre_norm_mem_finite)
    ∧ quiescent_NormQ (hNormQ := hNormQ)
    ∧ quiescent_NormQIdeal (hNormQIdeal := hNormQIdeal)
    ∧ quiescent_NormQIdeal_pre_norm_q_finite (hNormQIdeal := hNormQIdeal) (hPre_norm_q_finite := hPre_norm_q_finite)
    ∧ quiescent_NormQRefIdeal (hNormQRefIdeal := hNormQRefIdeal)
    ∧ quiescent_NormQRefIdeal_pre_norm_q_finite (hNormQRefIdeal := hNormQRefIdeal) (hPre_norm_q_finite := hPre_norm_q_finite)
    ∧ quiescent_NormKv (hNormKv := hNormKv)
    ∧ quiescent_NormKvIdeal (hNormKvIdeal := hNormKvIdeal)
    ∧ quiescent_NormKvIdeal_pre_norm_kv_finite (hNormKvIdeal := hNormKvIdeal) (hPre_norm_kv_finite := hPre_norm_kv_finite)
    ∧ quiescent_NormKvRefIdeal (hNormKvRefIdeal := hNormKvRefIdeal)
    ∧ quiescent_NormKvRefIdeal_pre_norm_kv_finite (hNormKvRefIdeal := hNormKvRefIdeal) (hPre_norm_kv_finite := hPre_norm_kv_finite)
    ∧ quiescent_Loss (hLoss := hLoss)
    ∧ quiescent_LossIdeal (hLossIdeal := hLossIdeal)
    ∧ quiescent_LossRefIdeal (hLossRefIdeal := hLossRefIdeal)
    ∧ quiescent_ConvSilu (hConvSilu := hConvSilu)
    ∧ quiescent_ConvSiluIdeal (hConvSiluIdeal := hConvSiluIdeal)
    ∧ quiescent_ConvSiluIdeal_pre_conv_finite (hConvSiluIdeal := hConvSiluIdeal) (hPre_conv_finite := hPre_conv_finite)
    ∧ quiescent_ConvSiluRefIdeal (hConvSiluRefIdeal := hConvSiluRefIdeal)
    ∧ quiescent_ConvSiluRefIdeal_pre_conv_finite (hConvSiluRefIdeal := hConvSiluRefIdeal) (hPre_conv_finite := hPre_conv_finite)
    ∧ quiescent_ConvGlu (hConvGlu := hConvGlu)
    ∧ quiescent_ConvGluIdeal (hConvGluIdeal := hConvGluIdeal)
    ∧ quiescent_ConvGluIdeal_pre_glu_finite (hConvGluIdeal := hConvGluIdeal) (hPre_glu_finite := hPre_glu_finite)
    ∧ quiescent_ConvGluRefIdeal (hConvGluRefIdeal := hConvGluRefIdeal)
    ∧ quiescent_ConvGluRefIdeal_pre_glu_finite (hConvGluRefIdeal := hConvGluRefIdeal) (hPre_glu_finite := hPre_glu_finite)
    ∧ quiescent_GroupNorm (hGroupNorm := hGroupNorm)
    ∧ quiescent_GroupNormIdeal (hGroupNormIdeal := hGroupNormIdeal)
    ∧ quiescent_GroupNormIdeal_pre_group_norm_finite (hGroupNormIdeal := hGroupNormIdeal) (hPre_group_norm_finite := hPre_group_norm_finite)
    ∧ quiescent_GroupNormRefIdeal (hGroupNormRefIdeal := hGroupNormRefIdeal)
    ∧ quiescent_GroupNormRefIdeal_pre_group_norm_finite (hGroupNormRefIdeal := hGroupNormRefIdeal) (hPre_group_norm_finite := hPre_group_norm_finite)
    ∧ preserves_Attn_AttnIdeal
    ∧ preserves_Xattn_XattnIdeal
    ∧ algebraic_XattnIdeal_XattnRefIdeal_pre_xa_finite (hXattnIdeal := hXattnIdeal) (hXattnRefIdeal := hXattnRefIdeal) (hPre_xa_finite := hPre_xa_finite)
    ∧ preserves_InNt_InNtIdeal
    ∧ algebraic_InNtIdeal_InNtRefIdeal (hInNtIdeal := hInNtIdeal) (hInNtRefIdeal := hInNtRefIdeal)
    ∧ preserves_InTn_InTnIdeal
    ∧ algebraic_InTnIdeal_InTnRefIdeal (hInTnIdeal := hInTnIdeal) (hInTnRefIdeal := hInTnRefIdeal)
    ∧ preserves_InNn_InNnIdeal
    ∧ algebraic_InNnIdeal_InNnRefIdeal (hInNnIdeal := hInNnIdeal) (hInNnRefIdeal := hInNnRefIdeal)
    ∧ preserves_QbNt_QbNtIdeal
    ∧ algebraic_QbNtIdeal_QbNtRefIdeal (hQbNtIdeal := hQbNtIdeal) (hQbNtRefIdeal := hQbNtRefIdeal)
    ∧ preserves_QbTn_QbTnIdeal
    ∧ algebraic_QbTnIdeal_QbTnRefIdeal (hQbTnIdeal := hQbTnIdeal) (hQbTnRefIdeal := hQbTnRefIdeal)
    ∧ preserves_QbNn_QbNnIdeal
    ∧ algebraic_QbNnIdeal_QbNnRefIdeal (hQbNnIdeal := hQbNnIdeal) (hQbNnRefIdeal := hQbNnRefIdeal)
    ∧ preserves_KvbNt_KvbNtIdeal
    ∧ algebraic_KvbNtIdeal_KvbNtRefIdeal (hKvbNtIdeal := hKvbNtIdeal) (hKvbNtRefIdeal := hKvbNtRefIdeal)
    ∧ preserves_KvbTn_KvbTnIdeal
    ∧ algebraic_KvbTnIdeal_KvbTnRefIdeal (hKvbTnIdeal := hKvbTnIdeal) (hKvbTnRefIdeal := hKvbTnRefIdeal)
    ∧ preserves_KvbNn_KvbNnIdeal
    ∧ algebraic_KvbNnIdeal_KvbNnRefIdeal (hKvbNnIdeal := hKvbNnIdeal) (hKvbNnRefIdeal := hKvbNnRefIdeal)
    ∧ preserves_SqNt_SqNtIdeal
    ∧ algebraic_SqNtIdeal_SqNtRefIdeal (hSqNtIdeal := hSqNtIdeal) (hSqNtRefIdeal := hSqNtRefIdeal)
    ∧ preserves_SqTn_SqTnIdeal
    ∧ algebraic_SqTnIdeal_SqTnRefIdeal (hSqTnIdeal := hSqTnIdeal) (hSqTnRefIdeal := hSqTnRefIdeal)
    ∧ preserves_SqNn_SqNnIdeal
    ∧ algebraic_SqNnIdeal_SqNnRefIdeal (hSqNnIdeal := hSqNnIdeal) (hSqNnRefIdeal := hSqNnRefIdeal)
    ∧ preserves_SqRes_SqResIdeal
    ∧ algebraic_SqResIdeal_SqResRefIdeal (hSqResIdeal := hSqResIdeal) (hSqResRefIdeal := hSqResRefIdeal)
    ∧ preserves_MemNt_MemNtIdeal
    ∧ algebraic_MemNtIdeal_MemNtRefIdeal (hMemNtIdeal := hMemNtIdeal) (hMemNtRefIdeal := hMemNtRefIdeal)
    ∧ preserves_MemTn_MemTnIdeal
    ∧ algebraic_MemTnIdeal_MemTnRefIdeal (hMemTnIdeal := hMemTnIdeal) (hMemTnRefIdeal := hMemTnRefIdeal)
    ∧ preserves_MemNn_MemNnIdeal
    ∧ algebraic_MemNnIdeal_MemNnRefIdeal (hMemNnIdeal := hMemNnIdeal) (hMemNnRefIdeal := hMemNnRefIdeal)
    ∧ preserves_UpNt_UpNtIdeal
    ∧ algebraic_UpNtIdeal_UpNtRefIdeal (hUpNtIdeal := hUpNtIdeal) (hUpNtRefIdeal := hUpNtRefIdeal)
    ∧ preserves_UpTn_UpTnIdeal
    ∧ algebraic_UpTnIdeal_UpTnRefIdeal (hUpTnIdeal := hUpTnIdeal) (hUpTnRefIdeal := hUpTnRefIdeal)
    ∧ preserves_UpNn_UpNnIdeal
    ∧ algebraic_UpNnIdeal_UpNnRefIdeal (hUpNnIdeal := hUpNnIdeal) (hUpNnRefIdeal := hUpNnRefIdeal)
    ∧ preserves_DownNt_DownNtIdeal
    ∧ algebraic_DownNtIdeal_DownNtRefIdeal (hDownNtIdeal := hDownNtIdeal) (hDownNtRefIdeal := hDownNtRefIdeal)
    ∧ preserves_DownTn_DownTnIdeal
    ∧ algebraic_DownTnIdeal_DownTnRefIdeal (hDownTnIdeal := hDownTnIdeal) (hDownTnRefIdeal := hDownTnRefIdeal)
    ∧ preserves_DownRes_DownResIdeal
    ∧ algebraic_DownResIdeal_DownResRefIdeal (hDownResIdeal := hDownResIdeal) (hDownResRefIdeal := hDownResRefIdeal)
    ∧ preserves_AdamIn_AdamInIdeal
    ∧ algebraic_AdamInIdeal_AdamInRefIdeal (hAdamInIdeal := hAdamInIdeal) (hAdamInRefIdeal := hAdamInRefIdeal)
    ∧ preserves_AdamPacked_AdamPackedIdeal
    ∧ algebraic_AdamPackedIdeal_AdamPackedRefIdeal (hAdamPackedIdeal := hAdamPackedIdeal) (hAdamPackedRefIdeal := hAdamPackedRefIdeal)
    ∧ preserves_AdamQb_AdamQbIdeal
    ∧ algebraic_AdamQbIdeal_AdamQbRefIdeal (hAdamQbIdeal := hAdamQbIdeal) (hAdamQbRefIdeal := hAdamQbRefIdeal)
    ∧ preserves_AdamKvb_AdamKvbIdeal
    ∧ algebraic_AdamKvbIdeal_AdamKvbRefIdeal (hAdamKvbIdeal := hAdamKvbIdeal) (hAdamKvbRefIdeal := hAdamKvbRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_NormMem_NormMemIdeal
    ∧ algebraic_NormMemIdeal_NormMemRefIdeal_pre_norm_mem_finite (hNormMemIdeal := hNormMemIdeal) (hNormMemRefIdeal := hNormMemRefIdeal) (hPre_norm_mem_finite := hPre_norm_mem_finite)
    ∧ preserves_NormQ_NormQIdeal
    ∧ algebraic_NormQIdeal_NormQRefIdeal_pre_norm_q_finite (hNormQIdeal := hNormQIdeal) (hNormQRefIdeal := hNormQRefIdeal) (hPre_norm_q_finite := hPre_norm_q_finite)
    ∧ preserves_NormKv_NormKvIdeal
    ∧ algebraic_NormKvIdeal_NormKvRefIdeal_pre_norm_kv_finite (hNormKvIdeal := hNormKvIdeal) (hNormKvRefIdeal := hNormKvRefIdeal) (hPre_norm_kv_finite := hPre_norm_kv_finite)
    ∧ preserves_Loss_LossIdeal
    ∧ algebraic_LossIdeal_LossRefIdeal (hLossIdeal := hLossIdeal) (hLossRefIdeal := hLossRefIdeal)
    ∧ preserves_ConvSilu_ConvSiluIdeal
    ∧ algebraic_ConvSiluIdeal_ConvSiluRefIdeal_pre_conv_finite (hConvSiluIdeal := hConvSiluIdeal) (hConvSiluRefIdeal := hConvSiluRefIdeal) (hPre_conv_finite := hPre_conv_finite)
    ∧ preserves_ConvGlu_ConvGluIdeal
    ∧ algebraic_ConvGluIdeal_ConvGluRefIdeal_pre_glu_finite (hConvGluIdeal := hConvGluIdeal) (hConvGluRefIdeal := hConvGluRefIdeal) (hPre_glu_finite := hPre_glu_finite)
    ∧ preserves_GroupNorm_GroupNormIdeal
    ∧ algebraic_GroupNormIdeal_GroupNormRefIdeal_pre_group_norm_finite (hGroupNormIdeal := hGroupNormIdeal) (hGroupNormRefIdeal := hGroupNormRefIdeal) (hPre_group_norm_finite := hPre_group_norm_finite)
-- ==== Pre_conv_finite.lean ====
abbrev S2048x3072 : Shape := ⟨2, ![2048, 3072]⟩
abbrev S4x3072 : Shape := ⟨2, ![4, 3072]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S4x3072 : S_.BroadcastsInDim S4x3072 (![] : Fin 0 → Fin S4x3072.rank)
  reducesTo_S4x3072_S_d0_1 : S4x3072.ReducesTo [0, 1] S_

variable [Facts]

def fn {F : FTy → Type} [FloatOps F] (main_arg0 : FVec F S2048x3072 .f32) (main_arg1 : FVec F S4x3072 .f32) (main_arg2 : FVec F S2048x3072 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S4x3072 .f32 := Host.absf main_arg1
  let main_cst_0 : FVec F S_ .f32 := constant S_ .f32 0x7F800000#32
  let main_v5 : FVec F S4x3072 .f32 := broadcastInDim S4x3072 ![] bcast_S_S4x3072 main_cst_0
  let main_v6 : IVec S4x3072 1 := cmpf .olt main_v4 main_v5
  let main_c_1 : IVec S_ 1 := constantI S_ 1 1#1
  let main_v7 : IVec S_ 1 := (fun x v => Host.reduce IntOp.andi x v reducesTo_S4x3072_S_d0_1 h_S_) main_v6 main_c_1
  let main_v8 : IVec S_ 1 := andi main_v3 main_v7
  let main_v9 : FVec F S2048x3072 .f32 := Host.absf main_arg2
  let main_cst_2 : FVec F S_ .f32 := constant S_ .f32 0x7F800000#32
  let main_v10 : FVec F S2048x3072 .f32 := broadcastInDim S2048x3072 ![] bcast_S_S2048x3072 main_cst_2
  let main_v11 : IVec S2048x3072 1 := cmpf .olt main_v9 main_v10
  let main_c_3 : IVec S_ 1 := constantI S_ 1 1#1
  let main_v12 : IVec S_ 1 := (fun x v => Host.reduce IntOp.andi x v reducesTo_S2048x3072_S_d0_1 h_S_) main_v11 main_c_3
  let main_v13 : IVec S_ 1 := andi main_v8 main_v12
  main_v13
-- ==== Pre_glu_finite.lean ====
abbrev S2048x11264 : Shape := ⟨2, ![2048, 11264]⟩
abbrev S3x11264 : Shape := ⟨2, ![3, 11264]⟩
abbrev S1x11264 : Shape := ⟨2, ![1, 11264]⟩
abbrev S2048x5632 : Shape := ⟨2, ![2048, 5632]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S2048x11264 .f32) (main_arg1 : FVec F S3x11264 .f32) (main_arg2 : FVec F S1x11264 .f32) (main_arg3 : FVec F S2048x5632 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S1x11264 .f32 := Host.absf main_arg2
  let main_cst_2 : FVec F S_ .f32 := constant S_ .f32 0x7F800000#32
  let main_v10 : FVec F S1x11264 .f32 := broadcastInDim S1x11264 ![] bcast_S_S1x11264 main_cst_2
  let main_v11 : IVec S1x11264 1 := cmpf .olt main_v9 main_v10
  let main_c_3 : IVec S_ 1 := constantI S_ 1 1#1
  let main_v12 : IVec S_ 1 := (fun x v => Host.reduce IntOp.andi x v reducesTo_S1x11264_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_v13 main_v16
-- ==== Pre_group_norm_finite.lean ====
abbrev S2048x1024 : Shape := ⟨2, ![2048, 1024]⟩
abbrev S128 : Shape := ⟨1, ![128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S2048x1024 .f32) (main_arg1 : FVec F S128 .f32) (main_arg2 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_norm_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048 .f32) (main_arg2 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_norm_kv_finite.lean ====
abbrev S2048x256 : Shape := ⟨2, ![2048, 256]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S2048x256 .f32) (main_arg1 : FVec F S256 .f32) (main_arg2 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Pre_norm_mem_finite.lean ====
abbrev S256x2048 : Shape := ⟨2, ![256, 2048]⟩
abbrev S2048 : Shape := ⟨1, ![2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S256x2048 .f32) (main_arg1 : FVec F S2048 .f32) (main_arg2 : FVec F S256x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  main_v13
-- ==== Pre_norm_q_finite.lean ====
abbrev S2048x512 : Shape := ⟨2, ![2048, 512]⟩
abbrev S512 : Shape := ⟨1, ![512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2048x512 .f32) (main_arg1 : FVec F S512 .f32) (main_arg2 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Pre_xa_finite.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S256x2048 .f32) (main_arg2 : FVec F S256x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Attn.lean ====
abbrev S8x2048x192 : Shape := ⟨3, ![8, 2048, 192]⟩
abbrev S8x2048x128 : Shape := ⟨3, ![8, 2048, 128]⟩
abbrev S8x2048x1 : Shape := ⟨3, ![8, 2048, 1]⟩
abbrev S1x256x192 : Shape := ⟨3, ![1, 256, 192]⟩
abbrev S1x2048x192 : Shape := ⟨3, ![1, 2048, 192]⟩
abbrev S1x2048x128 : Shape := ⟨3, ![1, 2048, 128]⟩
abbrev S1x256x128 : Shape := ⟨3, ![1, 256, 128]⟩
abbrev S1x256x1 : Shape := ⟨3, ![1, 256, 1]⟩
abbrev S256x192 : Shape := ⟨2, ![256, 192]⟩
abbrev S2048x192 : Shape := ⟨2, ![2048, 192]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩

abbrev nBuf : Space → Nat
  | .hbm => 9
  | .vmem => 28
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S8x2048x128, .f32⟩
  | .hbm, ⟨4, _⟩ => ⟨S8x2048x128, .f32⟩
  | .hbm, ⟨5, _⟩ => ⟨S8x2048x1, .f32⟩
  | .hbm, ⟨6, _⟩ => ⟨S8x2048x192, .f32⟩
  | .hbm, ⟨7, _⟩ => ⟨S8x2048x192, .f32⟩
  | .hbm, ⟨8, _⟩ => ⟨S8x2048x128, .f32⟩
  | .local _ .vmem, ⟨0, _⟩ => ⟨S1x256x192, .f32⟩
  | .local _ .vmem, ⟨1, _⟩ => ⟨S1x256x192, .f32⟩
  | .local _ .vmem, ⟨2, _⟩ => ⟨S1x2048x192, .f32⟩
  | .local _ .vmem, ⟨3, _⟩ => ⟨S1x2048x192, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x1, .f32⟩
  | .local _ .vmem, ⟨9, _⟩ => ⟨S1x256x1, .f32⟩
  | .local _ .vmem, ⟨10, _⟩ => ⟨S1x256x192, .f32⟩
  | .local _ .vmem, ⟨11, _⟩ => ⟨S1x256x192, .f32⟩
  | .local _ .vmem, ⟨12, _⟩ => ⟨S1x2048x192, .f32⟩
  | .local _ .vmem, ⟨13, _⟩ => ⟨S1x2048x192, .f32⟩
  | .local _ .vmem, ⟨14, _⟩ => ⟨S1x2048x128, .f32⟩
  | .local _ .vmem, ⟨15, _⟩ => ⟨S1x2048x128, .f32⟩
  | .local _ .vmem, ⟨16, _⟩ => ⟨S1x256x128, .f32⟩
  | .local _ .vmem, ⟨17, _⟩ => ⟨S1x256x128, .f32⟩
  | .local _ .vmem, ⟨18, _⟩ => ⟨S1x256x1, .f32⟩
  | .local _ .vmem, ⟨19, _⟩ => ⟨S1x256x1, .f32⟩
  | .local _ .vmem, ⟨20, _⟩ => ⟨S1x256x128, .f32⟩
  | .local _ .vmem, ⟨21, _⟩ => ⟨S1x256x128, .f32⟩
  | .local _ .vmem, ⟨22, _⟩ => ⟨S1x256x192, .f32⟩
  | .local _ .vmem, ⟨23, _⟩ => ⟨S1x256x192, .f32⟩
  | .local _ .vmem, ⟨24, _⟩ => ⟨S1x2048x192, .f32⟩
  | .local _ .vmem, ⟨25, _⟩ => ⟨S1x2048x192, .f32⟩
  | .local _ .vmem, ⟨26, _⟩ => ⟨S1x2048x128, .f32⟩
  | .local _ .vmem, ⟨27, _⟩ => ⟨S1x2048x128, .f32⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2048x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnIdeal.lean ====
variable {F : FTy → Type} [FloatOps F] [Named F]
def κ : String → Option EReal := fun
  | "mask" => some ⊥
  | _ => none
-- ==== AttnRefIdeal.lean ====
abbrev S8x2048x192 : Shape := ⟨3, ![8, 2048, 192]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S8x2048x128, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S8x2048x2048, .i1⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .i1⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .i1⟩
  | .hbm, ⟨38, _⟩ => ⟨S_, .f32⟩
  | .hbm, ⟨39, _⟩ => ⟨S8x2048, .f32⟩
  | .hbm, ⟨40, _⟩ => ⟨S8x2048, .i1⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S8x2048x2048, .f32⟩
  | .hbm, ⟨57, _⟩ => ⟨S8x2048x2048, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x128, .f32⟩
  | .hbm, ⟨63, _⟩ => ⟨S8x128x2048, .f32⟩
  | .hbm, ⟨64, _⟩ => ⟨S8x2048x128, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048x2048, .f32⟩
  | .hbm, ⟨85, _⟩ => ⟨S8x2048x2048, .f32⟩
  | .hbm, ⟨86, _⟩ => ⟨S8x2048x192, .f32⟩
  | .hbm, ⟨87, _⟩ => ⟨S8x2048x192, .f32⟩
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Xattn.lean ====
abbrev S2048x2048 : Shape := ⟨2, ![2048, 2048]⟩
abbrev S256x2048 : Shape := ⟨2, ![256, 2048]⟩
abbrev S4x2048x1 : Shape := ⟨3, ![4, 2048, 1]⟩
abbrev S256x512 : Shape := ⟨2, ![256, 512]⟩
abbrev S1x256x1 : Shape := ⟨3, ![1, 256, 1]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x2048, .f32⟩
  | .hbm, ⟨5, _⟩ => ⟨S4x2048x1, .f32⟩
  | .hbm, ⟨6, _⟩ => ⟨S2048x2048, .f32⟩
  | .hbm, ⟨7, _⟩ => ⟨S256x2048, .f32⟩
  | .hbm, ⟨8, _⟩ => ⟨S256x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x256x1, .f32⟩
  | .local _ .vmem, ⟨9, _⟩ => ⟨S1x256x1, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1x256x1, .f32⟩
  | .local _ .vmem, ⟨19, _⟩ => ⟨S1x256x1, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== XattnRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x4x512, .f32⟩
  | .hbm, ⟨5, _⟩ => ⟨S256x4x512, .f32⟩
  | .hbm, ⟨6, _⟩ => ⟨S256x4x512, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x512x2048, .f32⟩
  | .hbm, ⟨50, _⟩ => ⟨S2048x4x512, .f32⟩
  | .hbm, ⟨51, _⟩ => ⟨S2048x2048, .f32⟩
  | .hbm, ⟨52, _⟩ => ⟨S2048x4x512, .f32⟩
  | .hbm, ⟨53, _⟩ => ⟨S4x512x2048, .f32⟩
  | .hbm, ⟨54, _⟩ => ⟨S4x2048x256, .f32⟩
  | .hbm, ⟨55, _⟩ => ⟨S4x512x256, .f32⟩
  | .hbm, ⟨56, _⟩ => ⟨S256x4x512, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x256, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048x256, .f32⟩
  | .hbm, ⟨73, _⟩ => ⟨S4x2048x256, .f32⟩
  | .hbm, ⟨74, _⟩ => ⟨S4x256x512, .f32⟩
  | .hbm, ⟨75, _⟩ => ⟨S256x4x512, .f32⟩
  | .hbm, ⟨76, _⟩ => ⟨S4x2048x512, .f32⟩
  | .hbm, ⟨77, _⟩ => ⟨S2048x4x512, .f32⟩
  | .hbm, ⟨78, _⟩ => ⟨S256x2048, .f32⟩
  | .hbm, ⟨79, _⟩ => ⟨S256x2048, .f32⟩
  | .hbm, ⟨80, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== InNt.lean ====
abbrev S2048x4944 : Shape := ⟨2, ![2048, 4944]⟩
abbrev S2048x4x1236 : Shape := ⟨3, ![2048, 4, 1236]⟩
abbrev S_ : Shape := ⟨0, ![]⟩
abbrev S2048x4x1280 : Shape := ⟨3, ![2048, 4, 1280]⟩
abbrev S2048x5120 : Shape := ⟨2, ![2048, 5120]⟩
abbrev S4x2048x1236 : Shape := ⟨3, ![4, 2048, 1236]⟩
abbrev S4x2048x1280 : Shape := ⟨3, ![4, 2048, 1280]⟩
abbrev S2048x2048 : Shape := ⟨2, ![2048, 2048]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2048x4944, .f32⟩
  | .hbm, ⟨1, _⟩ => ⟨S2048x4944, .f32⟩
  | .hbm, ⟨2, _⟩ => ⟨S2048x4x1236, .f32⟩
  | .hbm, ⟨3, _⟩ => ⟨S_, .i32⟩
  | .hbm, ⟨4, _⟩ => ⟨S_, .f32⟩
  | .hbm, ⟨5, _⟩ => ⟨S2048x4x1280, .f32⟩
  | .hbm, ⟨6, _⟩ => ⟨S2048x5120, .f32⟩
  | .hbm, ⟨7, _⟩ => ⟨S2048x5120, .bf16⟩
  | .hbm, ⟨8, _⟩ => ⟨S2048x4x1236, .f32⟩
  | .hbm, ⟨9, _⟩ => ⟨S4x2048x1236, .f32⟩
  | .hbm, ⟨10, _⟩ => ⟨S4x2048x1236, .bf16⟩
  | .hbm, ⟨11, _⟩ => ⟨S_, .i32⟩
  | .hbm, ⟨12, _⟩ => ⟨S_, .bf16⟩
  | .hbm, ⟨13, _⟩ => ⟨S4x2048x1280, .bf16⟩
  | .hbm, ⟨14, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InNtIdeal.lean ====
abbrev S2048x4944 : Shape := ⟨2, ![2048, 4944]⟩
abbrev S2048x4x1236 : Shape := ⟨3, ![2048, 4, 1236]⟩
abbrev S_ : Shape := ⟨0, ![]⟩
abbrev S2048x4x1280 : Shape := ⟨3, ![2048, 4, 1280]⟩
abbrev S2048x5120 : Shape := ⟨2, ![2048, 5120]⟩
abbrev S4x2048x1236 : Shape := ⟨3, ![4, 2048, 1236]⟩
abbrev S4x2048x1280 : Shape := ⟨3, ![4, 2048, 1280]⟩
abbrev S2048x2048 : Shape := ⟨2, ![2048, 2048]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2048x4944, .f32⟩
  | .hbm, ⟨1, _⟩ => ⟨S2048x4944, .f32⟩
  | .hbm, ⟨2, _⟩ => ⟨S2048x4x1236, .f32⟩
  | .hbm, ⟨3, _⟩ => ⟨S_, .i32⟩
  | .hbm, ⟨4, _⟩ => ⟨S_, .f32⟩
  | .hbm, ⟨5, _⟩ => ⟨S2048x4x1280, .f32⟩
  | .hbm, ⟨6, _⟩ => ⟨S2048x5120, .f32⟩
  | .hbm, ⟨7, _⟩ => ⟨S2048x5120, .bf16⟩
  | .hbm, ⟨8, _⟩ => ⟨S2048x4x1236, .f32⟩
  | .hbm, ⟨9, _⟩ => ⟨S4x2048x1236, .f32⟩
  | .hbm, ⟨10, _⟩ => ⟨S4x2048x1236, .bf16⟩
  | .hbm, ⟨11, _⟩ => ⟨S_, .i32⟩
  | .hbm, ⟨12, _⟩ => ⟨S_, .bf16⟩
  | .hbm, ⟨13, _⟩ => ⟨S4x2048x1280, .bf16⟩
  | .hbm, ⟨14, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InNtRefIdeal.lean ====
abbrev S2048x4944 : Shape := ⟨2, ![2048, 4944]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4944, .f32⟩
  | .hbm, ⟨1, _⟩ => ⟨S2048x4944, .f32⟩
  | .hbm, ⟨2, _⟩ => ⟨S_, .f32⟩
  | .hbm, ⟨3, _⟩ => ⟨S2048x2048, .f32⟩
  | .hbm, ⟨4, _⟩ => ⟨S2048x4944, .f32⟩
  | .hbm, ⟨5, _⟩ => ⟨S2048x2048, .f32⟩
  | _, _ => ⟨S2048x4944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InTn.lean ====
abbrev S2048x2048 : Shape := ⟨2, ![2048, 2048]⟩
abbrev S2048x4944 : Shape := ⟨2, ![2048, 4944]⟩
abbrev S2048x4x1236 : Shape := ⟨3, ![2048, 4, 1236]⟩
abbrev S_ : Shape := ⟨0, ![]⟩
abbrev S2048x4x1280 : Shape := ⟨3, ![2048, 4, 1280]⟩
abbrev S2048x5120 : Shape := ⟨2, ![2048, 5120]⟩
abbrev S4x2048x1280 : Shape := ⟨3, ![4, 2048, 1280]⟩
abbrev S1024x2048 : Shape := ⟨2, ![1024, 2048]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 11
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S2048x4x1236, .f32⟩
  | .hbm, ⟨3, _⟩ => ⟨S_, .i32⟩
  | .hbm, ⟨4, _⟩ => ⟨S_, .f32⟩
  | .hbm, ⟨5, _⟩ => ⟨S2048x4x1280, .f32⟩
  | .hbm, ⟨6, _⟩ => ⟨S2048x5120, .f32⟩
  | .hbm, ⟨7, _⟩ => ⟨S2048x2048, .bf16⟩
  | .hbm, ⟨8, _⟩ => ⟨S2048x2048, .bf16⟩
  | .hbm, ⟨9, _⟩ => ⟨S2048x5120, .bf16⟩
  | .hbm, ⟨10, _⟩ => ⟨S4x2048x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InTnIdeal.lean ====
abbrev S2048x2048 : Shape := ⟨2, ![2048, 2048]⟩
abbrev S2048x4944 : Shape := ⟨2, ![2048, 4944]⟩
abbrev S2048x4x1236 : Shape := ⟨3, ![2048, 4, 1236]⟩
abbrev S_ : Shape := ⟨0, ![]⟩
abbrev S2048x4x1280 : Shape := ⟨3, ![2048, 4, 1280]⟩
abbrev S2048x5120 : Shape := ⟨2, ![2048, 5120]⟩
abbrev S4x2048x1280 : Shape := ⟨3, ![4, 2048, 1280]⟩
abbrev S1024x2048 : Shape := ⟨2, ![1024, 2048]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 11
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S2048x4x1236, .f32⟩
  | .hbm, ⟨3, _⟩ => ⟨S_, .i32⟩
  | .hbm, ⟨4, _⟩ => ⟨S_, .f32⟩
  | .hbm, ⟨5, _⟩ => ⟨S2048x4x1280, .f32⟩
  | .hbm, ⟨6, _⟩ => ⟨S2048x5120, .f32⟩
  | .hbm, ⟨7, _⟩ => ⟨S2048x2048, .bf16⟩
  | .hbm, ⟨8, _⟩ => ⟨S2048x2048, .bf16⟩
  | .hbm, ⟨9, _⟩ => ⟨S2048x5120, .bf16⟩
  | .hbm, ⟨10, _⟩ => ⟨S4x2048x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InTnRefIdeal.lean ====
abbrev S2048x2048 : Shape := ⟨2, ![2048, 2048]⟩
abbrev S2048x4944 : Shape := ⟨2, ![2048, 4944]⟩
abbrev S_ : Shape := ⟨0, ![]⟩
abbrev S4944x2048 : Shape := ⟨2, ![4944, 2048]⟩
abbrev S2048x4x1236 : Shape := ⟨3, ![2048, 4, 1236]⟩
abbrev S4x2048x1236 : Shape := ⟨3, ![4, 2048, 1236]⟩
abbrev S4x2048x1280 : Shape := ⟨3, ![4, 2048, 1280]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S_, .f32⟩
  | .hbm, ⟨3, _⟩ => ⟨S2048x4944, .f32⟩
  | .hbm, ⟨4, _⟩ => ⟨S2048x4944, .f32⟩
  | .hbm, ⟨5, _⟩ => ⟨S4944x2048, .f32⟩
  | .hbm, ⟨6, _⟩ => ⟨S2048x4944, .f32⟩
  | .hbm, ⟨7, _⟩ => ⟨S2048x4x1236, .f32⟩
  | .hbm, ⟨8, _⟩ => ⟨S4x2048x1236, .f32⟩
  | .hbm, ⟨9, _⟩ => ⟨S4x2048x1236, .bf16⟩
  | .hbm, ⟨10, _⟩ => ⟨S_, .i32⟩
  | .hbm, ⟨11, _⟩ => ⟨S_, .bf16⟩
  | .hbm, ⟨12, _⟩ => ⟨S4x2048x1280, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== InNn.lean ====
abbrev S2048x2048 : Shape := ⟨2, ![2048, 2048]⟩
abbrev S2048x4944 : Shape := ⟨2, ![2048, 4944]⟩
abbrev S2048x4x1236 : Shape := ⟨3, ![2048, 4, 1236]⟩
abbrev S4x2048x1236 : Shape := ⟨3, ![4, 2048, 1236]⟩
abbrev S_ : Shape := ⟨0, ![]⟩
abbrev S4x2048x1280 : Shape := ⟨3, ![4, 2048, 1280]⟩
abbrev S2048x5120 : Shape := ⟨2, ![2048, 5120]⟩
abbrev S1024x2048 : Shape := ⟨2, ![1024, 2048]⟩
abbrev S1x2048x640 : Shape := ⟨3, ![1, 2048, 640]⟩
abbrev S1024x640 : Shape := ⟨2, ![1024, 640]⟩
abbrev S2048x640 : Shape := ⟨2, ![2048, 640]⟩

abbrev nBuf : Space → Nat
  | .hbm => 10
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S2048x2048, .bf16⟩
  | .hbm, ⟨3, _⟩ => ⟨S2048x4x1236, .f32⟩
  | .hbm, ⟨4, _⟩ => ⟨S4x2048x1236, .f32⟩
  | .hbm, ⟨5, _⟩ => ⟨S4x2048x1236, .bf16⟩
  | .hbm, ⟨6, _⟩ => ⟨S_, .i32⟩
  | .hbm, ⟨7, _⟩ => ⟨S_, .bf16⟩
  | .hbm, ⟨8, _⟩ => ⟨S4x2048x1280, .bf16⟩
  | .hbm, ⟨9, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InNnIdeal.lean ====
abbrev S2048x2048 : Shape := ⟨2, ![2048, 2048]⟩
abbrev S2048x4944 : Shape := ⟨2, ![2048, 4944]⟩
abbrev S2048x4x1236 : Shape := ⟨3, ![2048, 4, 1236]⟩
abbrev S4x2048x1236 : Shape := ⟨3, ![4, 2048, 1236]⟩
abbrev S_ : Shape := ⟨0, ![]⟩
abbrev S4x2048x1280 : Shape := ⟨3, ![4, 2048, 1280]⟩
abbrev S2048x5120 : Shape := ⟨2, ![2048, 5120]⟩
abbrev S1024x2048 : Shape := ⟨2, ![1024, 2048]⟩
abbrev S1x2048x640 : Shape := ⟨3, ![1, 2048, 640]⟩
abbrev S1024x640 : Shape := ⟨2, ![1024, 640]⟩
abbrev S2048x640 : Shape := ⟨2, ![2048, 640]⟩

abbrev nBuf : Space → Nat
  | .hbm => 10
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S2048x2048, .bf16⟩
  | .hbm, ⟨3, _⟩ => ⟨S2048x4x1236, .f32⟩
  | .hbm, ⟨4, _⟩ => ⟨S4x2048x1236, .f32⟩
  | .hbm, ⟨5, _⟩ => ⟨S4x2048x1236, .bf16⟩
  | .hbm, ⟨6, _⟩ => ⟨S_, .i32⟩
  | .hbm, ⟨7, _⟩ => ⟨S_, .bf16⟩
  | .hbm, ⟨8, _⟩ => ⟨S4x2048x1280, .bf16⟩
  | .hbm, ⟨9, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InNnRefIdeal.lean ====
abbrev S2048x2048 : Shape := ⟨2, ![2048, 2048]⟩
abbrev S2048x4944 : Shape := ⟨2, ![2048, 4944]⟩
abbrev S2048x4x1236 : Shape := ⟨3, ![2048, 4, 1236]⟩
abbrev S_ : Shape := ⟨0, ![]⟩
abbrev S2048x4x1280 : Shape := ⟨3, ![2048, 4, 1280]⟩
abbrev S2048x5120 : Shape := ⟨2, ![2048, 5120]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4944, .f32⟩
  | .hbm, ⟨2, _⟩ => ⟨S2048x4944, .f32⟩
  | .hbm, ⟨3, _⟩ => ⟨S2048x4x1236, .f32⟩
  | .hbm, ⟨4, _⟩ => ⟨S_, .i32⟩
  | .hbm, ⟨5, _⟩ => ⟨S_, .f32⟩
  | .hbm, ⟨6, _⟩ => ⟨S2048x4x1280, .f32⟩
  | .hbm, ⟨7, _⟩ => ⟨S2048x5120, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== QbNt.lean ====
abbrev S2048x1536 : Shape := ⟨2, ![2048, 1536]⟩
abbrev S512x1536 : Shape := ⟨2, ![512, 1536]⟩
abbrev S512x4x384 : Shape := ⟨3, ![512, 4, 384]⟩
abbrev S4x512x384 : Shape := ⟨3, ![4, 512, 384]⟩
abbrev S2048x512 : Shape := ⟨2, ![2048, 512]⟩
abbrev S1024x384 : Shape := ⟨2, ![1024, 384]⟩
abbrev S1x512x384 : Shape := ⟨3, ![1, 512, 384]⟩
abbrev S1024x512 : Shape := ⟨2, ![1024, 512]⟩
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x1536, .bf16⟩
  | .hbm, ⟨3, _⟩ => ⟨S512x4x384, .f32⟩
  | .hbm, ⟨4, _⟩ => ⟨S4x512x384, .f32⟩
  | .hbm, ⟨5, _⟩ => ⟨S4x512x384, .bf16⟩
  | .hbm, ⟨6, _⟩ => ⟨S2048x512, .f32⟩
  | .local _ .vmem, ⟨0, _⟩ => ⟨S1024x384, .bf16⟩
  | .local _ .vmem, ⟨1, _⟩ => ⟨S1024x384, .bf16⟩
  | .local _ .vmem, ⟨2, _⟩ => ⟨S1x512x384, .bf16⟩
  | .local _ .vmem, ⟨3, _⟩ => ⟨S1x512x384, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== QbNtIdeal.lean ====
abbrev S2048x1536 : Shape := ⟨2, ![2048, 1536]⟩
abbrev S512x1536 : Shape := ⟨2, ![512, 1536]⟩
abbrev S512x4x384 : Shape := ⟨3, ![512, 4, 384]⟩
abbrev S4x512x384 : Shape := ⟨3, ![4, 512, 384]⟩
abbrev S2048x512 : Shape := ⟨2, ![2048, 512]⟩
abbrev S1024x384 : Shape := ⟨2, ![1024, 384]⟩
abbrev S1x512x384 : Shape := ⟨3, ![1, 512, 384]⟩
abbrev S1024x512 : Shape := ⟨2, ![1024, 512]⟩
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x1536, .bf16⟩
  | .hbm, ⟨3, _⟩ => ⟨S512x4x384, .f32⟩
  | .hbm, ⟨4, _⟩ => ⟨S4x512x384, .f32⟩
  | .hbm, ⟨5, _⟩ => ⟨S4x512x384, .bf16⟩
  | .hbm, ⟨6, _⟩ => ⟨S2048x512, .f32⟩
  | .local _ .vmem, ⟨0, _⟩ => ⟨S1024x384, .bf16⟩
  | .local _ .vmem, ⟨1, _⟩ => ⟨S1024x384, .bf16⟩
  | .local _ .vmem, ⟨2, _⟩ => ⟨S1x512x384, .bf16⟩
  | .local _ .vmem, ⟨3, _⟩ => ⟨S1x512x384, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== QbNtRefIdeal.lean ====
abbrev S2048x1536 : Shape := ⟨2, ![2048, 1536]⟩
abbrev S512x1536 : Shape := ⟨2, ![512, 1536]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QbTn.lean ====
abbrev S2048x512 : Shape := ⟨2, ![2048, 512]⟩
abbrev S2048x1536 : Shape := ⟨2, ![2048, 1536]⟩
abbrev S512x2048 : Shape := ⟨2, ![512, 2048]⟩
abbrev S4x512x384 : Shape := ⟨3, ![4, 512, 384]⟩
abbrev S2048x384 : Shape := ⟨2, ![2048, 384]⟩
abbrev S1x512x384 : Shape := ⟨3, ![1, 512, 384]⟩
abbrev S512x384 : Shape := ⟨2, ![512, 384]⟩

abbrev nBuf : Space → Nat
  | .hbm => 6
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S512x2048, .bf16⟩
  | .hbm, ⟨4, _⟩ => ⟨S2048x1536, .bf16⟩
  | .hbm, ⟨5, _⟩ => ⟨S4x512x384, .bf16⟩
  | .local _ .vmem, ⟨0, _⟩ => ⟨S512x2048, .bf16⟩
  | .local _ .vmem, ⟨1, _⟩ => ⟨S2048x384, .bf16⟩
  | .local _ .vmem, ⟨2, _⟩ => ⟨S2048x384, .bf16⟩
  | .local _ .vmem, ⟨3, _⟩ => ⟨S1x512x384, .bf16⟩
  | .local _ .vmem, ⟨4, _⟩ => ⟨S1x512x384, .bf16⟩
  | .local _ .vmem, ⟨5, _⟩ => ⟨S512x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QbTnIdeal.lean ====
abbrev S2048x512 : Shape := ⟨2, ![2048, 512]⟩
abbrev S2048x1536 : Shape := ⟨2, ![2048, 1536]⟩
abbrev S512x2048 : Shape := ⟨2, ![512, 2048]⟩
abbrev S4x512x384 : Shape := ⟨3, ![4, 512, 384]⟩
abbrev S2048x384 : Shape := ⟨2, ![2048, 384]⟩
abbrev S1x512x384 : Shape := ⟨3, ![1, 512, 384]⟩
abbrev S512x384 : Shape := ⟨2, ![512, 384]⟩

abbrev nBuf : Space → Nat
  | .hbm => 6
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S512x2048, .bf16⟩
  | .hbm, ⟨4, _⟩ => ⟨S2048x1536, .bf16⟩
  | .hbm, ⟨5, _⟩ => ⟨S4x512x384, .bf16⟩
  | .local _ .vmem, ⟨0, _⟩ => ⟨S512x2048, .bf16⟩
  | .local _ .vmem, ⟨1, _⟩ => ⟨S2048x384, .bf16⟩
  | .local _ .vmem, ⟨2, _⟩ => ⟨S2048x384, .bf16⟩
  | .local _ .vmem, ⟨3, _⟩ => ⟨S1x512x384, .bf16⟩
  | .local _ .vmem, ⟨4, _⟩ => ⟨S1x512x384, .bf16⟩
  | .local _ .vmem, ⟨5, _⟩ => ⟨S512x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QbTnRefIdeal.lean ====
abbrev S2048x512 : Shape := ⟨2, ![2048, 512]⟩
abbrev S2048x1536 : Shape := ⟨2, ![2048, 1536]⟩
abbrev S_ : Shape := ⟨0, ![]⟩
abbrev S512x1536 : Shape := ⟨2, ![512, 1536]⟩
abbrev S1536x512 : Shape := ⟨2, ![1536, 512]⟩
abbrev S512x4x384 : Shape := ⟨3, ![512, 4, 384]⟩
abbrev S4x512x384 : Shape := ⟨3, ![4, 512, 384]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S_, .f32⟩
  | .hbm, ⟨3, _⟩ => ⟨S512x1536, .f32⟩
  | .hbm, ⟨4, _⟩ => ⟨S2048x1536, .f32⟩
  | .hbm, ⟨5, _⟩ => ⟨S1536x512, .f32⟩
  | .hbm, ⟨6, _⟩ => ⟨S512x1536, .f32⟩
  | .hbm, ⟨7, _⟩ => ⟨S512x4x384, .f32⟩
  | .hbm, ⟨8, _⟩ => ⟨S4x512x384, .f32⟩
  | .hbm, ⟨9, _⟩ => ⟨S4x512x384, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QbNn.lean ====
abbrev S2048x512 : Shape := ⟨2, ![2048, 512]⟩
abbrev S512x1536 : Shape := ⟨2, ![512, 1536]⟩
abbrev S512x4x384 : Shape := ⟨3, ![512, 4, 384]⟩
abbrev S4x512x384 : Shape := ⟨3, ![4, 512, 384]⟩
abbrev S2048x1536 : Shape := ⟨2, ![2048, 1536]⟩
abbrev S1024x512 : Shape := ⟨2, ![1024, 512]⟩
abbrev S1x512x384 : Shape := ⟨3, ![1, 512, 384]⟩
abbrev S1024x384 : Shape := ⟨2, ![1024, 384]⟩
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S512x4x384, .f32⟩
  | .hbm, ⟨4, _⟩ => ⟨S4x512x384, .f32⟩
  | .hbm, ⟨5, _⟩ => ⟨S4x512x384, .bf16⟩
  | .hbm, ⟨6, _⟩ => ⟨S2048x1536, .f32⟩
  | .local _ .vmem, ⟨0, _⟩ => ⟨S1024x512, .bf16⟩
  | .local _ .vmem, ⟨1, _⟩ => ⟨S1024x512, .bf16⟩
  | .local _ .vmem, ⟨2, _⟩ => ⟨S1x512x384, .bf16⟩
  | .local _ .vmem, ⟨3, _⟩ => ⟨S1x512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QbNnIdeal.lean ====
abbrev S2048x512 : Shape := ⟨2, ![2048, 512]⟩
abbrev S512x1536 : Shape := ⟨2, ![512, 1536]⟩
abbrev S512x4x384 : Shape := ⟨3, ![512, 4, 384]⟩
abbrev S4x512x384 : Shape := ⟨3, ![4, 512, 384]⟩
abbrev S2048x1536 : Shape := ⟨2, ![2048, 1536]⟩
abbrev S1024x512 : Shape := ⟨2, ![1024, 512]⟩
abbrev S1x512x384 : Shape := ⟨3, ![1, 512, 384]⟩
abbrev S1024x384 : Shape := ⟨2, ![1024, 384]⟩
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S512x4x384, .f32⟩
  | .hbm, ⟨4, _⟩ => ⟨S4x512x384, .f32⟩
  | .hbm, ⟨5, _⟩ => ⟨S4x512x384, .bf16⟩
  | .hbm, ⟨6, _⟩ => ⟨S2048x1536, .f32⟩
  | .local _ .vmem, ⟨0, _⟩ => ⟨S1024x512, .bf16⟩
  | .local _ .vmem, ⟨1, _⟩ => ⟨S1024x512, .bf16⟩
  | .local _ .vmem, ⟨2, _⟩ => ⟨S1x512x384, .bf16⟩
  | .local _ .vmem, ⟨3, _⟩ => ⟨S1x512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QbNnRefIdeal.lean ====
abbrev S2048x512 : Shape := ⟨2, ![2048, 512]⟩
abbrev S512x1536 : Shape := ⟨2, ![512, 1536]⟩
abbrev S2048x1536 : Shape := ⟨2, ![2048, 1536]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KvbNt.lean ====
abbrev S2048x2048 : Shape := ⟨2, ![2048, 2048]⟩
abbrev S256x2048 : Shape := ⟨2, ![256, 2048]⟩
abbrev S256x4x512 : Shape := ⟨3, ![256, 4, 512]⟩
abbrev S4x256x512 : Shape := ⟨3, ![4, 256, 512]⟩
abbrev S2048x256 : Shape := ⟨2, ![2048, 256]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .bf16⟩
  | .hbm, ⟨3, _⟩ => ⟨S256x4x512, .f32⟩
  | .hbm, ⟨4, _⟩ => ⟨S4x256x512, .f32⟩
  | .hbm, ⟨5, _⟩ => ⟨S4x256x512, .bf16⟩
  | .hbm, ⟨6, _⟩ => ⟨S2048x256, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KvbNtIdeal.lean ====
abbrev S2048x2048 : Shape := ⟨2, ![2048, 2048]⟩
abbrev S256x2048 : Shape := ⟨2, ![256, 2048]⟩
abbrev S256x4x512 : Shape := ⟨3, ![256, 4, 512]⟩
abbrev S4x256x512 : Shape := ⟨3, ![4, 256, 512]⟩
abbrev S2048x256 : Shape := ⟨2, ![2048, 256]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .bf16⟩
  | .hbm, ⟨3, _⟩ => ⟨S256x4x512, .f32⟩
  | .hbm, ⟨4, _⟩ => ⟨S4x256x512, .f32⟩
  | .hbm, ⟨5, _⟩ => ⟨S4x256x512, .bf16⟩
  | .hbm, ⟨6, _⟩ => ⟨S2048x256, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KvbNtRefIdeal.lean ====
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S_, .f32⟩
  | .hbm, ⟨3, _⟩ => ⟨S2048x256, .f32⟩
  | .hbm, ⟨4, _⟩ => ⟨S2048x2048, .f32⟩
  | .hbm, ⟨5, _⟩ => ⟨S2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvbTn.lean ====
abbrev S2048x256 : Shape := ⟨2, ![2048, 256]⟩
abbrev S2048x2048 : Shape := ⟨2, ![2048, 2048]⟩
abbrev S256x2048 : Shape := ⟨2, ![256, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S256x2048, .bf16⟩
  | .hbm, ⟨4, _⟩ => ⟨S2048x2048, .bf16⟩
  | .hbm, ⟨5, _⟩ => ⟨S4x256x512, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .bf16⟩
  | .local _ .vmem, ⟨4, _⟩ => ⟨S1x256x512, .bf16⟩
  | .local _ .vmem, ⟨5, _⟩ => ⟨S256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvbTnIdeal.lean ====
abbrev S2048x256 : Shape := ⟨2, ![2048, 256]⟩
abbrev S2048x2048 : Shape := ⟨2, ![2048, 2048]⟩
abbrev S256x2048 : Shape := ⟨2, ![256, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S256x2048, .bf16⟩
  | .hbm, ⟨4, _⟩ => ⟨S2048x2048, .bf16⟩
  | .hbm, ⟨5, _⟩ => ⟨S4x256x512, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .bf16⟩
  | .local _ .vmem, ⟨4, _⟩ => ⟨S1x256x512, .bf16⟩
  | .local _ .vmem, ⟨5, _⟩ => ⟨S256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvbTnRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x4x512 : Shape := ⟨3, ![256, 4, 512]⟩
abbrev S4x256x512 : Shape := ⟨3, ![4, 256, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x4x512, .f32⟩
  | .hbm, ⟨8, _⟩ => ⟨S4x256x512, .f32⟩
  | .hbm, ⟨9, _⟩ => ⟨S4x256x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvbNn.lean ====
abbrev S2048x256 : Shape := ⟨2, ![2048, 256]⟩
abbrev S256x2048 : Shape := ⟨2, ![256, 2048]⟩
abbrev S256x4x512 : Shape := ⟨3, ![256, 4, 512]⟩
abbrev S4x256x512 : Shape := ⟨3, ![4, 256, 512]⟩
abbrev S2048x2048 : Shape := ⟨2, ![2048, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x256, .bf16⟩
  | .hbm, ⟨3, _⟩ => ⟨S256x4x512, .f32⟩
  | .hbm, ⟨4, _⟩ => ⟨S4x256x512, .f32⟩
  | .hbm, ⟨5, _⟩ => ⟨S4x256x512, .bf16⟩
  | .hbm, ⟨6, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvbNnIdeal.lean ====
abbrev S2048x256 : Shape := ⟨2, ![2048, 256]⟩
abbrev S256x2048 : Shape := ⟨2, ![256, 2048]⟩
abbrev S256x4x512 : Shape := ⟨3, ![256, 4, 512]⟩
abbrev S4x256x512 : Shape := ⟨3, ![4, 256, 512]⟩
abbrev S2048x2048 : Shape := ⟨2, ![2048, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x256, .bf16⟩
  | .hbm, ⟨3, _⟩ => ⟨S256x4x512, .f32⟩
  | .hbm, ⟨4, _⟩ => ⟨S4x256x512, .f32⟩
  | .hbm, ⟨5, _⟩ => ⟨S4x256x512, .bf16⟩
  | .hbm, ⟨6, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvbNnRefIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SqNt.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== SqNtIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== SqNtRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SqTn.lean ====
abbrev S2048x2048 : Shape := ⟨2, ![2048, 2048]⟩
abbrev S1x2048x2048 : Shape := ⟨3, ![1, 2048, 2048]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S1x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SqTnIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S1x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SqTnRefIdeal.lean ====
abbrev S2048x2048 : Shape := ⟨2, ![2048, 2048]⟩
abbrev S_ : Shape := ⟨0, ![]⟩
abbrev S2048x1x2048 : Shape := ⟨3, ![2048, 1, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x1x2048, .f32⟩
  | .hbm, ⟨8, _⟩ => ⟨S1x2048x2048, .f32⟩
  | .hbm, ⟨9, _⟩ => ⟨S1x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SqNn.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SqNnIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SqNnRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SqRes.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S1x2048x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== SqResIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S1x2048x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== SqResRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MemNt.lean ====
abbrev S256x2048 : Shape := ⟨2, ![256, 2048]⟩
abbrev S2048x2048 : Shape := ⟨2, ![2048, 2048]⟩
abbrev S1x2048x2048 : Shape := ⟨3, ![1, 2048, 2048]⟩
abbrev S1x1024x2048 : Shape := ⟨3, ![1, 1024, 2048]⟩
abbrev S256x1024 : Shape := ⟨2, ![256, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S2048x2048, .bf16⟩
  | .hbm, ⟨4, _⟩ => ⟨S1x2048x2048, .bf16⟩
  | .hbm, ⟨5, _⟩ => ⟨S256x2048, .f32⟩
  | .local _ .vmem, ⟨0, _⟩ => ⟨S256x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== MemNtIdeal.lean ====
abbrev S256x2048 : Shape := ⟨2, ![256, 2048]⟩
abbrev S2048x2048 : Shape := ⟨2, ![2048, 2048]⟩
abbrev S1x2048x2048 : Shape := ⟨3, ![1, 2048, 2048]⟩
abbrev S1x1024x2048 : Shape := ⟨3, ![1, 1024, 2048]⟩
abbrev S256x1024 : Shape := ⟨2, ![256, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S2048x2048, .bf16⟩
  | .hbm, ⟨4, _⟩ => ⟨S1x2048x2048, .bf16⟩
  | .hbm, ⟨5, _⟩ => ⟨S256x2048, .f32⟩
  | .local _ .vmem, ⟨0, _⟩ => ⟨S256x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== MemNtRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemTn.lean ====
abbrev S256x2048 : Shape := ⟨2, ![256, 2048]⟩
abbrev S2048x256 : Shape := ⟨2, ![2048, 256]⟩
abbrev S1x2048x2048 : Shape := ⟨3, ![1, 2048, 2048]⟩
abbrev S1024x256 : Shape := ⟨2, ![1024, 256]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .bf16⟩
  | .hbm, ⟨3, _⟩ => ⟨S2048x256, .bf16⟩
  | .hbm, ⟨4, _⟩ => ⟨S256x2048, .bf16⟩
  | .hbm, ⟨5, _⟩ => ⟨S1x2048x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemTnIdeal.lean ====
abbrev S256x2048 : Shape := ⟨2, ![256, 2048]⟩
abbrev S2048x256 : Shape := ⟨2, ![2048, 256]⟩
abbrev S1x2048x2048 : Shape := ⟨3, ![1, 2048, 2048]⟩
abbrev S1024x256 : Shape := ⟨2, ![1024, 256]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .bf16⟩
  | .hbm, ⟨3, _⟩ => ⟨S2048x256, .bf16⟩
  | .hbm, ⟨4, _⟩ => ⟨S256x2048, .bf16⟩
  | .hbm, ⟨5, _⟩ => ⟨S1x2048x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemTnRefIdeal.lean ====
abbrev S256x2048 : Shape := ⟨2, ![256, 2048]⟩
abbrev S_ : Shape := ⟨0, ![]⟩
abbrev S2048x2048 : Shape := ⟨2, ![2048, 2048]⟩
abbrev S2048x1x2048 : Shape := ⟨3, ![2048, 1, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x1x2048, .f32⟩
  | .hbm, ⟨8, _⟩ => ⟨S1x2048x2048, .f32⟩
  | .hbm, ⟨9, _⟩ => ⟨S1x2048x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemNn.lean ====
abbrev S256x2048 : Shape := ⟨2, ![256, 2048]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S2048x2048, .bf16⟩
  | .hbm, ⟨4, _⟩ => ⟨S1x2048x2048, .bf16⟩
  | .hbm, ⟨5, _⟩ => ⟨S256x2048, .f32⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemNnIdeal.lean ====
abbrev S256x2048 : Shape := ⟨2, ![256, 2048]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S2048x2048, .bf16⟩
  | .hbm, ⟨4, _⟩ => ⟨S1x2048x2048, .bf16⟩
  | .hbm, ⟨5, _⟩ => ⟨S256x2048, .f32⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemNnRefIdeal.lean ====
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpNt.lean ====
abbrev S2048x11264 : Shape := ⟨2, ![2048, 11264]⟩
abbrev S2048x2x22x256 : Shape := ⟨4, ![2048, 2, 22, 256]⟩
abbrev S2048x22x2x256 : Shape := ⟨4, ![2048, 22, 2, 256]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x2x22x256, .f32⟩
  | .hbm, ⟨3, _⟩ => ⟨S2048x22x2x256, .f32⟩
  | .hbm, ⟨4, _⟩ => ⟨S2048x11264, .f32⟩
  | .hbm, ⟨5, _⟩ => ⟨S2048x11264, .bf16⟩
  | .hbm, ⟨6, _⟩ => ⟨S2048x4x2816, .f32⟩
  | .hbm, ⟨7, _⟩ => ⟨S4x2048x2816, .f32⟩
  | .hbm, ⟨8, _⟩ => ⟨S4x2048x2816, .bf16⟩
  | .hbm, ⟨9, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 44], ![false, false, false, false]⟩

def k0_cond2 (i : grid0.Coords) : BitVec 1 :=
  let arg3 : BitVec 32 := BitVec.ofNat 32 (i 3).val
  let c43_i32 : BitVec 32 := 43#32
  let v13 : BitVec 1 := Scalar.cmpi .eq arg3 c43_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c22_i32 : BitVec 32 := 22#32
  let v0 : BitVec 1 := Scalar.cmpi .slt arg3 c22_i32
  let c2_i32 : BitVec 32 := 2#32
  let v1 : BitVec 32 := Scalar.muli c2_i32 arg3
  let c22_i32_0 : BitVec 32 := 22#32
  let v2 : BitVec 32 := Scalar.subi arg3 c22_i32_0
  let c2_i32_1 : BitVec 32 := 2#32
  let v3 : BitVec 32 := Scalar.muli c2_i32_1 v2
  let c1_i32 : BitVec 32 := 1#32
  let v4 : BitVec 32 := Scalar.addi v3 c1_i32
  let v5 : BitVec 32 := Scalar.select v0 v1 v4
  let c0_i32 : BitVec 32 := 0#32
  ![arg1.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.divsi arg3 c11_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg3 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== UpNtIdeal.lean ====
abbrev S2048x11264 : Shape := ⟨2, ![2048, 11264]⟩
abbrev S2048x2x22x256 : Shape := ⟨4, ![2048, 2, 22, 256]⟩
abbrev S2048x22x2x256 : Shape := ⟨4, ![2048, 22, 2, 256]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x2x22x256, .f32⟩
  | .hbm, ⟨3, _⟩ => ⟨S2048x22x2x256, .f32⟩
  | .hbm, ⟨4, _⟩ => ⟨S2048x11264, .f32⟩
  | .hbm, ⟨5, _⟩ => ⟨S2048x11264, .bf16⟩
  | .hbm, ⟨6, _⟩ => ⟨S2048x4x2816, .f32⟩
  | .hbm, ⟨7, _⟩ => ⟨S4x2048x2816, .f32⟩
  | .hbm, ⟨8, _⟩ => ⟨S4x2048x2816, .bf16⟩
  | .hbm, ⟨9, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 44], ![false, false, false, false]⟩

def k0_cond2 (i : grid0.Coords) : BitVec 1 :=
  let arg3 : BitVec 32 := BitVec.ofNat 32 (i 3).val
  let c43_i32 : BitVec 32 := 43#32
  let v13 : BitVec 1 := Scalar.cmpi .eq arg3 c43_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c22_i32 : BitVec 32 := 22#32
  let v0 : BitVec 1 := Scalar.cmpi .slt arg3 c22_i32
  let c2_i32 : BitVec 32 := 2#32
  let v1 : BitVec 32 := Scalar.muli c2_i32 arg3
  let c22_i32_0 : BitVec 32 := 22#32
  let v2 : BitVec 32 := Scalar.subi arg3 c22_i32_0
  let c2_i32_1 : BitVec 32 := 2#32
  let v3 : BitVec 32 := Scalar.muli c2_i32_1 v2
  let c1_i32 : BitVec 32 := 1#32
  let v4 : BitVec 32 := Scalar.addi v3 c1_i32
  let v5 : BitVec 32 := Scalar.select v0 v1 v4
  let c0_i32 : BitVec 32 := 0#32
  ![arg1.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.divsi arg3 c11_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg3 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== UpNtRefIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpTn.lean ====
abbrev S2048x2048 : Shape := ⟨2, ![2048, 2048]⟩
abbrev S2048x11264 : Shape := ⟨2, ![2048, 11264]⟩
abbrev S2048x2x22x256 : Shape := ⟨4, ![2048, 2, 22, 256]⟩
abbrev S2048x22x2x256 : Shape := ⟨4, ![2048, 22, 2, 256]⟩
abbrev S4x2048x2816 : Shape := ⟨3, ![4, 2048, 2816]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2x22x256, .f32⟩
  | .hbm, ⟨3, _⟩ => ⟨S2048x22x2x256, .f32⟩
  | .hbm, ⟨4, _⟩ => ⟨S2048x11264, .f32⟩
  | .hbm, ⟨5, _⟩ => ⟨S2048x2048, .bf16⟩
  | .hbm, ⟨6, _⟩ => ⟨S2048x2048, .bf16⟩
  | .hbm, ⟨7, _⟩ => ⟨S2048x11264, .bf16⟩
  | .hbm, ⟨8, _⟩ => ⟨S4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 11, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c22_i32 : BitVec 32 := 22#32
  let v2 : BitVec 1 := Scalar.cmpi .slt v1 c22_i32
  let c2_i32 : BitVec 32 := 2#32
  let v3 : BitVec 32 := Scalar.muli c2_i32 v1
  let c22_i32_0 : BitVec 32 := 22#32
  let v4 : BitVec 32 := Scalar.subi v1 c22_i32_0
  let c2_i32_1 : BitVec 32 := 2#32
  let v5 : BitVec 32 := Scalar.muli c2_i32_1 v4
  let c1_i32 : BitVec 32 := 1#32
  let v6 : BitVec 32 := Scalar.addi v5 c1_i32
  let v7 : BitVec 32 := Scalar.select v2 v3 v6
  let c0_i32 : BitVec 32 := 0#32
  ![arg3.toNat, v7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpTnIdeal.lean ====
abbrev S2048x2048 : Shape := ⟨2, ![2048, 2048]⟩
abbrev S2048x11264 : Shape := ⟨2, ![2048, 11264]⟩
abbrev S2048x2x22x256 : Shape := ⟨4, ![2048, 2, 22, 256]⟩
abbrev S2048x22x2x256 : Shape := ⟨4, ![2048, 22, 2, 256]⟩
abbrev S4x2048x2816 : Shape := ⟨3, ![4, 2048, 2816]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2x22x256, .f32⟩
  | .hbm, ⟨3, _⟩ => ⟨S2048x22x2x256, .f32⟩
  | .hbm, ⟨4, _⟩ => ⟨S2048x11264, .f32⟩
  | .hbm, ⟨5, _⟩ => ⟨S2048x2048, .bf16⟩
  | .hbm, ⟨6, _⟩ => ⟨S2048x2048, .bf16⟩
  | .hbm, ⟨7, _⟩ => ⟨S2048x11264, .bf16⟩
  | .hbm, ⟨8, _⟩ => ⟨S4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 11, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c22_i32 : BitVec 32 := 22#32
  let v2 : BitVec 1 := Scalar.cmpi .slt v1 c22_i32
  let c2_i32 : BitVec 32 := 2#32
  let v3 : BitVec 32 := Scalar.muli c2_i32 v1
  let c22_i32_0 : BitVec 32 := 22#32
  let v4 : BitVec 32 := Scalar.subi v1 c22_i32_0
  let c2_i32_1 : BitVec 32 := 2#32
  let v5 : BitVec 32 := Scalar.muli c2_i32_1 v4
  let c1_i32 : BitVec 32 := 1#32
  let v6 : BitVec 32 := Scalar.addi v5 c1_i32
  let v7 : BitVec 32 := Scalar.select v2 v3 v6
  let c0_i32 : BitVec 32 := 0#32
  ![arg3.toNat, v7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpTnRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S2048x4x2816, .f32⟩
  | .hbm, ⟨8, _⟩ => ⟨S4x2048x2816, .f32⟩
  | .hbm, ⟨9, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpNn.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 11, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg0 c11_i32
  let v1 : BitVec 32 := Scalar.addi v0 arg2
  let c22_i32 : BitVec 32 := 22#32
  let v2 : BitVec 1 := Scalar.cmpi .slt v1 c22_i32
  let c2_i32 : BitVec 32 := 2#32
  let v3 : BitVec 32 := Scalar.muli c2_i32 v1
  let c22_i32_0 : BitVec 32 := 22#32
  let v4 : BitVec 32 := Scalar.subi v1 c22_i32_0
  let c2_i32_1 : BitVec 32 := 2#32
  let v5 : BitVec 32 := Scalar.muli c2_i32_1 v4
  let c1_i32 : BitVec 32 := 1#32
  let v6 : BitVec 32 := Scalar.addi v5 c1_i32
  let v7 : BitVec 32 := Scalar.select v2 v3 v6
  let c0_i32 : BitVec 32 := 0#32
  ![arg1.toNat, v7.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpNnRefIdeal.lean ====
abbrev S2048x2048 : Shape := ⟨2, ![2048, 2048]⟩
abbrev S2048x11264 : Shape := ⟨2, ![2048, 11264]⟩
abbrev S2048x2x22x256 : Shape := ⟨4, ![2048, 2, 22, 256]⟩
abbrev S2048x22x2x256 : Shape := ⟨4, ![2048, 22, 2, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x2x22x256, .f32⟩
  | .hbm, ⟨4, _⟩ => ⟨S2048x22x2x256, .f32⟩
  | .hbm, ⟨5, _⟩ => ⟨S2048x11264, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownNt.lean ====
abbrev S2048x2048 : Shape := ⟨2, ![2048, 2048]⟩
abbrev S5632x2048 : Shape := ⟨2, ![5632, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S1x5632x2048, .bf16⟩
  | .hbm, ⟨5, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 11, 1], ![false, false, false, false]⟩

def k0_cond2 (i : grid0.Coords) : BitVec 1 :=
  let arg3 : BitVec 32 := BitVec.ofNat 32 (i 3).val
  let c0_i32_9 : BitVec 32 := 0#32
  let v13 : BitVec 1 := Scalar.cmpi .eq arg3 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DownNtRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownTn.lean ====
abbrev S2048x5632 : Shape := ⟨2, ![2048, 5632]⟩
abbrev S2048x2048 : Shape := ⟨2, ![2048, 2048]⟩
abbrev S5632x2048 : Shape := ⟨2, ![5632, 2048]⟩
abbrev S1x5632x2048 : Shape := ⟨3, ![1, 5632, 2048]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S5632x2048, .bf16⟩
  | .hbm, ⟨4, _⟩ => ⟨S2048x2048, .bf16⟩
  | .hbm, ⟨5, _⟩ => ⟨S1x5632x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 11, 2, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DownTnRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S5632x1x2048 : Shape := ⟨3, ![5632, 1, 2048]⟩
abbrev S1x5632x2048 : Shape := ⟨3, ![1, 5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x1x2048, .f32⟩
  | .hbm, ⟨8, _⟩ => ⟨S1x5632x2048, .f32⟩
  | .hbm, ⟨9, _⟩ => ⟨S1x5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownRes.lean ====
abbrev S2048x5632 : Shape := ⟨2, ![2048, 5632]⟩
abbrev S5632x2048 : Shape := ⟨2, ![5632, 2048]⟩
abbrev S2048x2048 : Shape := ⟨2, ![2048, 2048]⟩
abbrev S1x5632x2048 : Shape := ⟨3, ![1, 5632, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S1x5632x2048, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== DownResRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AdamIn.lean ====
abbrev S4x2048x1236 : Shape := ⟨3, ![4, 2048, 1236]⟩
abbrev S8192x1236 : Shape := ⟨2, ![8192, 1236]⟩
abbrev S128x1236 : Shape := ⟨2, ![128, 1236]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1236, .f32⟩
  | .hbm, ⟨1, _⟩ => ⟨S4x2048x1236, .f32⟩
  | .hbm, ⟨2, _⟩ => ⟨S4x2048x1236, .f32⟩
  | .hbm, ⟨3, _⟩ => ⟨S4x2048x1236, .f32⟩
  | .hbm, ⟨4, _⟩ => ⟨S8192x1236, .f32⟩
  | .hbm, ⟨5, _⟩ => ⟨S8192x1236, .f32⟩
  | .hbm, ⟨6, _⟩ => ⟨S8192x1236, .f32⟩
  | .hbm, ⟨7, _⟩ => ⟨S8192x1236, .f32⟩
  | .hbm, ⟨8, _⟩ => ⟨S8192x1236, .f32⟩
  | .hbm, ⟨9, _⟩ => ⟨S8192x1236, .f32⟩
  | .hbm, ⟨10, _⟩ => ⟨S8192x1236, .f32⟩
  | .local _ .vmem, ⟨0, _⟩ => ⟨S128x1236, .f32⟩
  | .local _ .vmem, ⟨1, _⟩ => ⟨S128x1236, .f32⟩
  | .local _ .vmem, ⟨2, _⟩ => ⟨S128x1236, .f32⟩
  | .local _ .vmem, ⟨3, _⟩ => ⟨S128x1236, .f32⟩
  | .local _ .vmem, ⟨4, _⟩ => ⟨S128x1236, .f32⟩
  | .local _ .vmem, ⟨5, _⟩ => ⟨S128x1236, .f32⟩
  | .local _ .vmem, ⟨6, _⟩ => ⟨S128x1236, .f32⟩
  | .local _ .vmem, ⟨7, _⟩ => ⟨S128x1236, .f32⟩
  | .local _ .vmem, ⟨8, _⟩ => ⟨S128x1236, .f32⟩
  | .local _ .vmem, ⟨9, _⟩ => ⟨S128x1236, .f32⟩
  | .local _ .vmem, ⟨10, _⟩ => ⟨S128x1236, .f32⟩
  | .local _ .vmem, ⟨11, _⟩ => ⟨S128x1236, .f32⟩
  | .local _ .vmem, ⟨12, _⟩ => ⟨S128x1236, .f32⟩
  | .local _ .vmem, ⟨13, _⟩ => ⟨S128x1236, .f32⟩
  | _, _ => ⟨S4x2048x1236, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1236 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1236 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1236 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1236 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1236 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1236 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1236 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x2048x1236 : Shape := ⟨3, ![4, 2048, 1236]⟩
abbrev S8192x1236 : Shape := ⟨2, ![8192, 1236]⟩
abbrev S128x1236 : Shape := ⟨2, ![128, 1236]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1236, .f32⟩
  | .hbm, ⟨1, _⟩ => ⟨S4x2048x1236, .f32⟩
  | .hbm, ⟨2, _⟩ => ⟨S4x2048x1236, .f32⟩
  | .hbm, ⟨3, _⟩ => ⟨S4x2048x1236, .f32⟩
  | .hbm, ⟨4, _⟩ => ⟨S8192x1236, .f32⟩
  | .hbm, ⟨5, _⟩ => ⟨S8192x1236, .f32⟩
  | .hbm, ⟨6, _⟩ => ⟨S8192x1236, .f32⟩
  | .hbm, ⟨7, _⟩ => ⟨S8192x1236, .f32⟩
  | .hbm, ⟨8, _⟩ => ⟨S8192x1236, .f32⟩
  | .hbm, ⟨9, _⟩ => ⟨S8192x1236, .f32⟩
  | .hbm, ⟨10, _⟩ => ⟨S8192x1236, .f32⟩
  | .local _ .vmem, ⟨0, _⟩ => ⟨S128x1236, .f32⟩
  | .local _ .vmem, ⟨1, _⟩ => ⟨S128x1236, .f32⟩
  | .local _ .vmem, ⟨2, _⟩ => ⟨S128x1236, .f32⟩
  | .local _ .vmem, ⟨3, _⟩ => ⟨S128x1236, .f32⟩
  | .local _ .vmem, ⟨4, _⟩ => ⟨S128x1236, .f32⟩
  | .local _ .vmem, ⟨5, _⟩ => ⟨S128x1236, .f32⟩
  | .local _ .vmem, ⟨6, _⟩ => ⟨S128x1236, .f32⟩
  | .local _ .vmem, ⟨7, _⟩ => ⟨S128x1236, .f32⟩
  | .local _ .vmem, ⟨8, _⟩ => ⟨S128x1236, .f32⟩
  | .local _ .vmem, ⟨9, _⟩ => ⟨S128x1236, .f32⟩
  | .local _ .vmem, ⟨10, _⟩ => ⟨S128x1236, .f32⟩
  | .local _ .vmem, ⟨11, _⟩ => ⟨S128x1236, .f32⟩
  | .local _ .vmem, ⟨12, _⟩ => ⟨S128x1236, .f32⟩
  | .local _ .vmem, ⟨13, _⟩ => ⟨S128x1236, .f32⟩
  | _, _ => ⟨S4x2048x1236, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1236 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1236 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1236 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1236 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1236 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1236 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1236 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x2048x1236 : Shape := ⟨3, ![4, 2048, 1236]⟩
abbrev S_ : Shape := ⟨0, ![]⟩
abbrev S8192x1236 : Shape := ⟨2, ![8192, 1236]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1236, .f32⟩
  | .hbm, ⟨1, _⟩ => ⟨S4x2048x1236, .f32⟩
  | .hbm, ⟨2, _⟩ => ⟨S4x2048x1236, .f32⟩
  | .hbm, ⟨3, _⟩ => ⟨S4x2048x1236, .f32⟩
  | .hbm, ⟨4, _⟩ => ⟨S_, .f32⟩
  | .hbm, ⟨5, _⟩ => ⟨S4x2048x1236, .f32⟩
  | .hbm, ⟨6, _⟩ => ⟨S4x2048x1236, .f32⟩
  | .hbm, ⟨7, _⟩ => ⟨S_, .f32⟩
  | .hbm, ⟨8, _⟩ => ⟨S4x2048x1236, .f32⟩
  | .hbm, ⟨9, _⟩ => ⟨S4x2048x1236, .f32⟩
  | .hbm, ⟨10, _⟩ => ⟨S4x2048x1236, .f32⟩
  | .hbm, ⟨11, _⟩ => ⟨S_, .f32⟩
  | .hbm, ⟨12, _⟩ => ⟨S4x2048x1236, .f32⟩
  | .hbm, ⟨13, _⟩ => ⟨S4x2048x1236, .f32⟩
  | .hbm, ⟨14, _⟩ => ⟨S4x2048x1236, .f32⟩
  | .hbm, ⟨15, _⟩ => ⟨S_, .f32⟩
  | .hbm, ⟨16, _⟩ => ⟨S4x2048x1236, .f32⟩
  | .hbm, ⟨17, _⟩ => ⟨S4x2048x1236, .f32⟩
  | .hbm, ⟨18, _⟩ => ⟨S4x2048x1236, .f32⟩
  | .hbm, ⟨19, _⟩ => ⟨S_, .f32⟩
  | .hbm, ⟨20, _⟩ => ⟨S4x2048x1236, .f32⟩
  | .hbm, ⟨21, _⟩ => ⟨S4x2048x1236, .f32⟩
  | .hbm, ⟨22, _⟩ => ⟨S_, .f32⟩
  | .hbm, ⟨23, _⟩ => ⟨S4x2048x1236, .f32⟩
  | .hbm, ⟨24, _⟩ => ⟨S4x2048x1236, .f32⟩
  | .hbm, ⟨25, _⟩ => ⟨S4x2048x1236, .f32⟩
  | .hbm, ⟨26, _⟩ => ⟨S_, .f32⟩
  | .hbm, ⟨27, _⟩ => ⟨S4x2048x1236, .f32⟩
  | .hbm, ⟨28, _⟩ => ⟨S4x2048x1236, .f32⟩
  | .hbm, ⟨29, _⟩ => ⟨S4x2048x1236, .f32⟩
  | .hbm, ⟨30, _⟩ => ⟨S_, .f32⟩
  | .hbm, ⟨31, _⟩ => ⟨S4x2048x1236, .f32⟩
  | .hbm, ⟨32, _⟩ => ⟨S4x2048x1236, .f32⟩
  | .hbm, ⟨33, _⟩ => ⟨S4x2048x1236, .f32⟩
  | .hbm, ⟨34, _⟩ => ⟨S_, .f32⟩
  | .hbm, ⟨35, _⟩ => ⟨S4x2048x1236, .f32⟩
  | .hbm, ⟨36, _⟩ => ⟨S4x2048x1236, .f32⟩
  | .hbm, ⟨37, _⟩ => ⟨S8192x1236, .f32⟩
  | .hbm, ⟨38, _⟩ => ⟨S8192x1236, .f32⟩
  | .hbm, ⟨39, _⟩ => ⟨S8192x1236, .f32⟩
  | _, _ => ⟨S4x2048x1236, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPacked.lean ====
abbrev S968x128 : Shape := ⟨2, ![968, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S968x128, .f32⟩
  | .hbm, ⟨1, _⟩ => ⟨S968x128, .f32⟩
  | .hbm, ⟨2, _⟩ => ⟨S968x128, .f32⟩
  | .hbm, ⟨3, _⟩ => ⟨S968x128, .f32⟩
  | .hbm, ⟨4, _⟩ => ⟨S968x128, .f32⟩
  | .hbm, ⟨5, _⟩ => ⟨S968x128, .f32⟩
  | .hbm, ⟨6, _⟩ => ⟨S968x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S968x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![121], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPackedIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamPackedRefIdeal.lean ====
abbrev S968x128 : Shape := ⟨2, ![968, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S968x128, .f32⟩
  | .hbm, ⟨1, _⟩ => ⟨S968x128, .f32⟩
  | .hbm, ⟨2, _⟩ => ⟨S968x128, .f32⟩
  | .hbm, ⟨3, _⟩ => ⟨S968x128, .f32⟩
  | .hbm, ⟨4, _⟩ => ⟨S_, .f32⟩
  | .hbm, ⟨5, _⟩ => ⟨S968x128, .f32⟩
  | .hbm, ⟨6, _⟩ => ⟨S968x128, .f32⟩
  | .hbm, ⟨7, _⟩ => ⟨S_, .f32⟩
  | .hbm, ⟨8, _⟩ => ⟨S968x128, .f32⟩
  | .hbm, ⟨9, _⟩ => ⟨S968x128, .f32⟩
  | .hbm, ⟨10, _⟩ => ⟨S968x128, .f32⟩
  | .hbm, ⟨11, _⟩ => ⟨S_, .f32⟩
  | .hbm, ⟨12, _⟩ => ⟨S968x128, .f32⟩
  | .hbm, ⟨13, _⟩ => ⟨S968x128, .f32⟩
  | .hbm, ⟨14, _⟩ => ⟨S968x128, .f32⟩
  | .hbm, ⟨15, _⟩ => ⟨S_, .f32⟩
  | .hbm, ⟨16, _⟩ => ⟨S968x128, .f32⟩
  | .hbm, ⟨17, _⟩ => ⟨S968x128, .f32⟩
  | .hbm, ⟨18, _⟩ => ⟨S968x128, .f32⟩
  | .hbm, ⟨19, _⟩ => ⟨S_, .f32⟩
  | .hbm, ⟨20, _⟩ => ⟨S968x128, .f32⟩
  | .hbm, ⟨21, _⟩ => ⟨S968x128, .f32⟩
  | .hbm, ⟨22, _⟩ => ⟨S_, .f32⟩
  | .hbm, ⟨23, _⟩ => ⟨S968x128, .f32⟩
  | .hbm, ⟨24, _⟩ => ⟨S968x128, .f32⟩
  | .hbm, ⟨25, _⟩ => ⟨S968x128, .f32⟩
  | .hbm, ⟨26, _⟩ => ⟨S_, .f32⟩
  | .hbm, ⟨27, _⟩ => ⟨S968x128, .f32⟩
  | .hbm, ⟨28, _⟩ => ⟨S968x128, .f32⟩
  | .hbm, ⟨29, _⟩ => ⟨S968x128, .f32⟩
  | .hbm, ⟨30, _⟩ => ⟨S_, .f32⟩
  | .hbm, ⟨31, _⟩ => ⟨S968x128, .f32⟩
  | .hbm, ⟨32, _⟩ => ⟨S968x128, .f32⟩
  | .hbm, ⟨33, _⟩ => ⟨S968x128, .f32⟩
  | .hbm, ⟨34, _⟩ => ⟨S_, .f32⟩
  | .hbm, ⟨35, _⟩ => ⟨S968x128, .f32⟩
  | .hbm, ⟨36, _⟩ => ⟨S968x128, .f32⟩
  | _, _ => ⟨S968x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQb.lean ====
abbrev S1 : Shape := ⟨1, ![1]⟩
abbrev S4x512x384 : Shape := ⟨3, ![4, 512, 384]⟩
abbrev S4x256x384 : Shape := ⟨3, ![4, 256, 384]⟩
abbrev S1x256x384 : Shape := ⟨3, ![1, 256, 384]⟩
abbrev S256x384 : Shape := ⟨2, ![256, 384]⟩

abbrev nBuf : Space → Nat
  | .hbm => 9
  | .vmem => 18
  | .smem => 1
  | _ => 0

abbrev bufTy : (tb : Table) → Fin (tcTables nBuf tb) → BufTy
  | .hbm, ⟨0, _⟩ => ⟨S4x512x384, .f32⟩
  | .hbm, ⟨1, _⟩ => ⟨S4x256x384, .f32⟩
  | .hbm, ⟨2, _⟩ => ⟨S4x256x384, .f32⟩
  | .hbm, ⟨3, _⟩ => ⟨S4x512x384, .f32⟩
  | .hbm, ⟨4, _⟩ => ⟨S4x512x384, .f32⟩
  | .hbm, ⟨5, _⟩ => ⟨S4x512x384, .f32⟩
  | .hbm, ⟨6, _⟩ => ⟨S4x512x384, .f32⟩
  | .hbm, ⟨7, _⟩ => ⟨S4x512x384, .f32⟩
  | .hbm, ⟨8, _⟩ => ⟨S4x512x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S4x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamQbIdeal.lean ====
abbrev S1 : Shape := ⟨1, ![1]⟩
abbrev S4x512x384 : Shape := ⟨3, ![4, 512, 384]⟩
abbrev S4x256x384 : Shape := ⟨3, ![4, 256, 384]⟩
abbrev S1x256x384 : Shape := ⟨3, ![1, 256, 384]⟩
abbrev S256x384 : Shape := ⟨2, ![256, 384]⟩

abbrev nBuf : Space → Nat
  | .hbm => 9
  | .vmem => 18
  | .smem => 1
  | _ => 0

abbrev bufTy : (tb : Table) → Fin (tcTables nBuf tb) → BufTy
  | .hbm, ⟨0, _⟩ => ⟨S4x512x384, .f32⟩
  | .hbm, ⟨1, _⟩ => ⟨S4x256x384, .f32⟩
  | .hbm, ⟨2, _⟩ => ⟨S4x256x384, .f32⟩
  | .hbm, ⟨3, _⟩ => ⟨S4x512x384, .f32⟩
  | .hbm, ⟨4, _⟩ => ⟨S4x512x384, .f32⟩
  | .hbm, ⟨5, _⟩ => ⟨S4x512x384, .f32⟩
  | .hbm, ⟨6, _⟩ => ⟨S4x512x384, .f32⟩
  | .hbm, ⟨7, _⟩ => ⟨S4x512x384, .f32⟩
  | .hbm, ⟨8, _⟩ => ⟨S4x512x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S4x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamQbRefIdeal.lean ====
abbrev S1 : Shape := ⟨1, ![1]⟩
abbrev S4x512x384 : Shape := ⟨3, ![4, 512, 384]⟩
abbrev S4x256x384 : Shape := ⟨3, ![4, 256, 384]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x384, .f32⟩
  | .hbm, ⟨2, _⟩ => ⟨S4x256x384, .f32⟩
  | .hbm, ⟨3, _⟩ => ⟨S4x256x384, .f32⟩
  | .hbm, ⟨4, _⟩ => ⟨S4x512x384, .f32⟩
  | .hbm, ⟨5, _⟩ => ⟨S4x512x384, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x256x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x256x384, .f32⟩
  | .hbm, ⟨14, _⟩ => ⟨S4x512x384, .f32⟩
  | .hbm, ⟨15, _⟩ => ⟨S_, .f32⟩
  | .hbm, ⟨16, _⟩ => ⟨S4x512x384, .f32⟩
  | .hbm, ⟨17, _⟩ => ⟨S4x512x384, .f32⟩
  | .hbm, ⟨18, _⟩ => ⟨S_, .f32⟩
  | .hbm, ⟨19, _⟩ => ⟨S4x512x384, .f32⟩
  | .hbm, ⟨20, _⟩ => ⟨S4x512x384, .f32⟩
  | .hbm, ⟨21, _⟩ => ⟨S4x512x384, .f32⟩
  | .hbm, ⟨22, _⟩ => ⟨S_, .f32⟩
  | .hbm, ⟨23, _⟩ => ⟨S4x512x384, .f32⟩
  | .hbm, ⟨24, _⟩ => ⟨S4x512x384, .f32⟩
  | .hbm, ⟨25, _⟩ => ⟨S4x512x384, .f32⟩
  | .hbm, ⟨26, _⟩ => ⟨S_, .f32⟩
  | .hbm, ⟨27, _⟩ => ⟨S4x512x384, .f32⟩
  | .hbm, ⟨28, _⟩ => ⟨S4x512x384, .f32⟩
  | .hbm, ⟨29, _⟩ => ⟨S4x512x384, .f32⟩
  | .hbm, ⟨30, _⟩ => ⟨S_, .f32⟩
  | .hbm, ⟨31, _⟩ => ⟨S4x512x384, .f32⟩
  | .hbm, ⟨32, _⟩ => ⟨S4x512x384, .f32⟩
  | .hbm, ⟨33, _⟩ => ⟨S_, .f32⟩
  | .hbm, ⟨34, _⟩ => ⟨S4x512x384, .f32⟩
  | .hbm, ⟨35, _⟩ => ⟨S4x512x384, .f32⟩
  | .hbm, ⟨36, _⟩ => ⟨S4x512x384, .f32⟩
  | .hbm, ⟨37, _⟩ => ⟨S_, .f32⟩
  | .hbm, ⟨38, _⟩ => ⟨S4x512x384, .f32⟩
  | .hbm, ⟨39, _⟩ => ⟨S4x512x384, .f32⟩
  | .hbm, ⟨40, _⟩ => ⟨S4x512x384, .f32⟩
  | .hbm, ⟨41, _⟩ => ⟨S_, .f32⟩
  | .hbm, ⟨42, _⟩ => ⟨S4x512x384, .f32⟩
  | .hbm, ⟨43, _⟩ => ⟨S4x512x384, .f32⟩
  | .hbm, ⟨44, _⟩ => ⟨S4x512x384, .f32⟩
  | .hbm, ⟨45, _⟩ => ⟨S_, .f32⟩
  | .hbm, ⟨46, _⟩ => ⟨S4x512x384, .f32⟩
  | .hbm, ⟨47, _⟩ => ⟨S4x512x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamKvb.lean ====
abbrev S1 : Shape := ⟨1, ![1]⟩
abbrev S4x256x512 : Shape := ⟨3, ![4, 256, 512]⟩
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 9
  | .vmem => 18
  | .smem => 1
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S4x128x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S4x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S1, .i32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamKvbIdeal.lean ====
abbrev S1 : Shape := ⟨1, ![1]⟩
abbrev S4x256x512 : Shape := ⟨3, ![4, 256, 512]⟩
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 9
  | .vmem => 18
  | .smem => 1
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S4x128x512, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S4x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S1, .i32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamKvbRefIdeal.lean ====
abbrev S1 : Shape := ⟨1, ![1]⟩
abbrev S4x256x512 : Shape := ⟨3, ![4, 256, 512]⟩
abbrev S4x128x512 : Shape := ⟨3, ![4, 128, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x256x512, .f32⟩
  | .hbm, ⟨2, _⟩ => ⟨S4x128x512, .f32⟩
  | .hbm, ⟨3, _⟩ => ⟨S4x128x512, .f32⟩
  | .hbm, ⟨4, _⟩ => ⟨S4x256x512, .f32⟩
  | .hbm, ⟨5, _⟩ => ⟨S4x256x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x128x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x128x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S_, .f32⟩
  | .hbm, ⟨19, _⟩ => ⟨S4x256x512, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S_, .f32⟩
  | .hbm, ⟨34, _⟩ => ⟨S4x256x512, .f32⟩
  | .hbm, ⟨35, _⟩ => ⟨S4x256x512, .f32⟩
  | .hbm, ⟨36, _⟩ => ⟨S4x256x512, .f32⟩
  | .hbm, ⟨37, _⟩ => ⟨S_, .f32⟩
  | .hbm, ⟨38, _⟩ => ⟨S4x256x512, .f32⟩
  | .hbm, ⟨39, _⟩ => ⟨S4x256x512, .f32⟩
  | .hbm, ⟨40, _⟩ => ⟨S4x256x512, .f32⟩
  | .hbm, ⟨41, _⟩ => ⟨S_, .f32⟩
  | .hbm, ⟨42, _⟩ => ⟨S4x256x512, .f32⟩
  | .hbm, ⟨43, _⟩ => ⟨S4x256x512, .f32⟩
  | .hbm, ⟨44, _⟩ => ⟨S4x256x512, .f32⟩
  | .hbm, ⟨45, _⟩ => ⟨S_, .f32⟩
  | .hbm, ⟨46, _⟩ => ⟨S4x256x512, .f32⟩
  | .hbm, ⟨47, _⟩ => ⟨S4x256x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamSq.lean ====
abbrev S1 : Shape := ⟨1, ![1]⟩
abbrev S4x512x2048 : Shape := ⟨3, ![4, 512, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamSqIdeal.lean ====
abbrev S1 : Shape := ⟨1, ![1]⟩
abbrev S4x512x2048 : Shape := ⟨3, ![4, 512, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamSqRefIdeal.lean ====
abbrev S1 : Shape := ⟨1, ![1]⟩
abbrev S4x512x2048 : Shape := ⟨3, ![4, 512, 2048]⟩
abbrev S4x256x2048 : Shape := ⟨3, ![4, 256, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x2048, .f32⟩
  | .hbm, ⟨2, _⟩ => ⟨S4x256x2048, .f32⟩
  | .hbm, ⟨3, _⟩ => ⟨S4x256x2048, .f32⟩
  | .hbm, ⟨4, _⟩ => ⟨S4x512x2048, .f32⟩
  | .hbm, ⟨5, _⟩ => ⟨S4x512x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x256x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S_, .f32⟩
  | .hbm, ⟨19, _⟩ => ⟨S4x512x2048, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S_, .f32⟩
  | .hbm, ⟨34, _⟩ => ⟨S4x512x2048, .f32⟩
  | .hbm, ⟨35, _⟩ => ⟨S4x512x2048, .f32⟩
  | .hbm, ⟨36, _⟩ => ⟨S4x512x2048, .f32⟩
  | .hbm, ⟨37, _⟩ => ⟨S_, .f32⟩
  | .hbm, ⟨38, _⟩ => ⟨S4x512x2048, .f32⟩
  | .hbm, ⟨39, _⟩ => ⟨S4x512x2048, .f32⟩
  | .hbm, ⟨40, _⟩ => ⟨S4x512x2048, .f32⟩
  | .hbm, ⟨41, _⟩ => ⟨S_, .f32⟩
  | .hbm, ⟨42, _⟩ => ⟨S4x512x2048, .f32⟩
  | .hbm, ⟨43, _⟩ => ⟨S4x512x2048, .f32⟩
  | .hbm, ⟨44, _⟩ => ⟨S4x512x2048, .f32⟩
  | .hbm, ⟨45, _⟩ => ⟨S_, .f32⟩
  | .hbm, ⟨46, _⟩ => ⟨S4x512x2048, .f32⟩
  | .hbm, ⟨47, _⟩ => ⟨S4x512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamUp.lean ====
abbrev S1 : Shape := ⟨1, ![1]⟩
abbrev S4x2048x2816 : Shape := ⟨3, ![4, 2048, 2816]⟩
abbrev S4x1024x2816 : Shape := ⟨3, ![4, 1024, 2816]⟩
abbrev S1x64x2816 : Shape := ⟨3, ![1, 64, 2816]⟩
abbrev S64x2816 : Shape := ⟨2, ![64, 2816]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | .local _ .smem, ⟨0, _⟩ => ⟨S1, .i32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpIdeal.lean ====
abbrev S1 : Shape := ⟨1, ![1]⟩
abbrev S4x2048x2816 : Shape := ⟨3, ![4, 2048, 2816]⟩
abbrev S4x1024x2816 : Shape := ⟨3, ![4, 1024, 2816]⟩
abbrev S1x64x2816 : Shape := ⟨3, ![1, 64, 2816]⟩
abbrev S64x2816 : Shape := ⟨2, ![64, 2816]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | .local _ .smem, ⟨0, _⟩ => ⟨S1, .i32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨3, ![4, 2, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpRefIdeal.lean ====
abbrev S1 : Shape := ⟨1, ![1]⟩
abbrev S4x2048x2816 : Shape := ⟨3, ![4, 2048, 2816]⟩
abbrev S4x1024x2816 : Shape := ⟨3, ![4, 1024, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2048x2816, .f32⟩
  | .hbm, ⟨2, _⟩ => ⟨S4x1024x2816, .f32⟩
  | .hbm, ⟨3, _⟩ => ⟨S4x1024x2816, .f32⟩
  | .hbm, ⟨4, _⟩ => ⟨S4x2048x2816, .f32⟩
  | .hbm, ⟨5, _⟩ => ⟨S4x2048x2816, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x1024x2816, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1024x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S_, .f32⟩
  | .hbm, ⟨19, _⟩ => ⟨S4x2048x2816, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S_, .f32⟩
  | .hbm, ⟨46, _⟩ => ⟨S4x2048x2816, .f32⟩
  | .hbm, ⟨47, _⟩ => ⟨S4x2048x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S1 : Shape := ⟨1, ![1]⟩
abbrev S4x1408x2048 : Shape := ⟨3, ![4, 1408, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S4x704x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 11], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamDownIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamDownRefIdeal.lean ====
abbrev S1 : Shape := ⟨1, ![1]⟩
abbrev S4x1408x2048 : Shape := ⟨3, ![4, 1408, 2048]⟩
abbrev S4x704x2048 : Shape := ⟨3, ![4, 704, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1408x2048, .f32⟩
  | .hbm, ⟨2, _⟩ => ⟨S4x704x2048, .f32⟩
  | .hbm, ⟨3, _⟩ => ⟨S4x704x2048, .f32⟩
  | .hbm, ⟨4, _⟩ => ⟨S4x1408x2048, .f32⟩
  | .hbm, ⟨5, _⟩ => ⟨S4x1408x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x704x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S_, .f32⟩
  | .hbm, ⟨19, _⟩ => ⟨S4x1408x2048, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S_, .f32⟩
  | .hbm, ⟨34, _⟩ => ⟨S4x1408x2048, .f32⟩
  | .hbm, ⟨35, _⟩ => ⟨S4x1408x2048, .f32⟩
  | .hbm, ⟨36, _⟩ => ⟨S4x1408x2048, .f32⟩
  | .hbm, ⟨37, _⟩ => ⟨S_, .f32⟩
  | .hbm, ⟨38, _⟩ => ⟨S4x1408x2048, .f32⟩
  | .hbm, ⟨39, _⟩ => ⟨S4x1408x2048, .f32⟩
  | .hbm, ⟨40, _⟩ => ⟨S4x1408x2048, .f32⟩
  | .hbm, ⟨41, _⟩ => ⟨S_, .f32⟩
  | .hbm, ⟨42, _⟩ => ⟨S4x1408x2048, .f32⟩
  | .hbm, ⟨43, _⟩ => ⟨S4x1408x2048, .f32⟩
  | .hbm, ⟨44, _⟩ => ⟨S4x1408x2048, .f32⟩
  | .hbm, ⟨45, _⟩ => ⟨S_, .f32⟩
  | .hbm, ⟨46, _⟩ => ⟨S4x1408x2048, .f32⟩
  | .hbm, ⟨47, _⟩ => ⟨S4x1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormIdeal.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormMem.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemIdeal.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormQ.lean ====
abbrev S2048x512 : Shape := ⟨2, ![2048, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S2048x512, .f32⟩
  | .hbm, ⟨3, _⟩ => ⟨S1x512, .f32⟩
  | .hbm, ⟨4, _⟩ => ⟨S2048x512, .f32⟩
  | .hbm, ⟨5, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormQIdeal.lean ====
abbrev S2048x512 : Shape := ⟨2, ![2048, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S2048x512, .f32⟩
  | .hbm, ⟨3, _⟩ => ⟨S1x512, .f32⟩
  | .hbm, ⟨4, _⟩ => ⟨S2048x512, .f32⟩
  | .hbm, ⟨5, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormQRefIdeal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S1x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S512, .f32⟩
  | .hbm, ⟨31, _⟩ => ⟨S2048x512, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x512, .f32⟩
  | .hbm, ⟨36, _⟩ => ⟨S2048x512, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormKv.lean ====
abbrev S2048x256 : Shape := ⟨2, ![2048, 256]⟩
abbrev S256 : Shape := ⟨1, ![256]⟩
abbrev S1x256 : Shape := ⟨2, ![1, 256]⟩
abbrev S2048 : Shape := ⟨1, ![2048]⟩
abbrev S2048x1 : Shape := ⟨2, ![2048, 1]⟩

abbrev nBuf : Space → Nat
  | .hbm => 6
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256, .f32⟩
  | .hbm, ⟨2, _⟩ => ⟨S2048x256, .f32⟩
  | .hbm, ⟨3, _⟩ => ⟨S1x256, .f32⟩
  | .hbm, ⟨4, _⟩ => ⟨S2048x256, .f32⟩
  | .hbm, ⟨5, _⟩ => ⟨S1x256, .f32⟩
  | .local _ .vmem, ⟨0, _⟩ => ⟨S2048x256, .f32⟩
  | .local _ .vmem, ⟨1, _⟩ => ⟨S1x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormKvRefIdeal.lean ====
abbrev S2048x256 : Shape := ⟨2, ![2048, 256]⟩
abbrev S256 : Shape := ⟨1, ![256]⟩
abbrev S_ : Shape := ⟨0, ![]⟩
abbrev S2048 : Shape := ⟨1, ![2048]⟩
abbrev S2048x1 : Shape := ⟨2, ![2048, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x256, .f32⟩
  | .hbm, ⟨19, _⟩ => ⟨S2048x256, .f32⟩
  | .hbm, ⟨20, _⟩ => ⟨S1x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S256, .f32⟩
  | .hbm, ⟨31, _⟩ => ⟨S2048x256, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Loss.lean ====
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== ConvSilu.lean ====
abbrev S2048x3072 : Shape := ⟨2, ![2048, 3072]⟩
abbrev S4x3072 : Shape := ⟨2, ![4, 3072]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S4x3072, .f32⟩
  | .hbm, ⟨2, _⟩ => ⟨S2048x3072, .f32⟩
  | .hbm, ⟨3, _⟩ => ⟨S2048x3072, .f32⟩
  | .hbm, ⟨4, _⟩ => ⟨S4x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S4x256, .f32⟩
  | .local _ .vmem, ⟨9, _⟩ => ⟨S4x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvSiluRefIdeal.lean ====
abbrev S2048x3072 : Shape := ⟨2, ![2048, 3072]⟩
abbrev S4x3072 : Shape := ⟨2, ![4, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S3072 : Shape := ⟨1, ![3072]⟩

abbrev nBuf : Space → Nat
  | .hbm => 95
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4x3072, .f32⟩
  | .hbm, ⟨2, _⟩ => ⟨S2048x3072, .f32⟩
  | .hbm, ⟨3, _⟩ => ⟨S_, .f32⟩
  | .hbm, ⟨4, _⟩ => ⟨S3x3072, .f32⟩
  | .hbm, ⟨5, _⟩ => ⟨S2051x3072, .f32⟩
  | .hbm, ⟨6, _⟩ => ⟨S_, .f32⟩
  | .hbm, ⟨7, _⟩ => ⟨S3x3072, .f32⟩
  | .hbm, ⟨8, _⟩ => ⟨S2048x3072, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S1x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S1x3072, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S1x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S2048x3072, .f32⟩
  | .hbm, ⟨48, _⟩ => ⟨S_, .f32⟩
  | .hbm, ⟨49, _⟩ => ⟨S3072, .f32⟩
  | .hbm, ⟨50, _⟩ => ⟨S1x3072, .f32⟩
  | .hbm, ⟨51, _⟩ => ⟨S2048x3072, .f32⟩
  | .hbm, ⟨52, _⟩ => ⟨S2048x3072, .f32⟩
  | .hbm, ⟨53, _⟩ => ⟨S_, .f32⟩
  | .hbm, ⟨54, _⟩ => ⟨S4x3072, .f32⟩
  | .hbm, ⟨55, _⟩ => ⟨S_, .f32⟩
  | .hbm, ⟨56, _⟩ => ⟨S2051x3072, .f32⟩
  | .hbm, ⟨57, _⟩ => ⟨S2048x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S2048x3072, .f32⟩
  | .hbm, ⟨62, _⟩ => ⟨S2048x3072, .f32⟩
  | .hbm, ⟨63, _⟩ => ⟨S_, .f32⟩
  | .hbm, ⟨64, _⟩ => ⟨S4x3072, .f32⟩
  | .hbm, ⟨65, _⟩ => ⟨S4x3072, .f32⟩
  | .hbm, ⟨66, _⟩ => ⟨S_, .f32⟩
  | .hbm, ⟨67, _⟩ => ⟨S2051x3072, .f32⟩
  | .hbm, ⟨68, _⟩ => ⟨S2051x3072, .f32⟩
  | .hbm, ⟨69, _⟩ => ⟨S2048x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S2048x3072, .f32⟩
  | .hbm, ⟨74, _⟩ => ⟨S2048x3072, .f32⟩
  | .hbm, ⟨75, _⟩ => ⟨S_, .f32⟩
  | .hbm, ⟨76, _⟩ => ⟨S4x3072, .f32⟩
  | .hbm, ⟨77, _⟩ => ⟨S4x3072, .f32⟩
  | .hbm, ⟨78, _⟩ => ⟨S_, .f32⟩
  | .hbm, ⟨79, _⟩ => ⟨S2051x3072, .f32⟩
  | .hbm, ⟨80, _⟩ => ⟨S2051x3072, .f32⟩
  | .hbm, ⟨81, _⟩ => ⟨S2048x3072, .f32⟩
  | .hbm, ⟨82, _⟩ => ⟨S_, .f32⟩
  | .hbm, ⟨83, _⟩ => ⟨S3072, .f32⟩
  | .hbm, ⟨84, _⟩ => ⟨S1x3072, .f32⟩
  | .hbm, ⟨85, _⟩ => ⟨S2048x3072, .f32⟩
  | .hbm, ⟨86, _⟩ => ⟨S2048x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S_, .f32⟩
  | .hbm, ⟨91, _⟩ => ⟨S2051x3072, .f32⟩
  | .hbm, ⟨92, _⟩ => ⟨S2051x3072, .f32⟩
  | .hbm, ⟨93, _⟩ => ⟨S3x3072, .f32⟩
  | .hbm, ⟨94, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v24_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v24_1 : Ref sig .tc := ⟨.hbm, 41, rfl⟩
abbrev main_v24_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== ConvGlu.lean ====
abbrev S2048x11264 : Shape := ⟨2, ![2048, 11264]⟩
abbrev S3x11264 : Shape := ⟨2, ![3, 11264]⟩
abbrev S1x11264 : Shape := ⟨2, ![1, 11264]⟩
abbrev S2048x5632 : Shape := ⟨2, ![2048, 5632]⟩
abbrev S2048x512 : Shape := ⟨2, ![2048, 512]⟩
abbrev S3x512 : Shape := ⟨2, ![3, 512]⟩
abbrev S1x512 : Shape := ⟨2, ![1, 512]⟩
abbrev S2048x256 : Shape := ⟨2, ![2048, 256]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S1x11264, .f32⟩
  | .hbm, ⟨3, _⟩ => ⟨S2048x5632, .f32⟩
  | .hbm, ⟨4, _⟩ => ⟨S2048x11264, .f32⟩
  | .hbm, ⟨5, _⟩ => ⟨S3x11264, .f32⟩
  | .hbm, ⟨6, _⟩ => ⟨S1x11264, .f32⟩
  | .local _ .vmem, ⟨0, _⟩ => ⟨S2048x512, .f32⟩
  | .local _ .vmem, ⟨1, _⟩ => ⟨S2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S2048x256, .f32⟩
  | .local _ .vmem, ⟨7, _⟩ => ⟨S2048x256, .f32⟩
  | .local _ .vmem, ⟨8, _⟩ => ⟨S2048x512, .f32⟩
  | .local _ .vmem, ⟨9, _⟩ => ⟨S2048x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGluRefIdeal.lean ====
abbrev S2048x11264 : Shape := ⟨2, ![2048, 11264]⟩
abbrev S3x11264 : Shape := ⟨2, ![3, 11264]⟩
abbrev S1x11264 : Shape := ⟨2, ![1, 11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S2048x22x2x256 : Shape := ⟨4, ![2048, 22, 2, 256]⟩
abbrev S2048x22x1x256 : Shape := ⟨4, ![2048, 22, 1, 256]⟩
abbrev S2048x22x256 : Shape := ⟨3, ![2048, 22, 256]⟩
abbrev S11264 : Shape := ⟨1, ![11264]⟩

abbrev nBuf : Space → Nat
  | .hbm => 102
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S1x11264, .f32⟩
  | .hbm, ⟨3, _⟩ => ⟨S2048x5632, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S2048x11264, .f32⟩
  | .hbm, ⟨10, _⟩ => ⟨S1x11264, .f32⟩
  | .hbm, ⟨11, _⟩ => ⟨S2048x11264, .f32⟩
  | .hbm, ⟨12, _⟩ => ⟨S2048x11264, .f32⟩
  | .hbm, ⟨13, _⟩ => ⟨S_, .f32⟩
  | .hbm, ⟨14, _⟩ => ⟨S2048x11264, .f32⟩
  | .hbm, ⟨15, _⟩ => ⟨S2048x11264, .f32⟩
  | .hbm, ⟨16, _⟩ => ⟨S2048x11264, .f32⟩
  | .hbm, ⟨17, _⟩ => ⟨S1x11264, .f32⟩
  | .hbm, ⟨18, _⟩ => ⟨S2048x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S2048x11264, .f32⟩
  | .hbm, ⟨27, _⟩ => ⟨S2048x11264, .f32⟩
  | .hbm, ⟨28, _⟩ => ⟨S2048x22x2x256, .f32⟩
  | .hbm, ⟨29, _⟩ => ⟨S2048x22x1x256, .f32⟩
  | .hbm, ⟨30, _⟩ => ⟨S2048x22x256, .f32⟩
  | .hbm, ⟨31, _⟩ => ⟨S2048x22x256, .f32⟩
  | .hbm, ⟨32, _⟩ => ⟨S2048x22x256, .f32⟩
  | .hbm, ⟨33, _⟩ => ⟨S_, .f32⟩
  | .hbm, ⟨34, _⟩ => ⟨S2048x22x256, .f32⟩
  | .hbm, ⟨35, _⟩ => ⟨S2048x22x256, .f32⟩
  | .hbm, ⟨36, _⟩ => ⟨S_, .f32⟩
  | .hbm, ⟨37, _⟩ => ⟨S2048x22x256, .f32⟩
  | .hbm, ⟨38, _⟩ => ⟨S2048x22x256, .f32⟩
  | .hbm, ⟨39, _⟩ => ⟨S_, .f32⟩
  | .hbm, ⟨40, _⟩ => ⟨S2048x22x256, .f32⟩
  | .hbm, ⟨41, _⟩ => ⟨S2048x22x256, .f32⟩
  | .hbm, ⟨42, _⟩ => ⟨S2048x22x256, .f32⟩
  | .hbm, ⟨43, _⟩ => ⟨S2048x22x256, .f32⟩
  | .hbm, ⟨44, _⟩ => ⟨S2048x22x1x256, .f32⟩
  | .hbm, ⟨45, _⟩ => ⟨S2048x22x256, .f32⟩
  | .hbm, ⟨46, _⟩ => ⟨S2048x22x256, .f32⟩
  | .hbm, ⟨47, _⟩ => ⟨S2048x5632, .f32⟩
  | .hbm, ⟨48, _⟩ => ⟨S2048x22x256, .f32⟩
  | .hbm, ⟨49, _⟩ => ⟨S2048x22x256, .f32⟩
  | .hbm, ⟨50, _⟩ => ⟨S2048x22x256, .f32⟩
  | .hbm, ⟨51, _⟩ => ⟨S2048x22x1x256, .f32⟩
  | .hbm, ⟨52, _⟩ => ⟨S_, .f32⟩
  | .hbm, ⟨53, _⟩ => ⟨S2048x22x2x256, .f32⟩
  | .hbm, ⟨54, _⟩ => ⟨S2048x22x256, .f32⟩
  | .hbm, ⟨55, _⟩ => ⟨S2048x22x256, .f32⟩
  | .hbm, ⟨56, _⟩ => ⟨S2048x22x256, .f32⟩
  | .hbm, ⟨57, _⟩ => ⟨S2048x22x256, .f32⟩
  | .hbm, ⟨58, _⟩ => ⟨S2048x22x1x256, .f32⟩
  | .hbm, ⟨59, _⟩ => ⟨S_, .f32⟩
  | .hbm, ⟨60, _⟩ => ⟨S2048x22x2x256, .f32⟩
  | .hbm, ⟨61, _⟩ => ⟨S2048x22x2x256, .f32⟩
  | .hbm, ⟨62, _⟩ => ⟨S2048x11264, .f32⟩
  | .hbm, ⟨63, _⟩ => ⟨S_, .f32⟩
  | .hbm, ⟨64, _⟩ => ⟨S11264, .f32⟩
  | .hbm, ⟨65, _⟩ => ⟨S1x11264, .f32⟩
  | .hbm, ⟨66, _⟩ => ⟨S2048x11264, .f32⟩
  | .hbm, ⟨67, _⟩ => ⟨S_, .f32⟩
  | .hbm, ⟨68, _⟩ => ⟨S11264, .f32⟩
  | .hbm, ⟨69, _⟩ => ⟨S1x11264, .f32⟩
  | .hbm, ⟨70, _⟩ => ⟨S2048x11264, .f32⟩
  | .hbm, ⟨71, _⟩ => ⟨S2048x11264, .f32⟩
  | .hbm, ⟨72, _⟩ => ⟨S_, .f32⟩
  | .hbm, ⟨73, _⟩ => ⟨S3x11264, .f32⟩
  | .hbm, ⟨74, _⟩ => ⟨S_, .f32⟩
  | .hbm, ⟨75, _⟩ => ⟨S2050x11264, .f32⟩
  | .hbm, ⟨76, _⟩ => ⟨S2048x11264, .f32⟩
  | .hbm, ⟨77, _⟩ => ⟨S_, .f32⟩
  | .hbm, ⟨78, _⟩ => ⟨S11264, .f32⟩
  | .hbm, ⟨79, _⟩ => ⟨S1x11264, .f32⟩
  | .hbm, ⟨80, _⟩ => ⟨S2048x11264, .f32⟩
  | .hbm, ⟨81, _⟩ => ⟨S2048x11264, .f32⟩
  | .hbm, ⟨82, _⟩ => ⟨S_, .f32⟩
  | .hbm, ⟨83, _⟩ => ⟨S3x11264, .f32⟩
  | .hbm, ⟨84, _⟩ => ⟨S3x11264, .f32⟩
  | .hbm, ⟨85, _⟩ => ⟨S_, .f32⟩
  | .hbm, ⟨86, _⟩ => ⟨S2050x11264, .f32⟩
  | .hbm, ⟨87, _⟩ => ⟨S2050x11264, .f32⟩
  | .hbm, ⟨88, _⟩ => ⟨S2048x11264, .f32⟩
  | .hbm, ⟨89, _⟩ => ⟨S_, .f32⟩
  | .hbm, ⟨90, _⟩ => ⟨S11264, .f32⟩
  | .hbm, ⟨91, _⟩ => ⟨S1x11264, .f32⟩
  | .hbm, ⟨92, _⟩ => ⟨S2048x11264, .f32⟩
  | .hbm, ⟨93, _⟩ => ⟨S2048x11264, .f32⟩
  | .hbm, ⟨94, _⟩ => ⟨S_, .f32⟩
  | .hbm, ⟨95, _⟩ => ⟨S3x11264, .f32⟩
  | .hbm, ⟨96, _⟩ => ⟨S3x11264, .f32⟩
  | .hbm, ⟨97, _⟩ => ⟨S_, .f32⟩
  | .hbm, ⟨98, _⟩ => ⟨S2050x11264, .f32⟩
  | .hbm, ⟨99, _⟩ => ⟨S2050x11264, .f32⟩
  | .hbm, ⟨100, _⟩ => ⟨S2x11264, .f32⟩
  | .hbm, ⟨101, _⟩ => ⟨S2048x11264, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v24_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v24_1 : Ref sig .tc := ⟨.hbm, 42, rfl⟩
abbrev main_v24_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== GroupNorm.lean ====
abbrev S2048x1024 : Shape := ⟨2, ![2048, 1024]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S128, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x128, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GroupNormRefIdeal.lean ====
abbrev S2048x1024 : Shape := ⟨2, ![2048, 1024]⟩
abbrev S128 : Shape := ⟨1, ![128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S128, .f32⟩
  | .hbm, ⟨2, _⟩ => ⟨S2048x1024, .f32⟩
  | .hbm, ⟨3, _⟩ => ⟨S2048x8x128, .f32⟩
  | .hbm, ⟨4, _⟩ => ⟨S2048x8x128, .f32⟩
  | .hbm, ⟨5, _⟩ => ⟨S_, .f32⟩
  | .hbm, ⟨6, _⟩ => ⟨S2048x8, .f32⟩
  | .hbm, ⟨7, _⟩ => ⟨S2048x8x1, .f32⟩
  | .hbm, ⟨8, _⟩ => ⟨S_, .f32⟩
  | .hbm, ⟨9, _⟩ => ⟨S2048x8x1, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x128, .f32⟩
  | .hbm, ⟨20, _⟩ => ⟨S2048x8x128, .f32⟩
  | .hbm, ⟨21, _⟩ => ⟨S1x1x128, .f32⟩
  | .hbm, ⟨22, _⟩ => ⟨S2048x8x128, .f32⟩
  | .hbm, ⟨23, _⟩ => ⟨S2048x8x128, .f32⟩
  | .hbm, ⟨24, _⟩ => ⟨S2048x1024, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S128, .f32⟩
  | .hbm, ⟨29, _⟩ => ⟨S1x1x128, .f32⟩
  | .hbm, ⟨30, _⟩ => ⟨S2048x8x128, .f32⟩
  | .hbm, ⟨31, _⟩ => ⟨S2048x8x128, .f32⟩
  | .hbm, ⟨32, _⟩ => ⟨S_, .f32⟩
  | .hbm, ⟨33, _⟩ => ⟨S128, .f32⟩
  | .hbm, ⟨34, _⟩ => ⟨S2048x8x128, .f32⟩
  | .hbm, ⟨35, _⟩ => ⟨S_, .f32⟩
  | .hbm, ⟨36, _⟩ => ⟨S2048x8, .f32⟩
  | .hbm, ⟨37, _⟩ => ⟨S2048x8x1, .f32⟩
  | .hbm, ⟨38, _⟩ => ⟨S2048x8x128, .f32⟩
  | .hbm, ⟨39, _⟩ => ⟨S2048x8x128, .f32⟩
  | .hbm, ⟨40, _⟩ => ⟨S2048x8x1, .f32⟩
  | .hbm, ⟨41, _⟩ => ⟨S_, .f32⟩
  | .hbm, ⟨42, _⟩ => ⟨S2048x8x1, .f32⟩
  | .hbm, ⟨43, _⟩ => ⟨S2048x8x1, .f32⟩
  | .hbm, ⟨44, _⟩ => ⟨S_, .f32⟩
  | .hbm, ⟨45, _⟩ => ⟨S2048x8, .f32⟩
  | .hbm, ⟨46, _⟩ => ⟨S2048x8x128, .f32⟩
  | .hbm, ⟨47, _⟩ => ⟨S2048x8x128, .f32⟩
  | .hbm, ⟨48, _⟩ => ⟨S2048x8x128, .f32⟩
  | .hbm, ⟨49, _⟩ => ⟨S2048x8x128, .f32⟩
  | .hbm, ⟨50, _⟩ => ⟨S2048x8x128, .f32⟩
  | .hbm, ⟨51, _⟩ => ⟨S2048x1024, .f32⟩
  | .hbm, ⟨52, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Xa.Cases.lean ====
/- The attention over the memory, one block at a time: what one point of the forward call and one point of the
   backward call leave in each result window, as the named payloads of the point's input blocks, at any float
   instance. The backward call has two cases, the first query block of a head (which clears the two sums) and
   the others (which add to them). -/
module

public import proofs.«01_k».proof.Proof.Gen.XattnIdeal.Frame
public import Idealize.ShloMosaic.Lib.Pipeline.Value
public import Idealize.ShloMosaic.Lib.Tactic

@[expose] public section

set_option maxRecDepth 16384

noncomputable section

namespace Cert.XattnIdeal.Val

open Cert.XattnIdeal Cert.XattnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable (c : Dev nD) (i : grid1.Coords)
  (a2 : Memref sig .tc .vmem S256x512 .f32) (h2 : a2.IsWhole) (a3 : Memref sig .tc .vmem S256x512 .f32) (h3 : a3.IsWhole)
  (a4 : Memref sig .tc .vmem S256x512 .f32) (h4 : a4.IsWhole) (a5 : Memref sig .tc .vmem S256x512 .f32) (h5 : a5.IsWhole)
  (a6 : Memref sig .tc .vmem S1x256x1 .f32) (h6 : a6.IsWhole) (a7 : Memref sig .tc .vmem S256x512 .f32) (h7 : a7.IsWhole)
  (a8 : Memref sig .tc .vmem S256x512 .f32) (h8 : a8.IsWhole) (a9 : Memref sig .tc .vmem S256x512 .f32) (h9 : a9.IsWhole)
  (a10 : Memref sig .tc .vmem S256x512 .f32) (h10 : a10.IsWhole)
  (x0 x1 x2 x3 : Vec F S256x512 .f32) (x4 : Vec F S1x256x1 .f32) (x5 : Vec F S256x512 .f32)

/-- At the first point of a head, what the body leaves in the gradient of q: the point's contribution. -/
theorem out_A_6 (hc : cond1_0 i) :
    out1_A_6 c i a2 h2 a3 h3 a4 h4 a5 h5 a6 h6 a7 h7 a8 h8 a9 h9 a10 h10 hc x0 x1 x2 x3 x4 x5
      = k1_pay10 x0 x1 x5 x4 x2 x5 x3 := by
  unfold out1_A_6
  rw [View.read_writes_eq_canon _ _ _ (cover1_A_6 c i a2 h2 a3 h3 a4 h4 a5 h5 a6 h6 a7 h7 a8 h8 a9 h9 a10 h10 hc x0 x1 x2 x3 x4 x5)]
  unfold kernelRun1_A
  dsimp only
  sl_unfold_words
  rw [View.canon_unit_zero hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

/-- At the first point of a head, what the body leaves in the gradient of k: the point's contribution, added to the zero block. -/
theorem out_A_7 (hc : cond1_0 i) :
    out1_A_7 c i a2 h2 a3 h3 a4 h4 a5 h5 a6 h6 a7 h7 a8 h8 a9 h9 a10 h10 hc x0 x1 x2 x3 x4 x5
      = k1_pay3 (k1_pay5 x0) (k1_pay9 x0 x1 x5 x4 x2 x5 x3) k1_pay1 := by
  unfold out1_A_7
  rw [View.read_writes_eq_canon _ _ _ (cover1_A_7 c i a2 h2 a3 h3 a4 h4 a5 h5 a6 h6 a7 h7 a8 h8 a9 h9 a10 h10 hc x0 x1 x2 x3 x4 x5)]
  unfold kernelRun1_A
  dsimp only
  sl_unfold_words
  rw [View.canon_cons_unit_zero (S := S256x512) hz2, View.readCov_unit_zero (S := S256x512) _ hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

/-- At the first point of a head, what the body leaves in the gradient of v: the point's contribution, added to the zero block. -/
theorem out_A_8 (hc : cond1_0 i) :
    out1_A_8 c i a2 h2 a3 h3 a4 h4 a5 h5 a6 h6 a7 h7 a8 h8 a9 h9 a10 h10 hc x0 x1 x2 x3 x4 x5
      = k1_pay4 (k1_pay7 x5) (k1_pay8 x0 x1 x4) k1_pay2 := by
  unfold out1_A_8
  rw [View.read_writes_eq_canon _ _ _ (cover1_A_8 c i a2 h2 a3 h3 a4 h4 a5 h5 a6 h6 a7 h7 a8 h8 a9 h9 a10 h10 hc x0 x1 x2 x3 x4 x5)]
  unfold kernelRun1_A
  dsimp only
  sl_unfold_words
  rw [View.canon_cons_unit_zero (S := S256x512) hz2, View.readCov_unit_zero (S := S256x512) _ hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

/-- At a later point of a head, what the body leaves in the gradient of q: the point's contribution. -/
theorem out_B_6 (hc : ¬cond1_0 i) (xo7 xo8 : Vec F S256x512 .f32) :
    out1_B_6 c i a2 h2 a3 h3 a4 h4 a5 h5 a6 h6 a7 h7 a8 h8 a9 h9 a10 h10 hc x0 x1 x2 x3 x4 x5 xo7 xo8
      = k1_pay10 x0 x1 x5 x4 x2 x5 x3 := by
  unfold out1_B_6
  rw [View.read_writes_eq_canon _ _ _ (cover1_B_6 c i a2 h2 a3 h3 a4 h4 a5 h5 a6 h6 a7 h7 a8 h8 a9 h9 a10 h10 hc x0 x1 x2 x3 x4 x5 xo7 xo8)]
  unfold kernelRun1_B
  dsimp only
  sl_unfold_words
  rw [View.canon_unit_zero hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

/-- At a later point of a head, what the body leaves in the gradient of k: the point's contribution, added to what the point before left. -/
theorem out_B_7 (hc : ¬cond1_0 i) (xo7 xo8 : Vec F S256x512 .f32) :
    out1_B_7 c i a2 h2 a3 h3 a4 h4 a5 h5 a6 h6 a7 h7 a8 h8 a9 h9 a10 h10 hc x0 x1 x2 x3 x4 x5 xo7 xo8
      = k1_pay3 (k1_pay5 x0) (k1_pay9 x0 x1 x5 x4 x2 x5 x3) xo7 := by
  unfold out1_B_7
  rw [View.read_writes_eq_canon _ _ _ (cover1_B_7 c i a2 h2 a3 h3 a4 h4 a5 h5 a6 h6 a7 h7 a8 h8 a9 h9 a10 h10 hc x0 x1 x2 x3 x4 x5 xo7 xo8)]
  unfold kernelRun1_B
  dsimp only
  sl_unfold_words
  rw [View.canon_unit_zero hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

/-- At a later point of a head, what the body leaves in the gradient of v: the point's contribution, added to what the point before left. -/
theorem out_B_8 (hc : ¬cond1_0 i) (xo7 xo8 : Vec F S256x512 .f32) :
    out1_B_8 c i a2 h2 a3 h3 a4 h4 a5 h5 a6 h6 a7 h7 a8 h8 a9 h9 a10 h10 hc x0 x1 x2 x3 x4 x5 xo7 xo8
      = k1_pay4 (k1_pay7 x5) (k1_pay8 x0 x1 x4) xo8 := by
  unfold out1_B_8
  rw [View.read_writes_eq_canon _ _ _ (cover1_B_8 c i a2 h2 a3 h3 a4 h4 a5 h5 a6 h6 a7 h7 a8 h8 a9 h9 a10 h10 hc x0 x1 x2 x3 x4 x5 xo7 xo8)]
  unfold kernelRun1_B
  dsimp only
  sl_unfold_words
  rw [View.canon_unit_zero hz2]
  simp only [View.readAt_eq_ld, h2.read_unread, h3.read_unread, h4.read_unread, h5.read_unread, h6.read_unread, h7.read_unread,
    h9.read_unread, h10.read_unread, View.ld_unit_zero (S := S256x512) hz2, View.ld_unit_zero (S := S1x256x1) hz3]

end Cases

end Cert.XattnIdeal.Val

end
-- ==== Proof.AttnMath.lean ====
/-
  The mathematics of one query row of softmax attention and of its gradient, over the extended reals.

  A row is the scores `s k` of one query against its `n` keys; a masked key has the score `⊥`. The forward pass leaves
  the row's largest score, the exponentials below it, their sum, the logarithm of that sum (`lse`) and the output `ko`.
  The backward pass has two forms. The one the kernel runs reads the probabilities back from `lse` (`kp`) and subtracts
  the inner product of the output's cotangent with the output (`kds`). The other one differentiates the quotient of the
  exponentials by their sum (`rp`, `rds`). On finite scores (masked ones aside), values and cotangents the two are equal.
-/
module

public import Idealize.ShloMosaic.PureOps.Ideal.Laws
public import Mathlib.Data.EReal.Operations
public import Mathlib.Analysis.SpecialFunctions.Log.Basic

@[expose] public section

noncomputable section

namespace Cert.AttnMath

open Idealize.ShloMosaic

variable {n e : ℕ}

/-- A finite extended real. -/
def Fin' (x : EReal) : Prop := x ≠ ⊥ ∧ x ≠ ⊤

theorem Fin'.coe {x : EReal} (h : Fin' x) : ∃ r : ℝ, x = r := ⟨x.toReal, (EReal.coe_toReal h.2 h.1).symm⟩
theorem fin'_coe (r : ℝ) : Fin' (r : EReal) := ⟨EReal.coe_ne_bot r, EReal.coe_ne_top r⟩

theorem Fin'.mul {x y : EReal} (hx : Fin' x) (hy : Fin' y) : Fin' (x * y) := by
  obtain ⟨a, rfl⟩ := hx.coe; obtain ⟨b, rfl⟩ := hy.coe
  rw [← EReal.coe_mul]; exact fin'_coe _

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem Fin'.sum {ι : Type} (t : Finset ι) (f : ι → EReal) (h : ∀ i, Fin' (f i)) : Fin' (∑ i ∈ t, f i) := by
  choose g hg using fun i => (h i).coe
  rw [show f = fun i => (g i : EReal) from funext hg, ← coe_sum]; exact fin'_coe _

/-- The row's largest score. -/
def mx (s : Fin n → EReal) : EReal := Finset.fold max ⊥ s Finset.univ
/-- The exponential of a score below the largest one. -/
def ex (s : Fin n → EReal) (k : Fin n) : EReal := Ideal.exp (s k - mx s)
/-- The sum of the row's exponentials. -/
def sm (s : Fin n → EReal) : EReal := ∑ k, ex s k
/-- The logarithm of the sum of the exponentials of the scores. -/
def lse (s : Fin n → EReal) : EReal := mx s + Ideal.log (sm s)
/-- The output of the row. -/
def ko (s : Fin n → EReal) (v : Fin n → Fin e → EReal) (j : Fin e) : EReal := Ideal.div (∑ k, ex s k * v k j) (sm s)
/-- A probability, read back from `lse`. -/
def kp (s : Fin n → EReal) (k : Fin n) : EReal := Ideal.exp (s k - lse s)
/-- The cotangent of the product before the scale `c`, as the backward kernel computes it. -/
def kds (s : Fin n → EReal) (v : Fin n → Fin e → EReal) (g : Fin e → EReal) (c : EReal) (k : Fin n) : EReal :=
  kp s k * ((∑ j, g j * v k j) - ∑ j, g j * ko s v j) * c
/-- A probability: an exponential over the sum. -/
def rp (s : Fin n → EReal) (k : Fin n) : EReal := Ideal.div (ex s k) (sm s)
/-- The cotangent of the product before the scale `c`, by the derivative of the quotient. -/
def rds (s : Fin n → EReal) (v : Fin n → Fin e → EReal) (g : Fin e → EReal) (c : EReal) (k : Fin n) : EReal :=
  (Ideal.div (∑ j, g j * v k j) (sm s) + -(∑ k', (∑ j, g j * v k' j) * Ideal.div 1 (sm s * sm s) * ex s k')) * ex s k * c

section Row

variable {s : Fin n → EReal} (ht : ∀ k, s k ≠ ⊤) (hb : ∃ k, s k ≠ ⊥)
include ht hb

/-- The largest score of a row is one of its finite scores. -/
theorem mx_coe : ∃ r : ℝ, mx s = r := by
  have h1 : ∀ t : Finset (Fin n), Finset.fold max ⊥ s t ≠ ⊤ := by
    intro t
    induction t using Finset.induction_on with
    | empty => simp
    | insert a t ha ih =>
      rw [Finset.fold_insert ha]
      rcases max_choice (s a) (Finset.fold max ⊥ s t) with h | h <;> rw [h]
      · exact ht a
      · exact ih
  have h2 : mx s ≠ ⊥ := by
    obtain ⟨k, hk⟩ := hb
    have : s k ≤ mx s := by
      unfold mx
      rw [Finset.le_fold_max]
      exact Or.inr ⟨k, Finset.mem_univ k, le_rfl⟩
    intro h0
    rw [h0] at this
    exact hk (le_bot_iff.mp this)
  exact ⟨(mx s).toReal, (EReal.coe_toReal (h1 _) h2).symm⟩

/-- The row over the reals: the exponentials `E` are non-negative reals with a positive sum, the probabilities of the
    backward pass are `E k` over that sum, whichever way they are computed. -/
theorem row_real : ∃ E : Fin n → ℝ, (0 < ∑ k, E k) ∧ (∀ k, ex s k = (E k : EReal)) ∧ (sm s = ((∑ k, E k : ℝ) : EReal))
    ∧ (∀ k, kp s k = ((E k / ∑ k, E k : ℝ) : EReal)) := by
  obtain ⟨μ, hμ⟩ := mx_coe ht hb
  have hcase : ∀ k, s k = ⊥ ∨ ∃ r : ℝ, s k = r := fun k => by
    by_cases h : s k = ⊥
    · exact Or.inl h
    · exact Or.inr ⟨(s k).toReal, (EReal.coe_toReal (ht k) h).symm⟩
  let E : Fin n → ℝ := fun k => if s k = ⊥ then 0 else Real.exp ((s k).toReal - μ)
  have hE0 : ∀ k, 0 ≤ E k := fun k => by
    show 0 ≤ if s k = ⊥ then (0 : ℝ) else _
    split
    · exact le_rfl
    · exact (Real.exp_pos _).le
  have hex : ∀ k, ex s k = (E k : EReal) := fun k => by
    unfold ex
    rw [hμ]
    rcases hcase k with h | ⟨r, h⟩
    · rw [h, show E k = 0 from if_pos h]; rfl
    · rw [show E k = Real.exp (r - μ) from by simp only [E, h, EReal.coe_ne_bot, if_false, EReal.toReal_coe], h, ← EReal.coe_sub]; rfl
  have hpos : 0 < ∑ k, E k := by
    obtain ⟨k, hk⟩ := hb
    refine Finset.sum_pos' (fun k _ => hE0 k) ⟨k, Finset.mem_univ k, ?_⟩
    simp only [E, hk, if_false]; exact Real.exp_pos _
  have hsm : sm s = ((∑ k, E k : ℝ) : EReal) := by
    unfold sm; rw [coe_sum]; exact Finset.sum_congr rfl fun k _ => hex k
  refine ⟨E, hpos, hex, hsm, fun k => ?_⟩
  have hl : lse s = ((μ + Real.log (∑ k, E k) : ℝ) : EReal) := by
    unfold lse
    rw [hμ, hsm, EReal.coe_add]
    congr 1
    show (if (∑ k, E k) ≤ 0 then (⊥ : EReal) else _) = _
    rw [if_neg (not_le.mpr hpos)]
  unfold kp
  rw [hl]
  rcases hcase k with h | ⟨r, h⟩
  · rw [h, show E k = 0 from if_pos h, zero_div]; rfl
  · rw [show E k = Real.exp (r - μ) from by simp only [E, h, EReal.coe_ne_bot, if_false, EReal.toReal_coe], h, ← EReal.coe_sub]
    show ((Real.exp _ : ℝ) : EReal) = _
    rw [← sub_sub, Real.exp_sub, Real.exp_log hpos]

/-- The two forms of a probability agree. -/
theorem kp_eq_rp (k : Fin n) : kp s k = rp s k := by
  obtain ⟨E, hpos, hex, hsm, hkp⟩ := row_real ht hb
  rw [hkp k]; unfold rp
  rw [hex k, hsm, Ideal.div_coe hpos.ne', ← EReal.coe_mul, mul_one_div]

/-- The two forms of the gradient of a score agree. -/
theorem kds_eq_rds (v : Fin n → Fin e → EReal) (g : Fin e → EReal) (c : EReal) (hv : ∀ k j, Fin' (v k j))
    (hg : ∀ j, Fin' (g j)) (hc : Fin' c) (k : Fin n) : kds s v g c k = rds s v g c k := by
  obtain ⟨E, hpos, hex, hsm, hkp⟩ := row_real ht hb
  choose v' hv' using fun k j => (hv k j).coe
  choose g' hg' using fun j => (hg j).coe
  obtain ⟨c', hc'⟩ := hc.coe
  have hne := hpos.ne'
  have hdp : ∀ k, (∑ j, g j * v k j) = ((∑ j, g' j * v' k j : ℝ) : EReal) := fun k => by
    rw [coe_sum]; refine Finset.sum_congr rfl fun j _ => ?_
    rw [hg', hv', EReal.coe_mul]
  have hko : ∀ j, ko s v j = (((∑ k, E k * v' k j) / ∑ k, E k : ℝ) : EReal) := fun j => by
    unfold ko
    rw [hsm, Ideal.div_coe hne, show (∑ k, ex s k * v k j) = ((∑ k, E k * v' k j : ℝ) : EReal) from by
      rw [coe_sum]; refine Finset.sum_congr rfl fun k _ => ?_
      rw [hex, hv', EReal.coe_mul], ← EReal.coe_mul, mul_one_div]
  have hdelta : (∑ j, g j * ko s v j) = ((∑ j, g' j * ((∑ k, E k * v' k j) / ∑ k, E k) : ℝ) : EReal) := by
    rw [coe_sum]; refine Finset.sum_congr rfl fun j _ => ?_
    rw [hg', hko, EReal.coe_mul]
  have hsq : sm s * sm s = (((∑ k, E k) * ∑ k, E k : ℝ) : EReal) := by rw [hsm, EReal.coe_mul]
  have hbar : (∑ k', (∑ j, g j * v k' j) * Ideal.div 1 (sm s * sm s) * ex s k')
      = ((∑ k', (∑ j, g' j * v' k' j) * (1 / ((∑ k, E k) * ∑ k, E k)) * E k' : ℝ) : EReal) := by
    rw [coe_sum]; refine Finset.sum_congr rfl fun k' _ => ?_
    rw [hdp, hsq, Ideal.div_coe (mul_ne_zero hne hne), hex, one_mul, EReal.coe_mul, EReal.coe_mul]
  unfold kds rds
  rw [hkp k, hdp k, hdelta, hbar, hc', hex k, hsm, Ideal.div_coe hne]
  simp only [← EReal.coe_mul, ← EReal.coe_sub, ← EReal.coe_neg, ← EReal.coe_add]
  refine congrArg _ ?_
  have h1 : (∑ j, g' j * ((∑ k, E k * v' k j) / ∑ k, E k)) = (∑ k', (∑ j, g' j * v' k' j) * E k') / ∑ k, E k := by
    simp only [Finset.mul_sum, Finset.sum_mul, mul_div_assoc', Finset.sum_div]
    rw [Finset.sum_comm]
    refine Finset.sum_congr rfl fun k' _ => Finset.sum_congr rfl fun j _ => ?_
    ring
  have h2 : (∑ k', (∑ j, g' j * v' k' j) * (1 / ((∑ k, E k) * ∑ k, E k)) * E k')
      = (∑ k', (∑ j, g' j * v' k' j) * E k') / ((∑ k, E k) * ∑ k, E k) := by
    rw [Finset.sum_div]
    refine Finset.sum_congr rfl fun k' _ => ?_
    ring
  rw [h1, h2]
  generalize (∑ k', (∑ j, g' j * v' k' j) * E k') = D at *
  generalize (∑ j, g' j * v' k j) = A at *
  generalize E k = ek at *
  generalize (∑ k, E k) = L at *
  field_simp
  ring

end Row

/-- A masked score has no exponential. -/
theorem ex_bot (s : Fin n → EReal) (k : Fin n) (h : s k = ⊥) : ex s k = 0 := by
  unfold ex
  rw [h, EReal.bot_sub]; rfl

end Cert.AttnMath

end
-- ==== Proof.Xa.Pay.lean ====
/-
  The bodies of the two cross-attention kernels, read at an index over the extended reals: a block of 256 queries against
  the 256 memory rows of one head, as the row formulas of AttnMath.lean.
-/
module

public import proofs.«01_k».proof.Proof.Xa.Cases
public import proofs.«01_k».proof.Proof.AttnMath
public import Idealize.ShloMosaic.Lib.Pointwise
public import Idealize.ShloMosaic.Lib.ValueIdx
public import Idealize.ShloMosaic.Lib.IdealHost

@[expose] public section

set_option maxRecDepth 16384

noncomputable section

namespace Cert.XattnIdeal.Val

open Cert.XattnIdeal Cert.XattnIdeal.Gen Cert.AttnMath Idealize.ShloMosaic Idealize.ShloMosaic.TcCoe Idealize.SL.Sem

/-- The scale of the scores, `512 ^ (-1/2)` as the float word both programs hold. -/
abbrev scale : EReal := Ideal.ofBits .f32 0x3D3504F3#32

theorem ofBits_neg_inf : Ideal.ofBits .f32 0xFF800000#32 = ⊥ := by
  simp [Ideal.ofBits, Ideal.ieee]

variable (x0 x1 x2 x3 : Vec Ideal S256x512 .f32) (x4 : Vec Ideal S1x256x1 .f32) (x5 : Vec Ideal S256x512 .f32)

/-- The scores of query row `a` of a block `x0` against the memory rows of a block `x1`. -/
def bscore (a : Fin 256) : Fin 256 → EReal := fun x => (∑ d : Fin 512, x0 (ix2 a d) * x1 (ix2 x d)) * scale
/-- A block read as a matrix. -/
abbrev mat (x : Vec Ideal S256x512 .f32) : Fin 256 → Fin 512 → EReal := fun r j => x (ix2 r j)

theorem pay0_1 (a x : Fin 256) : k0_pay1 (F := Ideal) x0 x1 (ix2 a x) = bscore x0 x1 a x := by
  unfold k0_pay1 bscore
  pointwise

theorem pay0_2 (a : Fin 256) (b : Fin 1) : k0_pay2 (F := Ideal) x0 x1 (ix2 a b) = mx (bscore x0 x1 a) := by
  unfold k0_pay2 mx
  pointwise
  rw [ofBits_neg_inf]
  simp only [pay0_1]

theorem pay0_3 (a x : Fin 256) : k0_pay3 (F := Ideal) x0 x1 (ix2 a x) = ex (bscore x0 x1 a) x := by
  unfold k0_pay3 ex
  pointwise
  rw [pay0_1, pay0_2]

theorem pay0_4 (a : Fin 256) (b : Fin 1) : k0_pay4 (F := Ideal) x0 x1 (ix2 a b) = sm (bscore x0 x1 a) := by
  unfold k0_pay4 sm
  pointwise
  simp only [pay0_3]

theorem pay0_5 (a : Fin 256) (j : Fin 512) : k0_pay5 (F := Ideal) x0 x1 x2 (ix2 a j) = ko (bscore x0 x1 a) (mat x2) j := by
  unfold k0_pay5 ko
  pointwise
  simp only [pay0_3, pay0_4]

theorem pay0_6 (z : Fin 1) (a : Fin 256) (b : Fin 1) : k0_pay6 (F := Ideal) x0 x1 (ix3 z a b) = lse (bscore x0 x1 a) := by
  unfold k0_pay6 lse
  pointwise
  simp only [pay0_2, pay0_4]

theorem pay1_5 (a : Fin 256) (j : Fin 512) : k1_pay5 (F := Ideal) x0 (ix2 a j) = x0 (ix2 a j) := by
  unfold k1_pay5; pointwise
theorem pay1_6 (a : Fin 256) (j : Fin 512) : k1_pay6 (F := Ideal) x1 (ix2 a j) = x1 (ix2 a j) := by
  unfold k1_pay6; pointwise
theorem pay1_7 (a : Fin 256) (j : Fin 512) : k1_pay7 (F := Ideal) x5 (ix2 a j) = x5 (ix2 a j) := by
  unfold k1_pay7; pointwise

/-- The probabilities of a block, from the saved logarithms of the sums. -/
def bp (a x : Fin 256) : EReal := Ideal.exp (bscore x0 x1 a x - x4 (ix3 0 a 0))
/-- The gradients of the products, from the saved logarithms and outputs. -/
def bds (a x : Fin 256) : EReal :=
  bp x0 x1 x4 a x * ((∑ j : Fin 512, x5 (ix2 a j) * x2 (ix2 x j)) - ∑ j : Fin 512, x5 (ix2 a j) * x3 (ix2 a j)) * scale

theorem pay1_8 (a x : Fin 256) : k1_pay8 (F := Ideal) x0 x1 x4 (ix2 a x) = bp x0 x1 x4 a x := by
  unfold k1_pay8 bp bscore
  pointwise
  simp only [pay1_5, pay1_6]

theorem pay1_9 (a x : Fin 256) : k1_pay9 (F := Ideal) x0 x1 x5 x4 x2 x5 x3 (ix2 a x) = bds x0 x1 x2 x3 x4 x5 a x := by
  unfold k1_pay9 bds
  pointwise
  simp only [pay1_7, pay1_8]

/-- The gradient of the block's queries. -/
theorem pay1_10 (a : Fin 256) (d : Fin 512) : k1_pay10 (F := Ideal) x0 x1 x5 x4 x2 x5 x3 (ix2 a d)
    = ∑ x : Fin 256, bds x0 x1 x2 x3 x4 x5 a x * x1 (ix2 x d) := by
  unfold k1_pay10
  pointwise
  simp only [pay1_9, pay1_6]

/-- The block's contribution to the gradient of the keys, added to what the buffer held. -/
theorem pay1_3 (acc : Vec Ideal S256x512 .f32) (x : Fin 256) (d : Fin 512) :
    k1_pay3 (F := Ideal) (k1_pay5 x0) (k1_pay9 x0 x1 x5 x4 x2 x5 x3) acc (ix2 x d)
    = acc (ix2 x d) + ∑ a : Fin 256, bds x0 x1 x2 x3 x4 x5 a x * x0 (ix2 a d) := by
  unfold k1_pay3
  pointwise
  simp only [pay1_9, pay1_5]

/-- The block's contribution to the gradient of the values, added to what the buffer held. -/
theorem pay1_4 (acc : Vec Ideal S256x512 .f32) (x : Fin 256) (d : Fin 512) :
    k1_pay4 (F := Ideal) (k1_pay7 x5) (k1_pay8 x0 x1 x4) acc (ix2 x d)
    = acc (ix2 x d) + ∑ a : Fin 256, bp x0 x1 x4 a x * x5 (ix2 a d) := by
  unfold k1_pay4
  pointwise
  simp only [pay1_7, pay1_8]

theorem pay1_1 (x : Fin 256) (d : Fin 512) : k1_pay1 (F := Ideal) (ix2 x d) = 0 := by
  unfold k1_pay1; pointwise
theorem pay1_2 (x : Fin 256) (d : Fin 512) : k1_pay2 (F := Ideal) (ix2 x d) = 0 := by
  unfold k1_pay2; pointwise

end Cert.XattnIdeal.Val

end
-- ==== Proof.BlockSum.lean ====
/-
  A sum over `m · k` rows, taken in `m` blocks of `k` rows.
-/
module

public import Mathlib.Data.EReal.Operations
public import Mathlib.Algebra.BigOperators.Fin
public import Mathlib.Algebra.BigOperators.Intervals

@[expose] public section

namespace Cert.BlockSum

open Finset

/-- The sum of the blocks' sums is the sum over all the rows. -/
theorem sum_blocks {M : Type} [AddCommMonoid M] (k : ℕ) (f : ℕ → M) :
    ∀ m : ℕ, ∑ i ∈ range m, ∑ a : Fin k, f (k * i + a.val) = ∑ r ∈ range (k * m), f r
  | 0 => by simp
  | m + 1 => by
    rw [sum_range_succ, sum_blocks k f m, Nat.mul_succ, sum_range_add, Fin.sum_univ_eq_sum_range (fun a => f (k * m + a)) k]

/-- The same, the rows numbered by `Fin`. -/
theorem sum_blocks_fin {M : Type} [AddCommMonoid M] (m k N : ℕ) (hN : k * m = N) (f : Fin N → M) :
    ∑ i ∈ range m, ∑ a : Fin k, (if h : k * i + a.val < N then f ⟨k * i + a.val, h⟩ else 0) = ∑ r : Fin N, f r := by
  rw [sum_blocks k (fun r => if h : r < N then f ⟨r, h⟩ else 0) m, hN, ← Fin.sum_univ_eq_sum_range]
  exact sum_congr rfl fun r _ => dif_pos r.isLt

end Cert.BlockSum
-- ==== Proof.Xa.Arrays.lean ====
/-
  The arrays the two cross-attention kernels leave, over the extended reals, index by index. The forward kernel leaves
  every row's output and the logarithm of its sum of exponentials; the backward kernel the gradients of the queries (one
  block per point), and of the keys and values (summed over the eight blocks of queries of a head).
-/
module

public import proofs.«01_k».proof.Proof.Xa.Pay
public import proofs.«01_k».proof.Proof.BlockSum
public import Idealize.ShloMosaic.Lib.Pipeline.ValueKit.Geometry

@[expose] public section

set_option maxRecDepth 16384

noncomputable section

namespace Cert.XattnIdeal.Val

open Cert.XattnIdeal Cert.XattnIdeal.Gen Cert.AttnMath Idealize.ShloMosaic Idealize.ShloMosaic.TcCoe Idealize.SL.Sem
open Idealize.ShloMosaic.Pipeline (Dat)

/-! ## The formulas over whole arrays -/

/-- Column `d` of head `h`. -/
def col (h : Fin 4) (d : Fin 512) : Fin 2048 := ⟨512 * h.val + d.val, by omega⟩
/-- The head of a column, and the column's place in it. -/
def hd (i : Fin 2048) : Fin 4 := ⟨i.val / 512, by omega⟩
def lc (i : Fin 2048) : Fin 512 := ⟨i.val % 512, by omega⟩
/-- Row `a` of query block `i`. -/
def rw' (i : Fin 8) (a : Fin 256) : Fin 2048 := ⟨256 * i.val + a.val, by omega⟩

theorem col_hd_lc (i : Fin 2048) : col (hd i) (lc i) = i := by
  apply Fin.ext; show 512 * (i.val / 512) + i.val % 512 = i.val; omega
theorem hd_col (h : Fin 4) (d : Fin 512) : hd (col h d) = h := by
  apply Fin.ext; show (512 * h.val + d.val) / 512 = h.val; omega
theorem lc_col (h : Fin 4) (d : Fin 512) : lc (col h d) = d := by
  apply Fin.ext; show (512 * h.val + d.val) % 512 = d.val; omega

/-- The scores of query `r` in head `h`. -/
def score (q : S2048x2048.Idx → EReal) (k : S256x2048.Idx → EReal) (h : Fin 4) (r : Fin 2048) : Fin 256 → EReal :=
  fun x => (∑ d : Fin 512, q (ix2 r (col h d)) * k (ix2 x (col h d))) * scale
/-- The values of head `h`. -/
def hval (v : S256x2048.Idx → EReal) (h : Fin 4) : Fin 256 → Fin 512 → EReal := fun x j => v (ix2 x (col h j))
/-- The outputs. -/
def outAt (q : S2048x2048.Idx → EReal) (k v : S256x2048.Idx → EReal) (h : Fin 4) (r : Fin 2048) (j : Fin 512) : EReal :=
  ko (score q k h r) (hval v h) j
/-- The probabilities, from saved logarithms of the sums. -/
def pAt (q : S2048x2048.Idx → EReal) (k : S256x2048.Idx → EReal) (l : S4x2048x1.Idx → EReal) (h : Fin 4) (r : Fin 2048) (x : Fin 256) : EReal :=
  Ideal.exp (score q k h r x - l (ix3 h r 0))
/-- The gradients of the products, from saved logarithms and outputs. -/
def dsAt (q : S2048x2048.Idx → EReal) (k v : S256x2048.Idx → EReal) (o : S2048x2048.Idx → EReal) (l : S4x2048x1.Idx → EReal)
    (g : S2048x2048.Idx → EReal) (h : Fin 4) (r : Fin 2048) (x : Fin 256) : EReal :=
  pAt q k l h r x * ((∑ j : Fin 512, g (ix2 r (col h j)) * v (ix2 x (col h j)))
    - ∑ j : Fin 512, g (ix2 r (col h j)) * o (ix2 r (col h j))) * scale

variable (V : (c : Dev nD) → (b : Ref sig .tc) → Buf (Elt Ideal) ((c : Thread nD τ).loc b)) (c : Dev nD)

abbrev aq : S2048x2048.Idx → EReal := V c main_arg0
abbrev ak : S256x2048.Idx → EReal := V c main_arg1
abbrev av : S256x2048.Idx → EReal := V c main_arg2
abbrev ag : S2048x2048.Idx → EReal := V c main_arg3
abbrev ao : S2048x2048.Idx → EReal := V c main_v0_0
abbrev al : S4x2048x1.Idx → EReal := V c main_v0_1

/-! ## The forward kernel -/

/-- Point `t` of a grid of four heads by eight query blocks: its head and its block. -/
def ph (n : ℕ) : Fin 4 := ⟨n / 8 % 4, by omega⟩
def pi' (n : ℕ) : Fin 8 := ⟨n % 8, by omega⟩

theorem idx0 : ∀ t : Fin cfg0.N, t.val / 8 < 4
    ∧ (win0_0.index t (0 : Fin 2) = t.val % 8 ∧ win0_0.index t (1 : Fin 2) = t.val / 8)
    ∧ (win0_1.index t (0 : Fin 2) = 0 ∧ win0_1.index t (1 : Fin 2) = t.val / 8)
    ∧ (win0_2.index t (0 : Fin 2) = 0 ∧ win0_2.index t (1 : Fin 2) = t.val / 8)
    ∧ (win0_3.index t (0 : Fin 2) = t.val % 8 ∧ win0_3.index t (1 : Fin 2) = t.val / 8)
    ∧ (win0_4.index t (0 : Fin 3) = t.val / 8 ∧ win0_4.index t (1 : Fin 3) = t.val % 8 ∧ win0_4.index t (2 : Fin 3) = 0) :=
  (by decide +kernel : ∀ t : Fin grid0.N, _)

theorem iblk0_0 (t : Fin cfg0.N) (a : Fin 256) (d : Fin 512) :
    iblk0 V c 0 t (ix2 a d) = aq V c (ix2 (rw' (pi' t.val) a) (col (ph t.val) d)) := by
  obtain ⟨ht, ⟨e0, e1⟩, -⟩ := idx0 t
  show V c main_arg0 (((cfg0.win 0).blk t).view.emb (ix2 a d)) = _
  refine congrArg (V c main_arg0) (funext fun y => Fin.ext ?_)
  match y with
  | ⟨0, _⟩ => show win0_0.index t (0 : Fin 2) * 256 + 1 * a.val = 256 * (t.val % 8) + a.val; omega
  | ⟨1, _⟩ => show win0_0.index t (1 : Fin 2) * 512 + 1 * d.val = 512 * (t.val / 8 % 4) + d.val; omega

theorem iblk0_1 (t : Fin cfg0.N) (x : Fin 256) (d : Fin 512) :
    iblk0 V c 1 t (ix2 x d) = ak V c (ix2 x (col (ph t.val) d)) := by
  obtain ⟨ht, -, ⟨e0, e1⟩, -⟩ := idx0 t
  show V c main_arg1 (((cfg0.win 1).blk t).view.emb (ix2 x d)) = _
  refine congrArg (V c main_arg1) (funext fun y => Fin.ext ?_)
  match y with
  | ⟨0, _⟩ => show win0_1.index t (0 : Fin 2) * 256 + 1 * x.val = x.val; omega
  | ⟨1, _⟩ => show win0_1.index t (1 : Fin 2) * 512 + 1 * d.val = 512 * (t.val / 8 % 4) + d.val; omega

theorem iblk0_2 (t : Fin cfg0.N) (x : Fin 256) (d : Fin 512) :
    iblk0 V c 2 t (ix2 x d) = av V c (ix2 x (col (ph t.val) d)) := by
  obtain ⟨ht, -, -, ⟨e0, e1⟩, -⟩ := idx0 t
  show V c main_arg2 (((cfg0.win 2).blk t).view.emb (ix2 x d)) = _
  refine congrArg (V c main_arg2) (funext fun y => Fin.ext ?_)
  match y with
  | ⟨0, _⟩ => show win0_2.index t (0 : Fin 2) * 256 + 1 * x.val = x.val; omega
  | ⟨1, _⟩ => show win0_2.index t (1 : Fin 2) * 512 + 1 * d.val = 512 * (t.val / 8 % 4) + d.val; omega

theorem bscore0 (t : Fin cfg0.N) (a : Fin 256) :
    bscore (iblk0 V c 0 t) (iblk0 V c 1 t) a = score (aq V c) (ak V c) (ph t.val) (rw' (pi' t.val) a) := by
  unfold bscore score
  simp only [iblk0_0, iblk0_1]

/-- What the forward kernel leaves in the output array. -/
def O0 : Buf (Elt Ideal) ((c : Thread nD τ).loc main_v0_0) :=
  fun i => outAt (aq V c) (ak V c) (av V c) (hd (i 1)) (i 0) (lc (i 1))
/-- What the forward kernel leaves in the array of logarithms. -/
def L0 : Buf (Elt Ideal) ((c : Thread nD τ).loc main_v0_1) := fun i => lse (score (aq V c) (ak V c) (i 0) (i 1))

theorem out0_3_eq (x0 x1 x2 : Vec Ideal S256x512 .f32) : out0_3 x0 x1 x2 = k0_pay5 x0 x1 x2 := by
  unfold out0_3
  rw [View.canon_unit_zero hz2]
  simp only [View.ld_unit_zero (S := S256x512) hz2]

theorem out0_4_eq (x0 x1 x2 : Vec Ideal S256x512 .f32) : out0_4 x0 x1 x2 = k0_pay6 x0 x1 := by
  unfold out0_4
  rw [View.canon_unit_zero hz3]
  simp only [View.ld_unit_zero (S := S256x512) hz2]

/-- A block index of 256 rows and 512 columns, by its two coordinates. -/
theorem blkIdx (y : S256x512.Idx) : y = ix2 (y 0) (y 1) := by
  funext z; match z with | ⟨0, _⟩ => rfl | ⟨1, _⟩ => rfl

theorem arr0_3 : (dat0 V c).arrAt 3 cfg0.N = O0 V c := by
  refine (dat0 V c).arrAt_eq_of_covers 3 (O0 V c) (by decide +kernel) fun t _ y => ?_
  obtain ⟨ht, -, -, -, ⟨e0, e1⟩, -⟩ := idx0 t
  rw [after0_3, out0_3_eq]
  obtain ⟨a, d, rfl⟩ : ∃ (a : Fin 256) (d : Fin 512), y = ix2 a d := ⟨y 0, y 1, blkIdx y⟩
  have h0 : ((cfg0.win 3).blk t).view.emb (ix2 a d) = ix2 (rw' (pi' t.val) a) (col (ph t.val) d) := funext fun z => Fin.ext (by
    match z with
    | ⟨0, _⟩ => show win0_3.index t (0 : Fin 2) * 256 + 1 * a.val = 256 * (t.val % 8) + a.val; omega
    | ⟨1, _⟩ => show win0_3.index t (1 : Fin 2) * 512 + 1 * d.val = 512 * (t.val / 8 % 4) + d.val; omega)
  show k0_pay5 (iblk0 V c 0 t) (iblk0 V c 1 t) (iblk0 V c 2 t) (ix2 a d) = O0 V c (((cfg0.win 3).blk t).view.emb (ix2 a d))
  rw [h0, pay0_5, bscore0]
  show _ = outAt (aq V c) (ak V c) (av V c) (hd (col (ph t.val) d)) (rw' (pi' t.val) a) (lc (col (ph t.val) d))
  rw [hd_col, lc_col]
  unfold outAt
  refine congrArg (fun v => ko _ v d) (funext fun x => funext fun j => ?_)
  exact iblk0_2 V c t x j

theorem arr0_4 : (dat0 V c).arrAt 4 cfg0.N = L0 V c := by
  refine (dat0 V c).arrAt_eq_of_covers 4 (L0 V c) (by decide +kernel) fun t _ y => ?_
  obtain ⟨ht, -, -, -, -, ⟨e0, e1, e2⟩⟩ := idx0 t
  rw [after0_4, out0_4_eq]
  obtain ⟨a, rfl⟩ : ∃ a : Fin 256, y = ix3 0 a 0 :=
    ⟨y 1, by
      funext z
      match z with
      | ⟨0, _⟩ => exact Fin.ext (by have := (y 0).isLt; show (y 0).val = 0; exact Nat.lt_one_iff.mp this)
      | ⟨1, _⟩ => rfl
      | ⟨2, _⟩ => exact Fin.ext (by have := (y 2).isLt; show (y 2).val = 0; exact Nat.lt_one_iff.mp this)⟩
  have h0 : ((cfg0.win 4).blk t).view.emb (ix3 0 a 0) = ix3 (ph t.val) (rw' (pi' t.val) a) 0 := funext fun z => Fin.ext (by
    match z with
    | ⟨0, _⟩ => show win0_4.index t (0 : Fin 3) * 1 + 1 * 0 = t.val / 8 % 4; omega
    | ⟨1, _⟩ => show win0_4.index t (1 : Fin 3) * 256 + 1 * a.val = 256 * (t.val % 8) + a.val; omega
    | ⟨2, _⟩ => show win0_4.index t (2 : Fin 3) * 1 + 1 * 0 = 0; omega)
  show k0_pay6 (iblk0 V c 0 t) (iblk0 V c 1 t) (ix3 0 a 0) = L0 V c (((cfg0.win 4).blk t).view.emb (ix3 0 a 0))
  rw [h0, pay0_6, bscore0]
  rfl

/-! ## The backward kernel -/

theorem idx1 : ∀ t : Fin cfg1.N, t.val / 8 < 4
    ∧ (win1_0.index t (0 : Fin 2) = t.val % 8 ∧ win1_0.index t (1 : Fin 2) = t.val / 8)
    ∧ (win1_1.index t (0 : Fin 2) = 0 ∧ win1_1.index t (1 : Fin 2) = t.val / 8)
    ∧ (win1_2.index t (0 : Fin 2) = 0 ∧ win1_2.index t (1 : Fin 2) = t.val / 8)
    ∧ (win1_3.index t (0 : Fin 2) = t.val % 8 ∧ win1_3.index t (1 : Fin 2) = t.val / 8)
    ∧ (win1_4.index t (0 : Fin 3) = t.val / 8 ∧ win1_4.index t (1 : Fin 3) = t.val % 8 ∧ win1_4.index t (2 : Fin 3) = 0)
    ∧ (win1_5.index t (0 : Fin 2) = t.val % 8 ∧ win1_5.index t (1 : Fin 2) = t.val / 8)
    ∧ (win1_6.index t (0 : Fin 2) = t.val % 8 ∧ win1_6.index t (1 : Fin 2) = t.val / 8)
    ∧ (win1_7.index t (0 : Fin 2) = 0 ∧ win1_7.index t (1 : Fin 2) = t.val / 8)
    ∧ (win1_8.index t (0 : Fin 2) = 0 ∧ win1_8.index t (1 : Fin 2) = t.val / 8) :=
  (by decide +kernel : ∀ t : Fin grid1.N, _)

theorem iblk1_0 (t : Fin cfg1.N) (a : Fin 256) (d : Fin 512) :
    iblk1 V c 0 t (ix2 a d) = aq V c (ix2 (rw' (pi' t.val) a) (col (ph t.val) d)) := by
  obtain ⟨ht, ⟨e0, e1⟩, -⟩ := idx1 t
  show V c main_arg0 (((cfg1.win 0).blk t).view.emb (ix2 a d)) = _
  refine congrArg (V c main_arg0) (funext fun y => Fin.ext ?_)
  match y with
  | ⟨0, _⟩ => show win1_0.index t (0 : Fin 2) * 256 + 1 * a.val = 256 * (t.val % 8) + a.val; omega
  | ⟨1, _⟩ => show win1_0.index t (1 : Fin 2) * 512 + 1 * d.val = 512 * (t.val / 8 % 4) + d.val; omega

theorem iblk1_1 (t : Fin cfg1.N) (a : Fin 256) (d : Fin 512) :
    iblk1 V c 1 t (ix2 a d) = ak V c (ix2 a (col (ph t.val) d)) := by
  obtain ⟨ht, -, ⟨e0, e1⟩, -⟩ := idx1 t
  show V c main_arg1 (((cfg1.win 1).blk t).view.emb (ix2 a d)) = _
  refine congrArg (V c main_arg1) (funext fun y => Fin.ext ?_)
  match y with
  | ⟨0, _⟩ => show win1_1.index t (0 : Fin 2) * 256 + 1 * a.val = a.val; omega
  | ⟨1, _⟩ => show win1_1.index t (1 : Fin 2) * 512 + 1 * d.val = 512 * (t.val / 8 % 4) + d.val; omega

theorem iblk1_2 (t : Fin cfg1.N) (a : Fin 256) (d : Fin 512) :
    iblk1 V c 2 t (ix2 a d) = av V c (ix2 a (col (ph t.val) d)) := by
  obtain ⟨ht, -, -, ⟨e0, e1⟩, -⟩ := idx1 t
  show V c main_arg2 (((cfg1.win 2).blk t).view.emb (ix2 a d)) = _
  refine congrArg (V c main_arg2) (funext fun y => Fin.ext ?_)
  match y with
  | ⟨0, _⟩ => show win1_2.index t (0 : Fin 2) * 256 + 1 * a.val = a.val; omega
  | ⟨1, _⟩ => show win1_2.index t (1 : Fin 2) * 512 + 1 * d.val = 512 * (t.val / 8 % 4) + d.val; omega

theorem iblk1_3 (t : Fin cfg1.N) (a : Fin 256) (d : Fin 512) :
    iblk1 V c 3 t (ix2 a d) = ao V c (ix2 (rw' (pi' t.val) a) (col (ph t.val) d)) := by
  obtain ⟨ht, -, -, -, ⟨e0, e1⟩, -⟩ := idx1 t
  show V c main_v0_0 (((cfg1.win 3).blk t).view.emb (ix2 a d)) = _
  refine congrArg (V c main_v0_0) (funext fun y => Fin.ext ?_)
  match y with
  | ⟨0, _⟩ => show win1_3.index t (0 : Fin 2) * 256 + 1 * a.val = 256 * (t.val % 8) + a.val; omega
  | ⟨1, _⟩ => show win1_3.index t (1 : Fin 2) * 512 + 1 * d.val = 512 * (t.val / 8 % 4) + d.val; omega

theorem iblk1_5 (t : Fin cfg1.N) (a : Fin 256) (d : Fin 512) :
    iblk1 V c 5 t (ix2 a d) = ag V c (ix2 (rw' (pi' t.val) a) (col (ph t.val) d)) := by
  obtain ⟨ht, -, -, -, -, -, ⟨e0, e1⟩, -⟩ := idx1 t
  show V c main_arg3 (((cfg1.win 5).blk t).view.emb (ix2 a d)) = _
  refine congrArg (V c main_arg3) (funext fun y => Fin.ext ?_)
  match y with
  | ⟨0, _⟩ => show win1_5.index t (0 : Fin 2) * 256 + 1 * a.val = 256 * (t.val % 8) + a.val; omega
  | ⟨1, _⟩ => show win1_5.index t (1 : Fin 2) * 512 + 1 * d.val = 512 * (t.val / 8 % 4) + d.val; omega

theorem iblk1_4 (t : Fin cfg1.N) (a : Fin 256) :
    iblk1 V c 4 t (ix3 0 a 0) = al V c (ix3 (ph t.val) (rw' (pi' t.val) a) 0) := by
  obtain ⟨ht, -, -, -, -, ⟨e0, e1, e2⟩, -⟩ := idx1 t
  show V c main_v0_1 (((cfg1.win 4).blk t).view.emb (ix3 0 a 0)) = _
  refine congrArg (V c main_v0_1) (funext fun y => Fin.ext ?_)
  match y with
  | ⟨0, _⟩ => show win1_4.index t (0 : Fin 3) * 1 + 1 * 0 = t.val / 8 % 4; omega
  | ⟨1, _⟩ => show win1_4.index t (1 : Fin 3) * 256 + 1 * a.val = 256 * (t.val % 8) + a.val; omega
  | ⟨2, _⟩ => show win1_4.index t (2 : Fin 3) * 1 + 1 * 0 = 0; omega

/-- The probabilities and the gradients of the products, of the arrays at a valuation. -/
abbrev P1 (h : Fin 4) (r : Fin 2048) (x : Fin 256) : EReal := pAt (aq V c) (ak V c) (al V c) h r x
abbrev D1 (h : Fin 4) (r : Fin 2048) (x : Fin 256) : EReal := dsAt (aq V c) (ak V c) (av V c) (ao V c) (al V c) (ag V c) h r x

theorem bp1 (t : Fin cfg1.N) (a x : Fin 256) :
    bp (iblk1 V c 0 t) (iblk1 V c 1 t) (iblk1 V c 4 t) a x = P1 V c (ph t.val) (rw' (pi' t.val) a) x := by
  unfold P1 bp bscore pAt score
  simp only [iblk1_0, iblk1_1, iblk1_4]

theorem bds1 (t : Fin cfg1.N) (a x : Fin 256) :
    bds (iblk1 V c 0 t) (iblk1 V c 1 t) (iblk1 V c 2 t) (iblk1 V c 3 t) (iblk1 V c 4 t) (iblk1 V c 5 t) a x
    = D1 V c (ph t.val) (rw' (pi' t.val) a) x := by
  unfold D1 bds dsAt
  rw [bp1]
  simp only [iblk1_2, iblk1_3, iblk1_5]

/-- The gradients of the queries, the keys and the values. -/
def Q1 : S2048x2048.Idx → EReal :=
  fun i => ∑ x : Fin 256, D1 V c (hd (i 1)) (i 0) x * ak V c (ix2 x (i 1))
def K1 : S256x2048.Idx → EReal :=
  fun i => ∑ r : Fin 2048, D1 V c (hd (i 1)) r (i 0) * aq V c (ix2 r (i 1))
def G1 : S256x2048.Idx → EReal :=
  fun i => ∑ r : Fin 2048, P1 V c (hd (i 1)) r (i 0) * ag V c (ix2 r (i 1))

/-- Block `i`'s term of the gradient of head `h`'s keys. -/
def ktm (h : Fin 4) (x : Fin 256) (d : Fin 512) (i : ℕ) : EReal :=
  ∑ a : Fin 256, if hr : 256 * i + a.val < 2048 then D1 V c h ⟨256 * i + a.val, hr⟩ x * aq V c (ix2 ⟨256 * i + a.val, hr⟩ (col h d)) else 0
/-- Block `i`'s term of the gradient of head `h`'s values. -/
def vtm (h : Fin 4) (x : Fin 256) (d : Fin 512) (i : ℕ) : EReal :=
  ∑ a : Fin 256, if hr : 256 * i + a.val < 2048 then P1 V c h ⟨256 * i + a.val, hr⟩ x * ag V c (ix2 ⟨256 * i + a.val, hr⟩ (col h d)) else 0

theorem ktm_pt (t : Fin cfg1.N) (x : Fin 256) (d : Fin 512) :
    ∑ a : Fin 256, D1 V c (ph t.val) (rw' (pi' t.val) a) x * aq V c (ix2 (rw' (pi' t.val) a) (col (ph t.val) d))
    = ktm V c (ph t.val) x d (t.val % 8) :=
  Finset.sum_congr rfl fun a _ => by rw [dif_pos (show 256 * (t.val % 8) + a.val < 2048 by omega)]; rfl

theorem vtm_pt (t : Fin cfg1.N) (x : Fin 256) (d : Fin 512) :
    ∑ a : Fin 256, P1 V c (ph t.val) (rw' (pi' t.val) a) x * ag V c (ix2 (rw' (pi' t.val) a) (col (ph t.val) d))
    = vtm V c (ph t.val) x d (t.val % 8) :=
  Finset.sum_congr rfl fun a _ => by rw [dif_pos (show 256 * (t.val % 8) + a.val < 2048 by omega)]; rfl

/-- One point's step of the keys' buffer. -/
theorem kstep (t : Fin cfg1.N) (acc : Vec Ideal S256x512 .f32) (x : Fin 256) (d : Fin 512) :
    k1_pay3 (F := Ideal) (k1_pay5 (iblk1 V c 0 t))
      (k1_pay9 (iblk1 V c 0 t) (iblk1 V c 1 t) (iblk1 V c 5 t) (iblk1 V c 4 t) (iblk1 V c 2 t) (iblk1 V c 5 t) (iblk1 V c 3 t)) acc (ix2 x d)
    = acc (ix2 x d) + ktm V c (ph t.val) x d (t.val % 8) := by
  rw [pay1_3, ← ktm_pt]
  simp only [bds1, iblk1_0]

/-- One point's step of the values' buffer. -/
theorem vstep (t : Fin cfg1.N) (acc : Vec Ideal S256x512 .f32) (x : Fin 256) (d : Fin 512) :
    k1_pay4 (F := Ideal) (k1_pay7 (iblk1 V c 5 t)) (k1_pay8 (iblk1 V c 0 t) (iblk1 V c 1 t) (iblk1 V c 4 t)) acc (ix2 x d)
    = acc (ix2 x d) + vtm V c (ph t.val) x d (t.val % 8) := by
  rw [pay1_4, ← vtm_pt]
  simp only [bp1, iblk1_5]

theorem outs_6 (t : Fin cfg1.N) (a : Fin 256) (d : Fin 512) :
    (outsAt1 V c t.val t.isLt).1 (ix2 a d) = ∑ x : Fin 256, D1 V c (ph t.val) (rw' (pi' t.val) a) x * ak V c (ix2 x (col (ph t.val) d)) := by
  by_cases h0 : t.val % 8 = 0
  · rw [outsAt1_A V c t h0]
    dsimp only
    rw [out_A_6, pay1_10]
    simp only [bds1, iblk1_1]
  · rw [outsAt1_B V c t h0]
    dsimp only
    rw [out_B_6, pay1_10]
    simp only [bds1, iblk1_1]

/-- After a point the two buffers hold the terms of its head's blocks so far. -/
theorem outs_78 : ∀ (n : ℕ) (hn : n < cfg1.N) (x : Fin 256) (d : Fin 512),
    (outsAt1 V c n hn).2.1 (ix2 x d) = ∑ i ∈ Finset.range (n % 8 + 1), ktm V c (ph n) x d i
    ∧ (outsAt1 V c n hn).2.2 (ix2 x d) = ∑ i ∈ Finset.range (n % 8 + 1), vtm V c (ph n) x d i := by
  intro n
  induction n with
  | zero =>
    intro hn x d
    rw [outsAt1_A V c ⟨0, hn⟩ rfl]
    dsimp only
    rw [out_A_7, out_A_8, kstep, vstep, pay1_1, pay1_2]
    simp
  | succ n ih =>
    intro hn x d
    by_cases h0 : (n + 1) % 8 = 0
    · rw [outsAt1_A V c ⟨n + 1, hn⟩ h0]
      dsimp only
      rw [out_A_7, out_A_8, kstep, vstep, pay1_1, pay1_2]
      dsimp only
      rw [h0]
      simp
    · rw [outsAt1_B V c ⟨n + 1, hn⟩ h0]
      dsimp only
      rw [out_B_7, out_B_8, kstep, vstep]
      have e1 : (n + 1) % 8 = n % 8 + 1 := by omega
      have e2 : ph (n + 1) = ph n := Fin.ext (by show (n + 1) / 8 % 4 = n / 8 % 4; omega)
      obtain ⟨i1, i2⟩ := ih (by omega) x d
      dsimp only
      rw [e1, e2, Finset.sum_range_succ _ (n % 8 + 1), Finset.sum_range_succ _ (n % 8 + 1), ← i1, ← i2]
      exact ⟨rfl, rfl⟩

theorem ktm_sum (h : Fin 4) (x : Fin 256) (d : Fin 512) :
    ∑ i ∈ Finset.range 8, ktm V c h x d i = ∑ r : Fin 2048, D1 V c h r x * aq V c (ix2 r (col h d)) :=
  BlockSum.sum_blocks_fin 8 256 2048 rfl (fun r => D1 V c h r x * aq V c (ix2 r (col h d)))

theorem vtm_sum (h : Fin 4) (x : Fin 256) (d : Fin 512) :
    ∑ i ∈ Finset.range 8, vtm V c h x d i = ∑ r : Fin 2048, P1 V c h r x * ag V c (ix2 r (col h d)) :=
  BlockSum.sum_blocks_fin 8 256 2048 rfl (fun r => P1 V c h r x * ag V c (ix2 r (col h d)))

theorem arr1_6 : (dat1 V c).arrAt 6 cfg1.N = Q1 V c := by
  refine (dat1 V c).arrAt_eq_of_covers 6 (Q1 V c) (by decide +kernel) fun t _ y => ?_
  obtain ⟨ht, -, -, -, -, -, -, ⟨e0, e1⟩, -⟩ := idx1 t
  rw [after1_6]
  obtain ⟨a, d, rfl⟩ : ∃ (a : Fin 256) (d : Fin 512), y = ix2 a d := ⟨y 0, y 1, blkIdx y⟩
  have h0 : ((cfg1.win 6).blk t).view.emb (ix2 a d) = ix2 (rw' (pi' t.val) a) (col (ph t.val) d) := funext fun z => Fin.ext (by
    match z with
    | ⟨0, _⟩ => show win1_6.index t (0 : Fin 2) * 256 + 1 * a.val = 256 * (t.val % 8) + a.val; omega
    | ⟨1, _⟩ => show win1_6.index t (1 : Fin 2) * 512 + 1 * d.val = 512 * (t.val / 8 % 4) + d.val; omega)
  show (outsAt1 V c t.val t.isLt).1 (ix2 a d) = Q1 V c (((cfg1.win 6).blk t).view.emb (ix2 a d))
  rw [h0, outs_6]
  show _ = ∑ x : Fin 256, D1 V c (hd (col (ph t.val) d)) (rw' (pi' t.val) a) x * ak V c (ix2 x (col (ph t.val) d))
  rw [hd_col]

theorem arr1_7 : (dat1 V c).arrAt 7 cfg1.N = K1 V c := by
  refine (dat1 V c).arrAt_eq_of_covers 7 (K1 V c) (by decide +kernel) fun t hf y => ?_
  obtain ⟨ht, -, -, -, -, -, -, -, ⟨e0, e1⟩, -⟩ := idx1 t
  rw [after1_7]
  obtain ⟨x, d, rfl⟩ : ∃ (x : Fin 256) (d : Fin 512), y = ix2 x d := ⟨y 0, y 1, blkIdx y⟩
  have h0 : ((cfg1.win 7).blk t).view.emb (ix2 x d) = ix2 x (col (ph t.val) d) := funext fun z => Fin.ext (by
    match z with
    | ⟨0, _⟩ => show win1_7.index t (0 : Fin 2) * 256 + 1 * x.val = x.val; omega
    | ⟨1, _⟩ => show win1_7.index t (1 : Fin 2) * 512 + 1 * d.val = 512 * (t.val / 8 % 4) + d.val; omega)
  show (outsAt1 V c t.val t.isLt).2.1 (ix2 x d) = K1 V c (((cfg1.win 7).blk t).view.emb (ix2 x d))
  rw [h0, (outs_78 V c t.val t.isLt x d).1, (flush1_7 t).mp hf]
  show ∑ i ∈ Finset.range 8, ktm V c (ph t.val) x d i = ∑ r : Fin 2048, D1 V c (hd (col (ph t.val) d)) r x * aq V c (ix2 r (col (ph t.val) d))
  rw [ktm_sum, hd_col]

theorem arr1_8 : (dat1 V c).arrAt 8 cfg1.N = G1 V c := by
  refine (dat1 V c).arrAt_eq_of_covers 8 (G1 V c) (by decide +kernel) fun t hf y => ?_
  obtain ⟨ht, -, -, -, -, -, -, -, -, ⟨e0, e1⟩⟩ := idx1 t
  rw [after1_8]
  obtain ⟨x, d, rfl⟩ : ∃ (x : Fin 256) (d : Fin 512), y = ix2 x d := ⟨y 0, y 1, blkIdx y⟩
  have h0 : ((cfg1.win 8).blk t).view.emb (ix2 x d) = ix2 x (col (ph t.val) d) := funext fun z => Fin.ext (by
    match z with
    | ⟨0, _⟩ => show win1_8.index t (0 : Fin 2) * 256 + 1 * x.val = x.val; omega
    | ⟨1, _⟩ => show win1_8.index t (1 : Fin 2) * 512 + 1 * d.val = 512 * (t.val / 8 % 4) + d.val; omega)
  show (outsAt1 V c t.val t.isLt).2.2 (ix2 x d) = G1 V c (((cfg1.win 8).blk t).view.emb (ix2 x d))
  rw [h0, (outs_78 V c t.val t.isLt x d).2, (flush1_8 t).mp hf]
  show ∑ i ∈ Finset.range 8, vtm V c (ph t.val) x d i = ∑ r : Fin 2048, P1 V c (hd (col (ph t.val) d)) r x * ag V c (ix2 r (col (ph t.val) d))
  rw [vtm_sum, hd_col]

end Cert.XattnIdeal.Val

end
-- ==== Proof.Xa.Run.lean ====
/-
  The run of the cross-attention program: the launch of its two kernels in turn, read at the three gradients it returns.
-/
module

public import proofs.«01_k».proof.Proof.Xa.Arrays

@[expose] public section

set_option maxRecDepth 16384

noncomputable section

namespace Cert.XattnIdeal.Val

open Cert.XattnIdeal Cert.XattnIdeal.Gen Cert.AttnMath Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

section Launch

variable {F : FTy → Type} [FloatOps F] (m : (b : Loc nD τ sig) → Buf (Elt F) b) (ρ : Dev nD → PrngReg)

local notation "𝕄" => MT nD τ sig Unit (Elt F) ℕ (UR sig nD τ) ℕ

set_option backward.isDefEq.respectTransparency.types false in
/-- Every run ends with the three gradients at what the backward kernel's write-backs fold to, and the arguments unchanged. -/
theorem run_arrays : θ_run defs (onTc (τ := τ) (main (F := F))) ⟨m, fun _ => 0, ρ⟩ (fun r => (∀ c : Dev nD,
      (r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨⟨(h c _ (mem_uc main_v1_0 (by decide))).trans (W2_arr m ρ c 6),
        (h c _ (mem_uc main_v1_1 (by decide))).trans (W2_arr m ρ c 7),
        (h c _ (mem_uc main_v1_2 (by decide))).trans (W2_arr m ρ c 8)⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Launch

variable (m : (b : Loc nD τ sig) → Buf (Elt Ideal) b) (ρ : Dev nD → PrngReg) (c : Dev nD)

/-- At the backward kernel's entry: the arguments as launched, the forward kernel's two arrays at its formulas. -/
theorem entry_q : aq (V1 m ρ) c = aq (V0 m ρ) c := W1_args m ρ c main_arg0 (by decide)
theorem entry_k : ak (V1 m ρ) c = ak (V0 m ρ) c := W1_args m ρ c main_arg1 (by decide)
theorem entry_v : av (V1 m ρ) c = av (V0 m ρ) c := W1_args m ρ c main_arg2 (by decide)
theorem entry_g : ag (V1 m ρ) c = ag (V0 m ρ) c := W1_args m ρ c main_arg3 (by decide)
theorem entry_o : ao (V1 m ρ) c = O0 (V0 m ρ) c := (hF0 m ρ c 3).symm.trans (arr0_3 (V0 m ρ) c)
theorem entry_l : al (V1 m ρ) c = L0 (V0 m ρ) c := (hF0 m ρ c 4).symm.trans (arr0_4 (V0 m ρ) c)

end Cert.XattnIdeal.Val

end
-- ==== Proof.Xa.Ref.lean ====
/-
  The reference of the cross-attention's gradients, read at an index: the softmax of the scaled scores of each head, and
  what differentiation makes of it, as the row formulas of AttnMath.lean.
-/
module

public import proofs.«01_k».proof.Proof.Xa.Arrays
public import proofs.«01_k».proof.Proof.Gen.XattnRefIdeal.Read

@[expose] public section

set_option maxRecDepth 16384

noncomputable section

namespace Cert.XattnRefIdeal.Val

open Cert.XattnRefIdeal Cert.XattnRefIdeal.Gen Cert.XattnRefIdeal.Read Cert.AttnMath Idealize.ShloMosaic Idealize.ShloMosaic.TcCoe Idealize.SL.Sem
open Cert.XattnIdeal.Val (score hval col hd lc scale col_hd_lc hd_col lc_col ofBits_neg_inf)

theorem ofBits_zero : Ideal.ofBits .f32 0x00000000#32 = 0 := by
  simp [Ideal.ofBits, Ideal.ieee]
theorem ofBits_one : Ideal.ofBits .f32 0x3F800000#32 = 1 := Ideal.ofBits_one_f32

variable (q g : (⟨S2048x2048, .f32⟩ : BufTy).Contents (Elt Ideal)) (k v : (⟨S256x2048, .f32⟩ : BufTy).Contents (Elt Ideal))
variable (h : Fin 4) (r : Fin 2048) (x : Fin 256) (d : Fin 512) (j : Fin 512)

theorem r0 : val_main_v0 (F := Ideal) q (ix3 r h d) = q (ix2 r (col h d)) := by
  rw [val_main_v0_apply]
  refine congrArg q (funext fun a => Fin.ext ?_)
  match a with
  | ⟨0, _⟩ => show ((r.val * 4 + h.val) * 512 + d.val) / 2048 = r.val; omega
  | ⟨1, _⟩ => show ((r.val * 4 + h.val) * 512 + d.val) % 2048 = 512 * h.val + d.val; omega

theorem r1 : val_main_v1 (F := Ideal) k (ix3 x h d) = k (ix2 x (col h d)) := by
  rw [val_main_v1_apply]
  refine congrArg k (funext fun a => Fin.ext ?_)
  match a with
  | ⟨0, _⟩ => show ((x.val * 4 + h.val) * 512 + d.val) / 2048 = x.val; omega
  | ⟨1, _⟩ => show ((x.val * 4 + h.val) * 512 + d.val) % 2048 = 512 * h.val + d.val; omega

theorem r2 : val_main_v2 (F := Ideal) v (ix3 x h d) = v (ix2 x (col h d)) := by
  rw [val_main_v2_apply]
  refine congrArg v (funext fun a => Fin.ext ?_)
  match a with
  | ⟨0, _⟩ => show ((x.val * 4 + h.val) * 512 + d.val) / 2048 = x.val; omega
  | ⟨1, _⟩ => show ((x.val * 4 + h.val) * 512 + d.val) % 2048 = 512 * h.val + d.val; omega

theorem r37 : val_main_v37 (F := Ideal) g (ix3 r h d) = g (ix2 r (col h d)) := by
  rw [val_main_v37_apply]
  refine congrArg g (funext fun a => Fin.ext ?_)
  match a with
  | ⟨0, _⟩ => show ((r.val * 4 + h.val) * 512 + d.val) / 2048 = r.val; omega
  | ⟨1, _⟩ => show ((r.val * 4 + h.val) * 512 + d.val) % 2048 = 512 * h.val + d.val; omega

/-- An index of rank 3 from its coordinates. -/
theorem eq3 {n0 n1 n2 : ℕ} (i : Shape.Idx ⟨3, ![n0, n1, n2]⟩) : i = ix3 (i 0) (i 1) (i 2) := by
  funext a; match a with | ⟨0, _⟩ => rfl | ⟨1, _⟩ => rfl | ⟨2, _⟩ => rfl

theorem r5 : val_main_v5 (F := Ideal) q k (ix3 h r x) = score q k h r x := by
  rw [val_main_v5_apply, val_main_v3_apply, val_main_v4_apply, val_main_cst_apply]
  refine congrArg (· * scale) (Finset.sum_congr rfl fun d _ => ?_)
  rw [eq3 (lidx_main_v3 _ d), eq3 (ridx_main_v3 _ d)]
  exact congrArg₂ (· * ·) (r0 q h r d) (r1 k h x d)

theorem r6 : val_main_v6 (F := Ideal) q k (ix2 h r) = mx (score q k h r) := by
  unfold val_main_v6 mx
  pointwise
  rw [val_main_cst_0_apply]
  refine congrArg₂ (fun b f => Finset.fold max b f Finset.univ) ofBits_neg_inf (funext fun x => ?_)
  exact r5 q k h r x

theorem r13 : val_main_v13 (F := Ideal) q k (ix2 h r) = mx (score q k h r) := by
  rw [val_main_v13_apply, val_main_v12_apply, val_main_cst_2_apply, r6]
  show max (Ideal.ofBits .f32 0xFF800000#32) _ = _
  rw [ofBits_neg_inf]
  exact max_eq_right bot_le

theorem r26 : val_main_v26 (F := Ideal) q k (ix3 h r x) = ex (score q k h r) x := by
  rw [val_main_v26_apply, val_main_v25_apply, r5, val_main_v24_apply, val_main_v23_apply]
  rw [show idx_main_v23 (idx_main_v24 (ix3 h r x)) = ix2 h r from funext fun a => by match a with | ⟨0, _⟩ => rfl | ⟨1, _⟩ => rfl, r13]
  rfl

theorem r27 : val_main_v27 (F := Ideal) q k (ix2 h r) = sm (score q k h r) := by
  rw [val_main_v27_apply, val_main_cst_8_apply]
  show Ideal.ofBits .f32 0x00000000#32 + _ = _
  rw [ofBits_zero, zero_add]
  refine Finset.sum_congr rfl fun x _ => ?_
  rw [eq3 (idx_main_v27 _ x)]
  exact r26 q k h r x

theorem r28 (z : Fin 1) : val_main_v28 (F := Ideal) q k (ix3 h r z) = sm (score q k h r) := by
  rw [val_main_v28_apply]
  rw [show idx_main_v28 (ix3 h r z) = ix2 h r from funext fun a => by match a with | ⟨0, _⟩ => rfl | ⟨1, _⟩ => rfl, r27]

theorem r30 : val_main_v30 (F := Ideal) q k (ix3 h r x) = rp (score q k h r) x := by
  rw [val_main_v30_apply, r26, val_main_v29_apply, eq3 (idx_main_v29 _)]
  exact congrArg (Ideal.div _) (r28 q k h r 0)

theorem r33 : val_main_v33 (F := Ideal) q k (ix3 h r 0) = Ideal.div 1 (sm (score q k h r) * sm (score q k h r)) := by
  rw [val_main_v33_apply, val_main_v31_apply, r28, val_main_v32_apply, val_main_cst_9_apply]
  show Ideal.div (Ideal.ofBits .f32 0x3F800000#32) _ = _
  rw [ofBits_one]
  rfl

theorem r38 : val_main_v38 (F := Ideal) g (ix3 h j r) = g (ix2 r (col h j)) := by
  rw [val_main_v38_apply, eq3 (idx_main_v38 _)]
  exact r37 g h r j

theorem r39 : val_main_v39 (F := Ideal) v g (ix3 h r x) = ∑ j : Fin 512, g (ix2 r (col h j)) * v (ix2 x (col h j)) := by
  rw [val_main_v39_apply]
  refine Finset.sum_congr rfl fun j _ => ?_
  rw [eq3 (lidx_main_v39 _ j), eq3 (ridx_main_v39 _ j)]
  exact congrArg₂ (· * ·) (r38 g h r j) (r2 v h x j)

theorem r44 : val_main_v44 (F := Ideal) q k v g (ix3 h r x) = (∑ j : Fin 512, g (ix2 r (col h j)) * v (ix2 x (col h j)))
    * Ideal.div 1 (sm (score q k h r) * sm (score q k h r)) * ex (score q k h r) x := by
  rw [val_main_v44_apply, val_main_v43_apply, r39, r26, val_main_v42_apply, eq3 (idx_main_v42 _)]
  exact congrArg (fun z => _ * z * _) (r33 q k h r)

theorem r45 : val_main_v45 (F := Ideal) q k v g (ix2 h r) = ∑ x : Fin 256, (∑ j : Fin 512, g (ix2 r (col h j)) * v (ix2 x (col h j)))
    * Ideal.div 1 (sm (score q k h r) * sm (score q k h r)) * ex (score q k h r) x := by
  rw [val_main_v45_apply, val_main_cst_10_apply]
  show Ideal.ofBits .f32 0x00000000#32 + _ = _
  rw [ofBits_zero, zero_add]
  refine Finset.sum_congr rfl fun x _ => ?_
  rw [eq3 (idx_main_v45 _ x)]
  exact r44 q g k v h r x

theorem r50 : val_main_v50 (F := Ideal) q k v g (ix2 h r) = -∑ x : Fin 256, (∑ j : Fin 512, g (ix2 r (col h j)) * v (ix2 x (col h j)))
    * Ideal.div 1 (sm (score q k h r) * sm (score q k h r)) * ex (score q k h r) x := by
  rw [val_main_v50_apply, val_main_cst_11_apply]
  show Ideal.ofBits .f32 0x00000000#32 + _ = _
  rw [ofBits_zero, zero_add, Fin.sum_univ_one, val_main_v47_apply, val_main_v46_apply, ← r45]
  have e : idx_main_v46 (idx_main_v50 (ix2 h r) 0) = ix2 h r := funext fun a => Fin.ext (by
    match a with
    | ⟨0, _⟩ => show ((h.val * 2048 + r.val) * 1 + 0) / 2048 = h.val; omega
    | ⟨1, _⟩ => show ((h.val * 2048 + r.val) * 1 + 0) % 2048 = r.val; omega)
  rw [e]
  rfl

theorem r55 : val_main_v55 (F := Ideal) q k v g (ix3 h r x)
    = rds (score q k h r) (hval v h) (fun j => g (ix2 r (col h j))) scale x := by
  rw [val_main_v55_apply, val_main_v54_apply, val_main_cst_12_apply, val_main_v53_apply, r26, val_main_v52_apply, val_main_v51_apply,
    show idx_main_v51 (ix3 h r x) = ix2 h r from funext fun a => by match a with | ⟨0, _⟩ => rfl | ⟨1, _⟩ => rfl, r50,
    val_main_v49_apply, r39, val_main_v48_apply, eq3 (idx_main_v48 _)]
  exact congrArg (fun z => (Ideal.div _ z + -_) * _ * _) (r28 q k h r 0)

/-- The gradient of the queries. -/
theorem dq_apply (r : Fin 2048) (w : Fin 2048) : val_main_v62 (F := Ideal) q k v g (ix2 r w)
    = ∑ x : Fin 256, rds (score q k (hd w) r) (hval v (hd w)) (fun j => g (ix2 r (col (hd w) j))) scale x * k (ix2 x w) := by
  rw [val_main_v62_apply, val_main_v59_apply, val_main_v58_apply]
  have e : idx_main_v59 (idx_main_v62 (ix2 r w)) = ix3 (hd w) r (lc w) := funext fun a => Fin.ext (by
    match a with
    | ⟨0, _⟩ => show (r.val * 2048 + w.val) / 512 % 4 = w.val / 512; omega
    | ⟨1, _⟩ => show (r.val * 2048 + w.val) / 2048 = r.val; omega
    | ⟨2, _⟩ => show (r.val * 2048 + w.val) % 512 = w.val % 512; omega)
  rw [e]
  refine Finset.sum_congr rfl fun x _ => ?_
  rw [eq3 (lidx_main_v58 _ x), eq3 (ridx_main_v58 _ x)]
  refine congrArg₂ (· * ·) (r55 q g k v (hd w) r x) ?_
  refine (r1 k (hd w) x (lc w)).trans ?_
  rw [col_hd_lc]

/-- The gradient of the keys. -/
theorem dk_apply (x : Fin 256) (w : Fin 2048) : val_main_v61 (F := Ideal) q k v g (ix2 x w)
    = ∑ r : Fin 2048, rds (score q k (hd w) r) (hval v (hd w)) (fun j => g (ix2 r (col (hd w) j))) scale x * q (ix2 r w) := by
  rw [val_main_v61_apply, val_main_v57_apply, val_main_v56_apply]
  have e : idx_main_v57 (idx_main_v61 (ix2 x w)) = ix3 (hd w) x (lc w) := funext fun a => Fin.ext (by
    match a with
    | ⟨0, _⟩ => show (x.val * 2048 + w.val) / 512 % 4 = w.val / 512; omega
    | ⟨1, _⟩ => show (x.val * 2048 + w.val) / 2048 = x.val; omega
    | ⟨2, _⟩ => show (x.val * 2048 + w.val) % 512 = w.val % 512; omega)
  rw [e]
  refine Finset.sum_congr rfl fun r _ => ?_
  rw [eq3 (lidx_main_v56 _ r), eq3 (ridx_main_v56 _ r)]
  refine congrArg₂ (· * ·) (r55 q g k v (hd w) r x) ?_
  refine (r0 q (hd w) r (lc w)).trans ?_
  rw [col_hd_lc]

/-- The gradient of the values. -/
theorem dv_apply (x : Fin 256) (w : Fin 2048) : val_main_v60 (F := Ideal) q k g (ix2 x w)
    = ∑ r : Fin 2048, g (ix2 r w) * rp (score q k (hd w) r) x := by
  rw [val_main_v60_apply, val_main_v41_apply, val_main_v40_apply]
  have e : idx_main_v41 (idx_main_v60 (ix2 x w)) = ix3 (hd w) (lc w) x := funext fun a => Fin.ext (by
    match a with
    | ⟨0, _⟩ => show (x.val * 2048 + w.val) / 512 % 4 = w.val / 512; omega
    | ⟨1, _⟩ => show (x.val * 2048 + w.val) % 512 = w.val % 512; omega
    | ⟨2, _⟩ => show (x.val * 2048 + w.val) / 2048 = x.val; omega)
  rw [e]
  refine Finset.sum_congr rfl fun r _ => ?_
  rw [eq3 (lidx_main_v40 _ r), eq3 (ridx_main_v40 _ r)]
  refine congrArg₂ (· * ·) ((r38 g (hd w) r (lc w)).trans ?_) (r30 q k (hd w) r x)
  rw [col_hd_lc]

end Cert.XattnRefIdeal.Val

end
-- ==== Proof.Finite.lean ====
/-
  What the preconditions say of an entry: its absolute value is below infinity, so it is a real number.
-/
module

public import proofs.«01_k».proof.Proof.AttnMath
public import Idealize.ShloMosaic.Lib.ReduceAll
public import Idealize.ShloMosaic.Lib.IdealHost

@[expose] public section

namespace Cert.AttnMath

open Idealize.ShloMosaic

/-- An entry whose absolute value is below infinity is a real number. -/
theorem fin_of_abs (x : EReal)
    (h : FloatOps.cmpf (F := Ideal) (φ := .f32) .olt (FloatOps.hostAbsf (F := Ideal) (φ := .f32) x) (FloatOps.ofBits (F := Ideal) .f32 0x7F800000#32) = 1#1) :
    Fin' x := by
  have h' : Ideal.cmp .olt (max x (-x)) (Ideal.ofBits .f32 0x7F800000#32) = 1#1 := h
  have ht : Ideal.ofBits .f32 0x7F800000#32 = ⊤ := by simp [Ideal.ofBits, Ideal.ieee]
  rw [ht] at h'
  simp only [Ideal.cmp] at h'
  by_cases hc : max x (-x) < ⊤
  · refine ⟨fun e => ?_, fun e => ?_⟩ <;> subst e <;> simp at hc
  · simp [hc] at h'

theorem andi_left {a b : BitVec 1} (h : a &&& b = 1#1) : a = 1#1 := by revert a b; decide
theorem andi_right {a b : BitVec 1} (h : a &&& b = 1#1) : b = 1#1 := by revert a b; decide

end Cert.AttnMath
-- ==== Proof.Xa.Equal.lean ====
/-
  The cross-attention's gradients: at real arguments the two kernels in turn leave what the reference computes.
-/
module

public import proofs.«01_k».proof.Proof.Xa.Run
public import proofs.«01_k».proof.Proof.Xa.Ref
public import proofs.«01_k».proof.Proof.Finite
public import proofs.«01_k».proof.Proof.Gen.Pre_xa_finite
public import proofs.«01_k».proof.Defs

@[expose] public section

set_option maxRecDepth 16384

noncomputable section

namespace Cert.XattnIdeal.Val

open Cert.XattnIdeal Cert.XattnIdeal.Gen Cert.AttnMath Idealize.ShloMosaic Idealize.ShloMosaic.TcCoe Idealize.SL.Sem

/-! ## The kernels' results from the arguments alone -/

section Kernel

variable (m : (b : Loc nD τ sig) → Buf (Elt Ideal) b) (ρ : Dev nD → PrngReg) (c : Dev nD)

abbrev mq : S2048x2048.Idx → EReal := aq (V0 m ρ) c
abbrev mk : S256x2048.Idx → EReal := ak (V0 m ρ) c
abbrev mv : S256x2048.Idx → EReal := av (V0 m ρ) c
abbrev mg : S2048x2048.Idx → EReal := ag (V0 m ρ) c

theorem P1_eq (h : Fin 4) (r : Fin 2048) (x : Fin 256) : P1 (V1 m ρ) c h r x = kp (score (mq m ρ c) (mk m ρ c) h r) x := by
  unfold P1 pAt
  rw [entry_q, entry_k, entry_l]
  rfl

theorem D1_eq (h : Fin 4) (r : Fin 2048) (x : Fin 256) : D1 (V1 m ρ) c h r x
    = kds (score (mq m ρ c) (mk m ρ c) h r) (hval (mv m ρ c) h) (fun j => mg m ρ c (ix2 r (col h j))) scale x := by
  have hP := P1_eq m ρ c h r x
  unfold P1 at hP
  unfold D1 dsAt
  rw [hP, entry_v, entry_g, entry_o]
  unfold kds hval
  refine congrArg (fun z : EReal => _ * (_ - z) * _) (Finset.sum_congr rfl fun j _ => congrArg (fun z : EReal => _ * z) ?_)
  show outAt (mq m ρ c) (mk m ρ c) (mv m ρ c) (hd (col h j)) r (lc (col h j)) = _
  rw [hd_col, lc_col]
  rfl

end Kernel

/-! ## The equation -/

theorem fin_scale : Fin' scale := by
  simp [scale, Ideal.ofBits, Ideal.ieee, -EReal.coe_mul]
  exact fin'_coe _

variable (q g : S2048x2048.Idx → EReal) (k v : S256x2048.Idx → EReal)

theorem fin_score (hq : ∀ i, Fin' (q i)) (hk : ∀ i, Fin' (k i)) (h : Fin 4) (r : Fin 2048) (x : Fin 256) : Fin' (score q k h r x) :=
  (Fin'.sum _ _ fun d => (hq _).mul (hk _)).mul fin_scale

theorem p_eq (hq : ∀ i, Fin' (q i)) (hk : ∀ i, Fin' (k i)) (h : Fin 4) (r : Fin 2048) (x : Fin 256) :
    kp (score q k h r) x = rp (score q k h r) x :=
  kp_eq_rp (fun x => (fin_score q k hq hk h r x).2) ⟨0, (fin_score q k hq hk h r 0).1⟩ x

theorem d_eq (hq : ∀ i, Fin' (q i)) (hk : ∀ i, Fin' (k i)) (hv : ∀ i, Fin' (v i)) (hg : ∀ i, Fin' (g i)) (h : Fin 4) (r : Fin 2048) (x : Fin 256) :
    kds (score q k h r) (hval v h) (fun j => g (ix2 r (col h j))) scale x = rds (score q k h r) (hval v h) (fun j => g (ix2 r (col h j))) scale x :=
  kds_eq_rds (fun x => (fin_score q k hq hk h r x).2) ⟨0, (fin_score q k hq hk h r 0).1⟩ _ _ _ (fun _ _ => hv _) (fun _ => hg _) fin_scale x

/-! ## The precondition -/

open Cert.Pre_xa_finite in
theorem finite_of_pre (h : Cert.Pre_xa_finite.fn (F := Ideal) q k v g = fun _ => 1#1) :
    (∀ i, Fin' (q i)) ∧ (∀ i, Fin' (k i)) ∧ (∀ i, Fin' (v i)) ∧ (∀ i, Fin' (g i)) := by
  have h0 := congrFun h (fun a => a.elim0)
  dsimp only [Cert.Pre_xa_finite.fn, Cert.Pre_xa_finite.fn_part1] at h0
  have h1 := andi_left (show _ &&& _ = 1#1 from h0)
  have e3 := andi_right (show _ &&& _ = 1#1 from h0)
  have h2 := andi_left (show _ &&& _ = 1#1 from h1)
  have e2 := andi_right (show _ &&& _ = 1#1 from h1)
  have e0 := andi_left (show _ &&& _ = 1#1 from h2)
  have e1 := andi_right (show _ &&& _ = 1#1 from h2)
  haveI : Subsingleton Cert.Pre_xa_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i), fun i => fin_of_abs _ (Host.reduce_andi_all _ _ _ _ _ e3 i)⟩

/-! ## The claim -/

theorem ix2_eta {n0 n1 : ℕ} (i : Shape.Idx ⟨2, ![n0, n1]⟩) : i = ix2 (i 0) (i 1) := by
  funext a; match a with | ⟨0, _⟩ => rfl | ⟨1, _⟩ => rfl

section Claim

variable (m : (b : Loc nD τ sig) → Buf (Elt Ideal) b) (ρ : Dev nD → PrngReg) (c : Dev nD)
variable (hfin : (∀ i, Fin' (mq m ρ c i)) ∧ (∀ i, Fin' (mk m ρ c i)) ∧ (∀ i, Fin' (mv m ρ c i)) ∧ (∀ i, Fin' (mg m ρ c i)))

include hfin

theorem dq_eq : Q1 (V1 m ρ) c = Cert.XattnRefIdeal.Read.val_main_v62 (F := Ideal) (mq m ρ c) (mk m ρ c) (mv m ρ c) (mg m ρ c) := by
  obtain ⟨hq, hk, hv, hg⟩ := hfin
  funext i
  obtain ⟨r, w, rfl⟩ : ∃ (r w : Fin 2048), i = ix2 r w := ⟨i 0, i 1, ix2_eta i⟩
  rw [Cert.XattnRefIdeal.Val.dq_apply]
  show ∑ x : Fin 256, D1 (V1 m ρ) c (hd w) r x * ak (V1 m ρ) c (ix2 x w) = _
  refine Finset.sum_congr rfl fun x _ => ?_
  rw [D1_eq, entry_k, d_eq (mq m ρ c) (mg m ρ c) (mk m ρ c) (mv m ρ c) hq hk hv hg]

theorem dk_eq : K1 (V1 m ρ) c = Cert.XattnRefIdeal.Read.val_main_v61 (F := Ideal) (mq m ρ c) (mk m ρ c) (mv m ρ c) (mg m ρ c) := by
  obtain ⟨hq, hk, hv, hg⟩ := hfin
  funext i
  obtain ⟨x, w, rfl⟩ : ∃ (x : Fin 256) (w : Fin 2048), i = ix2 x w := ⟨i 0, i 1, ix2_eta i⟩
  rw [Cert.XattnRefIdeal.Val.dk_apply]
  show ∑ r : Fin 2048, D1 (V1 m ρ) c (hd w) r x * aq (V1 m ρ) c (ix2 r w) = _
  refine Finset.sum_congr rfl fun r _ => ?_
  rw [D1_eq, entry_q, d_eq (mq m ρ c) (mg m ρ c) (mk m ρ c) (mv m ρ c) hq hk hv hg]

theorem dv_eq : G1 (V1 m ρ) c = Cert.XattnRefIdeal.Read.val_main_v60 (F := Ideal) (mq m ρ c) (mk m ρ c) (mg m ρ c) := by
  obtain ⟨hq, hk, hv, hg⟩ := hfin
  funext i
  obtain ⟨x, w, rfl⟩ : ∃ (x : Fin 256) (w : Fin 2048), i = ix2 x w := ⟨i 0, i 1, ix2_eta i⟩
  rw [Cert.XattnRefIdeal.Val.dv_apply]
  show ∑ r : Fin 2048, P1 (V1 m ρ) c (hd w) r x * ag (V1 m ρ) c (ix2 r w) = _
  refine Finset.sum_congr rfl fun r _ => ?_
  rw [P1_eq, entry_g, p_eq _ _ hq hk, mul_comm]

end Claim

/-- At real arguments, both programs leave the same three gradients. -/
theorem algebraic : Cert.algebraic_XattnIdeal_XattnRefIdeal_pre_xa_finite := by
  intro m ρ m' ρ' hpre hargs
  refine ⟨fun c => Q1 (V1 m ρ) c, fun c => K1 (V1 m ρ) c, fun c => G1 (V1 m ρ) c, ?_, ?_⟩
  · refine (θ_run defs _ _).mono (fun r h c => ?_) (run_arrays m ρ)
    obtain ⟨⟨h0, h1, h2⟩, h3⟩ := h.1 c
    exact ⟨h0.trans (arr1_6 _ c), h1.trans (arr1_7 _ c), h2.trans (arr1_8 _ c), h3⟩
  · refine (θ_run Cert.XattnRefIdeal.defs _ _).mono (fun r h c => ?_) (Cert.XattnRefIdeal.Value.run m' ρ')
    obtain ⟨h0, h1, h2, h3⟩ := h c
    obtain ⟨a0, a1, a2, a3⟩ := hargs c
    have hf := finite_of_pre _ _ _ _ (hpre c)
    refine ⟨h0.trans ?_, h1.trans ?_, h2.trans ?_, h3⟩
    · rw [Cert.XattnRefIdeal.Read.val_main_v62_eq, a0, a1, a2, a3]
      exact (dq_eq m ρ c hf).symm
    · rw [Cert.XattnRefIdeal.Read.val_main_v61_eq, a0, a1, a2, a3]
      exact (dk_eq m ρ c hf).symm
    · rw [Cert.XattnRefIdeal.Read.val_main_v60_eq, a0, a1, a3]
      exact (dv_eq m ρ c hf).symm

end Cert.XattnIdeal.Val

end
-- ==== Proof.Mm.Base.lean ====
/- What the modules of this folder share: the zero offsets of the loads and stores, indices by their coordinates, and the
   padding's zero. -/
module

public import Idealize.ShloMosaic.Lib.Pipeline.Value
public import Idealize.ShloMosaic.Lib.Pipeline.ValueKit.Geometry
public import Idealize.ShloMosaic.Lib.Tactic
public import Idealize.ShloMosaic.Lib.Claim
public import Idealize.ShloMosaic.Lib.Pointwise
public import Idealize.ShloMosaic.Lib.ValueIdx
public import Idealize.ShloMosaic.Lib.IdealHost

@[expose] public section

namespace Cert.Mm

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

theorem eta2 {n0 n1 : ℕ} (i : Shape.Idx ⟨2, ![n0, n1]⟩) : i = ix2 (i 0) (i 1) := by
  funext a; match a with | ⟨0, _⟩ => rfl | ⟨1, _⟩ => rfl
theorem eta3 {n0 n1 n2 : ℕ} (i : Shape.Idx ⟨3, ![n0, n1, n2]⟩) : i = ix3 (i 0) (i 1) (i 2) := by
  funext a; match a with | ⟨0, _⟩ => rfl | ⟨1, _⟩ => rfl | ⟨2, _⟩ => rfl

/-- The padding, the integer zero as a float, is the real zero. -/
theorem sitofp_zero_f32 : (FloatOps.sitofp FTy.f32 0#32 : Ideal FTy.f32) = (0 : EReal) := by
  show ((((0#32 : BitVec 32).toInt : ℝ)) : EReal) = 0
  simp
theorem sitofp_zero_bf16 : (FloatOps.sitofp FTy.bf16 0#32 : Ideal FTy.bf16) = (0 : EReal) := by
  show ((((0#32 : BitVec 32).toInt : ℝ)) : EReal) = 0
  simp

/-- Two padded factors: the sum of their products is the sum before the padding. -/
theorem sum_padded {n k : ℕ} (hk : k ≤ n) (f g : (s : ℕ) → s < k → EReal) :
    ∑ s : Fin n, (if h : s.val < k then f s.val h else 0) * (if h : s.val < k then g s.val h else 0) = ∑ s : Fin k, f s.val s.isLt * g s.val s.isLt := by
  obtain ⟨d, rfl⟩ := Nat.exists_eq_add_of_le hk
  rw [Fin.sum_univ_add]
  have h2 : ∀ s : Fin d, ¬(Fin.natAdd k s).val < k := fun s => by simp
  rw [Finset.sum_eq_zero (s := Finset.univ) (f := fun s : Fin d => _) fun s _ => by rw [dif_neg (h2 s), zero_mul], add_zero]
  exact Finset.sum_congr rfl fun s _ => by rw [dif_pos (show (Fin.castAdd d s).val < k from s.isLt), dif_pos (show (Fin.castAdd d s).val < k from s.isLt)]; rfl

end Cert.Mm
-- ==== Proof.Mm.InNt.lean ====
/- The gradient of the input of the input projection: the cotangent times the transposed weight, summed over the blocks of the weight's columns. -/
module

public import proofs.«01_k».proof.Proof.Gen.InNtIdeal.Value
public import proofs.«01_k».proof.Proof.Gen.InNtRefIdeal
public import proofs.«01_k».proof.Proof.Gen.InNtRefIdeal.Read
public import proofs.«01_k».proof.Proof.Gen.InNtRefIdeal.Run
public import proofs.«01_k».proof.Defs
public import proofs.«01_k».proof.Proof.Mm.Base
public import proofs.«01_k».proof.Proof.BlockSum

@[expose] public section

set_option maxRecDepth 16384

noncomputable section

namespace Cert.InNtIdeal.Val

open Cert.InNtIdeal Cert.InNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x4944.Idx → EReal := m ((c : Thread nD τ).loc main_arg0)
abbrev x1 : S2048x4944.Idx → EReal := m ((c : Thread nD τ).loc main_arg1)

/-! What the host lines hand to the kernel. -/

theorem entry_d (r : Fin 2048) (j : Fin 5120) : V m c main_v3 (ix2 r j) = (if h : j.val / 1280 < 4 ∧ j.val % 1280 < 1236 then x0 m c (ix2 r ⟨j.val / 1280 * 1236 + j.val % 1280, by omega⟩) else FloatOps.sitofp (F := Ideal) FTy.f32 0#32 : EReal) := by
  unfold V
  simp only [hostOps0, hostOps0_1, hostOps0_2, hostOps0_3, List.flatten_cons, List.flatten_nil, List.append_nil,
    List.cons_append, List.nil_append, StableHlo.TRef.binary, StableHlo.TRef.unary, StableHlo.TRef.toBuf, StableHlo.TRef.ofBuf, cast_eq]
  entry_read
  pointwise

theorem entry_w (g : Fin 4) (k : Fin 2048) (j : Fin 1280) : V m c main_v7 (ix3 g k j) = (if h : j.val < 1236 then x1 m c (ix2 k ⟨g.val * 1236 + j.val, by omega⟩) else FloatOps.sitofp (F := Ideal) FTy.bf16 0#32 : EReal) := by
  unfold V
  simp only [hostOps0, hostOps0_1, hostOps0_2, hostOps0_3, List.flatten_cons, List.flatten_nil, List.append_nil,
    List.cons_append, List.nil_append, StableHlo.TRef.binary, StableHlo.TRef.unary, StableHlo.TRef.toBuf, StableHlo.TRef.ofBuf, cast_eq]
  entry_read
  pointwise

/-! One point of the grid. -/

theorem pay_zero (a : Fin 1024) (b : Fin 1024) : k0_pay1 (F := Ideal) (ix2 a b) = 0 := by
  unfold k0_pay1
  pointwise

theorem pay_add (u : Vec Ideal S1024x1024 .f32) (p : Vec Ideal S1024x1280 .bf16) (q : Vec Ideal S1x1024x1280 .bf16) (a : Fin 1024) (b : Fin 1024) :
    k0_pay2 (F := Ideal) u p q (ix2 a b) = u (ix2 a b) + ∑ s : Fin 1280, p (ix2 a s) * q (ix3 0 b s) := by
  unfold k0_pay2
  pointwise

/-! The blocks of the grid's points. -/

/-- Row `a` of the point's rows, and column `b` of its columns. -/
def row (t : ℕ) (a : Fin 1024) : Fin 2048 := ⟨1024 * (t / 8 % 2) + a.val, by omega⟩
def col (t : ℕ) (b : Fin 1024) : Fin 2048 := ⟨1024 * (t / 4 % 2) + b.val, by omega⟩

theorem idx : ∀ t : Fin cfg0.N, t.val / 8 < 2
    ∧ (win0_0.index t (0 : Fin 2) = t.val / 8 ∧ win0_0.index t (1 : Fin 2) = (t.val % 4))
    ∧ (win0_1.index t (0 : Fin 3) = t.val % 4 / 1 ∧ win0_1.index t (1 : Fin 3) = t.val / 4 % 2 ∧ win0_1.index t (2 : Fin 3) = 0)
    ∧ (win0_2.index t (0 : Fin 2) = t.val / 8 ∧ win0_2.index t (1 : Fin 2) = t.val / 4 % 2) :=
  (by decide +kernel : ∀ t : Fin grid0.N, _)

theorem blk0 (t : Fin cfg0.N) (a : Fin 1024) (s : Fin 1280) : iblk m c 0 t (ix2 a s) = (if h : s.val < 1236 then x0 m c (ix2 (row t.val a) ⟨1236 * (t.val % 4) + s.val, by omega⟩) else 0 : EReal) := by
  obtain ⟨ht, ⟨e0, e1⟩, -⟩ := idx t
  have h : iblk m c 0 t (ix2 a s) = V m c main_v3 (ix2 (row t.val a) ⟨1280 * (t.val % 4) + s.val, by have := s.isLt; omega⟩) := by
    show V m c main_v3 (((cfg0.win 0).blk t).view.emb (ix2 a s)) = _
    refine congrArg (V m c main_v3) (funext fun y => Fin.ext ?_)
    match y with
    | ⟨0, _⟩ => show win0_0.index t (0 : Fin 2) * 1024 + 1 * a.val = 1024 * (t.val / 8 % 2) + a.val; omega
    | ⟨1, _⟩ => show win0_0.index t (1 : Fin 2) * 1280 + 1 * s.val = 1280 * (t.val % 4) + s.val; rw [e1]; ring
  rw [h]
  rw [entry_d]
  by_cases hs : s.val < 1236
  · rw [dif_pos hs, dif_pos ⟨by show (1280 * (t.val % 4) + s.val) / 1280 < 4; omega, by show (1280 * (t.val % 4) + s.val) % 1280 < 1236; omega⟩]
    exact congrArg (fun j => x0 m c (ix2 (row t.val a) j)) (Fin.ext (by show (1280 * (t.val % 4) + s.val) / 1280 * 1236 + (1280 * (t.val % 4) + s.val) % 1280 = 1236 * (t.val % 4) + s.val; omega))
  · rw [dif_neg hs, dif_neg (fun h => hs (by have h2 : (1280 * (t.val % 4) + s.val) % 1280 < 1236 := h.2; omega))]
    exact sitofp_zero_f32

theorem blk1 (t : Fin cfg0.N) (z : Fin 1) (b : Fin 1024) (s : Fin 1280) : iblk m c 1 t (ix3 z b s) = (if h : s.val < 1236 then x1 m c (ix2 (col t.val b) ⟨1236 * (t.val % 4) + s.val, by omega⟩) else 0 : EReal) := by
  obtain ⟨ht, -, ⟨e0, e1, e2⟩, -⟩ := idx t
  have h : iblk m c 1 t (ix3 z b s) = V m c main_v7 (ix3 ⟨t.val % 4 / 1, by omega⟩ (col t.val b) s) := by
    show V m c main_v7 (((cfg0.win 1).blk t).view.emb (ix3 z b s)) = _
    refine congrArg (V m c main_v7) (funext fun y => Fin.ext ?_)
    match y with
    | ⟨0, _⟩ => show win0_1.index t (0 : Fin 3) * 1 + 1 * z.val = t.val % 4 / 1; omega
    | ⟨1, _⟩ => show win0_1.index t (1 : Fin 3) * 1024 + 1 * b.val = 1024 * (t.val / 4 % 2) + b.val; omega
    | ⟨2, _⟩ => show win0_1.index t (2 : Fin 3) * 1280 + 1 * s.val = s.val; omega
  rw [h]
  rw [entry_w]
  by_cases hs : s.val < 1236
  · rw [dif_pos hs, dif_pos (show s.val < 1236 from hs)]
    exact congrArg (fun j => x1 m c (ix2 (col t.val b) j)) (Fin.ext (by show t.val % 4 / 1 * 1236 + s.val = 1236 * (t.val % 4) + s.val; omega))
  · rw [dif_neg hs, dif_neg (show ¬s.val < 1236 from hs)]
    exact sitofp_zero_bf16

theorem emb (t : Fin cfg0.N) (a : Fin 1024) (b : Fin 1024) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 8 % 2) + a.val; omega
  | ⟨1, _⟩ => show win0_2.index t (1 : Fin 2) * 1024 + 1 * b.val = 1024 * (t.val / 4 % 2) + b.val; omega

/-! The reference. -/

/-- The reference's result. -/
def R : S2048x2048.Idx → EReal := Cert.InNtRefIdeal.Read.val_main_v2 (F := Ideal) (x0 m c) (x1 m c)

theorem ref_apply (i : Fin 2048) (j : Fin 2048) : R m c (ix2 i j) = ∑ s : Fin 4944, x0 m c (ix2 i s) * x1 m c (ix2 j s) := by
  unfold R
  refine (Cert.InNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

/-! What a point of the grid leaves, case by case: the first block of a sum, one in its middle, its last. -/

section Cases
variable (i : grid0.Coords) (a4 : Memref sig .tc .vmem S1024x1280 .bf16) (h4 : a4.IsWhole) (a5 : Memref sig .tc .vmem S1x1024x1280 .bf16) (h5 : a5.IsWhole) (a6 : Memref sig .tc .vmem S1024x1024 .f32) (h6 : a6.IsWhole) (a7 : Memref sig .tc .vmem S1024x1024 .f32) (h7 : a7.IsWhole)
  (p0 : Vec Ideal S1024x1280 .bf16) (p1 : Vec Ideal S1x1024x1280 .bf16) (u : Vec Ideal S1024x1024 .f32)

theorem case_A (hc0 : cond0_0 i) (hc1 : ¬cond0_1 i) :
    sout0_A_0 c i a4 h4 a5 h5 a6 h6 a7 h7 hc0 hc1 p0 p1 = k0_pay2 (F := Ideal) (k0_pay1 (F := Ideal)) p0 p1 := by
  unfold sout0_A_0
  rw [View.read_writes_eq_canon _ _ _ (scover0_A_0 c i a4 h4 a5 h5 a6 h6 a7 h7 hc0 hc1 p0 p1)]
  unfold kernelRun0_A
  dsimp only
  sl_unfold_words
  rw [View.canon_cons_unit_zero (S := S1024x1024) hz2, View.readCov_unit_zero (S := S1024x1024) _ hz2]
  simp only [View.readAt_eq_ld, h4.read_unread, h5.read_unread, h7.read_unread, View.ld_unit_zero (S := S1024x1280) hz2, View.ld_unit_zero (S := S1x1024x1280) hz3, View.ld_unit_zero (S := S1024x1024) hz2]

theorem case_B (hc0 : ¬cond0_0 i) (hc1 : ¬cond0_1 i) :
    sout0_B_0 c i a4 h4 a5 h5 a6 h6 a7 h7 hc0 hc1 p0 p1 u = k0_pay2 (F := Ideal) u p0 p1 := by
  unfold sout0_B_0
  rw [View.read_writes_eq_canon _ _ _ (scover0_B_0 c i a4 h4 a5 h5 a6 h6 a7 h7 hc0 hc1 p0 p1 u)]
  unfold kernelRun0_B
  dsimp only
  sl_unfold_words
  rw [View.canon_unit_zero hz2]
  simp only [View.readAt_eq_ld, h4.read_unread, h5.read_unread, h7.read_unread, View.ld_unit_zero (S := S1024x1280) hz2, View.ld_unit_zero (S := S1x1024x1280) hz3, View.ld_unit_zero (S := S1024x1024) hz2]

theorem case_C (hc0 : ¬cond0_0 i) (hc1 : cond0_1 i) :
    sout0_C_0 c i a4 h4 a5 h5 a6 h6 a7 h7 hc0 hc1 p0 p1 u = k0_pay2 (F := Ideal) u p0 p1 := by
  unfold sout0_C_0
  rw [View.read_writes_eq_canon _ _ _ (scover0_C_0 c i a4 h4 a5 h5 a6 h6 a7 h7 hc0 hc1 p0 p1 u)]
  unfold kernelRun0_C
  dsimp only
  sl_unfold_words
  rw [View.canon_unit_zero hz2]
  simp only [View.readAt_eq_ld, h4.read_unread, h5.read_unread, h7.read_unread, View.ld_unit_zero (S := S1024x1280) hz2, View.ld_unit_zero (S := S1x1024x1280) hz3, View.ld_unit_zero (S := S1024x1024) hz2]

theorem last_C (hc0 : ¬cond0_0 i) (hc1 : cond0_1 i) :
    out0_C_2 c i a4 h4 a5 h5 a6 h6 a7 h7 hc0 hc1 p0 p1 u = k0_pay2 (F := Ideal) u p0 p1 := by
  unfold out0_C_2
  rw [View.read_writes_eq_canon _ _ _ (cover0_C_2 c i a4 h4 a5 h5 a6 h6 a7 h7 hc0 hc1 p0 p1 u)]
  unfold kernelRun0_C
  dsimp only
  sl_unfold_words
  rw [View.canon_unit_zero hz2, View.readCov_unit_zero (S := S1024x1024) _ hz2]
  simp only [View.readAt_eq_ld, h4.read_unread, h5.read_unread, h7.read_unread, View.ld_unit_zero (S := S1024x1280) hz2, View.ld_unit_zero (S := S1x1024x1280) hz3, View.ld_unit_zero (S := S1024x1024) hz2]

end Cases

/-- One product of the sum, and block `i` of the sum. -/
def prod (t : ℕ) (a : Fin 1024) (b : Fin 1024) (r : Fin 4944) : EReal := x0 m c (ix2 (row t a) r) * x1 m c (ix2 (col t b) r)
def term (t : ℕ) (a : Fin 1024) (b : Fin 1024) (i : ℕ) : EReal := ∑ s : Fin 1236, (if h : 1236 * i + s.val < 4944 then prod m c t a b ⟨1236 * i + s.val, h⟩ else 0)

theorem term_sum (t : ℕ) (a : Fin 1024) (b : Fin 1024) : ∑ i ∈ Finset.range 4, term m c t a b i = ∑ r : Fin 4944, prod m c t a b r :=
  BlockSum.sum_blocks_fin 4 1236 4944 rfl (prod m c t a b)

/-- A point adds its block of the sum. -/
theorem step (t : Fin cfg0.N) (u : Vec Ideal S1024x1024 .f32) (a : Fin 1024) (b : Fin 1024) :
    k0_pay2 (F := Ideal) u (iblk m c 0 t) (iblk m c 1 t) (ix2 a b) = u (ix2 a b) + term m c t.val a b (t.val % 4) := by
  rw [pay_add]
  refine congrArg (u (ix2 a b) + ·) ?_
  unfold term
  refine (Finset.sum_congr rfl fun s _ => congrArg₂ (fun x y : EReal => x * y) (blk0 m c t a s) (blk1 m c t 0 b s)).trans ?_
  refine (sum_padded (n := 1280) (k := 1236) (by omega) (fun s h => x0 m c (ix2 (row t.val a) ⟨1236 * (t.val % 4) + s, by omega⟩))
    (fun s h => x1 m c (ix2 (col t.val b) ⟨1236 * (t.val % 4) + s, by omega⟩))).trans ?_
  refine Finset.sum_congr rfl fun s _ => ?_
  rw [dif_pos (show 1236 * (t.val % 4) + s.val < 4944 by have := s.isLt; omega)]
  rfl

/-- The points of one sum have the same rows and columns. -/
theorem term_pred (n : ℕ) (h : ¬(n + 1) % 4 = 0) (a : Fin 1024) (b : Fin 1024) : term m c (n + 1) a b = term m c n a b := by
  have e1 : row (n + 1) a = row n a := Fin.ext (by show 1024 * ((n + 1) / 8 % 2) + a.val = 1024 * (n / 8 % 2) + a.val; omega)
  have e2 : col (n + 1) b = col n b := Fin.ext (by show 1024 * ((n + 1) / 4 % 2) + b.val = 1024 * (n / 4 % 2) + b.val; omega)

  unfold term prod
  rw [e1, e2]

/-- After a point the sum's buffer holds the blocks so far. -/
theorem sofar : ∀ (n : ℕ) (hn : n < cfg0.N) (a : Fin 1024) (b : Fin 1024),
    (outsAt0 m c n hn).2 (ix2 a b) = ∑ i ∈ Finset.range (n % 4 + 1), term m c n a b i := by
  intro n
  induction n with
  | zero =>
    intro hn a b
    rw [outsAt0_A m c ⟨0, hn⟩ rfl (by show ¬0 % 4 = 3; decide)]
    dsimp only
    rw [case_A, step, pay_zero]
    simp
  | succ n ih =>
    intro hn a b
    by_cases h0 : (n + 1) % 4 = 0
    · rw [outsAt0_A m c ⟨n + 1, hn⟩ h0 (by show ¬(n + 1) % 4 = 3; omega)]
      dsimp only
      rw [case_A, step, pay_zero]
      dsimp only
      rw [h0]
      simp
    · have e1 : (n + 1) % 4 = n % 4 + 1 := by omega
      have i1 := ih (by omega) a b
      by_cases h1 : (n + 1) % 4 = 3
      · rw [outsAt0_C m c ⟨n + 1, hn⟩ h0 h1]
        dsimp only
        rw [case_C, step]
        dsimp only
        rw [term_pred m c n h0, e1, Finset.sum_range_succ _ (n % 4 + 1), ← i1]
        rfl
      · rw [outsAt0_B m c ⟨n + 1, hn⟩ h0 h1]
        dsimp only
        rw [case_B, step]
        dsimp only
        rw [term_pred m c n h0, e1, Finset.sum_range_succ _ (n % 4 + 1), ← i1]
        rfl

theorem last (t : Fin cfg0.N) (h1 : t.val % 4 = 3) (a : Fin 1024) (b : Fin 1024) :
    (outsAt0 m c t.val t.isLt).1 (ix2 a b) = ∑ r : Fin 4944, prod m c t.val a b r := by
  have h0 : ¬t.val % 4 = 0 := by omega
  have e := sofar m c t.val t.isLt a b
  rw [outsAt0_C m c t h0 h1] at e ⊢
  dsimp only at e ⊢
  rw [case_C] at e
  rw [last_C, e, h1]
  exact (term_sum m c t.val a b)

theorem flush : ∀ t : Fin cfg0.N, (cfg0.win 2).flush t = true → t.val % 4 = 3 :=
  (by decide +kernel : ∀ t : Fin grid0.N, _)

theorem arr : (dats m 0 c).arrAt 2 cfg0.N = R m c := by
  refine (dats m 0 c).arrAt_eq_of_covers 2 (R m c) (by decide +kernel) fun t hf y => ?_
  blk_simp
  rw [after0_2]
  obtain ⟨a, b, rfl⟩ : ∃ (a : Fin 1024) (b : Fin 1024), y = ix2 a b := ⟨y 0, y 1, eta2 y⟩
  show (outsAt0 m c t.val t.isLt).1 (ix2 a b) = R m c (((cfg0.win 2).blk t).view.emb (ix2 a b))
  rw [emb, ref_apply, last m c t (flush t hf)]
  rfl

/-- The kernel leaves the reference's result. -/
theorem algebraic : Cert.algebraic_InNtIdeal_InNtRefIdeal := by
  intro m ρ m' ρ' _ hargs
  refine ⟨fun c => R m c, ?_, ?_⟩
  · refine (θ_run defs _ _).mono (fun r h c => ?_) (Cert.InNtIdeal.Value.run_blocks m ρ)
    exact ⟨(h c).1.trans (arr m c), (h c).2⟩
  · refine (θ_run Cert.InNtRefIdeal.defs _ _).mono (fun r h c => ?_) (Cert.InNtRefIdeal.Value.run m' ρ')
    obtain ⟨a0, a1⟩ := hargs c
    refine ⟨(h c).1.trans ?_, (h c).2⟩
    rw [Cert.InNtRefIdeal.Read.val_main_v2_eq, a0, a1]
    rfl

end Cert.InNtIdeal.Val

end
-- ==== Proof.Mm.InTn.lean ====
/- The gradient of the weight of the input projection, one shard of its columns after another: the transposed input times the cotangent. -/
module

public import proofs.«01_k».proof.Proof.Gen.InTnIdeal.Value
public import proofs.«01_k».proof.Proof.Gen.InTnRefIdeal
public import proofs.«01_k».proof.Proof.Gen.InTnRefIdeal.Read
public import proofs.«01_k».proof.Proof.Gen.InTnRefIdeal.Run
public import proofs.«01_k».proof.Defs
public import proofs.«01_k».proof.Proof.Mm.Base

@[expose] public section

set_option maxRecDepth 16384

noncomputable section

namespace Cert.InTnIdeal.Val

open Cert.InTnIdeal Cert.InTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x2048.Idx → EReal := m ((c : Thread nD τ).loc main_arg0)
abbrev x1 : S2048x4944.Idx → EReal := m ((c : Thread nD τ).loc main_arg1)

/-! What the host lines hand to the kernel. -/

theorem entry_a (k : Fin 2048) (r : Fin 2048) : V m c main_v4 (ix2 k r) = x0 m c (ix2 r k) := by
  unfold V
  simp only [hostOps0, hostOps0_1, hostOps0_2, List.flatten_cons, List.flatten_nil, List.append_nil,
    List.cons_append, List.nil_append, StableHlo.TRef.binary, StableHlo.TRef.unary, StableHlo.TRef.toBuf, StableHlo.TRef.ofBuf, cast_eq]
  entry_read
  pointwise

theorem entry_d (r : Fin 2048) (j : Fin 5120) : V m c main_v5 (ix2 r j) = (if h : j.val / 1280 < 4 ∧ j.val % 1280 < 1236 then x1 m c (ix2 r ⟨j.val / 1280 * 1236 + j.val % 1280, by omega⟩) else FloatOps.sitofp (F := Ideal) FTy.f32 0#32 : EReal) := by
  unfold V
  simp only [hostOps0, hostOps0_1, hostOps0_2, List.flatten_cons, List.flatten_nil, List.append_nil,
    List.cons_append, List.nil_append, StableHlo.TRef.binary, StableHlo.TRef.unary, StableHlo.TRef.toBuf, StableHlo.TRef.ofBuf, cast_eq]
  entry_read
  pointwise

/-! One point of the grid. -/

theorem pay (p : Vec Ideal S1024x2048 .bf16) (q : Vec Ideal S2048x640 .bf16) (a : Fin 1024) (b : Fin 640) :
    k0_pay2 (F := Ideal) (k0_pay1 (F := Ideal)) p q (ix2 a b) = ∑ s : Fin 2048, p (ix2 a s) * q (ix2 s b) := by
  unfold k0_pay2 k0_pay1
  pointwise

theorem pay_out (u : Vec Ideal S1024x640 .f32) (z : Fin 1) (a : Fin 1024) (b : Fin 640) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S1024x640) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S1024x2048) hz2, View.ld_unit_zero (S := S2048x640) hz2]

/-! The blocks of the grid's points. -/

/-- The shard of the point, row `a` of its rows, and column `b` of its columns. -/
def sh (t : ℕ) : Fin 4 := ⟨t / 4 % 4, by omega⟩
def row (t : ℕ) (a : Fin 1024) : Fin 2048 := ⟨1024 * (t / 2 % 2) + a.val, by omega⟩
def col (t : ℕ) (b : Fin 640) : Fin 1280 := ⟨640 * (t % 2) + b.val, by omega⟩

theorem idx : ∀ t : Fin cfg0.N, t.val / 4 < 4
    ∧ (win0_0.index t (0 : Fin 2) = t.val / 2 % 2 ∧ win0_0.index t (1 : Fin 2) = 0)
    ∧ (win0_1.index t (0 : Fin 2) = 0 ∧ win0_1.index t (1 : Fin 2) = t.val / 4 * 2 + t.val % 2)
    ∧ (win0_2.index t (0 : Fin 3) = t.val / 4 ∧ win0_2.index t (1 : Fin 3) = t.val / 2 % 2 ∧ win0_2.index t (2 : Fin 3) = t.val % 2) :=
  (by decide +kernel : ∀ t : Fin grid0.N, _)

/-- Column `j` of shard `g` of the cotangent, past whose columns the padding is zero. -/
def dcol (g : Fin 4) (r : Fin 2048) (j : Fin 1280) : EReal := (if h : j.val < 1236 then x1 m c (ix2 r ⟨(g).val * 1236 + j.val, by omega⟩) else 0 : EReal)

theorem blk0 (t : Fin cfg0.N) (a : Fin 1024) (s : Fin 2048) : iblk m c 0 t (ix2 a s) = x0 m c (ix2 s (row t.val a)) := by
  obtain ⟨ht, ⟨e0, e1⟩, -⟩ := idx t
  refine Eq.trans ?_ (entry_a m c (row t.val a) s)
  show V m c main_v4 (((cfg0.win 0).blk t).view.emb (ix2 a s)) = _
  refine congrArg (V m c main_v4) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (s : Fin 2048) (b : Fin 640) : iblk m c 1 t (ix2 s b) = dcol m c (sh t.val) s (col t.val b) := by
  obtain ⟨ht, -, ⟨e0, e1⟩, -⟩ := idx t
  have h : iblk m c 1 t (ix2 s b) = V m c main_v5 (ix2 s ⟨640 * (t.val / 4 * 2 + t.val % 2) + b.val, by have := b.isLt; omega⟩) := by
    show V m c main_v5 (((cfg0.win 1).blk t).view.emb (ix2 s b)) = _
    refine congrArg (V m c main_v5) (funext fun y => Fin.ext ?_)
    match y with
    | ⟨0, _⟩ => show win0_1.index t (0 : Fin 2) * 2048 + 1 * s.val = s.val; omega
    | ⟨1, _⟩ => show win0_1.index t (1 : Fin 2) * 640 + 1 * b.val = 640 * (t.val / 4 * 2 + t.val % 2) + b.val; rw [e1]; ring
  rw [h]
  rw [entry_d]
  unfold dcol
  have hb := b.isLt
  by_cases hs : (col t.val b).val < 1236
  · have hs' : 640 * (t.val % 2) + b.val < 1236 := hs
    rw [dif_pos hs, dif_pos ⟨by show (640 * (t.val / 4 * 2 + t.val % 2) + b.val) / 1280 < 4; omega, by show (640 * (t.val / 4 * 2 + t.val % 2) + b.val) % 1280 < 1236; omega⟩]
    exact congrArg (fun j => x1 m c (ix2 s j)) (Fin.ext (by show (640 * (t.val / 4 * 2 + t.val % 2) + b.val) / 1280 * 1236 + (640 * (t.val / 4 * 2 + t.val % 2) + b.val) % 1280 = t.val / 4 % 4 * 1236 + (640 * (t.val % 2) + b.val); omega))
  · have hs' : ¬640 * (t.val % 2) + b.val < 1236 := hs
    rw [dif_neg hs, dif_neg (fun h => hs' (by have h2 : (640 * (t.val / 4 * 2 + t.val % 2) + b.val) % 1280 < 1236 := h.2; omega))]
    exact sitofp_zero_f32

theorem emb (t : Fin cfg0.N) (z : Fin 1) (a : Fin 1024) (b : Fin 640) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 4 % 4; omega
  | ⟨1, _⟩ => show win0_2.index t (1 : Fin 3) * 1024 + 1 * a.val = 1024 * (t.val / 2 % 2) + a.val; omega
  | ⟨2, _⟩ => show win0_2.index t (2 : Fin 3) * 640 + 1 * b.val = 640 * (t.val % 2) + b.val; omega

/-! The reference. -/

/-- The reference's result. -/
def R : S4x2048x1280.Idx → EReal := Cert.InTnRefIdeal.Read.val_main_v7 (F := Ideal) (x0 m c) (x1 m c)

theorem ref_apply (g : Fin 4) (k : Fin 2048) (j : Fin 1280) : R m c (ix3 g k j) = ∑ s : Fin 2048, x0 m c (ix2 s k) * dcol m c g s j := by
  unfold R dcol Cert.InTnRefIdeal.Read.val_main_v7 Cert.InTnRefIdeal.Read.val_main_v6 Cert.InTnRefIdeal.Read.val_main_v5 Cert.InTnRefIdeal.Read.val_main_v4 Cert.InTnRefIdeal.Read.val_main_v3 Cert.InTnRefIdeal.Read.val_main_v2 Cert.InTnRefIdeal.Read.val_main_call0_v0 Cert.InTnRefIdeal.Read.val_main_c
  pointwise
  by_cases hj : j.val < 1236
  · simp only [dif_pos hj]
    exact Finset.sum_congr rfl fun s _ => mul_comm _ _
  · simp only [dif_neg hj, mul_zero, Finset.sum_const_zero]
    exact sitofp_zero_bf16

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 1024) (b : Fin 640), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_InTnIdeal_InTnRefIdeal := by
  intro m ρ m' ρ' _ hargs
  refine ⟨fun c => R m c, ?_, ?_⟩
  · refine (θ_run defs _ _).mono (fun r h c => ?_) (Cert.InTnIdeal.Value.run_blocks m ρ)
    exact ⟨(h c).1.trans (arr m c), (h c).2⟩
  · refine (θ_run Cert.InTnRefIdeal.defs _ _).mono (fun r h c => ?_) (Cert.InTnRefIdeal.Value.run m' ρ')
    obtain ⟨a0, a1⟩ := hargs c
    refine ⟨(h c).1.trans ?_, (h c).2⟩
    rw [Cert.InTnRefIdeal.Read.val_main_v7_eq, a0, a1]
    rfl

end Cert.InTnIdeal.Val

end
-- ==== Proof.Mm.InNn.lean ====
/- The product of the input projection. -/
module

public import proofs.«01_k».proof.Proof.Gen.InNnIdeal.Value
public import proofs.«01_k».proof.Proof.Gen.InNnRefIdeal
public import proofs.«01_k».proof.Proof.Gen.InNnRefIdeal.Read
public import proofs.«01_k».proof.Proof.Gen.InNnRefIdeal.Run
public import proofs.«01_k».proof.Defs
public import proofs.«01_k».proof.Proof.Mm.Base

@[expose] public section

set_option maxRecDepth 16384

noncomputable section

namespace Cert.InNnIdeal.Val

open Cert.InNnIdeal Cert.InNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S2048x2048.Idx → EReal := m ((c : Thread nD τ).loc main_arg0)
abbrev x1 : S2048x4944.Idx → EReal := m ((c : Thread nD τ).loc main_arg1)

/-! What the host lines hand to the kernel. -/

theorem entry_a (r : Fin 2048) (k : Fin 2048) : V m c main_v0 (ix2 r k) = x0 m c (ix2 r k) := by
  unfold V
  simp only [hostOps0, hostOps0_1, List.flatten_cons, List.flatten_nil, List.append_nil,
    List.cons_append, List.nil_append, StableHlo.TRef.binary, StableHlo.TRef.unary, StableHlo.TRef.toBuf, StableHlo.TRef.ofBuf, cast_eq]
  entry_read
  pointwise

theorem entry_w (g : Fin 4) (k : Fin 2048) (j : Fin 1280) : V m c main_v4 (ix3 g k j) = (if h : j.val < 1236 then x1 m c (ix2 k ⟨g.val * 1236 + j.val, by omega⟩) else FloatOps.sitofp (F := Ideal) FTy.bf16 0#32 : EReal) := by
  unfold V
  simp only [hostOps0, hostOps0_1, List.flatten_cons, List.flatten_nil, List.append_nil,
    List.cons_append, List.nil_append, StableHlo.TRef.binary, StableHlo.TRef.unary, StableHlo.TRef.toBuf, StableHlo.TRef.ofBuf, cast_eq]
  entry_read
  pointwise

/-! One point of the grid. -/

theorem pay (p : Vec Ideal S1024x2048 .bf16) (q : Vec Ideal S1x2048x640 .bf16) (a : Fin 1024) (b : Fin 640) :
    k0_pay2 (F := Ideal) (k0_pay1 (F := Ideal)) p q (ix2 a b) = ∑ s : Fin 2048, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x640) _ hz2]
  refine (View.readCov_cons_toLoadRect _ _ _ _).trans ?_
  simp only [View.readAt_eq_ld, (hs0_0 t).read_unread, (hs0_1 t).read_unread, View.ld_unit_zero (S := S1024x2048) hz2, View.ld_unit_zero (S := S1x2048x640) hz3]

/-! The blocks of the grid's points. -/

/-- The shard of the point, row `a` of its rows, and column `b` of its columns, in its shard and in the result. -/
def sh (t : ℕ) : Fin 4 := ⟨t / 4 % 4, by omega⟩
def row (t : ℕ) (a : Fin 1024) : Fin 2048 := ⟨1024 * (t / 2 % 2) + a.val, by omega⟩
def col (t : ℕ) (b : Fin 640) : Fin 1280 := ⟨640 * (t / 1 % 2) + b.val, by omega⟩
def place (t : ℕ) (b : Fin 640) : Fin 5120 := ⟨640 * (t / 4 % 4 * 2 + t / 1 % 2) + b.val, by have := b.isLt; omega⟩

theorem idx : ∀ t : Fin cfg0.N, t.val / 4 < 4
    ∧ (win0_0.index t (0 : Fin 2) = t.val / 2 % 2 ∧ win0_0.index t (1 : Fin 2) = 0)
    ∧ (win0_1.index t (0 : Fin 3) = t.val / 4 ∧ win0_1.index t (1 : Fin 3) = 0 ∧ win0_1.index t (2 : Fin 3) = t.val / 1 % 2)
    ∧ (win0_2.index t (0 : Fin 2) = t.val / 2 % 2 ∧ win0_2.index t (1 : Fin 2) = (t.val / 4 * 2 + t.val / 1 % 2)) :=
  (by decide +kernel : ∀ t : Fin grid0.N, _)

/-- Column `j` of shard `g` of the weight, past whose columns the padding is zero. -/
def wcol (g : Fin 4) (k : Fin 2048) (j : Fin 1280) : EReal := (if h : j.val < 1236 then x1 m c (ix2 k ⟨g.val * 1236 + j.val, by omega⟩) else 0 : EReal)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (z : Fin 1) (s : Fin 2048) (b : Fin 640) : iblk m c 1 t (ix3 z s b) = wcol m c (sh t.val) s (col t.val b) := by
  obtain ⟨ht, -, ⟨e0, e1, e2⟩, -⟩ := idx t
  have h : iblk m c 1 t (ix3 z s b) = V m c main_v4 (ix3 (sh t.val) s (col t.val b)) := by
    show V m c main_v4 (((cfg0.win 1).blk t).view.emb (ix3 z s b)) = _
    refine congrArg (V m c main_v4) (funext fun y => Fin.ext ?_)
    match y with
    | ⟨0, _⟩ => show win0_1.index t (0 : Fin 3) * 1 + 1 * z.val = t.val / 4 % 4; omega
    | ⟨1, _⟩ => show win0_1.index t (1 : Fin 3) * 2048 + 1 * s.val = s.val; omega
    | ⟨2, _⟩ => show win0_1.index t (2 : Fin 3) * 640 + 1 * b.val = 640 * (t.val / 1 % 2) + b.val; omega
  rw [h]
  refine (entry_w m c _ _ _).trans ?_
  unfold wcol
  by_cases hs : (col t.val b).val < 1236
  · rw [dif_pos hs, dif_pos hs]
  · rw [dif_neg hs, dif_neg hs]
    exact sitofp_zero_bf16

theorem emb (t : Fin cfg0.N) (a : Fin 1024) (b : Fin 640) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 1024 + 1 * a.val = 1024 * (t.val / 2 % 2) + a.val; omega
  | ⟨1, _⟩ => show win0_2.index t (1 : Fin 2) * 640 + 1 * b.val = 640 * (t.val / 4 % 4 * 2 + t.val / 1 % 2) + b.val; rw [e1, Nat.mod_eq_of_lt ht]; ring

/-! The reference. -/

/-- The reference's result. -/
def R : S2048x5120.Idx → EReal := Cert.InNnRefIdeal.Read.val_main_v3 (F := Ideal) (x0 m c) (x1 m c)

theorem ref_apply (t : Fin cfg0.N) (a : Fin 1024) (b : Fin 640) : R m c (ix2 (row t.val a) (place t.val b)) = ∑ k : Fin 2048, x0 m c (ix2 (row t.val a) k) * wcol m c (sh t.val) k (col t.val b) := by
  unfold R wcol Cert.InNnRefIdeal.Read.val_main_v3 Cert.InNnRefIdeal.Read.val_main_v2 Cert.InNnRefIdeal.Read.val_main_v1 Cert.InNnRefIdeal.Read.val_main_v0 Cert.InNnRefIdeal.Read.val_main_call0_v0 Cert.InNnRefIdeal.Read.val_main_c
  generalize hr : row t.val a = r
  have hp : (place t.val b).val = 640 * (t.val / 4 % 4 * 2 + t.val / 1 % 2) + b.val := rfl
  have hc : (col t.val b).val = 640 * (t.val / 1 % 2) + b.val := rfl
  have hg : (sh t.val).val = t.val / 4 % 4 := rfl
  have hb := b.isLt
  generalize place t.val b = p at hp ⊢
  generalize col t.val b = j at hc ⊢
  generalize sh t.val = g at hg ⊢
  pointwise
  by_cases hj : j.val < 1236
  · rw [dif_pos ⟨by omega, by omega⟩]
    simp only [dif_pos hj]
    exact Finset.sum_congr rfl fun k _ => congrArg (fun z => x0 m c (ix2 r k) * x1 m c (ix2 k z)) (Fin.ext (by show p.val / 1280 * 1236 + p.val % 1280 = g.val * 1236 + j.val; omega))
  · rw [dif_neg (fun h => hj (by omega))]
    simp only [dif_neg hj, mul_zero, Finset.sum_const_zero]
    exact sitofp_zero_f32

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 640), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_InNnIdeal_InNnRefIdeal := by
  intro m ρ m' ρ' _ hargs
  refine ⟨fun c => R m c, ?_, ?_⟩
  · refine (θ_run defs _ _).mono (fun r h c => ?_) (Cert.InNnIdeal.Value.run_blocks m ρ)
    exact ⟨(h c).1.trans (arr m c), (h c).2⟩
  · refine (θ_run Cert.InNnRefIdeal.defs _ _).mono (fun r h c => ?_) (Cert.InNnRefIdeal.Value.run m' ρ')
    obtain ⟨a0, a1⟩ := hargs c
    refine ⟨(h c).1.trans ?_, (h c).2⟩
    rw [Cert.InNnRefIdeal.Read.val_main_v3_eq, a0, a1]
    rfl

end Cert.InNnIdeal.Val

end
-- ==== Proof.Mm.QbNt.lean ====
/- The gradient of the input of the query up-projection: the cotangent times the transposed weight, summed over the blocks of the weight's columns. -/
module

public import proofs.«01_k».proof.Proof.Gen.QbNtIdeal.Value
public import proofs.«01_k».proof.Proof.Gen.QbNtRefIdeal
public import proofs.«01_k».proof.Proof.Gen.QbNtRefIdeal.Read
public import proofs.«01_k».proof.Proof.Gen.QbNtRefIdeal.Run
public import proofs.«01_k».proof.Defs
public import proofs.«01_k».proof.Proof.Mm.Base
public import proofs.«01_k».proof.Proof.BlockSum

@[expose] public section

set_option maxRecDepth 16384

noncomputable section

namespace Cert.QbNtIdeal.Val

open Cert.QbNtIdeal Cert.QbNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x1536.Idx → EReal := m ((c : Thread nD τ).loc main_arg0)
abbrev x1 : S512x1536.Idx → EReal := m ((c : Thread nD τ).loc main_arg1)

/-! What the host lines hand to the kernel. -/

theorem entry_d (r : Fin 2048) (j : Fin 1536) : V m c main_v0 (ix2 r j) = x0 m c (ix2 r j) := by
  entry_read
  pointwise

theorem entry_w (g : Fin 4) (k : Fin 512) (j : Fin 384) : V m c main_v3 (ix3 g k j) = x1 m c (ix2 k ⟨g.val * 384 + j.val, by omega⟩) := by
  entry_read
  pointwise

/-! One point of the grid. -/

theorem pay_zero (a : Fin 1024) (b : Fin 512) : k0_pay1 (F := Ideal) (ix2 a b) = 0 := by
  unfold k0_pay1
  pointwise

theorem pay_add (u : Vec Ideal S1024x512 .f32) (p : Vec Ideal S1024x384 .bf16) (q : Vec Ideal S1x512x384 .bf16) (a : Fin 1024) (b : Fin 512) :
    k0_pay2 (F := Ideal) u p q (ix2 a b) = u (ix2 a b) + ∑ s : Fin 384, p (ix2 a s) * q (ix3 0 b s) := by
  unfold k0_pay2
  pointwise

/-! The blocks of the grid's points. -/

/-- Row `a` of the point's rows, and column `b` of its columns. -/
def row (t : ℕ) (a : Fin 1024) : Fin 2048 := ⟨1024 * (t / 4 % 2) + a.val, by omega⟩
def col (t : ℕ) (b : Fin 512) : Fin 512 := ⟨512 * (t / 4 % 1) + b.val, by omega⟩

theorem idx : ∀ t : Fin cfg0.N, t.val / 4 < 2
    ∧ (win0_0.index t (0 : Fin 2) = t.val / 4 ∧ win0_0.index t (1 : Fin 2) = (t.val % 4))
    ∧ (win0_1.index t (0 : Fin 3) = t.val % 4 / 1 ∧ win0_1.index t (1 : Fin 3) = t.val / 4 % 1 ∧ win0_1.index t (2 : Fin 3) = 0)
    ∧ (win0_2.index t (0 : Fin 2) = t.val / 4 ∧ win0_2.index t (1 : Fin 2) = t.val / 4 % 1) :=
  (by decide +kernel : ∀ t : Fin grid0.N, _)

theorem blk0 (t : Fin cfg0.N) (a : Fin 1024) (s : Fin 384) : iblk m c 0 t (ix2 a s) = x0 m c (ix2 (row t.val a) ⟨384 * (t.val % 4) + s.val, by have := s.isLt; omega⟩) := by
  obtain ⟨ht, ⟨e0, e1⟩, -⟩ := idx t
  have h : iblk m c 0 t (ix2 a s) = V m c main_v0 (ix2 (row t.val a) ⟨384 * (t.val % 4) + s.val, by have := s.isLt; omega⟩) := by
    show V m c main_v0 (((cfg0.win 0).blk t).view.emb (ix2 a s)) = _
    refine congrArg (V m c main_v0) (funext fun y => Fin.ext ?_)
    match y with
    | ⟨0, _⟩ => show win0_0.index t (0 : Fin 2) * 1024 + 1 * a.val = 1024 * (t.val / 4 % 2) + a.val; omega
    | ⟨1, _⟩ => show win0_0.index t (1 : Fin 2) * 384 + 1 * s.val = 384 * (t.val % 4) + s.val; rw [e1]; ring
  rw [h]
  rw [entry_d]

theorem blk1 (t : Fin cfg0.N) (z : Fin 1) (b : Fin 512) (s : Fin 384) : iblk m c 1 t (ix3 z b s) = x1 m c (ix2 (col t.val b) ⟨384 * (t.val % 4) + s.val, by have := s.isLt; omega⟩) := by
  obtain ⟨ht, -, ⟨e0, e1, e2⟩, -⟩ := idx t
  have h : iblk m c 1 t (ix3 z b s) = V m c main_v3 (ix3 ⟨t.val % 4 / 1, by omega⟩ (col t.val b) s) := by
    show V m c main_v3 (((cfg0.win 1).blk t).view.emb (ix3 z b s)) = _
    refine congrArg (V m c main_v3) (funext fun y => Fin.ext ?_)
    match y with
    | ⟨0, _⟩ => show win0_1.index t (0 : Fin 3) * 1 + 1 * z.val = t.val % 4 / 1; omega
    | ⟨1, _⟩ => show win0_1.index t (1 : Fin 3) * 512 + 1 * b.val = 512 * (t.val / 4 % 1) + b.val; omega
    | ⟨2, _⟩ => show win0_1.index t (2 : Fin 3) * 384 + 1 * s.val = s.val; omega
  rw [h]
  rw [entry_w]
  refine congrArg (fun j => x1 m c (ix2 (col t.val b) j)) (Fin.ext ?_)
  show t.val % 4 / 1 * 384 + (s.val) = 384 * (t.val % 4) + s.val
  omega

theorem emb (t : Fin cfg0.N) (a : Fin 1024) (b : Fin 512) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 4 % 2) + a.val; omega
  | ⟨1, _⟩ => show win0_2.index t (1 : Fin 2) * 512 + 1 * b.val = 512 * (t.val / 4 % 1) + b.val; omega

/-! The reference. -/

/-- The reference's result. -/
def R : S2048x512.Idx → EReal := Cert.QbNtRefIdeal.Read.val_main_v2 (F := Ideal) (x0 m c) (x1 m c)

theorem ref_apply (i : Fin 2048) (j : Fin 512) : R m c (ix2 i j) = ∑ s : Fin 1536, x0 m c (ix2 i s) * x1 m c (ix2 j s) := by
  unfold R
  refine (Cert.QbNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

/-! What a point of the grid leaves, case by case: the first block of a sum, one in its middle, its last. -/

section Cases
variable (i : grid0.Coords) (a4 : Memref sig .tc .vmem S1024x384 .bf16) (h4 : a4.IsWhole) (a5 : Memref sig .tc .vmem S1x512x384 .bf16) (h5 : a5.IsWhole) (a6 : Memref sig .tc .vmem S1024x512 .f32) (h6 : a6.IsWhole) (a7 : Memref sig .tc .vmem S1024x512 .f32) (h7 : a7.IsWhole)
  (p0 : Vec Ideal S1024x384 .bf16) (p1 : Vec Ideal S1x512x384 .bf16) (u : Vec Ideal S1024x512 .f32)

theorem case_A (hc0 : cond0_0 i) (hc1 : ¬cond0_1 i) :
    sout0_A_0 c i a4 h4 a5 h5 a6 h6 a7 h7 hc0 hc1 p0 p1 = k0_pay2 (F := Ideal) (k0_pay1 (F := Ideal)) p0 p1 := by
  unfold sout0_A_0
  rw [View.read_writes_eq_canon _ _ _ (scover0_A_0 c i a4 h4 a5 h5 a6 h6 a7 h7 hc0 hc1 p0 p1)]
  unfold kernelRun0_A
  dsimp only
  sl_unfold_words
  rw [View.canon_cons_unit_zero (S := S1024x512) hz2, View.readCov_unit_zero (S := S1024x512) _ hz2]
  simp only [View.readAt_eq_ld, h4.read_unread, h5.read_unread, h7.read_unread, View.ld_unit_zero (S := S1024x384) hz2, View.ld_unit_zero (S := S1x512x384) hz3, View.ld_unit_zero (S := S1024x512) hz2]

theorem case_B (hc0 : ¬cond0_0 i) (hc1 : ¬cond0_1 i) :
    sout0_B_0 c i a4 h4 a5 h5 a6 h6 a7 h7 hc0 hc1 p0 p1 u = k0_pay2 (F := Ideal) u p0 p1 := by
  unfold sout0_B_0
  rw [View.read_writes_eq_canon _ _ _ (scover0_B_0 c i a4 h4 a5 h5 a6 h6 a7 h7 hc0 hc1 p0 p1 u)]
  unfold kernelRun0_B
  dsimp only
  sl_unfold_words
  rw [View.canon_unit_zero hz2]
  simp only [View.readAt_eq_ld, h4.read_unread, h5.read_unread, h7.read_unread, View.ld_unit_zero (S := S1024x384) hz2, View.ld_unit_zero (S := S1x512x384) hz3, View.ld_unit_zero (S := S1024x512) hz2]

theorem case_C (hc0 : ¬cond0_0 i) (hc1 : cond0_1 i) :
    sout0_C_0 c i a4 h4 a5 h5 a6 h6 a7 h7 hc0 hc1 p0 p1 u = k0_pay2 (F := Ideal) u p0 p1 := by
  unfold sout0_C_0
  rw [View.read_writes_eq_canon _ _ _ (scover0_C_0 c i a4 h4 a5 h5 a6 h6 a7 h7 hc0 hc1 p0 p1 u)]
  unfold kernelRun0_C
  dsimp only
  sl_unfold_words
  rw [View.canon_unit_zero hz2]
  simp only [View.readAt_eq_ld, h4.read_unread, h5.read_unread, h7.read_unread, View.ld_unit_zero (S := S1024x384) hz2, View.ld_unit_zero (S := S1x512x384) hz3, View.ld_unit_zero (S := S1024x512) hz2]

theorem last_C (hc0 : ¬cond0_0 i) (hc1 : cond0_1 i) :
    out0_C_2 c i a4 h4 a5 h5 a6 h6 a7 h7 hc0 hc1 p0 p1 u = k0_pay2 (F := Ideal) u p0 p1 := by
  unfold out0_C_2
  rw [View.read_writes_eq_canon _ _ _ (cover0_C_2 c i a4 h4 a5 h5 a6 h6 a7 h7 hc0 hc1 p0 p1 u)]
  unfold kernelRun0_C
  dsimp only
  sl_unfold_words
  rw [View.canon_unit_zero hz2, View.readCov_unit_zero (S := S1024x512) _ hz2]
  simp only [View.readAt_eq_ld, h4.read_unread, h5.read_unread, h7.read_unread, View.ld_unit_zero (S := S1024x384) hz2, View.ld_unit_zero (S := S1x512x384) hz3, View.ld_unit_zero (S := S1024x512) hz2]

end Cases

/-- One product of the sum, and block `i` of the sum. -/
def prod (t : ℕ) (a : Fin 1024) (b : Fin 512) (r : Fin 1536) : EReal := x0 m c (ix2 (row t a) r) * x1 m c (ix2 (col t b) r)
def term (t : ℕ) (a : Fin 1024) (b : Fin 512) (i : ℕ) : EReal := ∑ s : Fin 384, (if h : 384 * i + s.val < 1536 then prod m c t a b ⟨384 * i + s.val, h⟩ else 0)

theorem term_sum (t : ℕ) (a : Fin 1024) (b : Fin 512) : ∑ i ∈ Finset.range 4, term m c t a b i = ∑ r : Fin 1536, prod m c t a b r :=
  BlockSum.sum_blocks_fin 4 384 1536 rfl (prod m c t a b)

/-- A point adds its block of the sum. -/
theorem step (t : Fin cfg0.N) (u : Vec Ideal S1024x512 .f32) (a : Fin 1024) (b : Fin 512) :
    k0_pay2 (F := Ideal) u (iblk m c 0 t) (iblk m c 1 t) (ix2 a b) = u (ix2 a b) + term m c t.val a b (t.val % 4) := by
  rw [pay_add]
  refine congrArg (u (ix2 a b) + ·) ?_
  unfold term
  refine Finset.sum_congr rfl fun s _ => ?_
  rw [dif_pos (show 384 * (t.val % 4) + s.val < 1536 by have := s.isLt; omega)]
  exact congrArg₂ (· * ·) (blk0 m c t a s) (blk1 m c t 0 b s)

/-- The points of one sum have the same rows and columns. -/
theorem term_pred (n : ℕ) (h : ¬(n + 1) % 4 = 0) (a : Fin 1024) (b : Fin 512) : term m c (n + 1) a b = term m c n a b := by
  have e1 : row (n + 1) a = row n a := Fin.ext (by show 1024 * ((n + 1) / 4 % 2) + a.val = 1024 * (n / 4 % 2) + a.val; omega)
  have e2 : col (n + 1) b = col n b := Fin.ext (by show 512 * ((n + 1) / 4 % 1) + b.val = 512 * (n / 4 % 1) + b.val; omega)

  unfold term prod
  rw [e1, e2]

/-- After a point the sum's buffer holds the blocks so far. -/
theorem sofar : ∀ (n : ℕ) (hn : n < cfg0.N) (a : Fin 1024) (b : Fin 512),
    (outsAt0 m c n hn).2 (ix2 a b) = ∑ i ∈ Finset.range (n % 4 + 1), term m c n a b i := by
  intro n
  induction n with
  | zero =>
    intro hn a b
    rw [outsAt0_A m c ⟨0, hn⟩ rfl (by show ¬0 % 4 = 3; decide)]
    dsimp only
    rw [case_A, step, pay_zero]
    simp
  | succ n ih =>
    intro hn a b
    by_cases h0 : (n + 1) % 4 = 0
    · rw [outsAt0_A m c ⟨n + 1, hn⟩ h0 (by show ¬(n + 1) % 4 = 3; omega)]
      dsimp only
      rw [case_A, step, pay_zero]
      dsimp only
      rw [h0]
      simp
    · have e1 : (n + 1) % 4 = n % 4 + 1 := by omega
      have i1 := ih (by omega) a b
      by_cases h1 : (n + 1) % 4 = 3
      · rw [outsAt0_C m c ⟨n + 1, hn⟩ h0 h1]
        dsimp only
        rw [case_C, step]
        dsimp only
        rw [term_pred m c n h0, e1, Finset.sum_range_succ _ (n % 4 + 1), ← i1]
        rfl
      · rw [outsAt0_B m c ⟨n + 1, hn⟩ h0 h1]
        dsimp only
        rw [case_B, step]
        dsimp only
        rw [term_pred m c n h0, e1, Finset.sum_range_succ _ (n % 4 + 1), ← i1]
        rfl

theorem last (t : Fin cfg0.N) (h1 : t.val % 4 = 3) (a : Fin 1024) (b : Fin 512) :
    (outsAt0 m c t.val t.isLt).1 (ix2 a b) = ∑ r : Fin 1536, prod m c t.val a b r := by
  have h0 : ¬t.val % 4 = 0 := by omega
  have e := sofar m c t.val t.isLt a b
  rw [outsAt0_C m c t h0 h1] at e ⊢
  dsimp only at e ⊢
  rw [case_C] at e
  rw [last_C, e, h1]
  exact (term_sum m c t.val a b)

theorem flush : ∀ t : Fin cfg0.N, (cfg0.win 2).flush t = true → t.val % 4 = 3 :=
  (by decide +kernel : ∀ t : Fin grid0.N, _)

theorem arr : (dats m 0 c).arrAt 2 cfg0.N = R m c := by
  refine (dats m 0 c).arrAt_eq_of_covers 2 (R m c) (by decide +kernel) fun t hf y => ?_
  blk_simp
  rw [after0_2]
  obtain ⟨a, b, rfl⟩ : ∃ (a : Fin 1024) (b : Fin 512), y = ix2 a b := ⟨y 0, y 1, eta2 y⟩
  show (outsAt0 m c t.val t.isLt).1 (ix2 a b) = R m c (((cfg0.win 2).blk t).view.emb (ix2 a b))
  rw [emb, ref_apply, last m c t (flush t hf)]
  rfl

/-- The kernel leaves the reference's result. -/
theorem algebraic : Cert.algebraic_QbNtIdeal_QbNtRefIdeal := by
  intro m ρ m' ρ' _ hargs
  refine ⟨fun c => R m c, ?_, ?_⟩
  · refine (θ_run defs _ _).mono (fun r h c => ?_) (Cert.QbNtIdeal.Value.run_blocks m ρ)
    exact ⟨(h c).1.trans (arr m c), (h c).2⟩
  · refine (θ_run Cert.QbNtRefIdeal.defs _ _).mono (fun r h c => ?_) (Cert.QbNtRefIdeal.Value.run m' ρ')
    obtain ⟨a0, a1⟩ := hargs c
    refine ⟨(h c).1.trans ?_, (h c).2⟩
    rw [Cert.QbNtRefIdeal.Read.val_main_v2_eq, a0, a1]
    rfl

end Cert.QbNtIdeal.Val

end
-- ==== Proof.Mm.QbTn.lean ====
/- The gradient of the weight of the query up-projection, one shard of its columns after another: the transposed input times the cotangent. -/
module

public import proofs.«01_k».proof.Proof.Gen.QbTnIdeal.Value
public import proofs.«01_k».proof.Proof.Gen.QbTnRefIdeal
public import proofs.«01_k».proof.Proof.Gen.QbTnRefIdeal.Read
public import proofs.«01_k».proof.Proof.Gen.QbTnRefIdeal.Run
public import proofs.«01_k».proof.Defs
public import proofs.«01_k».proof.Proof.Mm.Base

@[expose] public section

set_option maxRecDepth 16384

noncomputable section

namespace Cert.QbTnIdeal.Val

open Cert.QbTnIdeal Cert.QbTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x512.Idx → EReal := m ((c : Thread nD τ).loc main_arg0)
abbrev x1 : S2048x1536.Idx → EReal := m ((c : Thread nD τ).loc main_arg1)

/-! What the host lines hand to the kernel. -/

theorem entry_a (k : Fin 512) (r : Fin 2048) : V m c main_v1 (ix2 k r) = x0 m c (ix2 r k) := by
  entry_read
  pointwise

theorem entry_d (r : Fin 2048) (j : Fin 1536) : V m c main_v2 (ix2 r j) = x1 m c (ix2 r j) := by
  entry_read
  pointwise

/-! One point of the grid. -/

theorem pay (p : Vec Ideal S512x2048 .bf16) (q : Vec Ideal S2048x384 .bf16) (a : Fin 512) (b : Fin 384) :
    k0_pay2 (F := Ideal) (k0_pay1 (F := Ideal)) p q (ix2 a b) = ∑ s : Fin 2048, p (ix2 a s) * q (ix2 s b) := by
  unfold k0_pay2 k0_pay1
  pointwise

theorem pay_out (u : Vec Ideal S512x384 .f32) (z : Fin 1) (a : Fin 512) (b : Fin 384) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S512x384) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S512x2048) hz2, View.ld_unit_zero (S := S2048x384) hz2]

/-! The blocks of the grid's points. -/

/-- The shard of the point, row `a` of its rows, and column `b` of its columns. -/
def sh (t : ℕ) : Fin 4 := ⟨t / 1 % 4, by omega⟩
def row (t : ℕ) (a : Fin 512) : Fin 512 := ⟨512 * (t / 1 % 1) + a.val, by omega⟩
def col (t : ℕ) (b : Fin 384) : Fin 384 := ⟨384 * (t % 1) + b.val, by omega⟩

theorem idx : ∀ t : Fin cfg0.N, t.val / 1 < 4
    ∧ (win0_0.index t (0 : Fin 2) = t.val / 1 % 1 ∧ win0_0.index t (1 : Fin 2) = 0)
    ∧ (win0_1.index t (0 : Fin 2) = 0 ∧ win0_1.index t (1 : Fin 2) = t.val / 1 * 1 + t.val % 1)
    ∧ (win0_2.index t (0 : Fin 3) = t.val / 1 ∧ win0_2.index t (1 : Fin 3) = t.val / 1 % 1 ∧ win0_2.index t (2 : Fin 3) = t.val % 1) :=
  (by decide +kernel : ∀ t : Fin grid0.N, _)

/-- Column `j` of shard `g` of the cotangent. -/
def dcol (g : Fin 4) (r : Fin 2048) (j : Fin 384) : EReal := x1 m c (ix2 r ⟨(g).val * 384 + j.val, by omega⟩)

theorem blk0 (t : Fin cfg0.N) (a : Fin 512) (s : Fin 2048) : iblk m c 0 t (ix2 a s) = x0 m c (ix2 s (row t.val a)) := by
  obtain ⟨ht, ⟨e0, e1⟩, -⟩ := idx t
  refine Eq.trans ?_ (entry_a m c (row t.val a) s)
  show V m c main_v1 (((cfg0.win 0).blk t).view.emb (ix2 a s)) = _
  refine congrArg (V m c main_v1) (funext fun y => Fin.ext ?_)
  match y with
  | ⟨0, _⟩ => show win0_0.index t (0 : Fin 2) * 512 + 1 * a.val = 512 * (t.val / 1 % 1) + a.val; omega
  | ⟨1, _⟩ => show win0_0.index t (1 : Fin 2) * 2048 + 1 * s.val = s.val; omega

theorem blk1 (t : Fin cfg0.N) (s : Fin 2048) (b : Fin 384) : iblk m c 1 t (ix2 s b) = dcol m c (sh t.val) s (col t.val b) := by
  obtain ⟨ht, -, ⟨e0, e1⟩, -⟩ := idx t
  have h : iblk m c 1 t (ix2 s b) = V m c main_v2 (ix2 s ⟨384 * (t.val / 1 * 1 + t.val % 1) + b.val, by have := b.isLt; omega⟩) := by
    show V m c main_v2 (((cfg0.win 1).blk t).view.emb (ix2 s b)) = _
    refine congrArg (V m c main_v2) (funext fun y => Fin.ext ?_)
    match y with
    | ⟨0, _⟩ => show win0_1.index t (0 : Fin 2) * 2048 + 1 * s.val = s.val; omega
    | ⟨1, _⟩ => show win0_1.index t (1 : Fin 2) * 384 + 1 * b.val = 384 * (t.val / 1 * 1 + t.val % 1) + b.val; rw [e1]; ring
  rw [h]
  rw [entry_d]
  refine congrArg (fun j => x1 m c (ix2 s j)) (Fin.ext ?_)
  show 384 * (t.val / 1 * 1 + t.val % 1) + b.val = t.val / 1 % 4 * 384 + (384 * (t.val % 1) + b.val)
  have := b.isLt
  omega

theorem emb (t : Fin cfg0.N) (z : Fin 1) (a : Fin 512) (b : Fin 384) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 1 % 4; omega
  | ⟨1, _⟩ => show win0_2.index t (1 : Fin 3) * 512 + 1 * a.val = 512 * (t.val / 1 % 1) + a.val; omega
  | ⟨2, _⟩ => show win0_2.index t (2 : Fin 3) * 384 + 1 * b.val = 384 * (t.val % 1) + b.val; omega

/-! The reference. -/

/-- The reference's result. -/
def R : S4x512x384.Idx → EReal := Cert.QbTnRefIdeal.Read.val_main_v6 (F := Ideal) (x0 m c) (x1 m c)

theorem ref_apply (g : Fin 4) (k : Fin 512) (j : Fin 384) : R m c (ix3 g k j) = ∑ s : Fin 2048, x0 m c (ix2 s k) * dcol m c g s j := by
  unfold R dcol Cert.QbTnRefIdeal.Read.val_main_v6 Cert.QbTnRefIdeal.Read.val_main_v5 Cert.QbTnRefIdeal.Read.val_main_v4 Cert.QbTnRefIdeal.Read.val_main_v3 Cert.QbTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 512) (b : Fin 384), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_QbTnIdeal_QbTnRefIdeal := by
  intro m ρ m' ρ' _ hargs
  refine ⟨fun c => R m c, ?_, ?_⟩
  · refine (θ_run defs _ _).mono (fun r h c => ?_) (Cert.QbTnIdeal.Value.run_blocks m ρ)
    exact ⟨(h c).1.trans (arr m c), (h c).2⟩
  · refine (θ_run Cert.QbTnRefIdeal.defs _ _).mono (fun r h c => ?_) (Cert.QbTnRefIdeal.Value.run m' ρ')
    obtain ⟨a0, a1⟩ := hargs c
    refine ⟨(h c).1.trans ?_, (h c).2⟩
    rw [Cert.QbTnRefIdeal.Read.val_main_v6_eq, a0, a1]
    rfl

end Cert.QbTnIdeal.Val

end
-- ==== Proof.Mm.QbNn.lean ====
/- The product of the query up-projection. -/
module

public import proofs.«01_k».proof.Proof.Gen.QbNnIdeal.Value
public import proofs.«01_k».proof.Proof.Gen.QbNnRefIdeal
public import proofs.«01_k».proof.Proof.Gen.QbNnRefIdeal.Read
public import proofs.«01_k».proof.Proof.Gen.QbNnRefIdeal.Run
public import proofs.«01_k».proof.Defs
public import proofs.«01_k».proof.Proof.Mm.Base

@[expose] public section

set_option maxRecDepth 16384

noncomputable section

namespace Cert.QbNnIdeal.Val

open Cert.QbNnIdeal Cert.QbNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S2048x512.Idx → EReal := m ((c : Thread nD τ).loc main_arg0)
abbrev x1 : S512x1536.Idx → EReal := m ((c : Thread nD τ).loc main_arg1)

/-! What the host lines hand to the kernel. -/

theorem entry_a (r : Fin 2048) (k : Fin 512) : V m c main_v0 (ix2 r k) = x0 m c (ix2 r k) := by
  entry_read
  pointwise

theorem entry_w (g : Fin 4) (k : Fin 512) (j : Fin 384) : V m c main_v3 (ix3 g k j) = x1 m c (ix2 k ⟨g.val * 384 + j.val, by omega⟩) := by
  entry_read
  pointwise

/-! One point of the grid. -/

theorem pay (p : Vec Ideal S1024x512 .bf16) (q : Vec Ideal S1x512x384 .bf16) (a : Fin 1024) (b : Fin 384) :
    k0_pay2 (F := Ideal) (k0_pay1 (F := Ideal)) p q (ix2 a b) = ∑ s : Fin 512, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x384) _ hz2]
  refine (View.readCov_cons_toLoadRect _ _ _ _).trans ?_
  simp only [View.readAt_eq_ld, (hs0_0 t).read_unread, (hs0_1 t).read_unread, View.ld_unit_zero (S := S1024x512) hz2, View.ld_unit_zero (S := S1x512x384) hz3]

/-! The blocks of the grid's points. -/

/-- The shard of the point, row `a` of its rows, and column `b` of its columns, in its shard and in the result. -/
def sh (t : ℕ) : Fin 4 := ⟨t / 2 % 4, by omega⟩
def row (t : ℕ) (a : Fin 1024) : Fin 2048 := ⟨1024 * (t / 1 % 2) + a.val, by omega⟩
def col (t : ℕ) (b : Fin 384) : Fin 384 := ⟨384 * (t / 1 % 1) + b.val, by omega⟩
def place (t : ℕ) (b : Fin 384) : Fin 1536 := ⟨384 * (t / 2 % 4 * 1 + t / 1 % 1) + b.val, by have := b.isLt; omega⟩

theorem idx : ∀ t : Fin cfg0.N, t.val / 2 < 4
    ∧ (win0_0.index t (0 : Fin 2) = t.val / 1 % 2 ∧ win0_0.index t (1 : Fin 2) = 0)
    ∧ (win0_1.index t (0 : Fin 3) = t.val / 2 ∧ win0_1.index t (1 : Fin 3) = 0 ∧ win0_1.index t (2 : Fin 3) = t.val / 1 % 1)
    ∧ (win0_2.index t (0 : Fin 2) = t.val / 1 % 2 ∧ win0_2.index t (1 : Fin 2) = (t.val / 2 * 1 + t.val / 1 % 1)) :=
  (by decide +kernel : ∀ t : Fin grid0.N, _)

/-- Column `j` of shard `g` of the weight. -/
def wcol (g : Fin 4) (k : Fin 512) (j : Fin 384) : EReal := x1 m c (ix2 k ⟨g.val * 384 + j.val, by omega⟩)

theorem blk0 (t : Fin cfg0.N) (a : Fin 1024) (s : Fin 512) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 1 % 2) + a.val; omega
  | ⟨1, _⟩ => show win0_0.index t (1 : Fin 2) * 512 + 1 * s.val = s.val; omega

theorem blk1 (t : Fin cfg0.N) (z : Fin 1) (s : Fin 512) (b : Fin 384) : iblk m c 1 t (ix3 z s b) = wcol m c (sh t.val) s (col t.val b) := by
  obtain ⟨ht, -, ⟨e0, e1, e2⟩, -⟩ := idx t
  have h : iblk m c 1 t (ix3 z s b) = V m c main_v3 (ix3 (sh t.val) s (col t.val b)) := by
    show V m c main_v3 (((cfg0.win 1).blk t).view.emb (ix3 z s b)) = _
    refine congrArg (V m c main_v3) (funext fun y => Fin.ext ?_)
    match y with
    | ⟨0, _⟩ => show win0_1.index t (0 : Fin 3) * 1 + 1 * z.val = t.val / 2 % 4; omega
    | ⟨1, _⟩ => show win0_1.index t (1 : Fin 3) * 512 + 1 * s.val = s.val; omega
    | ⟨2, _⟩ => show win0_1.index t (2 : Fin 3) * 384 + 1 * b.val = 384 * (t.val / 1 % 1) + b.val; omega
  rw [h]
  exact entry_w m c _ _ _

theorem emb (t : Fin cfg0.N) (a : Fin 1024) (b : Fin 384) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 1024 + 1 * a.val = 1024 * (t.val / 1 % 2) + a.val; omega
  | ⟨1, _⟩ => show win0_2.index t (1 : Fin 2) * 384 + 1 * b.val = 384 * (t.val / 2 % 4 * 1 + t.val / 1 % 1) + b.val; rw [e1, Nat.mod_eq_of_lt ht]; ring

/-! The reference. -/

/-- The reference's result. -/
def R : S2048x1536.Idx → EReal := Cert.QbNnRefIdeal.Read.val_main_v0 (F := Ideal) (x0 m c) (x1 m c)

theorem ref_apply (t : Fin cfg0.N) (a : Fin 1024) (b : Fin 384) : R m c (ix2 (row t.val a) (place t.val b)) = ∑ k : Fin 512, x0 m c (ix2 (row t.val a) k) * wcol m c (sh t.val) k (col t.val b) := by
  unfold R wcol Cert.QbNnRefIdeal.Read.val_main_v0
  generalize hr : row t.val a = r
  have hp : (place t.val b).val = 384 * (t.val / 2 % 4 * 1 + t.val / 1 % 1) + b.val := rfl
  have hc : (col t.val b).val = 384 * (t.val / 1 % 1) + b.val := rfl
  have hg : (sh t.val).val = t.val / 2 % 4 := rfl
  have hb := b.isLt
  generalize place t.val b = p at hp ⊢
  generalize col t.val b = j at hc ⊢
  generalize sh t.val = g at hg ⊢
  pointwise
  exact Finset.sum_congr rfl fun k _ => congrArg (fun z => x0 m c (ix2 r k) * x1 m c (ix2 k z)) (Fin.ext (by show p.val = g.val * 384 + j.val; omega))

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 384), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_QbNnIdeal_QbNnRefIdeal := by
  intro m ρ m' ρ' _ hargs
  refine ⟨fun c => R m c, ?_, ?_⟩
  · refine (θ_run defs _ _).mono (fun r h c => ?_) (Cert.QbNnIdeal.Value.run_blocks m ρ)
    exact ⟨(h c).1.trans (arr m c), (h c).2⟩
  · refine (θ_run Cert.QbNnRefIdeal.defs _ _).mono (fun r h c => ?_) (Cert.QbNnRefIdeal.Value.run m' ρ')
    obtain ⟨a0, a1⟩ := hargs c
    refine ⟨(h c).1.trans ?_, (h c).2⟩
    rw [Cert.QbNnRefIdeal.Read.val_main_v0_eq, a0, a1]
    rfl

end Cert.QbNnIdeal.Val

end
-- ==== Proof.Mm.KvbNt.lean ====
/- The gradient of the input of the key and value up-projection: the cotangent times the transposed weight, summed over the blocks of the weight's columns. -/
module

public import proofs.«01_k».proof.Proof.Gen.KvbNtIdeal.Value
public import proofs.«01_k».proof.Proof.Gen.KvbNtRefIdeal
public import proofs.«01_k».proof.Proof.Gen.KvbNtRefIdeal.Read
public import proofs.«01_k».proof.Proof.Gen.KvbNtRefIdeal.Run
public import proofs.«01_k».proof.Defs
public import proofs.«01_k».proof.Proof.Mm.Base
public import proofs.«01_k».proof.Proof.BlockSum

@[expose] public section

set_option maxRecDepth 16384

noncomputable section

namespace Cert.KvbNtIdeal.Val

open Cert.KvbNtIdeal Cert.KvbNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x2048.Idx → EReal := m ((c : Thread nD τ).loc main_arg0)
abbrev x1 : S256x2048.Idx → EReal := m ((c : Thread nD τ).loc main_arg1)

/-! What the host lines hand to the kernel. -/

theorem entry_d (r : Fin 2048) (j : Fin 2048) : V m c main_v0 (ix2 r j) = x0 m c (ix2 r j) := by
  entry_read
  pointwise

theorem entry_w (g : Fin 4) (k : Fin 256) (j : Fin 512) : V m c main_v3 (ix3 g k j) = x1 m c (ix2 k ⟨g.val * 512 + j.val, by omega⟩) := by
  entry_read
  pointwise

/-! One point of the grid. -/

theorem pay_zero (a : Fin 1024) (b : Fin 256) : k0_pay1 (F := Ideal) (ix2 a b) = 0 := by
  unfold k0_pay1
  pointwise

theorem pay_add (u : Vec Ideal S1024x256 .f32) (p : Vec Ideal S1024x512 .bf16) (q : Vec Ideal S1x256x512 .bf16) (a : Fin 1024) (b : Fin 256) :
    k0_pay2 (F := Ideal) u p q (ix2 a b) = u (ix2 a b) + ∑ s : Fin 512, p (ix2 a s) * q (ix3 0 b s) := by
  unfold k0_pay2
  pointwise

/-! The blocks of the grid's points. -/

/-- Row `a` of the point's rows, and column `b` of its columns. -/
def row (t : ℕ) (a : Fin 1024) : Fin 2048 := ⟨1024 * (t / 4 % 2) + a.val, by omega⟩
def col (t : ℕ) (b : Fin 256) : Fin 256 := ⟨256 * (t / 4 % 1) + b.val, by omega⟩

theorem idx : ∀ t : Fin cfg0.N, t.val / 4 < 2
    ∧ (win0_0.index t (0 : Fin 2) = t.val / 4 ∧ win0_0.index t (1 : Fin 2) = (t.val % 4))
    ∧ (win0_1.index t (0 : Fin 3) = t.val % 4 / 1 ∧ win0_1.index t (1 : Fin 3) = t.val / 4 % 1 ∧ win0_1.index t (2 : Fin 3) = 0)
    ∧ (win0_2.index t (0 : Fin 2) = t.val / 4 ∧ win0_2.index t (1 : Fin 2) = t.val / 4 % 1) :=
  (by decide +kernel : ∀ t : Fin grid0.N, _)

theorem blk0 (t : Fin cfg0.N) (a : Fin 1024) (s : Fin 512) : iblk m c 0 t (ix2 a s) = x0 m c (ix2 (row t.val a) ⟨512 * (t.val % 4) + s.val, by have := s.isLt; omega⟩) := by
  obtain ⟨ht, ⟨e0, e1⟩, -⟩ := idx t
  have h : iblk m c 0 t (ix2 a s) = V m c main_v0 (ix2 (row t.val a) ⟨512 * (t.val % 4) + s.val, by have := s.isLt; omega⟩) := by
    show V m c main_v0 (((cfg0.win 0).blk t).view.emb (ix2 a s)) = _
    refine congrArg (V m c main_v0) (funext fun y => Fin.ext ?_)
    match y with
    | ⟨0, _⟩ => show win0_0.index t (0 : Fin 2) * 1024 + 1 * a.val = 1024 * (t.val / 4 % 2) + a.val; omega
    | ⟨1, _⟩ => show win0_0.index t (1 : Fin 2) * 512 + 1 * s.val = 512 * (t.val % 4) + s.val; rw [e1]; ring
  rw [h]
  rw [entry_d]

theorem blk1 (t : Fin cfg0.N) (z : Fin 1) (b : Fin 256) (s : Fin 512) : iblk m c 1 t (ix3 z b s) = x1 m c (ix2 (col t.val b) ⟨512 * (t.val % 4) + s.val, by have := s.isLt; omega⟩) := by
  obtain ⟨ht, -, ⟨e0, e1, e2⟩, -⟩ := idx t
  have h : iblk m c 1 t (ix3 z b s) = V m c main_v3 (ix3 ⟨t.val % 4 / 1, by omega⟩ (col t.val b) s) := by
    show V m c main_v3 (((cfg0.win 1).blk t).view.emb (ix3 z b s)) = _
    refine congrArg (V m c main_v3) (funext fun y => Fin.ext ?_)
    match y with
    | ⟨0, _⟩ => show win0_1.index t (0 : Fin 3) * 1 + 1 * z.val = t.val % 4 / 1; omega
    | ⟨1, _⟩ => show win0_1.index t (1 : Fin 3) * 256 + 1 * b.val = 256 * (t.val / 4 % 1) + b.val; omega
    | ⟨2, _⟩ => show win0_1.index t (2 : Fin 3) * 512 + 1 * s.val = s.val; omega
  rw [h]
  rw [entry_w]
  refine congrArg (fun j => x1 m c (ix2 (col t.val b) j)) (Fin.ext ?_)
  show t.val % 4 / 1 * 512 + (s.val) = 512 * (t.val % 4) + s.val
  omega

theorem emb (t : Fin cfg0.N) (a : Fin 1024) (b : Fin 256) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 4 % 2) + a.val; omega
  | ⟨1, _⟩ => show win0_2.index t (1 : Fin 2) * 256 + 1 * b.val = 256 * (t.val / 4 % 1) + b.val; omega

/-! The reference. -/

/-- The reference's result. -/
def R : S2048x256.Idx → EReal := Cert.KvbNtRefIdeal.Read.val_main_v2 (F := Ideal) (x0 m c) (x1 m c)

theorem ref_apply (i : Fin 2048) (j : Fin 256) : R m c (ix2 i j) = ∑ s : Fin 2048, x0 m c (ix2 i s) * x1 m c (ix2 j s) := by
  unfold R
  refine (Cert.KvbNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

/-! What a point of the grid leaves, case by case: the first block of a sum, one in its middle, its last. -/

section Cases
variable (i : grid0.Coords) (a4 : Memref sig .tc .vmem S1024x512 .bf16) (h4 : a4.IsWhole) (a5 : Memref sig .tc .vmem S1x256x512 .bf16) (h5 : a5.IsWhole) (a6 : Memref sig .tc .vmem S1024x256 .f32) (h6 : a6.IsWhole) (a7 : Memref sig .tc .vmem S1024x256 .f32) (h7 : a7.IsWhole)
  (p0 : Vec Ideal S1024x512 .bf16) (p1 : Vec Ideal S1x256x512 .bf16) (u : Vec Ideal S1024x256 .f32)

theorem case_A (hc0 : cond0_0 i) (hc1 : ¬cond0_1 i) :
    sout0_A_0 c i a4 h4 a5 h5 a6 h6 a7 h7 hc0 hc1 p0 p1 = k0_pay2 (F := Ideal) (k0_pay1 (F := Ideal)) p0 p1 := by
  unfold sout0_A_0
  rw [View.read_writes_eq_canon _ _ _ (scover0_A_0 c i a4 h4 a5 h5 a6 h6 a7 h7 hc0 hc1 p0 p1)]
  unfold kernelRun0_A
  dsimp only
  sl_unfold_words
  rw [View.canon_cons_unit_zero (S := S1024x256) hz2, View.readCov_unit_zero (S := S1024x256) _ hz2]
  simp only [View.readAt_eq_ld, h4.read_unread, h5.read_unread, h7.read_unread, View.ld_unit_zero (S := S1024x512) hz2, View.ld_unit_zero (S := S1x256x512) hz3, View.ld_unit_zero (S := S1024x256) hz2]

theorem case_B (hc0 : ¬cond0_0 i) (hc1 : ¬cond0_1 i) :
    sout0_B_0 c i a4 h4 a5 h5 a6 h6 a7 h7 hc0 hc1 p0 p1 u = k0_pay2 (F := Ideal) u p0 p1 := by
  unfold sout0_B_0
  rw [View.read_writes_eq_canon _ _ _ (scover0_B_0 c i a4 h4 a5 h5 a6 h6 a7 h7 hc0 hc1 p0 p1 u)]
  unfold kernelRun0_B
  dsimp only
  sl_unfold_words
  rw [View.canon_unit_zero hz2]
  simp only [View.readAt_eq_ld, h4.read_unread, h5.read_unread, h7.read_unread, View.ld_unit_zero (S := S1024x512) hz2, View.ld_unit_zero (S := S1x256x512) hz3, View.ld_unit_zero (S := S1024x256) hz2]

theorem case_C (hc0 : ¬cond0_0 i) (hc1 : cond0_1 i) :
    sout0_C_0 c i a4 h4 a5 h5 a6 h6 a7 h7 hc0 hc1 p0 p1 u = k0_pay2 (F := Ideal) u p0 p1 := by
  unfold sout0_C_0
  rw [View.read_writes_eq_canon _ _ _ (scover0_C_0 c i a4 h4 a5 h5 a6 h6 a7 h7 hc0 hc1 p0 p1 u)]
  unfold kernelRun0_C
  dsimp only
  sl_unfold_words
  rw [View.canon_unit_zero hz2]
  simp only [View.readAt_eq_ld, h4.read_unread, h5.read_unread, h7.read_unread, View.ld_unit_zero (S := S1024x512) hz2, View.ld_unit_zero (S := S1x256x512) hz3, View.ld_unit_zero (S := S1024x256) hz2]

theorem last_C (hc0 : ¬cond0_0 i) (hc1 : cond0_1 i) :
    out0_C_2 c i a4 h4 a5 h5 a6 h6 a7 h7 hc0 hc1 p0 p1 u = k0_pay2 (F := Ideal) u p0 p1 := by
  unfold out0_C_2
  rw [View.read_writes_eq_canon _ _ _ (cover0_C_2 c i a4 h4 a5 h5 a6 h6 a7 h7 hc0 hc1 p0 p1 u)]
  unfold kernelRun0_C
  dsimp only
  sl_unfold_words
  rw [View.canon_unit_zero hz2, View.readCov_unit_zero (S := S1024x256) _ hz2]
  simp only [View.readAt_eq_ld, h4.read_unread, h5.read_unread, h7.read_unread, View.ld_unit_zero (S := S1024x512) hz2, View.ld_unit_zero (S := S1x256x512) hz3, View.ld_unit_zero (S := S1024x256) hz2]

end Cases

/-- One product of the sum, and block `i` of the sum. -/
def prod (t : ℕ) (a : Fin 1024) (b : Fin 256) (r : Fin 2048) : EReal := x0 m c (ix2 (row t a) r) * x1 m c (ix2 (col t b) r)
def term (t : ℕ) (a : Fin 1024) (b : Fin 256) (i : ℕ) : EReal := ∑ s : Fin 512, (if h : 512 * i + s.val < 2048 then prod m c t a b ⟨512 * i + s.val, h⟩ else 0)

theorem term_sum (t : ℕ) (a : Fin 1024) (b : Fin 256) : ∑ i ∈ Finset.range 4, term m c t a b i = ∑ r : Fin 2048, prod m c t a b r :=
  BlockSum.sum_blocks_fin 4 512 2048 rfl (prod m c t a b)

/-- A point adds its block of the sum. -/
theorem step (t : Fin cfg0.N) (u : Vec Ideal S1024x256 .f32) (a : Fin 1024) (b : Fin 256) :
    k0_pay2 (F := Ideal) u (iblk m c 0 t) (iblk m c 1 t) (ix2 a b) = u (ix2 a b) + term m c t.val a b (t.val % 4) := by
  rw [pay_add]
  refine congrArg (u (ix2 a b) + ·) ?_
  unfold term
  refine Finset.sum_congr rfl fun s _ => ?_
  rw [dif_pos (show 512 * (t.val % 4) + s.val < 2048 by have := s.isLt; omega)]
  exact congrArg₂ (· * ·) (blk0 m c t a s) (blk1 m c t 0 b s)

/-- The points of one sum have the same rows and columns. -/
theorem term_pred (n : ℕ) (h : ¬(n + 1) % 4 = 0) (a : Fin 1024) (b : Fin 256) : term m c (n + 1) a b = term m c n a b := by
  have e1 : row (n + 1) a = row n a := Fin.ext (by show 1024 * ((n + 1) / 4 % 2) + a.val = 1024 * (n / 4 % 2) + a.val; omega)
  have e2 : col (n + 1) b = col n b := Fin.ext (by show 256 * ((n + 1) / 4 % 1) + b.val = 256 * (n / 4 % 1) + b.val; omega)

  unfold term prod
  rw [e1, e2]

/-- After a point the sum's buffer holds the blocks so far. -/
theorem sofar : ∀ (n : ℕ) (hn : n < cfg0.N) (a : Fin 1024) (b : Fin 256),
    (outsAt0 m c n hn).2 (ix2 a b) = ∑ i ∈ Finset.range (n % 4 + 1), term m c n a b i := by
  intro n
  induction n with
  | zero =>
    intro hn a b
    rw [outsAt0_A m c ⟨0, hn⟩ rfl (by show ¬0 % 4 = 3; decide)]
    dsimp only
    rw [case_A, step, pay_zero]
    simp
  | succ n ih =>
    intro hn a b
    by_cases h0 : (n + 1) % 4 = 0
    · rw [outsAt0_A m c ⟨n + 1, hn⟩ h0 (by show ¬(n + 1) % 4 = 3; omega)]
      dsimp only
      rw [case_A, step, pay_zero]
      dsimp only
      rw [h0]
      simp
    · have e1 : (n + 1) % 4 = n % 4 + 1 := by omega
      have i1 := ih (by omega) a b
      by_cases h1 : (n + 1) % 4 = 3
      · rw [outsAt0_C m c ⟨n + 1, hn⟩ h0 h1]
        dsimp only
        rw [case_C, step]
        dsimp only
        rw [term_pred m c n h0, e1, Finset.sum_range_succ _ (n % 4 + 1), ← i1]
        rfl
      · rw [outsAt0_B m c ⟨n + 1, hn⟩ h0 h1]
        dsimp only
        rw [case_B, step]
        dsimp only
        rw [term_pred m c n h0, e1, Finset.sum_range_succ _ (n % 4 + 1), ← i1]
        rfl

theorem last (t : Fin cfg0.N) (h1 : t.val % 4 = 3) (a : Fin 1024) (b : Fin 256) :
    (outsAt0 m c t.val t.isLt).1 (ix2 a b) = ∑ r : Fin 2048, prod m c t.val a b r := by
  have h0 : ¬t.val % 4 = 0 := by omega
  have e := sofar m c t.val t.isLt a b
  rw [outsAt0_C m c t h0 h1] at e ⊢
  dsimp only at e ⊢
  rw [case_C] at e
  rw [last_C, e, h1]
  exact (term_sum m c t.val a b)

theorem flush : ∀ t : Fin cfg0.N, (cfg0.win 2).flush t = true → t.val % 4 = 3 :=
  (by decide +kernel : ∀ t : Fin grid0.N, _)

theorem arr : (dats m 0 c).arrAt 2 cfg0.N = R m c := by
  refine (dats m 0 c).arrAt_eq_of_covers 2 (R m c) (by decide +kernel) fun t hf y => ?_
  blk_simp
  rw [after0_2]
  obtain ⟨a, b, rfl⟩ : ∃ (a : Fin 1024) (b : Fin 256), y = ix2 a b := ⟨y 0, y 1, eta2 y⟩
  show (outsAt0 m c t.val t.isLt).1 (ix2 a b) = R m c (((cfg0.win 2).blk t).view.emb (ix2 a b))
  rw [emb, ref_apply, last m c t (flush t hf)]
  rfl

/-- The kernel leaves the reference's result. -/
theorem algebraic : Cert.algebraic_KvbNtIdeal_KvbNtRefIdeal := by
  intro m ρ m' ρ' _ hargs
  refine ⟨fun c => R m c, ?_, ?_⟩
  · refine (θ_run defs _ _).mono (fun r h c => ?_) (Cert.KvbNtIdeal.Value.run_blocks m ρ)
    exact ⟨(h c).1.trans (arr m c), (h c).2⟩
  · refine (θ_run Cert.KvbNtRefIdeal.defs _ _).mono (fun r h c => ?_) (Cert.KvbNtRefIdeal.Value.run m' ρ')
    obtain ⟨a0, a1⟩ := hargs c
    refine ⟨(h c).1.trans ?_, (h c).2⟩
    rw [Cert.KvbNtRefIdeal.Read.val_main_v2_eq, a0, a1]
    rfl

end Cert.KvbNtIdeal.Val

end
-- ==== Proof.Mm.KvbTn.lean ====
/- The gradient of the weight of the key and value up-projection, one shard of its columns after another: the transposed input times the cotangent. -/
module

public import proofs.«01_k».proof.Proof.Gen.KvbTnIdeal.Value
public import proofs.«01_k».proof.Proof.Gen.KvbTnRefIdeal
public import proofs.«01_k».proof.Proof.Gen.KvbTnRefIdeal.Read
public import proofs.«01_k».proof.Proof.Gen.KvbTnRefIdeal.Run
public import proofs.«01_k».proof.Defs
public import proofs.«01_k».proof.Proof.Mm.Base

@[expose] public section

set_option maxRecDepth 16384

noncomputable section

namespace Cert.KvbTnIdeal.Val

open Cert.KvbTnIdeal Cert.KvbTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x256.Idx → EReal := m ((c : Thread nD τ).loc main_arg0)
abbrev x1 : S2048x2048.Idx → EReal := m ((c : Thread nD τ).loc main_arg1)

/-! What the host lines hand to the kernel. -/

theorem entry_a (k : Fin 256) (r : Fin 2048) : V m c main_v1 (ix2 k r) = x0 m c (ix2 r k) := by
  entry_read
  pointwise

theorem entry_d (r : Fin 2048) (j : Fin 2048) : V m c main_v2 (ix2 r j) = x1 m c (ix2 r j) := by
  entry_read
  pointwise

/-! One point of the grid. -/

theorem pay (p : Vec Ideal S256x2048 .bf16) (q : Vec Ideal S2048x512 .bf16) (a : Fin 256) (b : Fin 512) :
    k0_pay2 (F := Ideal) (k0_pay1 (F := Ideal)) p q (ix2 a b) = ∑ s : Fin 2048, p (ix2 a s) * q (ix2 s b) := by
  unfold k0_pay2 k0_pay1
  pointwise

theorem pay_out (u : Vec Ideal S256x512 .f32) (z : Fin 1) (a : Fin 256) (b : Fin 512) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S256x512) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S256x2048) hz2, View.ld_unit_zero (S := S2048x512) hz2]

/-! The blocks of the grid's points. -/

/-- The shard of the point, row `a` of its rows, and column `b` of its columns. -/
def sh (t : ℕ) : Fin 4 := ⟨t / 1 % 4, by omega⟩
def row (t : ℕ) (a : Fin 256) : Fin 256 := ⟨256 * (t / 1 % 1) + a.val, by omega⟩
def col (t : ℕ) (b : Fin 512) : Fin 512 := ⟨512 * (t % 1) + b.val, by omega⟩

theorem idx : ∀ t : Fin cfg0.N, t.val / 1 < 4
    ∧ (win0_0.index t (0 : Fin 2) = t.val / 1 % 1 ∧ win0_0.index t (1 : Fin 2) = 0)
    ∧ (win0_1.index t (0 : Fin 2) = 0 ∧ win0_1.index t (1 : Fin 2) = t.val / 1 * 1 + t.val % 1)
    ∧ (win0_2.index t (0 : Fin 3) = t.val / 1 ∧ win0_2.index t (1 : Fin 3) = t.val / 1 % 1 ∧ win0_2.index t (2 : Fin 3) = t.val % 1) :=
  (by decide +kernel : ∀ t : Fin grid0.N, _)

/-- Column `j` of shard `g` of the cotangent. -/
def dcol (g : Fin 4) (r : Fin 2048) (j : Fin 512) : EReal := x1 m c (ix2 r ⟨(g).val * 512 + j.val, by omega⟩)

theorem blk0 (t : Fin cfg0.N) (a : Fin 256) (s : Fin 2048) : iblk m c 0 t (ix2 a s) = x0 m c (ix2 s (row t.val a)) := by
  obtain ⟨ht, ⟨e0, e1⟩, -⟩ := idx t
  refine Eq.trans ?_ (entry_a m c (row t.val a) s)
  show V m c main_v1 (((cfg0.win 0).blk t).view.emb (ix2 a s)) = _
  refine congrArg (V m c main_v1) (funext fun y => Fin.ext ?_)
  match y with
  | ⟨0, _⟩ => show win0_0.index t (0 : Fin 2) * 256 + 1 * a.val = 256 * (t.val / 1 % 1) + a.val; omega
  | ⟨1, _⟩ => show win0_0.index t (1 : Fin 2) * 2048 + 1 * s.val = s.val; omega

theorem blk1 (t : Fin cfg0.N) (s : Fin 2048) (b : Fin 512) : iblk m c 1 t (ix2 s b) = dcol m c (sh t.val) s (col t.val b) := by
  obtain ⟨ht, -, ⟨e0, e1⟩, -⟩ := idx t
  have h : iblk m c 1 t (ix2 s b) = V m c main_v2 (ix2 s ⟨512 * (t.val / 1 * 1 + t.val % 1) + b.val, by have := b.isLt; omega⟩) := by
    show V m c main_v2 (((cfg0.win 1).blk t).view.emb (ix2 s b)) = _
    refine congrArg (V m c main_v2) (funext fun y => Fin.ext ?_)
    match y with
    | ⟨0, _⟩ => show win0_1.index t (0 : Fin 2) * 2048 + 1 * s.val = s.val; omega
    | ⟨1, _⟩ => show win0_1.index t (1 : Fin 2) * 512 + 1 * b.val = 512 * (t.val / 1 * 1 + t.val % 1) + b.val; rw [e1]; ring
  rw [h]
  rw [entry_d]
  refine congrArg (fun j => x1 m c (ix2 s j)) (Fin.ext ?_)
  show 512 * (t.val / 1 * 1 + t.val % 1) + b.val = t.val / 1 % 4 * 512 + (512 * (t.val % 1) + b.val)
  have := b.isLt
  omega

theorem emb (t : Fin cfg0.N) (z : Fin 1) (a : Fin 256) (b : Fin 512) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 1 % 4; omega
  | ⟨1, _⟩ => show win0_2.index t (1 : Fin 3) * 256 + 1 * a.val = 256 * (t.val / 1 % 1) + a.val; omega
  | ⟨2, _⟩ => show win0_2.index t (2 : Fin 3) * 512 + 1 * b.val = 512 * (t.val % 1) + b.val; omega

/-! The reference. -/

/-- The reference's result. -/
def R : S4x256x512.Idx → EReal := Cert.KvbTnRefIdeal.Read.val_main_v6 (F := Ideal) (x0 m c) (x1 m c)

theorem ref_apply (g : Fin 4) (k : Fin 256) (j : Fin 512) : R m c (ix3 g k j) = ∑ s : Fin 2048, x0 m c (ix2 s k) * dcol m c g s j := by
  unfold R dcol Cert.KvbTnRefIdeal.Read.val_main_v6 Cert.KvbTnRefIdeal.Read.val_main_v5 Cert.KvbTnRefIdeal.Read.val_main_v4 Cert.KvbTnRefIdeal.Read.val_main_v3 Cert.KvbTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 256) (b : Fin 512), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_KvbTnIdeal_KvbTnRefIdeal := by
  intro m ρ m' ρ' _ hargs
  refine ⟨fun c => R m c, ?_, ?_⟩
  · refine (θ_run defs _ _).mono (fun r h c => ?_) (Cert.KvbTnIdeal.Value.run_blocks m ρ)
    exact ⟨(h c).1.trans (arr m c), (h c).2⟩
  · refine (θ_run Cert.KvbTnRefIdeal.defs _ _).mono (fun r h c => ?_) (Cert.KvbTnRefIdeal.Value.run m' ρ')
    obtain ⟨a0, a1⟩ := hargs c
    refine ⟨(h c).1.trans ?_, (h c).2⟩
    rw [Cert.KvbTnRefIdeal.Read.val_main_v6_eq, a0, a1]
    rfl

end Cert.KvbTnIdeal.Val

end
-- ==== Proof.Mm.KvbNn.lean ====
/- The product of the key and value up-projection. -/
module

public import proofs.«01_k».proof.Proof.Gen.KvbNnIdeal.Value
public import proofs.«01_k».proof.Proof.Gen.KvbNnRefIdeal
public import proofs.«01_k».proof.Proof.Gen.KvbNnRefIdeal.Read
public import proofs.«01_k».proof.Proof.Gen.KvbNnRefIdeal.Run
public import proofs.«01_k».proof.Defs
public import proofs.«01_k».proof.Proof.Mm.Base

@[expose] public section

set_option maxRecDepth 16384

noncomputable section

namespace Cert.KvbNnIdeal.Val

open Cert.KvbNnIdeal Cert.KvbNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S2048x256.Idx → EReal := m ((c : Thread nD τ).loc main_arg0)
abbrev x1 : S256x2048.Idx → EReal := m ((c : Thread nD τ).loc main_arg1)

/-! What the host lines hand to the kernel. -/

theorem entry_a (r : Fin 2048) (k : Fin 256) : V m c main_v0 (ix2 r k) = x0 m c (ix2 r k) := by
  entry_read
  pointwise

theorem entry_w (g : Fin 4) (k : Fin 256) (j : Fin 512) : V m c main_v3 (ix3 g k j) = x1 m c (ix2 k ⟨g.val * 512 + j.val, by omega⟩) := by
  entry_read
  pointwise

/-! One point of the grid. -/

theorem pay (p : Vec Ideal S1024x256 .bf16) (q : Vec Ideal S1x256x512 .bf16) (a : Fin 1024) (b : Fin 512) :
    k0_pay2 (F := Ideal) (k0_pay1 (F := Ideal)) p q (ix2 a b) = ∑ s : Fin 256, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x512) _ hz2]
  refine (View.readCov_cons_toLoadRect _ _ _ _).trans ?_
  simp only [View.readAt_eq_ld, (hs0_0 t).read_unread, (hs0_1 t).read_unread, View.ld_unit_zero (S := S1024x256) hz2, View.ld_unit_zero (S := S1x256x512) hz3]

/-! The blocks of the grid's points. -/

/-- The shard of the point, row `a` of its rows, and column `b` of its columns, in its shard and in the result. -/
def sh (t : ℕ) : Fin 4 := ⟨t / 2 % 4, by omega⟩
def row (t : ℕ) (a : Fin 1024) : Fin 2048 := ⟨1024 * (t / 1 % 2) + a.val, by omega⟩
def col (t : ℕ) (b : Fin 512) : Fin 512 := ⟨512 * (t / 1 % 1) + b.val, by omega⟩
def place (t : ℕ) (b : Fin 512) : Fin 2048 := ⟨512 * (t / 2 % 4 * 1 + t / 1 % 1) + b.val, by have := b.isLt; omega⟩

theorem idx : ∀ t : Fin cfg0.N, t.val / 2 < 4
    ∧ (win0_0.index t (0 : Fin 2) = t.val / 1 % 2 ∧ win0_0.index t (1 : Fin 2) = 0)
    ∧ (win0_1.index t (0 : Fin 3) = t.val / 2 ∧ win0_1.index t (1 : Fin 3) = 0 ∧ win0_1.index t (2 : Fin 3) = t.val / 1 % 1)
    ∧ (win0_2.index t (0 : Fin 2) = t.val / 1 % 2 ∧ win0_2.index t (1 : Fin 2) = (t.val / 2 * 1 + t.val / 1 % 1)) :=
  (by decide +kernel : ∀ t : Fin grid0.N, _)

/-- Column `j` of shard `g` of the weight. -/
def wcol (g : Fin 4) (k : Fin 256) (j : Fin 512) : EReal := x1 m c (ix2 k ⟨g.val * 512 + j.val, by omega⟩)

theorem blk0 (t : Fin cfg0.N) (a : Fin 1024) (s : Fin 256) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 1 % 2) + a.val; omega
  | ⟨1, _⟩ => show win0_0.index t (1 : Fin 2) * 256 + 1 * s.val = s.val; omega

theorem blk1 (t : Fin cfg0.N) (z : Fin 1) (s : Fin 256) (b : Fin 512) : iblk m c 1 t (ix3 z s b) = wcol m c (sh t.val) s (col t.val b) := by
  obtain ⟨ht, -, ⟨e0, e1, e2⟩, -⟩ := idx t
  have h : iblk m c 1 t (ix3 z s b) = V m c main_v3 (ix3 (sh t.val) s (col t.val b)) := by
    show V m c main_v3 (((cfg0.win 1).blk t).view.emb (ix3 z s b)) = _
    refine congrArg (V m c main_v3) (funext fun y => Fin.ext ?_)
    match y with
    | ⟨0, _⟩ => show win0_1.index t (0 : Fin 3) * 1 + 1 * z.val = t.val / 2 % 4; omega
    | ⟨1, _⟩ => show win0_1.index t (1 : Fin 3) * 256 + 1 * s.val = s.val; omega
    | ⟨2, _⟩ => show win0_1.index t (2 : Fin 3) * 512 + 1 * b.val = 512 * (t.val / 1 % 1) + b.val; omega
  rw [h]
  exact entry_w m c _ _ _

theorem emb (t : Fin cfg0.N) (a : Fin 1024) (b : Fin 512) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 1024 + 1 * a.val = 1024 * (t.val / 1 % 2) + a.val; omega
  | ⟨1, _⟩ => show win0_2.index t (1 : Fin 2) * 512 + 1 * b.val = 512 * (t.val / 2 % 4 * 1 + t.val / 1 % 1) + b.val; rw [e1, Nat.mod_eq_of_lt ht]; ring

/-! The reference. -/

/-- The reference's result. -/
def R : S2048x2048.Idx → EReal := Cert.KvbNnRefIdeal.Read.val_main_v0 (F := Ideal) (x0 m c) (x1 m c)

theorem ref_apply (t : Fin cfg0.N) (a : Fin 1024) (b : Fin 512) : R m c (ix2 (row t.val a) (place t.val b)) = ∑ k : Fin 256, x0 m c (ix2 (row t.val a) k) * wcol m c (sh t.val) k (col t.val b) := by
  unfold R wcol Cert.KvbNnRefIdeal.Read.val_main_v0
  generalize hr : row t.val a = r
  have hp : (place t.val b).val = 512 * (t.val / 2 % 4 * 1 + t.val / 1 % 1) + b.val := rfl
  have hc : (col t.val b).val = 512 * (t.val / 1 % 1) + b.val := rfl
  have hg : (sh t.val).val = t.val / 2 % 4 := rfl
  have hb := b.isLt
  generalize place t.val b = p at hp ⊢
  generalize col t.val b = j at hc ⊢
  generalize sh t.val = g at hg ⊢
  pointwise
  exact Finset.sum_congr rfl fun k _ => congrArg (fun z => x0 m c (ix2 r k) * x1 m c (ix2 k z)) (Fin.ext (by show p.val = g.val * 512 + j.val; omega))

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 512), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_KvbNnIdeal_KvbNnRefIdeal := by
  intro m ρ m' ρ' _ hargs
  refine ⟨fun c => R m c, ?_, ?_⟩
  · refine (θ_run defs _ _).mono (fun r h c => ?_) (Cert.KvbNnIdeal.Value.run_blocks m ρ)
    exact ⟨(h c).1.trans (arr m c), (h c).2⟩
  · refine (θ_run Cert.KvbNnRefIdeal.defs _ _).mono (fun r h c => ?_) (Cert.KvbNnRefIdeal.Value.run m' ρ')
    obtain ⟨a0, a1⟩ := hargs c
    refine ⟨(h c).1.trans ?_, (h c).2⟩
    rw [Cert.KvbNnRefIdeal.Read.val_main_v0_eq, a0, a1]
    rfl

end Cert.KvbNnIdeal.Val

end
-- ==== Proof.Mm.SqNt.lean ====
/- The gradient of the input of the square layers: the cotangent times the transposed weight, summed over the blocks of the weight's columns. -/
module

public import proofs.«01_k».proof.Proof.Gen.SqNtIdeal.Value
public import proofs.«01_k».proof.Proof.Gen.SqNtRefIdeal
public import proofs.«01_k».proof.Proof.Gen.SqNtRefIdeal.Read
public import proofs.«01_k».proof.Proof.Gen.SqNtRefIdeal.Run
public import proofs.«01_k».proof.Defs
public import proofs.«01_k».proof.Proof.Mm.Base

@[expose] public section

set_option maxRecDepth 16384

noncomputable section

namespace Cert.SqNtIdeal.Val

open Cert.SqNtIdeal Cert.SqNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x2048.Idx → EReal := m ((c : Thread nD τ).loc main_arg0)
abbrev x1 : S2048x2048.Idx → EReal := m ((c : Thread nD τ).loc main_arg1)

/-! What the host lines hand to the kernel. -/

theorem entry_d (r : Fin 2048) (j : Fin 2048) : V m c main_v0 (ix2 r j) = x0 m c (ix2 r j) := by
  entry_read
  pointwise

theorem entry_w (g : Fin 1) (k : Fin 2048) (j : Fin 2048) : V m c main_v2 (ix3 g k j) = x1 m c (ix2 k j) := by
  entry_read
  pointwise

/-! One point of the grid. -/

theorem pay (p : Vec Ideal S1024x2048 .bf16) (q : Vec Ideal S1x1024x2048 .bf16) (a : Fin 1024) (b : Fin 1024) :
    k0_pay2 (F := Ideal) (k0_pay1 (F := Ideal)) p q (ix2 a b) = ∑ s : Fin 2048, p (ix2 a s) * q (ix3 0 b s) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x1024) _ hz2]
  refine (View.readCov_cons_toLoadRect _ _ _ _).trans ?_
  simp only [View.readAt_eq_ld, (hs0_0 t).read_unread, (hs0_1 t).read_unread, View.ld_unit_zero (S := S1024x2048) hz2, View.ld_unit_zero (S := S1x1024x2048) hz3]

/-! The blocks of the grid's points. -/

/-- Row `a` of the point's rows, and column `b` of its columns. -/
def row (t : ℕ) (a : Fin 1024) : Fin 2048 := ⟨1024 * (t / 2 % 2) + a.val, by omega⟩
def col (t : ℕ) (b : Fin 1024) : Fin 2048 := ⟨1024 * (t / 1 % 2) + b.val, by omega⟩

theorem idx : ∀ t : Fin cfg0.N, t.val / 2 < 2
    ∧ (win0_0.index t (0 : Fin 2) = t.val / 2 ∧ win0_0.index t (1 : Fin 2) = 0)
    ∧ (win0_1.index t (0 : Fin 3) = 0 ∧ win0_1.index t (1 : Fin 3) = t.val / 1 % 2 ∧ win0_1.index t (2 : Fin 3) = 0)
    ∧ (win0_2.index t (0 : Fin 2) = t.val / 2 ∧ win0_2.index t (1 : Fin 2) = t.val / 1 % 2) :=
  (by decide +kernel : ∀ t : Fin grid0.N, _)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_d m c (row t.val a) s)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (z : Fin 1) (b : Fin 1024) (s : Fin 2048) : iblk m c 1 t (ix3 z b s) = x1 m c (ix2 (col t.val b) s) := by
  obtain ⟨ht, -, ⟨e0, e1, e2⟩, -⟩ := idx t
  refine Eq.trans ?_ (entry_w m c z (col t.val b) s)
  show V m c main_v2 (((cfg0.win 1).blk t).view.emb (ix3 z b s)) = _
  refine congrArg (V m c main_v2) (funext fun y => Fin.ext ?_)
  match y with
  | ⟨0, _⟩ => show win0_1.index t (0 : Fin 3) * 1 + 1 * z.val = z.val; omega
  | ⟨1, _⟩ => show win0_1.index t (1 : Fin 3) * 1024 + 1 * b.val = 1024 * (t.val / 1 % 2) + b.val; omega
  | ⟨2, _⟩ => show win0_1.index t (2 : Fin 3) * 2048 + 1 * s.val = s.val; omega

theorem emb (t : Fin cfg0.N) (a : Fin 1024) (b : Fin 1024) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 2 % 2) + a.val; omega
  | ⟨1, _⟩ => show win0_2.index t (1 : Fin 2) * 1024 + 1 * b.val = 1024 * (t.val / 1 % 2) + b.val; omega

/-! The reference. -/

/-- The reference's result. -/
def R : S2048x2048.Idx → EReal := Cert.SqNtRefIdeal.Read.val_main_v2 (F := Ideal) (x0 m c) (x1 m c)

theorem ref_apply (i : Fin 2048) (j : Fin 2048) : R m c (ix2 i j) = ∑ s : Fin 2048, x0 m c (ix2 i s) * x1 m c (ix2 j s) := by
  unfold R
  refine (Cert.SqNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 1024), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 b s)

/-- The kernel leaves the reference's result. -/
theorem algebraic : Cert.algebraic_SqNtIdeal_SqNtRefIdeal := by
  intro m ρ m' ρ' _ hargs
  refine ⟨fun c => R m c, ?_, ?_⟩
  · refine (θ_run defs _ _).mono (fun r h c => ?_) (Cert.SqNtIdeal.Value.run_blocks m ρ)
    exact ⟨(h c).1.trans (arr m c), (h c).2⟩
  · refine (θ_run Cert.SqNtRefIdeal.defs _ _).mono (fun r h c => ?_) (Cert.SqNtRefIdeal.Value.run m' ρ')
    obtain ⟨a0, a1⟩ := hargs c
    refine ⟨(h c).1.trans ?_, (h c).2⟩
    rw [Cert.SqNtRefIdeal.Read.val_main_v2_eq, a0, a1]
    rfl

end Cert.SqNtIdeal.Val

end
-- ==== Proof.Mm.SqTn.lean ====
/- The gradient of the weight of the square layers, one shard of its columns after another: the transposed input times the cotangent. -/
module

public import proofs.«01_k».proof.Proof.Gen.SqTnIdeal.Value
public import proofs.«01_k».proof.Proof.Gen.SqTnRefIdeal
public import proofs.«01_k».proof.Proof.Gen.SqTnRefIdeal.Read
public import proofs.«01_k».proof.Proof.Gen.SqTnRefIdeal.Run
public import proofs.«01_k».proof.Defs
public import proofs.«01_k».proof.Proof.Mm.Base

@[expose] public section

set_option maxRecDepth 16384

noncomputable section

namespace Cert.SqTnIdeal.Val

open Cert.SqTnIdeal Cert.SqTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x2048.Idx → EReal := m ((c : Thread nD τ).loc main_arg0)
abbrev x1 : S2048x2048.Idx → EReal := m ((c : Thread nD τ).loc main_arg1)

/-! What the host lines hand to the kernel. -/

theorem entry_a (k : Fin 2048) (r : Fin 2048) : V m c main_v1 (ix2 k r) = x0 m c (ix2 r k) := by
  entry_read
  pointwise

theorem entry_d (r : Fin 2048) (j : Fin 2048) : V m c main_v2 (ix2 r j) = x1 m c (ix2 r j) := by
  entry_read
  pointwise

/-! One point of the grid. -/

theorem pay (p : Vec Ideal S1024x2048 .bf16) (q : Vec Ideal S2048x1024 .bf16) (a : Fin 1024) (b : Fin 1024) :
    k0_pay2 (F := Ideal) (k0_pay1 (F := Ideal)) p q (ix2 a b) = ∑ s : Fin 2048, p (ix2 a s) * q (ix2 s b) := by
  unfold k0_pay2 k0_pay1
  pointwise

theorem pay_out (u : Vec Ideal S1024x1024 .f32) (z : Fin 1) (a : Fin 1024) (b : Fin 1024) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S1024x1024) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S1024x2048) hz2, View.ld_unit_zero (S := S2048x1024) hz2]

/-! The blocks of the grid's points. -/

/-- The shard of the point, row `a` of its rows, and column `b` of its columns. -/
def sh (t : ℕ) : Fin 1 := ⟨t / 4 % 1, by omega⟩
def row (t : ℕ) (a : Fin 1024) : Fin 2048 := ⟨1024 * (t / 2 % 2) + a.val, by omega⟩
def col (t : ℕ) (b : Fin 1024) : Fin 2048 := ⟨1024 * (t % 2) + b.val, by omega⟩

theorem idx : ∀ t : Fin cfg0.N, t.val / 4 < 1
    ∧ (win0_0.index t (0 : Fin 2) = t.val / 2 % 2 ∧ win0_0.index t (1 : Fin 2) = 0)
    ∧ (win0_1.index t (0 : Fin 2) = 0 ∧ win0_1.index t (1 : Fin 2) = t.val / 4 * 2 + t.val % 2)
    ∧ (win0_2.index t (0 : Fin 3) = t.val / 4 ∧ win0_2.index t (1 : Fin 3) = t.val / 2 % 2 ∧ win0_2.index t (2 : Fin 3) = t.val % 2) :=
  (by decide +kernel : ∀ t : Fin grid0.N, _)

/-- Column `j` of shard `g` of the cotangent. -/
def dcol (g : Fin 1) (r : Fin 2048) (j : Fin 2048) : EReal := x1 m c (ix2 r ⟨(g).val * 2048 + j.val, by omega⟩)

theorem blk0 (t : Fin cfg0.N) (a : Fin 1024) (s : Fin 2048) : iblk m c 0 t (ix2 a s) = x0 m c (ix2 s (row t.val a)) := by
  obtain ⟨ht, ⟨e0, e1⟩, -⟩ := idx t
  refine Eq.trans ?_ (entry_a m c (row t.val a) s)
  show V m c main_v1 (((cfg0.win 0).blk t).view.emb (ix2 a s)) = _
  refine congrArg (V m c main_v1) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (s : Fin 2048) (b : Fin 1024) : iblk m c 1 t (ix2 s b) = dcol m c (sh t.val) s (col t.val b) := by
  obtain ⟨ht, -, ⟨e0, e1⟩, -⟩ := idx t
  have h : iblk m c 1 t (ix2 s b) = V m c main_v2 (ix2 s ⟨1024 * (t.val / 4 * 2 + t.val % 2) + b.val, by have := b.isLt; omega⟩) := by
    show V m c main_v2 (((cfg0.win 1).blk t).view.emb (ix2 s b)) = _
    refine congrArg (V m c main_v2) (funext fun y => Fin.ext ?_)
    match y with
    | ⟨0, _⟩ => show win0_1.index t (0 : Fin 2) * 2048 + 1 * s.val = s.val; omega
    | ⟨1, _⟩ => show win0_1.index t (1 : Fin 2) * 1024 + 1 * b.val = 1024 * (t.val / 4 * 2 + t.val % 2) + b.val; rw [e1]; ring
  rw [h]
  rw [entry_d]
  refine congrArg (fun j => x1 m c (ix2 s j)) (Fin.ext ?_)
  show 1024 * (t.val / 4 * 2 + t.val % 2) + b.val = t.val / 4 % 1 * 2048 + (1024 * (t.val % 2) + b.val)
  have := b.isLt
  omega

theorem emb (t : Fin cfg0.N) (z : Fin 1) (a : Fin 1024) (b : Fin 1024) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 4 % 1; omega
  | ⟨1, _⟩ => show win0_2.index t (1 : Fin 3) * 1024 + 1 * a.val = 1024 * (t.val / 2 % 2) + a.val; omega
  | ⟨2, _⟩ => show win0_2.index t (2 : Fin 3) * 1024 + 1 * b.val = 1024 * (t.val % 2) + b.val; omega

/-! The reference. -/

/-- The reference's result. -/
def R : S1x2048x2048.Idx → EReal := Cert.SqTnRefIdeal.Read.val_main_v6 (F := Ideal) (x0 m c) (x1 m c)

theorem ref_apply (g : Fin 1) (k : Fin 2048) (j : Fin 2048) : R m c (ix3 g k j) = ∑ s : Fin 2048, x0 m c (ix2 s k) * dcol m c g s j := by
  unfold R dcol Cert.SqTnRefIdeal.Read.val_main_v6 Cert.SqTnRefIdeal.Read.val_main_v5 Cert.SqTnRefIdeal.Read.val_main_v4 Cert.SqTnRefIdeal.Read.val_main_v3 Cert.SqTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 1024) (b : Fin 1024), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_SqTnIdeal_SqTnRefIdeal := by
  intro m ρ m' ρ' _ hargs
  refine ⟨fun c => R m c, ?_, ?_⟩
  · refine (θ_run defs _ _).mono (fun r h c => ?_) (Cert.SqTnIdeal.Value.run_blocks m ρ)
    exact ⟨(h c).1.trans (arr m c), (h c).2⟩
  · refine (θ_run Cert.SqTnRefIdeal.defs _ _).mono (fun r h c => ?_) (Cert.SqTnRefIdeal.Value.run m' ρ')
    obtain ⟨a0, a1⟩ := hargs c
    refine ⟨(h c).1.trans ?_, (h c).2⟩
    rw [Cert.SqTnRefIdeal.Read.val_main_v6_eq, a0, a1]
    rfl

end Cert.SqTnIdeal.Val

end
-- ==== Proof.Mm.SqNn.lean ====
/- The product of the square layers. -/
module

public import proofs.«01_k».proof.Proof.Gen.SqNnIdeal.Value
public import proofs.«01_k».proof.Proof.Gen.SqNnRefIdeal
public import proofs.«01_k».proof.Proof.Gen.SqNnRefIdeal.Read
public import proofs.«01_k».proof.Proof.Gen.SqNnRefIdeal.Run
public import proofs.«01_k».proof.Defs
public import proofs.«01_k».proof.Proof.Mm.Base

@[expose] public section

set_option maxRecDepth 16384

noncomputable section

namespace Cert.SqNnIdeal.Val

open Cert.SqNnIdeal Cert.SqNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S2048x2048.Idx → EReal := m ((c : Thread nD τ).loc main_arg0)
abbrev x1 : S2048x2048.Idx → EReal := m ((c : Thread nD τ).loc main_arg1)

/-! What the host lines hand to the kernel. -/

theorem entry_a (r : Fin 2048) (k : Fin 2048) : V m c main_v0 (ix2 r k) = x0 m c (ix2 r k) := by
  entry_read
  pointwise

theorem entry_w (g : Fin 1) (k : Fin 2048) (j : Fin 2048) : V m c main_v2 (ix3 g k j) = x1 m c (ix2 k j) := by
  entry_read
  pointwise

/-! One point of the grid. -/

theorem pay (p : Vec Ideal S1024x2048 .bf16) (q : Vec Ideal S1x2048x1024 .bf16) (a : Fin 1024) (b : Fin 1024) :
    k0_pay2 (F := Ideal) (k0_pay1 (F := Ideal)) p q (ix2 a b) = ∑ s : Fin 2048, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x1024) _ hz2]
  refine (View.readCov_cons_toLoadRect _ _ _ _).trans ?_
  simp only [View.readAt_eq_ld, (hs0_0 t).read_unread, (hs0_1 t).read_unread, View.ld_unit_zero (S := S1024x2048) hz2, View.ld_unit_zero (S := S1x2048x1024) hz3]

/-! The blocks of the grid's points. -/

/-- The shard of the point, row `a` of its rows, and column `b` of its columns, in its shard and in the result. -/
def sh (t : ℕ) : Fin 1 := ⟨t / 4 % 1, by omega⟩
def row (t : ℕ) (a : Fin 1024) : Fin 2048 := ⟨1024 * (t / 2 % 2) + a.val, by omega⟩
def col (t : ℕ) (b : Fin 1024) : Fin 2048 := ⟨1024 * (t / 1 % 2) + b.val, by omega⟩
def place (t : ℕ) (b : Fin 1024) : Fin 2048 := ⟨1024 * (t / 4 % 1 * 2 + t / 1 % 2) + b.val, by have := b.isLt; omega⟩

theorem idx : ∀ t : Fin cfg0.N, t.val / 4 < 1
    ∧ (win0_0.index t (0 : Fin 2) = t.val / 2 % 2 ∧ win0_0.index t (1 : Fin 2) = 0)
    ∧ (win0_1.index t (0 : Fin 3) = t.val / 4 ∧ win0_1.index t (1 : Fin 3) = 0 ∧ win0_1.index t (2 : Fin 3) = t.val / 1 % 2)
    ∧ (win0_2.index t (0 : Fin 2) = t.val / 2 % 2 ∧ win0_2.index t (1 : Fin 2) = (t.val / 4 * 2 + t.val / 1 % 2)) :=
  (by decide +kernel : ∀ t : Fin grid0.N, _)

/-- Column `j` of shard `g` of the weight. -/
def wcol (g : Fin 1) (k : Fin 2048) (j : Fin 2048) : EReal := x1 m c (ix2 k j)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (z : Fin 1) (s : Fin 2048) (b : Fin 1024) : iblk m c 1 t (ix3 z s b) = wcol m c (sh t.val) s (col t.val b) := by
  obtain ⟨ht, -, ⟨e0, e1, e2⟩, -⟩ := idx t
  have h : iblk m c 1 t (ix3 z s b) = V m c main_v2 (ix3 (sh t.val) s (col t.val b)) := by
    show V m c main_v2 (((cfg0.win 1).blk t).view.emb (ix3 z s b)) = _
    refine congrArg (V m c main_v2) (funext fun y => Fin.ext ?_)
    match y with
    | ⟨0, _⟩ => show win0_1.index t (0 : Fin 3) * 1 + 1 * z.val = t.val / 4 % 1; omega
    | ⟨1, _⟩ => show win0_1.index t (1 : Fin 3) * 2048 + 1 * s.val = s.val; omega
    | ⟨2, _⟩ => show win0_1.index t (2 : Fin 3) * 1024 + 1 * b.val = 1024 * (t.val / 1 % 2) + b.val; omega
  rw [h]
  exact entry_w m c _ _ _

theorem emb (t : Fin cfg0.N) (a : Fin 1024) (b : Fin 1024) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 1024 + 1 * a.val = 1024 * (t.val / 2 % 2) + a.val; omega
  | ⟨1, _⟩ => show win0_2.index t (1 : Fin 2) * 1024 + 1 * b.val = 1024 * (t.val / 4 % 1 * 2 + t.val / 1 % 2) + b.val; rw [e1, Nat.mod_eq_of_lt ht]; ring

/-! The reference. -/

/-- The reference's result. -/
def R : S2048x2048.Idx → EReal := Cert.SqNnRefIdeal.Read.val_main_v0 (F := Ideal) (x0 m c) (x1 m c)

theorem ref_apply (t : Fin cfg0.N) (a : Fin 1024) (b : Fin 1024) : R m c (ix2 (row t.val a) (place t.val b)) = ∑ k : Fin 2048, x0 m c (ix2 (row t.val a) k) * wcol m c (sh t.val) k (col t.val b) := by
  unfold R wcol Cert.SqNnRefIdeal.Read.val_main_v0
  generalize hr : row t.val a = r
  have hp : (place t.val b).val = 1024 * (t.val / 4 % 1 * 2 + t.val / 1 % 2) + b.val := rfl
  have hc : (col t.val b).val = 1024 * (t.val / 1 % 2) + b.val := rfl
  have hg : (sh t.val).val = t.val / 4 % 1 := rfl
  have hb := b.isLt
  generalize place t.val b = p at hp ⊢
  generalize col t.val b = j at hc ⊢
  generalize sh t.val = g at hg ⊢
  pointwise
  obtain rfl : p = j := Fin.ext (by omega)
  rfl

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 1024), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_SqNnIdeal_SqNnRefIdeal := by
  intro m ρ m' ρ' _ hargs
  refine ⟨fun c => R m c, ?_, ?_⟩
  · refine (θ_run defs _ _).mono (fun r h c => ?_) (Cert.SqNnIdeal.Value.run_blocks m ρ)
    exact ⟨(h c).1.trans (arr m c), (h c).2⟩
  · refine (θ_run Cert.SqNnRefIdeal.defs _ _).mono (fun r h c => ?_) (Cert.SqNnRefIdeal.Value.run m' ρ')
    obtain ⟨a0, a1⟩ := hargs c
    refine ⟨(h c).1.trans ?_, (h c).2⟩
    rw [Cert.SqNnRefIdeal.Read.val_main_v0_eq, a0, a1]
    rfl

end Cert.SqNnIdeal.Val

end
-- ==== Proof.Mm.SqRes.lean ====
/- The product of the square layers, with the residual added. -/
module

public import proofs.«01_k».proof.Proof.Gen.SqResIdeal.Value
public import proofs.«01_k».proof.Proof.Gen.SqResRefIdeal
public import proofs.«01_k».proof.Proof.Gen.SqResRefIdeal.Read
public import proofs.«01_k».proof.Proof.Gen.SqResRefIdeal.Run
public import proofs.«01_k».proof.Defs
public import proofs.«01_k».proof.Proof.Mm.Base

@[expose] public section

set_option maxRecDepth 16384

noncomputable section

namespace Cert.SqResIdeal.Val

open Cert.SqResIdeal Cert.SqResIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight, and the residual. -/
abbrev x0 : S2048x2048.Idx → EReal := m ((c : Thread nD τ).loc main_arg0)
abbrev x1 : S2048x2048.Idx → EReal := m ((c : Thread nD τ).loc main_arg1)
abbrev x2 : S2048x2048.Idx → EReal := m ((c : Thread nD τ).loc main_arg2)

/-! What the host lines hand to the kernel. -/

theorem entry_a (r : Fin 2048) (k : Fin 2048) : V m c main_v0 (ix2 r k) = x0 m c (ix2 r k) := by
  entry_read
  pointwise

theorem entry_w (g : Fin 1) (k : Fin 2048) (j : Fin 2048) : V m c main_v2 (ix3 g k j) = x1 m c (ix2 k j) := by
  entry_read
  pointwise

/-! One point of the grid. -/

theorem pay (p : Vec Ideal S1024x2048 .bf16) (q : Vec Ideal S1x2048x1024 .bf16) (a : Fin 1024) (b : Fin 1024) :
    k0_pay2 (F := Ideal) (k0_pay1 (F := Ideal)) p q (ix2 a b) = ∑ s : Fin 2048, p (ix2 a s) * q (ix3 0 s b) := by
  unfold k0_pay2 k0_pay1
  pointwise

theorem pay_out (u w : Vec Ideal S1024x1024 .f32) (a : Fin 1024) (b : Fin 1024) : k0_pay3 (F := Ideal) u w (ix2 a b) = u (ix2 a b) + w (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) (iblk m c 2 t) := by
  unfold outsAt0 out0_A_3
  rw [View.read_writes_eq_canon _ _ _ (cover0_A_3 _ _ _ _ _ _ _ _ _ _ _ _ _ _ _ _ _ )]
  unfold kernelRun0_A
  dsimp only
  sl_unfold_words
  rw [View.canon_unit_zero hz2]
  rw [View.readCov_unit_zero (S := S1024x1024) _ hz2]
  refine congrArg₂ (k0_pay3 (F := Ideal)) ?_ ?_
  rotate_left
  · simp only [View.readAt_eq_ld, (hs0_0 t).read_unread, (hs0_1 t).read_unread, (hs0_2 t).read_unread, View.ld_unit_zero (S := S1024x2048) hz2, View.ld_unit_zero (S := S1x2048x1024) hz3, View.ld_unit_zero (S := S1024x1024) hz2]
  refine (View.readCov_cons_toLoadRect _ _ _ _).trans ?_
  simp only [View.readAt_eq_ld, (hs0_0 t).read_unread, (hs0_1 t).read_unread, (hs0_2 t).read_unread, View.ld_unit_zero (S := S1024x2048) hz2, View.ld_unit_zero (S := S1x2048x1024) hz3, View.ld_unit_zero (S := S1024x1024) hz2]

/-! The blocks of the grid's points. -/

/-- The shard of the point, row `a` of its rows, and column `b` of its columns, in its shard and in the result. -/
def sh (t : ℕ) : Fin 1 := ⟨t / 4 % 1, by omega⟩
def row (t : ℕ) (a : Fin 1024) : Fin 2048 := ⟨1024 * (t / 2 % 2) + a.val, by omega⟩
def col (t : ℕ) (b : Fin 1024) : Fin 2048 := ⟨1024 * (t / 1 % 2) + b.val, by omega⟩
def place (t : ℕ) (b : Fin 1024) : Fin 2048 := ⟨1024 * (t / 4 % 1 * 2 + t / 1 % 2) + b.val, by have := b.isLt; omega⟩

theorem idx : ∀ t : Fin cfg0.N, t.val / 4 < 1
    ∧ (win0_0.index t (0 : Fin 2) = t.val / 2 % 2 ∧ win0_0.index t (1 : Fin 2) = 0)
    ∧ (win0_1.index t (0 : Fin 3) = t.val / 4 ∧ win0_1.index t (1 : Fin 3) = 0 ∧ win0_1.index t (2 : Fin 3) = t.val / 1 % 2)
    ∧ (win0_3.index t (0 : Fin 2) = t.val / 2 % 2 ∧ win0_3.index t (1 : Fin 2) = (t.val / 4 * 2 + t.val / 1 % 2))
    ∧ (win0_2.index t (0 : Fin 2) = t.val / 2 % 2 ∧ win0_2.index t (1 : Fin 2) = (t.val / 4 * 2 + t.val / 1 % 2)) :=
  (by decide +kernel : ∀ t : Fin grid0.N, _)

/-- Column `j` of shard `g` of the weight. -/
def wcol (g : Fin 1) (k : Fin 2048) (j : Fin 2048) : EReal := x1 m c (ix2 k j)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 2048 + 1 * s.val = s.val; omega

theorem blk1 (t : Fin cfg0.N) (z : Fin 1) (s : Fin 2048) (b : Fin 1024) : iblk m c 1 t (ix3 z s b) = wcol m c (sh t.val) s (col t.val b) := by
  obtain ⟨ht, -, ⟨e0, e1, e2⟩, -⟩ := idx t
  have h : iblk m c 1 t (ix3 z s b) = V m c main_v2 (ix3 (sh t.val) s (col t.val b)) := by
    show V m c main_v2 (((cfg0.win 1).blk t).view.emb (ix3 z s b)) = _
    refine congrArg (V m c main_v2) (funext fun y => Fin.ext ?_)
    match y with
    | ⟨0, _⟩ => show win0_1.index t (0 : Fin 3) * 1 + 1 * z.val = t.val / 4 % 1; omega
    | ⟨1, _⟩ => show win0_1.index t (1 : Fin 3) * 2048 + 1 * s.val = s.val; omega
    | ⟨2, _⟩ => show win0_1.index t (2 : Fin 3) * 1024 + 1 * b.val = 1024 * (t.val / 1 % 2) + b.val; omega
  rw [h]
  exact entry_w m c _ _ _

theorem emb (t : Fin cfg0.N) (a : Fin 1024) (b : Fin 1024) : ((cfg0.win 3).blk t).view.emb (ix2 a b) = ix2 (row t.val a) (place t.val b) := by
  obtain ⟨ht, -, -, ⟨e0, e1⟩, -⟩ := idx t
  refine funext fun y => Fin.ext ?_
  match y with
  | ⟨0, _⟩ => show win0_3.index t (0 : Fin 2) * 1024 + 1 * a.val = 1024 * (t.val / 2 % 2) + a.val; omega
  | ⟨1, _⟩ => show win0_3.index t (1 : Fin 2) * 1024 + 1 * b.val = 1024 * (t.val / 4 % 1 * 2 + t.val / 1 % 2) + b.val; rw [e1, Nat.mod_eq_of_lt ht]; ring

theorem blk2 (t : Fin cfg0.N) (a : Fin 1024) (b : Fin 1024) : iblk m c 2 t (ix2 a b) = x2 m c (ix2 (row t.val a) (place t.val b)) := by
  obtain ⟨ht, -, -, -, e0, e1⟩ := idx t
  rw [show x2 m c = V m c main_arg2 from (V_main_arg2 m c).symm]
  show V m c main_arg2 (((cfg0.win 2).blk t).view.emb (ix2 a b)) = _
  refine congrArg (V m c main_arg2) (funext fun y => Fin.ext ?_)
  match y with
  | ⟨0, _⟩ => show win0_2.index t (0 : Fin 2) * 1024 + 1 * a.val = 1024 * (t.val / 2 % 2) + a.val; omega
  | ⟨1, _⟩ => show win0_2.index t (1 : Fin 2) * 1024 + 1 * b.val = 1024 * (t.val / 4 % 1 * 2 + t.val / 1 % 2) + b.val; rw [e1, Nat.mod_eq_of_lt ht]; ring

/-! The reference. -/

/-- The reference's result. -/
def R : S2048x2048.Idx → EReal := Cert.SqResRefIdeal.Read.val_main_v1 (F := Ideal) (x0 m c) (x1 m c) (x2 m c)

theorem ref_apply (t : Fin cfg0.N) (a : Fin 1024) (b : Fin 1024) : R m c (ix2 (row t.val a) (place t.val b)) = x2 m c (ix2 (row t.val a) (place t.val b)) + ∑ k : Fin 2048, x0 m c (ix2 (row t.val a) k) * wcol m c (sh t.val) k (col t.val b) := by
  unfold R wcol Cert.SqResRefIdeal.Read.val_main_v1 Cert.SqResRefIdeal.Read.val_main_v0
  generalize hr : row t.val a = r
  have hp : (place t.val b).val = 1024 * (t.val / 4 % 1 * 2 + t.val / 1 % 2) + b.val := rfl
  have hc : (col t.val b).val = 1024 * (t.val / 1 % 2) + b.val := rfl
  have hg : (sh t.val).val = t.val / 4 % 1 := rfl
  have hb := b.isLt
  generalize place t.val b = p at hp ⊢
  generalize col t.val b = j at hc ⊢
  generalize sh t.val = g at hg ⊢
  pointwise
  obtain rfl : p = j := Fin.ext (by omega)
  rfl

theorem arr : (dats m 0 c).arrAt 3 cfg0.N = R m c := by
  refine (dats m 0 c).arrAt_eq_of_covers 3 (R m c) (by decide +kernel) fun t _ y => ?_
  blk_simp
  rw [after0_3]
  obtain ⟨a, b, rfl⟩ : ∃ (a : Fin 1024) (b : Fin 1024), y = ix2 a b := ⟨y 0, y 1, eta2 y⟩
  show outsAt0 m c t (ix2 a b) = R m c (((cfg0.win 3).blk t).view.emb (ix2 a b))
  rw [emb, ref_apply, out, pay_out, blk2, add_comm, pay]
  exact congrArg _ <| Finset.sum_congr rfl fun s _ => congrArg₂ (· * ·) (blk0 m c t a s) (blk1 m c t 0 s b)

/-- The kernel leaves the reference's result. -/
theorem algebraic : Cert.algebraic_SqResIdeal_SqResRefIdeal := by
  intro m ρ m' ρ' _ hargs
  refine ⟨fun c => R m c, ?_, ?_⟩
  · refine (θ_run defs _ _).mono (fun r h c => ?_) (Cert.SqResIdeal.Value.run_blocks m ρ)
    exact ⟨(h c).1.trans (arr m c), (h c).2⟩
  · refine (θ_run Cert.SqResRefIdeal.defs _ _).mono (fun r h c => ?_) (Cert.SqResRefIdeal.Value.run m' ρ')
    obtain ⟨a0, a1, a2⟩ := hargs c
    refine ⟨(h c).1.trans ?_, (h c).2⟩
    rw [Cert.SqResRefIdeal.Read.val_main_v1_eq, a0, a1, a2]
    rfl

end Cert.SqResIdeal.Val

end
-- ==== Proof.Mm.MemNt.lean ====
/- The gradient of the input of the layers over the memory: the cotangent times the transposed weight, summed over the blocks of the weight's columns. -/
module

public import proofs.«01_k».proof.Proof.Gen.MemNtIdeal.Value
public import proofs.«01_k».proof.Proof.Gen.MemNtRefIdeal
public import proofs.«01_k».proof.Proof.Gen.MemNtRefIdeal.Read
public import proofs.«01_k».proof.Proof.Gen.MemNtRefIdeal.Run
public import proofs.«01_k».proof.Defs
public import proofs.«01_k».proof.Proof.Mm.Base

@[expose] public section

set_option maxRecDepth 16384

noncomputable section

namespace Cert.MemNtIdeal.Val

open Cert.MemNtIdeal Cert.MemNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S256x2048.Idx → EReal := m ((c : Thread nD τ).loc main_arg0)
abbrev x1 : S2048x2048.Idx → EReal := m ((c : Thread nD τ).loc main_arg1)

/-! What the host lines hand to the kernel. -/

theorem entry_d (r : Fin 256) (j : Fin 2048) : V m c main_v0 (ix2 r j) = x0 m c (ix2 r j) := by
  entry_read
  pointwise

theorem entry_w (g : Fin 1) (k : Fin 2048) (j : Fin 2048) : V m c main_v2 (ix3 g k j) = x1 m c (ix2 k j) := by
  entry_read
  pointwise

/-! One point of the grid. -/

theorem pay (p : Vec Ideal S256x2048 .bf16) (q : Vec Ideal S1x1024x2048 .bf16) (a : Fin 256) (b : Fin 1024) :
    k0_pay2 (F := Ideal) (k0_pay1 (F := Ideal)) p q (ix2 a b) = ∑ s : Fin 2048, p (ix2 a s) * q (ix3 0 b s) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S256x1024) _ hz2]
  refine (View.readCov_cons_toLoadRect _ _ _ _).trans ?_
  simp only [View.readAt_eq_ld, (hs0_0 t).read_unread, (hs0_1 t).read_unread, View.ld_unit_zero (S := S256x2048) hz2, View.ld_unit_zero (S := S1x1024x2048) hz3]

/-! The blocks of the grid's points. -/

/-- Row `a` of the point's rows, and column `b` of its columns. -/
def row (t : ℕ) (a : Fin 256) : Fin 256 := ⟨256 * (t / 2 % 1) + a.val, by omega⟩
def col (t : ℕ) (b : Fin 1024) : Fin 2048 := ⟨1024 * (t / 1 % 2) + b.val, by omega⟩

theorem idx : ∀ t : Fin cfg0.N, t.val / 2 < 1
    ∧ (win0_0.index t (0 : Fin 2) = t.val / 2 ∧ win0_0.index t (1 : Fin 2) = 0)
    ∧ (win0_1.index t (0 : Fin 3) = 0 ∧ win0_1.index t (1 : Fin 3) = t.val / 1 % 2 ∧ win0_1.index t (2 : Fin 3) = 0)
    ∧ (win0_2.index t (0 : Fin 2) = t.val / 2 ∧ win0_2.index t (1 : Fin 2) = t.val / 1 % 2) :=
  (by decide +kernel : ∀ t : Fin grid0.N, _)

theorem blk0 (t : Fin cfg0.N) (a : Fin 256) (s : Fin 2048) : iblk m c 0 t (ix2 a s) = x0 m c (ix2 (row t.val a) s) := by
  obtain ⟨ht, ⟨e0, e1⟩, -⟩ := idx t
  refine Eq.trans ?_ (entry_d m c (row t.val a) s)
  show V m c main_v0 (((cfg0.win 0).blk t).view.emb (ix2 a s)) = _
  refine congrArg (V m c main_v0) (funext fun y => Fin.ext ?_)
  match y with
  | ⟨0, _⟩ => show win0_0.index t (0 : Fin 2) * 256 + 1 * a.val = 256 * (t.val / 2 % 1) + a.val; omega
  | ⟨1, _⟩ => show win0_0.index t (1 : Fin 2) * 2048 + 1 * s.val = s.val; omega

theorem blk1 (t : Fin cfg0.N) (z : Fin 1) (b : Fin 1024) (s : Fin 2048) : iblk m c 1 t (ix3 z b s) = x1 m c (ix2 (col t.val b) s) := by
  obtain ⟨ht, -, ⟨e0, e1, e2⟩, -⟩ := idx t
  refine Eq.trans ?_ (entry_w m c z (col t.val b) s)
  show V m c main_v2 (((cfg0.win 1).blk t).view.emb (ix3 z b s)) = _
  refine congrArg (V m c main_v2) (funext fun y => Fin.ext ?_)
  match y with
  | ⟨0, _⟩ => show win0_1.index t (0 : Fin 3) * 1 + 1 * z.val = z.val; omega
  | ⟨1, _⟩ => show win0_1.index t (1 : Fin 3) * 1024 + 1 * b.val = 1024 * (t.val / 1 % 2) + b.val; omega
  | ⟨2, _⟩ => show win0_1.index t (2 : Fin 3) * 2048 + 1 * s.val = s.val; omega

theorem emb (t : Fin cfg0.N) (a : Fin 256) (b : Fin 1024) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 256 + 1 * a.val = 256 * (t.val / 2 % 1) + a.val; omega
  | ⟨1, _⟩ => show win0_2.index t (1 : Fin 2) * 1024 + 1 * b.val = 1024 * (t.val / 1 % 2) + b.val; omega

/-! The reference. -/

/-- The reference's result. -/
def R : S256x2048.Idx → EReal := Cert.MemNtRefIdeal.Read.val_main_v2 (F := Ideal) (x0 m c) (x1 m c)

theorem ref_apply (i : Fin 256) (j : Fin 2048) : R m c (ix2 i j) = ∑ s : Fin 2048, x0 m c (ix2 i s) * x1 m c (ix2 j s) := by
  unfold R
  refine (Cert.MemNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 256) (b : Fin 1024), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 b s)

/-- The kernel leaves the reference's result. -/
theorem algebraic : Cert.algebraic_MemNtIdeal_MemNtRefIdeal := by
  intro m ρ m' ρ' _ hargs
  refine ⟨fun c => R m c, ?_, ?_⟩
  · refine (θ_run defs _ _).mono (fun r h c => ?_) (Cert.MemNtIdeal.Value.run_blocks m ρ)
    exact ⟨(h c).1.trans (arr m c), (h c).2⟩
  · refine (θ_run Cert.MemNtRefIdeal.defs _ _).mono (fun r h c => ?_) (Cert.MemNtRefIdeal.Value.run m' ρ')
    obtain ⟨a0, a1⟩ := hargs c
    refine ⟨(h c).1.trans ?_, (h c).2⟩
    rw [Cert.MemNtRefIdeal.Read.val_main_v2_eq, a0, a1]
    rfl

end Cert.MemNtIdeal.Val

end
-- ==== Proof.Mm.MemTn.lean ====
/- The gradient of the weight of the layers over the memory, one shard of its columns after another: the transposed input times the cotangent. -/
module

public import proofs.«01_k».proof.Proof.Gen.MemTnIdeal.Value
public import proofs.«01_k».proof.Proof.Gen.MemTnRefIdeal
public import proofs.«01_k».proof.Proof.Gen.MemTnRefIdeal.Read
public import proofs.«01_k».proof.Proof.Gen.MemTnRefIdeal.Run
public import proofs.«01_k».proof.Defs
public import proofs.«01_k».proof.Proof.Mm.Base

@[expose] public section

set_option maxRecDepth 16384

noncomputable section

namespace Cert.MemTnIdeal.Val

open Cert.MemTnIdeal Cert.MemTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S256x2048.Idx → EReal := m ((c : Thread nD τ).loc main_arg0)
abbrev x1 : S256x2048.Idx → EReal := m ((c : Thread nD τ).loc main_arg1)

/-! What the host lines hand to the kernel. -/

theorem entry_a (k : Fin 2048) (r : Fin 256) : V m c main_v1 (ix2 k r) = x0 m c (ix2 r k) := by
  entry_read
  pointwise

theorem entry_d (r : Fin 256) (j : Fin 2048) : V m c main_v2 (ix2 r j) = x1 m c (ix2 r j) := by
  entry_read
  pointwise

/-! One point of the grid. -/

theorem pay (p : Vec Ideal S1024x256 .bf16) (q : Vec Ideal S256x1024 .bf16) (a : Fin 1024) (b : Fin 1024) :
    k0_pay2 (F := Ideal) (k0_pay1 (F := Ideal)) p q (ix2 a b) = ∑ s : Fin 256, p (ix2 a s) * q (ix2 s b) := by
  unfold k0_pay2 k0_pay1
  pointwise

theorem pay_out (u : Vec Ideal S1024x1024 .f32) (z : Fin 1) (a : Fin 1024) (b : Fin 1024) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S1024x1024) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S1024x256) hz2, View.ld_unit_zero (S := S256x1024) hz2]

/-! The blocks of the grid's points. -/

/-- The shard of the point, row `a` of its rows, and column `b` of its columns. -/
def sh (t : ℕ) : Fin 1 := ⟨t / 4 % 1, by omega⟩
def row (t : ℕ) (a : Fin 1024) : Fin 2048 := ⟨1024 * (t / 2 % 2) + a.val, by omega⟩
def col (t : ℕ) (b : Fin 1024) : Fin 2048 := ⟨1024 * (t % 2) + b.val, by omega⟩

theorem idx : ∀ t : Fin cfg0.N, t.val / 4 < 1
    ∧ (win0_0.index t (0 : Fin 2) = t.val / 2 % 2 ∧ win0_0.index t (1 : Fin 2) = 0)
    ∧ (win0_1.index t (0 : Fin 2) = 0 ∧ win0_1.index t (1 : Fin 2) = t.val / 4 * 2 + t.val % 2)
    ∧ (win0_2.index t (0 : Fin 3) = t.val / 4 ∧ win0_2.index t (1 : Fin 3) = t.val / 2 % 2 ∧ win0_2.index t (2 : Fin 3) = t.val % 2) :=
  (by decide +kernel : ∀ t : Fin grid0.N, _)

/-- Column `j` of shard `g` of the cotangent. -/
def dcol (g : Fin 1) (r : Fin 256) (j : Fin 2048) : EReal := x1 m c (ix2 r ⟨(g).val * 2048 + j.val, by omega⟩)

theorem blk0 (t : Fin cfg0.N) (a : Fin 1024) (s : Fin 256) : iblk m c 0 t (ix2 a s) = x0 m c (ix2 s (row t.val a)) := by
  obtain ⟨ht, ⟨e0, e1⟩, -⟩ := idx t
  refine Eq.trans ?_ (entry_a m c (row t.val a) s)
  show V m c main_v1 (((cfg0.win 0).blk t).view.emb (ix2 a s)) = _
  refine congrArg (V m c main_v1) (funext fun y => Fin.ext ?_)
  match y with
  | ⟨0, _⟩ => show win0_0.index t (0 : Fin 2) * 1024 + 1 * a.val = 1024 * (t.val / 2 % 2) + a.val; omega
  | ⟨1, _⟩ => show win0_0.index t (1 : Fin 2) * 256 + 1 * s.val = s.val; omega

theorem blk1 (t : Fin cfg0.N) (s : Fin 256) (b : Fin 1024) : iblk m c 1 t (ix2 s b) = dcol m c (sh t.val) s (col t.val b) := by
  obtain ⟨ht, -, ⟨e0, e1⟩, -⟩ := idx t
  have h : iblk m c 1 t (ix2 s b) = V m c main_v2 (ix2 s ⟨1024 * (t.val / 4 * 2 + t.val % 2) + b.val, by have := b.isLt; omega⟩) := by
    show V m c main_v2 (((cfg0.win 1).blk t).view.emb (ix2 s b)) = _
    refine congrArg (V m c main_v2) (funext fun y => Fin.ext ?_)
    match y with
    | ⟨0, _⟩ => show win0_1.index t (0 : Fin 2) * 256 + 1 * s.val = s.val; omega
    | ⟨1, _⟩ => show win0_1.index t (1 : Fin 2) * 1024 + 1 * b.val = 1024 * (t.val / 4 * 2 + t.val % 2) + b.val; rw [e1]; ring
  rw [h]
  rw [entry_d]
  refine congrArg (fun j => x1 m c (ix2 s j)) (Fin.ext ?_)
  show 1024 * (t.val / 4 * 2 + t.val % 2) + b.val = t.val / 4 % 1 * 2048 + (1024 * (t.val % 2) + b.val)
  have := b.isLt
  omega

theorem emb (t : Fin cfg0.N) (z : Fin 1) (a : Fin 1024) (b : Fin 1024) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 4 % 1; omega
  | ⟨1, _⟩ => show win0_2.index t (1 : Fin 3) * 1024 + 1 * a.val = 1024 * (t.val / 2 % 2) + a.val; omega
  | ⟨2, _⟩ => show win0_2.index t (2 : Fin 3) * 1024 + 1 * b.val = 1024 * (t.val % 2) + b.val; omega

/-! The reference. -/

/-- The reference's result. -/
def R : S1x2048x2048.Idx → EReal := Cert.MemTnRefIdeal.Read.val_main_v6 (F := Ideal) (x0 m c) (x1 m c)

theorem ref_apply (g : Fin 1) (k : Fin 2048) (j : Fin 2048) : R m c (ix3 g k j) = ∑ s : Fin 256, x0 m c (ix2 s k) * dcol m c g s j := by
  unfold R dcol Cert.MemTnRefIdeal.Read.val_main_v6 Cert.MemTnRefIdeal.Read.val_main_v5 Cert.MemTnRefIdeal.Read.val_main_v4 Cert.MemTnRefIdeal.Read.val_main_v3 Cert.MemTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 1024) (b : Fin 1024), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_MemTnIdeal_MemTnRefIdeal := by
  intro m ρ m' ρ' _ hargs
  refine ⟨fun c => R m c, ?_, ?_⟩
  · refine (θ_run defs _ _).mono (fun r h c => ?_) (Cert.MemTnIdeal.Value.run_blocks m ρ)
    exact ⟨(h c).1.trans (arr m c), (h c).2⟩
  · refine (θ_run Cert.MemTnRefIdeal.defs _ _).mono (fun r h c => ?_) (Cert.MemTnRefIdeal.Value.run m' ρ')
    obtain ⟨a0, a1⟩ := hargs c
    refine ⟨(h c).1.trans ?_, (h c).2⟩
    rw [Cert.MemTnRefIdeal.Read.val_main_v6_eq, a0, a1]
    rfl

end Cert.MemTnIdeal.Val

end
-- ==== Proof.Mm.MemNn.lean ====
/- The product of the layers over the memory. -/
module

public import proofs.«01_k».proof.Proof.Gen.MemNnIdeal.Value
public import proofs.«01_k».proof.Proof.Gen.MemNnRefIdeal
public import proofs.«01_k».proof.Proof.Gen.MemNnRefIdeal.Read
public import proofs.«01_k».proof.Proof.Gen.MemNnRefIdeal.Run
public import proofs.«01_k».proof.Defs
public import proofs.«01_k».proof.Proof.Mm.Base

@[expose] public section

set_option maxRecDepth 16384

noncomputable section

namespace Cert.MemNnIdeal.Val

open Cert.MemNnIdeal Cert.MemNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S256x2048.Idx → EReal := m ((c : Thread nD τ).loc main_arg0)
abbrev x1 : S2048x2048.Idx → EReal := m ((c : Thread nD τ).loc main_arg1)

/-! What the host lines hand to the kernel. -/

theorem entry_a (r : Fin 256) (k : Fin 2048) : V m c main_v0 (ix2 r k) = x0 m c (ix2 r k) := by
  entry_read
  pointwise

theorem entry_w (g : Fin 1) (k : Fin 2048) (j : Fin 2048) : V m c main_v2 (ix3 g k j) = x1 m c (ix2 k j) := by
  entry_read
  pointwise

/-! One point of the grid. -/

theorem pay (p : Vec Ideal S256x2048 .bf16) (q : Vec Ideal S1x2048x1024 .bf16) (a : Fin 256) (b : Fin 1024) :
    k0_pay2 (F := Ideal) (k0_pay1 (F := Ideal)) p q (ix2 a b) = ∑ s : Fin 2048, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S256x1024) _ hz2]
  refine (View.readCov_cons_toLoadRect _ _ _ _).trans ?_
  simp only [View.readAt_eq_ld, (hs0_0 t).read_unread, (hs0_1 t).read_unread, View.ld_unit_zero (S := S256x2048) hz2, View.ld_unit_zero (S := S1x2048x1024) hz3]

/-! The blocks of the grid's points. -/

/-- The shard of the point, row `a` of its rows, and column `b` of its columns, in its shard and in the result. -/
def sh (t : ℕ) : Fin 1 := ⟨t / 2 % 1, by omega⟩
def row (t : ℕ) (a : Fin 256) : Fin 256 := ⟨256 * (t / 2 % 1) + a.val, by omega⟩
def col (t : ℕ) (b : Fin 1024) : Fin 2048 := ⟨1024 * (t / 1 % 2) + b.val, by omega⟩
def place (t : ℕ) (b : Fin 1024) : Fin 2048 := ⟨1024 * (t / 2 % 1 * 2 + t / 1 % 2) + b.val, by have := b.isLt; omega⟩

theorem idx : ∀ t : Fin cfg0.N, t.val / 2 < 1
    ∧ (win0_0.index t (0 : Fin 2) = t.val / 2 % 1 ∧ win0_0.index t (1 : Fin 2) = 0)
    ∧ (win0_1.index t (0 : Fin 3) = t.val / 2 ∧ win0_1.index t (1 : Fin 3) = 0 ∧ win0_1.index t (2 : Fin 3) = t.val / 1 % 2)
    ∧ (win0_2.index t (0 : Fin 2) = t.val / 2 % 1 ∧ win0_2.index t (1 : Fin 2) = (t.val / 2 * 2 + t.val / 1 % 2)) :=
  (by decide +kernel : ∀ t : Fin grid0.N, _)

/-- Column `j` of shard `g` of the weight. -/
def wcol (g : Fin 1) (k : Fin 2048) (j : Fin 2048) : EReal := x1 m c (ix2 k j)

theorem blk0 (t : Fin cfg0.N) (a : Fin 256) (s : Fin 2048) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 256 + 1 * a.val = 256 * (t.val / 2 % 1) + a.val; omega
  | ⟨1, _⟩ => show win0_0.index t (1 : Fin 2) * 2048 + 1 * s.val = s.val; omega

theorem blk1 (t : Fin cfg0.N) (z : Fin 1) (s : Fin 2048) (b : Fin 1024) : iblk m c 1 t (ix3 z s b) = wcol m c (sh t.val) s (col t.val b) := by
  obtain ⟨ht, -, ⟨e0, e1, e2⟩, -⟩ := idx t
  have h : iblk m c 1 t (ix3 z s b) = V m c main_v2 (ix3 (sh t.val) s (col t.val b)) := by
    show V m c main_v2 (((cfg0.win 1).blk t).view.emb (ix3 z s b)) = _
    refine congrArg (V m c main_v2) (funext fun y => Fin.ext ?_)
    match y with
    | ⟨0, _⟩ => show win0_1.index t (0 : Fin 3) * 1 + 1 * z.val = t.val / 2 % 1; omega
    | ⟨1, _⟩ => show win0_1.index t (1 : Fin 3) * 2048 + 1 * s.val = s.val; omega
    | ⟨2, _⟩ => show win0_1.index t (2 : Fin 3) * 1024 + 1 * b.val = 1024 * (t.val / 1 % 2) + b.val; omega
  rw [h]
  exact entry_w m c _ _ _

theorem emb (t : Fin cfg0.N) (a : Fin 256) (b : Fin 1024) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 256 + 1 * a.val = 256 * (t.val / 2 % 1) + a.val; omega
  | ⟨1, _⟩ => show win0_2.index t (1 : Fin 2) * 1024 + 1 * b.val = 1024 * (t.val / 2 % 1 * 2 + t.val / 1 % 2) + b.val; rw [e1, Nat.mod_eq_of_lt ht]; ring

/-! The reference. -/

/-- The reference's result. -/
def R : S256x2048.Idx → EReal := Cert.MemNnRefIdeal.Read.val_main_v0 (F := Ideal) (x0 m c) (x1 m c)

theorem ref_apply (t : Fin cfg0.N) (a : Fin 256) (b : Fin 1024) : R m c (ix2 (row t.val a) (place t.val b)) = ∑ k : Fin 2048, x0 m c (ix2 (row t.val a) k) * wcol m c (sh t.val) k (col t.val b) := by
  unfold R wcol Cert.MemNnRefIdeal.Read.val_main_v0
  generalize hr : row t.val a = r
  have hp : (place t.val b).val = 1024 * (t.val / 2 % 1 * 2 + t.val / 1 % 2) + b.val := rfl
  have hc : (col t.val b).val = 1024 * (t.val / 1 % 2) + b.val := rfl
  have hg : (sh t.val).val = t.val / 2 % 1 := rfl
  have hb := b.isLt
  generalize place t.val b = p at hp ⊢
  generalize col t.val b = j at hc ⊢
  generalize sh t.val = g at hg ⊢
  pointwise
  obtain rfl : p = j := Fin.ext (by omega)
  rfl

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 256) (b : Fin 1024), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_MemNnIdeal_MemNnRefIdeal := by
  intro m ρ m' ρ' _ hargs
  refine ⟨fun c => R m c, ?_, ?_⟩
  · refine (θ_run defs _ _).mono (fun r h c => ?_) (Cert.MemNnIdeal.Value.run_blocks m ρ)
    exact ⟨(h c).1.trans (arr m c), (h c).2⟩
  · refine (θ_run Cert.MemNnRefIdeal.defs _ _).mono (fun r h c => ?_) (Cert.MemNnRefIdeal.Value.run m' ρ')
    obtain ⟨a0, a1⟩ := hargs c
    refine ⟨(h c).1.trans ?_, (h c).2⟩
    rw [Cert.MemNnRefIdeal.Read.val_main_v0_eq, a0, a1]
    rfl

end Cert.MemNnIdeal.Val

end
-- ==== Proof.Mm.UpNt.lean ====
/- The gradient of the input of the gated network's up-projection: the cotangent times the transposed weight, summed over the blocks of the weight's columns. -/
module

public import proofs.«01_k».proof.Proof.Gen.UpNtIdeal.Value
public import proofs.«01_k».proof.Proof.Gen.UpNtRefIdeal
public import proofs.«01_k».proof.Proof.Gen.UpNtRefIdeal.Read
public import proofs.«01_k».proof.Proof.Gen.UpNtRefIdeal.Run
public import proofs.«01_k».proof.Defs
public import proofs.«01_k».proof.Proof.Mm.Base
public import proofs.«01_k».proof.Proof.BlockSum

@[expose] public section

set_option maxRecDepth 16384

noncomputable section

namespace Cert.UpNtIdeal.Val

open Cert.UpNtIdeal Cert.UpNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x11264.Idx → EReal := m ((c : Thread nD τ).loc main_arg0)
abbrev x1 : S2048x11264.Idx → EReal := m ((c : Thread nD τ).loc main_arg1)

/-! What the host lines hand to the kernel. -/

theorem entry_d (r : Fin 2048) (j : Fin 11264) : V m c main_v3 (ix2 r j) = x0 m c (ix2 r ⟨j.val / 256 % 2 * 5632 + j.val / 512 * 256 + j.val % 256, by omega⟩) := by
  entry_read
  pointwise

theorem entry_w (g : Fin 4) (k : Fin 2048) (j : Fin 2816) : V m c main_v6 (ix3 g k j) = x1 m c (ix2 k ⟨g.val * 2816 + j.val, by omega⟩) := by
  entry_read
  pointwise

/-! One point of the grid. -/

theorem pay_zero (a : Fin 1024) (b : Fin 1024) : k0_pay1 (F := Ideal) (ix2 a b) = 0 := by
  unfold k0_pay1
  pointwise

theorem pay_add (u : Vec Ideal S1024x1024 .f32) (p : Vec Ideal S1024x256 .bf16) (q : Vec Ideal S1x1024x256 .bf16) (a : Fin 1024) (b : Fin 1024) :
    k0_pay2 (F := Ideal) u p q (ix2 a b) = u (ix2 a b) + ∑ s : Fin 256, p (ix2 a s) * q (ix3 0 b s) := by
  unfold k0_pay2
  pointwise

/-! The blocks of the grid's points. -/

/-- Row `a` of the point's rows, and column `b` of its columns. -/
def row (t : ℕ) (a : Fin 1024) : Fin 2048 := ⟨1024 * (t / 88 % 2) + a.val, by omega⟩
def col (t : ℕ) (b : Fin 1024) : Fin 2048 := ⟨1024 * (t / 44 % 2) + b.val, by omega⟩

theorem idx : ∀ t : Fin cfg0.N, t.val / 88 < 2
    ∧ (win0_0.index t (0 : Fin 2) = t.val / 88 ∧ win0_0.index t (1 : Fin 2) = (if t.val % 44 < 22 then 2 * (t.val % 44) else 2 * (t.val % 44 - 22) + 1))
    ∧ (win0_1.index t (0 : Fin 3) = t.val % 44 / 11 ∧ win0_1.index t (1 : Fin 3) = t.val / 44 % 2 ∧ win0_1.index t (2 : Fin 3) = t.val % 44 % 11)
    ∧ (win0_2.index t (0 : Fin 2) = t.val / 88 ∧ win0_2.index t (1 : Fin 2) = t.val / 44 % 2) :=
  (by decide +kernel : ∀ t : Fin grid0.N, _)

theorem blk0 (t : Fin cfg0.N) (a : Fin 1024) (s : Fin 256) : iblk m c 0 t (ix2 a s) = x0 m c (ix2 (row t.val a) ⟨256 * (t.val % 44) + s.val, by have := s.isLt; omega⟩) := by
  obtain ⟨ht, ⟨e0, e1⟩, -⟩ := idx t
  have h : iblk m c 0 t (ix2 a s) = V m c main_v3 (ix2 (row t.val a) ⟨256 * (if t.val % 44 < 22 then 2 * (t.val % 44) else 2 * (t.val % 44 - 22) + 1) + s.val, by have := s.isLt; split <;> omega⟩) := by
    show V m c main_v3 (((cfg0.win 0).blk t).view.emb (ix2 a s)) = _
    refine congrArg (V m c main_v3) (funext fun y => Fin.ext ?_)
    match y with
    | ⟨0, _⟩ => show win0_0.index t (0 : Fin 2) * 1024 + 1 * a.val = 1024 * (t.val / 88 % 2) + a.val; omega
    | ⟨1, _⟩ => show win0_0.index t (1 : Fin 2) * 256 + 1 * s.val = 256 * (if t.val % 44 < 22 then 2 * (t.val % 44) else 2 * (t.val % 44 - 22) + 1) + s.val; rw [e1]; ring
  rw [h]
  rw [entry_d]
  refine congrArg (fun j => x0 m c (ix2 (row t.val a) j)) (Fin.ext ?_)
  show (256 * (if t.val % 44 < 22 then 2 * (t.val % 44) else 2 * (t.val % 44 - 22) + 1) + s.val) / 256 % 2 * 5632 + (256 * (if t.val % 44 < 22 then 2 * (t.val % 44) else 2 * (t.val % 44 - 22) + 1) + s.val) / 512 * 256 + (256 * (if t.val % 44 < 22 then 2 * (t.val % 44) else 2 * (t.val % 44 - 22) + 1) + s.val) % 256 = 256 * (t.val % 44) + s.val
  have := s.isLt
  split <;> omega

theorem blk1 (t : Fin cfg0.N) (z : Fin 1) (b : Fin 1024) (s : Fin 256) : iblk m c 1 t (ix3 z b s) = x1 m c (ix2 (col t.val b) ⟨256 * (t.val % 44) + s.val, by have := s.isLt; omega⟩) := by
  obtain ⟨ht, -, ⟨e0, e1, e2⟩, -⟩ := idx t
  have h : iblk m c 1 t (ix3 z b s) = V m c main_v6 (ix3 ⟨t.val % 44 / 11, by omega⟩ (col t.val b) ⟨256 * (t.val % 44 % 11) + s.val, by have := s.isLt; omega⟩) := by
    show V m c main_v6 (((cfg0.win 1).blk t).view.emb (ix3 z b s)) = _
    refine congrArg (V m c main_v6) (funext fun y => Fin.ext ?_)
    match y with
    | ⟨0, _⟩ => show win0_1.index t (0 : Fin 3) * 1 + 1 * z.val = t.val % 44 / 11; omega
    | ⟨1, _⟩ => show win0_1.index t (1 : Fin 3) * 1024 + 1 * b.val = 1024 * (t.val / 44 % 2) + b.val; omega
    | ⟨2, _⟩ => show win0_1.index t (2 : Fin 3) * 256 + 1 * s.val = 256 * (t.val % 44 % 11) + s.val; omega
  rw [h]
  rw [entry_w]
  refine congrArg (fun j => x1 m c (ix2 (col t.val b) j)) (Fin.ext ?_)
  show t.val % 44 / 11 * 2816 + (256 * (t.val % 44 % 11) + s.val) = 256 * (t.val % 44) + s.val
  omega

theorem emb (t : Fin cfg0.N) (a : Fin 1024) (b : Fin 1024) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 88 % 2) + a.val; omega
  | ⟨1, _⟩ => show win0_2.index t (1 : Fin 2) * 1024 + 1 * b.val = 1024 * (t.val / 44 % 2) + b.val; omega

/-! The reference. -/

/-- The reference's result. -/
def R : S2048x2048.Idx → EReal := Cert.UpNtRefIdeal.Read.val_main_v2 (F := Ideal) (x0 m c) (x1 m c)

theorem ref_apply (i : Fin 2048) (j : Fin 2048) : R m c (ix2 i j) = ∑ s : Fin 11264, x0 m c (ix2 i s) * x1 m c (ix2 j s) := by
  unfold R
  refine (Cert.UpNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

/-! What a point of the grid leaves, case by case: the first block of a sum, one in its middle, its last. -/

section Cases
variable (i : grid0.Coords) (a4 : Memref sig .tc .vmem S1024x256 .bf16) (h4 : a4.IsWhole) (a5 : Memref sig .tc .vmem S1x1024x256 .bf16) (h5 : a5.IsWhole) (a6 : Memref sig .tc .vmem S1024x1024 .f32) (h6 : a6.IsWhole) (a7 : Memref sig .tc .vmem S1024x1024 .f32) (h7 : a7.IsWhole)
  (p0 : Vec Ideal S1024x256 .bf16) (p1 : Vec Ideal S1x1024x256 .bf16) (u : Vec Ideal S1024x1024 .f32)

theorem case_A (hc0 : cond0_0 i) (hc1 : ¬cond0_1 i) :
    sout0_A_0 c i a4 h4 a5 h5 a6 h6 a7 h7 hc0 hc1 p0 p1 = k0_pay2 (F := Ideal) (k0_pay1 (F := Ideal)) p0 p1 := by
  unfold sout0_A_0
  rw [View.read_writes_eq_canon _ _ _ (scover0_A_0 c i a4 h4 a5 h5 a6 h6 a7 h7 hc0 hc1 p0 p1)]
  unfold kernelRun0_A
  dsimp only
  sl_unfold_words
  rw [View.canon_cons_unit_zero (S := S1024x1024) hz2, View.readCov_unit_zero (S := S1024x1024) _ hz2]
  simp only [View.readAt_eq_ld, h4.read_unread, h5.read_unread, h7.read_unread, View.ld_unit_zero (S := S1024x256) hz2, View.ld_unit_zero (S := S1x1024x256) hz3, View.ld_unit_zero (S := S1024x1024) hz2]

theorem case_B (hc0 : ¬cond0_0 i) (hc1 : ¬cond0_1 i) :
    sout0_B_0 c i a4 h4 a5 h5 a6 h6 a7 h7 hc0 hc1 p0 p1 u = k0_pay2 (F := Ideal) u p0 p1 := by
  unfold sout0_B_0
  rw [View.read_writes_eq_canon _ _ _ (scover0_B_0 c i a4 h4 a5 h5 a6 h6 a7 h7 hc0 hc1 p0 p1 u)]
  unfold kernelRun0_B
  dsimp only
  sl_unfold_words
  rw [View.canon_unit_zero hz2]
  simp only [View.readAt_eq_ld, h4.read_unread, h5.read_unread, h7.read_unread, View.ld_unit_zero (S := S1024x256) hz2, View.ld_unit_zero (S := S1x1024x256) hz3, View.ld_unit_zero (S := S1024x1024) hz2]

theorem case_C (hc0 : ¬cond0_0 i) (hc1 : cond0_1 i) :
    sout0_C_0 c i a4 h4 a5 h5 a6 h6 a7 h7 hc0 hc1 p0 p1 u = k0_pay2 (F := Ideal) u p0 p1 := by
  unfold sout0_C_0
  rw [View.read_writes_eq_canon _ _ _ (scover0_C_0 c i a4 h4 a5 h5 a6 h6 a7 h7 hc0 hc1 p0 p1 u)]
  unfold kernelRun0_C
  dsimp only
  sl_unfold_words
  rw [View.canon_unit_zero hz2]
  simp only [View.readAt_eq_ld, h4.read_unread, h5.read_unread, h7.read_unread, View.ld_unit_zero (S := S1024x256) hz2, View.ld_unit_zero (S := S1x1024x256) hz3, View.ld_unit_zero (S := S1024x1024) hz2]

theorem last_C (hc0 : ¬cond0_0 i) (hc1 : cond0_1 i) :
    out0_C_2 c i a4 h4 a5 h5 a6 h6 a7 h7 hc0 hc1 p0 p1 u = k0_pay2 (F := Ideal) u p0 p1 := by
  unfold out0_C_2
  rw [View.read_writes_eq_canon _ _ _ (cover0_C_2 c i a4 h4 a5 h5 a6 h6 a7 h7 hc0 hc1 p0 p1 u)]
  unfold kernelRun0_C
  dsimp only
  sl_unfold_words
  rw [View.canon_unit_zero hz2, View.readCov_unit_zero (S := S1024x1024) _ hz2]
  simp only [View.readAt_eq_ld, h4.read_unread, h5.read_unread, h7.read_unread, View.ld_unit_zero (S := S1024x256) hz2, View.ld_unit_zero (S := S1x1024x256) hz3, View.ld_unit_zero (S := S1024x1024) hz2]

end Cases

/-- One product of the sum, and block `i` of the sum. -/
def prod (t : ℕ) (a : Fin 1024) (b : Fin 1024) (r : Fin 11264) : EReal := x0 m c (ix2 (row t a) r) * x1 m c (ix2 (col t b) r)
def term (t : ℕ) (a : Fin 1024) (b : Fin 1024) (i : ℕ) : EReal := ∑ s : Fin 256, (if h : 256 * i + s.val < 11264 then prod m c t a b ⟨256 * i + s.val, h⟩ else 0)

theorem term_sum (t : ℕ) (a : Fin 1024) (b : Fin 1024) : ∑ i ∈ Finset.range 44, term m c t a b i = ∑ r : Fin 11264, prod m c t a b r :=
  BlockSum.sum_blocks_fin 44 256 11264 rfl (prod m c t a b)

/-- A point adds its block of the sum. -/
theorem step (t : Fin cfg0.N) (u : Vec Ideal S1024x1024 .f32) (a : Fin 1024) (b : Fin 1024) :
    k0_pay2 (F := Ideal) u (iblk m c 0 t) (iblk m c 1 t) (ix2 a b) = u (ix2 a b) + term m c t.val a b (t.val % 44) := by
  rw [pay_add]
  refine congrArg (u (ix2 a b) + ·) ?_
  unfold term
  refine Finset.sum_congr rfl fun s _ => ?_
  rw [dif_pos (show 256 * (t.val % 44) + s.val < 11264 by have := s.isLt; omega)]
  exact congrArg₂ (· * ·) (blk0 m c t a s) (blk1 m c t 0 b s)

/-- The points of one sum have the same rows and columns. -/
theorem term_pred (n : ℕ) (h : ¬(n + 1) % 44 = 0) (a : Fin 1024) (b : Fin 1024) : term m c (n + 1) a b = term m c n a b := by
  have e1 : row (n + 1) a = row n a := Fin.ext (by show 1024 * ((n + 1) / 88 % 2) + a.val = 1024 * (n / 88 % 2) + a.val; omega)
  have e2 : col (n + 1) b = col n b := Fin.ext (by show 1024 * ((n + 1) / 44 % 2) + b.val = 1024 * (n / 44 % 2) + b.val; omega)

  unfold term prod
  rw [e1, e2]

/-- After a point the sum's buffer holds the blocks so far. -/
theorem sofar : ∀ (n : ℕ) (hn : n < cfg0.N) (a : Fin 1024) (b : Fin 1024),
    (outsAt0 m c n hn).2 (ix2 a b) = ∑ i ∈ Finset.range (n % 44 + 1), term m c n a b i := by
  intro n
  induction n with
  | zero =>
    intro hn a b
    rw [outsAt0_A m c ⟨0, hn⟩ rfl (by show ¬0 % 44 = 43; decide)]
    dsimp only
    rw [case_A, step, pay_zero]
    simp
  | succ n ih =>
    intro hn a b
    by_cases h0 : (n + 1) % 44 = 0
    · rw [outsAt0_A m c ⟨n + 1, hn⟩ h0 (by show ¬(n + 1) % 44 = 43; omega)]
      dsimp only
      rw [case_A, step, pay_zero]
      dsimp only
      rw [h0]
      simp
    · have e1 : (n + 1) % 44 = n % 44 + 1 := by omega
      have i1 := ih (by omega) a b
      by_cases h1 : (n + 1) % 44 = 43
      · rw [outsAt0_C m c ⟨n + 1, hn⟩ h0 h1]
        dsimp only
        rw [case_C, step]
        dsimp only
        rw [term_pred m c n h0, e1, Finset.sum_range_succ _ (n % 44 + 1), ← i1]
        rfl
      · rw [outsAt0_B m c ⟨n + 1, hn⟩ h0 h1]
        dsimp only
        rw [case_B, step]
        dsimp only
        rw [term_pred m c n h0, e1, Finset.sum_range_succ _ (n % 44 + 1), ← i1]
        rfl

theorem last (t : Fin cfg0.N) (h1 : t.val % 44 = 43) (a : Fin 1024) (b : Fin 1024) :
    (outsAt0 m c t.val t.isLt).1 (ix2 a b) = ∑ r : Fin 11264, prod m c t.val a b r := by
  have h0 : ¬t.val % 44 = 0 := by omega
  have e := sofar m c t.val t.isLt a b
  rw [outsAt0_C m c t h0 h1] at e ⊢
  dsimp only at e ⊢
  rw [case_C] at e
  rw [last_C, e, h1]
  exact (term_sum m c t.val a b)

theorem flush : ∀ t : Fin cfg0.N, (cfg0.win 2).flush t = true → t.val % 44 = 43 :=
  (by decide +kernel : ∀ t : Fin grid0.N, _)

theorem arr : (dats m 0 c).arrAt 2 cfg0.N = R m c := by
  refine (dats m 0 c).arrAt_eq_of_covers 2 (R m c) (by decide +kernel) fun t hf y => ?_
  blk_simp
  rw [after0_2]
  obtain ⟨a, b, rfl⟩ : ∃ (a : Fin 1024) (b : Fin 1024), y = ix2 a b := ⟨y 0, y 1, eta2 y⟩
  show (outsAt0 m c t.val t.isLt).1 (ix2 a b) = R m c (((cfg0.win 2).blk t).view.emb (ix2 a b))
  rw [emb, ref_apply, last m c t (flush t hf)]
  rfl

/-- The kernel leaves the reference's result. -/
theorem algebraic : Cert.algebraic_UpNtIdeal_UpNtRefIdeal := by
  intro m ρ m' ρ' _ hargs
  refine ⟨fun c => R m c, ?_, ?_⟩
  · refine (θ_run defs _ _).mono (fun r h c => ?_) (Cert.UpNtIdeal.Value.run_blocks m ρ)
    exact ⟨(h c).1.trans (arr m c), (h c).2⟩
  · refine (θ_run Cert.UpNtRefIdeal.defs _ _).mono (fun r h c => ?_) (Cert.UpNtRefIdeal.Value.run m' ρ')
    obtain ⟨a0, a1⟩ := hargs c
    refine ⟨(h c).1.trans ?_, (h c).2⟩
    rw [Cert.UpNtRefIdeal.Read.val_main_v2_eq, a0, a1]
    rfl

end Cert.UpNtIdeal.Val

end
-- ==== Proof.Mm.UpTn.lean ====
/- The gradient of the weight of the gated network's up-projection, one shard of its columns after another: the transposed input times the cotangent. -/
module

public import proofs.«01_k».proof.Proof.Gen.UpTnIdeal.Value
public import proofs.«01_k».proof.Proof.Gen.UpTnRefIdeal
public import proofs.«01_k».proof.Proof.Gen.UpTnRefIdeal.Read
public import proofs.«01_k».proof.Proof.Gen.UpTnRefIdeal.Run
public import proofs.«01_k».proof.Defs
public import proofs.«01_k».proof.Proof.Mm.Base

@[expose] public section

set_option maxRecDepth 16384

noncomputable section

namespace Cert.UpTnIdeal.Val

open Cert.UpTnIdeal Cert.UpTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x2048.Idx → EReal := m ((c : Thread nD τ).loc main_arg0)
abbrev x1 : S2048x11264.Idx → EReal := m ((c : Thread nD τ).loc main_arg1)

/-! What the host lines hand to the kernel. -/

theorem entry_a (k : Fin 2048) (r : Fin 2048) : V m c main_v4 (ix2 k r) = x0 m c (ix2 r k) := by
  entry_read
  pointwise

theorem entry_d (r : Fin 2048) (j : Fin 11264) : V m c main_v5 (ix2 r j) = x1 m c (ix2 r ⟨j.val / 256 % 2 * 5632 + j.val / 512 * 256 + j.val % 256, by omega⟩) := by
  entry_read
  pointwise

/-! One point of the grid. -/

theorem pay (p : Vec Ideal S1024x2048 .bf16) (q : Vec Ideal S2048x256 .bf16) (a : Fin 1024) (b : Fin 256) :
    k0_pay2 (F := Ideal) (k0_pay1 (F := Ideal)) p q (ix2 a b) = ∑ s : Fin 2048, p (ix2 a s) * q (ix2 s b) := by
  unfold k0_pay2 k0_pay1
  pointwise

theorem pay_out (u : Vec Ideal S1024x256 .f32) (z : Fin 1) (a : Fin 1024) (b : Fin 256) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S1024x256) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S1024x2048) hz2, View.ld_unit_zero (S := S2048x256) hz2]

/-! The blocks of the grid's points. -/

/-- The shard of the point, row `a` of its rows, and column `b` of its columns. -/
def sh (t : ℕ) : Fin 4 := ⟨t / 22 % 4, by omega⟩
def row (t : ℕ) (a : Fin 1024) : Fin 2048 := ⟨1024 * (t / 11 % 2) + a.val, by omega⟩
def col (t : ℕ) (b : Fin 256) : Fin 2816 := ⟨256 * (t % 11) + b.val, by omega⟩

theorem idx : ∀ t : Fin cfg0.N, t.val / 22 < 4
    ∧ (win0_0.index t (0 : Fin 2) = t.val / 11 % 2 ∧ win0_0.index t (1 : Fin 2) = 0)
    ∧ (win0_1.index t (0 : Fin 2) = 0 ∧ win0_1.index t (1 : Fin 2) = (if t.val / 22 * 11 + t.val % 11 < 22 then 2 * (t.val / 22 * 11 + t.val % 11) else 2 * (t.val / 22 * 11 + t.val % 11 - 22) + 1))
    ∧ (win0_2.index t (0 : Fin 3) = t.val / 22 ∧ win0_2.index t (1 : Fin 3) = t.val / 11 % 2 ∧ win0_2.index t (2 : Fin 3) = t.val % 11) :=
  (by decide +kernel : ∀ t : Fin grid0.N, _)

/-- Column `j` of shard `g` of the cotangent. -/
def dcol (g : Fin 4) (r : Fin 2048) (j : Fin 2816) : EReal := x1 m c (ix2 r ⟨(g).val * 2816 + j.val, by omega⟩)

theorem blk0 (t : Fin cfg0.N) (a : Fin 1024) (s : Fin 2048) : iblk m c 0 t (ix2 a s) = x0 m c (ix2 s (row t.val a)) := by
  obtain ⟨ht, ⟨e0, e1⟩, -⟩ := idx t
  refine Eq.trans ?_ (entry_a m c (row t.val a) s)
  show V m c main_v4 (((cfg0.win 0).blk t).view.emb (ix2 a s)) = _
  refine congrArg (V m c main_v4) (funext fun y => Fin.ext ?_)
  match y with
  | ⟨0, _⟩ => show win0_0.index t (0 : Fin 2) * 1024 + 1 * a.val = 1024 * (t.val / 11 % 2) + a.val; omega
  | ⟨1, _⟩ => show win0_0.index t (1 : Fin 2) * 2048 + 1 * s.val = s.val; omega

theorem blk1 (t : Fin cfg0.N) (s : Fin 2048) (b : Fin 256) : iblk m c 1 t (ix2 s b) = dcol m c (sh t.val) s (col t.val b) := by
  obtain ⟨ht, -, ⟨e0, e1⟩, -⟩ := idx t
  have h : iblk m c 1 t (ix2 s b) = V m c main_v5 (ix2 s ⟨256 * (if t.val / 22 * 11 + t.val % 11 < 22 then 2 * (t.val / 22 * 11 + t.val % 11) else 2 * (t.val / 22 * 11 + t.val % 11 - 22) + 1) + b.val, by have := b.isLt; split <;> omega⟩) := by
    show V m c main_v5 (((cfg0.win 1).blk t).view.emb (ix2 s b)) = _
    refine congrArg (V m c main_v5) (funext fun y => Fin.ext ?_)
    match y with
    | ⟨0, _⟩ => show win0_1.index t (0 : Fin 2) * 2048 + 1 * s.val = s.val; omega
    | ⟨1, _⟩ => show win0_1.index t (1 : Fin 2) * 256 + 1 * b.val = 256 * ((if t.val / 22 * 11 + t.val % 11 < 22 then 2 * (t.val / 22 * 11 + t.val % 11) else 2 * (t.val / 22 * 11 + t.val % 11 - 22) + 1)) + b.val; rw [e1]; ring
  rw [h]
  rw [entry_d]
  refine congrArg (fun j => x1 m c (ix2 s j)) (Fin.ext ?_)
  show (256 * (if t.val / 22 * 11 + t.val % 11 < 22 then 2 * (t.val / 22 * 11 + t.val % 11) else 2 * (t.val / 22 * 11 + t.val % 11 - 22) + 1) + b.val) / 256 % 2 * 5632 + (256 * (if t.val / 22 * 11 + t.val % 11 < 22 then 2 * (t.val / 22 * 11 + t.val % 11) else 2 * (t.val / 22 * 11 + t.val % 11 - 22) + 1) + b.val) / 512 * 256 + (256 * (if t.val / 22 * 11 + t.val % 11 < 22 then 2 * (t.val / 22 * 11 + t.val % 11) else 2 * (t.val / 22 * 11 + t.val % 11 - 22) + 1) + b.val) % 256 = t.val / 22 % 4 * 2816 + (256 * (t.val % 11) + b.val)
  have := b.isLt
  split <;> omega

theorem emb (t : Fin cfg0.N) (z : Fin 1) (a : Fin 1024) (b : Fin 256) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 22 % 4; omega
  | ⟨1, _⟩ => show win0_2.index t (1 : Fin 3) * 1024 + 1 * a.val = 1024 * (t.val / 11 % 2) + a.val; omega
  | ⟨2, _⟩ => show win0_2.index t (2 : Fin 3) * 256 + 1 * b.val = 256 * (t.val % 11) + b.val; omega

/-! The reference. -/

/-- The reference's result. -/
def R : S4x2048x2816.Idx → EReal := Cert.UpTnRefIdeal.Read.val_main_v6 (F := Ideal) (x0 m c) (x1 m c)

theorem ref_apply (g : Fin 4) (k : Fin 2048) (j : Fin 2816) : R m c (ix3 g k j) = ∑ s : Fin 2048, x0 m c (ix2 s k) * dcol m c g s j := by
  unfold R dcol Cert.UpTnRefIdeal.Read.val_main_v6 Cert.UpTnRefIdeal.Read.val_main_v5 Cert.UpTnRefIdeal.Read.val_main_v4 Cert.UpTnRefIdeal.Read.val_main_v3 Cert.UpTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 1024) (b : Fin 256), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_UpTnIdeal_UpTnRefIdeal := by
  intro m ρ m' ρ' _ hargs
  refine ⟨fun c => R m c, ?_, ?_⟩
  · refine (θ_run defs _ _).mono (fun r h c => ?_) (Cert.UpTnIdeal.Value.run_blocks m ρ)
    exact ⟨(h c).1.trans (arr m c), (h c).2⟩
  · refine (θ_run Cert.UpTnRefIdeal.defs _ _).mono (fun r h c => ?_) (Cert.UpTnRefIdeal.Value.run m' ρ')
    obtain ⟨a0, a1⟩ := hargs c
    refine ⟨(h c).1.trans ?_, (h c).2⟩
    rw [Cert.UpTnRefIdeal.Read.val_main_v6_eq, a0, a1]
    rfl

end Cert.UpTnIdeal.Val

end
-- ==== Proof.Mm.UpNn.lean ====
/- The product of the gated network's up-projection. -/
module

public import proofs.«01_k».proof.Proof.Gen.UpNnIdeal.Value
public import proofs.«01_k».proof.Proof.Gen.UpNnRefIdeal
public import proofs.«01_k».proof.Proof.Gen.UpNnRefIdeal.Read
public import proofs.«01_k».proof.Proof.Gen.UpNnRefIdeal.Run
public import proofs.«01_k».proof.Defs
public import proofs.«01_k».proof.Proof.Mm.Base

@[expose] public section

set_option maxRecDepth 16384

noncomputable section

namespace Cert.UpNnIdeal.Val

open Cert.UpNnIdeal Cert.UpNnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight. -/
abbrev x0 : S2048x2048.Idx → EReal := m ((c : Thread nD τ).loc main_arg0)
abbrev x1 : S2048x11264.Idx → EReal := m ((c : Thread nD τ).loc main_arg1)

/-! What the host lines hand to the kernel. -/

theorem entry_a (r : Fin 2048) (k : Fin 2048) : V m c main_v0 (ix2 r k) = x0 m c (ix2 r k) := by
  entry_read
  pointwise

theorem entry_w (g : Fin 4) (k : Fin 2048) (j : Fin 2816) : V m c main_v3 (ix3 g k j) = x1 m c (ix2 k ⟨g.val * 2816 + j.val, by omega⟩) := by
  entry_read
  pointwise

/-! One point of the grid. -/

theorem pay (p : Vec Ideal S1024x2048 .bf16) (q : Vec Ideal S1x2048x256 .bf16) (a : Fin 1024) (b : Fin 256) :
    k0_pay2 (F := Ideal) (k0_pay1 (F := Ideal)) p q (ix2 a b) = ∑ s : Fin 2048, p (ix2 a s) * q (ix3 0 s b) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x256) _ hz2]
  refine (View.readCov_cons_toLoadRect _ _ _ _).trans ?_
  simp only [View.readAt_eq_ld, (hs0_0 t).read_unread, (hs0_1 t).read_unread, View.ld_unit_zero (S := S1024x2048) hz2, View.ld_unit_zero (S := S1x2048x256) hz3]

/-! The blocks of the grid's points. -/

/-- The shard of the point, row `a` of its rows, and column `b` of its columns, in its shard and in the result. -/
def sh (t : ℕ) : Fin 4 := ⟨t / 22 % 4, by omega⟩
def row (t : ℕ) (a : Fin 1024) : Fin 2048 := ⟨1024 * (t / 11 % 2) + a.val, by omega⟩
def col (t : ℕ) (b : Fin 256) : Fin 2816 := ⟨256 * (t / 1 % 11) + b.val, by omega⟩
def place (t : ℕ) (b : Fin 256) : Fin 11264 := ⟨256 * (if t / 22 % 4 * 11 + t / 1 % 11 < 22 then 2 * (t / 22 % 4 * 11 + t / 1 % 11) else 2 * (t / 22 % 4 * 11 + t / 1 % 11 - 22) + 1) + b.val, by have := b.isLt; split <;> omega⟩

theorem idx : ∀ t : Fin cfg0.N, t.val / 22 < 4
    ∧ (win0_0.index t (0 : Fin 2) = t.val / 11 % 2 ∧ win0_0.index t (1 : Fin 2) = 0)
    ∧ (win0_1.index t (0 : Fin 3) = t.val / 22 ∧ win0_1.index t (1 : Fin 3) = 0 ∧ win0_1.index t (2 : Fin 3) = t.val / 1 % 11)
    ∧ (win0_2.index t (0 : Fin 2) = t.val / 11 % 2 ∧ win0_2.index t (1 : Fin 2) = (if t.val / 22 * 11 + t.val / 1 % 11 < 22 then 2 * (t.val / 22 * 11 + t.val / 1 % 11) else 2 * (t.val / 22 * 11 + t.val / 1 % 11 - 22) + 1)) :=
  (by decide +kernel : ∀ t : Fin grid0.N, _)

/-- Column `j` of shard `g` of the weight. -/
def wcol (g : Fin 4) (k : Fin 2048) (j : Fin 2816) : EReal := x1 m c (ix2 k ⟨g.val * 2816 + j.val, by omega⟩)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 11 % 2) + a.val; omega
  | ⟨1, _⟩ => show win0_0.index t (1 : Fin 2) * 2048 + 1 * s.val = s.val; omega

theorem blk1 (t : Fin cfg0.N) (z : Fin 1) (s : Fin 2048) (b : Fin 256) : iblk m c 1 t (ix3 z s b) = wcol m c (sh t.val) s (col t.val b) := by
  obtain ⟨ht, -, ⟨e0, e1, e2⟩, -⟩ := idx t
  have h : iblk m c 1 t (ix3 z s b) = V m c main_v3 (ix3 (sh t.val) s (col t.val b)) := by
    show V m c main_v3 (((cfg0.win 1).blk t).view.emb (ix3 z s b)) = _
    refine congrArg (V m c main_v3) (funext fun y => Fin.ext ?_)
    match y with
    | ⟨0, _⟩ => show win0_1.index t (0 : Fin 3) * 1 + 1 * z.val = t.val / 22 % 4; omega
    | ⟨1, _⟩ => show win0_1.index t (1 : Fin 3) * 2048 + 1 * s.val = s.val; omega
    | ⟨2, _⟩ => show win0_1.index t (2 : Fin 3) * 256 + 1 * b.val = 256 * (t.val / 1 % 11) + b.val; omega
  rw [h]
  exact entry_w m c _ _ _

theorem emb (t : Fin cfg0.N) (a : Fin 1024) (b : Fin 256) : ((cfg0.win 2).blk t).view.emb (ix2 a b) = ix2 (row t.val a) (place t.val b) := by
  obtain ⟨ht, -, -, ⟨e0, e1⟩⟩ := idx t
  refine funext fun y => Fin.ext ?_
  match y with
  | ⟨0, _⟩ => show win0_2.index t (0 : Fin 2) * 1024 + 1 * a.val = 1024 * (t.val / 11 % 2) + a.val; omega
  | ⟨1, _⟩ => show win0_2.index t (1 : Fin 2) * 256 + 1 * b.val = 256 * (if t.val / 22 % 4 * 11 + t.val / 1 % 11 < 22 then 2 * (t.val / 22 % 4 * 11 + t.val / 1 % 11) else 2 * (t.val / 22 % 4 * 11 + t.val / 1 % 11 - 22) + 1) + b.val; rw [e1, Nat.mod_eq_of_lt ht]; ring

/-! The reference. -/

/-- The reference's result. -/
def R : S2048x11264.Idx → EReal := Cert.UpNnRefIdeal.Read.val_main_v3 (F := Ideal) (x0 m c) (x1 m c)

theorem ref_apply (t : Fin cfg0.N) (a : Fin 1024) (b : Fin 256) : R m c (ix2 (row t.val a) (place t.val b)) = ∑ k : Fin 2048, x0 m c (ix2 (row t.val a) k) * wcol m c (sh t.val) k (col t.val b) := by
  unfold R wcol Cert.UpNnRefIdeal.Read.val_main_v3 Cert.UpNnRefIdeal.Read.val_main_v2 Cert.UpNnRefIdeal.Read.val_main_v1 Cert.UpNnRefIdeal.Read.val_main_v0
  generalize hr : row t.val a = r
  have hp : (place t.val b).val = 256 * (if t.val / 22 % 4 * 11 + t.val / 1 % 11 < 22 then 2 * (t.val / 22 % 4 * 11 + t.val / 1 % 11) else 2 * (t.val / 22 % 4 * 11 + t.val / 1 % 11 - 22) + 1) + b.val := rfl
  have hc : (col t.val b).val = 256 * (t.val / 1 % 11) + b.val := rfl
  have hg : (sh t.val).val = t.val / 22 % 4 := rfl
  have hb := b.isLt
  generalize place t.val b = p at hp ⊢
  generalize col t.val b = j at hc ⊢
  generalize sh t.val = g at hg ⊢
  pointwise
  exact Finset.sum_congr rfl fun k _ => congrArg (fun z => x0 m c (ix2 r k) * x1 m c (ix2 k z)) (Fin.ext (by show p.val / 256 % 2 * 5632 + p.val / 512 * 256 + p.val % 256 = g.val * 2816 + j.val; split at hp <;> omega))

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 256), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 s b)

/-- The kernel leaves the reference's result. -/
theorem algebraic : Cert.algebraic_UpNnIdeal_UpNnRefIdeal := by
  intro m ρ m' ρ' _ hargs
  refine ⟨fun c => R m c, ?_, ?_⟩
  · refine (θ_run defs _ _).mono (fun r h c => ?_) (Cert.UpNnIdeal.Value.run_blocks m ρ)
    exact ⟨(h c).1.trans (arr m c), (h c).2⟩
  · refine (θ_run Cert.UpNnRefIdeal.defs _ _).mono (fun r h c => ?_) (Cert.UpNnRefIdeal.Value.run m' ρ')
    obtain ⟨a0, a1⟩ := hargs c
    refine ⟨(h c).1.trans ?_, (h c).2⟩
    rw [Cert.UpNnRefIdeal.Read.val_main_v3_eq, a0, a1]
    rfl

end Cert.UpNnIdeal.Val

end
-- ==== Proof.Mm.DownNt.lean ====
/- The gradient of the input of the gated network's down-projection: the cotangent times the transposed weight, summed over the blocks of the weight's columns. -/
module

public import proofs.«01_k».proof.Proof.Gen.DownNtIdeal.Value
public import proofs.«01_k».proof.Proof.Gen.DownNtRefIdeal
public import proofs.«01_k».proof.Proof.Gen.DownNtRefIdeal.Read
public import proofs.«01_k».proof.Proof.Gen.DownNtRefIdeal.Run
public import proofs.«01_k».proof.Defs
public import proofs.«01_k».proof.Proof.Mm.Base

@[expose] public section

set_option maxRecDepth 16384

noncomputable section

namespace Cert.DownNtIdeal.Val

open Cert.DownNtIdeal Cert.DownNtIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the cotangent and the weight. -/
abbrev x0 : S2048x2048.Idx → EReal := m ((c : Thread nD τ).loc main_arg0)
abbrev x1 : S5632x2048.Idx → EReal := m ((c : Thread nD τ).loc main_arg1)

/-! What the host lines hand to the kernel. -/

theorem entry_d (r : Fin 2048) (j : Fin 2048) : V m c main_v0 (ix2 r j) = x0 m c (ix2 r j) := by
  entry_read
  pointwise

theorem entry_w (g : Fin 1) (k : Fin 5632) (j : Fin 2048) : V m c main_v2 (ix3 g k j) = x1 m c (ix2 k j) := by
  entry_read
  pointwise

/-! One point of the grid. -/

theorem pay (p : Vec Ideal S1024x2048 .bf16) (q : Vec Ideal S1x512x2048 .bf16) (a : Fin 1024) (b : Fin 512) :
    k0_pay2 (F := Ideal) (k0_pay1 (F := Ideal)) p q (ix2 a b) = ∑ s : Fin 2048, p (ix2 a s) * q (ix3 0 b s) := by
  unfold k0_pay2 k0_pay1
  pointwise

theorem out (t : Fin cfg0.N) : outsAt0 m c t = k0_pay2 (F := Ideal) (k0_pay1 (F := Ideal)) (iblk m c 0 t) (iblk m c 1 t) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz2]
  rw [View.readCov_unit_zero (S := S1024x512) _ hz2]
  refine (View.readCov_cons_toLoadRect _ _ _ _).trans ?_
  simp only [View.readAt_eq_ld, (hs0_0 t).read_unread, (hs0_1 t).read_unread, View.ld_unit_zero (S := S1024x2048) hz2, View.ld_unit_zero (S := S1x512x2048) hz3]

/-! The blocks of the grid's points. -/

/-- Row `a` of the point's rows, and column `b` of its columns. -/
def row (t : ℕ) (a : Fin 1024) : Fin 2048 := ⟨1024 * (t / 11 % 2) + a.val, by omega⟩
def col (t : ℕ) (b : Fin 512) : Fin 5632 := ⟨512 * (t / 1 % 11) + b.val, by omega⟩

theorem idx : ∀ t : Fin cfg0.N, t.val / 11 < 2
    ∧ (win0_0.index t (0 : Fin 2) = t.val / 11 ∧ win0_0.index t (1 : Fin 2) = 0)
    ∧ (win0_1.index t (0 : Fin 3) = 0 ∧ win0_1.index t (1 : Fin 3) = t.val / 1 % 11 ∧ win0_1.index t (2 : Fin 3) = 0)
    ∧ (win0_2.index t (0 : Fin 2) = t.val / 11 ∧ win0_2.index t (1 : Fin 2) = t.val / 1 % 11) :=
  (by decide +kernel : ∀ t : Fin grid0.N, _)

theorem blk0 (t : Fin cfg0.N) (a : Fin 1024) (s : Fin 2048) : iblk m c 0 t (ix2 a s) = x0 m c (ix2 (row t.val a) s) := by
  obtain ⟨ht, ⟨e0, e1⟩, -⟩ := idx t
  refine Eq.trans ?_ (entry_d m c (row t.val a) s)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 11 % 2) + a.val; omega
  | ⟨1, _⟩ => show win0_0.index t (1 : Fin 2) * 2048 + 1 * s.val = s.val; omega

theorem blk1 (t : Fin cfg0.N) (z : Fin 1) (b : Fin 512) (s : Fin 2048) : iblk m c 1 t (ix3 z b s) = x1 m c (ix2 (col t.val b) s) := by
  obtain ⟨ht, -, ⟨e0, e1, e2⟩, -⟩ := idx t
  refine Eq.trans ?_ (entry_w m c z (col t.val b) s)
  show V m c main_v2 (((cfg0.win 1).blk t).view.emb (ix3 z b s)) = _
  refine congrArg (V m c main_v2) (funext fun y => Fin.ext ?_)
  match y with
  | ⟨0, _⟩ => show win0_1.index t (0 : Fin 3) * 1 + 1 * z.val = z.val; omega
  | ⟨1, _⟩ => show win0_1.index t (1 : Fin 3) * 512 + 1 * b.val = 512 * (t.val / 1 % 11) + b.val; omega
  | ⟨2, _⟩ => show win0_1.index t (2 : Fin 3) * 2048 + 1 * s.val = s.val; omega

theorem emb (t : Fin cfg0.N) (a : Fin 1024) (b : Fin 512) : ((cfg0.win 2).blk t).view.emb (ix2 a b) = ix2 (row t.val a) (col t.val b) := by
  obtain ⟨ht, -, -, e0, e1⟩ := idx t
  refine funext fun y => Fin.ext ?_
  match y with
  | ⟨0, _⟩ => show win0_2.index t (0 : Fin 2) * 1024 + 1 * a.val = 1024 * (t.val / 11 % 2) + a.val; omega
  | ⟨1, _⟩ => show win0_2.index t (1 : Fin 2) * 512 + 1 * b.val = 512 * (t.val / 1 % 11) + b.val; omega

/-! The reference. -/

/-- The reference's result. -/
def R : S2048x5632.Idx → EReal := Cert.DownNtRefIdeal.Read.val_main_v2 (F := Ideal) (x0 m c) (x1 m c)

theorem ref_apply (i : Fin 2048) (j : Fin 5632) : R m c (ix2 i j) = ∑ s : Fin 2048, x0 m c (ix2 i s) * x1 m c (ix2 j s) := by
  unfold R
  refine (Cert.DownNtRefIdeal.Read.val_main_v2_apply _ _ _).trans ?_
  refine Finset.sum_congr rfl fun s _ => congrArg₂ (· * ·) (congrArg (x0 m c) ?_) (congrArg (x1 m c) ?_) <;>
    (funext z; match z with | ⟨0, _⟩ => rfl | ⟨1, _⟩ => rfl)

theorem arr : (dats m 0 c).arrAt 2 cfg0.N = R m c := by
  refine (dats m 0 c).arrAt_eq_of_covers 2 (R m c) (by decide +kernel) fun t _ y => ?_
  blk_simp
  rw [after0_2]
  obtain ⟨a, b, rfl⟩ : ∃ (a : Fin 1024) (b : Fin 512), y = ix2 a b := ⟨y 0, y 1, eta2 y⟩
  show outsAt0 m c t (ix2 a b) = R m c (((cfg0.win 2).blk t).view.emb (ix2 a b))
  rw [emb, ref_apply, out, pay]
  exact Finset.sum_congr rfl fun s _ => congrArg₂ (· * ·) (blk0 m c t a s) (blk1 m c t 0 b s)

/-- The kernel leaves the reference's result. -/
theorem algebraic : Cert.algebraic_DownNtIdeal_DownNtRefIdeal := by
  intro m ρ m' ρ' _ hargs
  refine ⟨fun c => R m c, ?_, ?_⟩
  · refine (θ_run defs _ _).mono (fun r h c => ?_) (Cert.DownNtIdeal.Value.run_blocks m ρ)
    exact ⟨(h c).1.trans (arr m c), (h c).2⟩
  · refine (θ_run Cert.DownNtRefIdeal.defs _ _).mono (fun r h c => ?_) (Cert.DownNtRefIdeal.Value.run m' ρ')
    obtain ⟨a0, a1⟩ := hargs c
    refine ⟨(h c).1.trans ?_, (h c).2⟩
    rw [Cert.DownNtRefIdeal.Read.val_main_v2_eq, a0, a1]
    rfl

end Cert.DownNtIdeal.Val

end
-- ==== Proof.Mm.DownTn.lean ====
/- The gradient of the weight of the gated network's down-projection, one shard of its columns after another: the transposed input times the cotangent. -/
module

public import proofs.«01_k».proof.Proof.Gen.DownTnIdeal.Value
public import proofs.«01_k».proof.Proof.Gen.DownTnRefIdeal
public import proofs.«01_k».proof.Proof.Gen.DownTnRefIdeal.Read
public import proofs.«01_k».proof.Proof.Gen.DownTnRefIdeal.Run
public import proofs.«01_k».proof.Defs
public import proofs.«01_k».proof.Proof.Mm.Base

@[expose] public section

set_option maxRecDepth 16384

noncomputable section

namespace Cert.DownTnIdeal.Val

open Cert.DownTnIdeal Cert.DownTnIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the cotangent. -/
abbrev x0 : S2048x5632.Idx → EReal := m ((c : Thread nD τ).loc main_arg0)
abbrev x1 : S2048x2048.Idx → EReal := m ((c : Thread nD τ).loc main_arg1)

/-! What the host lines hand to the kernel. -/

theorem entry_a (k : Fin 5632) (r : Fin 2048) : V m c main_v1 (ix2 k r) = x0 m c (ix2 r k) := by
  entry_read
  pointwise

theorem entry_d (r : Fin 2048) (j : Fin 2048) : V m c main_v2 (ix2 r j) = x1 m c (ix2 r j) := by
  entry_read
  pointwise

/-! One point of the grid. -/

theorem pay (p : Vec Ideal S512x2048 .bf16) (q : Vec Ideal S2048x1024 .bf16) (a : Fin 512) (b : Fin 1024) :
    k0_pay2 (F := Ideal) (k0_pay1 (F := Ideal)) p q (ix2 a b) = ∑ s : Fin 2048, p (ix2 a s) * q (ix2 s b) := by
  unfold k0_pay2 k0_pay1
  pointwise

theorem pay_out (u : Vec Ideal S512x1024 .f32) (z : Fin 1) (a : Fin 512) (b : Fin 1024) : k0_pay3 (F := Ideal) u (ix3 z a b) = u (ix2 a b) := by
  unfold k0_pay3
  pointwise

theorem out (t : Fin cfg0.N) : outsAt0 m c t = k0_pay3 (F := Ideal) (k0_pay2 (F := Ideal) (k0_pay1 (F := Ideal)) (iblk m c 0 t) (iblk m c 1 t)) := by
  unfold outsAt0 out0_A_2
  rw [View.read_writes_eq_canon _ _ _ (cover0_A_2 _ _ _ _ _ _ _ _ _ _ _ _ _ _ )]
  unfold kernelRun0_A
  dsimp only
  sl_unfold_words
  rw [View.canon_unit_zero hz3]
  rw [View.readCov_unit_zero (S := S512x1024) _ hz2]
  refine congrArg (k0_pay3 (F := Ideal)) ?_
  refine (View.readCov_cons_toLoadRect _ _ _ _).trans ?_
  simp only [View.readAt_eq_ld, (hs0_0 t).read_unread, (hs0_1 t).read_unread, View.ld_unit_zero (S := S512x2048) hz2, View.ld_unit_zero (S := S2048x1024) hz2]

/-! The blocks of the grid's points. -/

/-- The shard of the point, row `a` of its rows, and column `b` of its columns. -/
def sh (t : ℕ) : Fin 1 := ⟨t / 22 % 1, by omega⟩
def row (t : ℕ) (a : Fin 512) : Fin 5632 := ⟨512 * (t / 2 % 11) + a.val, by omega⟩
def col (t : ℕ) (b : Fin 1024) : Fin 2048 := ⟨1024 * (t % 2) + b.val, by omega⟩

theorem idx : ∀ t : Fin cfg0.N, t.val / 22 < 1
    ∧ (win0_0.index t (0 : Fin 2) = t.val / 2 % 11 ∧ win0_0.index t (1 : Fin 2) = 0)
    ∧ (win0_1.index t (0 : Fin 2) = 0 ∧ win0_1.index t (1 : Fin 2) = t.val / 22 * 2 + t.val % 2)
    ∧ (win0_2.index t (0 : Fin 3) = t.val / 22 ∧ win0_2.index t (1 : Fin 3) = t.val / 2 % 11 ∧ win0_2.index t (2 : Fin 3) = t.val % 2) :=
  (by decide +kernel : ∀ t : Fin grid0.N, _)

/-- Column `j` of shard `g` of the cotangent. -/
def dcol (g : Fin 1) (r : Fin 2048) (j : Fin 2048) : EReal := x1 m c (ix2 r ⟨(g).val * 2048 + j.val, by omega⟩)

theorem blk0 (t : Fin cfg0.N) (a : Fin 512) (s : Fin 2048) : iblk m c 0 t (ix2 a s) = x0 m c (ix2 s (row t.val a)) := by
  obtain ⟨ht, ⟨e0, e1⟩, -⟩ := idx t
  refine Eq.trans ?_ (entry_a m c (row t.val a) s)
  show V m c main_v1 (((cfg0.win 0).blk t).view.emb (ix2 a s)) = _
  refine congrArg (V m c main_v1) (funext fun y => Fin.ext ?_)
  match y with
  | ⟨0, _⟩ => show win0_0.index t (0 : Fin 2) * 512 + 1 * a.val = 512 * (t.val / 2 % 11) + a.val; omega
  | ⟨1, _⟩ => show win0_0.index t (1 : Fin 2) * 2048 + 1 * s.val = s.val; omega

theorem blk1 (t : Fin cfg0.N) (s : Fin 2048) (b : Fin 1024) : iblk m c 1 t (ix2 s b) = dcol m c (sh t.val) s (col t.val b) := by
  obtain ⟨ht, -, ⟨e0, e1⟩, -⟩ := idx t
  have h : iblk m c 1 t (ix2 s b) = V m c main_v2 (ix2 s ⟨1024 * (t.val / 22 * 2 + t.val % 2) + b.val, by have := b.isLt; omega⟩) := by
    show V m c main_v2 (((cfg0.win 1).blk t).view.emb (ix2 s b)) = _
    refine congrArg (V m c main_v2) (funext fun y => Fin.ext ?_)
    match y with
    | ⟨0, _⟩ => show win0_1.index t (0 : Fin 2) * 2048 + 1 * s.val = s.val; omega
    | ⟨1, _⟩ => show win0_1.index t (1 : Fin 2) * 1024 + 1 * b.val = 1024 * (t.val / 22 * 2 + t.val % 2) + b.val; rw [e1]; ring
  rw [h]
  rw [entry_d]
  refine congrArg (fun j => x1 m c (ix2 s j)) (Fin.ext ?_)
  show 1024 * (t.val / 22 * 2 + t.val % 2) + b.val = t.val / 22 % 1 * 2048 + (1024 * (t.val % 2) + b.val)
  have := b.isLt
  omega

theorem emb (t : Fin cfg0.N) (z : Fin 1) (a : Fin 512) (b : Fin 1024) : ((cfg0.win 2).blk t).view.emb (ix3 z a b) = ix3 (sh t.val) (row t.val a) (col t.val b) := by
  obtain ⟨ht, -, -, e0, e1, e2⟩ := idx t
  refine funext fun y => Fin.ext ?_
  match y with
  | ⟨0, _⟩ => show win0_2.index t (0 : Fin 3) * 1 + 1 * z.val = t.val / 22 % 1; omega
  | ⟨1, _⟩ => show win0_2.index t (1 : Fin 3) * 512 + 1 * a.val = 512 * (t.val / 2 % 11) + a.val; omega
  | ⟨2, _⟩ => show win0_2.index t (2 : Fin 3) * 1024 + 1 * b.val = 1024 * (t.val % 2) + b.val; omega

/-! The reference. -/

/-- The reference's result. -/
def R : S1x5632x2048.Idx → EReal := Cert.DownTnRefIdeal.Read.val_main_v6 (F := Ideal) (x0 m c) (x1 m c)

theorem ref_apply (g : Fin 1) (k : Fin 5632) (j : Fin 2048) : R m c (ix3 g k j) = ∑ s : Fin 2048, x0 m c (ix2 s k) * dcol m c g s j := by
  unfold R dcol Cert.DownTnRefIdeal.Read.val_main_v6 Cert.DownTnRefIdeal.Read.val_main_v5 Cert.DownTnRefIdeal.Read.val_main_v4 Cert.DownTnRefIdeal.Read.val_main_v3 Cert.DownTnRefIdeal.Read.val_main_v2
  pointwise
  exact Finset.sum_congr rfl fun s _ => mul_comm _ _

theorem arr : (dats m 0 c).arrAt 2 cfg0.N = R m c := by
  refine (dats m 0 c).arrAt_eq_of_covers 2 (R m c) (by decide +kernel) fun t _ y => ?_
  blk_simp
  rw [after0_2]
  obtain ⟨z, a, b, rfl⟩ : ∃ (z : Fin 1) (a : Fin 512) (b : Fin 1024), y = ix3 z a b := ⟨y 0, y 1, y 2, eta3 y⟩
  show outsAt0 m c t (ix3 z a b) = R m c (((cfg0.win 2).blk t).view.emb (ix3 z a b))
  rw [emb, ref_apply, out, pay_out, pay]
  exact Finset.sum_congr rfl fun s _ => congrArg₂ (· * ·) (blk0 m c t a s) (blk1 m c t s b)

/-- The kernel leaves the reference's result. -/
theorem algebraic : Cert.algebraic_DownTnIdeal_DownTnRefIdeal := by
  intro m ρ m' ρ' _ hargs
  refine ⟨fun c => R m c, ?_, ?_⟩
  · refine (θ_run defs _ _).mono (fun r h c => ?_) (Cert.DownTnIdeal.Value.run_blocks m ρ)
    exact ⟨(h c).1.trans (arr m c), (h c).2⟩
  · refine (θ_run Cert.DownTnRefIdeal.defs _ _).mono (fun r h c => ?_) (Cert.DownTnRefIdeal.Value.run m' ρ')
    obtain ⟨a0, a1⟩ := hargs c
    refine ⟨(h c).1.trans ?_, (h c).2⟩
    rw [Cert.DownTnRefIdeal.Read.val_main_v6_eq, a0, a1]
    rfl

end Cert.DownTnIdeal.Val

end
-- ==== Proof.Mm.DownRes.lean ====
/- The product of the gated network's down-projection, with the residual added. -/
module

public import proofs.«01_k».proof.Proof.Gen.DownResIdeal.Value
public import proofs.«01_k».proof.Proof.Gen.DownResRefIdeal
public import proofs.«01_k».proof.Proof.Gen.DownResRefIdeal.Read
public import proofs.«01_k».proof.Proof.Gen.DownResRefIdeal.Run
public import proofs.«01_k».proof.Defs
public import proofs.«01_k».proof.Proof.Mm.Base
public import proofs.«01_k».proof.Proof.BlockSum

@[expose] public section

set_option maxRecDepth 16384

noncomputable section

namespace Cert.DownResIdeal.Val

open Cert.DownResIdeal Cert.DownResIdeal.Gen Cert.Mm Idealize.ShloMosaic Idealize.ShloMosaic.TcCoe Idealize.SL.Sem

variable (m : (ℓ : Loc nD τ sig) → Buf (Elt Ideal) ℓ) (ρ : Dev nD → PrngReg) (c : Dev nD)

/-- The arguments: the input and the weight, and the residual. -/
abbrev x0 : S2048x5632.Idx → EReal := m ((c : Thread nD τ).loc main_arg0)
abbrev x1 : S5632x2048.Idx → EReal := m ((c : Thread nD τ).loc main_arg1)
abbrev x2 : S2048x2048.Idx → EReal := m ((c : Thread nD τ).loc main_arg2)

/-! What the host lines hand to the kernel. -/

theorem entry_a (r : Fin 2048) (k : Fin 5632) : V m c main_v0 (ix2 r k) = x0 m c (ix2 r k) := by
  entry_read
  pointwise

theorem entry_w (g : Fin 1) (k : Fin 5632) (j : Fin 2048) : V m c main_v2 (ix3 g k j) = x1 m c (ix2 k j) := by
  entry_read
  pointwise

/-! One point of the grid. -/

theorem pay_zero (a : Fin 1024) (b : Fin 1024) : k0_pay1 (F := Ideal) (ix2 a b) = 0 := by
  unfold k0_pay1
  pointwise

theorem pay_add (u : Vec Ideal S1024x1024 .f32) (p : Vec Ideal S1024x1408 .bf16) (q : Vec Ideal S1x1408x1024 .bf16) (a : Fin 1024) (b : Fin 1024) :
    k0_pay2 (F := Ideal) u p q (ix2 a b) = u (ix2 a b) + ∑ s : Fin 1408, p (ix2 a s) * q (ix3 0 s b) := by
  unfold k0_pay2
  pointwise

theorem pay_out (u w : Vec Ideal S1024x1024 .f32) (a : Fin 1024) (b : Fin 1024) : k0_pay3 (F := Ideal) u w (ix2 a b) = u (ix2 a b) + w (ix2 a b) := by
  unfold k0_pay3
  pointwise

/-! The blocks of the grid's points. -/

/-- The shard of the point, row `a` of its rows, and column `b` of its columns, in its shard and in the result. -/
def sh (t : ℕ) : Fin 1 := ⟨t / 16 % 1, by omega⟩
def row (t : ℕ) (a : Fin 1024) : Fin 2048 := ⟨1024 * (t / 8 % 2) + a.val, by omega⟩
def col (t : ℕ) (b : Fin 1024) : Fin 2048 := ⟨1024 * (t / 4 % 2) + b.val, by omega⟩
def place (t : ℕ) (b : Fin 1024) : Fin 2048 := ⟨1024 * (t / 16 % 1 * 2 + t / 4 % 2) + b.val, by have := b.isLt; omega⟩

theorem idx : ∀ t : Fin cfg0.N, t.val / 16 < 1
    ∧ (win0_0.index t (0 : Fin 2) = t.val / 8 % 2 ∧ win0_0.index t (1 : Fin 2) = t.val % 4)
    ∧ (win0_1.index t (0 : Fin 3) = t.val / 16 ∧ win0_1.index t (1 : Fin 3) = t.val % 4 ∧ win0_1.index t (2 : Fin 3) = t.val / 4 % 2)
    ∧ (win0_3.index t (0 : Fin 2) = t.val / 8 % 2 ∧ win0_3.index t (1 : Fin 2) = (t.val / 16 * 2 + t.val / 4 % 2))
    ∧ (win0_2.index t (0 : Fin 2) = t.val / 8 % 2 ∧ win0_2.index t (1 : Fin 2) = (t.val / 16 * 2 + t.val / 4 % 2)) :=
  (by decide +kernel : ∀ t : Fin grid0.N, _)

/-- Column `j` of shard `g` of the weight. -/
def wcol (g : Fin 1) (k : Fin 5632) (j : Fin 2048) : EReal := x1 m c (ix2 k j)

theorem blk0 (t : Fin cfg0.N) (a : Fin 1024) (s : Fin 1408) : iblk m c 0 t (ix2 a s) = x0 m c (ix2 (row t.val a) ⟨1408 * (t.val % 4) + s.val, by have := s.isLt; omega⟩) := by
  obtain ⟨ht, ⟨e0, e1⟩, -⟩ := idx t
  refine Eq.trans ?_ (entry_a m c (row t.val a) _)
  show V m c main_v0 (((cfg0.win 0).blk t).view.emb (ix2 a s)) = _
  refine congrArg (V m c main_v0) (funext fun y => Fin.ext ?_)
  match y with
  | ⟨0, _⟩ => show win0_0.index t (0 : Fin 2) * 1024 + 1 * a.val = 1024 * (t.val / 8 % 2) + a.val; omega
  | ⟨1, _⟩ => show win0_0.index t (1 : Fin 2) * 1408 + 1 * s.val = 1408 * (t.val % 4) + s.val; omega

theorem blk1 (t : Fin cfg0.N) (z : Fin 1) (s : Fin 1408) (b : Fin 1024) : iblk m c 1 t (ix3 z s b) = wcol m c (sh t.val) ⟨1408 * (t.val % 4) + s.val, by have := s.isLt; omega⟩ (col t.val b) := by
  obtain ⟨ht, -, ⟨e0, e1, e2⟩, -⟩ := idx t
  have h : iblk m c 1 t (ix3 z s b) = V m c main_v2 (ix3 (sh t.val) ⟨1408 * (t.val % 4) + s.val, by have := s.isLt; omega⟩ (col t.val b)) := by
    show V m c main_v2 (((cfg0.win 1).blk t).view.emb (ix3 z s b)) = _
    refine congrArg (V m c main_v2) (funext fun y => Fin.ext ?_)
    match y with
    | ⟨0, _⟩ => show win0_1.index t (0 : Fin 3) * 1 + 1 * z.val = t.val / 16 % 1; omega
    | ⟨1, _⟩ => show win0_1.index t (1 : Fin 3) * 1408 + 1 * s.val = 1408 * (t.val % 4) + s.val; omega
    | ⟨2, _⟩ => show win0_1.index t (2 : Fin 3) * 1024 + 1 * b.val = 1024 * (t.val / 4 % 2) + b.val; omega
  rw [h]
  exact entry_w m c _ _ _

theorem emb (t : Fin cfg0.N) (a : Fin 1024) (b : Fin 1024) : ((cfg0.win 3).blk t).view.emb (ix2 a b) = ix2 (row t.val a) (place t.val b) := by
  obtain ⟨ht, -, -, ⟨e0, e1⟩, -⟩ := idx t
  refine funext fun y => Fin.ext ?_
  match y with
  | ⟨0, _⟩ => show win0_3.index t (0 : Fin 2) * 1024 + 1 * a.val = 1024 * (t.val / 8 % 2) + a.val; omega
  | ⟨1, _⟩ => show win0_3.index t (1 : Fin 2) * 1024 + 1 * b.val = 1024 * (t.val / 16 % 1 * 2 + t.val / 4 % 2) + b.val; rw [e1, Nat.mod_eq_of_lt ht]; ring

theorem blk2 (t : Fin cfg0.N) (a : Fin 1024) (b : Fin 1024) : iblk m c 2 t (ix2 a b) = x2 m c (ix2 (row t.val a) (place t.val b)) := by
  obtain ⟨ht, -, -, -, e0, e1⟩ := idx t
  rw [show x2 m c = V m c main_arg2 from (V_main_arg2 m c).symm]
  show V m c main_arg2 (((cfg0.win 2).blk t).view.emb (ix2 a b)) = _
  refine congrArg (V m c main_arg2) (funext fun y => Fin.ext ?_)
  match y with
  | ⟨0, _⟩ => show win0_2.index t (0 : Fin 2) * 1024 + 1 * a.val = 1024 * (t.val / 8 % 2) + a.val; omega
  | ⟨1, _⟩ => show win0_2.index t (1 : Fin 2) * 1024 + 1 * b.val = 1024 * (t.val / 16 % 1 * 2 + t.val / 4 % 2) + b.val; rw [e1, Nat.mod_eq_of_lt ht]; ring

/-! The reference. -/

/-- The reference's result. -/
def R : S2048x2048.Idx → EReal := Cert.DownResRefIdeal.Read.val_main_v1 (F := Ideal) (x0 m c) (x1 m c) (x2 m c)

theorem ref_apply (t : Fin cfg0.N) (a : Fin 1024) (b : Fin 1024) : R m c (ix2 (row t.val a) (place t.val b)) = x2 m c (ix2 (row t.val a) (place t.val b)) + ∑ k : Fin 5632, x0 m c (ix2 (row t.val a) k) * wcol m c (sh t.val) k (col t.val b) := by
  unfold R wcol Cert.DownResRefIdeal.Read.val_main_v1 Cert.DownResRefIdeal.Read.val_main_v0
  generalize hr : row t.val a = r
  have hp : (place t.val b).val = 1024 * (t.val / 16 % 1 * 2 + t.val / 4 % 2) + b.val := rfl
  have hc : (col t.val b).val = 1024 * (t.val / 4 % 2) + b.val := rfl
  have hg : (sh t.val).val = t.val / 16 % 1 := rfl
  have hb := b.isLt
  generalize place t.val b = p at hp ⊢
  generalize col t.val b = j at hc ⊢
  generalize sh t.val = g at hg ⊢
  pointwise
  obtain rfl : p = j := Fin.ext (by omega)
  rfl

/-! What a point of the grid leaves, case by case: the first block of a sum, one in its middle, its last. -/

section Cases
variable (i : grid0.Coords) (a4 : Memref sig .tc .vmem S1024x1408 .bf16) (h4 : a4.IsWhole) (a5 : Memref sig .tc .vmem S1x1408x1024 .bf16) (h5 : a5.IsWhole) (a6 : Memref sig .tc .vmem S1024x1024 .f32) (h6 : a6.IsWhole) (a7 : Memref sig .tc .vmem S1024x1024 .f32) (h7 : a7.IsWhole) (a8 : Memref sig .tc .vmem S1024x1024 .f32) (h8 : a8.IsWhole)
  (p0 : Vec Ideal S1024x1408 .bf16) (p1 : Vec Ideal S1x1408x1024 .bf16) (p2 : Vec Ideal S1024x1024 .f32) (u : Vec Ideal S1024x1024 .f32)

theorem case_A (hc0 : cond0_0 i) (hc1 : ¬cond0_1 i) :
    sout0_A_0 c i a4 h4 a5 h5 a6 h6 a7 h7 a8 h8 hc0 hc1 p0 p1 p2 = k0_pay2 (F := Ideal) (k0_pay1 (F := Ideal)) p0 p1 := by
  unfold sout0_A_0
  rw [View.read_writes_eq_canon _ _ _ (scover0_A_0 c i a4 h4 a5 h5 a6 h6 a7 h7 a8 h8 hc0 hc1 p0 p1 p2)]
  unfold kernelRun0_A
  dsimp only
  sl_unfold_words
  rw [View.canon_cons_unit_zero (S := S1024x1024) hz2, View.readCov_unit_zero (S := S1024x1024) _ hz2]
  simp only [View.readAt_eq_ld, h4.read_unread, h5.read_unread, h6.read_unread, h8.read_unread, View.ld_unit_zero (S := S1024x1408) hz2, View.ld_unit_zero (S := S1x1408x1024) hz3, View.ld_unit_zero (S := S1024x1024) hz2]

theorem case_B (hc0 : ¬cond0_0 i) (hc1 : ¬cond0_1 i) :
    sout0_B_0 c i a4 h4 a5 h5 a6 h6 a7 h7 a8 h8 hc0 hc1 p0 p1 p2 u = k0_pay2 (F := Ideal) u p0 p1 := by
  unfold sout0_B_0
  rw [View.read_writes_eq_canon _ _ _ (scover0_B_0 c i a4 h4 a5 h5 a6 h6 a7 h7 a8 h8 hc0 hc1 p0 p1 p2 u)]
  unfold kernelRun0_B
  dsimp only
  sl_unfold_words
  rw [View.canon_unit_zero hz2]
  simp only [View.readAt_eq_ld, h4.read_unread, h5.read_unread, h6.read_unread, h8.read_unread, View.ld_unit_zero (S := S1024x1408) hz2, View.ld_unit_zero (S := S1x1408x1024) hz3, View.ld_unit_zero (S := S1024x1024) hz2]

theorem case_C (hc0 : ¬cond0_0 i) (hc1 : cond0_1 i) :
    sout0_C_0 c i a4 h4 a5 h5 a6 h6 a7 h7 a8 h8 hc0 hc1 p0 p1 p2 u = k0_pay2 (F := Ideal) u p0 p1 := by
  unfold sout0_C_0
  rw [View.read_writes_eq_canon _ _ _ (scover0_C_0 c i a4 h4 a5 h5 a6 h6 a7 h7 a8 h8 hc0 hc1 p0 p1 p2 u)]
  unfold kernelRun0_C
  dsimp only
  sl_unfold_words
  rw [View.canon_unit_zero hz2]
  simp only [View.readAt_eq_ld, h4.read_unread, h5.read_unread, h6.read_unread, h8.read_unread, View.ld_unit_zero (S := S1024x1408) hz2, View.ld_unit_zero (S := S1x1408x1024) hz3, View.ld_unit_zero (S := S1024x1024) hz2]

theorem last_C (hc0 : ¬cond0_0 i) (hc1 : cond0_1 i) :
    out0_C_3 c i a4 h4 a5 h5 a6 h6 a7 h7 a8 h8 hc0 hc1 p0 p1 p2 u = k0_pay3 (F := Ideal) (k0_pay2 (F := Ideal) u p0 p1) p2 := by
  unfold out0_C_3
  rw [View.read_writes_eq_canon _ _ _ (cover0_C_3 c i a4 h4 a5 h5 a6 h6 a7 h7 a8 h8 hc0 hc1 p0 p1 p2 u)]
  unfold kernelRun0_C
  dsimp only
  sl_unfold_words
  rw [View.canon_unit_zero hz2, View.readCov_unit_zero (S := S1024x1024) _ hz2]
  simp only [View.readAt_eq_ld, h4.read_unread, h5.read_unread, h6.read_unread, h8.read_unread, View.ld_unit_zero (S := S1024x1408) hz2, View.ld_unit_zero (S := S1x1408x1024) hz3, View.ld_unit_zero (S := S1024x1024) hz2]

end Cases

/-- One product of the sum, and block `i` of the sum. -/
def prod (t : ℕ) (a : Fin 1024) (b : Fin 1024) (r : Fin 5632) : EReal := x0 m c (ix2 (row t a) r) * wcol m c (sh t) r (col t b)
def term (t : ℕ) (a : Fin 1024) (b : Fin 1024) (i : ℕ) : EReal := ∑ s : Fin 1408, (if h : 1408 * i + s.val < 5632 then prod m c t a b ⟨1408 * i + s.val, h⟩ else 0)

theorem term_sum (t : ℕ) (a : Fin 1024) (b : Fin 1024) : ∑ i ∈ Finset.range 4, term m c t a b i = ∑ r : Fin 5632, prod m c t a b r :=
  BlockSum.sum_blocks_fin 4 1408 5632 rfl (prod m c t a b)

/-- A point adds its block of the sum. -/
theorem step (t : Fin cfg0.N) (u : Vec Ideal S1024x1024 .f32) (a : Fin 1024) (b : Fin 1024) :
    k0_pay2 (F := Ideal) u (iblk m c 0 t) (iblk m c 1 t) (ix2 a b) = u (ix2 a b) + term m c t.val a b (t.val % 4) := by
  rw [pay_add]
  refine congrArg (u (ix2 a b) + ·) ?_
  unfold term
  refine Finset.sum_congr rfl fun s _ => ?_
  rw [dif_pos (show 1408 * (t.val % 4) + s.val < 5632 by have := s.isLt; omega)]
  exact congrArg₂ (· * ·) (blk0 m c t a s) (blk1 m c t 0 s b)

/-- The points of one sum have the same rows and columns. -/
theorem term_pred (n : ℕ) (h : ¬(n + 1) % 4 = 0) (a : Fin 1024) (b : Fin 1024) : term m c (n + 1) a b = term m c n a b := by
  have e1 : row (n + 1) a = row n a := Fin.ext (by show 1024 * ((n + 1) / 8 % 2) + a.val = 1024 * (n / 8 % 2) + a.val; omega)
  have e2 : col (n + 1) b = col n b := Fin.ext (by show 1024 * ((n + 1) / 4 % 2) + b.val = 1024 * (n / 4 % 2) + b.val; omega)
  have e3 : sh (n + 1) = sh n := Subsingleton.elim _ _
  unfold term prod
  rw [e1, e2, e3]

/-- After a point the sum's buffer holds the blocks so far. -/
theorem sofar : ∀ (n : ℕ) (hn : n < cfg0.N) (a : Fin 1024) (b : Fin 1024),
    (outsAt0 m c n hn).2 (ix2 a b) = ∑ i ∈ Finset.range (n % 4 + 1), term m c n a b i := by
  intro n
  induction n with
  | zero =>
    intro hn a b
    rw [outsAt0_A m c ⟨0, hn⟩ rfl (by show ¬0 % 4 = 3; decide)]
    dsimp only
    rw [case_A, step, pay_zero]
    simp
  | succ n ih =>
    intro hn a b
    by_cases h0 : (n + 1) % 4 = 0
    · rw [outsAt0_A m c ⟨n + 1, hn⟩ h0 (by show ¬(n + 1) % 4 = 3; omega)]
      dsimp only
      rw [case_A, step, pay_zero]
      dsimp only
      rw [h0]
      simp
    · have e1 : (n + 1) % 4 = n % 4 + 1 := by omega
      have i1 := ih (by omega) a b
      by_cases h1 : (n + 1) % 4 = 3
      · rw [outsAt0_C m c ⟨n + 1, hn⟩ h0 h1]
        dsimp only
        rw [case_C, step]
        dsimp only
        rw [term_pred m c n h0, e1, Finset.sum_range_succ _ (n % 4 + 1), ← i1]
        rfl
      · rw [outsAt0_B m c ⟨n + 1, hn⟩ h0 h1]
        dsimp only
        rw [case_B, step]
        dsimp only
        rw [term_pred m c n h0, e1, Finset.sum_range_succ _ (n % 4 + 1), ← i1]
        rfl

theorem last (t : Fin cfg0.N) (h1 : t.val % 4 = 3) (a : Fin 1024) (b : Fin 1024) :
    (outsAt0 m c t.val t.isLt).1 (ix2 a b) = x2 m c (ix2 (row t.val a) (place t.val b)) + ∑ r : Fin 5632, prod m c t.val a b r := by
  have h0 : ¬t.val % 4 = 0 := by omega
  have e := sofar m c t.val t.isLt a b
  rw [outsAt0_C m c t h0 h1] at e ⊢
  dsimp only at e ⊢
  rw [case_C] at e
  rw [last_C, pay_out, blk2, add_comm, e, h1]
  exact congrArg _ (term_sum m c t.val a b)

theorem flush : ∀ t : Fin cfg0.N, (cfg0.win 3).flush t = true → t.val % 4 = 3 :=
  (by decide +kernel : ∀ t : Fin grid0.N, _)

theorem arr : (dats m 0 c).arrAt 3 cfg0.N = R m c := by
  refine (dats m 0 c).arrAt_eq_of_covers 3 (R m c) (by decide +kernel) fun t hf y => ?_
  blk_simp
  rw [after0_3]
  obtain ⟨a, b, rfl⟩ : ∃ (a : Fin 1024) (b : Fin 1024), y = ix2 a b := ⟨y 0, y 1, eta2 y⟩
  show (outsAt0 m c t.val t.isLt).1 (ix2 a b) = R m c (((cfg0.win 3).blk t).view.emb (ix2 a b))
  rw [emb, ref_apply, last m c t (flush t hf)]
  rfl

/-- The kernel leaves the reference's result. -/
theorem algebraic : Cert.algebraic_DownResIdeal_DownResRefIdeal := by
  intro m ρ m' ρ' _ hargs
  refine ⟨fun c => R m c, ?_, ?_⟩
  · refine (θ_run defs _ _).mono (fun r h c => ?_) (Cert.DownResIdeal.Value.run_blocks m ρ)
    exact ⟨(h c).1.trans (arr m c), (h c).2⟩
  · refine (θ_run Cert.DownResRefIdeal.defs _ _).mono (fun r h c => ?_) (Cert.DownResRefIdeal.Value.run m' ρ')
    obtain ⟨a0, a1, a2⟩ := hargs c
    refine ⟨(h c).1.trans ?_, (h c).2⟩
    rw [Cert.DownResRefIdeal.Read.val_main_v1_eq, a0, a1, a2]
    rfl

end Cert.DownResIdeal.Val

end
-- ==== Proof.Ad.Base.lean ====
/- One entry of the optimiser's update on the extended reals: the two moments and the step. The kernel multiplies by the
   reciprocals of the two bias corrections where the mathematics divides by them. -/
module

public import proofs.«01_k».proof.Proof.Mm.Base

@[expose] public section

noncomputable section

namespace Cert.Ad

open Idealize.ShloMosaic

/-- The first moment after the step, from the gradient and the moment before. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The change of the weight, from the two moments after the step, already corrected for their bias, and the weight. -/
def delta (mh vh w : EReal) : EReal :=
  Ideal.ofBits .f32 0xBA83126F#32 * (Ideal.div mh (Ideal.sqrt vh + Ideal.ofBits .f32 0x322BCC77#32) + Ideal.ofBits .f32 0x3C23D70A#32 * w)

/-- The change of the weight with the moments divided by the bias corrections. -/
def step (w g m v : EReal) : EReal :=
  delta (Ideal.div (mom g m) (Ideal.ofBits .f32 0x3F26BD02#32)) (Ideal.div (vel g v) (Ideal.ofBits .f32 0x3C231ACC#32)) w

theorem bias1 : Ideal.ofBits .f32 0x3F26BD02#32 = ((5463681 / 8388608 : ℝ) : EReal) := by
  simp [Ideal.ofBits, Ideal.ieee, -EReal.coe_mul]; norm_num

theorem bias2 : Ideal.ofBits .f32 0x3C231ACC#32 = ((2672307 / 268435456 : ℝ) : EReal) := by
  simp [Ideal.ofBits, Ideal.ieee, -EReal.coe_mul]; norm_num

/-- Multiplying by the reciprocals gives the same step. -/
theorem step_eq (w g m v : EReal) :
    delta (mom g m * ((8388608 / 5463681 : ℝ) : EReal)) (vel g v * ((268435456 / 2672307 : ℝ) : EReal)) w = step w g m v := by
  unfold step
  rw [bias1, bias2, Ideal.div_coe (by norm_num), Ideal.div_coe (by norm_num)]
  norm_num

/-- A selection by an equality of words. -/
theorem select_eq (s k : BitVec 32) (x y : EReal) : Scalar.select (IntOp.cmpi .eq s k) x y = if s = k then x else y := by
  by_cases h : s = k
  · subst h; rw [if_pos rfl]; simp [Scalar.select, IntOp.cmpi]
  · have hb : (s == k) = false := beq_eq_false_iff_ne.mpr h
    rw [if_neg h]; simp [Scalar.select, IntOp.cmpi, hb]

end Cert.Ad

end
-- ==== Proof.Ad.In.lean ====
/- The update of the input projection's weights: the kernel's three results are the reference's. -/
module

public import proofs.«01_k».proof.Proof.Gen.AdamInIdeal.Value
public import proofs.«01_k».proof.Proof.Gen.AdamInRefIdeal
public import proofs.«01_k».proof.Proof.Gen.AdamInRefIdeal.Read
public import proofs.«01_k».proof.Proof.Gen.AdamInRefIdeal.Run
public import proofs.«01_k».proof.Defs
public import proofs.«01_k».proof.Proof.Ad.Base

@[expose] public section

set_option maxRecDepth 16384

noncomputable section

namespace Cert.AdamInIdeal.Val

open Cert.AdamInIdeal Cert.AdamInIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the weights, their gradients and the two moments. -/
abbrev x0 : S4x2048x1236.Idx → EReal := m ((c : Thread nD τ).loc main_arg0)
abbrev x1 : S4x2048x1236.Idx → EReal := m ((c : Thread nD τ).loc main_arg1)
abbrev x2 : S4x2048x1236.Idx → EReal := m ((c : Thread nD τ).loc main_arg2)
abbrev x3 : S4x2048x1236.Idx → EReal := m ((c : Thread nD τ).loc main_arg3)

/-! What the kernel is handed, by rows and columns. -/

def a0 (i : Fin 8192) (j : Fin 1236) : EReal := x0 m c (ix3 ⟨i.val / 2048, by omega⟩ ⟨i.val % 2048, by omega⟩ j)
def a1 (i : Fin 8192) (j : Fin 1236) : EReal := x1 m c (ix3 ⟨i.val / 2048, by omega⟩ ⟨i.val % 2048, by omega⟩ j)
def a2 (i : Fin 8192) (j : Fin 1236) : EReal := x2 m c (ix3 ⟨i.val / 2048, by omega⟩ ⟨i.val % 2048, by omega⟩ j)
def a3 (i : Fin 8192) (j : Fin 1236) : EReal := x3 m c (ix3 ⟨i.val / 2048, by omega⟩ ⟨i.val % 2048, by omega⟩ j)

theorem entry0 (i : Fin 8192) (j : Fin 1236) : V m c main_v0 (ix2 i j) = a0 m c i j := by
  unfold a0
  entry_read
  pointwise

theorem entry1 (i : Fin 8192) (j : Fin 1236) : V m c main_v1 (ix2 i j) = a1 m c i j := by
  unfold a1
  entry_read
  pointwise

theorem entry2 (i : Fin 8192) (j : Fin 1236) : V m c main_v2 (ix2 i j) = a2 m c i j := by
  unfold a2
  entry_read
  pointwise

theorem entry3 (i : Fin 8192) (j : Fin 1236) : V m c main_v3 (ix2 i j) = a3 m c i j := by
  unfold a3
  entry_read
  pointwise

/-! One point of the grid. -/

theorem c1 : Named.named (F := Ideal) Cert.AdamInIdeal.κ "c1" (φ := .f32) 0x3FC48605#32 = ((8388608 / 5463681 : ℝ) : EReal) :=
  IdealRules.named_const.ideal_named_scalar _ _ _ _ rfl
theorem c2 : Named.named (F := Ideal) Cert.AdamInIdeal.κ "c2" (φ := .f32) 0x42C8E6D3#32 = ((268435456 / 2672307 : ℝ) : EReal) :=
  IdealRules.named_const.ideal_named_scalar _ _ _ _ rfl

theorem pay_mom (g u : Vec Ideal S128x1236 .f32) (a : Fin 128) (b : Fin 1236) : k0_pay2 (F := Ideal) g u (ix2 a b) = mom (g (ix2 a b)) (u (ix2 a b)) := by
  unfold k0_pay2 k0_pay1 mom
  pointwise

theorem pay_vel (g u : Vec Ideal S128x1236 .f32) (a : Fin 128) (b : Fin 1236) : k0_pay3 (F := Ideal) g u (ix2 a b) = vel (g (ix2 a b)) (u (ix2 a b)) := by
  unfold k0_pay3 k0_pay1 vel
  pointwise

theorem pay_step (g u s w : Vec Ideal S128x1236 .f32) (a : Fin 128) (b : Fin 1236) :
    k0_pay4 (F := Ideal) g u s w (ix2 a b) = step (w (ix2 a b)) (g (ix2 a b)) (u (ix2 a b)) (s (ix2 a b)) := by
  rw [← step_eq, ← c1, ← c2, ← pay_mom, ← pay_vel]
  unfold k0_pay4 delta
  generalize k0_pay2 (F := Ideal) g u = p
  generalize k0_pay3 (F := Ideal) g s = q
  pointwise

theorem ld_eq (x : Vec Ideal S128x1236 .f32) : View.ld x r0_0 = x := View.ld_unit_zero (S := S128x1236) hz2 _ _

theorem out4 (w g u s : Vec Ideal S128x1236 .f32) : out0_4 (F := Ideal) w g u s = k0_pay4 (F := Ideal) g u s w := by
  unfold out0_4
  refine (View.canon_unit_zero hz2 _ _).trans ?_
  simp only [ld_eq]

theorem out5 (w g u s : Vec Ideal S128x1236 .f32) : out0_5 (F := Ideal) w g u s = k0_pay2 (F := Ideal) g u := by
  unfold out0_5
  refine (View.canon_unit_zero hz2 _ _).trans ?_
  simp only [ld_eq]

theorem out6 (w g u s : Vec Ideal S128x1236 .f32) : out0_6 (F := Ideal) w g u s = k0_pay3 (F := Ideal) g s := by
  unfold out0_6
  refine (View.canon_unit_zero hz2 _ _).trans ?_
  simp only [ld_eq]

/-! The blocks of the grid's points. -/

/-- Row `a` of the point's rows. -/
def row (t : Fin cfg0.N) (a : Fin 128) : Fin 8192 := ⟨128 * t.val + a.val, by have ht : t.val < 64 := N_0 ▸ t.isLt; omega⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem blk0 (t : Fin cfg0.N) (a : Fin 128) (b : Fin 1236) : iblk m c 0 t (ix2 a b) = a0 m c (row t a) b := by
  obtain ⟨⟨e0, e1⟩, -⟩ := idx t
  refine Eq.trans ?_ (entry0 m c (row t a) b)
  show V m c main_v0 (((cfg0.win 0).blk t).view.emb (ix2 a b)) = _
  refine congrArg (V m c main_v0) (funext fun y => Fin.ext ?_)
  match y with
  | ⟨0, _⟩ => show win0_0.index t (0 : Fin 2) * 128 + 1 * a.val = 128 * t.val + a.val; omega
  | ⟨1, _⟩ => show win0_0.index t (1 : Fin 2) * 1236 + 1 * b.val = b.val; omega

theorem blk1 (t : Fin cfg0.N) (a : Fin 128) (b : Fin 1236) : iblk m c 1 t (ix2 a b) = a1 m c (row t a) b := by
  obtain ⟨-, ⟨e0, e1⟩, -⟩ := idx t
  refine Eq.trans ?_ (entry1 m c (row t a) b)
  show V m c main_v1 (((cfg0.win 1).blk t).view.emb (ix2 a b)) = _
  refine congrArg (V m c main_v1) (funext fun y => Fin.ext ?_)
  match y with
  | ⟨0, _⟩ => show win0_1.index t (0 : Fin 2) * 128 + 1 * a.val = 128 * t.val + a.val; omega
  | ⟨1, _⟩ => show win0_1.index t (1 : Fin 2) * 1236 + 1 * b.val = b.val; omega

theorem blk2 (t : Fin cfg0.N) (a : Fin 128) (b : Fin 1236) : iblk m c 2 t (ix2 a b) = a2 m c (row t a) b := by
  obtain ⟨-, -, ⟨e0, e1⟩, -⟩ := idx t
  refine Eq.trans ?_ (entry2 m c (row t a) b)
  show V m c main_v2 (((cfg0.win 2).blk t).view.emb (ix2 a b)) = _
  refine congrArg (V m c main_v2) (funext fun y => Fin.ext ?_)
  match y with
  | ⟨0, _⟩ => show win0_2.index t (0 : Fin 2) * 128 + 1 * a.val = 128 * t.val + a.val; omega
  | ⟨1, _⟩ => show win0_2.index t (1 : Fin 2) * 1236 + 1 * b.val = b.val; omega

theorem blk3 (t : Fin cfg0.N) (a : Fin 128) (b : Fin 1236) : iblk m c 3 t (ix2 a b) = a3 m c (row t a) b := by
  obtain ⟨-, -, -, ⟨e0, e1⟩, -⟩ := idx t
  refine Eq.trans ?_ (entry3 m c (row t a) b)
  show V m c main_v3 (((cfg0.win 3).blk t).view.emb (ix2 a b)) = _
  refine congrArg (V m c main_v3) (funext fun y => Fin.ext ?_)
  match y with
  | ⟨0, _⟩ => show win0_3.index t (0 : Fin 2) * 128 + 1 * a.val = 128 * t.val + a.val; omega
  | ⟨1, _⟩ => show win0_3.index t (1 : Fin 2) * 1236 + 1 * b.val = b.val; omega

theorem emb4 (t : Fin cfg0.N) (a : Fin 128) (b : Fin 1236) : ((cfg0.win 4).blk t).view.emb (ix2 a b) = ix2 (row t a) b := by
  obtain ⟨-, -, -, -, ⟨e0, e1⟩, -⟩ := idx t
  refine funext fun y => Fin.ext ?_
  match y with
  | ⟨0, _⟩ => show win0_4.index t (0 : Fin 2) * 128 + 1 * a.val = 128 * t.val + a.val; omega
  | ⟨1, _⟩ => show win0_4.index t (1 : Fin 2) * 1236 + 1 * b.val = b.val; omega

theorem emb5 (t : Fin cfg0.N) (a : Fin 128) (b : Fin 1236) : ((cfg0.win 5).blk t).view.emb (ix2 a b) = ix2 (row t a) b := by
  obtain ⟨-, -, -, -, -, ⟨e0, e1⟩, -⟩ := idx t
  refine funext fun y => Fin.ext ?_
  match y with
  | ⟨0, _⟩ => show win0_5.index t (0 : Fin 2) * 128 + 1 * a.val = 128 * t.val + a.val; omega
  | ⟨1, _⟩ => show win0_5.index t (1 : Fin 2) * 1236 + 1 * b.val = b.val; omega

theorem emb6 (t : Fin cfg0.N) (a : Fin 128) (b : Fin 1236) : ((cfg0.win 6).blk t).view.emb (ix2 a b) = ix2 (row t a) b := by
  obtain ⟨-, -, -, -, -, -, e0, e1⟩ := idx t
  refine funext fun y => Fin.ext ?_
  match y with
  | ⟨0, _⟩ => show win0_6.index t (0 : Fin 2) * 128 + 1 * a.val = 128 * t.val + a.val; omega
  | ⟨1, _⟩ => show win0_6.index t (1 : Fin 2) * 1236 + 1 * b.val = b.val; omega

/-! The reference's three results. -/

def R4 : S8192x1236.Idx → EReal := Cert.AdamInRefIdeal.Read.val_main_v24 (F := Ideal) (x0 m c) (x1 m c) (x2 m c) (x3 m c)

theorem ref4 (i : Fin 8192) (j : Fin 1236) : R4 m c (ix2 i j) = step (a0 m c i j) (a1 m c i j) (a2 m c i j) (a3 m c i j) := by
  unfold R4 step delta mom vel a0 a1 a2 a3 Cert.AdamInRefIdeal.Read.val_main_v24 Cert.AdamInRefIdeal.Read.val_main_v23 Cert.AdamInRefIdeal.Read.val_main_v22 Cert.AdamInRefIdeal.Read.val_main_v21 Cert.AdamInRefIdeal.Read.val_main_v20 Cert.AdamInRefIdeal.Read.val_main_v19 Cert.AdamInRefIdeal.Read.val_main_v18 Cert.AdamInRefIdeal.Read.val_main_v17 Cert.AdamInRefIdeal.Read.val_main_v16 Cert.AdamInRefIdeal.Read.val_main_v15 Cert.AdamInRefIdeal.Read.val_main_v14 Cert.AdamInRefIdeal.Read.val_main_v13 Cert.AdamInRefIdeal.Read.val_main_v12 Cert.AdamInRefIdeal.Read.val_main_v11 Cert.AdamInRefIdeal.Read.val_main_v10 Cert.AdamInRefIdeal.Read.val_main_v9 Cert.AdamInRefIdeal.Read.val_main_v8 Cert.AdamInRefIdeal.Read.val_main_v7 Cert.AdamInRefIdeal.Read.val_main_v6 Cert.AdamInRefIdeal.Read.val_main_v5 Cert.AdamInRefIdeal.Read.val_main_v4 Cert.AdamInRefIdeal.Read.val_main_v3 Cert.AdamInRefIdeal.Read.val_main_v2 Cert.AdamInRefIdeal.Read.val_main_v1 Cert.AdamInRefIdeal.Read.val_main_v0 Cert.AdamInRefIdeal.Read.val_main_cst Cert.AdamInRefIdeal.Read.val_main_cst_0 Cert.AdamInRefIdeal.Read.val_main_cst_1 Cert.AdamInRefIdeal.Read.val_main_cst_2 Cert.AdamInRefIdeal.Read.val_main_cst_3 Cert.AdamInRefIdeal.Read.val_main_cst_4 Cert.AdamInRefIdeal.Read.val_main_cst_5 Cert.AdamInRefIdeal.Read.val_main_cst_6 Cert.AdamInRefIdeal.Read.val_main_cst_7
  pointwise

def R5 : S8192x1236.Idx → EReal := Cert.AdamInRefIdeal.Read.val_main_v25 (F := Ideal) (x1 m c) (x2 m c)

theorem ref5 (i : Fin 8192) (j : Fin 1236) : R5 m c (ix2 i j) = mom (a1 m c i j) (a2 m c i j) := by
  unfold R5 mom a1 a2 Cert.AdamInRefIdeal.Read.val_main_v25 Cert.AdamInRefIdeal.Read.val_main_v4 Cert.AdamInRefIdeal.Read.val_main_v3 Cert.AdamInRefIdeal.Read.val_main_v2 Cert.AdamInRefIdeal.Read.val_main_v1 Cert.AdamInRefIdeal.Read.val_main_v0 Cert.AdamInRefIdeal.Read.val_main_cst Cert.AdamInRefIdeal.Read.val_main_cst_0
  pointwise

def R6 : S8192x1236.Idx → EReal := Cert.AdamInRefIdeal.Read.val_main_v26 (F := Ideal) (x1 m c) (x3 m c)

theorem ref6 (i : Fin 8192) (j : Fin 1236) : R6 m c (ix2 i j) = vel (a1 m c i j) (a3 m c i j) := by
  unfold R6 vel a1 a3 Cert.AdamInRefIdeal.Read.val_main_v26 Cert.AdamInRefIdeal.Read.val_main_v10 Cert.AdamInRefIdeal.Read.val_main_v9 Cert.AdamInRefIdeal.Read.val_main_v8 Cert.AdamInRefIdeal.Read.val_main_v7 Cert.AdamInRefIdeal.Read.val_main_v6 Cert.AdamInRefIdeal.Read.val_main_v5 Cert.AdamInRefIdeal.Read.val_main_cst_1 Cert.AdamInRefIdeal.Read.val_main_cst_2
  pointwise

theorem arr4 : (dats m 0 c).arrAt 4 cfg0.N = R4 m c := by
  refine (dats m 0 c).arrAt_eq_of_covers 4 (R4 m c) (by decide +kernel) fun t _ y => ?_
  blk_simp
  rw [after0_4]
  obtain ⟨a, b, rfl⟩ : ∃ (a : Fin 128) (b : Fin 1236), y = ix2 a b := ⟨y 0, y 1, eta2 y⟩
  show out0_4 (iblk m c 0 t) (iblk m c 1 t) (iblk m c 2 t) (iblk m c 3 t) (ix2 a b) = R4 m c (((cfg0.win 4).blk t).view.emb (ix2 a b))
  rw [emb4, ref4, out4]
  refine (pay_step _ _ _ _ a b).trans ?_
  rw [blk0, blk1, blk2, blk3]

theorem arr5 : (dats m 0 c).arrAt 5 cfg0.N = R5 m c := by
  refine (dats m 0 c).arrAt_eq_of_covers 5 (R5 m c) (by decide +kernel) fun t _ y => ?_
  blk_simp
  rw [after0_5]
  obtain ⟨a, b, rfl⟩ : ∃ (a : Fin 128) (b : Fin 1236), y = ix2 a b := ⟨y 0, y 1, eta2 y⟩
  show out0_5 (iblk m c 0 t) (iblk m c 1 t) (iblk m c 2 t) (iblk m c 3 t) (ix2 a b) = R5 m c (((cfg0.win 5).blk t).view.emb (ix2 a b))
  rw [emb5, ref5, out5]
  refine (pay_mom _ _ a b).trans ?_
  rw [blk1, blk2]

theorem arr6 : (dats m 0 c).arrAt 6 cfg0.N = R6 m c := by
  refine (dats m 0 c).arrAt_eq_of_covers 6 (R6 m c) (by decide +kernel) fun t _ y => ?_
  blk_simp
  rw [after0_6]
  obtain ⟨a, b, rfl⟩ : ∃ (a : Fin 128) (b : Fin 1236), y = ix2 a b := ⟨y 0, y 1, eta2 y⟩
  show out0_6 (iblk m c 0 t) (iblk m c 1 t) (iblk m c 2 t) (iblk m c 3 t) (ix2 a b) = R6 m c (((cfg0.win 6).blk t).view.emb (ix2 a b))
  rw [emb6, ref6, out6]
  refine (pay_vel _ _ a b).trans ?_
  rw [blk1, blk3]

/-- The kernel leaves the reference's three results. -/
theorem algebraic : Cert.algebraic_AdamInIdeal_AdamInRefIdeal := by
  intro m ρ m' ρ' _ hargs
  refine ⟨fun c => R4 m c, fun c => R5 m c, fun c => R6 m c, ?_, ?_⟩
  · refine (θ_run defs _ _).mono (fun r h c => ?_) (Cert.AdamInIdeal.Value.run_blocks m ρ)
    exact ⟨(h c).1.trans (arr4 m c), (h c).2.1.trans (arr5 m c), (h c).2.2.1.trans (arr6 m c), (h c).2.2.2⟩
  · refine (θ_run Cert.AdamInRefIdeal.defs _ _).mono (fun r h c => ?_) (Cert.AdamInRefIdeal.Value.run m' ρ')
    obtain ⟨e0, e1, e2, e3⟩ := hargs c
    refine ⟨(h c).1.trans ?_, (h c).2.1.trans ?_, (h c).2.2.1.trans ?_, (h c).2.2.2⟩
    · rw [Cert.AdamInRefIdeal.Read.val_main_v24_eq, e0, e1, e2, e3]; rfl
    · rw [Cert.AdamInRefIdeal.Read.val_main_v25_eq, e1, e2]; rfl
    · rw [Cert.AdamInRefIdeal.Read.val_main_v26_eq, e1, e3]; rfl

end Cert.AdamInIdeal.Val

end
-- ==== Proof.Ad.Packed.lean ====
/- The update of the small weights, packed into one array: the kernel's three results are the reference's. -/
module

public import proofs.«01_k».proof.Proof.Gen.AdamPackedIdeal.Value
public import proofs.«01_k».proof.Proof.Gen.AdamPackedRefIdeal
public import proofs.«01_k».proof.Proof.Gen.AdamPackedRefIdeal.Read
public import proofs.«01_k».proof.Proof.Gen.AdamPackedRefIdeal.Run
public import proofs.«01_k».proof.Defs
public import proofs.«01_k».proof.Proof.Ad.Base

@[expose] public section

set_option maxRecDepth 16384

noncomputable section

namespace Cert.AdamPackedIdeal.Val

open Cert.AdamPackedIdeal Cert.AdamPackedIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the weights, their gradients and the two moments. -/
abbrev x0 : S968x128.Idx → EReal := m ((c : Thread nD τ).loc main_arg0)
abbrev x1 : S968x128.Idx → EReal := m ((c : Thread nD τ).loc main_arg1)
abbrev x2 : S968x128.Idx → EReal := m ((c : Thread nD τ).loc main_arg2)
abbrev x3 : S968x128.Idx → EReal := m ((c : Thread nD τ).loc main_arg3)

/-! What the kernel is handed, by rows and columns. -/

def a0 (i : Fin 968) (j : Fin 128) : EReal := x0 m c (ix2 i j)
def a1 (i : Fin 968) (j : Fin 128) : EReal := x1 m c (ix2 i j)
def a2 (i : Fin 968) (j : Fin 128) : EReal := x2 m c (ix2 i j)
def a3 (i : Fin 968) (j : Fin 128) : EReal := x3 m c (ix2 i j)

theorem entry0 (i : Fin 968) (j : Fin 128) : V m c main_arg0 (ix2 i j) = a0 m c i j := by
  rw [V_main_arg0]; rfl

theorem entry1 (i : Fin 968) (j : Fin 128) : V m c main_arg1 (ix2 i j) = a1 m c i j := by
  rw [V_main_arg1]; rfl

theorem entry2 (i : Fin 968) (j : Fin 128) : V m c main_arg2 (ix2 i j) = a2 m c i j := by
  rw [V_main_arg2]; rfl

theorem entry3 (i : Fin 968) (j : Fin 128) : V m c main_arg3 (ix2 i j) = a3 m c i j := by
  rw [V_main_arg3]; rfl

/-! One point of the grid. -/

theorem c1 : Named.named (F := Ideal) Cert.AdamPackedIdeal.κ "c1" (φ := .f32) 0x3FC48605#32 = ((8388608 / 5463681 : ℝ) : EReal) :=
  IdealRules.named_const.ideal_named_scalar _ _ _ _ rfl
theorem c2 : Named.named (F := Ideal) Cert.AdamPackedIdeal.κ "c2" (φ := .f32) 0x42C8E6D3#32 = ((268435456 / 2672307 : ℝ) : EReal) :=
  IdealRules.named_const.ideal_named_scalar _ _ _ _ rfl

theorem pay_mom (g u : Vec Ideal S8x128 .f32) (a : Fin 8) (b : Fin 128) : k0_pay1 (F := Ideal) g u (ix2 a b) = mom (g (ix2 a b)) (u (ix2 a b)) := by
  unfold k0_pay1 mom
  pointwise

theorem pay_vel (g u : Vec Ideal S8x128 .f32) (a : Fin 8) (b : Fin 128) : k0_pay2 (F := Ideal) g u (ix2 a b) = vel (g (ix2 a b)) (u (ix2 a b)) := by
  unfold k0_pay2 vel
  pointwise

theorem pay_step (g u s w : Vec Ideal S8x128 .f32) (a : Fin 8) (b : Fin 128) :
    k0_pay3 (F := Ideal) g u s w (ix2 a b) = step (w (ix2 a b)) (g (ix2 a b)) (u (ix2 a b)) (s (ix2 a b)) := by
  rw [← step_eq, ← c1, ← c2, ← pay_mom, ← pay_vel]
  unfold k0_pay3 delta
  generalize k0_pay1 (F := Ideal) g u = p
  generalize k0_pay2 (F := Ideal) g s = q
  pointwise

theorem ld_eq (x : Vec Ideal S8x128 .f32) : View.ld x r0_0 = x := View.ld_unit_zero (S := S8x128) hz2 _ _

theorem out4 (w g u s : Vec Ideal S8x128 .f32) : out0_4 (F := Ideal) w g u s = k0_pay3 (F := Ideal) g u s w := by
  unfold out0_4
  refine (View.canon_unit_zero hz2 _ _).trans ?_
  simp only [ld_eq]

theorem out5 (w g u s : Vec Ideal S8x128 .f32) : out0_5 (F := Ideal) w g u s = k0_pay1 (F := Ideal) g u := by
  unfold out0_5
  refine (View.canon_unit_zero hz2 _ _).trans ?_
  simp only [ld_eq]

theorem out6 (w g u s : Vec Ideal S8x128 .f32) : out0_6 (F := Ideal) w g u s = k0_pay2 (F := Ideal) g s := by
  unfold out0_6
  refine (View.canon_unit_zero hz2 _ _).trans ?_
  simp only [ld_eq]

/-! The blocks of the grid's points. -/

/-- Row `a` of the point's rows. -/
def row (t : Fin cfg0.N) (a : Fin 8) : Fin 968 := ⟨8 * t.val + a.val, by have ht : t.val < 121 := N_0 ▸ t.isLt; omega⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem blk0 (t : Fin cfg0.N) (a : Fin 8) (b : Fin 128) : iblk m c 0 t (ix2 a b) = a0 m c (row t a) b := by
  obtain ⟨⟨e0, e1⟩, -⟩ := idx t
  refine Eq.trans ?_ (entry0 m c (row t a) b)
  show V m c main_arg0 (((cfg0.win 0).blk t).view.emb (ix2 a b)) = _
  refine congrArg (V m c main_arg0) (funext fun y => Fin.ext ?_)
  match y with
  | ⟨0, _⟩ => show win0_0.index t (0 : Fin 2) * 8 + 1 * a.val = 8 * t.val + a.val; omega
  | ⟨1, _⟩ => show win0_0.index t (1 : Fin 2) * 128 + 1 * b.val = b.val; omega

theorem blk1 (t : Fin cfg0.N) (a : Fin 8) (b : Fin 128) : iblk m c 1 t (ix2 a b) = a1 m c (row t a) b := by
  obtain ⟨-, ⟨e0, e1⟩, -⟩ := idx t
  refine Eq.trans ?_ (entry1 m c (row t a) b)
  show V m c main_arg1 (((cfg0.win 1).blk t).view.emb (ix2 a b)) = _
  refine congrArg (V m c main_arg1) (funext fun y => Fin.ext ?_)
  match y with
  | ⟨0, _⟩ => show win0_1.index t (0 : Fin 2) * 8 + 1 * a.val = 8 * t.val + a.val; omega
  | ⟨1, _⟩ => show win0_1.index t (1 : Fin 2) * 128 + 1 * b.val = b.val; omega

theorem blk2 (t : Fin cfg0.N) (a : Fin 8) (b : Fin 128) : iblk m c 2 t (ix2 a b) = a2 m c (row t a) b := by
  obtain ⟨-, -, ⟨e0, e1⟩, -⟩ := idx t
  refine Eq.trans ?_ (entry2 m c (row t a) b)
  show V m c main_arg2 (((cfg0.win 2).blk t).view.emb (ix2 a b)) = _
  refine congrArg (V m c main_arg2) (funext fun y => Fin.ext ?_)
  match y with
  | ⟨0, _⟩ => show win0_2.index t (0 : Fin 2) * 8 + 1 * a.val = 8 * t.val + a.val; omega
  | ⟨1, _⟩ => show win0_2.index t (1 : Fin 2) * 128 + 1 * b.val = b.val; omega

theorem blk3 (t : Fin cfg0.N) (a : Fin 8) (b : Fin 128) : iblk m c 3 t (ix2 a b) = a3 m c (row t a) b := by
  obtain ⟨-, -, -, ⟨e0, e1⟩, -⟩ := idx t
  refine Eq.trans ?_ (entry3 m c (row t a) b)
  show V m c main_arg3 (((cfg0.win 3).blk t).view.emb (ix2 a b)) = _
  refine congrArg (V m c main_arg3) (funext fun y => Fin.ext ?_)
  match y with
  | ⟨0, _⟩ => show win0_3.index t (0 : Fin 2) * 8 + 1 * a.val = 8 * t.val + a.val; omega
  | ⟨1, _⟩ => show win0_3.index t (1 : Fin 2) * 128 + 1 * b.val = b.val; omega

theorem emb4 (t : Fin cfg0.N) (a : Fin 8) (b : Fin 128) : ((cfg0.win 4).blk t).view.emb (ix2 a b) = ix2 (row t a) b := by
  obtain ⟨-, -, -, -, ⟨e0, e1⟩, -⟩ := idx t
  refine funext fun y => Fin.ext ?_
  match y with
  | ⟨0, _⟩ => show win0_4.index t (0 : Fin 2) * 8 + 1 * a.val = 8 * t.val + a.val; omega
  | ⟨1, _⟩ => show win0_4.index t (1 : Fin 2) * 128 + 1 * b.val = b.val; omega

theorem emb5 (t : Fin cfg0.N) (a : Fin 8) (b : Fin 128) : ((cfg0.win 5).blk t).view.emb (ix2 a b) = ix2 (row t a) b := by
  obtain ⟨-, -, -, -, -, ⟨e0, e1⟩, -⟩ := idx t
  refine funext fun y => Fin.ext ?_
  match y with
  | ⟨0, _⟩ => show win0_5.index t (0 : Fin 2) * 8 + 1 * a.val = 8 * t.val + a.val; omega
  | ⟨1, _⟩ => show win0_5.index t (1 : Fin 2) * 128 + 1 * b.val = b.val; omega

theorem emb6 (t : Fin cfg0.N) (a : Fin 8) (b : Fin 128) : ((cfg0.win 6).blk t).view.emb (ix2 a b) = ix2 (row t a) b := by
  obtain ⟨-, -, -, -, -, -, e0, e1⟩ := idx t
  refine funext fun y => Fin.ext ?_
  match y with
  | ⟨0, _⟩ => show win0_6.index t (0 : Fin 2) * 8 + 1 * a.val = 8 * t.val + a.val; omega
  | ⟨1, _⟩ => show win0_6.index t (1 : Fin 2) * 128 + 1 * b.val = b.val; omega

/-! The reference's three results. -/

def R4 : S968x128.Idx → EReal := Cert.AdamPackedRefIdeal.Read.val_main_v23 (F := Ideal) (x0 m c) (x1 m c) (x2 m c) (x3 m c)

theorem ref4 (i : Fin 968) (j : Fin 128) : R4 m c (ix2 i j) = step (a0 m c i j) (a1 m c i j) (a2 m c i j) (a3 m c i j) := by
  unfold R4 step delta mom vel a0 a1 a2 a3 Cert.AdamPackedRefIdeal.Read.val_main_v23 Cert.AdamPackedRefIdeal.Read.val_main_v22 Cert.AdamPackedRefIdeal.Read.val_main_v21 Cert.AdamPackedRefIdeal.Read.val_main_v20 Cert.AdamPackedRefIdeal.Read.val_main_v19 Cert.AdamPackedRefIdeal.Read.val_main_v18 Cert.AdamPackedRefIdeal.Read.val_main_v17 Cert.AdamPackedRefIdeal.Read.val_main_v16 Cert.AdamPackedRefIdeal.Read.val_main_v15 Cert.AdamPackedRefIdeal.Read.val_main_v14 Cert.AdamPackedRefIdeal.Read.val_main_v13 Cert.AdamPackedRefIdeal.Read.val_main_v12 Cert.AdamPackedRefIdeal.Read.val_main_v11 Cert.AdamPackedRefIdeal.Read.val_main_v10 Cert.AdamPackedRefIdeal.Read.val_main_v9 Cert.AdamPackedRefIdeal.Read.val_main_v8 Cert.AdamPackedRefIdeal.Read.val_main_v7 Cert.AdamPackedRefIdeal.Read.val_main_v6 Cert.AdamPackedRefIdeal.Read.val_main_v5 Cert.AdamPackedRefIdeal.Read.val_main_v4 Cert.AdamPackedRefIdeal.Read.val_main_v3 Cert.AdamPackedRefIdeal.Read.val_main_v2 Cert.AdamPackedRefIdeal.Read.val_main_v1 Cert.AdamPackedRefIdeal.Read.val_main_v0 Cert.AdamPackedRefIdeal.Read.val_main_cst Cert.AdamPackedRefIdeal.Read.val_main_cst_0 Cert.AdamPackedRefIdeal.Read.val_main_cst_1 Cert.AdamPackedRefIdeal.Read.val_main_cst_2 Cert.AdamPackedRefIdeal.Read.val_main_cst_3 Cert.AdamPackedRefIdeal.Read.val_main_cst_4 Cert.AdamPackedRefIdeal.Read.val_main_cst_5 Cert.AdamPackedRefIdeal.Read.val_main_cst_6 Cert.AdamPackedRefIdeal.Read.val_main_cst_7
  pointwise

def R5 : S968x128.Idx → EReal := Cert.AdamPackedRefIdeal.Read.val_main_v4 (F := Ideal) (x1 m c) (x2 m c)

theorem ref5 (i : Fin 968) (j : Fin 128) : R5 m c (ix2 i j) = mom (a1 m c i j) (a2 m c i j) := by
  unfold R5 mom a1 a2 Cert.AdamPackedRefIdeal.Read.val_main_v4 Cert.AdamPackedRefIdeal.Read.val_main_v3 Cert.AdamPackedRefIdeal.Read.val_main_v2 Cert.AdamPackedRefIdeal.Read.val_main_v1 Cert.AdamPackedRefIdeal.Read.val_main_v0 Cert.AdamPackedRefIdeal.Read.val_main_cst Cert.AdamPackedRefIdeal.Read.val_main_cst_0
  pointwise

def R6 : S968x128.Idx → EReal := Cert.AdamPackedRefIdeal.Read.val_main_v10 (F := Ideal) (x1 m c) (x3 m c)

theorem ref6 (i : Fin 968) (j : Fin 128) : R6 m c (ix2 i j) = vel (a1 m c i j) (a3 m c i j) := by
  unfold R6 vel a1 a3 Cert.AdamPackedRefIdeal.Read.val_main_v10 Cert.AdamPackedRefIdeal.Read.val_main_v9 Cert.AdamPackedRefIdeal.Read.val_main_v8 Cert.AdamPackedRefIdeal.Read.val_main_v7 Cert.AdamPackedRefIdeal.Read.val_main_v6 Cert.AdamPackedRefIdeal.Read.val_main_v5 Cert.AdamPackedRefIdeal.Read.val_main_cst_1 Cert.AdamPackedRefIdeal.Read.val_main_cst_2
  pointwise

theorem arr4 : (dats m 0 c).arrAt 4 cfg0.N = R4 m c := by
  refine (dats m 0 c).arrAt_eq_of_covers 4 (R4 m c) (by decide +kernel) fun t _ y => ?_
  blk_simp
  rw [after0_4]
  obtain ⟨a, b, rfl⟩ : ∃ (a : Fin 8) (b : Fin 128), y = ix2 a b := ⟨y 0, y 1, eta2 y⟩
  show out0_4 (iblk m c 0 t) (iblk m c 1 t) (iblk m c 2 t) (iblk m c 3 t) (ix2 a b) = R4 m c (((cfg0.win 4).blk t).view.emb (ix2 a b))
  rw [emb4, ref4, out4]
  refine (pay_step _ _ _ _ a b).trans ?_
  rw [blk0, blk1, blk2, blk3]

theorem arr5 : (dats m 0 c).arrAt 5 cfg0.N = R5 m c := by
  refine (dats m 0 c).arrAt_eq_of_covers 5 (R5 m c) (by decide +kernel) fun t _ y => ?_
  blk_simp
  rw [after0_5]
  obtain ⟨a, b, rfl⟩ : ∃ (a : Fin 8) (b : Fin 128), y = ix2 a b := ⟨y 0, y 1, eta2 y⟩
  show out0_5 (iblk m c 0 t) (iblk m c 1 t) (iblk m c 2 t) (iblk m c 3 t) (ix2 a b) = R5 m c (((cfg0.win 5).blk t).view.emb (ix2 a b))
  rw [emb5, ref5, out5]
  refine (pay_mom _ _ a b).trans ?_
  rw [blk1, blk2]

theorem arr6 : (dats m 0 c).arrAt 6 cfg0.N = R6 m c := by
  refine (dats m 0 c).arrAt_eq_of_covers 6 (R6 m c) (by decide +kernel) fun t _ y => ?_
  blk_simp
  rw [after0_6]
  obtain ⟨a, b, rfl⟩ : ∃ (a : Fin 8) (b : Fin 128), y = ix2 a b := ⟨y 0, y 1, eta2 y⟩
  show out0_6 (iblk m c 0 t) (iblk m c 1 t) (iblk m c 2 t) (iblk m c 3 t) (ix2 a b) = R6 m c (((cfg0.win 6).blk t).view.emb (ix2 a b))
  rw [emb6, ref6, out6]
  refine (pay_vel _ _ a b).trans ?_
  rw [blk1, blk3]

/-- The kernel leaves the reference's three results. -/
theorem algebraic : Cert.algebraic_AdamPackedIdeal_AdamPackedRefIdeal := by
  intro m ρ m' ρ' _ hargs
  refine ⟨fun c => R4 m c, fun c => R5 m c, fun c => R6 m c, ?_, ?_⟩
  · refine (θ_run defs _ _).mono (fun r h c => ?_) (Cert.AdamPackedIdeal.Value.run_blocks m ρ)
    exact ⟨(h c).1.trans (arr4 m c), (h c).2.1.trans (arr5 m c), (h c).2.2.1.trans (arr6 m c), (h c).2.2.2⟩
  · refine (θ_run Cert.AdamPackedRefIdeal.defs _ _).mono (fun r h c => ?_) (Cert.AdamPackedRefIdeal.Value.run m' ρ')
    obtain ⟨e0, e1, e2, e3⟩ := hargs c
    refine ⟨(h c).1.trans ?_, (h c).2.1.trans ?_, (h c).2.2.1.trans ?_, (h c).2.2.2⟩
    · rw [Cert.AdamPackedRefIdeal.Read.val_main_v23_eq, e0, e1, e2, e3]; rfl
    · rw [Cert.AdamPackedRefIdeal.Read.val_main_v4_eq, e1, e2]; rfl
    · rw [Cert.AdamPackedRefIdeal.Read.val_main_v10_eq, e1, e3]; rfl

end Cert.AdamPackedIdeal.Val

end
-- ==== Proof.Ad.Qb.lean ====
/- The update of the up-projection of the queries, its gradient selected from the two halves: the kernel's four results are the reference's. -/
module

public import proofs.«01_k».proof.Proof.Gen.AdamQbIdeal.Frame
public import proofs.«01_k».proof.Proof.Gen.AdamQbRefIdeal
public import proofs.«01_k».proof.Proof.Gen.AdamQbRefIdeal.Read
public import proofs.«01_k».proof.Proof.Gen.AdamQbRefIdeal.Run
public import proofs.«01_k».proof.Defs
public import proofs.«01_k».proof.Proof.Ad.Base

@[expose] public section

set_option maxRecDepth 16384

noncomputable section

namespace Cert.AdamQbIdeal.Val

open Cert.AdamQbIdeal Cert.AdamQbIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the core's index, the weights, the two halves of their gradient, the two moments. -/
abbrev x0 : S1.Idx → BitVec 32 := m ((c : Thread nD τ).loc main_arg0)
abbrev x1 : S4x512x384.Idx → EReal := m ((c : Thread nD τ).loc main_arg1)
abbrev x2 : S4x256x384.Idx → EReal := m ((c : Thread nD τ).loc main_arg2)
abbrev x3 : S4x256x384.Idx → EReal := m ((c : Thread nD τ).loc main_arg3)
abbrev x4 : S4x512x384.Idx → EReal := m ((c : Thread nD τ).loc main_arg4)
abbrev x5 : S4x512x384.Idx → EReal := m ((c : Thread nD τ).loc main_arg5)

/-- The gradient: a row of the first half is the core's own where the core is the first, of the second half where it is
    the second; the other rows are the other core's. -/
def grad (l : Fin 4) (r : Fin 512) (j : Fin 384) : EReal :=
  if x0 m c (ix1 0) = BitVec.ofNat 32 (r.val / 256) then x2 m c (ix3 l ⟨r.val % 256, by omega⟩ j) else x3 m c (ix3 l ⟨r.val % 256, by omega⟩ j)

/-! One point of the grid. -/

theorem c1 : Named.named (F := Ideal) Cert.AdamQbIdeal.κ "c1" (φ := .f32) 0x3FC48605#32 = ((8388608 / 5463681 : ℝ) : EReal) :=
  IdealRules.named_const.ideal_named_scalar _ _ _ _ rfl
theorem c2 : Named.named (F := Ideal) Cert.AdamQbIdeal.κ "c2" (φ := .f32) 0x42C8E6D3#32 = ((268435456 / 2672307 : ℝ) : EReal) :=
  IdealRules.named_const.ideal_named_scalar _ _ _ _ rfl

section Pay
variable (i : grid0.Coords) (s : BitVec 32) (p q w u v : Vec Ideal S1x256x384 .f32) (a : Fin 256) (b : Fin 384)

theorem pay_grad : k0_pay4 (F := Ideal) i s p q (ix2 a b) = if s = BitVec.ofNat 32 (i 1).val then p (ix3 0 a b) else q (ix3 0 a b) := by
  unfold k0_pay4
  pointwise
  exact select_eq _ _ _ _

theorem pay_out : k0_pay7 (F := Ideal) i s p q (ix3 0 a b) = k0_pay4 (F := Ideal) i s p q (ix2 a b) := by
  unfold k0_pay7
  pointwise

theorem pay_mom : k0_pay5 (F := Ideal) i s p q u (ix2 a b) = mom (k0_pay4 (F := Ideal) i s p q (ix2 a b)) (u (ix3 0 a b)) := by
  unfold k0_pay5 mom
  pointwise

theorem pay_mom_out : k0_pay2 (F := Ideal) (k0_pay5 (F := Ideal) i s p q u) (ix3 0 a b) = mom (k0_pay4 (F := Ideal) i s p q (ix2 a b)) (u (ix3 0 a b)) := by
  rw [← pay_mom]
  unfold k0_pay2
  pointwise

theorem pay_vel : k0_pay6 (F := Ideal) i s p q v (ix2 a b) = vel (k0_pay4 (F := Ideal) i s p q (ix2 a b)) (v (ix3 0 a b)) := by
  unfold k0_pay6 vel
  pointwise

theorem pay_vel_out : k0_pay3 (F := Ideal) (k0_pay6 (F := Ideal) i s p q v) (ix3 0 a b) = vel (k0_pay4 (F := Ideal) i s p q (ix2 a b)) (v (ix3 0 a b)) := by
  rw [← pay_vel]
  unfold k0_pay3
  pointwise

theorem pay_step : k0_pay1 (F := Ideal) (k0_pay8 (F := Ideal) i s p q u v) w (ix3 0 a b)
    = step (w (ix3 0 a b)) (k0_pay4 (F := Ideal) i s p q (ix2 a b)) (u (ix3 0 a b)) (v (ix3 0 a b)) := by
  rw [← step_eq, ← c1, ← c2, ← pay_mom, ← pay_vel]
  unfold k0_pay1 k0_pay8 delta
  generalize k0_pay5 (F := Ideal) i s p q u = f
  generalize k0_pay6 (F := Ideal) i s p q v = g
  pointwise

end Pay

/-- The word the kernel reads off its table. -/
def word (xt : TbBuf0 (F := Ideal) c tbM0_0) : BitVec 32 :=
  View.ld (View.read (Elt Ideal) (View.whole main_arg0) xt) (Rect.unit ![0] ![1] inb_S1_S1_0) (Shape.Idx.first (by decide))

theorem word_tbl : word c (tbl m 0) = x0 m c (ix1 0) := by
  obtain rfl : c = 0 := Subsingleton.elim _ _
  refine congrArg (m (((0 : Dev nD) : Thread nD τ).loc main_arg0)) (funext fun y => ?_)
  match y with
  | ⟨0, _⟩ => exact Subsingleton.elim (α := Fin 1) _ _

section Outs
variable (i : grid0.Coords) (arg4 : Memref sig .tc .vmem S1x256x384 .f32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S1x256x384 .f32) (harg7 : arg7.IsWhole) (arg8 : Memref sig .tc .vmem S1x256x384 .f32) (harg8 : arg8.IsWhole) (arg9 : Memref sig .tc .vmem S1x256x384 .f32) (harg9 : arg9.IsWhole) (arg10 : Memref sig .tc .vmem S1x256x384 .f32) (harg10 : arg10.IsWhole) (arg11 : Memref sig .tc .vmem S1x256x384 .f32) (harg11 : arg11.IsWhole) (arg12 : Memref sig .tc .vmem S1x256x384 .f32) (harg12 : arg12.IsWhole)
  (b0 b1 b2 b3 b4 : Vec Ideal S1x256x384 .f32) (xt : TbBuf0 (F := Ideal) c tbM0_0)

theorem out5 : out0_A_5 (F := Ideal) c i arg4 harg4 arg5 harg5 arg6 harg6 arg7 harg7 arg8 harg8 arg9 harg9 arg10 harg10 arg11 harg11 arg12 harg12 b0 b1 b2 b3 b4 xt
    = k0_pay7 (F := Ideal) i (word c xt) b1 b2 := by
  unfold out0_A_5
  rw [View.read_writes_eq_canon _ _ _ (cover0_A_5 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x256x384) hz3]
  rfl

theorem out6 : out0_A_6 (F := Ideal) c i arg4 harg4 arg5 harg5 arg6 harg6 arg7 harg7 arg8 harg8 arg9 harg9 arg10 harg10 arg11 harg11 arg12 harg12 b0 b1 b2 b3 b4 xt
    = k0_pay1 (F := Ideal) (k0_pay8 (F := Ideal) i (word c xt) b1 b2 b3 b4) b0 := by
  unfold out0_A_6
  rw [View.read_writes_eq_canon _ _ _ (cover0_A_6 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x256x384) hz3]
  rfl

theorem out7 : out0_A_7 (F := Ideal) c i arg4 harg4 arg5 harg5 arg6 harg6 arg7 harg7 arg8 harg8 arg9 harg9 arg10 harg10 arg11 harg11 arg12 harg12 b0 b1 b2 b3 b4 xt
    = k0_pay2 (F := Ideal) (k0_pay5 (F := Ideal) i (word c xt) b1 b2 b3) := by
  unfold out0_A_7
  rw [View.read_writes_eq_canon _ _ _ (cover0_A_7 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x256x384) hz3]
  rfl

theorem out8 : out0_A_8 (F := Ideal) c i arg4 harg4 arg5 harg5 arg6 harg6 arg7 harg7 arg8 harg8 arg9 harg9 arg10 harg10 arg11 harg11 arg12 harg12 b0 b1 b2 b3 b4 xt
    = k0_pay3 (F := Ideal) (k0_pay6 (F := Ideal) i (word c xt) b1 b2 b4) := by
  unfold out0_A_8
  rw [View.read_writes_eq_canon _ _ _ (cover0_A_8 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x256x384) hz3]
  rfl

end Outs

/-! The blocks of the grid's points. -/

theorem ok : Ok m := trivial

/-- The layer of a point, row `a` of its rows in a half and in the whole. -/
def lay (t : Fin grid0.N) : Fin 4 := ⟨t.val / 2, by have ht : t.val < 8 := N_0 ▸ t.isLt; omega⟩
def prow (t : Fin grid0.N) (a : Fin 256) : Fin 256 := ⟨256 * (t.val % 1) + a.val, by omega⟩
def row (t : Fin grid0.N) (a : Fin 256) : Fin 512 := ⟨256 * (t.val / 1 % 2) + 256 * (t.val % 1) + a.val, by omega⟩

theorem half_word : ∀ t : Fin grid0.N, (grid0.coords t 1).val = t.val / 1 % 2 := by decide +kernel

theorem idx0 : ∀ t : Fin grid0.N, cc0_transform_0 (grid0.coords t) (0 : Fin 3) = t.val / 2
    ∧ cc0_transform_0 (grid0.coords t) (1 : Fin 3) = t.val / 1 % 2 * 1 + t.val % 1 ∧ cc0_transform_0 (grid0.coords t) (2 : Fin 3) = 0 := by
  decide +kernel

theorem idx1 : ∀ t : Fin grid0.N, cc0_transform_1 (grid0.coords t) (0 : Fin 3) = t.val / 2
    ∧ cc0_transform_1 (grid0.coords t) (1 : Fin 3) = t.val % 1 ∧ cc0_transform_1 (grid0.coords t) (2 : Fin 3) = 0 := by
  decide +kernel

theorem idx2 : ∀ t : Fin grid0.N, cc0_transform_2 (grid0.coords t) (0 : Fin 3) = t.val / 2
    ∧ cc0_transform_2 (grid0.coords t) (1 : Fin 3) = t.val % 1 ∧ cc0_transform_2 (grid0.coords t) (2 : Fin 3) = 0 := by
  decide +kernel

theorem idx3 : ∀ t : Fin grid0.N, cc0_transform_3 (grid0.coords t) (0 : Fin 3) = t.val / 2
    ∧ cc0_transform_3 (grid0.coords t) (1 : Fin 3) = t.val / 1 % 2 * 1 + t.val % 1 ∧ cc0_transform_3 (grid0.coords t) (2 : Fin 3) = 0 := by
  decide +kernel

theorem idx4 : ∀ t : Fin grid0.N, cc0_transform_4 (grid0.coords t) (0 : Fin 3) = t.val / 2
    ∧ cc0_transform_4 (grid0.coords t) (1 : Fin 3) = t.val / 1 % 2 * 1 + t.val % 1 ∧ cc0_transform_4 (grid0.coords t) (2 : Fin 3) = 0 := by
  decide +kernel

theorem idx5 : ∀ t : Fin grid0.N, cc0_transform_5 (grid0.coords t) (0 : Fin 3) = t.val / 2
    ∧ cc0_transform_5 (grid0.coords t) (1 : Fin 3) = t.val / 1 % 2 * 1 + t.val % 1 ∧ cc0_transform_5 (grid0.coords t) (2 : Fin 3) = 0 := by
  decide +kernel

theorem idx6 : ∀ t : Fin grid0.N, cc0_transform_6 (grid0.coords t) (0 : Fin 3) = t.val / 2
    ∧ cc0_transform_6 (grid0.coords t) (1 : Fin 3) = t.val / 1 % 2 * 1 + t.val % 1 ∧ cc0_transform_6 (grid0.coords t) (2 : Fin 3) = 0 := by
  decide +kernel

theorem idx7 : ∀ t : Fin grid0.N, cc0_transform_7 (grid0.coords t) (0 : Fin 3) = t.val / 2
    ∧ cc0_transform_7 (grid0.coords t) (1 : Fin 3) = t.val / 1 % 2 * 1 + t.val % 1 ∧ cc0_transform_7 (grid0.coords t) (2 : Fin 3) = 0 := by
  decide +kernel

theorem idx8 : ∀ t : Fin grid0.N, cc0_transform_8 (grid0.coords t) (0 : Fin 3) = t.val / 2
    ∧ cc0_transform_8 (grid0.coords t) (1 : Fin 3) = t.val / 1 % 2 * 1 + t.val % 1 ∧ cc0_transform_8 (grid0.coords t) (2 : Fin 3) = 0 := by
  decide +kernel

theorem emb0 (t : Fin (cfgM m (ok m)).N) (a : Fin 256) (b : Fin 384) :
    (((cfgM m (ok m)).win 0).blk t).view.emb (ix3 0 a b) = ix3 (lay t) (row t a) b := by
  obtain ⟨e0, e1, e2⟩ := idx0 t
  refine funext fun y => Fin.ext ?_
  match y with
  | ⟨0, _⟩ => show cc0_transform_0 (grid0.coords t) (0 : Fin 3) * 1 + 1 * 0 = t.val / 2; omega
  | ⟨1, _⟩ => show cc0_transform_0 (grid0.coords t) (1 : Fin 3) * 256 + 1 * a.val = 256 * (t.val / 1 % 2) + 256 * (t.val % 1) + a.val; omega
  | ⟨2, _⟩ => show cc0_transform_0 (grid0.coords t) (2 : Fin 3) * 384 + 1 * b.val = b.val; omega

theorem emb1 (t : Fin (cfgM m (ok m)).N) (a : Fin 256) (b : Fin 384) :
    (((cfgM m (ok m)).win 1).blk t).view.emb (ix3 0 a b) = ix3 (lay t) (prow t a) b := by
  obtain ⟨e0, e1, e2⟩ := idx1 t
  refine funext fun y => Fin.ext ?_
  match y with
  | ⟨0, _⟩ => show cc0_transform_1 (grid0.coords t) (0 : Fin 3) * 1 + 1 * 0 = t.val / 2; omega
  | ⟨1, _⟩ => show cc0_transform_1 (grid0.coords t) (1 : Fin 3) * 256 + 1 * a.val = 256 * (t.val % 1) + a.val; omega
  | ⟨2, _⟩ => show cc0_transform_1 (grid0.coords t) (2 : Fin 3) * 384 + 1 * b.val = b.val; omega

theorem emb2 (t : Fin (cfgM m (ok m)).N) (a : Fin 256) (b : Fin 384) :
    (((cfgM m (ok m)).win 2).blk t).view.emb (ix3 0 a b) = ix3 (lay t) (prow t a) b := by
  obtain ⟨e0, e1, e2⟩ := idx2 t
  refine funext fun y => Fin.ext ?_
  match y with
  | ⟨0, _⟩ => show cc0_transform_2 (grid0.coords t) (0 : Fin 3) * 1 + 1 * 0 = t.val / 2; omega
  | ⟨1, _⟩ => show cc0_transform_2 (grid0.coords t) (1 : Fin 3) * 256 + 1 * a.val = 256 * (t.val % 1) + a.val; omega
  | ⟨2, _⟩ => show cc0_transform_2 (grid0.coords t) (2 : Fin 3) * 384 + 1 * b.val = b.val; omega

theorem emb3 (t : Fin (cfgM m (ok m)).N) (a : Fin 256) (b : Fin 384) :
    (((cfgM m (ok m)).win 3).blk t).view.emb (ix3 0 a b) = ix3 (lay t) (row t a) b := by
  obtain ⟨e0, e1, e2⟩ := idx3 t
  refine funext fun y => Fin.ext ?_
  match y with
  | ⟨0, _⟩ => show cc0_transform_3 (grid0.coords t) (0 : Fin 3) * 1 + 1 * 0 = t.val / 2; omega
  | ⟨1, _⟩ => show cc0_transform_3 (grid0.coords t) (1 : Fin 3) * 256 + 1 * a.val = 256 * (t.val / 1 % 2) + 256 * (t.val % 1) + a.val; omega
  | ⟨2, _⟩ => show cc0_transform_3 (grid0.coords t) (2 : Fin 3) * 384 + 1 * b.val = b.val; omega

theorem emb4 (t : Fin (cfgM m (ok m)).N) (a : Fin 256) (b : Fin 384) :
    (((cfgM m (ok m)).win 4).blk t).view.emb (ix3 0 a b) = ix3 (lay t) (row t a) b := by
  obtain ⟨e0, e1, e2⟩ := idx4 t
  refine funext fun y => Fin.ext ?_
  match y with
  | ⟨0, _⟩ => show cc0_transform_4 (grid0.coords t) (0 : Fin 3) * 1 + 1 * 0 = t.val / 2; omega
  | ⟨1, _⟩ => show cc0_transform_4 (grid0.coords t) (1 : Fin 3) * 256 + 1 * a.val = 256 * (t.val / 1 % 2) + 256 * (t.val % 1) + a.val; omega
  | ⟨2, _⟩ => show cc0_transform_4 (grid0.coords t) (2 : Fin 3) * 384 + 1 * b.val = b.val; omega

theorem emb5 (t : Fin (cfgM m (ok m)).N) (a : Fin 256) (b : Fin 384) :
    (((cfgM m (ok m)).win 5).blk t).view.emb (ix3 0 a b) = ix3 (lay t) (row t a) b := by
  obtain ⟨e0, e1, e2⟩ := idx5 t
  refine funext fun y => Fin.ext ?_
  match y with
  | ⟨0, _⟩ => show cc0_transform_5 (grid0.coords t) (0 : Fin 3) * 1 + 1 * 0 = t.val / 2; omega
  | ⟨1, _⟩ => show cc0_transform_5 (grid0.coords t) (1 : Fin 3) * 256 + 1 * a.val = 256 * (t.val / 1 % 2) + 256 * (t.val % 1) + a.val; omega
  | ⟨2, _⟩ => show cc0_transform_5 (grid0.coords t) (2 : Fin 3) * 384 + 1 * b.val = b.val; omega

theorem emb6 (t : Fin (cfgM m (ok m)).N) (a : Fin 256) (b : Fin 384) :
    (((cfgM m (ok m)).win 6).blk t).view.emb (ix3 0 a b) = ix3 (lay t) (row t a) b := by
  obtain ⟨e0, e1, e2⟩ := idx6 t
  refine funext fun y => Fin.ext ?_
  match y with
  | ⟨0, _⟩ => show cc0_transform_6 (grid0.coords t) (0 : Fin 3) * 1 + 1 * 0 = t.val / 2; omega
  | ⟨1, _⟩ => show cc0_transform_6 (grid0.coords t) (1 : Fin 3) * 256 + 1 * a.val = 256 * (t.val / 1 % 2) + 256 * (t.val % 1) + a.val; omega
  | ⟨2, _⟩ => show cc0_transform_6 (grid0.coords t) (2 : Fin 3) * 384 + 1 * b.val = b.val; omega

theorem emb7 (t : Fin (cfgM m (ok m)).N) (a : Fin 256) (b : Fin 384) :
    (((cfgM m (ok m)).win 7).blk t).view.emb (ix3 0 a b) = ix3 (lay t) (row t a) b := by
  obtain ⟨e0, e1, e2⟩ := idx7 t
  refine funext fun y => Fin.ext ?_
  match y with
  | ⟨0, _⟩ => show cc0_transform_7 (grid0.coords t) (0 : Fin 3) * 1 + 1 * 0 = t.val / 2; omega
  | ⟨1, _⟩ => show cc0_transform_7 (grid0.coords t) (1 : Fin 3) * 256 + 1 * a.val = 256 * (t.val / 1 % 2) + 256 * (t.val % 1) + a.val; omega
  | ⟨2, _⟩ => show cc0_transform_7 (grid0.coords t) (2 : Fin 3) * 384 + 1 * b.val = b.val; omega

theorem emb8 (t : Fin (cfgM m (ok m)).N) (a : Fin 256) (b : Fin 384) :
    (((cfgM m (ok m)).win 8).blk t).view.emb (ix3 0 a b) = ix3 (lay t) (row t a) b := by
  obtain ⟨e0, e1, e2⟩ := idx8 t
  refine funext fun y => Fin.ext ?_
  match y with
  | ⟨0, _⟩ => show cc0_transform_8 (grid0.coords t) (0 : Fin 3) * 1 + 1 * 0 = t.val / 2; omega
  | ⟨1, _⟩ => show cc0_transform_8 (grid0.coords t) (1 : Fin 3) * 256 + 1 * a.val = 256 * (t.val / 1 % 2) + 256 * (t.val % 1) + a.val; omega
  | ⟨2, _⟩ => show cc0_transform_8 (grid0.coords t) (2 : Fin 3) * 384 + 1 * b.val = b.val; omega

theorem blk0 (t : Fin (cfgM m (ok m)).N) (a : Fin 256) (b : Fin 384) : iblk m (ok m) c 0 t (ix3 0 a b) = x1 m c (ix3 (lay t) (row t a) b) :=
  congrArg (x1 m c) (emb0 m t a b)

theorem blk1 (t : Fin (cfgM m (ok m)).N) (a : Fin 256) (b : Fin 384) : iblk m (ok m) c 1 t (ix3 0 a b) = x2 m c (ix3 (lay t) (prow t a) b) :=
  congrArg (x2 m c) (emb1 m t a b)

theorem blk2 (t : Fin (cfgM m (ok m)).N) (a : Fin 256) (b : Fin 384) : iblk m (ok m) c 2 t (ix3 0 a b) = x3 m c (ix3 (lay t) (prow t a) b) :=
  congrArg (x3 m c) (emb2 m t a b)

theorem blk3 (t : Fin (cfgM m (ok m)).N) (a : Fin 256) (b : Fin 384) : iblk m (ok m) c 3 t (ix3 0 a b) = x4 m c (ix3 (lay t) (row t a) b) :=
  congrArg (x4 m c) (emb3 m t a b)

theorem blk4 (t : Fin (cfgM m (ok m)).N) (a : Fin 256) (b : Fin 384) : iblk m (ok m) c 4 t (ix3 0 a b) = x5 m c (ix3 (lay t) (row t a) b) :=
  congrArg (x5 m c) (emb4 m t a b)

theorem grad_at (t : Fin (cfgM m (ok m)).N) (a : Fin 256) (b : Fin 384) :
    k0_pay4 (F := Ideal) (grid0.coords t) (word c (tbl m 0)) (iblk m (ok m) c 1 t) (iblk m (ok m) c 2 t) (ix2 a b) = grad m c (lay t) (row t a) b := by
  refine (pay_grad _ _ _ _ a b).trans ?_
  rw [blk1, blk2, word_tbl, half_word]
  unfold grad
  have hq : (row t a).val / 256 = t.val / 1 % 2 := by
    show (256 * (t.val / 1 % 2) + 256 * (t.val % 1) + a.val) / 256 = _; omega
  have hr : (⟨(row t a).val % 256, by omega⟩ : Fin 256) = prow t a := Fin.ext (by
    show (256 * (t.val / 1 % 2) + 256 * (t.val % 1) + a.val) % 256 = 256 * (t.val % 1) + a.val; omega)
  rw [hq, hr]

/-! The reference's four results. -/

def R5 : S4x512x384.Idx → EReal := Cert.AdamQbRefIdeal.Read.val_main_v6 (F := Ideal) (x0 m c) (x2 m c) (x3 m c)
def R6 : S4x512x384.Idx → EReal := Cert.AdamQbRefIdeal.Read.val_main_v30 (F := Ideal) (x0 m c) (x1 m c) (x2 m c) (x3 m c) (x4 m c) (x5 m c)
def R7 : S4x512x384.Idx → EReal := Cert.AdamQbRefIdeal.Read.val_main_v11 (F := Ideal) (x0 m c) (x2 m c) (x3 m c) (x4 m c)
def R8 : S4x512x384.Idx → EReal := Cert.AdamQbRefIdeal.Read.val_main_v17 (F := Ideal) (x0 m c) (x2 m c) (x3 m c) (x5 m c)

theorem ref5 (l : Fin 4) (r : Fin 512) (j : Fin 384) : R5 m c (ix3 l r j) = grad m c l r j := by
  unfold R5 grad Cert.AdamQbRefIdeal.Read.val_main_v6 Cert.AdamQbRefIdeal.Read.val_main_v5 Cert.AdamQbRefIdeal.Read.val_main_v4 Cert.AdamQbRefIdeal.Read.val_main_v3 Cert.AdamQbRefIdeal.Read.val_main_v2 Cert.AdamQbRefIdeal.Read.val_main_v1 Cert.AdamQbRefIdeal.Read.val_main_v0 Cert.AdamQbRefIdeal.Read.val_main_c_0 Cert.AdamQbRefIdeal.Read.val_main_c
  pointwise
  by_cases h : r.val < 256
  · have hq : r.val / 256 = 0 := by omega
    have hr : (⟨r.val % 256, by omega⟩ : Fin 256) = ⟨r.val, h⟩ := Fin.ext (by show r.val % 256 = r.val; omega)
    rw [dif_pos h, hq, hr]
    exact select_eq _ _ _ _
  · have hq : r.val / 256 = 1 := by omega
    have hr : (⟨r.val % 256, by omega⟩ : Fin 256) = ⟨r.val - 256, by omega⟩ := Fin.ext (by show r.val % 256 = r.val - 256; omega)
    rw [dif_neg h, hq, hr]
    exact select_eq _ _ _ _

theorem ref7 (l : Fin 4) (r : Fin 512) (j : Fin 384) : R7 m c (ix3 l r j) = mom (grad m c l r j) (x4 m c (ix3 l r j)) := by
  rw [← ref5]
  unfold R7 R5 mom Cert.AdamQbRefIdeal.Read.val_main_v11 Cert.AdamQbRefIdeal.Read.val_main_v10 Cert.AdamQbRefIdeal.Read.val_main_v9 Cert.AdamQbRefIdeal.Read.val_main_v8 Cert.AdamQbRefIdeal.Read.val_main_v7 Cert.AdamQbRefIdeal.Read.val_main_cst Cert.AdamQbRefIdeal.Read.val_main_cst_1
  generalize Cert.AdamQbRefIdeal.Read.val_main_v6 (F := Ideal) (x0 m c) (x2 m c) (x3 m c) = g
  pointwise

theorem ref8 (l : Fin 4) (r : Fin 512) (j : Fin 384) : R8 m c (ix3 l r j) = vel (grad m c l r j) (x5 m c (ix3 l r j)) := by
  rw [← ref5]
  unfold R8 R5 vel Cert.AdamQbRefIdeal.Read.val_main_v17 Cert.AdamQbRefIdeal.Read.val_main_v16 Cert.AdamQbRefIdeal.Read.val_main_v15 Cert.AdamQbRefIdeal.Read.val_main_v14 Cert.AdamQbRefIdeal.Read.val_main_v13 Cert.AdamQbRefIdeal.Read.val_main_v12 Cert.AdamQbRefIdeal.Read.val_main_cst_2 Cert.AdamQbRefIdeal.Read.val_main_cst_3
  generalize Cert.AdamQbRefIdeal.Read.val_main_v6 (F := Ideal) (x0 m c) (x2 m c) (x3 m c) = g
  pointwise

theorem ref6 (l : Fin 4) (r : Fin 512) (j : Fin 384) :
    R6 m c (ix3 l r j) = step (x1 m c (ix3 l r j)) (grad m c l r j) (x4 m c (ix3 l r j)) (x5 m c (ix3 l r j)) := by
  unfold step
  rw [← ref7, ← ref8]
  unfold R6 R7 R8 delta Cert.AdamQbRefIdeal.Read.val_main_v30 Cert.AdamQbRefIdeal.Read.val_main_v29 Cert.AdamQbRefIdeal.Read.val_main_v28 Cert.AdamQbRefIdeal.Read.val_main_v27 Cert.AdamQbRefIdeal.Read.val_main_v26 Cert.AdamQbRefIdeal.Read.val_main_v25 Cert.AdamQbRefIdeal.Read.val_main_v24 Cert.AdamQbRefIdeal.Read.val_main_v23 Cert.AdamQbRefIdeal.Read.val_main_v22 Cert.AdamQbRefIdeal.Read.val_main_v21 Cert.AdamQbRefIdeal.Read.val_main_v20 Cert.AdamQbRefIdeal.Read.val_main_v19 Cert.AdamQbRefIdeal.Read.val_main_v18 Cert.AdamQbRefIdeal.Read.val_main_cst_4 Cert.AdamQbRefIdeal.Read.val_main_cst_5 Cert.AdamQbRefIdeal.Read.val_main_cst_6 Cert.AdamQbRefIdeal.Read.val_main_cst_7 Cert.AdamQbRefIdeal.Read.val_main_cst_8
  generalize Cert.AdamQbRefIdeal.Read.val_main_v11 (F := Ideal) (x0 m c) (x2 m c) (x3 m c) (x4 m c) = f
  generalize Cert.AdamQbRefIdeal.Read.val_main_v17 (F := Ideal) (x0 m c) (x2 m c) (x3 m c) (x5 m c) = g
  pointwise

/-! The four arrays. -/

theorem eta (y : S1x256x384.Idx) : ∃ (a : Fin 256) (b : Fin 384), y = ix3 0 a b :=
  ⟨y 1, y 2, (eta3 y).trans (congrArg (fun z => ix3 z (y 1) (y 2)) (Subsingleton.elim (α := Fin 1) _ _))⟩

theorem cov5 (a : (pcfg0 (F := Ideal)).Adm) : ((cfg0 a).win 5).Covers := by
  show ((cfg0 (F := Ideal) ⟨fun | 0 => fun _ => (0#32 : BitVec 32), trivial⟩).win 5).Covers
  decide +kernel

theorem at5 (t : Fin (cfgM m (ok m)).N) (a : Fin 256) (b : Fin 384) :
    (outsAt0 m (ok m) c t).1 (ix3 0 a b) = R5 m c (ix3 (lay t) (row t a) b) := by
  have e : (outsAt0 m (ok m) c t).1 = k0_pay7 (F := Ideal) (grid0.coords t) (word c (tbl m 0)) (iblk m (ok m) c 1 t) (iblk m (ok m) c 2 t) := by
    have f := out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_out _ _ _ _ a b).trans ?_
  rw [grad_at, ref5]

theorem arr5 : (dats m (ok m) 0 c).arrAt 5 (cfgM m (ok m)).N = R5 m c := by
  refine (dats m (ok m) 0 c).arrAt_eq_of_covers 5 (R5 m c) (cov5 _) fun t _ y => ?_
  blk_simp
  rw [after0_5]
  obtain ⟨a, b, rfl⟩ := eta y
  show (outsAt0 m (ok m) c t).1 (ix3 0 a b) = R5 m c ((((cfgM m (ok m)).win 5).blk t).view.emb (ix3 0 a b))
  rw [emb5, at5]

theorem cov6 (a : (pcfg0 (F := Ideal)).Adm) : ((cfg0 a).win 6).Covers := by
  show ((cfg0 (F := Ideal) ⟨fun | 0 => fun _ => (0#32 : BitVec 32), trivial⟩).win 6).Covers
  decide +kernel

theorem at6 (t : Fin (cfgM m (ok m)).N) (a : Fin 256) (b : Fin 384) :
    (outsAt0 m (ok m) c t).2.1 (ix3 0 a b) = R6 m c (ix3 (lay t) (row t a) b) := by
  have e : (outsAt0 m (ok m) c t).2.1 = k0_pay1 (F := Ideal) (k0_pay8 (F := Ideal) (grid0.coords t) (word c (tbl m 0)) (iblk m (ok m) c 1 t) (iblk m (ok m) c 2 t) (iblk m (ok m) c 3 t) (iblk m (ok m) c 4 t)) (iblk m (ok m) c 0 t) := by
    have f := out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_step _ _ _ _ _ _ _ a b).trans ?_
  rw [grad_at, ref6, blk0, blk3, blk4]

theorem arr6 : (dats m (ok m) 0 c).arrAt 6 (cfgM m (ok m)).N = R6 m c := by
  refine (dats m (ok m) 0 c).arrAt_eq_of_covers 6 (R6 m c) (cov6 _) fun t _ y => ?_
  blk_simp
  rw [after0_6]
  obtain ⟨a, b, rfl⟩ := eta y
  show (outsAt0 m (ok m) c t).2.1 (ix3 0 a b) = R6 m c ((((cfgM m (ok m)).win 6).blk t).view.emb (ix3 0 a b))
  rw [emb6, at6]

theorem cov7 (a : (pcfg0 (F := Ideal)).Adm) : ((cfg0 a).win 7).Covers := by
  show ((cfg0 (F := Ideal) ⟨fun | 0 => fun _ => (0#32 : BitVec 32), trivial⟩).win 7).Covers
  decide +kernel

theorem at7 (t : Fin (cfgM m (ok m)).N) (a : Fin 256) (b : Fin 384) :
    (outsAt0 m (ok m) c t).2.2.1 (ix3 0 a b) = R7 m c (ix3 (lay t) (row t a) b) := by
  have e : (outsAt0 m (ok m) c t).2.2.1 = k0_pay2 (F := Ideal) (k0_pay5 (F := Ideal) (grid0.coords t) (word c (tbl m 0)) (iblk m (ok m) c 1 t) (iblk m (ok m) c 2 t) (iblk m (ok m) c 3 t)) := by
    have f := out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_mom_out _ _ _ _ _ a b).trans ?_
  rw [grad_at, ref7, blk3]

theorem arr7 : (dats m (ok m) 0 c).arrAt 7 (cfgM m (ok m)).N = R7 m c := by
  refine (dats m (ok m) 0 c).arrAt_eq_of_covers 7 (R7 m c) (cov7 _) fun t _ y => ?_
  blk_simp
  rw [after0_7]
  obtain ⟨a, b, rfl⟩ := eta y
  show (outsAt0 m (ok m) c t).2.2.1 (ix3 0 a b) = R7 m c ((((cfgM m (ok m)).win 7).blk t).view.emb (ix3 0 a b))
  rw [emb7, at7]

theorem cov8 (a : (pcfg0 (F := Ideal)).Adm) : ((cfg0 a).win 8).Covers := by
  show ((cfg0 (F := Ideal) ⟨fun | 0 => fun _ => (0#32 : BitVec 32), trivial⟩).win 8).Covers
  decide +kernel

theorem at8 (t : Fin (cfgM m (ok m)).N) (a : Fin 256) (b : Fin 384) :
    (outsAt0 m (ok m) c t).2.2.2 (ix3 0 a b) = R8 m c (ix3 (lay t) (row t a) b) := by
  have e : (outsAt0 m (ok m) c t).2.2.2 = k0_pay3 (F := Ideal) (k0_pay6 (F := Ideal) (grid0.coords t) (word c (tbl m 0)) (iblk m (ok m) c 1 t) (iblk m (ok m) c 2 t) (iblk m (ok m) c 4 t)) := by
    have f := out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_vel_out _ _ _ _ _ a b).trans ?_
  rw [grad_at, ref8, blk4]

theorem arr8 : (dats m (ok m) 0 c).arrAt 8 (cfgM m (ok m)).N = R8 m c := by
  refine (dats m (ok m) 0 c).arrAt_eq_of_covers 8 (R8 m c) (cov8 _) fun t _ y => ?_
  blk_simp
  rw [after0_8]
  obtain ⟨a, b, rfl⟩ := eta y
  show (outsAt0 m (ok m) c t).2.2.2 (ix3 0 a b) = R8 m c ((((cfgM m (ok m)).win 8).blk t).view.emb (ix3 0 a b))
  rw [emb8, at8]

/-- The kernel leaves the reference's four results. -/
theorem algebraic : Cert.algebraic_AdamQbIdeal_AdamQbRefIdeal := by
  intro m ρ m' ρ' _ hargs
  refine ⟨fun c => R5 m c, fun c => R6 m c, fun c => R7 m c, fun c => R8 m c, ?_, ?_⟩
  · refine (θ_run defs _ _).mono (fun r h c => ?_) (θ_run_and (run_main m ρ (ok m)) (unchanged m ρ (ok m)))
    exact ⟨((h.1 c).1 5).trans (arr5 m c), ((h.1 c).1 6).trans (arr6 m c), ((h.1 c).1 7).trans (arr7 m c), ((h.1 c).1 8).trans (arr8 m c), h.2 c⟩
  · refine (θ_run Cert.AdamQbRefIdeal.defs _ _).mono (fun r h c => ?_) (Cert.AdamQbRefIdeal.Value.run m' ρ')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Cert.AdamQbRefIdeal.Read.val_main_v6_eq, e0, e2, e3]; rfl
    · rw [Cert.AdamQbRefIdeal.Read.val_main_v30_eq, e0, e1, e2, e3, e4, e5]; rfl
    · rw [Cert.AdamQbRefIdeal.Read.val_main_v11_eq, e0, e2, e3, e4]; rfl
    · rw [Cert.AdamQbRefIdeal.Read.val_main_v17_eq, e0, e2, e3, e5]; rfl

end Cert.AdamQbIdeal.Val

end
-- ==== Proof.Ad.Kvb.lean ====
/- The update of the up-projection of the keys and values, its gradient selected from the two halves: the kernel's four results are the reference's. -/
module

public import proofs.«01_k».proof.Proof.Gen.AdamKvbIdeal.Frame
public import proofs.«01_k».proof.Proof.Gen.AdamKvbRefIdeal
public import proofs.«01_k».proof.Proof.Gen.AdamKvbRefIdeal.Read
public import proofs.«01_k».proof.Proof.Gen.AdamKvbRefIdeal.Run
public import proofs.«01_k».proof.Defs
public import proofs.«01_k».proof.Proof.Ad.Base

@[expose] public section

set_option maxRecDepth 16384

noncomputable section

namespace Cert.AdamKvbIdeal.Val

open Cert.AdamKvbIdeal Cert.AdamKvbIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the core's index, the weights, the two halves of their gradient, the two moments. -/
abbrev x0 : S1.Idx → BitVec 32 := m ((c : Thread nD τ).loc main_arg0)
abbrev x1 : S4x256x512.Idx → EReal := m ((c : Thread nD τ).loc main_arg1)
abbrev x2 : S4x128x512.Idx → EReal := m ((c : Thread nD τ).loc main_arg2)
abbrev x3 : S4x128x512.Idx → EReal := m ((c : Thread nD τ).loc main_arg3)
abbrev x4 : S4x256x512.Idx → EReal := m ((c : Thread nD τ).loc main_arg4)
abbrev x5 : S4x256x512.Idx → EReal := m ((c : Thread nD τ).loc main_arg5)

/-- The gradient: a row of the first half is the core's own where the core is the first, of the second half where it is
    the second; the other rows are the other core's. -/
def grad (l : Fin 4) (r : Fin 256) (j : Fin 512) : EReal :=
  if x0 m c (ix1 0) = BitVec.ofNat 32 (r.val / 128) then x2 m c (ix3 l ⟨r.val % 128, by omega⟩ j) else x3 m c (ix3 l ⟨r.val % 128, by omega⟩ j)

/-! One point of the grid. -/

theorem c1 : Named.named (F := Ideal) Cert.AdamKvbIdeal.κ "c1" (φ := .f32) 0x3FC48605#32 = ((8388608 / 5463681 : ℝ) : EReal) :=
  IdealRules.named_const.ideal_named_scalar _ _ _ _ rfl
theorem c2 : Named.named (F := Ideal) Cert.AdamKvbIdeal.κ "c2" (φ := .f32) 0x42C8E6D3#32 = ((268435456 / 2672307 : ℝ) : EReal) :=
  IdealRules.named_const.ideal_named_scalar _ _ _ _ rfl

section Pay
variable (i : grid0.Coords) (s : BitVec 32) (p q w u v : Vec Ideal S1x128x512 .f32) (a : Fin 128) (b : Fin 512)

theorem pay_grad : k0_pay4 (F := Ideal) i s p q (ix2 a b) = if s = BitVec.ofNat 32 (i 1).val then p (ix3 0 a b) else q (ix3 0 a b) := by
  unfold k0_pay4
  pointwise
  exact select_eq _ _ _ _

theorem pay_out : k0_pay7 (F := Ideal) i s p q (ix3 0 a b) = k0_pay4 (F := Ideal) i s p q (ix2 a b) := by
  unfold k0_pay7
  pointwise

theorem pay_mom : k0_pay5 (F := Ideal) i s p q u (ix2 a b) = mom (k0_pay4 (F := Ideal) i s p q (ix2 a b)) (u (ix3 0 a b)) := by
  unfold k0_pay5 mom
  pointwise

theorem pay_mom_out : k0_pay2 (F := Ideal) (k0_pay5 (F := Ideal) i s p q u) (ix3 0 a b) = mom (k0_pay4 (F := Ideal) i s p q (ix2 a b)) (u (ix3 0 a b)) := by
  rw [← pay_mom]
  unfold k0_pay2
  pointwise

theorem pay_vel : k0_pay6 (F := Ideal) i s p q v (ix2 a b) = vel (k0_pay4 (F := Ideal) i s p q (ix2 a b)) (v (ix3 0 a b)) := by
  unfold k0_pay6 vel
  pointwise

theorem pay_vel_out : k0_pay3 (F := Ideal) (k0_pay6 (F := Ideal) i s p q v) (ix3 0 a b) = vel (k0_pay4 (F := Ideal) i s p q (ix2 a b)) (v (ix3 0 a b)) := by
  rw [← pay_vel]
  unfold k0_pay3
  pointwise

theorem pay_step : k0_pay1 (F := Ideal) (k0_pay8 (F := Ideal) i s p q u v) w (ix3 0 a b)
    = step (w (ix3 0 a b)) (k0_pay4 (F := Ideal) i s p q (ix2 a b)) (u (ix3 0 a b)) (v (ix3 0 a b)) := by
  rw [← step_eq, ← c1, ← c2, ← pay_mom, ← pay_vel]
  unfold k0_pay1 k0_pay8 delta
  generalize k0_pay5 (F := Ideal) i s p q u = f
  generalize k0_pay6 (F := Ideal) i s p q v = g
  pointwise

end Pay

/-- The word the kernel reads off its table. -/
def word (xt : TbBuf0 (F := Ideal) c tbM0_0) : BitVec 32 :=
  View.ld (View.read (Elt Ideal) (View.whole main_arg0) xt) (Rect.unit ![0] ![1] inb_S1_S1_0) (Shape.Idx.first (by decide))

theorem word_tbl : word c (tbl m 0) = x0 m c (ix1 0) := by
  obtain rfl : c = 0 := Subsingleton.elim _ _
  refine congrArg (m (((0 : Dev nD) : Thread nD τ).loc main_arg0)) (funext fun y => ?_)
  match y with
  | ⟨0, _⟩ => exact Subsingleton.elim (α := Fin 1) _ _

section Outs
variable (i : grid0.Coords) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole)
  (b0 b1 b2 b3 b4 : Vec Ideal S1x128x512 .f32) (xt : TbBuf0 (F := Ideal) c tbM0_0)

theorem out5 : out0_A_5 (F := Ideal) c i arg4 harg4 arg5 harg5 arg6 harg6 arg7 harg7 arg8 harg8 arg9 harg9 arg10 harg10 arg11 harg11 arg12 harg12 b0 b1 b2 b3 b4 xt
    = k0_pay7 (F := Ideal) i (word c xt) b1 b2 := by
  unfold out0_A_5
  rw [View.read_writes_eq_canon _ _ _ (cover0_A_5 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x512) hz3]
  rfl

theorem out6 : out0_A_6 (F := Ideal) c i arg4 harg4 arg5 harg5 arg6 harg6 arg7 harg7 arg8 harg8 arg9 harg9 arg10 harg10 arg11 harg11 arg12 harg12 b0 b1 b2 b3 b4 xt
    = k0_pay1 (F := Ideal) (k0_pay8 (F := Ideal) i (word c xt) b1 b2 b3 b4) b0 := by
  unfold out0_A_6
  rw [View.read_writes_eq_canon _ _ _ (cover0_A_6 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x512) hz3]
  rfl

theorem out7 : out0_A_7 (F := Ideal) c i arg4 harg4 arg5 harg5 arg6 harg6 arg7 harg7 arg8 harg8 arg9 harg9 arg10 harg10 arg11 harg11 arg12 harg12 b0 b1 b2 b3 b4 xt
    = k0_pay2 (F := Ideal) (k0_pay5 (F := Ideal) i (word c xt) b1 b2 b3) := by
  unfold out0_A_7
  rw [View.read_writes_eq_canon _ _ _ (cover0_A_7 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x512) hz3]
  rfl

theorem out8 : out0_A_8 (F := Ideal) c i arg4 harg4 arg5 harg5 arg6 harg6 arg7 harg7 arg8 harg8 arg9 harg9 arg10 harg10 arg11 harg11 arg12 harg12 b0 b1 b2 b3 b4 xt
    = k0_pay3 (F := Ideal) (k0_pay6 (F := Ideal) i (word c xt) b1 b2 b4) := by
  unfold out0_A_8
  rw [View.read_writes_eq_canon _ _ _ (cover0_A_8 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x512) hz3]
  rfl

end Outs

/-! The blocks of the grid's points. -/

theorem ok : Ok m := trivial

/-- The layer of a point, row `a` of its rows in a half and in the whole. -/
def lay (t : Fin grid0.N) : Fin 4 := ⟨t.val / 2, by have ht : t.val < 8 := N_0 ▸ t.isLt; omega⟩
def prow (t : Fin grid0.N) (a : Fin 128) : Fin 128 := ⟨128 * (t.val % 1) + a.val, by omega⟩
def row (t : Fin grid0.N) (a : Fin 128) : Fin 256 := ⟨128 * (t.val / 1 % 2) + 128 * (t.val % 1) + a.val, by omega⟩

theorem half_word : ∀ t : Fin grid0.N, (grid0.coords t 1).val = t.val / 1 % 2 := by decide +kernel

theorem idx0 : ∀ t : Fin grid0.N, cc0_transform_0 (grid0.coords t) (0 : Fin 3) = t.val / 2
    ∧ cc0_transform_0 (grid0.coords t) (1 : Fin 3) = t.val / 1 % 2 * 1 + t.val % 1 ∧ cc0_transform_0 (grid0.coords t) (2 : Fin 3) = 0 := by
  decide +kernel

theorem idx1 : ∀ t : Fin grid0.N, cc0_transform_1 (grid0.coords t) (0 : Fin 3) = t.val / 2
    ∧ cc0_transform_1 (grid0.coords t) (1 : Fin 3) = t.val % 1 ∧ cc0_transform_1 (grid0.coords t) (2 : Fin 3) = 0 := by
  decide +kernel

theorem idx2 : ∀ t : Fin grid0.N, cc0_transform_2 (grid0.coords t) (0 : Fin 3) = t.val / 2
    ∧ cc0_transform_2 (grid0.coords t) (1 : Fin 3) = t.val % 1 ∧ cc0_transform_2 (grid0.coords t) (2 : Fin 3) = 0 := by
  decide +kernel

theorem idx3 : ∀ t : Fin grid0.N, cc0_transform_3 (grid0.coords t) (0 : Fin 3) = t.val / 2
    ∧ cc0_transform_3 (grid0.coords t) (1 : Fin 3) = t.val / 1 % 2 * 1 + t.val % 1 ∧ cc0_transform_3 (grid0.coords t) (2 : Fin 3) = 0 := by
  decide +kernel

theorem idx4 : ∀ t : Fin grid0.N, cc0_transform_4 (grid0.coords t) (0 : Fin 3) = t.val / 2
    ∧ cc0_transform_4 (grid0.coords t) (1 : Fin 3) = t.val / 1 % 2 * 1 + t.val % 1 ∧ cc0_transform_4 (grid0.coords t) (2 : Fin 3) = 0 := by
  decide +kernel

theorem idx5 : ∀ t : Fin grid0.N, cc0_transform_5 (grid0.coords t) (0 : Fin 3) = t.val / 2
    ∧ cc0_transform_5 (grid0.coords t) (1 : Fin 3) = t.val / 1 % 2 * 1 + t.val % 1 ∧ cc0_transform_5 (grid0.coords t) (2 : Fin 3) = 0 := by
  decide +kernel

theorem idx6 : ∀ t : Fin grid0.N, cc0_transform_6 (grid0.coords t) (0 : Fin 3) = t.val / 2
    ∧ cc0_transform_6 (grid0.coords t) (1 : Fin 3) = t.val / 1 % 2 * 1 + t.val % 1 ∧ cc0_transform_6 (grid0.coords t) (2 : Fin 3) = 0 := by
  decide +kernel

theorem idx7 : ∀ t : Fin grid0.N, cc0_transform_7 (grid0.coords t) (0 : Fin 3) = t.val / 2
    ∧ cc0_transform_7 (grid0.coords t) (1 : Fin 3) = t.val / 1 % 2 * 1 + t.val % 1 ∧ cc0_transform_7 (grid0.coords t) (2 : Fin 3) = 0 := by
  decide +kernel

theorem idx8 : ∀ t : Fin grid0.N, cc0_transform_8 (grid0.coords t) (0 : Fin 3) = t.val / 2
    ∧ cc0_transform_8 (grid0.coords t) (1 : Fin 3) = t.val / 1 % 2 * 1 + t.val % 1 ∧ cc0_transform_8 (grid0.coords t) (2 : Fin 3) = 0 := by
  decide +kernel

theorem emb0 (t : Fin (cfgM m (ok m)).N) (a : Fin 128) (b : Fin 512) :
    (((cfgM m (ok m)).win 0).blk t).view.emb (ix3 0 a b) = ix3 (lay t) (row t a) b := by
  obtain ⟨e0, e1, e2⟩ := idx0 t
  refine funext fun y => Fin.ext ?_
  match y with
  | ⟨0, _⟩ => show cc0_transform_0 (grid0.coords t) (0 : Fin 3) * 1 + 1 * 0 = t.val / 2; omega
  | ⟨1, _⟩ => show cc0_transform_0 (grid0.coords t) (1 : Fin 3) * 128 + 1 * a.val = 128 * (t.val / 1 % 2) + 128 * (t.val % 1) + a.val; omega
  | ⟨2, _⟩ => show cc0_transform_0 (grid0.coords t) (2 : Fin 3) * 512 + 1 * b.val = b.val; omega

theorem emb1 (t : Fin (cfgM m (ok m)).N) (a : Fin 128) (b : Fin 512) :
    (((cfgM m (ok m)).win 1).blk t).view.emb (ix3 0 a b) = ix3 (lay t) (prow t a) b := by
  obtain ⟨e0, e1, e2⟩ := idx1 t
  refine funext fun y => Fin.ext ?_
  match y with
  | ⟨0, _⟩ => show cc0_transform_1 (grid0.coords t) (0 : Fin 3) * 1 + 1 * 0 = t.val / 2; omega
  | ⟨1, _⟩ => show cc0_transform_1 (grid0.coords t) (1 : Fin 3) * 128 + 1 * a.val = 128 * (t.val % 1) + a.val; omega
  | ⟨2, _⟩ => show cc0_transform_1 (grid0.coords t) (2 : Fin 3) * 512 + 1 * b.val = b.val; omega

theorem emb2 (t : Fin (cfgM m (ok m)).N) (a : Fin 128) (b : Fin 512) :
    (((cfgM m (ok m)).win 2).blk t).view.emb (ix3 0 a b) = ix3 (lay t) (prow t a) b := by
  obtain ⟨e0, e1, e2⟩ := idx2 t
  refine funext fun y => Fin.ext ?_
  match y with
  | ⟨0, _⟩ => show cc0_transform_2 (grid0.coords t) (0 : Fin 3) * 1 + 1 * 0 = t.val / 2; omega
  | ⟨1, _⟩ => show cc0_transform_2 (grid0.coords t) (1 : Fin 3) * 128 + 1 * a.val = 128 * (t.val % 1) + a.val; omega
  | ⟨2, _⟩ => show cc0_transform_2 (grid0.coords t) (2 : Fin 3) * 512 + 1 * b.val = b.val; omega

theorem emb3 (t : Fin (cfgM m (ok m)).N) (a : Fin 128) (b : Fin 512) :
    (((cfgM m (ok m)).win 3).blk t).view.emb (ix3 0 a b) = ix3 (lay t) (row t a) b := by
  obtain ⟨e0, e1, e2⟩ := idx3 t
  refine funext fun y => Fin.ext ?_
  match y with
  | ⟨0, _⟩ => show cc0_transform_3 (grid0.coords t) (0 : Fin 3) * 1 + 1 * 0 = t.val / 2; omega
  | ⟨1, _⟩ => show cc0_transform_3 (grid0.coords t) (1 : Fin 3) * 128 + 1 * a.val = 128 * (t.val / 1 % 2) + 128 * (t.val % 1) + a.val; omega
  | ⟨2, _⟩ => show cc0_transform_3 (grid0.coords t) (2 : Fin 3) * 512 + 1 * b.val = b.val; omega

theorem emb4 (t : Fin (cfgM m (ok m)).N) (a : Fin 128) (b : Fin 512) :
    (((cfgM m (ok m)).win 4).blk t).view.emb (ix3 0 a b) = ix3 (lay t) (row t a) b := by
  obtain ⟨e0, e1, e2⟩ := idx4 t
  refine funext fun y => Fin.ext ?_
  match y with
  | ⟨0, _⟩ => show cc0_transform_4 (grid0.coords t) (0 : Fin 3) * 1 + 1 * 0 = t.val / 2; omega
  | ⟨1, _⟩ => show cc0_transform_4 (grid0.coords t) (1 : Fin 3) * 128 + 1 * a.val = 128 * (t.val / 1 % 2) + 128 * (t.val % 1) + a.val; omega
  | ⟨2, _⟩ => show cc0_transform_4 (grid0.coords t) (2 : Fin 3) * 512 + 1 * b.val = b.val; omega

theorem emb5 (t : Fin (cfgM m (ok m)).N) (a : Fin 128) (b : Fin 512) :
    (((cfgM m (ok m)).win 5).blk t).view.emb (ix3 0 a b) = ix3 (lay t) (row t a) b := by
  obtain ⟨e0, e1, e2⟩ := idx5 t
  refine funext fun y => Fin.ext ?_
  match y with
  | ⟨0, _⟩ => show cc0_transform_5 (grid0.coords t) (0 : Fin 3) * 1 + 1 * 0 = t.val / 2; omega
  | ⟨1, _⟩ => show cc0_transform_5 (grid0.coords t) (1 : Fin 3) * 128 + 1 * a.val = 128 * (t.val / 1 % 2) + 128 * (t.val % 1) + a.val; omega
  | ⟨2, _⟩ => show cc0_transform_5 (grid0.coords t) (2 : Fin 3) * 512 + 1 * b.val = b.val; omega

theorem emb6 (t : Fin (cfgM m (ok m)).N) (a : Fin 128) (b : Fin 512) :
    (((cfgM m (ok m)).win 6).blk t).view.emb (ix3 0 a b) = ix3 (lay t) (row t a) b := by
  obtain ⟨e0, e1, e2⟩ := idx6 t
  refine funext fun y => Fin.ext ?_
  match y with
  | ⟨0, _⟩ => show cc0_transform_6 (grid0.coords t) (0 : Fin 3) * 1 + 1 * 0 = t.val / 2; omega
  | ⟨1, _⟩ => show cc0_transform_6 (grid0.coords t) (1 : Fin 3) * 128 + 1 * a.val = 128 * (t.val / 1 % 2) + 128 * (t.val % 1) + a.val; omega
  | ⟨2, _⟩ => show cc0_transform_6 (grid0.coords t) (2 : Fin 3) * 512 + 1 * b.val = b.val; omega

theorem emb7 (t : Fin (cfgM m (ok m)).N) (a : Fin 128) (b : Fin 512) :
    (((cfgM m (ok m)).win 7).blk t).view.emb (ix3 0 a b) = ix3 (lay t) (row t a) b := by
  obtain ⟨e0, e1, e2⟩ := idx7 t
  refine funext fun y => Fin.ext ?_
  match y with
  | ⟨0, _⟩ => show cc0_transform_7 (grid0.coords t) (0 : Fin 3) * 1 + 1 * 0 = t.val / 2; omega
  | ⟨1, _⟩ => show cc0_transform_7 (grid0.coords t) (1 : Fin 3) * 128 + 1 * a.val = 128 * (t.val / 1 % 2) + 128 * (t.val % 1) + a.val; omega
  | ⟨2, _⟩ => show cc0_transform_7 (grid0.coords t) (2 : Fin 3) * 512 + 1 * b.val = b.val; omega

theorem emb8 (t : Fin (cfgM m (ok m)).N) (a : Fin 128) (b : Fin 512) :
    (((cfgM m (ok m)).win 8).blk t).view.emb (ix3 0 a b) = ix3 (lay t) (row t a) b := by
  obtain ⟨e0, e1, e2⟩ := idx8 t
  refine funext fun y => Fin.ext ?_
  match y with
  | ⟨0, _⟩ => show cc0_transform_8 (grid0.coords t) (0 : Fin 3) * 1 + 1 * 0 = t.val / 2; omega
  | ⟨1, _⟩ => show cc0_transform_8 (grid0.coords t) (1 : Fin 3) * 128 + 1 * a.val = 128 * (t.val / 1 % 2) + 128 * (t.val % 1) + a.val; omega
  | ⟨2, _⟩ => show cc0_transform_8 (grid0.coords t) (2 : Fin 3) * 512 + 1 * b.val = b.val; omega

theorem blk0 (t : Fin (cfgM m (ok m)).N) (a : Fin 128) (b : Fin 512) : iblk m (ok m) c 0 t (ix3 0 a b) = x1 m c (ix3 (lay t) (row t a) b) :=
  congrArg (x1 m c) (emb0 m t a b)

theorem blk1 (t : Fin (cfgM m (ok m)).N) (a : Fin 128) (b : Fin 512) : iblk m (ok m) c 1 t (ix3 0 a b) = x2 m c (ix3 (lay t) (prow t a) b) :=
  congrArg (x2 m c) (emb1 m t a b)

theorem blk2 (t : Fin (cfgM m (ok m)).N) (a : Fin 128) (b : Fin 512) : iblk m (ok m) c 2 t (ix3 0 a b) = x3 m c (ix3 (lay t) (prow t a) b) :=
  congrArg (x3 m c) (emb2 m t a b)

theorem blk3 (t : Fin (cfgM m (ok m)).N) (a : Fin 128) (b : Fin 512) : iblk m (ok m) c 3 t (ix3 0 a b) = x4 m c (ix3 (lay t) (row t a) b) :=
  congrArg (x4 m c) (emb3 m t a b)

theorem blk4 (t : Fin (cfgM m (ok m)).N) (a : Fin 128) (b : Fin 512) : iblk m (ok m) c 4 t (ix3 0 a b) = x5 m c (ix3 (lay t) (row t a) b) :=
  congrArg (x5 m c) (emb4 m t a b)

theorem grad_at (t : Fin (cfgM m (ok m)).N) (a : Fin 128) (b : Fin 512) :
    k0_pay4 (F := Ideal) (grid0.coords t) (word c (tbl m 0)) (iblk m (ok m) c 1 t) (iblk m (ok m) c 2 t) (ix2 a b) = grad m c (lay t) (row t a) b := by
  refine (pay_grad _ _ _ _ a b).trans ?_
  rw [blk1, blk2, word_tbl, half_word]
  unfold grad
  have hq : (row t a).val / 128 = t.val / 1 % 2 := by
    show (128 * (t.val / 1 % 2) + 128 * (t.val % 1) + a.val) / 128 = _; omega
  have hr : (⟨(row t a).val % 128, by omega⟩ : Fin 128) = prow t a := Fin.ext (by
    show (128 * (t.val / 1 % 2) + 128 * (t.val % 1) + a.val) % 128 = 128 * (t.val % 1) + a.val; omega)
  rw [hq, hr]

/-! The reference's four results. -/

def R5 : S4x256x512.Idx → EReal := Cert.AdamKvbRefIdeal.Read.val_main_v6 (F := Ideal) (x0 m c) (x2 m c) (x3 m c)
def R6 : S4x256x512.Idx → EReal := Cert.AdamKvbRefIdeal.Read.val_main_v30 (F := Ideal) (x0 m c) (x1 m c) (x2 m c) (x3 m c) (x4 m c) (x5 m c)
def R7 : S4x256x512.Idx → EReal := Cert.AdamKvbRefIdeal.Read.val_main_v11 (F := Ideal) (x0 m c) (x2 m c) (x3 m c) (x4 m c)
def R8 : S4x256x512.Idx → EReal := Cert.AdamKvbRefIdeal.Read.val_main_v17 (F := Ideal) (x0 m c) (x2 m c) (x3 m c) (x5 m c)

theorem ref5 (l : Fin 4) (r : Fin 256) (j : Fin 512) : R5 m c (ix3 l r j) = grad m c l r j := by
  unfold R5 grad Cert.AdamKvbRefIdeal.Read.val_main_v6 Cert.AdamKvbRefIdeal.Read.val_main_v5 Cert.AdamKvbRefIdeal.Read.val_main_v4 Cert.AdamKvbRefIdeal.Read.val_main_v3 Cert.AdamKvbRefIdeal.Read.val_main_v2 Cert.AdamKvbRefIdeal.Read.val_main_v1 Cert.AdamKvbRefIdeal.Read.val_main_v0 Cert.AdamKvbRefIdeal.Read.val_main_c_0 Cert.AdamKvbRefIdeal.Read.val_main_c
  pointwise
  by_cases h : r.val < 128
  · have hq : r.val / 128 = 0 := by omega
    have hr : (⟨r.val % 128, by omega⟩ : Fin 128) = ⟨r.val, h⟩ := Fin.ext (by show r.val % 128 = r.val; omega)
    rw [dif_pos h, hq, hr]
    exact select_eq _ _ _ _
  · have hq : r.val / 128 = 1 := by omega
    have hr : (⟨r.val % 128, by omega⟩ : Fin 128) = ⟨r.val - 128, by omega⟩ := Fin.ext (by show r.val % 128 = r.val - 128; omega)
    rw [dif_neg h, hq, hr]
    exact select_eq _ _ _ _

theorem ref7 (l : Fin 4) (r : Fin 256) (j : Fin 512) : R7 m c (ix3 l r j) = mom (grad m c l r j) (x4 m c (ix3 l r j)) := by
  rw [← ref5]
  unfold R7 R5 mom Cert.AdamKvbRefIdeal.Read.val_main_v11 Cert.AdamKvbRefIdeal.Read.val_main_v10 Cert.AdamKvbRefIdeal.Read.val_main_v9 Cert.AdamKvbRefIdeal.Read.val_main_v8 Cert.AdamKvbRefIdeal.Read.val_main_v7 Cert.AdamKvbRefIdeal.Read.val_main_cst Cert.AdamKvbRefIdeal.Read.val_main_cst_1
  generalize Cert.AdamKvbRefIdeal.Read.val_main_v6 (F := Ideal) (x0 m c) (x2 m c) (x3 m c) = g
  pointwise

theorem ref8 (l : Fin 4) (r : Fin 256) (j : Fin 512) : R8 m c (ix3 l r j) = vel (grad m c l r j) (x5 m c (ix3 l r j)) := by
  rw [← ref5]
  unfold R8 R5 vel Cert.AdamKvbRefIdeal.Read.val_main_v17 Cert.AdamKvbRefIdeal.Read.val_main_v16 Cert.AdamKvbRefIdeal.Read.val_main_v15 Cert.AdamKvbRefIdeal.Read.val_main_v14 Cert.AdamKvbRefIdeal.Read.val_main_v13 Cert.AdamKvbRefIdeal.Read.val_main_v12 Cert.AdamKvbRefIdeal.Read.val_main_cst_2 Cert.AdamKvbRefIdeal.Read.val_main_cst_3
  generalize Cert.AdamKvbRefIdeal.Read.val_main_v6 (F := Ideal) (x0 m c) (x2 m c) (x3 m c) = g
  pointwise

theorem ref6 (l : Fin 4) (r : Fin 256) (j : Fin 512) :
    R6 m c (ix3 l r j) = step (x1 m c (ix3 l r j)) (grad m c l r j) (x4 m c (ix3 l r j)) (x5 m c (ix3 l r j)) := by
  unfold step
  rw [← ref7, ← ref8]
  unfold R6 R7 R8 delta Cert.AdamKvbRefIdeal.Read.val_main_v30 Cert.AdamKvbRefIdeal.Read.val_main_v29 Cert.AdamKvbRefIdeal.Read.val_main_v28 Cert.AdamKvbRefIdeal.Read.val_main_v27 Cert.AdamKvbRefIdeal.Read.val_main_v26 Cert.AdamKvbRefIdeal.Read.val_main_v25 Cert.AdamKvbRefIdeal.Read.val_main_v24 Cert.AdamKvbRefIdeal.Read.val_main_v23 Cert.AdamKvbRefIdeal.Read.val_main_v22 Cert.AdamKvbRefIdeal.Read.val_main_v21 Cert.AdamKvbRefIdeal.Read.val_main_v20 Cert.AdamKvbRefIdeal.Read.val_main_v19 Cert.AdamKvbRefIdeal.Read.val_main_v18 Cert.AdamKvbRefIdeal.Read.val_main_cst_4 Cert.AdamKvbRefIdeal.Read.val_main_cst_5 Cert.AdamKvbRefIdeal.Read.val_main_cst_6 Cert.AdamKvbRefIdeal.Read.val_main_cst_7 Cert.AdamKvbRefIdeal.Read.val_main_cst_8
  generalize Cert.AdamKvbRefIdeal.Read.val_main_v11 (F := Ideal) (x0 m c) (x2 m c) (x3 m c) (x4 m c) = f
  generalize Cert.AdamKvbRefIdeal.Read.val_main_v17 (F := Ideal) (x0 m c) (x2 m c) (x3 m c) (x5 m c) = g
  pointwise

/-! The four arrays. -/

theorem eta (y : S1x128x512.Idx) : ∃ (a : Fin 128) (b : Fin 512), y = ix3 0 a b :=
  ⟨y 1, y 2, (eta3 y).trans (congrArg (fun z => ix3 z (y 1) (y 2)) (Subsingleton.elim (α := Fin 1) _ _))⟩

theorem cov5 (a : (pcfg0 (F := Ideal)).Adm) : ((cfg0 a).win 5).Covers := by
  show ((cfg0 (F := Ideal) ⟨fun | 0 => fun _ => (0#32 : BitVec 32), trivial⟩).win 5).Covers
  decide +kernel

theorem at5 (t : Fin (cfgM m (ok m)).N) (a : Fin 128) (b : Fin 512) :
    (outsAt0 m (ok m) c t).1 (ix3 0 a b) = R5 m c (ix3 (lay t) (row t a) b) := by
  have e : (outsAt0 m (ok m) c t).1 = k0_pay7 (F := Ideal) (grid0.coords t) (word c (tbl m 0)) (iblk m (ok m) c 1 t) (iblk m (ok m) c 2 t) := by
    have f := out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_out _ _ _ _ a b).trans ?_
  rw [grad_at, ref5]

theorem arr5 : (dats m (ok m) 0 c).arrAt 5 (cfgM m (ok m)).N = R5 m c := by
  refine (dats m (ok m) 0 c).arrAt_eq_of_covers 5 (R5 m c) (cov5 _) fun t _ y => ?_
  blk_simp
  rw [after0_5]
  obtain ⟨a, b, rfl⟩ := eta y
  show (outsAt0 m (ok m) c t).1 (ix3 0 a b) = R5 m c ((((cfgM m (ok m)).win 5).blk t).view.emb (ix3 0 a b))
  rw [emb5, at5]

theorem cov6 (a : (pcfg0 (F := Ideal)).Adm) : ((cfg0 a).win 6).Covers := by
  show ((cfg0 (F := Ideal) ⟨fun | 0 => fun _ => (0#32 : BitVec 32), trivial⟩).win 6).Covers
  decide +kernel

theorem at6 (t : Fin (cfgM m (ok m)).N) (a : Fin 128) (b : Fin 512) :
    (outsAt0 m (ok m) c t).2.1 (ix3 0 a b) = R6 m c (ix3 (lay t) (row t a) b) := by
  have e : (outsAt0 m (ok m) c t).2.1 = k0_pay1 (F := Ideal) (k0_pay8 (F := Ideal) (grid0.coords t) (word c (tbl m 0)) (iblk m (ok m) c 1 t) (iblk m (ok m) c 2 t) (iblk m (ok m) c 3 t) (iblk m (ok m) c 4 t)) (iblk m (ok m) c 0 t) := by
    have f := out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_step _ _ _ _ _ _ _ a b).trans ?_
  rw [grad_at, ref6, blk0, blk3, blk4]

theorem arr6 : (dats m (ok m) 0 c).arrAt 6 (cfgM m (ok m)).N = R6 m c := by
  refine (dats m (ok m) 0 c).arrAt_eq_of_covers 6 (R6 m c) (cov6 _) fun t _ y => ?_
  blk_simp
  rw [after0_6]
  obtain ⟨a, b, rfl⟩ := eta y
  show (outsAt0 m (ok m) c t).2.1 (ix3 0 a b) = R6 m c ((((cfgM m (ok m)).win 6).blk t).view.emb (ix3 0 a b))
  rw [emb6, at6]

theorem cov7 (a : (pcfg0 (F := Ideal)).Adm) : ((cfg0 a).win 7).Covers := by
  show ((cfg0 (F := Ideal) ⟨fun | 0 => fun _ => (0#32 : BitVec 32), trivial⟩).win 7).Covers
  decide +kernel

theorem at7 (t : Fin (cfgM m (ok m)).N) (a : Fin 128) (b : Fin 512) :
    (outsAt0 m (ok m) c t).2.2.1 (ix3 0 a b) = R7 m c (ix3 (lay t) (row t a) b) := by
  have e : (outsAt0 m (ok m) c t).2.2.1 = k0_pay2 (F := Ideal) (k0_pay5 (F := Ideal) (grid0.coords t) (word c (tbl m 0)) (iblk m (ok m) c 1 t) (iblk m (ok m) c 2 t) (iblk m (ok m) c 3 t)) := by
    have f := out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_mom_out _ _ _ _ _ a b).trans ?_
  rw [grad_at, ref7, blk3]

theorem arr7 : (dats m (ok m) 0 c).arrAt 7 (cfgM m (ok m)).N = R7 m c := by
  refine (dats m (ok m) 0 c).arrAt_eq_of_covers 7 (R7 m c) (cov7 _) fun t _ y => ?_
  blk_simp
  rw [after0_7]
  obtain ⟨a, b, rfl⟩ := eta y
  show (outsAt0 m (ok m) c t).2.2.1 (ix3 0 a b) = R7 m c ((((cfgM m (ok m)).win 7).blk t).view.emb (ix3 0 a b))
  rw [emb7, at7]

theorem cov8 (a : (pcfg0 (F := Ideal)).Adm) : ((cfg0 a).win 8).Covers := by
  show ((cfg0 (F := Ideal) ⟨fun | 0 => fun _ => (0#32 : BitVec 32), trivial⟩).win 8).Covers
  decide +kernel

theorem at8 (t : Fin (cfgM m (ok m)).N) (a : Fin 128) (b : Fin 512) :
    (outsAt0 m (ok m) c t).2.2.2 (ix3 0 a b) = R8 m c (ix3 (lay t) (row t a) b) := by
  have e : (outsAt0 m (ok m) c t).2.2.2 = k0_pay3 (F := Ideal) (k0_pay6 (F := Ideal) (grid0.coords t) (word c (tbl m 0)) (iblk m (ok m) c 1 t) (iblk m (ok m) c 2 t) (iblk m (ok m) c 4 t)) := by
    have f := out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_vel_out _ _ _ _ _ a b).trans ?_
  rw [grad_at, ref8, blk4]

theorem arr8 : (dats m (ok m) 0 c).arrAt 8 (cfgM m (ok m)).N = R8 m c := by
  refine (dats m (ok m) 0 c).arrAt_eq_of_covers 8 (R8 m c) (cov8 _) fun t _ y => ?_
  blk_simp
  rw [after0_8]
  obtain ⟨a, b, rfl⟩ := eta y
  show (outsAt0 m (ok m) c t).2.2.2 (ix3 0 a b) = R8 m c ((((cfgM m (ok m)).win 8).blk t).view.emb (ix3 0 a b))
  rw [emb8, at8]

/-- The kernel leaves the reference's four results. -/
theorem algebraic : Cert.algebraic_AdamKvbIdeal_AdamKvbRefIdeal := by
  intro m ρ m' ρ' _ hargs
  refine ⟨fun c => R5 m c, fun c => R6 m c, fun c => R7 m c, fun c => R8 m c, ?_, ?_⟩
  · refine (θ_run defs _ _).mono (fun r h c => ?_) (θ_run_and (run_main m ρ (ok m)) (unchanged m ρ (ok m)))
    exact ⟨((h.1 c).1 5).trans (arr5 m c), ((h.1 c).1 6).trans (arr6 m c), ((h.1 c).1 7).trans (arr7 m c), ((h.1 c).1 8).trans (arr8 m c), h.2 c⟩
  · refine (θ_run Cert.AdamKvbRefIdeal.defs _ _).mono (fun r h c => ?_) (Cert.AdamKvbRefIdeal.Value.run m' ρ')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Cert.AdamKvbRefIdeal.Read.val_main_v6_eq, e0, e2, e3]; rfl
    · rw [Cert.AdamKvbRefIdeal.Read.val_main_v30_eq, e0, e1, e2, e3, e4, e5]; rfl
    · rw [Cert.AdamKvbRefIdeal.Read.val_main_v11_eq, e0, e2, e3, e4]; rfl
    · rw [Cert.AdamKvbRefIdeal.Read.val_main_v17_eq, e0, e2, e3, e5]; rfl

end Cert.AdamKvbIdeal.Val

end
-- ==== Proof.Ad.Sq.lean ====
/- The update of a square projection, its gradient selected from the two halves: the kernel's four results are the reference's. -/
module

public import proofs.«01_k».proof.Proof.Gen.AdamSqIdeal.Frame
public import proofs.«01_k».proof.Proof.Gen.AdamSqRefIdeal
public import proofs.«01_k».proof.Proof.Gen.AdamSqRefIdeal.Read
public import proofs.«01_k».proof.Proof.Gen.AdamSqRefIdeal.Run
public import proofs.«01_k».proof.Defs
public import proofs.«01_k».proof.Proof.Ad.Base

@[expose] public section

set_option maxRecDepth 16384

noncomputable section

namespace Cert.AdamSqIdeal.Val

open Cert.AdamSqIdeal Cert.AdamSqIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the core's index, the weights, the two halves of their gradient, the two moments. -/
abbrev x0 : S1.Idx → BitVec 32 := m ((c : Thread nD τ).loc main_arg0)
abbrev x1 : S4x512x2048.Idx → EReal := m ((c : Thread nD τ).loc main_arg1)
abbrev x2 : S4x256x2048.Idx → EReal := m ((c : Thread nD τ).loc main_arg2)
abbrev x3 : S4x256x2048.Idx → EReal := m ((c : Thread nD τ).loc main_arg3)
abbrev x4 : S4x512x2048.Idx → EReal := m ((c : Thread nD τ).loc main_arg4)
abbrev x5 : S4x512x2048.Idx → EReal := m ((c : Thread nD τ).loc main_arg5)

/-- The gradient: a row of the first half is the core's own where the core is the first, of the second half where it is
    the second; the other rows are the other core's. -/
def grad (l : Fin 4) (r : Fin 512) (j : Fin 2048) : EReal :=
  if x0 m c (ix1 0) = BitVec.ofNat 32 (r.val / 256) then x2 m c (ix3 l ⟨r.val % 256, by omega⟩ j) else x3 m c (ix3 l ⟨r.val % 256, by omega⟩ j)

/-! One point of the grid. -/

theorem c1 : Named.named (F := Ideal) Cert.AdamSqIdeal.κ "c1" (φ := .f32) 0x3FC48605#32 = ((8388608 / 5463681 : ℝ) : EReal) :=
  IdealRules.named_const.ideal_named_scalar _ _ _ _ rfl
theorem c2 : Named.named (F := Ideal) Cert.AdamSqIdeal.κ "c2" (φ := .f32) 0x42C8E6D3#32 = ((268435456 / 2672307 : ℝ) : EReal) :=
  IdealRules.named_const.ideal_named_scalar _ _ _ _ rfl

section Pay
variable (i : grid0.Coords) (s : BitVec 32) (p q w u v : Vec Ideal S1x128x2048 .f32) (a : Fin 128) (b : Fin 2048)

theorem pay_grad : k0_pay4 (F := Ideal) i s p q (ix2 a b) = if s = BitVec.ofNat 32 (i 1).val then p (ix3 0 a b) else q (ix3 0 a b) := by
  unfold k0_pay4
  pointwise
  exact select_eq _ _ _ _

theorem pay_out : k0_pay7 (F := Ideal) i s p q (ix3 0 a b) = k0_pay4 (F := Ideal) i s p q (ix2 a b) := by
  unfold k0_pay7
  pointwise

theorem pay_mom : k0_pay5 (F := Ideal) i s p q u (ix2 a b) = mom (k0_pay4 (F := Ideal) i s p q (ix2 a b)) (u (ix3 0 a b)) := by
  unfold k0_pay5 mom
  pointwise

theorem pay_mom_out : k0_pay2 (F := Ideal) (k0_pay5 (F := Ideal) i s p q u) (ix3 0 a b) = mom (k0_pay4 (F := Ideal) i s p q (ix2 a b)) (u (ix3 0 a b)) := by
  rw [← pay_mom]
  unfold k0_pay2
  pointwise

theorem pay_vel : k0_pay6 (F := Ideal) i s p q v (ix2 a b) = vel (k0_pay4 (F := Ideal) i s p q (ix2 a b)) (v (ix3 0 a b)) := by
  unfold k0_pay6 vel
  pointwise

theorem pay_vel_out : k0_pay3 (F := Ideal) (k0_pay6 (F := Ideal) i s p q v) (ix3 0 a b) = vel (k0_pay4 (F := Ideal) i s p q (ix2 a b)) (v (ix3 0 a b)) := by
  rw [← pay_vel]
  unfold k0_pay3
  pointwise

theorem pay_step : k0_pay1 (F := Ideal) (k0_pay8 (F := Ideal) i s p q u v) w (ix3 0 a b)
    = step (w (ix3 0 a b)) (k0_pay4 (F := Ideal) i s p q (ix2 a b)) (u (ix3 0 a b)) (v (ix3 0 a b)) := by
  rw [← step_eq, ← c1, ← c2, ← pay_mom, ← pay_vel]
  unfold k0_pay1 k0_pay8 delta
  generalize k0_pay5 (F := Ideal) i s p q u = f
  generalize k0_pay6 (F := Ideal) i s p q v = g
  pointwise

end Pay

/-- The word the kernel reads off its table. -/
def word (xt : TbBuf0 (F := Ideal) c tbM0_0) : BitVec 32 :=
  View.ld (View.read (Elt Ideal) (View.whole main_arg0) xt) (Rect.unit ![0] ![1] inb_S1_S1_0) (Shape.Idx.first (by decide))

theorem word_tbl : word c (tbl m 0) = x0 m c (ix1 0) := by
  obtain rfl : c = 0 := Subsingleton.elim _ _
  refine congrArg (m (((0 : Dev nD) : Thread nD τ).loc main_arg0)) (funext fun y => ?_)
  match y with
  | ⟨0, _⟩ => exact Subsingleton.elim (α := Fin 1) _ _

section Outs
variable (i : grid0.Coords) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .f32) (harg11 : arg11.IsWhole) (arg12 : Memref sig .tc .vmem S1x128x2048 .f32) (harg12 : arg12.IsWhole)
  (b0 b1 b2 b3 b4 : Vec Ideal S1x128x2048 .f32) (xt : TbBuf0 (F := Ideal) c tbM0_0)

theorem out5 : out0_A_5 (F := Ideal) c i arg4 harg4 arg5 harg5 arg6 harg6 arg7 harg7 arg8 harg8 arg9 harg9 arg10 harg10 arg11 harg11 arg12 harg12 b0 b1 b2 b3 b4 xt
    = k0_pay7 (F := Ideal) i (word c xt) b1 b2 := by
  unfold out0_A_5
  rw [View.read_writes_eq_canon _ _ _ (cover0_A_5 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x2048) hz3]
  rfl

theorem out6 : out0_A_6 (F := Ideal) c i arg4 harg4 arg5 harg5 arg6 harg6 arg7 harg7 arg8 harg8 arg9 harg9 arg10 harg10 arg11 harg11 arg12 harg12 b0 b1 b2 b3 b4 xt
    = k0_pay1 (F := Ideal) (k0_pay8 (F := Ideal) i (word c xt) b1 b2 b3 b4) b0 := by
  unfold out0_A_6
  rw [View.read_writes_eq_canon _ _ _ (cover0_A_6 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x2048) hz3]
  rfl

theorem out7 : out0_A_7 (F := Ideal) c i arg4 harg4 arg5 harg5 arg6 harg6 arg7 harg7 arg8 harg8 arg9 harg9 arg10 harg10 arg11 harg11 arg12 harg12 b0 b1 b2 b3 b4 xt
    = k0_pay2 (F := Ideal) (k0_pay5 (F := Ideal) i (word c xt) b1 b2 b3) := by
  unfold out0_A_7
  rw [View.read_writes_eq_canon _ _ _ (cover0_A_7 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x2048) hz3]
  rfl

theorem out8 : out0_A_8 (F := Ideal) c i arg4 harg4 arg5 harg5 arg6 harg6 arg7 harg7 arg8 harg8 arg9 harg9 arg10 harg10 arg11 harg11 arg12 harg12 b0 b1 b2 b3 b4 xt
    = k0_pay3 (F := Ideal) (k0_pay6 (F := Ideal) i (word c xt) b1 b2 b4) := by
  unfold out0_A_8
  rw [View.read_writes_eq_canon _ _ _ (cover0_A_8 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x128x2048) hz3]
  rfl

end Outs

/-! The blocks of the grid's points. -/

theorem ok : Ok m := trivial

/-- The layer of a point, row `a` of its rows in a half and in the whole. -/
def lay (t : Fin grid0.N) : Fin 4 := ⟨t.val / 4, by have ht : t.val < 16 := N_0 ▸ t.isLt; omega⟩
def prow (t : Fin grid0.N) (a : Fin 128) : Fin 256 := ⟨128 * (t.val % 2) + a.val, by omega⟩
def row (t : Fin grid0.N) (a : Fin 128) : Fin 512 := ⟨256 * (t.val / 2 % 2) + 128 * (t.val % 2) + a.val, by omega⟩

theorem half_word : ∀ t : Fin grid0.N, (grid0.coords t 1).val = t.val / 2 % 2 := by decide +kernel

theorem idx0 : ∀ t : Fin grid0.N, cc0_transform_0 (grid0.coords t) (0 : Fin 3) = t.val / 4
    ∧ cc0_transform_0 (grid0.coords t) (1 : Fin 3) = t.val / 2 % 2 * 2 + t.val % 2 ∧ cc0_transform_0 (grid0.coords t) (2 : Fin 3) = 0 := by
  decide +kernel

theorem idx1 : ∀ t : Fin grid0.N, cc0_transform_1 (grid0.coords t) (0 : Fin 3) = t.val / 4
    ∧ cc0_transform_1 (grid0.coords t) (1 : Fin 3) = t.val % 2 ∧ cc0_transform_1 (grid0.coords t) (2 : Fin 3) = 0 := by
  decide +kernel

theorem idx2 : ∀ t : Fin grid0.N, cc0_transform_2 (grid0.coords t) (0 : Fin 3) = t.val / 4
    ∧ cc0_transform_2 (grid0.coords t) (1 : Fin 3) = t.val % 2 ∧ cc0_transform_2 (grid0.coords t) (2 : Fin 3) = 0 := by
  decide +kernel

theorem idx3 : ∀ t : Fin grid0.N, cc0_transform_3 (grid0.coords t) (0 : Fin 3) = t.val / 4
    ∧ cc0_transform_3 (grid0.coords t) (1 : Fin 3) = t.val / 2 % 2 * 2 + t.val % 2 ∧ cc0_transform_3 (grid0.coords t) (2 : Fin 3) = 0 := by
  decide +kernel

theorem idx4 : ∀ t : Fin grid0.N, cc0_transform_4 (grid0.coords t) (0 : Fin 3) = t.val / 4
    ∧ cc0_transform_4 (grid0.coords t) (1 : Fin 3) = t.val / 2 % 2 * 2 + t.val % 2 ∧ cc0_transform_4 (grid0.coords t) (2 : Fin 3) = 0 := by
  decide +kernel

theorem idx5 : ∀ t : Fin grid0.N, cc0_transform_5 (grid0.coords t) (0 : Fin 3) = t.val / 4
    ∧ cc0_transform_5 (grid0.coords t) (1 : Fin 3) = t.val / 2 % 2 * 2 + t.val % 2 ∧ cc0_transform_5 (grid0.coords t) (2 : Fin 3) = 0 := by
  decide +kernel

theorem idx6 : ∀ t : Fin grid0.N, cc0_transform_6 (grid0.coords t) (0 : Fin 3) = t.val / 4
    ∧ cc0_transform_6 (grid0.coords t) (1 : Fin 3) = t.val / 2 % 2 * 2 + t.val % 2 ∧ cc0_transform_6 (grid0.coords t) (2 : Fin 3) = 0 := by
  decide +kernel

theorem idx7 : ∀ t : Fin grid0.N, cc0_transform_7 (grid0.coords t) (0 : Fin 3) = t.val / 4
    ∧ cc0_transform_7 (grid0.coords t) (1 : Fin 3) = t.val / 2 % 2 * 2 + t.val % 2 ∧ cc0_transform_7 (grid0.coords t) (2 : Fin 3) = 0 := by
  decide +kernel

theorem idx8 : ∀ t : Fin grid0.N, cc0_transform_8 (grid0.coords t) (0 : Fin 3) = t.val / 4
    ∧ cc0_transform_8 (grid0.coords t) (1 : Fin 3) = t.val / 2 % 2 * 2 + t.val % 2 ∧ cc0_transform_8 (grid0.coords t) (2 : Fin 3) = 0 := by
  decide +kernel

theorem emb0 (t : Fin (cfgM m (ok m)).N) (a : Fin 128) (b : Fin 2048) :
    (((cfgM m (ok m)).win 0).blk t).view.emb (ix3 0 a b) = ix3 (lay t) (row t a) b := by
  obtain ⟨e0, e1, e2⟩ := idx0 t
  refine funext fun y => Fin.ext ?_
  match y with
  | ⟨0, _⟩ => show cc0_transform_0 (grid0.coords t) (0 : Fin 3) * 1 + 1 * 0 = t.val / 4; omega
  | ⟨1, _⟩ => show cc0_transform_0 (grid0.coords t) (1 : Fin 3) * 128 + 1 * a.val = 256 * (t.val / 2 % 2) + 128 * (t.val % 2) + a.val; omega
  | ⟨2, _⟩ => show cc0_transform_0 (grid0.coords t) (2 : Fin 3) * 2048 + 1 * b.val = b.val; omega

theorem emb1 (t : Fin (cfgM m (ok m)).N) (a : Fin 128) (b : Fin 2048) :
    (((cfgM m (ok m)).win 1).blk t).view.emb (ix3 0 a b) = ix3 (lay t) (prow t a) b := by
  obtain ⟨e0, e1, e2⟩ := idx1 t
  refine funext fun y => Fin.ext ?_
  match y with
  | ⟨0, _⟩ => show cc0_transform_1 (grid0.coords t) (0 : Fin 3) * 1 + 1 * 0 = t.val / 4; omega
  | ⟨1, _⟩ => show cc0_transform_1 (grid0.coords t) (1 : Fin 3) * 128 + 1 * a.val = 128 * (t.val % 2) + a.val; omega
  | ⟨2, _⟩ => show cc0_transform_1 (grid0.coords t) (2 : Fin 3) * 2048 + 1 * b.val = b.val; omega

theorem emb2 (t : Fin (cfgM m (ok m)).N) (a : Fin 128) (b : Fin 2048) :
    (((cfgM m (ok m)).win 2).blk t).view.emb (ix3 0 a b) = ix3 (lay t) (prow t a) b := by
  obtain ⟨e0, e1, e2⟩ := idx2 t
  refine funext fun y => Fin.ext ?_
  match y with
  | ⟨0, _⟩ => show cc0_transform_2 (grid0.coords t) (0 : Fin 3) * 1 + 1 * 0 = t.val / 4; omega
  | ⟨1, _⟩ => show cc0_transform_2 (grid0.coords t) (1 : Fin 3) * 128 + 1 * a.val = 128 * (t.val % 2) + a.val; omega
  | ⟨2, _⟩ => show cc0_transform_2 (grid0.coords t) (2 : Fin 3) * 2048 + 1 * b.val = b.val; omega

theorem emb3 (t : Fin (cfgM m (ok m)).N) (a : Fin 128) (b : Fin 2048) :
    (((cfgM m (ok m)).win 3).blk t).view.emb (ix3 0 a b) = ix3 (lay t) (row t a) b := by
  obtain ⟨e0, e1, e2⟩ := idx3 t
  refine funext fun y => Fin.ext ?_
  match y with
  | ⟨0, _⟩ => show cc0_transform_3 (grid0.coords t) (0 : Fin 3) * 1 + 1 * 0 = t.val / 4; omega
  | ⟨1, _⟩ => show cc0_transform_3 (grid0.coords t) (1 : Fin 3) * 128 + 1 * a.val = 256 * (t.val / 2 % 2) + 128 * (t.val % 2) + a.val; omega
  | ⟨2, _⟩ => show cc0_transform_3 (grid0.coords t) (2 : Fin 3) * 2048 + 1 * b.val = b.val; omega

theorem emb4 (t : Fin (cfgM m (ok m)).N) (a : Fin 128) (b : Fin 2048) :
    (((cfgM m (ok m)).win 4).blk t).view.emb (ix3 0 a b) = ix3 (lay t) (row t a) b := by
  obtain ⟨e0, e1, e2⟩ := idx4 t
  refine funext fun y => Fin.ext ?_
  match y with
  | ⟨0, _⟩ => show cc0_transform_4 (grid0.coords t) (0 : Fin 3) * 1 + 1 * 0 = t.val / 4; omega
  | ⟨1, _⟩ => show cc0_transform_4 (grid0.coords t) (1 : Fin 3) * 128 + 1 * a.val = 256 * (t.val / 2 % 2) + 128 * (t.val % 2) + a.val; omega
  | ⟨2, _⟩ => show cc0_transform_4 (grid0.coords t) (2 : Fin 3) * 2048 + 1 * b.val = b.val; omega

theorem emb5 (t : Fin (cfgM m (ok m)).N) (a : Fin 128) (b : Fin 2048) :
    (((cfgM m (ok m)).win 5).blk t).view.emb (ix3 0 a b) = ix3 (lay t) (row t a) b := by
  obtain ⟨e0, e1, e2⟩ := idx5 t
  refine funext fun y => Fin.ext ?_
  match y with
  | ⟨0, _⟩ => show cc0_transform_5 (grid0.coords t) (0 : Fin 3) * 1 + 1 * 0 = t.val / 4; omega
  | ⟨1, _⟩ => show cc0_transform_5 (grid0.coords t) (1 : Fin 3) * 128 + 1 * a.val = 256 * (t.val / 2 % 2) + 128 * (t.val % 2) + a.val; omega
  | ⟨2, _⟩ => show cc0_transform_5 (grid0.coords t) (2 : Fin 3) * 2048 + 1 * b.val = b.val; omega

theorem emb6 (t : Fin (cfgM m (ok m)).N) (a : Fin 128) (b : Fin 2048) :
    (((cfgM m (ok m)).win 6).blk t).view.emb (ix3 0 a b) = ix3 (lay t) (row t a) b := by
  obtain ⟨e0, e1, e2⟩ := idx6 t
  refine funext fun y => Fin.ext ?_
  match y with
  | ⟨0, _⟩ => show cc0_transform_6 (grid0.coords t) (0 : Fin 3) * 1 + 1 * 0 = t.val / 4; omega
  | ⟨1, _⟩ => show cc0_transform_6 (grid0.coords t) (1 : Fin 3) * 128 + 1 * a.val = 256 * (t.val / 2 % 2) + 128 * (t.val % 2) + a.val; omega
  | ⟨2, _⟩ => show cc0_transform_6 (grid0.coords t) (2 : Fin 3) * 2048 + 1 * b.val = b.val; omega

theorem emb7 (t : Fin (cfgM m (ok m)).N) (a : Fin 128) (b : Fin 2048) :
    (((cfgM m (ok m)).win 7).blk t).view.emb (ix3 0 a b) = ix3 (lay t) (row t a) b := by
  obtain ⟨e0, e1, e2⟩ := idx7 t
  refine funext fun y => Fin.ext ?_
  match y with
  | ⟨0, _⟩ => show cc0_transform_7 (grid0.coords t) (0 : Fin 3) * 1 + 1 * 0 = t.val / 4; omega
  | ⟨1, _⟩ => show cc0_transform_7 (grid0.coords t) (1 : Fin 3) * 128 + 1 * a.val = 256 * (t.val / 2 % 2) + 128 * (t.val % 2) + a.val; omega
  | ⟨2, _⟩ => show cc0_transform_7 (grid0.coords t) (2 : Fin 3) * 2048 + 1 * b.val = b.val; omega

theorem emb8 (t : Fin (cfgM m (ok m)).N) (a : Fin 128) (b : Fin 2048) :
    (((cfgM m (ok m)).win 8).blk t).view.emb (ix3 0 a b) = ix3 (lay t) (row t a) b := by
  obtain ⟨e0, e1, e2⟩ := idx8 t
  refine funext fun y => Fin.ext ?_
  match y with
  | ⟨0, _⟩ => show cc0_transform_8 (grid0.coords t) (0 : Fin 3) * 1 + 1 * 0 = t.val / 4; omega
  | ⟨1, _⟩ => show cc0_transform_8 (grid0.coords t) (1 : Fin 3) * 128 + 1 * a.val = 256 * (t.val / 2 % 2) + 128 * (t.val % 2) + a.val; omega
  | ⟨2, _⟩ => show cc0_transform_8 (grid0.coords t) (2 : Fin 3) * 2048 + 1 * b.val = b.val; omega

theorem blk0 (t : Fin (cfgM m (ok m)).N) (a : Fin 128) (b : Fin 2048) : iblk m (ok m) c 0 t (ix3 0 a b) = x1 m c (ix3 (lay t) (row t a) b) :=
  congrArg (x1 m c) (emb0 m t a b)

theorem blk1 (t : Fin (cfgM m (ok m)).N) (a : Fin 128) (b : Fin 2048) : iblk m (ok m) c 1 t (ix3 0 a b) = x2 m c (ix3 (lay t) (prow t a) b) :=
  congrArg (x2 m c) (emb1 m t a b)

theorem blk2 (t : Fin (cfgM m (ok m)).N) (a : Fin 128) (b : Fin 2048) : iblk m (ok m) c 2 t (ix3 0 a b) = x3 m c (ix3 (lay t) (prow t a) b) :=
  congrArg (x3 m c) (emb2 m t a b)

theorem blk3 (t : Fin (cfgM m (ok m)).N) (a : Fin 128) (b : Fin 2048) : iblk m (ok m) c 3 t (ix3 0 a b) = x4 m c (ix3 (lay t) (row t a) b) :=
  congrArg (x4 m c) (emb3 m t a b)

theorem blk4 (t : Fin (cfgM m (ok m)).N) (a : Fin 128) (b : Fin 2048) : iblk m (ok m) c 4 t (ix3 0 a b) = x5 m c (ix3 (lay t) (row t a) b) :=
  congrArg (x5 m c) (emb4 m t a b)

theorem grad_at (t : Fin (cfgM m (ok m)).N) (a : Fin 128) (b : Fin 2048) :
    k0_pay4 (F := Ideal) (grid0.coords t) (word c (tbl m 0)) (iblk m (ok m) c 1 t) (iblk m (ok m) c 2 t) (ix2 a b) = grad m c (lay t) (row t a) b := by
  refine (pay_grad _ _ _ _ a b).trans ?_
  rw [blk1, blk2, word_tbl, half_word]
  unfold grad
  have hq : (row t a).val / 256 = t.val / 2 % 2 := by
    show (256 * (t.val / 2 % 2) + 128 * (t.val % 2) + a.val) / 256 = _; omega
  have hr : (⟨(row t a).val % 256, by omega⟩ : Fin 256) = prow t a := Fin.ext (by
    show (256 * (t.val / 2 % 2) + 128 * (t.val % 2) + a.val) % 256 = 128 * (t.val % 2) + a.val; omega)
  rw [hq, hr]

/-! The reference's four results. -/

def R5 : S4x512x2048.Idx → EReal := Cert.AdamSqRefIdeal.Read.val_main_v6 (F := Ideal) (x0 m c) (x2 m c) (x3 m c)
def R6 : S4x512x2048.Idx → EReal := Cert.AdamSqRefIdeal.Read.val_main_v30 (F := Ideal) (x0 m c) (x1 m c) (x2 m c) (x3 m c) (x4 m c) (x5 m c)
def R7 : S4x512x2048.Idx → EReal := Cert.AdamSqRefIdeal.Read.val_main_v11 (F := Ideal) (x0 m c) (x2 m c) (x3 m c) (x4 m c)
def R8 : S4x512x2048.Idx → EReal := Cert.AdamSqRefIdeal.Read.val_main_v17 (F := Ideal) (x0 m c) (x2 m c) (x3 m c) (x5 m c)

theorem ref5 (l : Fin 4) (r : Fin 512) (j : Fin 2048) : R5 m c (ix3 l r j) = grad m c l r j := by
  unfold R5 grad Cert.AdamSqRefIdeal.Read.val_main_v6 Cert.AdamSqRefIdeal.Read.val_main_v5 Cert.AdamSqRefIdeal.Read.val_main_v4 Cert.AdamSqRefIdeal.Read.val_main_v3 Cert.AdamSqRefIdeal.Read.val_main_v2 Cert.AdamSqRefIdeal.Read.val_main_v1 Cert.AdamSqRefIdeal.Read.val_main_v0 Cert.AdamSqRefIdeal.Read.val_main_c_0 Cert.AdamSqRefIdeal.Read.val_main_c
  pointwise
  by_cases h : r.val < 256
  · have hq : r.val / 256 = 0 := by omega
    have hr : (⟨r.val % 256, by omega⟩ : Fin 256) = ⟨r.val, h⟩ := Fin.ext (by show r.val % 256 = r.val; omega)
    rw [dif_pos h, hq, hr]
    exact select_eq _ _ _ _
  · have hq : r.val / 256 = 1 := by omega
    have hr : (⟨r.val % 256, by omega⟩ : Fin 256) = ⟨r.val - 256, by omega⟩ := Fin.ext (by show r.val % 256 = r.val - 256; omega)
    rw [dif_neg h, hq, hr]
    exact select_eq _ _ _ _

theorem ref7 (l : Fin 4) (r : Fin 512) (j : Fin 2048) : R7 m c (ix3 l r j) = mom (grad m c l r j) (x4 m c (ix3 l r j)) := by
  rw [← ref5]
  unfold R7 R5 mom Cert.AdamSqRefIdeal.Read.val_main_v11 Cert.AdamSqRefIdeal.Read.val_main_v10 Cert.AdamSqRefIdeal.Read.val_main_v9 Cert.AdamSqRefIdeal.Read.val_main_v8 Cert.AdamSqRefIdeal.Read.val_main_v7 Cert.AdamSqRefIdeal.Read.val_main_cst Cert.AdamSqRefIdeal.Read.val_main_cst_1
  generalize Cert.AdamSqRefIdeal.Read.val_main_v6 (F := Ideal) (x0 m c) (x2 m c) (x3 m c) = g
  pointwise

theorem ref8 (l : Fin 4) (r : Fin 512) (j : Fin 2048) : R8 m c (ix3 l r j) = vel (grad m c l r j) (x5 m c (ix3 l r j)) := by
  rw [← ref5]
  unfold R8 R5 vel Cert.AdamSqRefIdeal.Read.val_main_v17 Cert.AdamSqRefIdeal.Read.val_main_v16 Cert.AdamSqRefIdeal.Read.val_main_v15 Cert.AdamSqRefIdeal.Read.val_main_v14 Cert.AdamSqRefIdeal.Read.val_main_v13 Cert.AdamSqRefIdeal.Read.val_main_v12 Cert.AdamSqRefIdeal.Read.val_main_cst_2 Cert.AdamSqRefIdeal.Read.val_main_cst_3
  generalize Cert.AdamSqRefIdeal.Read.val_main_v6 (F := Ideal) (x0 m c) (x2 m c) (x3 m c) = g
  pointwise

theorem ref6 (l : Fin 4) (r : Fin 512) (j : Fin 2048) :
    R6 m c (ix3 l r j) = step (x1 m c (ix3 l r j)) (grad m c l r j) (x4 m c (ix3 l r j)) (x5 m c (ix3 l r j)) := by
  unfold step
  rw [← ref7, ← ref8]
  unfold R6 R7 R8 delta Cert.AdamSqRefIdeal.Read.val_main_v30 Cert.AdamSqRefIdeal.Read.val_main_v29 Cert.AdamSqRefIdeal.Read.val_main_v28 Cert.AdamSqRefIdeal.Read.val_main_v27 Cert.AdamSqRefIdeal.Read.val_main_v26 Cert.AdamSqRefIdeal.Read.val_main_v25 Cert.AdamSqRefIdeal.Read.val_main_v24 Cert.AdamSqRefIdeal.Read.val_main_v23 Cert.AdamSqRefIdeal.Read.val_main_v22 Cert.AdamSqRefIdeal.Read.val_main_v21 Cert.AdamSqRefIdeal.Read.val_main_v20 Cert.AdamSqRefIdeal.Read.val_main_v19 Cert.AdamSqRefIdeal.Read.val_main_v18 Cert.AdamSqRefIdeal.Read.val_main_cst_4 Cert.AdamSqRefIdeal.Read.val_main_cst_5 Cert.AdamSqRefIdeal.Read.val_main_cst_6 Cert.AdamSqRefIdeal.Read.val_main_cst_7 Cert.AdamSqRefIdeal.Read.val_main_cst_8
  generalize Cert.AdamSqRefIdeal.Read.val_main_v11 (F := Ideal) (x0 m c) (x2 m c) (x3 m c) (x4 m c) = f
  generalize Cert.AdamSqRefIdeal.Read.val_main_v17 (F := Ideal) (x0 m c) (x2 m c) (x3 m c) (x5 m c) = g
  pointwise

/-! The four arrays. -/

theorem eta (y : S1x128x2048.Idx) : ∃ (a : Fin 128) (b : Fin 2048), y = ix3 0 a b :=
  ⟨y 1, y 2, (eta3 y).trans (congrArg (fun z => ix3 z (y 1) (y 2)) (Subsingleton.elim (α := Fin 1) _ _))⟩

theorem cov5 (a : (pcfg0 (F := Ideal)).Adm) : ((cfg0 a).win 5).Covers := by
  show ((cfg0 (F := Ideal) ⟨fun | 0 => fun _ => (0#32 : BitVec 32), trivial⟩).win 5).Covers
  decide +kernel

theorem at5 (t : Fin (cfgM m (ok m)).N) (a : Fin 128) (b : Fin 2048) :
    (outsAt0 m (ok m) c t).1 (ix3 0 a b) = R5 m c (ix3 (lay t) (row t a) b) := by
  have e : (outsAt0 m (ok m) c t).1 = k0_pay7 (F := Ideal) (grid0.coords t) (word c (tbl m 0)) (iblk m (ok m) c 1 t) (iblk m (ok m) c 2 t) := by
    have f := out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_out _ _ _ _ a b).trans ?_
  rw [grad_at, ref5]

theorem arr5 : (dats m (ok m) 0 c).arrAt 5 (cfgM m (ok m)).N = R5 m c := by
  refine (dats m (ok m) 0 c).arrAt_eq_of_covers 5 (R5 m c) (cov5 _) fun t _ y => ?_
  blk_simp
  rw [after0_5]
  obtain ⟨a, b, rfl⟩ := eta y
  show (outsAt0 m (ok m) c t).1 (ix3 0 a b) = R5 m c ((((cfgM m (ok m)).win 5).blk t).view.emb (ix3 0 a b))
  rw [emb5, at5]

theorem cov6 (a : (pcfg0 (F := Ideal)).Adm) : ((cfg0 a).win 6).Covers := by
  show ((cfg0 (F := Ideal) ⟨fun | 0 => fun _ => (0#32 : BitVec 32), trivial⟩).win 6).Covers
  decide +kernel

theorem at6 (t : Fin (cfgM m (ok m)).N) (a : Fin 128) (b : Fin 2048) :
    (outsAt0 m (ok m) c t).2.1 (ix3 0 a b) = R6 m c (ix3 (lay t) (row t a) b) := by
  have e : (outsAt0 m (ok m) c t).2.1 = k0_pay1 (F := Ideal) (k0_pay8 (F := Ideal) (grid0.coords t) (word c (tbl m 0)) (iblk m (ok m) c 1 t) (iblk m (ok m) c 2 t) (iblk m (ok m) c 3 t) (iblk m (ok m) c 4 t)) (iblk m (ok m) c 0 t) := by
    have f := out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_step _ _ _ _ _ _ _ a b).trans ?_
  rw [grad_at, ref6, blk0, blk3, blk4]

theorem arr6 : (dats m (ok m) 0 c).arrAt 6 (cfgM m (ok m)).N = R6 m c := by
  refine (dats m (ok m) 0 c).arrAt_eq_of_covers 6 (R6 m c) (cov6 _) fun t _ y => ?_
  blk_simp
  rw [after0_6]
  obtain ⟨a, b, rfl⟩ := eta y
  show (outsAt0 m (ok m) c t).2.1 (ix3 0 a b) = R6 m c ((((cfgM m (ok m)).win 6).blk t).view.emb (ix3 0 a b))
  rw [emb6, at6]

theorem cov7 (a : (pcfg0 (F := Ideal)).Adm) : ((cfg0 a).win 7).Covers := by
  show ((cfg0 (F := Ideal) ⟨fun | 0 => fun _ => (0#32 : BitVec 32), trivial⟩).win 7).Covers
  decide +kernel

theorem at7 (t : Fin (cfgM m (ok m)).N) (a : Fin 128) (b : Fin 2048) :
    (outsAt0 m (ok m) c t).2.2.1 (ix3 0 a b) = R7 m c (ix3 (lay t) (row t a) b) := by
  have e : (outsAt0 m (ok m) c t).2.2.1 = k0_pay2 (F := Ideal) (k0_pay5 (F := Ideal) (grid0.coords t) (word c (tbl m 0)) (iblk m (ok m) c 1 t) (iblk m (ok m) c 2 t) (iblk m (ok m) c 3 t)) := by
    have f := out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_mom_out _ _ _ _ _ a b).trans ?_
  rw [grad_at, ref7, blk3]

theorem arr7 : (dats m (ok m) 0 c).arrAt 7 (cfgM m (ok m)).N = R7 m c := by
  refine (dats m (ok m) 0 c).arrAt_eq_of_covers 7 (R7 m c) (cov7 _) fun t _ y => ?_
  blk_simp
  rw [after0_7]
  obtain ⟨a, b, rfl⟩ := eta y
  show (outsAt0 m (ok m) c t).2.2.1 (ix3 0 a b) = R7 m c ((((cfgM m (ok m)).win 7).blk t).view.emb (ix3 0 a b))
  rw [emb7, at7]

theorem cov8 (a : (pcfg0 (F := Ideal)).Adm) : ((cfg0 a).win 8).Covers := by
  show ((cfg0 (F := Ideal) ⟨fun | 0 => fun _ => (0#32 : BitVec 32), trivial⟩).win 8).Covers
  decide +kernel

theorem at8 (t : Fin (cfgM m (ok m)).N) (a : Fin 128) (b : Fin 2048) :
    (outsAt0 m (ok m) c t).2.2.2 (ix3 0 a b) = R8 m c (ix3 (lay t) (row t a) b) := by
  have e : (outsAt0 m (ok m) c t).2.2.2 = k0_pay3 (F := Ideal) (k0_pay6 (F := Ideal) (grid0.coords t) (word c (tbl m 0)) (iblk m (ok m) c 1 t) (iblk m (ok m) c 2 t) (iblk m (ok m) c 4 t)) := by
    have f := out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_vel_out _ _ _ _ _ a b).trans ?_
  rw [grad_at, ref8, blk4]

theorem arr8 : (dats m (ok m) 0 c).arrAt 8 (cfgM m (ok m)).N = R8 m c := by
  refine (dats m (ok m) 0 c).arrAt_eq_of_covers 8 (R8 m c) (cov8 _) fun t _ y => ?_
  blk_simp
  rw [after0_8]
  obtain ⟨a, b, rfl⟩ := eta y
  show (outsAt0 m (ok m) c t).2.2.2 (ix3 0 a b) = R8 m c ((((cfgM m (ok m)).win 8).blk t).view.emb (ix3 0 a b))
  rw [emb8, at8]

/-- The kernel leaves the reference's four results. -/
theorem algebraic : Cert.algebraic_AdamSqIdeal_AdamSqRefIdeal := by
  intro m ρ m' ρ' _ hargs
  refine ⟨fun c => R5 m c, fun c => R6 m c, fun c => R7 m c, fun c => R8 m c, ?_, ?_⟩
  · refine (θ_run defs _ _).mono (fun r h c => ?_) (θ_run_and (run_main m ρ (ok m)) (unchanged m ρ (ok m)))
    exact ⟨((h.1 c).1 5).trans (arr5 m c), ((h.1 c).1 6).trans (arr6 m c), ((h.1 c).1 7).trans (arr7 m c), ((h.1 c).1 8).trans (arr8 m c), h.2 c⟩
  · refine (θ_run Cert.AdamSqRefIdeal.defs _ _).mono (fun r h c => ?_) (Cert.AdamSqRefIdeal.Value.run m' ρ')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Cert.AdamSqRefIdeal.Read.val_main_v6_eq, e0, e2, e3]; rfl
    · rw [Cert.AdamSqRefIdeal.Read.val_main_v30_eq, e0, e1, e2, e3, e4, e5]; rfl
    · rw [Cert.AdamSqRefIdeal.Read.val_main_v11_eq, e0, e2, e3, e4]; rfl
    · rw [Cert.AdamSqRefIdeal.Read.val_main_v17_eq, e0, e2, e3, e5]; rfl

end Cert.AdamSqIdeal.Val

end
-- ==== Proof.Ad.Up.lean ====
/- The update of the feed-forward layer's up-projection, its gradient selected from the two halves: the kernel's four results are the reference's. -/
module

public import proofs.«01_k».proof.Proof.Gen.AdamUpIdeal.Frame
public import proofs.«01_k».proof.Proof.Gen.AdamUpRefIdeal
public import proofs.«01_k».proof.Proof.Gen.AdamUpRefIdeal.Read
public import proofs.«01_k».proof.Proof.Gen.AdamUpRefIdeal.Run
public import proofs.«01_k».proof.Defs
public import proofs.«01_k».proof.Proof.Ad.Base

@[expose] public section

set_option maxRecDepth 16384

noncomputable section

namespace Cert.AdamUpIdeal.Val

open Cert.AdamUpIdeal Cert.AdamUpIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the core's index, the weights, the two halves of their gradient, the two moments. -/
abbrev x0 : S1.Idx → BitVec 32 := m ((c : Thread nD τ).loc main_arg0)
abbrev x1 : S4x2048x2816.Idx → EReal := m ((c : Thread nD τ).loc main_arg1)
abbrev x2 : S4x1024x2816.Idx → EReal := m ((c : Thread nD τ).loc main_arg2)
abbrev x3 : S4x1024x2816.Idx → EReal := m ((c : Thread nD τ).loc main_arg3)
abbrev x4 : S4x2048x2816.Idx → EReal := m ((c : Thread nD τ).loc main_arg4)
abbrev x5 : S4x2048x2816.Idx → EReal := m ((c : Thread nD τ).loc main_arg5)

/-- The gradient: a row of the first half is the core's own where the core is the first, of the second half where it is
    the second; the other rows are the other core's. -/
def grad (l : Fin 4) (r : Fin 2048) (j : Fin 2816) : EReal :=
  if x0 m c (ix1 0) = BitVec.ofNat 32 (r.val / 1024) then x2 m c (ix3 l ⟨r.val % 1024, by omega⟩ j) else x3 m c (ix3 l ⟨r.val % 1024, by omega⟩ j)

/-! One point of the grid. -/

theorem c1 : Named.named (F := Ideal) Cert.AdamUpIdeal.κ "c1" (φ := .f32) 0x3FC48605#32 = ((8388608 / 5463681 : ℝ) : EReal) :=
  IdealRules.named_const.ideal_named_scalar _ _ _ _ rfl
theorem c2 : Named.named (F := Ideal) Cert.AdamUpIdeal.κ "c2" (φ := .f32) 0x42C8E6D3#32 = ((268435456 / 2672307 : ℝ) : EReal) :=
  IdealRules.named_const.ideal_named_scalar _ _ _ _ rfl

section Pay
variable (i : grid0.Coords) (s : BitVec 32) (p q w u v : Vec Ideal S1x64x2816 .f32) (a : Fin 64) (b : Fin 2816)

theorem pay_grad : k0_pay4 (F := Ideal) i s p q (ix2 a b) = if s = BitVec.ofNat 32 (i 1).val then p (ix3 0 a b) else q (ix3 0 a b) := by
  unfold k0_pay4
  pointwise
  exact select_eq _ _ _ _

theorem pay_out : k0_pay7 (F := Ideal) i s p q (ix3 0 a b) = k0_pay4 (F := Ideal) i s p q (ix2 a b) := by
  unfold k0_pay7
  pointwise

theorem pay_mom : k0_pay5 (F := Ideal) i s p q u (ix2 a b) = mom (k0_pay4 (F := Ideal) i s p q (ix2 a b)) (u (ix3 0 a b)) := by
  unfold k0_pay5 mom
  pointwise

theorem pay_mom_out : k0_pay2 (F := Ideal) (k0_pay5 (F := Ideal) i s p q u) (ix3 0 a b) = mom (k0_pay4 (F := Ideal) i s p q (ix2 a b)) (u (ix3 0 a b)) := by
  rw [← pay_mom]
  unfold k0_pay2
  pointwise

theorem pay_vel : k0_pay6 (F := Ideal) i s p q v (ix2 a b) = vel (k0_pay4 (F := Ideal) i s p q (ix2 a b)) (v (ix3 0 a b)) := by
  unfold k0_pay6 vel
  pointwise

theorem pay_vel_out : k0_pay3 (F := Ideal) (k0_pay6 (F := Ideal) i s p q v) (ix3 0 a b) = vel (k0_pay4 (F := Ideal) i s p q (ix2 a b)) (v (ix3 0 a b)) := by
  rw [← pay_vel]
  unfold k0_pay3
  pointwise

theorem pay_step : k0_pay1 (F := Ideal) (k0_pay8 (F := Ideal) i s p q u v) w (ix3 0 a b)
    = step (w (ix3 0 a b)) (k0_pay4 (F := Ideal) i s p q (ix2 a b)) (u (ix3 0 a b)) (v (ix3 0 a b)) := by
  rw [← step_eq, ← c1, ← c2, ← pay_mom, ← pay_vel]
  unfold k0_pay1 k0_pay8 delta
  generalize k0_pay5 (F := Ideal) i s p q u = f
  generalize k0_pay6 (F := Ideal) i s p q v = g
  pointwise

end Pay

/-- The word the kernel reads off its table. -/
def word (xt : TbBuf0 (F := Ideal) c tbM0_0) : BitVec 32 :=
  View.ld (View.read (Elt Ideal) (View.whole main_arg0) xt) (Rect.unit ![0] ![1] inb_S1_S1_0) (Shape.Idx.first (by decide))

theorem word_tbl : word c (tbl m 0) = x0 m c (ix1 0) := by
  obtain rfl : c = 0 := Subsingleton.elim _ _
  refine congrArg (m (((0 : Dev nD) : Thread nD τ).loc main_arg0)) (funext fun y => ?_)
  match y with
  | ⟨0, _⟩ => exact Subsingleton.elim (α := Fin 1) _ _

section Outs
variable (i : grid0.Coords) (arg4 : Memref sig .tc .vmem S1x64x2816 .f32) (harg4 : arg4.IsWhole) (arg5 : Memref sig .tc .vmem S1x64x2816 .f32) (harg5 : arg5.IsWhole) (arg6 : Memref sig .tc .vmem S1x64x2816 .f32) (harg6 : arg6.IsWhole) (arg7 : Memref sig .tc .vmem S1x64x2816 .f32) (harg7 : arg7.IsWhole) (arg8 : Memref sig .tc .vmem S1x64x2816 .f32) (harg8 : arg8.IsWhole) (arg9 : Memref sig .tc .vmem S1x64x2816 .f32) (harg9 : arg9.IsWhole) (arg10 : Memref sig .tc .vmem S1x64x2816 .f32) (harg10 : arg10.IsWhole) (arg11 : Memref sig .tc .vmem S1x64x2816 .f32) (harg11 : arg11.IsWhole) (arg12 : Memref sig .tc .vmem S1x64x2816 .f32) (harg12 : arg12.IsWhole)
  (b0 b1 b2 b3 b4 : Vec Ideal S1x64x2816 .f32) (xt : TbBuf0 (F := Ideal) c tbM0_0)

theorem out5 : out0_A_5 (F := Ideal) c i arg4 harg4 arg5 harg5 arg6 harg6 arg7 harg7 arg8 harg8 arg9 harg9 arg10 harg10 arg11 harg11 arg12 harg12 b0 b1 b2 b3 b4 xt
    = k0_pay7 (F := Ideal) i (word c xt) b1 b2 := by
  unfold out0_A_5
  rw [View.read_writes_eq_canon _ _ _ (cover0_A_5 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2816) hz3]
  rfl

theorem out6 : out0_A_6 (F := Ideal) c i arg4 harg4 arg5 harg5 arg6 harg6 arg7 harg7 arg8 harg8 arg9 harg9 arg10 harg10 arg11 harg11 arg12 harg12 b0 b1 b2 b3 b4 xt
    = k0_pay1 (F := Ideal) (k0_pay8 (F := Ideal) i (word c xt) b1 b2 b3 b4) b0 := by
  unfold out0_A_6
  rw [View.read_writes_eq_canon _ _ _ (cover0_A_6 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2816) hz3]
  rfl

theorem out7 : out0_A_7 (F := Ideal) c i arg4 harg4 arg5 harg5 arg6 harg6 arg7 harg7 arg8 harg8 arg9 harg9 arg10 harg10 arg11 harg11 arg12 harg12 b0 b1 b2 b3 b4 xt
    = k0_pay2 (F := Ideal) (k0_pay5 (F := Ideal) i (word c xt) b1 b2 b3) := by
  unfold out0_A_7
  rw [View.read_writes_eq_canon _ _ _ (cover0_A_7 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2816) hz3]
  rfl

theorem out8 : out0_A_8 (F := Ideal) c i arg4 harg4 arg5 harg5 arg6 harg6 arg7 harg7 arg8 harg8 arg9 harg9 arg10 harg10 arg11 harg11 arg12 harg12 b0 b1 b2 b3 b4 xt
    = k0_pay3 (F := Ideal) (k0_pay6 (F := Ideal) i (word c xt) b1 b2 b4) := by
  unfold out0_A_8
  rw [View.read_writes_eq_canon _ _ _ (cover0_A_8 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2816) hz3]
  rfl

end Outs

/-! The blocks of the grid's points. -/

theorem ok : Ok m := trivial

/-- The layer of a point, row `a` of its rows in a half and in the whole. -/
def lay (t : Fin grid0.N) : Fin 4 := ⟨t.val / 32, by have ht : t.val < 128 := N_0 ▸ t.isLt; omega⟩
def prow (t : Fin grid0.N) (a : Fin 64) : Fin 1024 := ⟨64 * (t.val % 16) + a.val, by omega⟩
def row (t : Fin grid0.N) (a : Fin 64) : Fin 2048 := ⟨1024 * (t.val / 16 % 2) + 64 * (t.val % 16) + a.val, by omega⟩

theorem half_word : ∀ t : Fin grid0.N, (grid0.coords t 1).val = t.val / 16 % 2 := by decide +kernel

theorem idx0 : ∀ t : Fin grid0.N, cc0_transform_0 (grid0.coords t) (0 : Fin 3) = t.val / 32
    ∧ cc0_transform_0 (grid0.coords t) (1 : Fin 3) = t.val / 16 % 2 * 16 + t.val % 16 ∧ cc0_transform_0 (grid0.coords t) (2 : Fin 3) = 0 := by
  decide +kernel

theorem idx1 : ∀ t : Fin grid0.N, cc0_transform_1 (grid0.coords t) (0 : Fin 3) = t.val / 32
    ∧ cc0_transform_1 (grid0.coords t) (1 : Fin 3) = t.val % 16 ∧ cc0_transform_1 (grid0.coords t) (2 : Fin 3) = 0 := by
  decide +kernel

theorem idx2 : ∀ t : Fin grid0.N, cc0_transform_2 (grid0.coords t) (0 : Fin 3) = t.val / 32
    ∧ cc0_transform_2 (grid0.coords t) (1 : Fin 3) = t.val % 16 ∧ cc0_transform_2 (grid0.coords t) (2 : Fin 3) = 0 := by
  decide +kernel

theorem idx3 : ∀ t : Fin grid0.N, cc0_transform_3 (grid0.coords t) (0 : Fin 3) = t.val / 32
    ∧ cc0_transform_3 (grid0.coords t) (1 : Fin 3) = t.val / 16 % 2 * 16 + t.val % 16 ∧ cc0_transform_3 (grid0.coords t) (2 : Fin 3) = 0 := by
  decide +kernel

theorem idx4 : ∀ t : Fin grid0.N, cc0_transform_4 (grid0.coords t) (0 : Fin 3) = t.val / 32
    ∧ cc0_transform_4 (grid0.coords t) (1 : Fin 3) = t.val / 16 % 2 * 16 + t.val % 16 ∧ cc0_transform_4 (grid0.coords t) (2 : Fin 3) = 0 := by
  decide +kernel

theorem idx5 : ∀ t : Fin grid0.N, cc0_transform_5 (grid0.coords t) (0 : Fin 3) = t.val / 32
    ∧ cc0_transform_5 (grid0.coords t) (1 : Fin 3) = t.val / 16 % 2 * 16 + t.val % 16 ∧ cc0_transform_5 (grid0.coords t) (2 : Fin 3) = 0 := by
  decide +kernel

theorem idx6 : ∀ t : Fin grid0.N, cc0_transform_6 (grid0.coords t) (0 : Fin 3) = t.val / 32
    ∧ cc0_transform_6 (grid0.coords t) (1 : Fin 3) = t.val / 16 % 2 * 16 + t.val % 16 ∧ cc0_transform_6 (grid0.coords t) (2 : Fin 3) = 0 := by
  decide +kernel

theorem idx7 : ∀ t : Fin grid0.N, cc0_transform_7 (grid0.coords t) (0 : Fin 3) = t.val / 32
    ∧ cc0_transform_7 (grid0.coords t) (1 : Fin 3) = t.val / 16 % 2 * 16 + t.val % 16 ∧ cc0_transform_7 (grid0.coords t) (2 : Fin 3) = 0 := by
  decide +kernel

theorem idx8 : ∀ t : Fin grid0.N, cc0_transform_8 (grid0.coords t) (0 : Fin 3) = t.val / 32
    ∧ cc0_transform_8 (grid0.coords t) (1 : Fin 3) = t.val / 16 % 2 * 16 + t.val % 16 ∧ cc0_transform_8 (grid0.coords t) (2 : Fin 3) = 0 := by
  decide +kernel

theorem emb0 (t : Fin (cfgM m (ok m)).N) (a : Fin 64) (b : Fin 2816) :
    (((cfgM m (ok m)).win 0).blk t).view.emb (ix3 0 a b) = ix3 (lay t) (row t a) b := by
  obtain ⟨e0, e1, e2⟩ := idx0 t
  refine funext fun y => Fin.ext ?_
  match y with
  | ⟨0, _⟩ => show cc0_transform_0 (grid0.coords t) (0 : Fin 3) * 1 + 1 * 0 = t.val / 32; omega
  | ⟨1, _⟩ => show cc0_transform_0 (grid0.coords t) (1 : Fin 3) * 64 + 1 * a.val = 1024 * (t.val / 16 % 2) + 64 * (t.val % 16) + a.val; omega
  | ⟨2, _⟩ => show cc0_transform_0 (grid0.coords t) (2 : Fin 3) * 2816 + 1 * b.val = b.val; omega

theorem emb1 (t : Fin (cfgM m (ok m)).N) (a : Fin 64) (b : Fin 2816) :
    (((cfgM m (ok m)).win 1).blk t).view.emb (ix3 0 a b) = ix3 (lay t) (prow t a) b := by
  obtain ⟨e0, e1, e2⟩ := idx1 t
  refine funext fun y => Fin.ext ?_
  match y with
  | ⟨0, _⟩ => show cc0_transform_1 (grid0.coords t) (0 : Fin 3) * 1 + 1 * 0 = t.val / 32; omega
  | ⟨1, _⟩ => show cc0_transform_1 (grid0.coords t) (1 : Fin 3) * 64 + 1 * a.val = 64 * (t.val % 16) + a.val; omega
  | ⟨2, _⟩ => show cc0_transform_1 (grid0.coords t) (2 : Fin 3) * 2816 + 1 * b.val = b.val; omega

theorem emb2 (t : Fin (cfgM m (ok m)).N) (a : Fin 64) (b : Fin 2816) :
    (((cfgM m (ok m)).win 2).blk t).view.emb (ix3 0 a b) = ix3 (lay t) (prow t a) b := by
  obtain ⟨e0, e1, e2⟩ := idx2 t
  refine funext fun y => Fin.ext ?_
  match y with
  | ⟨0, _⟩ => show cc0_transform_2 (grid0.coords t) (0 : Fin 3) * 1 + 1 * 0 = t.val / 32; omega
  | ⟨1, _⟩ => show cc0_transform_2 (grid0.coords t) (1 : Fin 3) * 64 + 1 * a.val = 64 * (t.val % 16) + a.val; omega
  | ⟨2, _⟩ => show cc0_transform_2 (grid0.coords t) (2 : Fin 3) * 2816 + 1 * b.val = b.val; omega

theorem emb3 (t : Fin (cfgM m (ok m)).N) (a : Fin 64) (b : Fin 2816) :
    (((cfgM m (ok m)).win 3).blk t).view.emb (ix3 0 a b) = ix3 (lay t) (row t a) b := by
  obtain ⟨e0, e1, e2⟩ := idx3 t
  refine funext fun y => Fin.ext ?_
  match y with
  | ⟨0, _⟩ => show cc0_transform_3 (grid0.coords t) (0 : Fin 3) * 1 + 1 * 0 = t.val / 32; omega
  | ⟨1, _⟩ => show cc0_transform_3 (grid0.coords t) (1 : Fin 3) * 64 + 1 * a.val = 1024 * (t.val / 16 % 2) + 64 * (t.val % 16) + a.val; omega
  | ⟨2, _⟩ => show cc0_transform_3 (grid0.coords t) (2 : Fin 3) * 2816 + 1 * b.val = b.val; omega

theorem emb4 (t : Fin (cfgM m (ok m)).N) (a : Fin 64) (b : Fin 2816) :
    (((cfgM m (ok m)).win 4).blk t).view.emb (ix3 0 a b) = ix3 (lay t) (row t a) b := by
  obtain ⟨e0, e1, e2⟩ := idx4 t
  refine funext fun y => Fin.ext ?_
  match y with
  | ⟨0, _⟩ => show cc0_transform_4 (grid0.coords t) (0 : Fin 3) * 1 + 1 * 0 = t.val / 32; omega
  | ⟨1, _⟩ => show cc0_transform_4 (grid0.coords t) (1 : Fin 3) * 64 + 1 * a.val = 1024 * (t.val / 16 % 2) + 64 * (t.val % 16) + a.val; omega
  | ⟨2, _⟩ => show cc0_transform_4 (grid0.coords t) (2 : Fin 3) * 2816 + 1 * b.val = b.val; omega

theorem emb5 (t : Fin (cfgM m (ok m)).N) (a : Fin 64) (b : Fin 2816) :
    (((cfgM m (ok m)).win 5).blk t).view.emb (ix3 0 a b) = ix3 (lay t) (row t a) b := by
  obtain ⟨e0, e1, e2⟩ := idx5 t
  refine funext fun y => Fin.ext ?_
  match y with
  | ⟨0, _⟩ => show cc0_transform_5 (grid0.coords t) (0 : Fin 3) * 1 + 1 * 0 = t.val / 32; omega
  | ⟨1, _⟩ => show cc0_transform_5 (grid0.coords t) (1 : Fin 3) * 64 + 1 * a.val = 1024 * (t.val / 16 % 2) + 64 * (t.val % 16) + a.val; omega
  | ⟨2, _⟩ => show cc0_transform_5 (grid0.coords t) (2 : Fin 3) * 2816 + 1 * b.val = b.val; omega

theorem emb6 (t : Fin (cfgM m (ok m)).N) (a : Fin 64) (b : Fin 2816) :
    (((cfgM m (ok m)).win 6).blk t).view.emb (ix3 0 a b) = ix3 (lay t) (row t a) b := by
  obtain ⟨e0, e1, e2⟩ := idx6 t
  refine funext fun y => Fin.ext ?_
  match y with
  | ⟨0, _⟩ => show cc0_transform_6 (grid0.coords t) (0 : Fin 3) * 1 + 1 * 0 = t.val / 32; omega
  | ⟨1, _⟩ => show cc0_transform_6 (grid0.coords t) (1 : Fin 3) * 64 + 1 * a.val = 1024 * (t.val / 16 % 2) + 64 * (t.val % 16) + a.val; omega
  | ⟨2, _⟩ => show cc0_transform_6 (grid0.coords t) (2 : Fin 3) * 2816 + 1 * b.val = b.val; omega

theorem emb7 (t : Fin (cfgM m (ok m)).N) (a : Fin 64) (b : Fin 2816) :
    (((cfgM m (ok m)).win 7).blk t).view.emb (ix3 0 a b) = ix3 (lay t) (row t a) b := by
  obtain ⟨e0, e1, e2⟩ := idx7 t
  refine funext fun y => Fin.ext ?_
  match y with
  | ⟨0, _⟩ => show cc0_transform_7 (grid0.coords t) (0 : Fin 3) * 1 + 1 * 0 = t.val / 32; omega
  | ⟨1, _⟩ => show cc0_transform_7 (grid0.coords t) (1 : Fin 3) * 64 + 1 * a.val = 1024 * (t.val / 16 % 2) + 64 * (t.val % 16) + a.val; omega
  | ⟨2, _⟩ => show cc0_transform_7 (grid0.coords t) (2 : Fin 3) * 2816 + 1 * b.val = b.val; omega

theorem emb8 (t : Fin (cfgM m (ok m)).N) (a : Fin 64) (b : Fin 2816) :
    (((cfgM m (ok m)).win 8).blk t).view.emb (ix3 0 a b) = ix3 (lay t) (row t a) b := by
  obtain ⟨e0, e1, e2⟩ := idx8 t
  refine funext fun y => Fin.ext ?_
  match y with
  | ⟨0, _⟩ => show cc0_transform_8 (grid0.coords t) (0 : Fin 3) * 1 + 1 * 0 = t.val / 32; omega
  | ⟨1, _⟩ => show cc0_transform_8 (grid0.coords t) (1 : Fin 3) * 64 + 1 * a.val = 1024 * (t.val / 16 % 2) + 64 * (t.val % 16) + a.val; omega
  | ⟨2, _⟩ => show cc0_transform_8 (grid0.coords t) (2 : Fin 3) * 2816 + 1 * b.val = b.val; omega

theorem blk0 (t : Fin (cfgM m (ok m)).N) (a : Fin 64) (b : Fin 2816) : iblk m (ok m) c 0 t (ix3 0 a b) = x1 m c (ix3 (lay t) (row t a) b) :=
  congrArg (x1 m c) (emb0 m t a b)

theorem blk1 (t : Fin (cfgM m (ok m)).N) (a : Fin 64) (b : Fin 2816) : iblk m (ok m) c 1 t (ix3 0 a b) = x2 m c (ix3 (lay t) (prow t a) b) :=
  congrArg (x2 m c) (emb1 m t a b)

theorem blk2 (t : Fin (cfgM m (ok m)).N) (a : Fin 64) (b : Fin 2816) : iblk m (ok m) c 2 t (ix3 0 a b) = x3 m c (ix3 (lay t) (prow t a) b) :=
  congrArg (x3 m c) (emb2 m t a b)

theorem blk3 (t : Fin (cfgM m (ok m)).N) (a : Fin 64) (b : Fin 2816) : iblk m (ok m) c 3 t (ix3 0 a b) = x4 m c (ix3 (lay t) (row t a) b) :=
  congrArg (x4 m c) (emb3 m t a b)

theorem blk4 (t : Fin (cfgM m (ok m)).N) (a : Fin 64) (b : Fin 2816) : iblk m (ok m) c 4 t (ix3 0 a b) = x5 m c (ix3 (lay t) (row t a) b) :=
  congrArg (x5 m c) (emb4 m t a b)

theorem grad_at (t : Fin (cfgM m (ok m)).N) (a : Fin 64) (b : Fin 2816) :
    k0_pay4 (F := Ideal) (grid0.coords t) (word c (tbl m 0)) (iblk m (ok m) c 1 t) (iblk m (ok m) c 2 t) (ix2 a b) = grad m c (lay t) (row t a) b := by
  refine (pay_grad _ _ _ _ a b).trans ?_
  rw [blk1, blk2, word_tbl, half_word]
  unfold grad
  have hq : (row t a).val / 1024 = t.val / 16 % 2 := by
    show (1024 * (t.val / 16 % 2) + 64 * (t.val % 16) + a.val) / 1024 = _; omega
  have hr : (⟨(row t a).val % 1024, by omega⟩ : Fin 1024) = prow t a := Fin.ext (by
    show (1024 * (t.val / 16 % 2) + 64 * (t.val % 16) + a.val) % 1024 = 64 * (t.val % 16) + a.val; omega)
  rw [hq, hr]

/-! The reference's four results. -/

def R5 : S4x2048x2816.Idx → EReal := Cert.AdamUpRefIdeal.Read.val_main_v6 (F := Ideal) (x0 m c) (x2 m c) (x3 m c)
def R6 : S4x2048x2816.Idx → EReal := Cert.AdamUpRefIdeal.Read.val_main_v30 (F := Ideal) (x0 m c) (x1 m c) (x2 m c) (x3 m c) (x4 m c) (x5 m c)
def R7 : S4x2048x2816.Idx → EReal := Cert.AdamUpRefIdeal.Read.val_main_v11 (F := Ideal) (x0 m c) (x2 m c) (x3 m c) (x4 m c)
def R8 : S4x2048x2816.Idx → EReal := Cert.AdamUpRefIdeal.Read.val_main_v17 (F := Ideal) (x0 m c) (x2 m c) (x3 m c) (x5 m c)

theorem ref5 (l : Fin 4) (r : Fin 2048) (j : Fin 2816) : R5 m c (ix3 l r j) = grad m c l r j := by
  unfold R5 grad Cert.AdamUpRefIdeal.Read.val_main_v6 Cert.AdamUpRefIdeal.Read.val_main_v5 Cert.AdamUpRefIdeal.Read.val_main_v4 Cert.AdamUpRefIdeal.Read.val_main_v3 Cert.AdamUpRefIdeal.Read.val_main_v2 Cert.AdamUpRefIdeal.Read.val_main_v1 Cert.AdamUpRefIdeal.Read.val_main_v0 Cert.AdamUpRefIdeal.Read.val_main_c_0 Cert.AdamUpRefIdeal.Read.val_main_c
  pointwise
  by_cases h : r.val < 1024
  · have hq : r.val / 1024 = 0 := by omega
    have hr : (⟨r.val % 1024, by omega⟩ : Fin 1024) = ⟨r.val, h⟩ := Fin.ext (by show r.val % 1024 = r.val; omega)
    rw [dif_pos h, hq, hr]
    exact select_eq _ _ _ _
  · have hq : r.val / 1024 = 1 := by omega
    have hr : (⟨r.val % 1024, by omega⟩ : Fin 1024) = ⟨r.val - 1024, by omega⟩ := Fin.ext (by show r.val % 1024 = r.val - 1024; omega)
    rw [dif_neg h, hq, hr]
    exact select_eq _ _ _ _

theorem ref7 (l : Fin 4) (r : Fin 2048) (j : Fin 2816) : R7 m c (ix3 l r j) = mom (grad m c l r j) (x4 m c (ix3 l r j)) := by
  rw [← ref5]
  unfold R7 R5 mom Cert.AdamUpRefIdeal.Read.val_main_v11 Cert.AdamUpRefIdeal.Read.val_main_v10 Cert.AdamUpRefIdeal.Read.val_main_v9 Cert.AdamUpRefIdeal.Read.val_main_v8 Cert.AdamUpRefIdeal.Read.val_main_v7 Cert.AdamUpRefIdeal.Read.val_main_cst Cert.AdamUpRefIdeal.Read.val_main_cst_1
  generalize Cert.AdamUpRefIdeal.Read.val_main_v6 (F := Ideal) (x0 m c) (x2 m c) (x3 m c) = g
  pointwise

theorem ref8 (l : Fin 4) (r : Fin 2048) (j : Fin 2816) : R8 m c (ix3 l r j) = vel (grad m c l r j) (x5 m c (ix3 l r j)) := by
  rw [← ref5]
  unfold R8 R5 vel Cert.AdamUpRefIdeal.Read.val_main_v17 Cert.AdamUpRefIdeal.Read.val_main_v16 Cert.AdamUpRefIdeal.Read.val_main_v15 Cert.AdamUpRefIdeal.Read.val_main_v14 Cert.AdamUpRefIdeal.Read.val_main_v13 Cert.AdamUpRefIdeal.Read.val_main_v12 Cert.AdamUpRefIdeal.Read.val_main_cst_2 Cert.AdamUpRefIdeal.Read.val_main_cst_3
  generalize Cert.AdamUpRefIdeal.Read.val_main_v6 (F := Ideal) (x0 m c) (x2 m c) (x3 m c) = g
  pointwise

theorem ref6 (l : Fin 4) (r : Fin 2048) (j : Fin 2816) :
    R6 m c (ix3 l r j) = step (x1 m c (ix3 l r j)) (grad m c l r j) (x4 m c (ix3 l r j)) (x5 m c (ix3 l r j)) := by
  unfold step
  rw [← ref7, ← ref8]
  unfold R6 R7 R8 delta Cert.AdamUpRefIdeal.Read.val_main_v30 Cert.AdamUpRefIdeal.Read.val_main_v29 Cert.AdamUpRefIdeal.Read.val_main_v28 Cert.AdamUpRefIdeal.Read.val_main_v27 Cert.AdamUpRefIdeal.Read.val_main_v26 Cert.AdamUpRefIdeal.Read.val_main_v25 Cert.AdamUpRefIdeal.Read.val_main_v24 Cert.AdamUpRefIdeal.Read.val_main_v23 Cert.AdamUpRefIdeal.Read.val_main_v22 Cert.AdamUpRefIdeal.Read.val_main_v21 Cert.AdamUpRefIdeal.Read.val_main_v20 Cert.AdamUpRefIdeal.Read.val_main_v19 Cert.AdamUpRefIdeal.Read.val_main_v18 Cert.AdamUpRefIdeal.Read.val_main_cst_4 Cert.AdamUpRefIdeal.Read.val_main_cst_5 Cert.AdamUpRefIdeal.Read.val_main_cst_6 Cert.AdamUpRefIdeal.Read.val_main_cst_7 Cert.AdamUpRefIdeal.Read.val_main_cst_8
  generalize Cert.AdamUpRefIdeal.Read.val_main_v11 (F := Ideal) (x0 m c) (x2 m c) (x3 m c) (x4 m c) = f
  generalize Cert.AdamUpRefIdeal.Read.val_main_v17 (F := Ideal) (x0 m c) (x2 m c) (x3 m c) (x5 m c) = g
  pointwise

/-! The four arrays. -/

theorem eta (y : S1x64x2816.Idx) : ∃ (a : Fin 64) (b : Fin 2816), y = ix3 0 a b :=
  ⟨y 1, y 2, (eta3 y).trans (congrArg (fun z => ix3 z (y 1) (y 2)) (Subsingleton.elim (α := Fin 1) _ _))⟩

theorem cov5 (a : (pcfg0 (F := Ideal)).Adm) : ((cfg0 a).win 5).Covers := by
  show ((cfg0 (F := Ideal) ⟨fun | 0 => fun _ => (0#32 : BitVec 32), trivial⟩).win 5).Covers
  decide +kernel

theorem at5 (t : Fin (cfgM m (ok m)).N) (a : Fin 64) (b : Fin 2816) :
    (outsAt0 m (ok m) c t).1 (ix3 0 a b) = R5 m c (ix3 (lay t) (row t a) b) := by
  have e : (outsAt0 m (ok m) c t).1 = k0_pay7 (F := Ideal) (grid0.coords t) (word c (tbl m 0)) (iblk m (ok m) c 1 t) (iblk m (ok m) c 2 t) := by
    have f := out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_out _ _ _ _ a b).trans ?_
  rw [grad_at, ref5]

theorem arr5 : (dats m (ok m) 0 c).arrAt 5 (cfgM m (ok m)).N = R5 m c := by
  refine (dats m (ok m) 0 c).arrAt_eq_of_covers 5 (R5 m c) (cov5 _) fun t _ y => ?_
  blk_simp
  rw [after0_5]
  obtain ⟨a, b, rfl⟩ := eta y
  show (outsAt0 m (ok m) c t).1 (ix3 0 a b) = R5 m c ((((cfgM m (ok m)).win 5).blk t).view.emb (ix3 0 a b))
  rw [emb5, at5]

theorem cov6 (a : (pcfg0 (F := Ideal)).Adm) : ((cfg0 a).win 6).Covers := by
  show ((cfg0 (F := Ideal) ⟨fun | 0 => fun _ => (0#32 : BitVec 32), trivial⟩).win 6).Covers
  decide +kernel

theorem at6 (t : Fin (cfgM m (ok m)).N) (a : Fin 64) (b : Fin 2816) :
    (outsAt0 m (ok m) c t).2.1 (ix3 0 a b) = R6 m c (ix3 (lay t) (row t a) b) := by
  have e : (outsAt0 m (ok m) c t).2.1 = k0_pay1 (F := Ideal) (k0_pay8 (F := Ideal) (grid0.coords t) (word c (tbl m 0)) (iblk m (ok m) c 1 t) (iblk m (ok m) c 2 t) (iblk m (ok m) c 3 t) (iblk m (ok m) c 4 t)) (iblk m (ok m) c 0 t) := by
    have f := out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_step _ _ _ _ _ _ _ a b).trans ?_
  rw [grad_at, ref6, blk0, blk3, blk4]

theorem arr6 : (dats m (ok m) 0 c).arrAt 6 (cfgM m (ok m)).N = R6 m c := by
  refine (dats m (ok m) 0 c).arrAt_eq_of_covers 6 (R6 m c) (cov6 _) fun t _ y => ?_
  blk_simp
  rw [after0_6]
  obtain ⟨a, b, rfl⟩ := eta y
  show (outsAt0 m (ok m) c t).2.1 (ix3 0 a b) = R6 m c ((((cfgM m (ok m)).win 6).blk t).view.emb (ix3 0 a b))
  rw [emb6, at6]

theorem cov7 (a : (pcfg0 (F := Ideal)).Adm) : ((cfg0 a).win 7).Covers := by
  show ((cfg0 (F := Ideal) ⟨fun | 0 => fun _ => (0#32 : BitVec 32), trivial⟩).win 7).Covers
  decide +kernel

theorem at7 (t : Fin (cfgM m (ok m)).N) (a : Fin 64) (b : Fin 2816) :
    (outsAt0 m (ok m) c t).2.2.1 (ix3 0 a b) = R7 m c (ix3 (lay t) (row t a) b) := by
  have e : (outsAt0 m (ok m) c t).2.2.1 = k0_pay2 (F := Ideal) (k0_pay5 (F := Ideal) (grid0.coords t) (word c (tbl m 0)) (iblk m (ok m) c 1 t) (iblk m (ok m) c 2 t) (iblk m (ok m) c 3 t)) := by
    have f := out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_mom_out _ _ _ _ _ a b).trans ?_
  rw [grad_at, ref7, blk3]

theorem arr7 : (dats m (ok m) 0 c).arrAt 7 (cfgM m (ok m)).N = R7 m c := by
  refine (dats m (ok m) 0 c).arrAt_eq_of_covers 7 (R7 m c) (cov7 _) fun t _ y => ?_
  blk_simp
  rw [after0_7]
  obtain ⟨a, b, rfl⟩ := eta y
  show (outsAt0 m (ok m) c t).2.2.1 (ix3 0 a b) = R7 m c ((((cfgM m (ok m)).win 7).blk t).view.emb (ix3 0 a b))
  rw [emb7, at7]

theorem cov8 (a : (pcfg0 (F := Ideal)).Adm) : ((cfg0 a).win 8).Covers := by
  show ((cfg0 (F := Ideal) ⟨fun | 0 => fun _ => (0#32 : BitVec 32), trivial⟩).win 8).Covers
  decide +kernel

theorem at8 (t : Fin (cfgM m (ok m)).N) (a : Fin 64) (b : Fin 2816) :
    (outsAt0 m (ok m) c t).2.2.2 (ix3 0 a b) = R8 m c (ix3 (lay t) (row t a) b) := by
  have e : (outsAt0 m (ok m) c t).2.2.2 = k0_pay3 (F := Ideal) (k0_pay6 (F := Ideal) (grid0.coords t) (word c (tbl m 0)) (iblk m (ok m) c 1 t) (iblk m (ok m) c 2 t) (iblk m (ok m) c 4 t)) := by
    have f := out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_vel_out _ _ _ _ _ a b).trans ?_
  rw [grad_at, ref8, blk4]

theorem arr8 : (dats m (ok m) 0 c).arrAt 8 (cfgM m (ok m)).N = R8 m c := by
  refine (dats m (ok m) 0 c).arrAt_eq_of_covers 8 (R8 m c) (cov8 _) fun t _ y => ?_
  blk_simp
  rw [after0_8]
  obtain ⟨a, b, rfl⟩ := eta y
  show (outsAt0 m (ok m) c t).2.2.2 (ix3 0 a b) = R8 m c ((((cfgM m (ok m)).win 8).blk t).view.emb (ix3 0 a b))
  rw [emb8, at8]

/-- The kernel leaves the reference's four results. -/
theorem algebraic : Cert.algebraic_AdamUpIdeal_AdamUpRefIdeal := by
  intro m ρ m' ρ' _ hargs
  refine ⟨fun c => R5 m c, fun c => R6 m c, fun c => R7 m c, fun c => R8 m c, ?_, ?_⟩
  · refine (θ_run defs _ _).mono (fun r h c => ?_) (θ_run_and (run_main m ρ (ok m)) (unchanged m ρ (ok m)))
    exact ⟨((h.1 c).1 5).trans (arr5 m c), ((h.1 c).1 6).trans (arr6 m c), ((h.1 c).1 7).trans (arr7 m c), ((h.1 c).1 8).trans (arr8 m c), h.2 c⟩
  · refine (θ_run Cert.AdamUpRefIdeal.defs _ _).mono (fun r h c => ?_) (Cert.AdamUpRefIdeal.Value.run m' ρ')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Cert.AdamUpRefIdeal.Read.val_main_v6_eq, e0, e2, e3]; rfl
    · rw [Cert.AdamUpRefIdeal.Read.val_main_v30_eq, e0, e1, e2, e3, e4, e5]; rfl
    · rw [Cert.AdamUpRefIdeal.Read.val_main_v11_eq, e0, e2, e3, e4]; rfl
    · rw [Cert.AdamUpRefIdeal.Read.val_main_v17_eq, e0, e2, e3, e5]; rfl

end Cert.AdamUpIdeal.Val

end
-- ==== Proof.Ad.Down.lean ====
/- The update of the feed-forward layer's down-projection, its gradient selected from the two halves: the kernel's four results are the reference's. -/
module

public import proofs.«01_k».proof.Proof.Gen.AdamDownIdeal.Frame
public import proofs.«01_k».proof.Proof.Gen.AdamDownRefIdeal
public import proofs.«01_k».proof.Proof.Gen.AdamDownRefIdeal.Read
public import proofs.«01_k».proof.Proof.Gen.AdamDownRefIdeal.Run
public import proofs.«01_k».proof.Defs
public import proofs.«01_k».proof.Proof.Ad.Base

@[expose] public section

set_option maxRecDepth 16384

noncomputable section

namespace Cert.AdamDownIdeal.Val

open Cert.AdamDownIdeal Cert.AdamDownIdeal.Gen Cert.Mm Cert.Ad Idealize.ShloMosaic Idealize.ShloMosaic.TcCoe Idealize.SL.Sem

variable (m : (ℓ : Loc nD τ sig) → Buf (Elt Ideal) ℓ) (ρ : Dev nD → PrngReg) (c : Dev nD)

/-- The arguments: the core's index, the weights, the two halves of their gradient, the two moments. -/
abbrev x0 : S1.Idx → BitVec 32 := m ((c : Thread nD τ).loc main_arg0)
abbrev x1 : S4x1408x2048.Idx → EReal := m ((c : Thread nD τ).loc main_arg1)
abbrev x2 : S4x704x2048.Idx → EReal := m ((c : Thread nD τ).loc main_arg2)
abbrev x3 : S4x704x2048.Idx → EReal := m ((c : Thread nD τ).loc main_arg3)
abbrev x4 : S4x1408x2048.Idx → EReal := m ((c : Thread nD τ).loc main_arg4)
abbrev x5 : S4x1408x2048.Idx → EReal := m ((c : Thread nD τ).loc main_arg5)

/-- The gradient: a row of the first half is the core's own where the core is the first, of the second half where it is
    the second; the other rows are the other core's. -/
def grad (l : Fin 4) (r : Fin 1408) (j : Fin 2048) : EReal :=
  if x0 m c (ix1 0) = BitVec.ofNat 32 (r.val / 704) then x2 m c (ix3 l ⟨r.val % 704, by omega⟩ j) else x3 m c (ix3 l ⟨r.val % 704, by omega⟩ j)

/-! One point of the grid. -/

theorem c1 : Named.named (F := Ideal) Cert.AdamDownIdeal.κ "c1" (φ := .f32) 0x3FC48605#32 = ((8388608 / 5463681 : ℝ) : EReal) :=
  IdealRules.named_const.ideal_named_scalar _ _ _ _ rfl
theorem c2 : Named.named (F := Ideal) Cert.AdamDownIdeal.κ "c2" (φ := .f32) 0x42C8E6D3#32 = ((268435456 / 2672307 : ℝ) : EReal) :=
  IdealRules.named_const.ideal_named_scalar _ _ _ _ rfl

section Pay
variable (i : grid0.Coords) (s : BitVec 32) (p q w u v : Vec Ideal S1x64x2048 .f32) (a : Fin 64) (b : Fin 2048)

theorem pay_grad : k0_pay4 (F := Ideal) i s p q (ix2 a b) = if s = BitVec.ofNat 32 (i 1).val then p (ix3 0 a b) else q (ix3 0 a b) := by
  unfold k0_pay4
  pointwise
  exact select_eq _ _ _ _

theorem pay_out : k0_pay7 (F := Ideal) i s p q (ix3 0 a b) = k0_pay4 (F := Ideal) i s p q (ix2 a b) := by
  unfold k0_pay7
  pointwise

theorem pay_mom : k0_pay5 (F := Ideal) i s p q u (ix2 a b) = mom (k0_pay4 (F := Ideal) i s p q (ix2 a b)) (u (ix3 0 a b)) := by
  unfold k0_pay5 mom
  pointwise

theorem pay_mom_out : k0_pay2 (F := Ideal) (k0_pay5 (F := Ideal) i s p q u) (ix3 0 a b) = mom (k0_pay4 (F := Ideal) i s p q (ix2 a b)) (u (ix3 0 a b)) := by
  rw [← pay_mom]
  unfold k0_pay2
  pointwise

theorem pay_vel : k0_pay6 (F := Ideal) i s p q v (ix2 a b) = vel (k0_pay4 (F := Ideal) i s p q (ix2 a b)) (v (ix3 0 a b)) := by
  unfold k0_pay6 vel
  pointwise

theorem pay_vel_out : k0_pay3 (F := Ideal) (k0_pay6 (F := Ideal) i s p q v) (ix3 0 a b) = vel (k0_pay4 (F := Ideal) i s p q (ix2 a b)) (v (ix3 0 a b)) := by
  rw [← pay_vel]
  unfold k0_pay3
  pointwise

theorem pay_step : k0_pay1 (F := Ideal) (k0_pay8 (F := Ideal) i s p q u v) w (ix3 0 a b)
    = step (w (ix3 0 a b)) (k0_pay4 (F := Ideal) i s p q (ix2 a b)) (u (ix3 0 a b)) (v (ix3 0 a b)) := by
  rw [← step_eq, ← c1, ← c2, ← pay_mom, ← pay_vel]
  unfold k0_pay1 k0_pay8 delta
  generalize k0_pay5 (F := Ideal) i s p q u = f
  generalize k0_pay6 (F := Ideal) i s p q v = g
  pointwise

end Pay

/-- The word the kernel reads off its table. -/
def word (xt : TbBuf0 (F := Ideal) c tbM0_0) : BitVec 32 :=
  View.ld (View.read (Elt Ideal) (View.whole main_arg0) xt) (Rect.unit ![0] ![1] inb_S1_S1_0) (Shape.Idx.first (by decide))

theorem word_tbl : word c (tbl m 0) = x0 m c (ix1 0) := by
  obtain rfl : c = 0 := Subsingleton.elim _ _
  refine congrArg (m (((0 : Dev nD) : Thread nD τ).loc main_arg0)) (funext fun y => ?_)
  match y with
  | ⟨0, _⟩ => exact Subsingleton.elim (α := Fin 1) _ _

section Outs
variable (i : grid0.Coords) (arg4 : Memref sig .tc .vmem S1x64x2048 .f32) (harg4 : arg4.IsWhole) (arg5 : Memref sig .tc .vmem S1x64x2048 .f32) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole)
  (b0 b1 b2 b3 b4 : Vec Ideal S1x64x2048 .f32) (xt : TbBuf0 (F := Ideal) c tbM0_0)

theorem out5 : out0_A_5 (F := Ideal) c i arg4 harg4 arg5 harg5 arg6 harg6 arg7 harg7 arg8 harg8 arg9 harg9 arg10 harg10 arg11 harg11 arg12 harg12 b0 b1 b2 b3 b4 xt
    = k0_pay7 (F := Ideal) i (word c xt) b1 b2 := by
  unfold out0_A_5
  rw [View.read_writes_eq_canon _ _ _ (cover0_A_5 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2048) hz3]
  rfl

theorem out6 : out0_A_6 (F := Ideal) c i arg4 harg4 arg5 harg5 arg6 harg6 arg7 harg7 arg8 harg8 arg9 harg9 arg10 harg10 arg11 harg11 arg12 harg12 b0 b1 b2 b3 b4 xt
    = k0_pay1 (F := Ideal) (k0_pay8 (F := Ideal) i (word c xt) b1 b2 b3 b4) b0 := by
  unfold out0_A_6
  rw [View.read_writes_eq_canon _ _ _ (cover0_A_6 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2048) hz3]
  rfl

theorem out7 : out0_A_7 (F := Ideal) c i arg4 harg4 arg5 harg5 arg6 harg6 arg7 harg7 arg8 harg8 arg9 harg9 arg10 harg10 arg11 harg11 arg12 harg12 b0 b1 b2 b3 b4 xt
    = k0_pay2 (F := Ideal) (k0_pay5 (F := Ideal) i (word c xt) b1 b2 b3) := by
  unfold out0_A_7
  rw [View.read_writes_eq_canon _ _ _ (cover0_A_7 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2048) hz3]
  rfl

theorem out8 : out0_A_8 (F := Ideal) c i arg4 harg4 arg5 harg5 arg6 harg6 arg7 harg7 arg8 harg8 arg9 harg9 arg10 harg10 arg11 harg11 arg12 harg12 b0 b1 b2 b3 b4 xt
    = k0_pay3 (F := Ideal) (k0_pay6 (F := Ideal) i (word c xt) b1 b2 b4) := by
  unfold out0_A_8
  rw [View.read_writes_eq_canon _ _ _ (cover0_A_8 _ _ _ _ _ _ _ _ _ _ _ _ _ _ _ _ _ _ _ _ _ _ _ _ _ _ )]
  unfold kernelRun0_A
  dsimp only
  sl_unfold_words
  rw [View.canon_unit_zero hz3]
  simp only [View.readAt_eq_ld, harg4.read_unread, harg5.read_unread, harg6.read_unread, harg7.read_unread, harg8.read_unread, View.ld_unit_zero (S := S1x64x2048) hz3]
  rfl

end Outs

/-! The blocks of the grid's points. -/

theorem ok : Ok m := trivial

/-- The layer of a point, row `a` of its rows in a half and in the whole. -/
def lay (t : Fin grid0.N) : Fin 4 := ⟨t.val / 22, by have ht : t.val < 88 := N_0 ▸ t.isLt; omega⟩
def prow (t : Fin grid0.N) (a : Fin 64) : Fin 704 := ⟨64 * (t.val % 11) + a.val, by omega⟩
def row (t : Fin grid0.N) (a : Fin 64) : Fin 1408 := ⟨704 * (t.val / 11 % 2) + 64 * (t.val % 11) + a.val, by omega⟩

theorem half_word : ∀ t : Fin grid0.N, (grid0.coords t 1).val = t.val / 11 % 2 := by decide +kernel

theorem idx0 : ∀ t : Fin grid0.N, cc0_transform_0 (grid0.coords t) (0 : Fin 3) = t.val / 22
    ∧ cc0_transform_0 (grid0.coords t) (1 : Fin 3) = t.val / 11 % 2 * 11 + t.val % 11 ∧ cc0_transform_0 (grid0.coords t) (2 : Fin 3) = 0 := by
  decide +kernel

theorem idx1 : ∀ t : Fin grid0.N, cc0_transform_1 (grid0.coords t) (0 : Fin 3) = t.val / 22
    ∧ cc0_transform_1 (grid0.coords t) (1 : Fin 3) = t.val % 11 ∧ cc0_transform_1 (grid0.coords t) (2 : Fin 3) = 0 := by
  decide +kernel

theorem idx2 : ∀ t : Fin grid0.N, cc0_transform_2 (grid0.coords t) (0 : Fin 3) = t.val / 22
    ∧ cc0_transform_2 (grid0.coords t) (1 : Fin 3) = t.val % 11 ∧ cc0_transform_2 (grid0.coords t) (2 : Fin 3) = 0 := by
  decide +kernel

theorem idx3 : ∀ t : Fin grid0.N, cc0_transform_3 (grid0.coords t) (0 : Fin 3) = t.val / 22
    ∧ cc0_transform_3 (grid0.coords t) (1 : Fin 3) = t.val / 11 % 2 * 11 + t.val % 11 ∧ cc0_transform_3 (grid0.coords t) (2 : Fin 3) = 0 := by
  decide +kernel

theorem idx4 : ∀ t : Fin grid0.N, cc0_transform_4 (grid0.coords t) (0 : Fin 3) = t.val / 22
    ∧ cc0_transform_4 (grid0.coords t) (1 : Fin 3) = t.val / 11 % 2 * 11 + t.val % 11 ∧ cc0_transform_4 (grid0.coords t) (2 : Fin 3) = 0 := by
  decide +kernel

theorem idx5 : ∀ t : Fin grid0.N, cc0_transform_5 (grid0.coords t) (0 : Fin 3) = t.val / 22
    ∧ cc0_transform_5 (grid0.coords t) (1 : Fin 3) = t.val / 11 % 2 * 11 + t.val % 11 ∧ cc0_transform_5 (grid0.coords t) (2 : Fin 3) = 0 := by
  decide +kernel

theorem idx6 : ∀ t : Fin grid0.N, cc0_transform_6 (grid0.coords t) (0 : Fin 3) = t.val / 22
    ∧ cc0_transform_6 (grid0.coords t) (1 : Fin 3) = t.val / 11 % 2 * 11 + t.val % 11 ∧ cc0_transform_6 (grid0.coords t) (2 : Fin 3) = 0 := by
  decide +kernel

theorem idx7 : ∀ t : Fin grid0.N, cc0_transform_7 (grid0.coords t) (0 : Fin 3) = t.val / 22
    ∧ cc0_transform_7 (grid0.coords t) (1 : Fin 3) = t.val / 11 % 2 * 11 + t.val % 11 ∧ cc0_transform_7 (grid0.coords t) (2 : Fin 3) = 0 := by
  decide +kernel

theorem idx8 : ∀ t : Fin grid0.N, cc0_transform_8 (grid0.coords t) (0 : Fin 3) = t.val / 22
    ∧ cc0_transform_8 (grid0.coords t) (1 : Fin 3) = t.val / 11 % 2 * 11 + t.val % 11 ∧ cc0_transform_8 (grid0.coords t) (2 : Fin 3) = 0 := by
  decide +kernel

theorem emb0 (t : Fin (cfgM m (ok m)).N) (a : Fin 64) (b : Fin 2048) :
    (((cfgM m (ok m)).win 0).blk t).view.emb (ix3 0 a b) = ix3 (lay t) (row t a) b := by
  obtain ⟨e0, e1, e2⟩ := idx0 t
  refine funext fun y => Fin.ext ?_
  match y with
  | ⟨0, _⟩ => show cc0_transform_0 (grid0.coords t) (0 : Fin 3) * 1 + 1 * 0 = t.val / 22; omega
  | ⟨1, _⟩ => show cc0_transform_0 (grid0.coords t) (1 : Fin 3) * 64 + 1 * a.val = 704 * (t.val / 11 % 2) + 64 * (t.val % 11) + a.val; omega
  | ⟨2, _⟩ => show cc0_transform_0 (grid0.coords t) (2 : Fin 3) * 2048 + 1 * b.val = b.val; omega

theorem emb1 (t : Fin (cfgM m (ok m)).N) (a : Fin 64) (b : Fin 2048) :
    (((cfgM m (ok m)).win 1).blk t).view.emb (ix3 0 a b) = ix3 (lay t) (prow t a) b := by
  obtain ⟨e0, e1, e2⟩ := idx1 t
  refine funext fun y => Fin.ext ?_
  match y with
  | ⟨0, _⟩ => show cc0_transform_1 (grid0.coords t) (0 : Fin 3) * 1 + 1 * 0 = t.val / 22; omega
  | ⟨1, _⟩ => show cc0_transform_1 (grid0.coords t) (1 : Fin 3) * 64 + 1 * a.val = 64 * (t.val % 11) + a.val; omega
  | ⟨2, _⟩ => show cc0_transform_1 (grid0.coords t) (2 : Fin 3) * 2048 + 1 * b.val = b.val; omega

theorem emb2 (t : Fin (cfgM m (ok m)).N) (a : Fin 64) (b : Fin 2048) :
    (((cfgM m (ok m)).win 2).blk t).view.emb (ix3 0 a b) = ix3 (lay t) (prow t a) b := by
  obtain ⟨e0, e1, e2⟩ := idx2 t
  refine funext fun y => Fin.ext ?_
  match y with
  | ⟨0, _⟩ => show cc0_transform_2 (grid0.coords t) (0 : Fin 3) * 1 + 1 * 0 = t.val / 22; omega
  | ⟨1, _⟩ => show cc0_transform_2 (grid0.coords t) (1 : Fin 3) * 64 + 1 * a.val = 64 * (t.val % 11) + a.val; omega
  | ⟨2, _⟩ => show cc0_transform_2 (grid0.coords t) (2 : Fin 3) * 2048 + 1 * b.val = b.val; omega

theorem emb3 (t : Fin (cfgM m (ok m)).N) (a : Fin 64) (b : Fin 2048) :
    (((cfgM m (ok m)).win 3).blk t).view.emb (ix3 0 a b) = ix3 (lay t) (row t a) b := by
  obtain ⟨e0, e1, e2⟩ := idx3 t
  refine funext fun y => Fin.ext ?_
  match y with
  | ⟨0, _⟩ => show cc0_transform_3 (grid0.coords t) (0 : Fin 3) * 1 + 1 * 0 = t.val / 22; omega
  | ⟨1, _⟩ => show cc0_transform_3 (grid0.coords t) (1 : Fin 3) * 64 + 1 * a.val = 704 * (t.val / 11 % 2) + 64 * (t.val % 11) + a.val; omega
  | ⟨2, _⟩ => show cc0_transform_3 (grid0.coords t) (2 : Fin 3) * 2048 + 1 * b.val = b.val; omega

theorem emb4 (t : Fin (cfgM m (ok m)).N) (a : Fin 64) (b : Fin 2048) :
    (((cfgM m (ok m)).win 4).blk t).view.emb (ix3 0 a b) = ix3 (lay t) (row t a) b := by
  obtain ⟨e0, e1, e2⟩ := idx4 t
  refine funext fun y => Fin.ext ?_
  match y with
  | ⟨0, _⟩ => show cc0_transform_4 (grid0.coords t) (0 : Fin 3) * 1 + 1 * 0 = t.val / 22; omega
  | ⟨1, _⟩ => show cc0_transform_4 (grid0.coords t) (1 : Fin 3) * 64 + 1 * a.val = 704 * (t.val / 11 % 2) + 64 * (t.val % 11) + a.val; omega
  | ⟨2, _⟩ => show cc0_transform_4 (grid0.coords t) (2 : Fin 3) * 2048 + 1 * b.val = b.val; omega

theorem emb5 (t : Fin (cfgM m (ok m)).N) (a : Fin 64) (b : Fin 2048) :
    (((cfgM m (ok m)).win 5).blk t).view.emb (ix3 0 a b) = ix3 (lay t) (row t a) b := by
  obtain ⟨e0, e1, e2⟩ := idx5 t
  refine funext fun y => Fin.ext ?_
  match y with
  | ⟨0, _⟩ => show cc0_transform_5 (grid0.coords t) (0 : Fin 3) * 1 + 1 * 0 = t.val / 22; omega
  | ⟨1, _⟩ => show cc0_transform_5 (grid0.coords t) (1 : Fin 3) * 64 + 1 * a.val = 704 * (t.val / 11 % 2) + 64 * (t.val % 11) + a.val; omega
  | ⟨2, _⟩ => show cc0_transform_5 (grid0.coords t) (2 : Fin 3) * 2048 + 1 * b.val = b.val; omega

theorem emb6 (t : Fin (cfgM m (ok m)).N) (a : Fin 64) (b : Fin 2048) :
    (((cfgM m (ok m)).win 6).blk t).view.emb (ix3 0 a b) = ix3 (lay t) (row t a) b := by
  obtain ⟨e0, e1, e2⟩ := idx6 t
  refine funext fun y => Fin.ext ?_
  match y with
  | ⟨0, _⟩ => show cc0_transform_6 (grid0.coords t) (0 : Fin 3) * 1 + 1 * 0 = t.val / 22; omega
  | ⟨1, _⟩ => show cc0_transform_6 (grid0.coords t) (1 : Fin 3) * 64 + 1 * a.val = 704 * (t.val / 11 % 2) + 64 * (t.val % 11) + a.val; omega
  | ⟨2, _⟩ => show cc0_transform_6 (grid0.coords t) (2 : Fin 3) * 2048 + 1 * b.val = b.val; omega

theorem emb7 (t : Fin (cfgM m (ok m)).N) (a : Fin 64) (b : Fin 2048) :
    (((cfgM m (ok m)).win 7).blk t).view.emb (ix3 0 a b) = ix3 (lay t) (row t a) b := by
  obtain ⟨e0, e1, e2⟩ := idx7 t
  refine funext fun y => Fin.ext ?_
  match y with
  | ⟨0, _⟩ => show cc0_transform_7 (grid0.coords t) (0 : Fin 3) * 1 + 1 * 0 = t.val / 22; omega
  | ⟨1, _⟩ => show cc0_transform_7 (grid0.coords t) (1 : Fin 3) * 64 + 1 * a.val = 704 * (t.val / 11 % 2) + 64 * (t.val % 11) + a.val; omega
  | ⟨2, _⟩ => show cc0_transform_7 (grid0.coords t) (2 : Fin 3) * 2048 + 1 * b.val = b.val; omega

theorem emb8 (t : Fin (cfgM m (ok m)).N) (a : Fin 64) (b : Fin 2048) :
    (((cfgM m (ok m)).win 8).blk t).view.emb (ix3 0 a b) = ix3 (lay t) (row t a) b := by
  obtain ⟨e0, e1, e2⟩ := idx8 t
  refine funext fun y => Fin.ext ?_
  match y with
  | ⟨0, _⟩ => show cc0_transform_8 (grid0.coords t) (0 : Fin 3) * 1 + 1 * 0 = t.val / 22; omega
  | ⟨1, _⟩ => show cc0_transform_8 (grid0.coords t) (1 : Fin 3) * 64 + 1 * a.val = 704 * (t.val / 11 % 2) + 64 * (t.val % 11) + a.val; omega
  | ⟨2, _⟩ => show cc0_transform_8 (grid0.coords t) (2 : Fin 3) * 2048 + 1 * b.val = b.val; omega

theorem blk0 (t : Fin (cfgM m (ok m)).N) (a : Fin 64) (b : Fin 2048) : iblk m (ok m) c 0 t (ix3 0 a b) = x1 m c (ix3 (lay t) (row t a) b) :=
  congrArg (x1 m c) (emb0 m t a b)

theorem blk1 (t : Fin (cfgM m (ok m)).N) (a : Fin 64) (b : Fin 2048) : iblk m (ok m) c 1 t (ix3 0 a b) = x2 m c (ix3 (lay t) (prow t a) b) :=
  congrArg (x2 m c) (emb1 m t a b)

theorem blk2 (t : Fin (cfgM m (ok m)).N) (a : Fin 64) (b : Fin 2048) : iblk m (ok m) c 2 t (ix3 0 a b) = x3 m c (ix3 (lay t) (prow t a) b) :=
  congrArg (x3 m c) (emb2 m t a b)

theorem blk3 (t : Fin (cfgM m (ok m)).N) (a : Fin 64) (b : Fin 2048) : iblk m (ok m) c 3 t (ix3 0 a b) = x4 m c (ix3 (lay t) (row t a) b) :=
  congrArg (x4 m c) (emb3 m t a b)

theorem blk4 (t : Fin (cfgM m (ok m)).N) (a : Fin 64) (b : Fin 2048) : iblk m (ok m) c 4 t (ix3 0 a b) = x5 m c (ix3 (lay t) (row t a) b) :=
  congrArg (x5 m c) (emb4 m t a b)

theorem grad_at (t : Fin (cfgM m (ok m)).N) (a : Fin 64) (b : Fin 2048) :
    k0_pay4 (F := Ideal) (grid0.coords t) (word c (tbl m 0)) (iblk m (ok m) c 1 t) (iblk m (ok m) c 2 t) (ix2 a b) = grad m c (lay t) (row t a) b := by
  refine (pay_grad _ _ _ _ a b).trans ?_
  rw [blk1, blk2, word_tbl, half_word]
  unfold grad
  have hq : (row t a).val / 704 = t.val / 11 % 2 := by
    show (704 * (t.val / 11 % 2) + 64 * (t.val % 11) + a.val) / 704 = _; omega
  have hr : (⟨(row t a).val % 704, by omega⟩ : Fin 704) = prow t a := Fin.ext (by
    show (704 * (t.val / 11 % 2) + 64 * (t.val % 11) + a.val) % 704 = 64 * (t.val % 11) + a.val; omega)
  rw [hq, hr]

/-! The reference's four results. -/

def R5 : S4x1408x2048.Idx → EReal := Cert.AdamDownRefIdeal.Read.val_main_v6 (F := Ideal) (x0 m c) (x2 m c) (x3 m c)
def R6 : S4x1408x2048.Idx → EReal := Cert.AdamDownRefIdeal.Read.val_main_v30 (F := Ideal) (x0 m c) (x1 m c) (x2 m c) (x3 m c) (x4 m c) (x5 m c)
def R7 : S4x1408x2048.Idx → EReal := Cert.AdamDownRefIdeal.Read.val_main_v11 (F := Ideal) (x0 m c) (x2 m c) (x3 m c) (x4 m c)
def R8 : S4x1408x2048.Idx → EReal := Cert.AdamDownRefIdeal.Read.val_main_v17 (F := Ideal) (x0 m c) (x2 m c) (x3 m c) (x5 m c)

theorem ref5 (l : Fin 4) (r : Fin 1408) (j : Fin 2048) : R5 m c (ix3 l r j) = grad m c l r j := by
  unfold R5 grad Cert.AdamDownRefIdeal.Read.val_main_v6 Cert.AdamDownRefIdeal.Read.val_main_v5 Cert.AdamDownRefIdeal.Read.val_main_v4 Cert.AdamDownRefIdeal.Read.val_main_v3 Cert.AdamDownRefIdeal.Read.val_main_v2 Cert.AdamDownRefIdeal.Read.val_main_v1 Cert.AdamDownRefIdeal.Read.val_main_v0 Cert.AdamDownRefIdeal.Read.val_main_c_0 Cert.AdamDownRefIdeal.Read.val_main_c
  pointwise
  by_cases h : r.val < 704
  · have hq : r.val / 704 = 0 := by omega
    have hr : (⟨r.val % 704, by omega⟩ : Fin 704) = ⟨r.val, h⟩ := Fin.ext (by show r.val % 704 = r.val; omega)
    rw [dif_pos h, hq, hr]
    exact select_eq _ _ _ _
  · have hq : r.val / 704 = 1 := by omega
    have hr : (⟨r.val % 704, by omega⟩ : Fin 704) = ⟨r.val - 704, by omega⟩ := Fin.ext (by show r.val % 704 = r.val - 704; omega)
    rw [dif_neg h, hq, hr]
    exact select_eq _ _ _ _

theorem ref7 (l : Fin 4) (r : Fin 1408) (j : Fin 2048) : R7 m c (ix3 l r j) = mom (grad m c l r j) (x4 m c (ix3 l r j)) := by
  rw [← ref5]
  unfold R7 R5 mom Cert.AdamDownRefIdeal.Read.val_main_v11 Cert.AdamDownRefIdeal.Read.val_main_v10 Cert.AdamDownRefIdeal.Read.val_main_v9 Cert.AdamDownRefIdeal.Read.val_main_v8 Cert.AdamDownRefIdeal.Read.val_main_v7 Cert.AdamDownRefIdeal.Read.val_main_cst Cert.AdamDownRefIdeal.Read.val_main_cst_1
  generalize Cert.AdamDownRefIdeal.Read.val_main_v6 (F := Ideal) (x0 m c) (x2 m c) (x3 m c) = g
  pointwise

theorem ref8 (l : Fin 4) (r : Fin 1408) (j : Fin 2048) : R8 m c (ix3 l r j) = vel (grad m c l r j) (x5 m c (ix3 l r j)) := by
  rw [← ref5]
  unfold R8 R5 vel Cert.AdamDownRefIdeal.Read.val_main_v17 Cert.AdamDownRefIdeal.Read.val_main_v16 Cert.AdamDownRefIdeal.Read.val_main_v15 Cert.AdamDownRefIdeal.Read.val_main_v14 Cert.AdamDownRefIdeal.Read.val_main_v13 Cert.AdamDownRefIdeal.Read.val_main_v12 Cert.AdamDownRefIdeal.Read.val_main_cst_2 Cert.AdamDownRefIdeal.Read.val_main_cst_3
  generalize Cert.AdamDownRefIdeal.Read.val_main_v6 (F := Ideal) (x0 m c) (x2 m c) (x3 m c) = g
  pointwise

theorem ref6 (l : Fin 4) (r : Fin 1408) (j : Fin 2048) :
    R6 m c (ix3 l r j) = step (x1 m c (ix3 l r j)) (grad m c l r j) (x4 m c (ix3 l r j)) (x5 m c (ix3 l r j)) := by
  unfold step
  rw [← ref7, ← ref8]
  unfold R6 R7 R8 delta Cert.AdamDownRefIdeal.Read.val_main_v30 Cert.AdamDownRefIdeal.Read.val_main_v29 Cert.AdamDownRefIdeal.Read.val_main_v28 Cert.AdamDownRefIdeal.Read.val_main_v27 Cert.AdamDownRefIdeal.Read.val_main_v26 Cert.AdamDownRefIdeal.Read.val_main_v25 Cert.AdamDownRefIdeal.Read.val_main_v24 Cert.AdamDownRefIdeal.Read.val_main_v23 Cert.AdamDownRefIdeal.Read.val_main_v22 Cert.AdamDownRefIdeal.Read.val_main_v21 Cert.AdamDownRefIdeal.Read.val_main_v20 Cert.AdamDownRefIdeal.Read.val_main_v19 Cert.AdamDownRefIdeal.Read.val_main_v18 Cert.AdamDownRefIdeal.Read.val_main_cst_4 Cert.AdamDownRefIdeal.Read.val_main_cst_5 Cert.AdamDownRefIdeal.Read.val_main_cst_6 Cert.AdamDownRefIdeal.Read.val_main_cst_7 Cert.AdamDownRefIdeal.Read.val_main_cst_8
  generalize Cert.AdamDownRefIdeal.Read.val_main_v11 (F := Ideal) (x0 m c) (x2 m c) (x3 m c) (x4 m c) = f
  generalize Cert.AdamDownRefIdeal.Read.val_main_v17 (F := Ideal) (x0 m c) (x2 m c) (x3 m c) (x5 m c) = g
  pointwise

/-! The four arrays. -/

theorem eta (y : S1x64x2048.Idx) : ∃ (a : Fin 64) (b : Fin 2048), y = ix3 0 a b :=
  ⟨y 1, y 2, (eta3 y).trans (congrArg (fun z => ix3 z (y 1) (y 2)) (Subsingleton.elim (α := Fin 1) _ _))⟩

theorem cov5 (a : (pcfg0 (F := Ideal)).Adm) : ((cfg0 a).win 5).Covers := by
  show ((cfg0 (F := Ideal) ⟨fun | 0 => fun _ => (0#32 : BitVec 32), trivial⟩).win 5).Covers
  decide +kernel

theorem at5 (t : Fin (cfgM m (ok m)).N) (a : Fin 64) (b : Fin 2048) :
    (outsAt0 m (ok m) c t).1 (ix3 0 a b) = R5 m c (ix3 (lay t) (row t a) b) := by
  have e : (outsAt0 m (ok m) c t).1 = k0_pay7 (F := Ideal) (grid0.coords t) (word c (tbl m 0)) (iblk m (ok m) c 1 t) (iblk m (ok m) c 2 t) := by
    have f := out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_out _ _ _ _ a b).trans ?_
  rw [grad_at, ref5]

theorem arr5 : (dats m (ok m) 0 c).arrAt 5 (cfgM m (ok m)).N = R5 m c := by
  refine (dats m (ok m) 0 c).arrAt_eq_of_covers 5 (R5 m c) (cov5 _) fun t _ y => ?_
  blk_simp
  rw [after0_5]
  obtain ⟨a, b, rfl⟩ := eta y
  show (outsAt0 m (ok m) c t).1 (ix3 0 a b) = R5 m c ((((cfgM m (ok m)).win 5).blk t).view.emb (ix3 0 a b))
  rw [emb5, at5]

theorem cov6 (a : (pcfg0 (F := Ideal)).Adm) : ((cfg0 a).win 6).Covers := by
  show ((cfg0 (F := Ideal) ⟨fun | 0 => fun _ => (0#32 : BitVec 32), trivial⟩).win 6).Covers
  decide +kernel

theorem at6 (t : Fin (cfgM m (ok m)).N) (a : Fin 64) (b : Fin 2048) :
    (outsAt0 m (ok m) c t).2.1 (ix3 0 a b) = R6 m c (ix3 (lay t) (row t a) b) := by
  have e : (outsAt0 m (ok m) c t).2.1 = k0_pay1 (F := Ideal) (k0_pay8 (F := Ideal) (grid0.coords t) (word c (tbl m 0)) (iblk m (ok m) c 1 t) (iblk m (ok m) c 2 t) (iblk m (ok m) c 3 t) (iblk m (ok m) c 4 t)) (iblk m (ok m) c 0 t) := by
    have f := out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_step _ _ _ _ _ _ _ a b).trans ?_
  rw [grad_at, ref6, blk0, blk3, blk4]

theorem arr6 : (dats m (ok m) 0 c).arrAt 6 (cfgM m (ok m)).N = R6 m c := by
  refine (dats m (ok m) 0 c).arrAt_eq_of_covers 6 (R6 m c) (cov6 _) fun t _ y => ?_
  blk_simp
  rw [after0_6]
  obtain ⟨a, b, rfl⟩ := eta y
  show (outsAt0 m (ok m) c t).2.1 (ix3 0 a b) = R6 m c ((((cfgM m (ok m)).win 6).blk t).view.emb (ix3 0 a b))
  rw [emb6, at6]

theorem cov7 (a : (pcfg0 (F := Ideal)).Adm) : ((cfg0 a).win 7).Covers := by
  show ((cfg0 (F := Ideal) ⟨fun | 0 => fun _ => (0#32 : BitVec 32), trivial⟩).win 7).Covers
  decide +kernel

theorem at7 (t : Fin (cfgM m (ok m)).N) (a : Fin 64) (b : Fin 2048) :
    (outsAt0 m (ok m) c t).2.2.1 (ix3 0 a b) = R7 m c (ix3 (lay t) (row t a) b) := by
  have e : (outsAt0 m (ok m) c t).2.2.1 = k0_pay2 (F := Ideal) (k0_pay5 (F := Ideal) (grid0.coords t) (word c (tbl m 0)) (iblk m (ok m) c 1 t) (iblk m (ok m) c 2 t) (iblk m (ok m) c 3 t)) := by
    have f := out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_mom_out _ _ _ _ _ a b).trans ?_
  rw [grad_at, ref7, blk3]

theorem arr7 : (dats m (ok m) 0 c).arrAt 7 (cfgM m (ok m)).N = R7 m c := by
  refine (dats m (ok m) 0 c).arrAt_eq_of_covers 7 (R7 m c) (cov7 _) fun t _ y => ?_
  blk_simp
  rw [after0_7]
  obtain ⟨a, b, rfl⟩ := eta y
  show (outsAt0 m (ok m) c t).2.2.1 (ix3 0 a b) = R7 m c ((((cfgM m (ok m)).win 7).blk t).view.emb (ix3 0 a b))
  rw [emb7, at7]

theorem cov8 (a : (pcfg0 (F := Ideal)).Adm) : ((cfg0 a).win 8).Covers := by
  show ((cfg0 (F := Ideal) ⟨fun | 0 => fun _ => (0#32 : BitVec 32), trivial⟩).win 8).Covers
  decide +kernel

theorem at8 (t : Fin (cfgM m (ok m)).N) (a : Fin 64) (b : Fin 2048) :
    (outsAt0 m (ok m) c t).2.2.2 (ix3 0 a b) = R8 m c (ix3 (lay t) (row t a) b) := by
  have e : (outsAt0 m (ok m) c t).2.2.2 = k0_pay3 (F := Ideal) (k0_pay6 (F := Ideal) (grid0.coords t) (word c (tbl m 0)) (iblk m (ok m) c 1 t) (iblk m (ok m) c 2 t) (iblk m (ok m) c 4 t)) := by
    have f := out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)
    unfold outsAt0
    dsimp only
    exact f
  refine (congrFun e (ix3 0 a b)).trans ?_
  refine (pay_vel_out _ _ _ _ _ a b).trans ?_
  rw [grad_at, ref8, blk4]

theorem arr8 : (dats m (ok m) 0 c).arrAt 8 (cfgM m (ok m)).N = R8 m c := by
  refine (dats m (ok m) 0 c).arrAt_eq_of_covers 8 (R8 m c) (cov8 _) fun t _ y => ?_
  blk_simp
  rw [after0_8]
  obtain ⟨a, b, rfl⟩ := eta y
  show (outsAt0 m (ok m) c t).2.2.2 (ix3 0 a b) = R8 m c ((((cfgM m (ok m)).win 8).blk t).view.emb (ix3 0 a b))
  rw [emb8, at8]

/-- The kernel leaves the reference's four results. -/
theorem algebraic : Cert.algebraic_AdamDownIdeal_AdamDownRefIdeal := by
  intro m ρ m' ρ' _ hargs
  refine ⟨fun c => R5 m c, fun c => R6 m c, fun c => R7 m c, fun c => R8 m c, ?_, ?_⟩
  · refine (θ_run defs _ _).mono (fun r h c => ?_) (θ_run_and (run_main m ρ (ok m)) (unchanged m ρ (ok m)))
    exact ⟨((h.1 c).1 5).trans (arr5 m c), ((h.1 c).1 6).trans (arr6 m c), ((h.1 c).1 7).trans (arr7 m c), ((h.1 c).1 8).trans (arr8 m c), h.2 c⟩
  · refine (θ_run Cert.AdamDownRefIdeal.defs _ _).mono (fun r h c => ?_) (Cert.AdamDownRefIdeal.Value.run m' ρ')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Cert.AdamDownRefIdeal.Read.val_main_v6_eq, e0, e2, e3]; rfl
    · rw [Cert.AdamDownRefIdeal.Read.val_main_v30_eq, e0, e1, e2, e3, e4, e5]; rfl
    · rw [Cert.AdamDownRefIdeal.Read.val_main_v11_eq, e0, e2, e3, e4]; rfl
    · rw [Cert.AdamDownRefIdeal.Read.val_main_v17_eq, e0, e2, e3, e5]; rfl

end Cert.AdamDownIdeal.Val

end
-- ==== Proof.Nm.Math.lean ====
/-
  One row of the norm's gradient over the extended reals. With `r` the reciprocal root of the row's mean square plus a
  constant, the kernel takes `r · (w − x r · mean (w · x r))` and differentiation `w r + 2 x · (Σ x w) · (−½ r / t) / n`
  with `t = 1 / r²`: on real entries the two agree.
-/
module

public import proofs.«01_k».proof.Proof.AttnMath
public import Idealize.ShloMosaic.Lib.IdealHost

@[expose] public section

noncomputable section

namespace Cert.Nm

open Idealize.ShloMosaic Cert.AttnMath

variable {n : ℕ}

/-! ## The constants -/

/-- The constant added to the mean square. -/
abbrev eps : EReal := Ideal.ofBits .f32 0x358637BD#32

theorem eps_real : ∃ e : ℝ, 0 < e ∧ eps = (e : EReal) := by
  refine ⟨_, ?_, by simp [eps, Ideal.ofBits, Ideal.ieee, -EReal.coe_mul]; rfl⟩
  norm_num

theorem ofBits_zero : Ideal.ofBits .f32 0x00000000#32 = 0 := by simp [Ideal.ofBits, Ideal.ieee]
theorem ofBits_neg_half : Ideal.ofBits .f32 0xBF000000#32 = ((-(1 / 2) : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv2048 : Ideal.ofBits .f32 0x3A000000#32 = (((2048 : ℝ)⁻¹ : ℝ) : EReal) := by
  simp [Ideal.ofBits, Ideal.ieee, -EReal.coe_mul]; norm_num
theorem ofBits_inv512 : Ideal.ofBits .f32 0x3B000000#32 = (((512 : ℝ)⁻¹ : ℝ) : EReal) := by
  simp [Ideal.ofBits, Ideal.ieee, -EReal.coe_mul]; norm_num
theorem ofBits_inv256 : Ideal.ofBits .f32 0x3B800000#32 = (((256 : ℝ)⁻¹ : ℝ) : EReal) := by
  simp [Ideal.ofBits, Ideal.ieee, -EReal.coe_mul]; norm_num

/-- Division by a real number that isn't zero is multiplication by its inverse. -/
theorem div_real (x : EReal) (k : ℝ) (hk : k ≠ 0) : Ideal.div x (k : EReal) = x * ((k⁻¹ : ℝ) : EReal) := by
  unfold Ideal.div
  rw [if_neg (by exact_mod_cast hk), EReal.coe_inv]

/-! ## A row -/

/-- The row's mean square plus the constant, the mean as the sum times `c`. -/
def tt (c : EReal) (x : Fin n → EReal) : EReal := (∑ s, x s * x s) * c + eps
/-- The reciprocal root. -/
def rr (c : EReal) (x : Fin n → EReal) : EReal := Ideal.rsqrt (tt c x)
/-- The gradient of entry `j` as the kernel takes it, of the weighted cotangent `w`. -/
def kdx (c : EReal) (x w : Fin n → EReal) (j : Fin n) : EReal :=
  rr c x * (w j - x j * rr c x * (c * ∑ s, w s * (x s * rr c x)))
/-- The part of the gradient that comes from the mean square. -/
def rz (c h k : EReal) (x w : Fin n → EReal) : EReal := Ideal.div ((∑ s, x s * w s) * (h * Ideal.div (rr c x) (tt c x))) k
/-- The gradient of entry `j` by the rules of differentiation. -/
def rdx (c h k : EReal) (x w : Fin n → EReal) (j : Fin n) : EReal :=
  w j * rr c x + x j * rz c h k x w + rz c h k x w * x j

theorem kdx_eq_rdx (k : ℝ) (hk : 0 < k) (x w : Fin n → EReal) (hx : ∀ s, Fin' (x s)) (hw : ∀ s, Fin' (w s)) (j : Fin n) :
    kdx ((k⁻¹ : ℝ) : EReal) x w j = rdx ((k⁻¹ : ℝ) : EReal) ((-(1 / 2) : ℝ) : EReal) (k : EReal) x w j := by
  choose a ha using fun s => (hx s).coe
  choose b hb using fun s => (hw s).coe
  obtain rfl : x = fun s => (a s : EReal) := funext ha
  obtain rfl : w = fun s => (b s : EReal) := funext hb
  obtain ⟨e, he, hee⟩ := eps_real
  have ht : 0 < (∑ s, a s * a s) * k⁻¹ + e :=
    add_pos_of_nonneg_of_pos (mul_nonneg (Finset.sum_nonneg fun s _ => mul_self_nonneg (a s)) (inv_nonneg.mpr hk.le)) he
  have htt : tt ((k⁻¹ : ℝ) : EReal) (fun s => (a s : EReal)) = (((∑ s, a s * a s) * k⁻¹ + e : ℝ) : EReal) := by
    unfold tt
    rw [hee, EReal.coe_add, EReal.coe_mul, coe_sum]
    simp only [EReal.coe_mul]
  set t : ℝ := (∑ s, a s * a s) * k⁻¹ + e with hte
  have hr : rr ((k⁻¹ : ℝ) : EReal) (fun s => (a s : EReal)) = (((Real.sqrt t)⁻¹ : ℝ) : EReal) := by
    unfold rr
    rw [htt, Ideal.rsqrt_coe, if_neg (not_lt.mpr ht.le), if_neg ht.ne']
  set r : ℝ := (Real.sqrt t)⁻¹ with hrr
  have hrt : r * r * t = 1 := by
    have h2 : Real.sqrt t * Real.sqrt t = t := Real.mul_self_sqrt ht.le
    have h1 : Real.sqrt t ≠ 0 := (Real.sqrt_pos.mpr ht).ne'
    rw [hrr]; field_simp; nlinarith [h2]
  unfold kdx rdx rz
  rw [htt, hr, div_real _ t ht.ne', div_real _ k hk.ne']
  simp only [← EReal.coe_mul, ← coe_sum, ← EReal.coe_sub, ← EReal.coe_add]
  refine congrArg _ ?_
  have hs : ∑ s, b s * (a s * r) = (∑ s, a s * b s) * r := by
    rw [Finset.sum_mul]; exact Finset.sum_congr rfl fun s _ => by ring
  have hti : t⁻¹ = r * r := by
    rw [inv_eq_iff_eq_inv, eq_comm]; exact inv_eq_of_mul_eq_one_right hrt
  rw [hs, hti]
  ring

end Cert.Nm

end
-- ==== Proof.Nm.Norm.lean ====
/- The gradient of the layers' norms and of the last norm: the rows' gradient block by block, and the gain's as a sum over the blocks. -/
module

public import proofs.«01_k».proof.Proof.Gen.NormIdeal.Value
public import proofs.«01_k».proof.Proof.Gen.NormRefIdeal
public import proofs.«01_k».proof.Proof.Gen.NormRefIdeal.Read
public import proofs.«01_k».proof.Proof.Gen.NormRefIdeal.Run
public import proofs.«01_k».proof.Proof.Gen.Pre_norm_finite
public import proofs.«01_k».proof.Defs
public import proofs.«01_k».proof.Proof.Mm.Base
public import proofs.«01_k».proof.Proof.Nm.Math
public import proofs.«01_k».proof.Proof.Finite
public import proofs.«01_k».proof.Proof.BlockSum

@[expose] public section

set_option maxRecDepth 16384

noncomputable section

namespace Cert.NormIdeal.Val

open Cert.NormIdeal Cert.NormIdeal.Gen Cert.Mm Cert.Nm Cert.AttnMath Idealize.ShloMosaic Idealize.ShloMosaic.TcCoe Idealize.SL.Sem

/-! ## One point of the grid -/

section Cases
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole)
  (x0 : Vec Ideal S256x2048 .f32) (x1 : Vec Ideal S1x2048 .f32) (x2 : Vec Ideal S256x2048 .f32)

/-- At the first point, the gradient of the block's rows. -/
theorem out_A_3 (hc : cond0_0 i) :
    out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S256x2048) hz2, View.ld_unit_zero (S := S1x2048) hz2]

/-- At the first point, the block's term of the gain's gradient, added to the zero row. -/
theorem out_A_4 (hc : cond0_0 i) :
    out0_A_4 c i a1 h1 a2 h2 a3 h3 a4 h4 a5 h5 hc x0 x1 x2 = k0_pay5 x0 x2 (k0_pay4 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x2048) hz2, View.readCov_unit_zero (S := S1x2048) _ hz2]
  simp only [View.readAt_eq_ld, h1.read_unread, h2.read_unread, h3.read_unread, h5.read_unread,
    View.ld_unit_zero (S := S256x2048) hz2, View.ld_unit_zero (S := S1x2048) hz2]

/-- At a later point, the gradient of the block's rows. -/
theorem out_B_3 (hc : ¬cond0_0 i) (xo4 : Vec Ideal S1x2048 .f32) :
    out0_B_3 c i a1 h1 a2 h2 a3 h3 a4 h4 a5 h5 hc x0 x1 x2 xo4 = k0_pay3 x0 x2 x1 := by
  unfold out0_B_3
  rw [View.read_writes_eq_canon _ _ _ (cover0_B_3 c i a1 h1 a2 h2 a3 h3 a4 h4 a5 h5 hc x0 x1 x2 xo4)]
  unfold kernelRun0_B
  dsimp only
  sl_unfold_words
  rw [View.canon_unit_zero hz2]
  simp only [View.readAt_eq_ld, h1.read_unread, h2.read_unread, h3.read_unread, h5.read_unread,
    View.ld_unit_zero (S := S256x2048) hz2, View.ld_unit_zero (S := S1x2048) hz2]

/-- At a later point, the block's term of the gain's gradient, added to what the point before left. -/
theorem out_B_4 (hc : ¬cond0_0 i) (xo4 : Vec Ideal S1x2048 .f32) :
    out0_B_4 c i a1 h1 a2 h2 a3 h3 a4 h4 a5 h5 hc x0 x1 x2 xo4 = k0_pay5 x0 x2 xo4 := by
  unfold out0_B_4
  rw [View.read_writes_eq_canon _ _ _ (cover0_B_4 c i a1 h1 a2 h2 a3 h3 a4 h4 a5 h5 hc x0 x1 x2 xo4)]
  unfold kernelRun0_B
  dsimp only
  sl_unfold_words
  rw [View.canon_unit_zero hz2]
  simp only [View.readAt_eq_ld, h1.read_unread, h2.read_unread, h3.read_unread, h5.read_unread,
    View.ld_unit_zero (S := S256x2048) hz2, View.ld_unit_zero (S := S1x2048) hz2]

end Cases

/-- The reciprocal of the row's length, as the word the kernel holds. -/
abbrev ic : EReal := Ideal.ofBits .f32 0x3A000000#32

section Pay
variable (x y : Vec Ideal S256x2048 .f32) (g acc : Vec Ideal S1x2048 .f32) (a : Fin 256) (z : Fin 1) (j : Fin 2048)

theorem pay_1 : k0_pay1 (F := Ideal) x (ix2 a z) = rr ic (fun s : Fin 2048 => x (ix2 a s)) := by
  unfold k0_pay1 rr tt
  pointwise

theorem pay_2 : k0_pay2 (F := Ideal) x (ix2 a j) = x (ix2 a j) * rr ic (fun s : Fin 2048 => x (ix2 a s)) := by
  unfold k0_pay2
  pointwise
  rw [pay_1]

theorem pay_3 : k0_pay3 (F := Ideal) x y g (ix2 a j)
    = kdx ic (fun s : Fin 2048 => x (ix2 a s)) (fun s => y (ix2 a s) * g (ix2 0 s)) j := by
  unfold k0_pay3 kdx
  pointwise
  simp only [pay_1, pay_2]

theorem pay_4 : k0_pay4 (F := Ideal) (ix2 z j) = 0 := by
  unfold k0_pay4; pointwise

theorem pay_5 : k0_pay5 (F := Ideal) x y acc (ix2 z j)
    = acc (ix2 z j) + ∑ a : Fin 256, y (ix2 a j) * (x (ix2 a j) * rr ic (fun s : Fin 2048 => x (ix2 a s))) := by
  obtain rfl : z = 0 := Subsingleton.elim _ _
  unfold k0_pay5
  pointwise
  simp only [pay_2]
end Pay

/-! ## The arrays -/

variable (m : (ℓ : Loc nD τ sig) → Buf (Elt Ideal) ℓ) (ρ : Dev nD → PrngReg) (c : Dev nD)

/-- The arguments: the input, the gain and the cotangent. -/
abbrev x0 : S2048x2048.Idx → EReal := m ((c : Thread nD τ).loc main_arg0)
abbrev x1 : S2048.Idx → EReal := m ((c : Thread nD τ).loc main_arg1)
abbrev x2 : S2048x2048.Idx → EReal := m ((c : Thread nD τ).loc main_arg2)

theorem entry_g (z : Fin 1) (j : Fin 2048) : V m c main_v0 (ix2 z j) = x1 m c (ix1 j) := by
  entry_read
  pointwise

/-- A row of the input, and of the cotangent times the gain. -/
def xrow (r : Fin 2048) : Fin 2048 → EReal := fun s => x0 m c (ix2 r s)
def wrow (r : Fin 2048) : Fin 2048 → EReal := fun s => x2 m c (ix2 r s) * x1 m c (ix1 s)

/-- Row `a` of block `t`. -/
def row (t : ℕ) (a : Fin 256) : Fin 2048 := ⟨256 * (t % 8) + a.val, by omega⟩

theorem idx : ∀ t : Fin cfg0.N, t.val < 8
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem blk0 (t : Fin cfg0.N) (a : Fin 256) (s : Fin 2048) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 256 + 1 * a.val = 256 * (t.val % 8) + a.val; omega
  | ⟨1, _⟩ => show win0_0.index t (1 : Fin 2) * 2048 + 1 * s.val = s.val; omega

theorem blk1 (t : Fin cfg0.N) (z : Fin 1) (s : Fin 2048) : iblk m c 1 t (ix2 z s) = x1 m c (ix1 s) := by
  obtain ⟨ht, -, ⟨e0, e1⟩, -⟩ := idx t
  refine Eq.trans ?_ (entry_g m c z s)
  show V m c main_v0 (((cfg0.win 1).blk t).view.emb (ix2 z s)) = _
  refine congrArg (V m c main_v0) (funext fun y => Fin.ext ?_)
  match y with
  | ⟨0, _⟩ => show win0_1.index t (0 : Fin 2) * 1 + 1 * z.val = z.val; omega
  | ⟨1, _⟩ => show win0_1.index t (1 : Fin 2) * 2048 + 1 * s.val = s.val; omega

theorem blk2 (t : Fin cfg0.N) (a : Fin 256) (s : Fin 2048) : iblk m c 2 t (ix2 a s) = x2 m c (ix2 (row t.val a) s) := by
  obtain ⟨ht, -, -, ⟨e0, e1⟩, -⟩ := idx t
  show V m c main_arg2 (((cfg0.win 2).blk t).view.emb (ix2 a s)) = _
  rw [V_main_arg2]
  refine congrArg (x2 m c) (funext fun y => Fin.ext ?_)
  match y with
  | ⟨0, _⟩ => show win0_2.index t (0 : Fin 2) * 256 + 1 * a.val = 256 * (t.val % 8) + a.val; omega
  | ⟨1, _⟩ => show win0_2.index t (1 : Fin 2) * 2048 + 1 * s.val = s.val; omega

theorem row0 (t : Fin cfg0.N) (a : Fin 256) : (fun s : Fin 2048 => iblk m c 0 t (ix2 a s)) = xrow m c (row t.val a) :=
  funext fun s => blk0 m c t a s

theorem wrow0 (t : Fin cfg0.N) (a : Fin 256) :
    (fun s : Fin 2048 => (show EReal from iblk m c 2 t (ix2 a s)) * (show EReal from iblk m c 1 t (ix2 0 s))) = wrow m c (row t.val a) :=
  funext fun s => congrArg₂ (fun p q : EReal => p * q) (blk2 m c t a s) (blk1 m c t 0 s)

/-- What one row gives the gain's gradient. -/
def gterm (r : Fin 2048) (j : Fin 2048) : EReal := x2 m c (ix2 r j) * (x0 m c (ix2 r j) * rr ic (xrow m c r))
/-- What block `i` gives it. -/
def gtm (j : Fin 2048) (i : ℕ) : EReal := ∑ a : Fin 256, if hr : 256 * i + a.val < 2048 then gterm m c ⟨256 * i + a.val, hr⟩ j else 0

/-- One point's step of the row of sums. -/
theorem gstep (t : Fin cfg0.N) (acc : Vec Ideal S1x2048 .f32) (z : Fin 1) (j : Fin 2048) :
    k0_pay5 (F := Ideal) (iblk m c 0 t) (iblk m c 2 t) acc (ix2 z j) = acc (ix2 z j) + gtm m c j t.val := by
  obtain ⟨ht, -⟩ := idx t
  rw [pay_5]
  refine congrArg (fun q : EReal => acc (ix2 z j) + q) (Finset.sum_congr rfl fun a _ => ?_)
  rw [dif_pos (show 256 * t.val + a.val < 2048 by omega), row0, blk0, blk2]
  have e : row t.val a = ⟨256 * t.val + a.val, by omega⟩ := Fin.ext (by show 256 * (t.val % 8) + a.val = 256 * t.val + a.val; omega)
  rw [e]
  rfl

theorem outs_3 (t : Fin cfg0.N) (a : Fin 256) (j : Fin 2048) :
    (outsAt0 m c t.val t.isLt).1 (ix2 a j) = kdx ic (xrow m c (row t.val a)) (wrow m c (row t.val a)) j := by
  by_cases h0 : t.val % 8 = 0
  · rw [outsAt0_A m c t h0]
    dsimp only
    rw [out_A_3, pay_3, row0, wrow0]
  · rw [outsAt0_B m c t h0]
    dsimp only
    rw [out_B_3, pay_3, row0, wrow0]

/-- After a point the row of sums holds the terms of the blocks so far. -/
theorem outs_4 : ∀ (n : ℕ) (hn : n < cfg0.N) (z : Fin 1) (j : Fin 2048),
    (outsAt0 m c n hn).2 (ix2 z j) = ∑ i ∈ Finset.range (n + 1), gtm m c j i := by
  have hN : cfg0.N = 8 := by decide +kernel
  intro n
  induction n with
  | zero =>
    intro hn z j
    rw [outsAt0_A m c ⟨0, hn⟩ rfl]
    dsimp only
    rw [out_A_4, gstep, pay_4]
    simp
  | succ n ih =>
    intro hn z j
    rw [outsAt0_B m c ⟨n + 1, hn⟩ (by dsimp only; omega)]
    dsimp only
    rw [out_B_4, gstep, Finset.sum_range_succ _ (n + 1)]
    exact congrArg (· + gtm m c j (n + 1)) (ih (by omega) z j)

/-- What the kernel leaves: the rows' gradient and the gain's. -/
def KX : S2048x2048.Idx → EReal := fun i => kdx ic (xrow m c (i 0)) (wrow m c (i 0)) (i 1)
def KG : S1x2048.Idx → EReal := fun i => ∑ r : Fin 2048, gterm m c r (i 1)

theorem arr_3 : (dats m 0 c).arrAt 3 cfg0.N = KX m c := by
  refine (dats m 0 c).arrAt_eq_of_covers 3 (KX m c) (by decide +kernel) fun t _ y => ?_
  obtain ⟨ht, -, -, -, ⟨e0, e1⟩, -⟩ := idx t
  rw [after0_3]
  obtain ⟨a, j, rfl⟩ : ∃ (a : Fin 256) (j : Fin 2048), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 256 + 1 * a.val = 256 * (t.val % 8) + a.val; omega
    | ⟨1, _⟩ => show win0_3.index t (1 : Fin 2) * 2048 + 1 * j.val = j.val; omega)
  show (outsAt0 m c t.val t.isLt).1 (ix2 a j) = KX m c (((cfg0.win 3).blk t).view.emb (ix2 a j))
  rw [h0, outs_3]
  rfl

theorem arr_4 : (dats m 0 c).arrAt 4 cfg0.N = KG m c := by
  refine (dats m 0 c).arrAt_eq_of_covers 4 (KG m c) (by decide +kernel) fun t hf y => ?_
  obtain ⟨ht, -, -, -, -, ⟨e0, e1⟩⟩ := idx t
  rw [after0_4]
  obtain ⟨z, j, rfl⟩ : ∃ (z : Fin 1) (j : Fin 2048), y = ix2 z j := ⟨y 0, y 1, eta2 y⟩
  have h0 : ((cfg0.win 4).blk t).view.emb (ix2 z j) = ix2 z j := funext fun w => Fin.ext (by
    match w with
    | ⟨0, _⟩ => show win0_4.index t (0 : Fin 2) * 1 + 1 * z.val = z.val; omega
    | ⟨1, _⟩ => show win0_4.index t (1 : Fin 2) * 2048 + 1 * j.val = j.val; omega)
  show (outsAt0 m c t.val t.isLt).2 (ix2 z j) = KG m c (((cfg0.win 4).blk t).view.emb (ix2 z j))
  have hl : t.val + 1 = 8 := by have h := (flush0_4 t).mp hf; omega
  rw [h0, outs_4 m c t.val t.isLt z j, hl]
  exact BlockSum.sum_blocks_fin 8 256 2048 rfl (fun r => gterm m c r j)

/-! ## The reference -/

section Ref
open Cert.NormRefIdeal Cert.NormRefIdeal.Read

variable (x y : (⟨S2048x2048, .f32⟩ : BufTy).Contents (Elt Ideal)) (g : (⟨S2048, .f32⟩ : BufTy).Contents (Elt Ideal))
variable (r : Fin 2048) (z : Fin 1) (j : Fin 2048)

theorem r6 : val_main_v6 (F := Ideal) x (ix2 r z) = tt ic (fun s : Fin 2048 => x (ix2 r s)) := by
  unfold val_main_v6 val_main_v5 val_main_v4 val_main_v3 val_main_v2 val_main_v1 val_main_v0 val_main_cst val_main_cst_0 val_main_cst_1 tt
  pointwise
  rw [ofBits_2048, div_real _ _ (by norm_num), ← ofBits_inv2048]

theorem r7 : val_main_v7 (F := Ideal) x (ix2 r z) = rr ic (fun s : Fin 2048 => x (ix2 r s)) := by
  unfold val_main_v7 rr
  pointwise
  rw [r6]

theorem r20 : val_main_v20 (F := Ideal) g y (ix2 r j) = y (ix2 r j) * g (ix1 j) := by
  unfold val_main_v20 val_main_v19 val_main_v13
  pointwise

theorem r29 : val_main_v29 (F := Ideal) x g y (ix2 r z)
    = rz ic (Ideal.ofBits .f32 0xBF000000#32) (Ideal.ofBits .f32 0x45000000#32) (fun s : Fin 2048 => x (ix2 r s)) (fun s => y (ix2 r s) * g (ix1 s)) := by
  obtain rfl : z = 0 := Subsingleton.elim _ _
  unfold val_main_v29 val_main_v28 val_main_v27 val_main_v24 val_main_v23 val_main_v22 val_main_v10 val_main_v9 val_main_v8 val_main_cst_2 val_main_cst_5 val_main_cst_6 rz
  pointwise
  simp only [r6, r7, r20]

theorem r35 : val_main_v35 (F := Ideal) x g y (ix2 r j)
    = rdx ic (Ideal.ofBits .f32 0xBF000000#32) (Ideal.ofBits .f32 0x45000000#32) (fun s : Fin 2048 => x (ix2 r s)) (fun s => y (ix2 r s) * g (ix1 s)) j := by
  unfold val_main_v35 val_main_v34 val_main_v33 val_main_v32 val_main_v31 val_main_v30 val_main_v26 val_main_v25 val_main_cst_7 rdx
  pointwise
  simp only [r7, r20, r29, Fin.sum_univ_one]

theorem r36 : val_main_v36 (F := Ideal) x y (ix2 z j)
    = ∑ r : Fin 2048, x (ix2 r j) * rr ic (fun s : Fin 2048 => x (ix2 r s)) * y (ix2 r j) := by
  obtain rfl : z = 0 := Subsingleton.elim _ _
  unfold val_main_v36 val_main_v21 val_main_v18 val_main_v17 val_main_v16 val_main_v12 val_main_v11 val_main_cst_3 val_main_cst_4
  pointwise
  simp only [r7, Fin.sum_univ_one]

end Ref

/-! ## The claim -/

open Cert.Pre_norm_finite in
theorem finite_of_pre (x y : S2048x2048.Idx → EReal) (g : S2048.Idx → EReal) (h : Cert.Pre_norm_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_norm_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_norm_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.NormRefIdeal.Read.val_main_v35 (F := Ideal) (x0 m c) (x1 m c) (x2 m c) := by
  obtain ⟨hx, hg, hy⟩ := hf
  funext i
  obtain ⟨r, j, rfl⟩ : ∃ (r : Fin 2048) (j : Fin 2048), i = ix2 r j := ⟨i 0, i 1, eta2 i⟩
  rw [r35, ofBits_neg_half, ofBits_2048]
  show kdx ic (xrow m c r) (wrow m c r) j = _
  unfold ic
  rw [ofBits_inv2048]
  exact kdx_eq_rdx 2048 (by norm_num) (xrow m c r) (wrow m c r) (fun s => hx _) (fun s => (hy _).mul (hg _)) j

theorem dg_eq : KG m c = Cert.NormRefIdeal.Read.val_main_v36 (F := Ideal) (x0 m c) (x2 m c) := by
  funext i
  obtain ⟨z, j, rfl⟩ : ∃ (z : Fin 1) (j : Fin 2048), i = ix2 z j := ⟨i 0, i 1, eta2 i⟩
  rw [r36]
  exact Finset.sum_congr rfl fun r _ => mul_comm _ _

/-- At real arguments, both programs leave the same two gradients. -/
theorem algebraic : Cert.algebraic_NormIdeal_NormRefIdeal_pre_norm_finite := by
  intro m ρ m' ρ' hpre hargs
  refine ⟨fun c => KX m c, fun c => KG m c, ?_, ?_⟩
  · refine (θ_run defs _ _).mono (fun r h c => ?_) (Cert.NormIdeal.Value.run_blocks m ρ)
    obtain ⟨h0, h1, h2⟩ := h c
    exact ⟨h0.trans (arr_3 m c), h1.trans (arr_4 m c), h2⟩
  · refine (θ_run Cert.NormRefIdeal.defs _ _).mono (fun r h c => ?_) (Cert.NormRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.NormRefIdeal.Read.val_main_v35_eq, a0, a1, a2]
      exact (dx_eq m c hf).symm
    · rw [Cert.NormRefIdeal.Read.val_main_v36_eq, a0, a2]
      exact (dg_eq m c).symm

end Cert.NormIdeal.Val

end
-- ==== Proof.Nm.NormMem.lean ====
/- The gradient of the memory's norm: the rows' gradient block by block, and the gain's as a sum over the blocks. -/
module

public import proofs.«01_k».proof.Proof.Gen.NormMemIdeal.Value
public import proofs.«01_k».proof.Proof.Gen.NormMemRefIdeal
public import proofs.«01_k».proof.Proof.Gen.NormMemRefIdeal.Read
public import proofs.«01_k».proof.Proof.Gen.NormMemRefIdeal.Run
public import proofs.«01_k».proof.Proof.Gen.Pre_norm_mem_finite
public import proofs.«01_k».proof.Defs
public import proofs.«01_k».proof.Proof.Mm.Base
public import proofs.«01_k».proof.Proof.Nm.Math
public import proofs.«01_k».proof.Proof.Finite
public import proofs.«01_k».proof.Proof.BlockSum

@[expose] public section

set_option maxRecDepth 16384

noncomputable section

namespace Cert.NormMemIdeal.Val

open Cert.NormMemIdeal Cert.NormMemIdeal.Gen Cert.Mm Cert.Nm Cert.AttnMath Idealize.ShloMosaic Idealize.ShloMosaic.TcCoe Idealize.SL.Sem

/-! ## One point of the grid -/

section Cases
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole)
  (x0 : Vec Ideal S256x2048 .f32) (x1 : Vec Ideal S1x2048 .f32) (x2 : Vec Ideal S256x2048 .f32)

/-- At the first point, the gradient of the block's rows. -/
theorem out_A_3 (hc : cond0_0 i) :
    out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S256x2048) hz2, View.ld_unit_zero (S := S1x2048) hz2]

/-- At the first point, the block's term of the gain's gradient, added to the zero row. -/
theorem out_A_4 (hc : cond0_0 i) :
    out0_A_4 c i a1 h1 a2 h2 a3 h3 a4 h4 a5 h5 hc x0 x1 x2 = k0_pay5 x0 x2 (k0_pay4 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x2048) hz2, View.readCov_unit_zero (S := S1x2048) _ hz2]
  simp only [View.readAt_eq_ld, h1.read_unread, h2.read_unread, h3.read_unread, h5.read_unread,
    View.ld_unit_zero (S := S256x2048) hz2, View.ld_unit_zero (S := S1x2048) hz2]

end Cases

/-- The reciprocal of the row's length, as the word the kernel holds. -/
abbrev ic : EReal := Ideal.ofBits .f32 0x3A000000#32

section Pay
variable (x y : Vec Ideal S256x2048 .f32) (g acc : Vec Ideal S1x2048 .f32) (a : Fin 256) (z : Fin 1) (j : Fin 2048)

theorem pay_1 : k0_pay1 (F := Ideal) x (ix2 a z) = rr ic (fun s : Fin 2048 => x (ix2 a s)) := by
  unfold k0_pay1 rr tt
  pointwise

theorem pay_2 : k0_pay2 (F := Ideal) x (ix2 a j) = x (ix2 a j) * rr ic (fun s : Fin 2048 => x (ix2 a s)) := by
  unfold k0_pay2
  pointwise
  rw [pay_1]

theorem pay_3 : k0_pay3 (F := Ideal) x y g (ix2 a j)
    = kdx ic (fun s : Fin 2048 => x (ix2 a s)) (fun s => y (ix2 a s) * g (ix2 0 s)) j := by
  unfold k0_pay3 kdx
  pointwise
  simp only [pay_1, pay_2]

theorem pay_4 : k0_pay4 (F := Ideal) (ix2 z j) = 0 := by
  unfold k0_pay4; pointwise

theorem pay_5 : k0_pay5 (F := Ideal) x y acc (ix2 z j)
    = acc (ix2 z j) + ∑ a : Fin 256, y (ix2 a j) * (x (ix2 a j) * rr ic (fun s : Fin 2048 => x (ix2 a s))) := by
  obtain rfl : z = 0 := Subsingleton.elim _ _
  unfold k0_pay5
  pointwise
  simp only [pay_2]
end Pay

/-! ## The arrays -/

variable (m : (ℓ : Loc nD τ sig) → Buf (Elt Ideal) ℓ) (ρ : Dev nD → PrngReg) (c : Dev nD)

/-- The arguments: the input, the gain and the cotangent. -/
abbrev x0 : S256x2048.Idx → EReal := m ((c : Thread nD τ).loc main_arg0)
abbrev x1 : S2048.Idx → EReal := m ((c : Thread nD τ).loc main_arg1)
abbrev x2 : S256x2048.Idx → EReal := m ((c : Thread nD τ).loc main_arg2)

theorem entry_g (z : Fin 1) (j : Fin 2048) : V m c main_v0 (ix2 z j) = x1 m c (ix1 j) := by
  entry_read
  pointwise

/-- A row of the input, and of the cotangent times the gain. -/
def xrow (r : Fin 256) : Fin 2048 → EReal := fun s => x0 m c (ix2 r s)
def wrow (r : Fin 256) : Fin 2048 → EReal := fun s => x2 m c (ix2 r s) * x1 m c (ix1 s)

/-- Row `a` of block `t`. -/
def row (t : ℕ) (a : Fin 256) : Fin 256 := ⟨256 * (t % 1) + a.val, by omega⟩

theorem idx : ∀ t : Fin cfg0.N, t.val < 1
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem blk0 (t : Fin cfg0.N) (a : Fin 256) (s : Fin 2048) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 256 + 1 * a.val = 256 * (t.val % 1) + a.val; omega
  | ⟨1, _⟩ => show win0_0.index t (1 : Fin 2) * 2048 + 1 * s.val = s.val; omega

theorem blk1 (t : Fin cfg0.N) (z : Fin 1) (s : Fin 2048) : iblk m c 1 t (ix2 z s) = x1 m c (ix1 s) := by
  obtain ⟨ht, -, ⟨e0, e1⟩, -⟩ := idx t
  refine Eq.trans ?_ (entry_g m c z s)
  show V m c main_v0 (((cfg0.win 1).blk t).view.emb (ix2 z s)) = _
  refine congrArg (V m c main_v0) (funext fun y => Fin.ext ?_)
  match y with
  | ⟨0, _⟩ => show win0_1.index t (0 : Fin 2) * 1 + 1 * z.val = z.val; omega
  | ⟨1, _⟩ => show win0_1.index t (1 : Fin 2) * 2048 + 1 * s.val = s.val; omega

theorem blk2 (t : Fin cfg0.N) (a : Fin 256) (s : Fin 2048) : iblk m c 2 t (ix2 a s) = x2 m c (ix2 (row t.val a) s) := by
  obtain ⟨ht, -, -, ⟨e0, e1⟩, -⟩ := idx t
  show V m c main_arg2 (((cfg0.win 2).blk t).view.emb (ix2 a s)) = _
  rw [V_main_arg2]
  refine congrArg (x2 m c) (funext fun y => Fin.ext ?_)
  match y with
  | ⟨0, _⟩ => show win0_2.index t (0 : Fin 2) * 256 + 1 * a.val = 256 * (t.val % 1) + a.val; omega
  | ⟨1, _⟩ => show win0_2.index t (1 : Fin 2) * 2048 + 1 * s.val = s.val; omega

theorem row0 (t : Fin cfg0.N) (a : Fin 256) : (fun s : Fin 2048 => iblk m c 0 t (ix2 a s)) = xrow m c (row t.val a) :=
  funext fun s => blk0 m c t a s

theorem wrow0 (t : Fin cfg0.N) (a : Fin 256) :
    (fun s : Fin 2048 => (show EReal from iblk m c 2 t (ix2 a s)) * (show EReal from iblk m c 1 t (ix2 0 s))) = wrow m c (row t.val a) :=
  funext fun s => congrArg₂ (fun p q : EReal => p * q) (blk2 m c t a s) (blk1 m c t 0 s)

/-- What one row gives the gain's gradient. -/
def gterm (r : Fin 256) (j : Fin 2048) : EReal := x2 m c (ix2 r j) * (x0 m c (ix2 r j) * rr ic (xrow m c r))
/-- What block `i` gives it. -/
def gtm (j : Fin 2048) (i : ℕ) : EReal := ∑ a : Fin 256, if hr : 256 * i + a.val < 256 then gterm m c ⟨256 * i + a.val, hr⟩ j else 0

/-- One point's step of the row of sums. -/
theorem gstep (t : Fin cfg0.N) (acc : Vec Ideal S1x2048 .f32) (z : Fin 1) (j : Fin 2048) :
    k0_pay5 (F := Ideal) (iblk m c 0 t) (iblk m c 2 t) acc (ix2 z j) = acc (ix2 z j) + gtm m c j t.val := by
  obtain ⟨ht, -⟩ := idx t
  rw [pay_5]
  refine congrArg (fun q : EReal => acc (ix2 z j) + q) (Finset.sum_congr rfl fun a _ => ?_)
  rw [dif_pos (show 256 * t.val + a.val < 256 by omega), row0, blk0, blk2]
  have e : row t.val a = ⟨256 * t.val + a.val, by omega⟩ := Fin.ext (by show 256 * (t.val % 1) + a.val = 256 * t.val + a.val; omega)
  rw [e]
  rfl

theorem outs_3 (t : Fin cfg0.N) (a : Fin 256) (j : Fin 2048) :
    (outsAt0 m c t).1 (ix2 a j) = kdx ic (xrow m c (row t.val a)) (wrow m c (row t.val a)) j := by
  unfold outsAt0
  dsimp only
  rw [out_A_3, pay_3, row0, wrow0]

theorem outs_4 (n : ℕ) (hn : n < cfg0.N) (z : Fin 1) (j : Fin 2048) :
    (outsAt0 m c ⟨n, hn⟩).2 (ix2 z j) = ∑ i ∈ Finset.range (n + 1), gtm m c j i := by
  unfold outsAt0
  dsimp only
  have h1 : n = 0 := by
    have : cfg0.N = 1 := by decide +kernel
    omega
  rw [out_A_4, gstep, pay_4]
  subst h1
  simp

/-- What the kernel leaves: the rows' gradient and the gain's. -/
def KX : S256x2048.Idx → EReal := fun i => kdx ic (xrow m c (i 0)) (wrow m c (i 0)) (i 1)
def KG : S1x2048.Idx → EReal := fun i => ∑ r : Fin 256, gterm m c r (i 1)

theorem arr_3 : (dats m 0 c).arrAt 3 cfg0.N = KX m c := by
  refine (dats m 0 c).arrAt_eq_of_covers 3 (KX m c) (by decide +kernel) fun t _ y => ?_
  obtain ⟨ht, -, -, -, ⟨e0, e1⟩, -⟩ := idx t
  rw [after0_3]
  obtain ⟨a, j, rfl⟩ : ∃ (a : Fin 256) (j : Fin 2048), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 256 + 1 * a.val = 256 * (t.val % 1) + a.val; omega
    | ⟨1, _⟩ => show win0_3.index t (1 : Fin 2) * 2048 + 1 * j.val = j.val; omega)
  show (outsAt0 m c t).1 (ix2 a j) = KX m c (((cfg0.win 3).blk t).view.emb (ix2 a j))
  rw [h0, outs_3]
  rfl

theorem arr_4 : (dats m 0 c).arrAt 4 cfg0.N = KG m c := by
  refine (dats m 0 c).arrAt_eq_of_covers 4 (KG m c) (by decide +kernel) fun t hf y => ?_
  obtain ⟨ht, -, -, -, -, ⟨e0, e1⟩⟩ := idx t
  rw [after0_4]
  obtain ⟨z, j, rfl⟩ : ∃ (z : Fin 1) (j : Fin 2048), y = ix2 z j := ⟨y 0, y 1, eta2 y⟩
  have h0 : ((cfg0.win 4).blk t).view.emb (ix2 z j) = ix2 z j := funext fun w => Fin.ext (by
    match w with
    | ⟨0, _⟩ => show win0_4.index t (0 : Fin 2) * 1 + 1 * z.val = z.val; omega
    | ⟨1, _⟩ => show win0_4.index t (1 : Fin 2) * 2048 + 1 * j.val = j.val; omega)
  show (outsAt0 m c t).2 (ix2 z j) = KG m c (((cfg0.win 4).blk t).view.emb (ix2 z j))
  have hl : t.val + 1 = 1 := by omega
  rw [h0, outs_4 m c t.val t.isLt z j, hl]
  exact BlockSum.sum_blocks_fin 1 256 256 rfl (fun r => gterm m c r j)

/-! ## The reference -/

section Ref
open Cert.NormMemRefIdeal Cert.NormMemRefIdeal.Read

variable (x y : (⟨S256x2048, .f32⟩ : BufTy).Contents (Elt Ideal)) (g : (⟨S2048, .f32⟩ : BufTy).Contents (Elt Ideal))
variable (r : Fin 256) (z : Fin 1) (j : Fin 2048)

theorem r6 : val_main_v6 (F := Ideal) x (ix2 r z) = tt ic (fun s : Fin 2048 => x (ix2 r s)) := by
  unfold val_main_v6 val_main_v5 val_main_v4 val_main_v3 val_main_v2 val_main_v1 val_main_v0 val_main_cst val_main_cst_0 val_main_cst_1 tt
  pointwise
  rw [ofBits_2048, div_real _ _ (by norm_num), ← ofBits_inv2048]

theorem r7 : val_main_v7 (F := Ideal) x (ix2 r z) = rr ic (fun s : Fin 2048 => x (ix2 r s)) := by
  unfold val_main_v7 rr
  pointwise
  rw [r6]

theorem r20 : val_main_v20 (F := Ideal) g y (ix2 r j) = y (ix2 r j) * g (ix1 j) := by
  unfold val_main_v20 val_main_v19 val_main_v13
  pointwise

theorem r29 : val_main_v29 (F := Ideal) x g y (ix2 r z)
    = rz ic (Ideal.ofBits .f32 0xBF000000#32) (Ideal.ofBits .f32 0x45000000#32) (fun s : Fin 2048 => x (ix2 r s)) (fun s => y (ix2 r s) * g (ix1 s)) := by
  obtain rfl : z = 0 := Subsingleton.elim _ _
  unfold val_main_v29 val_main_v28 val_main_v27 val_main_v24 val_main_v23 val_main_v22 val_main_v10 val_main_v9 val_main_v8 val_main_cst_2 val_main_cst_5 val_main_cst_6 rz
  pointwise
  simp only [r6, r7, r20]

theorem r35 : val_main_v35 (F := Ideal) x g y (ix2 r j)
    = rdx ic (Ideal.ofBits .f32 0xBF000000#32) (Ideal.ofBits .f32 0x45000000#32) (fun s : Fin 2048 => x (ix2 r s)) (fun s => y (ix2 r s) * g (ix1 s)) j := by
  unfold val_main_v35 val_main_v34 val_main_v33 val_main_v32 val_main_v31 val_main_v30 val_main_v26 val_main_v25 val_main_cst_7 rdx
  pointwise
  simp only [r7, r20, r29, Fin.sum_univ_one]

theorem r36 : val_main_v36 (F := Ideal) x y (ix2 z j)
    = ∑ r : Fin 256, x (ix2 r j) * rr ic (fun s : Fin 2048 => x (ix2 r s)) * y (ix2 r j) := by
  obtain rfl : z = 0 := Subsingleton.elim _ _
  unfold val_main_v36 val_main_v21 val_main_v18 val_main_v17 val_main_v16 val_main_v12 val_main_v11 val_main_cst_3 val_main_cst_4
  pointwise
  simp only [r7, Fin.sum_univ_one]

end Ref

/-! ## The claim -/

open Cert.Pre_norm_mem_finite in
theorem finite_of_pre (x y : S256x2048.Idx → EReal) (g : S2048.Idx → EReal) (h : Cert.Pre_norm_mem_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_norm_mem_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_norm_mem_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.NormMemRefIdeal.Read.val_main_v35 (F := Ideal) (x0 m c) (x1 m c) (x2 m c) := by
  obtain ⟨hx, hg, hy⟩ := hf
  funext i
  obtain ⟨r, j, rfl⟩ : ∃ (r : Fin 256) (j : Fin 2048), i = ix2 r j := ⟨i 0, i 1, eta2 i⟩
  rw [r35, ofBits_neg_half, ofBits_2048]
  show kdx ic (xrow m c r) (wrow m c r) j = _
  unfold ic
  rw [ofBits_inv2048]
  exact kdx_eq_rdx 2048 (by norm_num) (xrow m c r) (wrow m c r) (fun s => hx _) (fun s => (hy _).mul (hg _)) j

theorem dg_eq : KG m c = Cert.NormMemRefIdeal.Read.val_main_v36 (F := Ideal) (x0 m c) (x2 m c) := by
  funext i
  obtain ⟨z, j, rfl⟩ : ∃ (z : Fin 1) (j : Fin 2048), i = ix2 z j := ⟨i 0, i 1, eta2 i⟩
  rw [r36]
  exact Finset.sum_congr rfl fun r _ => mul_comm _ _

/-- At real arguments, both programs leave the same two gradients. -/
theorem algebraic : Cert.algebraic_NormMemIdeal_NormMemRefIdeal_pre_norm_mem_finite := by
  intro m ρ m' ρ' hpre hargs
  refine ⟨fun c => KX m c, fun c => KG m c, ?_, ?_⟩
  · refine (θ_run defs _ _).mono (fun r h c => ?_) (Cert.NormMemIdeal.Value.run_blocks m ρ)
    obtain ⟨h0, h1, h2⟩ := h c
    exact ⟨h0.trans (arr_3 m c), h1.trans (arr_4 m c), h2⟩
  · refine (θ_run Cert.NormMemRefIdeal.defs _ _).mono (fun r h c => ?_) (Cert.NormMemRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.NormMemRefIdeal.Read.val_main_v35_eq, a0, a1, a2]
      exact (dx_eq m c hf).symm
    · rw [Cert.NormMemRefIdeal.Read.val_main_v36_eq, a0, a2]
      exact (dg_eq m c).symm

end Cert.NormMemIdeal.Val

end
-- ==== Proof.Nm.NormQ.lean ====
/- The gradient of the norm of the latent queries: the rows' gradient block by block, and the gain's as a sum over the blocks. -/
module

public import proofs.«01_k».proof.Proof.Gen.NormQIdeal.Value
public import proofs.«01_k».proof.Proof.Gen.NormQRefIdeal
public import proofs.«01_k».proof.Proof.Gen.NormQRefIdeal.Read
public import proofs.«01_k».proof.Proof.Gen.NormQRefIdeal.Run
public import proofs.«01_k».proof.Proof.Gen.Pre_norm_q_finite
public import proofs.«01_k».proof.Defs
public import proofs.«01_k».proof.Proof.Mm.Base
public import proofs.«01_k».proof.Proof.Nm.Math
public import proofs.«01_k».proof.Proof.Finite
public import proofs.«01_k».proof.Proof.BlockSum

@[expose] public section

set_option maxRecDepth 16384

noncomputable section

namespace Cert.NormQIdeal.Val

open Cert.NormQIdeal Cert.NormQIdeal.Gen Cert.Mm Cert.Nm Cert.AttnMath Idealize.ShloMosaic Idealize.ShloMosaic.TcCoe Idealize.SL.Sem

/-! ## One point of the grid -/

section Cases
variable (c : Dev nD) (i : grid0.Coords)
  (a1 : Memref sig .tc .vmem S1024x512 .f32) (h1 : a1.IsWhole) (a2 : Memref sig .tc .vmem S1x512 .f32) (h2 : a2.IsWhole)
  (a3 : Memref sig .tc .vmem S1024x512 .f32) (h3 : a3.IsWhole) (a4 : Memref sig .tc .vmem S1024x512 .f32) (h4 : a4.IsWhole)
  (a5 : Memref sig .tc .vmem S1x512 .f32) (h5 : a5.IsWhole)
  (x0 : Vec Ideal S1024x512 .f32) (x1 : Vec Ideal S1x512 .f32) (x2 : Vec Ideal S1024x512 .f32)

/-- At the first point, the gradient of the block's rows. -/
theorem out_A_3 (hc : cond0_0 i) :
    out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S1024x512) hz2, View.ld_unit_zero (S := S1x512) hz2]

/-- At the first point, the block's term of the gain's gradient, added to the zero row. -/
theorem out_A_4 (hc : cond0_0 i) :
    out0_A_4 c i a1 h1 a2 h2 a3 h3 a4 h4 a5 h5 hc x0 x1 x2 = k0_pay5 x0 x2 (k0_pay4 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x512) hz2, View.readCov_unit_zero (S := S1x512) _ hz2]
  simp only [View.readAt_eq_ld, h1.read_unread, h2.read_unread, h3.read_unread, h5.read_unread,
    View.ld_unit_zero (S := S1024x512) hz2, View.ld_unit_zero (S := S1x512) hz2]

/-- At a later point, the gradient of the block's rows. -/
theorem out_B_3 (hc : ¬cond0_0 i) (xo4 : Vec Ideal S1x512 .f32) :
    out0_B_3 c i a1 h1 a2 h2 a3 h3 a4 h4 a5 h5 hc x0 x1 x2 xo4 = k0_pay3 x0 x2 x1 := by
  unfold out0_B_3
  rw [View.read_writes_eq_canon _ _ _ (cover0_B_3 c i a1 h1 a2 h2 a3 h3 a4 h4 a5 h5 hc x0 x1 x2 xo4)]
  unfold kernelRun0_B
  dsimp only
  sl_unfold_words
  rw [View.canon_unit_zero hz2]
  simp only [View.readAt_eq_ld, h1.read_unread, h2.read_unread, h3.read_unread, h5.read_unread,
    View.ld_unit_zero (S := S1024x512) hz2, View.ld_unit_zero (S := S1x512) hz2]

/-- At a later point, the block's term of the gain's gradient, added to what the point before left. -/
theorem out_B_4 (hc : ¬cond0_0 i) (xo4 : Vec Ideal S1x512 .f32) :
    out0_B_4 c i a1 h1 a2 h2 a3 h3 a4 h4 a5 h5 hc x0 x1 x2 xo4 = k0_pay5 x0 x2 xo4 := by
  unfold out0_B_4
  rw [View.read_writes_eq_canon _ _ _ (cover0_B_4 c i a1 h1 a2 h2 a3 h3 a4 h4 a5 h5 hc x0 x1 x2 xo4)]
  unfold kernelRun0_B
  dsimp only
  sl_unfold_words
  rw [View.canon_unit_zero hz2]
  simp only [View.readAt_eq_ld, h1.read_unread, h2.read_unread, h3.read_unread, h5.read_unread,
    View.ld_unit_zero (S := S1024x512) hz2, View.ld_unit_zero (S := S1x512) hz2]

end Cases

/-- The reciprocal of the row's length, as the word the kernel holds. -/
abbrev ic : EReal := Ideal.ofBits .f32 0x3B000000#32

section Pay
variable (x y : Vec Ideal S1024x512 .f32) (g acc : Vec Ideal S1x512 .f32) (a : Fin 1024) (z : Fin 1) (j : Fin 512)

theorem pay_1 : k0_pay1 (F := Ideal) x (ix2 a z) = rr ic (fun s : Fin 512 => x (ix2 a s)) := by
  unfold k0_pay1 rr tt
  pointwise

theorem pay_2 : k0_pay2 (F := Ideal) x (ix2 a j) = x (ix2 a j) * rr ic (fun s : Fin 512 => x (ix2 a s)) := by
  unfold k0_pay2
  pointwise
  rw [pay_1]

theorem pay_3 : k0_pay3 (F := Ideal) x y g (ix2 a j)
    = kdx ic (fun s : Fin 512 => x (ix2 a s)) (fun s => y (ix2 a s) * g (ix2 0 s)) j := by
  unfold k0_pay3 kdx
  pointwise
  simp only [pay_1, pay_2]

theorem pay_4 : k0_pay4 (F := Ideal) (ix2 z j) = 0 := by
  unfold k0_pay4; pointwise

theorem pay_5 : k0_pay5 (F := Ideal) x y acc (ix2 z j)
    = acc (ix2 z j) + ∑ a : Fin 1024, y (ix2 a j) * (x (ix2 a j) * rr ic (fun s : Fin 512 => x (ix2 a s))) := by
  obtain rfl : z = 0 := Subsingleton.elim _ _
  unfold k0_pay5
  pointwise
  simp only [pay_2]
end Pay

/-! ## The arrays -/

variable (m : (ℓ : Loc nD τ sig) → Buf (Elt Ideal) ℓ) (ρ : Dev nD → PrngReg) (c : Dev nD)

/-- The arguments: the input, the gain and the cotangent. -/
abbrev x0 : S2048x512.Idx → EReal := m ((c : Thread nD τ).loc main_arg0)
abbrev x1 : S512.Idx → EReal := m ((c : Thread nD τ).loc main_arg1)
abbrev x2 : S2048x512.Idx → EReal := m ((c : Thread nD τ).loc main_arg2)

theorem entry_g (z : Fin 1) (j : Fin 512) : V m c main_v0 (ix2 z j) = x1 m c (ix1 j) := by
  entry_read
  pointwise

/-- A row of the input, and of the cotangent times the gain. -/
def xrow (r : Fin 2048) : Fin 512 → EReal := fun s => x0 m c (ix2 r s)
def wrow (r : Fin 2048) : Fin 512 → EReal := fun s => x2 m c (ix2 r s) * x1 m c (ix1 s)

/-- Row `a` of block `t`. -/
def row (t : ℕ) (a : Fin 1024) : Fin 2048 := ⟨1024 * (t % 2) + a.val, by omega⟩

theorem idx : ∀ t : Fin cfg0.N, t.val < 2
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem blk0 (t : Fin cfg0.N) (a : Fin 1024) (s : Fin 512) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 1024 + 1 * a.val = 1024 * (t.val % 2) + a.val; omega
  | ⟨1, _⟩ => show win0_0.index t (1 : Fin 2) * 512 + 1 * s.val = s.val; omega

theorem blk1 (t : Fin cfg0.N) (z : Fin 1) (s : Fin 512) : iblk m c 1 t (ix2 z s) = x1 m c (ix1 s) := by
  obtain ⟨ht, -, ⟨e0, e1⟩, -⟩ := idx t
  refine Eq.trans ?_ (entry_g m c z s)
  show V m c main_v0 (((cfg0.win 1).blk t).view.emb (ix2 z s)) = _
  refine congrArg (V m c main_v0) (funext fun y => Fin.ext ?_)
  match y with
  | ⟨0, _⟩ => show win0_1.index t (0 : Fin 2) * 1 + 1 * z.val = z.val; omega
  | ⟨1, _⟩ => show win0_1.index t (1 : Fin 2) * 512 + 1 * s.val = s.val; omega

theorem blk2 (t : Fin cfg0.N) (a : Fin 1024) (s : Fin 512) : iblk m c 2 t (ix2 a s) = x2 m c (ix2 (row t.val a) s) := by
  obtain ⟨ht, -, -, ⟨e0, e1⟩, -⟩ := idx t
  show V m c main_arg2 (((cfg0.win 2).blk t).view.emb (ix2 a s)) = _
  rw [V_main_arg2]
  refine congrArg (x2 m c) (funext fun y => Fin.ext ?_)
  match y with
  | ⟨0, _⟩ => show win0_2.index t (0 : Fin 2) * 1024 + 1 * a.val = 1024 * (t.val % 2) + a.val; omega
  | ⟨1, _⟩ => show win0_2.index t (1 : Fin 2) * 512 + 1 * s.val = s.val; omega

theorem row0 (t : Fin cfg0.N) (a : Fin 1024) : (fun s : Fin 512 => iblk m c 0 t (ix2 a s)) = xrow m c (row t.val a) :=
  funext fun s => blk0 m c t a s

theorem wrow0 (t : Fin cfg0.N) (a : Fin 1024) :
    (fun s : Fin 512 => (show EReal from iblk m c 2 t (ix2 a s)) * (show EReal from iblk m c 1 t (ix2 0 s))) = wrow m c (row t.val a) :=
  funext fun s => congrArg₂ (fun p q : EReal => p * q) (blk2 m c t a s) (blk1 m c t 0 s)

/-- What one row gives the gain's gradient. -/
def gterm (r : Fin 2048) (j : Fin 512) : EReal := x2 m c (ix2 r j) * (x0 m c (ix2 r j) * rr ic (xrow m c r))
/-- What block `i` gives it. -/
def gtm (j : Fin 512) (i : ℕ) : EReal := ∑ a : Fin 1024, if hr : 1024 * i + a.val < 2048 then gterm m c ⟨1024 * i + a.val, hr⟩ j else 0

/-- One point's step of the row of sums. -/
theorem gstep (t : Fin cfg0.N) (acc : Vec Ideal S1x512 .f32) (z : Fin 1) (j : Fin 512) :
    k0_pay5 (F := Ideal) (iblk m c 0 t) (iblk m c 2 t) acc (ix2 z j) = acc (ix2 z j) + gtm m c j t.val := by
  obtain ⟨ht, -⟩ := idx t
  rw [pay_5]
  refine congrArg (fun q : EReal => acc (ix2 z j) + q) (Finset.sum_congr rfl fun a _ => ?_)
  rw [dif_pos (show 1024 * t.val + a.val < 2048 by omega), row0, blk0, blk2]
  have e : row t.val a = ⟨1024 * t.val + a.val, by omega⟩ := Fin.ext (by show 1024 * (t.val % 2) + a.val = 1024 * t.val + a.val; omega)
  rw [e]
  rfl

theorem outs_3 (t : Fin cfg0.N) (a : Fin 1024) (j : Fin 512) :
    (outsAt0 m c t.val t.isLt).1 (ix2 a j) = kdx ic (xrow m c (row t.val a)) (wrow m c (row t.val a)) j := by
  by_cases h0 : t.val % 2 = 0
  · rw [outsAt0_A m c t h0]
    dsimp only
    rw [out_A_3, pay_3, row0, wrow0]
  · rw [outsAt0_B m c t h0]
    dsimp only
    rw [out_B_3, pay_3, row0, wrow0]

/-- After a point the row of sums holds the terms of the blocks so far. -/
theorem outs_4 : ∀ (n : ℕ) (hn : n < cfg0.N) (z : Fin 1) (j : Fin 512),
    (outsAt0 m c n hn).2 (ix2 z j) = ∑ i ∈ Finset.range (n + 1), gtm m c j i := by
  have hN : cfg0.N = 2 := by decide +kernel
  intro n
  induction n with
  | zero =>
    intro hn z j
    rw [outsAt0_A m c ⟨0, hn⟩ rfl]
    dsimp only
    rw [out_A_4, gstep, pay_4]
    simp
  | succ n ih =>
    intro hn z j
    rw [outsAt0_B m c ⟨n + 1, hn⟩ (by dsimp only; omega)]
    dsimp only
    rw [out_B_4, gstep, Finset.sum_range_succ _ (n + 1)]
    exact congrArg (· + gtm m c j (n + 1)) (ih (by omega) z j)

/-- What the kernel leaves: the rows' gradient and the gain's. -/
def KX : S2048x512.Idx → EReal := fun i => kdx ic (xrow m c (i 0)) (wrow m c (i 0)) (i 1)
def KG : S1x512.Idx → EReal := fun i => ∑ r : Fin 2048, gterm m c r (i 1)

theorem arr_3 : (dats m 0 c).arrAt 3 cfg0.N = KX m c := by
  refine (dats m 0 c).arrAt_eq_of_covers 3 (KX m c) (by decide +kernel) fun t _ y => ?_
  obtain ⟨ht, -, -, -, ⟨e0, e1⟩, -⟩ := idx t
  rw [after0_3]
  obtain ⟨a, j, rfl⟩ : ∃ (a : Fin 1024) (j : Fin 512), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 1024 + 1 * a.val = 1024 * (t.val % 2) + a.val; omega
    | ⟨1, _⟩ => show win0_3.index t (1 : Fin 2) * 512 + 1 * j.val = j.val; omega)
  show (outsAt0 m c t.val t.isLt).1 (ix2 a j) = KX m c (((cfg0.win 3).blk t).view.emb (ix2 a j))
  rw [h0, outs_3]
  rfl

theorem arr_4 : (dats m 0 c).arrAt 4 cfg0.N = KG m c := by
  refine (dats m 0 c).arrAt_eq_of_covers 4 (KG m c) (by decide +kernel) fun t hf y => ?_
  obtain ⟨ht, -, -, -, -, ⟨e0, e1⟩⟩ := idx t
  rw [after0_4]
  obtain ⟨z, j, rfl⟩ : ∃ (z : Fin 1) (j : Fin 512), y = ix2 z j := ⟨y 0, y 1, eta2 y⟩
  have h0 : ((cfg0.win 4).blk t).view.emb (ix2 z j) = ix2 z j := funext fun w => Fin.ext (by
    match w with
    | ⟨0, _⟩ => show win0_4.index t (0 : Fin 2) * 1 + 1 * z.val = z.val; omega
    | ⟨1, _⟩ => show win0_4.index t (1 : Fin 2) * 512 + 1 * j.val = j.val; omega)
  show (outsAt0 m c t.val t.isLt).2 (ix2 z j) = KG m c (((cfg0.win 4).blk t).view.emb (ix2 z j))
  have hl : t.val + 1 = 2 := by have h := (flush0_4 t).mp hf; omega
  rw [h0, outs_4 m c t.val t.isLt z j, hl]
  exact BlockSum.sum_blocks_fin 2 1024 2048 rfl (fun r => gterm m c r j)

/-! ## The reference -/

section Ref
open Cert.NormQRefIdeal Cert.NormQRefIdeal.Read

variable (x y : (⟨S2048x512, .f32⟩ : BufTy).Contents (Elt Ideal)) (g : (⟨S512, .f32⟩ : BufTy).Contents (Elt Ideal))
variable (r : Fin 2048) (z : Fin 1) (j : Fin 512)

theorem r6 : val_main_v6 (F := Ideal) x (ix2 r z) = tt ic (fun s : Fin 512 => x (ix2 r s)) := by
  unfold val_main_v6 val_main_v5 val_main_v4 val_main_v3 val_main_v2 val_main_v1 val_main_v0 val_main_cst val_main_cst_0 val_main_cst_1 tt
  pointwise
  rw [ofBits_512, div_real _ _ (by norm_num), ← ofBits_inv512]

theorem r7 : val_main_v7 (F := Ideal) x (ix2 r z) = rr ic (fun s : Fin 512 => x (ix2 r s)) := by
  unfold val_main_v7 rr
  pointwise
  rw [r6]

theorem r20 : val_main_v20 (F := Ideal) g y (ix2 r j) = y (ix2 r j) * g (ix1 j) := by
  unfold val_main_v20 val_main_v19 val_main_v13
  pointwise

theorem r29 : val_main_v29 (F := Ideal) x g y (ix2 r z)
    = rz ic (Ideal.ofBits .f32 0xBF000000#32) (Ideal.ofBits .f32 0x44000000#32) (fun s : Fin 512 => x (ix2 r s)) (fun s => y (ix2 r s) * g (ix1 s)) := by
  obtain rfl : z = 0 := Subsingleton.elim _ _
  unfold val_main_v29 val_main_v28 val_main_v27 val_main_v24 val_main_v23 val_main_v22 val_main_v10 val_main_v9 val_main_v8 val_main_cst_2 val_main_cst_5 val_main_cst_6 rz
  pointwise
  simp only [r6, r7, r20]

theorem r35 : val_main_v35 (F := Ideal) x g y (ix2 r j)
    = rdx ic (Ideal.ofBits .f32 0xBF000000#32) (Ideal.ofBits .f32 0x44000000#32) (fun s : Fin 512 => x (ix2 r s)) (fun s => y (ix2 r s) * g (ix1 s)) j := by
  unfold val_main_v35 val_main_v34 val_main_v33 val_main_v32 val_main_v31 val_main_v30 val_main_v26 val_main_v25 val_main_cst_7 rdx
  pointwise
  simp only [r7, r20, r29, Fin.sum_univ_one]

theorem r36 : val_main_v36 (F := Ideal) x y (ix2 z j)
    = ∑ r : Fin 2048, x (ix2 r j) * rr ic (fun s : Fin 512 => x (ix2 r s)) * y (ix2 r j) := by
  obtain rfl : z = 0 := Subsingleton.elim _ _
  unfold val_main_v36 val_main_v21 val_main_v18 val_main_v17 val_main_v16 val_main_v12 val_main_v11 val_main_cst_3 val_main_cst_4
  pointwise
  simp only [r7, Fin.sum_univ_one]

end Ref

/-! ## The claim -/

open Cert.Pre_norm_q_finite in
theorem finite_of_pre (x y : S2048x512.Idx → EReal) (g : S512.Idx → EReal) (h : Cert.Pre_norm_q_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_norm_q_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_norm_q_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.NormQRefIdeal.Read.val_main_v35 (F := Ideal) (x0 m c) (x1 m c) (x2 m c) := by
  obtain ⟨hx, hg, hy⟩ := hf
  funext i
  obtain ⟨r, j, rfl⟩ : ∃ (r : Fin 2048) (j : Fin 512), i = ix2 r j := ⟨i 0, i 1, eta2 i⟩
  rw [r35, ofBits_neg_half, ofBits_512]
  show kdx ic (xrow m c r) (wrow m c r) j = _
  unfold ic
  rw [ofBits_inv512]
  exact kdx_eq_rdx 512 (by norm_num) (xrow m c r) (wrow m c r) (fun s => hx _) (fun s => (hy _).mul (hg _)) j

theorem dg_eq : KG m c = Cert.NormQRefIdeal.Read.val_main_v36 (F := Ideal) (x0 m c) (x2 m c) := by
  funext i
  obtain ⟨z, j, rfl⟩ : ∃ (z : Fin 1) (j : Fin 512), i = ix2 z j := ⟨i 0, i 1, eta2 i⟩
  rw [r36]
  exact Finset.sum_congr rfl fun r _ => mul_comm _ _

/-- At real arguments, both programs leave the same two gradients. -/
theorem algebraic : Cert.algebraic_NormQIdeal_NormQRefIdeal_pre_norm_q_finite := by
  intro m ρ m' ρ' hpre hargs
  refine ⟨fun c => KX m c, fun c => KG m c, ?_, ?_⟩
  · refine (θ_run defs _ _).mono (fun r h c => ?_) (Cert.NormQIdeal.Value.run_blocks m ρ)
    obtain ⟨h0, h1, h2⟩ := h c
    exact ⟨h0.trans (arr_3 m c), h1.trans (arr_4 m c), h2⟩
  · refine (θ_run Cert.NormQRefIdeal.defs _ _).mono (fun r h c => ?_) (Cert.NormQRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.NormQRefIdeal.Read.val_main_v35_eq, a0, a1, a2]
      exact (dx_eq m c hf).symm
    · rw [Cert.NormQRefIdeal.Read.val_main_v36_eq, a0, a2]
      exact (dg_eq m c).symm

end Cert.NormQIdeal.Val

end
-- ==== Proof.Nm.NormKv.lean ====
/- The gradient of the norm of the latent keys and values: the rows' gradient block by block, and the gain's as a sum over the blocks. -/
module

public import proofs.«01_k».proof.Proof.Gen.NormKvIdeal.Value
public import proofs.«01_k».proof.Proof.Gen.NormKvRefIdeal
public import proofs.«01_k».proof.Proof.Gen.NormKvRefIdeal.Read
public import proofs.«01_k».proof.Proof.Gen.NormKvRefIdeal.Run
public import proofs.«01_k».proof.Proof.Gen.Pre_norm_kv_finite
public import proofs.«01_k».proof.Defs
public import proofs.«01_k».proof.Proof.Mm.Base
public import proofs.«01_k».proof.Proof.Nm.Math
public import proofs.«01_k».proof.Proof.Finite
public import proofs.«01_k».proof.Proof.BlockSum

@[expose] public section

set_option maxRecDepth 16384

noncomputable section

namespace Cert.NormKvIdeal.Val

open Cert.NormKvIdeal Cert.NormKvIdeal.Gen Cert.Mm Cert.Nm Cert.AttnMath Idealize.ShloMosaic Idealize.ShloMosaic.TcCoe Idealize.SL.Sem

/-! ## One point of the grid -/

section Cases
variable (c : Dev nD) (i : grid0.Coords)
  (a1 : Memref sig .tc .vmem S2048x256 .f32) (h1 : a1.IsWhole) (a2 : Memref sig .tc .vmem S1x256 .f32) (h2 : a2.IsWhole)
  (a3 : Memref sig .tc .vmem S2048x256 .f32) (h3 : a3.IsWhole) (a4 : Memref sig .tc .vmem S2048x256 .f32) (h4 : a4.IsWhole)
  (a5 : Memref sig .tc .vmem S1x256 .f32) (h5 : a5.IsWhole)
  (x0 : Vec Ideal S2048x256 .f32) (x1 : Vec Ideal S1x256 .f32) (x2 : Vec Ideal S2048x256 .f32)

/-- At the first point, the gradient of the block's rows. -/
theorem out_A_3 (hc : cond0_0 i) :
    out0_A_3 c i a1 h1 a2 h2 a3 h3 a4 h4 a5 h5 hc x0 x1 x2 = k0_pay3 x0 x2 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S2048x256) hz2, View.ld_unit_zero (S := S1x256) hz2]

/-- At the first point, the block's term of the gain's gradient, added to the zero row. -/
theorem out_A_4 (hc : cond0_0 i) :
    out0_A_4 c i a1 h1 a2 h2 a3 h3 a4 h4 a5 h5 hc x0 x1 x2 = k0_pay5 x0 x2 (k0_pay4 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x256) hz2, View.readCov_unit_zero (S := S1x256) _ hz2]
  simp only [View.readAt_eq_ld, h1.read_unread, h2.read_unread, h3.read_unread, h5.read_unread,
    View.ld_unit_zero (S := S2048x256) hz2, View.ld_unit_zero (S := S1x256) hz2]

end Cases

/-- The reciprocal of the row's length, as the word the kernel holds. -/
abbrev ic : EReal := Ideal.ofBits .f32 0x3B800000#32

section Pay
variable (x y : Vec Ideal S2048x256 .f32) (g acc : Vec Ideal S1x256 .f32) (a : Fin 2048) (z : Fin 1) (j : Fin 256)

theorem pay_1 : k0_pay1 (F := Ideal) x (ix2 a z) = rr ic (fun s : Fin 256 => x (ix2 a s)) := by
  unfold k0_pay1 rr tt
  pointwise

theorem pay_2 : k0_pay2 (F := Ideal) x (ix2 a j) = x (ix2 a j) * rr ic (fun s : Fin 256 => x (ix2 a s)) := by
  unfold k0_pay2
  pointwise
  rw [pay_1]

theorem pay_3 : k0_pay3 (F := Ideal) x y g (ix2 a j)
    = kdx ic (fun s : Fin 256 => x (ix2 a s)) (fun s => y (ix2 a s) * g (ix2 0 s)) j := by
  unfold k0_pay3 kdx
  pointwise
  simp only [pay_1, pay_2]

theorem pay_4 : k0_pay4 (F := Ideal) (ix2 z j) = 0 := by
  unfold k0_pay4; pointwise

theorem pay_5 : k0_pay5 (F := Ideal) x y acc (ix2 z j)
    = acc (ix2 z j) + ∑ a : Fin 2048, y (ix2 a j) * (x (ix2 a j) * rr ic (fun s : Fin 256 => x (ix2 a s))) := by
  obtain rfl : z = 0 := Subsingleton.elim _ _
  unfold k0_pay5
  pointwise
  simp only [pay_2]
end Pay

/-! ## The arrays -/

variable (m : (ℓ : Loc nD τ sig) → Buf (Elt Ideal) ℓ) (ρ : Dev nD → PrngReg) (c : Dev nD)

/-- The arguments: the input, the gain and the cotangent. -/
abbrev x0 : S2048x256.Idx → EReal := m ((c : Thread nD τ).loc main_arg0)
abbrev x1 : S256.Idx → EReal := m ((c : Thread nD τ).loc main_arg1)
abbrev x2 : S2048x256.Idx → EReal := m ((c : Thread nD τ).loc main_arg2)

theorem entry_g (z : Fin 1) (j : Fin 256) : V m c main_v0 (ix2 z j) = x1 m c (ix1 j) := by
  entry_read
  pointwise

/-- A row of the input, and of the cotangent times the gain. -/
def xrow (r : Fin 2048) : Fin 256 → EReal := fun s => x0 m c (ix2 r s)
def wrow (r : Fin 2048) : Fin 256 → EReal := fun s => x2 m c (ix2 r s) * x1 m c (ix1 s)

/-- Row `a` of block `t`. -/
def row (t : ℕ) (a : Fin 2048) : Fin 2048 := ⟨2048 * (t % 1) + a.val, by omega⟩

theorem idx : ∀ t : Fin cfg0.N, t.val < 1
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem blk0 (t : Fin cfg0.N) (a : Fin 2048) (s : Fin 256) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 2048 + 1 * a.val = 2048 * (t.val % 1) + a.val; omega
  | ⟨1, _⟩ => show win0_0.index t (1 : Fin 2) * 256 + 1 * s.val = s.val; omega

theorem blk1 (t : Fin cfg0.N) (z : Fin 1) (s : Fin 256) : iblk m c 1 t (ix2 z s) = x1 m c (ix1 s) := by
  obtain ⟨ht, -, ⟨e0, e1⟩, -⟩ := idx t
  refine Eq.trans ?_ (entry_g m c z s)
  show V m c main_v0 (((cfg0.win 1).blk t).view.emb (ix2 z s)) = _
  refine congrArg (V m c main_v0) (funext fun y => Fin.ext ?_)
  match y with
  | ⟨0, _⟩ => show win0_1.index t (0 : Fin 2) * 1 + 1 * z.val = z.val; omega
  | ⟨1, _⟩ => show win0_1.index t (1 : Fin 2) * 256 + 1 * s.val = s.val; omega

theorem blk2 (t : Fin cfg0.N) (a : Fin 2048) (s : Fin 256) : iblk m c 2 t (ix2 a s) = x2 m c (ix2 (row t.val a) s) := by
  obtain ⟨ht, -, -, ⟨e0, e1⟩, -⟩ := idx t
  show V m c main_arg2 (((cfg0.win 2).blk t).view.emb (ix2 a s)) = _
  rw [V_main_arg2]
  refine congrArg (x2 m c) (funext fun y => Fin.ext ?_)
  match y with
  | ⟨0, _⟩ => show win0_2.index t (0 : Fin 2) * 2048 + 1 * a.val = 2048 * (t.val % 1) + a.val; omega
  | ⟨1, _⟩ => show win0_2.index t (1 : Fin 2) * 256 + 1 * s.val = s.val; omega

theorem row0 (t : Fin cfg0.N) (a : Fin 2048) : (fun s : Fin 256 => iblk m c 0 t (ix2 a s)) = xrow m c (row t.val a) :=
  funext fun s => blk0 m c t a s

theorem wrow0 (t : Fin cfg0.N) (a : Fin 2048) :
    (fun s : Fin 256 => (show EReal from iblk m c 2 t (ix2 a s)) * (show EReal from iblk m c 1 t (ix2 0 s))) = wrow m c (row t.val a) :=
  funext fun s => congrArg₂ (fun p q : EReal => p * q) (blk2 m c t a s) (blk1 m c t 0 s)

/-- What one row gives the gain's gradient. -/
def gterm (r : Fin 2048) (j : Fin 256) : EReal := x2 m c (ix2 r j) * (x0 m c (ix2 r j) * rr ic (xrow m c r))
/-- What block `i` gives it. -/
def gtm (j : Fin 256) (i : ℕ) : EReal := ∑ a : Fin 2048, if hr : 2048 * i + a.val < 2048 then gterm m c ⟨2048 * i + a.val, hr⟩ j else 0

/-- One point's step of the row of sums. -/
theorem gstep (t : Fin cfg0.N) (acc : Vec Ideal S1x256 .f32) (z : Fin 1) (j : Fin 256) :
    k0_pay5 (F := Ideal) (iblk m c 0 t) (iblk m c 2 t) acc (ix2 z j) = acc (ix2 z j) + gtm m c j t.val := by
  obtain ⟨ht, -⟩ := idx t
  rw [pay_5]
  refine congrArg (fun q : EReal => acc (ix2 z j) + q) (Finset.sum_congr rfl fun a _ => ?_)
  rw [dif_pos (show 2048 * t.val + a.val < 2048 by omega), row0, blk0, blk2]
  have e : row t.val a = ⟨2048 * t.val + a.val, by omega⟩ := Fin.ext (by show 2048 * (t.val % 1) + a.val = 2048 * t.val + a.val; omega)
  rw [e]
  rfl

theorem outs_3 (t : Fin cfg0.N) (a : Fin 2048) (j : Fin 256) :
    (outsAt0 m c t).1 (ix2 a j) = kdx ic (xrow m c (row t.val a)) (wrow m c (row t.val a)) j := by
  unfold outsAt0
  dsimp only
  rw [out_A_3, pay_3, row0, wrow0]

theorem outs_4 (n : ℕ) (hn : n < cfg0.N) (z : Fin 1) (j : Fin 256) :
    (outsAt0 m c ⟨n, hn⟩).2 (ix2 z j) = ∑ i ∈ Finset.range (n + 1), gtm m c j i := by
  unfold outsAt0
  dsimp only
  have h1 : n = 0 := by
    have : cfg0.N = 1 := by decide +kernel
    omega
  rw [out_A_4, gstep, pay_4]
  subst h1
  simp

/-- What the kernel leaves: the rows' gradient and the gain's. -/
def KX : S2048x256.Idx → EReal := fun i => kdx ic (xrow m c (i 0)) (wrow m c (i 0)) (i 1)
def KG : S1x256.Idx → EReal := fun i => ∑ r : Fin 2048, gterm m c r (i 1)

theorem arr_3 : (dats m 0 c).arrAt 3 cfg0.N = KX m c := by
  refine (dats m 0 c).arrAt_eq_of_covers 3 (KX m c) (by decide +kernel) fun t _ y => ?_
  obtain ⟨ht, -, -, -, ⟨e0, e1⟩, -⟩ := idx t
  rw [after0_3]
  obtain ⟨a, j, rfl⟩ : ∃ (a : Fin 2048) (j : Fin 256), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 2048 + 1 * a.val = 2048 * (t.val % 1) + a.val; omega
    | ⟨1, _⟩ => show win0_3.index t (1 : Fin 2) * 256 + 1 * j.val = j.val; omega)
  show (outsAt0 m c t).1 (ix2 a j) = KX m c (((cfg0.win 3).blk t).view.emb (ix2 a j))
  rw [h0, outs_3]
  rfl

theorem arr_4 : (dats m 0 c).arrAt 4 cfg0.N = KG m c := by
  refine (dats m 0 c).arrAt_eq_of_covers 4 (KG m c) (by decide +kernel) fun t hf y => ?_
  obtain ⟨ht, -, -, -, -, ⟨e0, e1⟩⟩ := idx t
  rw [after0_4]
  obtain ⟨z, j, rfl⟩ : ∃ (z : Fin 1) (j : Fin 256), y = ix2 z j := ⟨y 0, y 1, eta2 y⟩
  have h0 : ((cfg0.win 4).blk t).view.emb (ix2 z j) = ix2 z j := funext fun w => Fin.ext (by
    match w with
    | ⟨0, _⟩ => show win0_4.index t (0 : Fin 2) * 1 + 1 * z.val = z.val; omega
    | ⟨1, _⟩ => show win0_4.index t (1 : Fin 2) * 256 + 1 * j.val = j.val; omega)
  show (outsAt0 m c t).2 (ix2 z j) = KG m c (((cfg0.win 4).blk t).view.emb (ix2 z j))
  have hl : t.val + 1 = 1 := by omega
  rw [h0, outs_4 m c t.val t.isLt z j, hl]
  exact BlockSum.sum_blocks_fin 1 2048 2048 rfl (fun r => gterm m c r j)

/-! ## The reference -/

section Ref
open Cert.NormKvRefIdeal Cert.NormKvRefIdeal.Read

variable (x y : (⟨S2048x256, .f32⟩ : BufTy).Contents (Elt Ideal)) (g : (⟨S256, .f32⟩ : BufTy).Contents (Elt Ideal))
variable (r : Fin 2048) (z : Fin 1) (j : Fin 256)

theorem r6 : val_main_v6 (F := Ideal) x (ix2 r z) = tt ic (fun s : Fin 256 => x (ix2 r s)) := by
  unfold val_main_v6 val_main_v5 val_main_v4 val_main_v3 val_main_v2 val_main_v1 val_main_v0 val_main_cst val_main_cst_0 val_main_cst_1 tt
  pointwise
  rw [ofBits_256, div_real _ _ (by norm_num), ← ofBits_inv256]

theorem r7 : val_main_v7 (F := Ideal) x (ix2 r z) = rr ic (fun s : Fin 256 => x (ix2 r s)) := by
  unfold val_main_v7 rr
  pointwise
  rw [r6]

theorem r20 : val_main_v20 (F := Ideal) g y (ix2 r j) = y (ix2 r j) * g (ix1 j) := by
  unfold val_main_v20 val_main_v19 val_main_v13
  pointwise

theorem r29 : val_main_v29 (F := Ideal) x g y (ix2 r z)
    = rz ic (Ideal.ofBits .f32 0xBF000000#32) (Ideal.ofBits .f32 0x43800000#32) (fun s : Fin 256 => x (ix2 r s)) (fun s => y (ix2 r s) * g (ix1 s)) := by
  obtain rfl : z = 0 := Subsingleton.elim _ _
  unfold val_main_v29 val_main_v28 val_main_v27 val_main_v24 val_main_v23 val_main_v22 val_main_v10 val_main_v9 val_main_v8 val_main_cst_2 val_main_cst_5 val_main_cst_6 rz
  pointwise
  simp only [r6, r7, r20]

theorem r35 : val_main_v35 (F := Ideal) x g y (ix2 r j)
    = rdx ic (Ideal.ofBits .f32 0xBF000000#32) (Ideal.ofBits .f32 0x43800000#32) (fun s : Fin 256 => x (ix2 r s)) (fun s => y (ix2 r s) * g (ix1 s)) j := by
  unfold val_main_v35 val_main_v34 val_main_v33 val_main_v32 val_main_v31 val_main_v30 val_main_v26 val_main_v25 val_main_cst_7 rdx
  pointwise
  simp only [r7, r20, r29, Fin.sum_univ_one]

theorem r36 : val_main_v36 (F := Ideal) x y (ix2 z j)
    = ∑ r : Fin 2048, x (ix2 r j) * rr ic (fun s : Fin 256 => x (ix2 r s)) * y (ix2 r j) := by
  obtain rfl : z = 0 := Subsingleton.elim _ _
  unfold val_main_v36 val_main_v21 val_main_v18 val_main_v17 val_main_v16 val_main_v12 val_main_v11 val_main_cst_3 val_main_cst_4
  pointwise
  simp only [r7, Fin.sum_univ_one]

end Ref

/-! ## The claim -/

open Cert.Pre_norm_kv_finite in
theorem finite_of_pre (x y : S2048x256.Idx → EReal) (g : S256.Idx → EReal) (h : Cert.Pre_norm_kv_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_norm_kv_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_norm_kv_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.NormKvRefIdeal.Read.val_main_v35 (F := Ideal) (x0 m c) (x1 m c) (x2 m c) := by
  obtain ⟨hx, hg, hy⟩ := hf
  funext i
  obtain ⟨r, j, rfl⟩ : ∃ (r : Fin 2048) (j : Fin 256), i = ix2 r j := ⟨i 0, i 1, eta2 i⟩
  rw [r35, ofBits_neg_half, ofBits_256]
  show kdx ic (xrow m c r) (wrow m c r) j = _
  unfold ic
  rw [ofBits_inv256]
  exact kdx_eq_rdx 256 (by norm_num) (xrow m c r) (wrow m c r) (fun s => hx _) (fun s => (hy _).mul (hg _)) j

theorem dg_eq : KG m c = Cert.NormKvRefIdeal.Read.val_main_v36 (F := Ideal) (x0 m c) (x2 m c) := by
  funext i
  obtain ⟨z, j, rfl⟩ : ∃ (z : Fin 1) (j : Fin 256), i = ix2 z j := ⟨i 0, i 1, eta2 i⟩
  rw [r36]
  exact Finset.sum_congr rfl fun r _ => mul_comm _ _

/-- At real arguments, both programs leave the same two gradients. -/
theorem algebraic : Cert.algebraic_NormKvIdeal_NormKvRefIdeal_pre_norm_kv_finite := by
  intro m ρ m' ρ' hpre hargs
  refine ⟨fun c => KX m c, fun c => KG m c, ?_, ?_⟩
  · refine (θ_run defs _ _).mono (fun r h c => ?_) (Cert.NormKvIdeal.Value.run_blocks m ρ)
    obtain ⟨h0, h1, h2⟩ := h c
    exact ⟨h0.trans (arr_3 m c), h1.trans (arr_4 m c), h2⟩
  · refine (θ_run Cert.NormKvRefIdeal.defs _ _).mono (fun r h c => ?_) (Cert.NormKvRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.NormKvRefIdeal.Read.val_main_v35_eq, a0, a1, a2]
      exact (dx_eq m c hf).symm
    · rw [Cert.NormKvRefIdeal.Read.val_main_v36_eq, a0, a2]
      exact (dg_eq m c).symm

end Cert.NormKvIdeal.Val

end
-- ==== Proof.Nm.Loss.lean ====
/- The loss and its gradient: the loss as a sum over the blocks of rows, the gradient block by block. -/
module

public import proofs.«01_k».proof.Proof.Gen.LossIdeal.Value
public import proofs.«01_k».proof.Proof.Gen.LossRefIdeal
public import proofs.«01_k».proof.Proof.Gen.LossRefIdeal.Read
public import proofs.«01_k».proof.Proof.Gen.LossRefIdeal.Run
public import proofs.«01_k».proof.Defs
public import proofs.«01_k».proof.Proof.Mm.Base
public import proofs.«01_k».proof.Proof.Nm.Math
public import proofs.«01_k».proof.Proof.BlockSum

@[expose] public section

set_option maxRecDepth 16384

noncomputable section

namespace Cert.LossIdeal.Val

open Cert.LossIdeal Cert.LossIdeal.Gen Cert.Mm Cert.Nm Idealize.ShloMosaic Idealize.ShloMosaic.TcCoe Idealize.SL.Sem

/-! ## Sums of squares over the extended reals -/

theorem sq_nonneg (d : EReal) : 0 ≤ d * d := by
  rcases le_total 0 d with h | h
  · exact mul_nonneg h h
  · have := mul_nonneg (EReal.neg_nonneg.mpr h) (EReal.neg_nonneg.mpr h)
    rwa [neg_mul_neg] at this

/-- A factor comes out of a sum of terms none of which is negative. -/
theorem mul_sum_nonneg {ι : Type} (s : Finset ι) (k : EReal) (f : ι → EReal) (hf : ∀ i, 0 ≤ f i) :
    k * ∑ i ∈ s, f i = ∑ i ∈ s, k * f i := by
  classical
  induction s using Finset.induction_on with
  | empty => simp
  | insert a s ha ih =>
    rw [Finset.sum_insert ha, Finset.sum_insert ha, EReal.left_distrib_of_nonneg (hf a) (Finset.sum_nonneg fun i _ => hf i), ih]

/-! ## One point of the grid -/

section Cases
variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S8x128 .f32) (h3 : a3.IsWhole) (a4 : Memref sig .tc .vmem S256x2048 .f32) (h4 : a4.IsWhole)
  (x0 x1 : Vec Ideal S256x2048 .f32)

/-- At the first point, the block's term of the loss, added to zero. -/
theorem out_A_2 (hc : cond0_0 i) :
    out0_A_2 c i a1 h1 a2 h2 a3 h3 a4 h4 hc x0 x1 = k0_pay4 x0 x1 (k0_pay3 (F := Ideal)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S8x128) hz2, View.readCov_unit_zero (S := S8x128) _ hz2]
  simp only [View.readAt_eq_ld, h1.read_unread, h2.read_unread, h3.read_unread,
    View.ld_unit_zero (S := S256x2048) hz2, View.ld_unit_zero (S := S8x128) hz2]

/-- At the first point, the gradient of the block's rows. -/
theorem out_A_3 (hc : cond0_0 i) :
    out0_A_3 c i a1 h1 a2 h2 a3 h3 a4 h4 hc x0 x1 = k0_pay2 x0 x1 := by
  unfold out0_A_3
  rw [View.read_writes_eq_canon _ _ _ (cover0_A_3 c i a1 h1 a2 h2 a3 h3 a4 h4 hc x0 x1)]
  unfold kernelRun0_A
  dsimp only
  sl_unfold_words
  rw [View.canon_unit_zero hz2]
  simp only [View.readAt_eq_ld, h1.read_unread, h2.read_unread, h3.read_unread,
    View.ld_unit_zero (S := S256x2048) hz2, View.ld_unit_zero (S := S8x128) hz2]

/-- At a later point, the block's term of the loss, added to what the point before left. -/
theorem out_B_2 (hc : ¬cond0_0 i) (xo2 : Vec Ideal S8x128 .f32) :
    out0_B_2 c i a1 h1 a2 h2 a3 h3 a4 h4 hc x0 x1 xo2 = k0_pay4 x0 x1 xo2 := by
  unfold out0_B_2
  rw [View.read_writes_eq_canon _ _ _ (cover0_B_2 c i a1 h1 a2 h2 a3 h3 a4 h4 hc x0 x1 xo2)]
  unfold kernelRun0_B
  dsimp only
  sl_unfold_words
  rw [View.canon_unit_zero hz2]
  simp only [View.readAt_eq_ld, h1.read_unread, h2.read_unread, h3.read_unread,
    View.ld_unit_zero (S := S256x2048) hz2, View.ld_unit_zero (S := S8x128) hz2]

/-- At a later point, the gradient of the block's rows. -/
theorem out_B_3 (hc : ¬cond0_0 i) (xo2 : Vec Ideal S8x128 .f32) :
    out0_B_3 c i a1 h1 a2 h2 a3 h3 a4 h4 hc x0 x1 xo2 = k0_pay2 x0 x1 := by
  unfold out0_B_3
  rw [View.read_writes_eq_canon _ _ _ (cover0_B_3 c i a1 h1 a2 h2 a3 h3 a4 h4 hc x0 x1 xo2)]
  unfold kernelRun0_B
  dsimp only
  sl_unfold_words
  rw [View.canon_unit_zero hz2]
  simp only [View.readAt_eq_ld, h1.read_unread, h2.read_unread, h3.read_unread,
    View.ld_unit_zero (S := S256x2048) hz2, View.ld_unit_zero (S := S8x128) hz2]

end Cases

/-- The two constants, as the words the kernel holds: the reciprocal of the row's length, and its half. -/
abbrev ic : EReal := Ideal.ofBits .f32 0x3A000000#32
abbrev hc : EReal := Ideal.ofBits .f32 0x39800000#32

section Pay
variable (x y : Vec Ideal S256x2048 .f32) (acc : Vec Ideal S8x128 .f32) (a : Fin 256) (j : Fin 2048) (p : Fin 8) (q : Fin 128)

theorem pay_2 : k0_pay2 (F := Ideal) x y (ix2 a j) = (x (ix2 a j) - y (ix2 a j)) * ic := by
  unfold k0_pay2 k0_pay1
  pointwise

theorem pay_3 : k0_pay3 (F := Ideal) (ix2 p q) = 0 := by
  unfold k0_pay3; pointwise

theorem pay_4 : k0_pay4 (F := Ideal) x y acc (ix2 p q)
    = acc (ix2 p q) + hc * ∑ a : Fin 256, ∑ s : Fin 2048, (x (ix2 a s) - y (ix2 a s)) * (x (ix2 a s) - y (ix2 a s)) := by
  unfold k0_pay4 k0_pay1
  pointwise
end Pay

/-! ## The arrays -/

variable (m : (ℓ : Loc nD τ sig) → Buf (Elt Ideal) ℓ) (ρ : Dev nD → PrngReg) (c : Dev nD)

/-- The arguments: the output and the target. -/
abbrev x0 : S2048x2048.Idx → EReal := m ((c : Thread nD τ).loc main_arg0)
abbrev x1 : S2048x2048.Idx → EReal := m ((c : Thread nD τ).loc main_arg1)

/-- The difference's entry. -/
def df (r j : Fin 2048) : EReal := x0 m c (ix2 r j) - x1 m c (ix2 r j)

/-- Row `a` of block `t`. -/
def row (t : ℕ) (a : Fin 256) : Fin 2048 := ⟨256 * (t % 8) + a.val, by omega⟩

theorem idx : ∀ t : Fin cfg0.N, t.val < 8
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem blk0 (t : Fin cfg0.N) (a : Fin 256) (s : Fin 2048) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 256 + 1 * a.val = 256 * (t.val % 8) + a.val; omega
  | ⟨1, _⟩ => show win0_0.index t (1 : Fin 2) * 2048 + 1 * s.val = s.val; omega

theorem blk1 (t : Fin cfg0.N) (a : Fin 256) (s : Fin 2048) : iblk m c 1 t (ix2 a s) = x1 m c (ix2 (row t.val a) s) := by
  obtain ⟨ht, -, ⟨e0, e1⟩, -⟩ := idx t
  show V m c main_arg1 (((cfg0.win 1).blk t).view.emb (ix2 a s)) = _
  rw [V_main_arg1]
  refine congrArg (x1 m c) (funext fun y => Fin.ext ?_)
  match y with
  | ⟨0, _⟩ => show win0_1.index t (0 : Fin 2) * 256 + 1 * a.val = 256 * (t.val % 8) + a.val; omega
  | ⟨1, _⟩ => show win0_1.index t (1 : Fin 2) * 2048 + 1 * s.val = s.val; omega

/-- A row's sum of squares. -/
def rterm (r : Fin 2048) : EReal := ∑ s, df m c r s * df m c r s
/-- The sum of squares of block `i`. -/
def btm (i : ℕ) : EReal := ∑ a : Fin 256, if hr : 256 * i + a.val < 2048 then rterm m c ⟨256 * i + a.val, hr⟩ else 0

theorem rterm_nonneg (r : Fin 2048) : 0 ≤ rterm m c r := Finset.sum_nonneg fun s _ => sq_nonneg _
theorem btm_nonneg (i : ℕ) : 0 ≤ btm m c i := Finset.sum_nonneg fun a _ => by
  split
  · exact rterm_nonneg m c _
  · exact le_refl _

/-- One point's step of the sum. -/
theorem lstep (t : Fin cfg0.N) (acc : Vec Ideal S8x128 .f32) (p : Fin 8) (q : Fin 128) :
    k0_pay4 (F := Ideal) (iblk m c 0 t) (iblk m c 1 t) acc (ix2 p q) = acc (ix2 p q) + hc * btm m c t.val := by
  obtain ⟨ht, -⟩ := idx t
  rw [pay_4]
  refine congrArg (fun z : EReal => acc (ix2 p q) + hc * z) (Finset.sum_congr rfl fun a _ => ?_)
  rw [dif_pos (show 256 * t.val + a.val < 2048 by omega)]
  refine Finset.sum_congr rfl fun s _ => ?_
  rw [blk0, blk1]
  have e : row t.val a = ⟨256 * t.val + a.val, by omega⟩ := Fin.ext (by show 256 * (t.val % 8) + a.val = 256 * t.val + a.val; omega)
  rw [e]
  rfl

theorem outs_3 (t : Fin cfg0.N) (a : Fin 256) (j : Fin 2048) :
    (outsAt0 m c t.val t.isLt).2 (ix2 a j) = df m c (row t.val a) j * ic := by
  by_cases h0 : t.val % 8 = 0
  · rw [outsAt0_A m c t h0]
    dsimp only
    rw [out_A_3, pay_2, blk0, blk1]
    rfl
  · rw [outsAt0_B m c t h0]
    dsimp only
    rw [out_B_3, pay_2, blk0, blk1]
    rfl

/-- After a point the block of the loss holds the terms of the blocks so far. -/
theorem outs_2 : ∀ (n : ℕ) (hn : n < cfg0.N) (p : Fin 8) (q : Fin 128),
    (outsAt0 m c n hn).1 (ix2 p q) = ∑ i ∈ Finset.range (n + 1), hc * btm m c i := by
  have hN : cfg0.N = 8 := by decide +kernel
  intro n
  induction n with
  | zero =>
    intro hn p q
    rw [outsAt0_A m c ⟨0, hn⟩ rfl]
    dsimp only
    rw [out_A_2, lstep, pay_3]
    simp
  | succ n ih =>
    intro hn p q
    rw [outsAt0_B m c ⟨n + 1, hn⟩ (by dsimp only; omega)]
    dsimp only
    rw [out_B_2, lstep, Finset.sum_range_succ _ (n + 1)]
    exact congrArg (· + hc * btm m c (n + 1)) (ih (by omega) p q)

/-- What the kernel leaves: the loss in every entry of a block, and the gradient. -/
def KL : S8x128.Idx → EReal := fun _ => hc * ∑ r, rterm m c r
def KY : S2048x2048.Idx → EReal := fun i => df m c (i 0) (i 1) * ic

theorem arr_3 : (dats m 0 c).arrAt 3 cfg0.N = KY m c := by
  refine (dats m 0 c).arrAt_eq_of_covers 3 (KY m c) (by decide +kernel) fun t _ y => ?_
  obtain ⟨ht, -, -, -, ⟨e0, e1⟩⟩ := idx t
  rw [after0_3]
  obtain ⟨a, j, rfl⟩ : ∃ (a : Fin 256) (j : Fin 2048), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 256 + 1 * a.val = 256 * (t.val % 8) + a.val; omega
    | ⟨1, _⟩ => show win0_3.index t (1 : Fin 2) * 2048 + 1 * j.val = j.val; omega)
  show (outsAt0 m c t.val t.isLt).2 (ix2 a j) = KY m c (((cfg0.win 3).blk t).view.emb (ix2 a j))
  rw [h0, outs_3]
  rfl

theorem arr_2 : (dats m 0 c).arrAt 2 cfg0.N = KL m c := by
  refine (dats m 0 c).arrAt_eq_of_covers 2 (KL m c) (by decide +kernel) fun t hf y => ?_
  obtain ⟨ht, -⟩ := idx t
  rw [after0_2]
  obtain ⟨p, q, rfl⟩ : ∃ (p : Fin 8) (q : Fin 128), y = ix2 p q := ⟨y 0, y 1, eta2 y⟩
  show (outsAt0 m c t.val t.isLt).1 (ix2 p q) = KL m c (((cfg0.win 2).blk t).view.emb (ix2 p q))
  have hl : t.val + 1 = 8 := by have h := (flush0_2 t).mp hf; omega
  rw [outs_2 m c t.val t.isLt p q, hl, ← mul_sum_nonneg _ _ _ (btm_nonneg m c)]
  exact congrArg (hc * ·) (BlockSum.sum_blocks_fin 8 256 2048 rfl (rterm m c))

/-! ## The reference -/

section Ref
open Cert.LossRefIdeal Cert.LossRefIdeal.Read

variable (x y : (⟨S2048x2048, .f32⟩ : BufTy).Contents (Elt Ideal))
variable (r j : Fin 2048) (p : Fin 8) (q : Fin 128)

theorem r14 : val_main_v14 (F := Ideal) x y (ix2 r j)
    = Ideal.div (Ideal.ofBits .f32 0x3F000000#32 * Ideal.ofBits .f32 0x3F800000#32) (Ideal.ofBits .f32 0x45000000#32)
      * (Ideal.ofBits .f32 0x40000000#32 * (x (ix2 r j) - y (ix2 r j))) := by
  unfold val_main_v14 val_main_v13 val_main_v12 val_main_v11 val_main_v10 val_main_v9 val_main_v3 val_main_v2 val_main_v0 val_main_cst val_main_cst_4 val_main_cst_5 val_main_cst_6
  pointwise

theorem r15 : val_main_v15 (F := Ideal) x y (ix2 p q)
    = Ideal.ofBits .f32 0x3F000000#32 * ∑ r : Fin 2048, Ideal.div (∑ s : Fin 2048, (x (ix2 r s) - y (ix2 r s)) * (x (ix2 r s) - y (ix2 r s))) (Ideal.ofBits .f32 0x45000000#32) := by
  unfold val_main_v15 val_main_v8 val_main_v7 val_main_v6 val_main_v5 val_main_v4 val_main_v1 val_main_v0 val_main_cst_3 val_main_cst_2 val_main_cst_1 val_main_cst_0
  pointwise
end Ref

theorem ofBits_quarter : hc = ((4096⁻¹ : ℝ) : EReal) := by
  simp [hc, Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

theorem dy_eq : KY m c = Cert.LossRefIdeal.Read.val_main_v14 (F := Ideal) (x0 m c) (x1 m c) := by
  funext i
  obtain ⟨r, j, rfl⟩ : ∃ (r j : Fin 2048), i = ix2 r j := ⟨i 0, i 1, eta2 i⟩
  rw [r14, ofBits_half, ofBits_one, ofBits_2048, ofBits_two, div_real _ _ (by norm_num), ← mul_assoc, ← EReal.coe_mul, ← EReal.coe_mul, ← EReal.coe_mul]
  show df m c r j * ic = _
  unfold ic
  rw [ofBits_inv2048, mul_comm]
  refine congrArg₂ (fun a b : EReal => a * b) (congrArg _ ?_) rfl
  norm_num

theorem loss_eq : KL m c = Cert.LossRefIdeal.Read.val_main_v15 (F := Ideal) (x0 m c) (x1 m c) := by
  funext i
  obtain ⟨p, q, rfl⟩ : ∃ (p : Fin 8) (q : Fin 128), i = ix2 p q := ⟨i 0, i 1, eta2 i⟩
  rw [r15, ofBits_half, ofBits_2048]
  have e : ∀ r : Fin 2048, Ideal.div (rterm m c r) ((2048 : ℝ) : EReal) = ((2048⁻¹ : ℝ) : EReal) * rterm m c r := fun r => by
    rw [div_real _ _ (by norm_num), mul_comm]
  refine Eq.trans ?_ (congrArg (((1 / 2 : ℝ) : EReal) * ·) (Finset.sum_congr rfl fun r _ => e r)).symm
  rw [← mul_sum_nonneg _ _ _ (rterm_nonneg m c), ← mul_assoc, ← EReal.coe_mul]
  show hc * _ = _
  rw [ofBits_quarter]
  refine congrArg₂ (fun a b : EReal => a * b) (congrArg _ ?_) rfl
  norm_num

/-! ## The claim -/

/-- Both programs leave the same loss and the same gradient. -/
theorem algebraic : Cert.algebraic_LossIdeal_LossRefIdeal := by
  intro m ρ m' ρ' _ hargs
  refine ⟨fun c => KL m c, fun c => KY m c, ?_, ?_⟩
  · refine (θ_run defs _ _).mono (fun r h c => ?_) (Cert.LossIdeal.Value.run_blocks m ρ)
    obtain ⟨h0, h1, h2⟩ := h c
    exact ⟨h0.trans (arr_2 m c), h1.trans (arr_3 m c), h2⟩
  · refine (θ_run Cert.LossRefIdeal.defs _ _).mono (fun r h c => ?_) (Cert.LossRefIdeal.Value.run m' ρ')
    obtain ⟨h0, h1, h2⟩ := h c
    obtain ⟨a0, a1⟩ := hargs c
    refine ⟨h0.trans ?_, h1.trans ?_, h2⟩
    · rw [Cert.LossRefIdeal.Read.val_main_v15_eq, a0, a1]
      exact (loss_eq m c).symm
    · rw [Cert.LossRefIdeal.Read.val_main_v14_eq, a0, a1]
      exact (dy_eq m c).symm

end Cert.LossIdeal.Val

end
-- ==== Proof.Nm.Conv.lean ====
/-
  One column of a causal convolution over 2048 rows and of its gradients. The kernels shift a column by rotating it and
  masking the rows that wrapped round; the references slice a column with zeros put before it, and their gradients put
  zeros around. Both are the column read a few rows up or down, zero outside it.
-/
module

public import proofs.«01_k».proof.Proof.AttnMath
public import Idealize.ShloMosaic.Lib.IdealHost
public import Idealize.ShloMosaic.Lib.WordCmp

@[expose] public section

noncomputable section

namespace Cert.Nm

open Idealize.ShloMosaic Cert.AttnMath

/-! ## Shifts -/

/-- The column read `d` rows up, zero before its first row. -/
def sh (d : ℕ) (f : Fin 2048 → EReal) (r : Fin 2048) : EReal := if d ≤ r.val then f ⟨r.val - d, by omega⟩ else 0
/-- The column read `d` rows down, zero after its last row. -/
def su (d : ℕ) (f : Fin 2048 → EReal) (r : Fin 2048) : EReal := if h : r.val + d < 2048 then f ⟨r.val + d, h⟩ else 0

theorem sh_zero (f : Fin 2048 → EReal) (r : Fin 2048) : sh 0 f r = f r := by
  unfold sh; rw [if_pos (Nat.zero_le _)]; rfl

/-- A word compared with a row's number, as a choice on the numbers. -/
theorem sel_ge (d : ℕ) (hd : d < 2048) (r : Fin 2048) (X : EReal) :
    Scalar.select (IntOp.cmpi .sge (BitVec.ofNat 32 r.val) (BitVec.ofNat 32 d)) X 0 = if d ≤ r.val then X else 0 := by
  rw [WordCmp.cmpi_sge_ofNat (by have := r.isLt; norm_num; omega) (by norm_num; omega)]
  by_cases h : d ≤ r.val <;> simp [Scalar.select, h]

theorem sel_lt (k : ℕ) (hk : k < 2048) (r : Fin 2048) (X : EReal) :
    Scalar.select (IntOp.cmpi .slt (BitVec.ofNat 32 r.val) (BitVec.ofNat 32 k)) X 0 = if r.val < k then X else 0 := by
  rw [WordCmp.cmpi_slt_ofNat (by have := r.isLt; norm_num; omega) (by norm_num; omega)]
  by_cases h : r.val < k <;> simp [Scalar.select, h]

/-- The rotated and masked column, times a factor on either side. -/
theorem sel_shm (d : ℕ) (hd : d < 2048) (f : Fin 2048 → EReal) (v : EReal) (r : Fin 2048) (h : (r.val + 2048 - d) % 2048 < 2048) :
    Scalar.select (IntOp.cmpi .sge (BitVec.ofNat 32 r.val) (BitVec.ofNat 32 d)) (f ⟨(r.val + 2048 - d) % 2048, h⟩ * v) 0 = sh d f r * v := by
  rw [sel_ge d hd]
  unfold sh
  by_cases hr : d ≤ r.val
  · rw [if_pos hr, if_pos hr]
    refine congrArg (fun q => f q * v) (Fin.ext ?_)
    show (r.val + 2048 - d) % 2048 = r.val - d
    have := r.isLt
    rw [show r.val + 2048 - d = (r.val - d) + 2048 by omega, Nat.add_mod_right, Nat.mod_eq_of_lt (by omega)]
  · rw [if_neg hr, if_neg hr, zero_mul]

theorem sel_msh (d : ℕ) (hd : d < 2048) (f : Fin 2048 → EReal) (v : EReal) (r : Fin 2048) (h : (r.val + 2048 - d) % 2048 < 2048) :
    Scalar.select (IntOp.cmpi .sge (BitVec.ofNat 32 r.val) (BitVec.ofNat 32 d)) (v * f ⟨(r.val + 2048 - d) % 2048, h⟩) 0 = v * sh d f r := by
  rw [mul_comm v, sel_shm d hd f v r h, mul_comm]

theorem sel_sum (d k : ℕ) (hk : k < 2048) (hd : k + d = 2048) (f : Fin 2048 → EReal) (v : EReal) (r : Fin 2048)
    (h : (r.val + 2048 - k) % 2048 < 2048) :
    Scalar.select (IntOp.cmpi .slt (BitVec.ofNat 32 r.val) (BitVec.ofNat 32 k)) (f ⟨(r.val + 2048 - k) % 2048, h⟩ * v) 0 = su d f r * v := by
  rw [sel_lt k hk]
  unfold su
  by_cases hr : r.val < k
  · rw [if_pos hr, dif_pos (show r.val + d < 2048 by omega)]
    refine congrArg (fun q => f q * v) (Fin.ext ?_)
    show (r.val + 2048 - k) % 2048 = r.val + d
    rw [Nat.mod_eq_of_lt (by omega)]; omega
  · rw [if_neg hr, dif_neg (show ¬ r.val + d < 2048 by omega), zero_mul]

/-! ## The convolutions and their transposes -/

def conv4 (f : Fin 2048 → EReal) (w : Fin 4 → EReal) (r : Fin 2048) : EReal := f r * w 3 + sh 3 f r * w 0 + sh 2 f r * w 1 + sh 1 f r * w 2
def up4 (f : Fin 2048 → EReal) (w : Fin 4 → EReal) (r : Fin 2048) : EReal := f r * w 3 + su 3 f r * w 0 + su 2 f r * w 1 + su 1 f r * w 2
def conv3 (f : Fin 2048 → EReal) (w : Fin 3 → EReal) (r : Fin 2048) : EReal := f r * w 2 + sh 2 f r * w 0 + sh 1 f r * w 1
def up3 (f : Fin 2048 → EReal) (w : Fin 3 → EReal) (r : Fin 2048) : EReal := f r * w 2 + su 2 f r * w 0 + su 1 f r * w 1
/-- The filter's gradient at the tap that reads `d` rows up. -/
def dwt (f D : Fin 2048 → EReal) (d : ℕ) : EReal := ∑ r : Fin 2048, D r * sh d f r

section Kernel
variable (f : Fin 2048 → EReal) (w : Fin 4 → EReal) (u : Fin 3 → EReal) (r : Fin 2048)

theorem kconv4 (h3 h2 h1) :
    f r * w 3 + Scalar.select (IntOp.cmpi .sge (BitVec.ofNat 32 r.val) 3#32) (f ⟨(r.val + 2048 - 3) % 2048, h3⟩ * w 0) 0
      + Scalar.select (IntOp.cmpi .sge (BitVec.ofNat 32 r.val) 2#32) (f ⟨(r.val + 2048 - 2) % 2048, h2⟩ * w 1) 0
      + Scalar.select (IntOp.cmpi .sge (BitVec.ofNat 32 r.val) 1#32) (f ⟨(r.val + 2048 - 1) % 2048, h1⟩ * w 2) 0 = conv4 f w r := by
  unfold conv4
  rw [sel_shm 3 (by norm_num) f, sel_shm 2 (by norm_num) f, sel_shm 1 (by norm_num) f]

theorem kup4 (h3 h2 h1) :
    f r * w 3 + Scalar.select (IntOp.cmpi .slt (BitVec.ofNat 32 r.val) 2045#32) (f ⟨(r.val + 2048 - 2045) % 2048, h3⟩ * w 0) 0
      + Scalar.select (IntOp.cmpi .slt (BitVec.ofNat 32 r.val) 2046#32) (f ⟨(r.val + 2048 - 2046) % 2048, h2⟩ * w 1) 0
      + Scalar.select (IntOp.cmpi .slt (BitVec.ofNat 32 r.val) 2047#32) (f ⟨(r.val + 2048 - 2047) % 2048, h1⟩ * w 2) 0 = up4 f w r := by
  unfold up4
  rw [sel_sum 3 2045 (by norm_num) (by norm_num) f, sel_sum 2 2046 (by norm_num) (by norm_num) f, sel_sum 1 2047 (by norm_num) (by norm_num) f]

theorem kconv3 (h2 h1) :
    f r * u 2 + Scalar.select (IntOp.cmpi .sge (BitVec.ofNat 32 r.val) 2#32) (f ⟨(r.val + 2048 - 2) % 2048, h2⟩ * u 0) 0
      + Scalar.select (IntOp.cmpi .sge (BitVec.ofNat 32 r.val) 1#32) (f ⟨(r.val + 2048 - 1) % 2048, h1⟩ * u 1) 0 = conv3 f u r := by
  unfold conv3
  rw [sel_shm 2 (by norm_num) f, sel_shm 1 (by norm_num) f]

theorem kup3 (h2 h1) :
    f r * u 2 + Scalar.select (IntOp.cmpi .slt (BitVec.ofNat 32 r.val) 2046#32) (f ⟨(r.val + 2048 - 2046) % 2048, h2⟩ * u 0) 0
      + Scalar.select (IntOp.cmpi .slt (BitVec.ofNat 32 r.val) 2047#32) (f ⟨(r.val + 2048 - 2047) % 2048, h1⟩ * u 1) 0 = up3 f u r := by
  unfold up3
  rw [sel_sum 2 2046 (by norm_num) (by norm_num) f, sel_sum 1 2047 (by norm_num) (by norm_num) f]
end Kernel

/-! ## The column with zeros before it, and around it -/

/-- The column with `k` zero rows before it. -/
def pd (k : ℕ) (f : Fin 2048 → EReal) (i : Fin (k + 2048)) : EReal := if h : i.val < k then 0 else f ⟨i.val - k, by omega⟩

theorem pd_sh (k i d : ℕ) (hd : i + d = k) (f : Fin 2048 → EReal) (r : Fin 2048) (n : ℕ) (hn : n = i + r.val) (h : n < k + 2048) :
    pd k f ⟨n, h⟩ = sh d f r := by
  subst hn
  unfold pd sh
  dsimp only
  by_cases hr : d ≤ r.val
  · rw [dif_neg (by omega), if_pos hr]
    exact congrArg f (Fin.ext (by show i + r.val - k = r.val - d; omega))
  · rw [dif_pos (by omega), if_neg hr]

theorem pad_su (k lo d : ℕ) (hd : lo + d = k) (g : Fin 2048 → EReal) (r : Fin 2048) :
    (if h : lo ≤ k + r.val ∧ k + r.val - lo < 2048 then g ⟨k + r.val - lo, h.2⟩ else 0) = su d g r := by
  unfold su
  by_cases hr : r.val + d < 2048
  · rw [dif_pos ⟨by omega, by omega⟩, dif_pos hr]
    exact congrArg g (Fin.ext (by show k + r.val - lo = r.val + d; omega))
  · rw [dif_neg (by omega), dif_neg hr]

theorem pad_su0 (k : ℕ) (g : Fin 2048 → EReal) (r : Fin 2048) :
    (if h : k + r.val < 2048 then g ⟨k + r.val, h⟩ else 0) = su k g r := by
  unfold su
  by_cases hr : r.val + k < 2048
  · rw [dif_pos (by omega), dif_pos hr]
    exact congrArg g (Fin.ext (by show k + r.val = r.val + k; omega))
  · rw [dif_neg (by omega), dif_neg hr]

theorem su_mul (d : ℕ) (g : Fin 2048 → EReal) (v : EReal) (r : Fin 2048) : su d (fun r => g r * v) r = su d g r * v := by
  unfold su
  by_cases hr : r.val + d < 2048
  · rw [dif_pos hr, dif_pos hr]
  · rw [dif_neg hr, dif_neg hr, zero_mul]

/-! ## The activation's gradient -/

/-- The gradient through `a · logistic a` of the cotangent `d`. -/
def dsl (a d : EReal) : EReal := d * (Ideal.logistic a * (1 + a * (1 - Ideal.logistic a)))

theorem dsl_eq (a d : EReal) (ha : Fin' a) (hd : Fin' d) :
    dsl a d = d * Ideal.logistic a + a * d * (Ideal.logistic a * (1 - Ideal.logistic a)) := by
  obtain ⟨a, rfl⟩ := ha.coe
  obtain ⟨d, rfl⟩ := hd.coe
  unfold dsl
  rw [Ideal.logistic_coe, ← EReal.coe_one]
  simp only [← EReal.coe_mul, ← EReal.coe_sub, ← EReal.coe_add]
  exact congrArg _ (by ring)

theorem Fin'.add {x y : EReal} (hx : Fin' x) (hy : Fin' y) : Fin' (x + y) := by
  obtain ⟨a, rfl⟩ := hx.coe; obtain ⟨b, rfl⟩ := hy.coe
  rw [← EReal.coe_add]; exact fin'_coe _

theorem Fin'.logistic {x : EReal} (hx : Fin' x) : Fin' (Ideal.logistic x) := by
  obtain ⟨a, rfl⟩ := hx.coe
  rw [Ideal.logistic_coe]; exact fin'_coe _

theorem fin_sh (d : ℕ) (f : Fin 2048 → EReal) (hf : ∀ r, Fin' (f r)) (r : Fin 2048) : Fin' (sh d f r) := by
  unfold sh
  split_ifs
  · exact hf _
  · exact fin'_coe 0

theorem fin_conv4 (f : Fin 2048 → EReal) (w : Fin 4 → EReal) (hf : ∀ r, Fin' (f r)) (hw : ∀ k, Fin' (w k)) (r : Fin 2048) : Fin' (conv4 f w r) :=
  Fin'.add (Fin'.add (Fin'.add ((hf _).mul (hw _)) ((fin_sh _ f hf _).mul (hw _))) ((fin_sh _ f hf _).mul (hw _))) ((fin_sh _ f hf _).mul (hw _))

theorem fin_conv3 (f : Fin 2048 → EReal) (w : Fin 3 → EReal) (hf : ∀ r, Fin' (f r)) (hw : ∀ k, Fin' (w k)) (r : Fin 2048) : Fin' (conv3 f w r) :=
  Fin'.add (Fin'.add ((hf _).mul (hw _)) ((fin_sh _ f hf _).mul (hw _))) ((fin_sh _ f hf _).mul (hw _))

end Cert.Nm

end
-- ==== Proof.Nm.ConvSilu.lean ====
/- The gradients through the causal convolution of four taps and its activation: a block of columns at each point. -/
module

public import proofs.«01_k».proof.Proof.Gen.ConvSiluIdeal.Value
public import proofs.«01_k».proof.Proof.Gen.ConvSiluRefIdeal
public import proofs.«01_k».proof.Proof.Gen.ConvSiluRefIdeal.Read
public import proofs.«01_k».proof.Proof.Gen.ConvSiluRefIdeal.Run
public import proofs.«01_k».proof.Proof.Gen.Pre_conv_finite
public import proofs.«01_k».proof.Defs
public import proofs.«01_k».proof.Proof.Mm.Base
public import proofs.«01_k».proof.Proof.Nm.Conv
public import proofs.«01_k».proof.Proof.Finite
public import Idealize.ShloMosaic.Lib.Pipeline.ValueKit.Tiles

@[expose] public section

set_option maxRecDepth 16384

noncomputable section

namespace Cert.ConvSiluIdeal.Val

open Cert.ConvSiluIdeal Cert.ConvSiluIdeal.Gen Cert.Mm Cert.Nm Cert.AttnMath Idealize.ShloMosaic Idealize.ShloMosaic.TcCoe Idealize.SL.Sem

/-! ## One point of the grid -/

/-- The gradient of the convolution's column, of the input's, the filter's and the cotangent's columns. -/
def da4 (f : Fin 2048 → EReal) (w : Fin 4 → EReal) (d : Fin 2048 → EReal) (r : Fin 2048) : EReal := dsl (conv4 f w r) (d r)

section Pay
variable (x y : Vec Ideal S2048x256 .f32) (w : Vec Ideal S4x256 .f32) (r : Fin 2048) (k : Fin 4) (o : Fin 1) (j : Fin 256)

theorem pay_5 : k0_pay5 (F := Ideal) x w (ix2 r j) = conv4 (fun r => x (ix2 r j)) (fun k => w (ix2 k j)) r := by
  unfold k0_pay5
  pointwise
  exact kconv4 (fun r => x (ix2 r j)) (fun k => w (ix2 k j)) r _ _ _

theorem pay_8 : k0_pay8 (F := Ideal) y (k0_pay6 x w) (k0_pay7 x w) (ix2 r j)
    = da4 (fun r => x (ix2 r j)) (fun k => w (ix2 k j)) (fun r => y (ix2 r j)) r := by
  unfold k0_pay8 k0_pay7 k0_pay6
  pointwise
  simp only [pay_5]
  rfl

theorem pay_9 : k0_pay9 (F := Ideal) w y (k0_pay6 x w) (k0_pay7 x w) (ix2 r j)
    = up4 (da4 (fun r => x (ix2 r j)) (fun k => w (ix2 k j)) (fun r => y (ix2 r j))) (fun k => w (ix2 k j)) r := by
  unfold k0_pay9
  pointwise
  simp only [pay_8]
  exact kup4 (da4 (fun r => x (ix2 r j)) (fun k => w (ix2 k j)) (fun r => y (ix2 r j))) (fun k => w (ix2 k j)) r _ _ _

theorem pay_10 : k0_pay1 (F := Ideal) (k0_pay10 x y (k0_pay6 x w) (k0_pay7 x w)) (ix2 o j)
    = dwt (fun r => x (ix2 r j)) (da4 (fun r => x (ix2 r j)) (fun k => w (ix2 k j)) (fun r => y (ix2 r j))) 3 := by
  obtain rfl : o = 0 := Subsingleton.elim _ _
  unfold k0_pay1 k0_pay10
  pointwise
  simp only [pay_8]
  exact Finset.sum_congr rfl fun r _ => sel_msh 3 (by norm_num) (fun r => x (ix2 r j)) _ r _

theorem pay_2 : k0_pay2 (F := Ideal) x (k0_pay8 y (k0_pay6 x w) (k0_pay7 x w)) (ix2 o j)
    = dwt (fun r => x (ix2 r j)) (da4 (fun r => x (ix2 r j)) (fun k => w (ix2 k j)) (fun r => y (ix2 r j))) 2 := by
  obtain rfl : o = 0 := Subsingleton.elim _ _
  unfold k0_pay2
  pointwise
  simp only [pay_8]
  exact Finset.sum_congr rfl fun r _ => sel_msh 2 (by norm_num) (fun r => x (ix2 r j)) _ r _

theorem pay_3 : k0_pay3 (F := Ideal) x (k0_pay8 y (k0_pay6 x w) (k0_pay7 x w)) (ix2 o j)
    = dwt (fun r => x (ix2 r j)) (da4 (fun r => x (ix2 r j)) (fun k => w (ix2 k j)) (fun r => y (ix2 r j))) 1 := by
  obtain rfl : o = 0 := Subsingleton.elim _ _
  unfold k0_pay3
  pointwise
  simp only [pay_8]
  exact Finset.sum_congr rfl fun r _ => sel_msh 1 (by norm_num) (fun r => x (ix2 r j)) _ r _

theorem pay_4 : k0_pay4 (F := Ideal) x (k0_pay8 y (k0_pay6 x w) (k0_pay7 x w)) (ix2 o j)
    = dwt (fun r => x (ix2 r j)) (da4 (fun r => x (ix2 r j)) (fun k => w (ix2 k j)) (fun r => y (ix2 r j))) 0 := by
  obtain rfl : o = 0 := Subsingleton.elim _ _
  unfold k0_pay4
  pointwise
  simp only [pay_8]
  exact Finset.sum_congr rfl fun r _ => congrArg _ (sh_zero (fun r => x (ix2 r j)) r).symm

theorem out_3 : out0_3 (F := Ideal) x w y (ix2 r j)
    = up4 (da4 (fun r => x (ix2 r j)) (fun k => w (ix2 k j)) (fun r => y (ix2 r j))) (fun k => w (ix2 k j)) r := by
  unfold out0_3 k0_pay12 k0_pay11
  rw [View.canon_unit_zero hz2]
  simp only [View.ld_unit_zero (S := S2048x256) hz2, View.ld_unit_zero (S := S4x256) hz2]
  rw [pay_9]

theorem out_4 : out0_4 (F := Ideal) x w y (ix2 k j)
    = dwt (fun r => x (ix2 r j)) (da4 (fun r => x (ix2 r j)) (fun k => w (ix2 k j)) (fun r => y (ix2 r j))) (3 - k.val) := by
  unfold out0_4 k0_pay13 k0_pay12 k0_pay11
  simp only [View.ld_unit_zero (S := S2048x256) hz2, View.ld_unit_zero (S := S4x256) hz2]
  canon_tiles z h using cover0_4 _ _ _ _ (ix2 k j)
  all_goals
    obtain ⟨o, i, rfl⟩ : ∃ (o : Fin 1) (i : Fin 256), z = ix2 o i := ⟨z 0, z 1, eta2 z⟩
    obtain rfl : i = j := Fin.ext h1.symm
    first | rw [pay_10] | rw [pay_2] | rw [pay_3] | rw [pay_4]
    refine congrArg _ ?_
    have e0 := h0
    change k.val = _ at e0
    have e1 : o.val < 1 := o.isLt
    omega
end Pay

/-! ## The arrays -/

variable (m : (ℓ : Loc nD τ sig) → Buf (Elt Ideal) ℓ) (ρ : Dev nD → PrngReg) (c : Dev nD)

/-- The arguments: the input, the filter and the cotangent. -/
abbrev x0 : S2048x3072.Idx → EReal := m ((c : Thread nD τ).loc main_arg0)
abbrev x1 : S4x3072.Idx → EReal := m ((c : Thread nD τ).loc main_arg1)
abbrev x2 : S2048x3072.Idx → EReal := m ((c : Thread nD τ).loc main_arg2)

/-- Their columns, and the gradient of the convolution's. -/
def xcol (j : Fin 3072) (r : Fin 2048) : EReal := x0 m c (ix2 r j)
def wcol (j : Fin 3072) (k : Fin 4) : EReal := x1 m c (ix2 k j)
def ycol (j : Fin 3072) (r : Fin 2048) : EReal := x2 m c (ix2 r j)
def dcol (j : Fin 3072) : Fin 2048 → EReal := da4 (xcol m c j) (wcol m c j) (ycol m c j)

/-- Column `a` of block `t`. -/
def col (t : ℕ) (a : Fin 256) : Fin 3072 := ⟨256 * (t % 12) + a.val, by omega⟩

theorem idx : ∀ t : Fin cfg0.N, t.val < 12
    ∧ (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

theorem blk0 (t : Fin cfg0.N) (r : Fin 2048) (a : Fin 256) : iblk m c 0 t (ix2 r a) = x0 m c (ix2 r (col t.val a)) := by
  obtain ⟨ht, ⟨e0, e1⟩, -⟩ := idx t
  show V m c main_arg0 (((cfg0.win 0).blk t).view.emb (ix2 r a)) = _
  rw [V_main_arg0]
  refine congrArg (x0 m c) (funext fun y => Fin.ext ?_)
  match y with
  | ⟨0, _⟩ => show win0_0.index t (0 : Fin 2) * 2048 + 1 * r.val = r.val; omega
  | ⟨1, _⟩ => show win0_0.index t (1 : Fin 2) * 256 + 1 * a.val = 256 * (t.val % 12) + a.val; omega

theorem blk1 (t : Fin cfg0.N) (k : Fin 4) (a : Fin 256) : iblk m c 1 t (ix2 k a) = x1 m c (ix2 k (col t.val a)) := by
  obtain ⟨ht, -, ⟨e0, e1⟩, -⟩ := idx t
  show V m c main_arg1 (((cfg0.win 1).blk t).view.emb (ix2 k a)) = _
  rw [V_main_arg1]
  refine congrArg (x1 m c) (funext fun y => Fin.ext ?_)
  match y with
  | ⟨0, _⟩ => show win0_1.index t (0 : Fin 2) * 4 + 1 * k.val = k.val; omega
  | ⟨1, _⟩ => show win0_1.index t (1 : Fin 2) * 256 + 1 * a.val = 256 * (t.val % 12) + a.val; omega

theorem blk2 (t : Fin cfg0.N) (r : Fin 2048) (a : Fin 256) : iblk m c 2 t (ix2 r a) = x2 m c (ix2 r (col t.val a)) := by
  obtain ⟨ht, -, -, ⟨e0, e1⟩, -⟩ := idx t
  show V m c main_arg2 (((cfg0.win 2).blk t).view.emb (ix2 r a)) = _
  rw [V_main_arg2]
  refine congrArg (x2 m c) (funext fun y => Fin.ext ?_)
  match y with
  | ⟨0, _⟩ => show win0_2.index t (0 : Fin 2) * 2048 + 1 * r.val = r.val; omega
  | ⟨1, _⟩ => show win0_2.index t (1 : Fin 2) * 256 + 1 * a.val = 256 * (t.val % 12) + a.val; omega

theorem bx (t : Fin cfg0.N) (a : Fin 256) : (fun r : Fin 2048 => iblk m c 0 t (ix2 r a)) = xcol m c (col t.val a) := funext fun r => blk0 m c t r a
theorem bw (t : Fin cfg0.N) (a : Fin 256) : (fun k : Fin 4 => iblk m c 1 t (ix2 k a)) = wcol m c (col t.val a) := funext fun k => blk1 m c t k a
theorem by' (t : Fin cfg0.N) (a : Fin 256) : (fun r : Fin 2048 => iblk m c 2 t (ix2 r a)) = ycol m c (col t.val a) :=
  funext fun r => blk2 m c t r a

/-- What the kernel leaves: the input's gradient and the filter's. -/
def KX : S2048x3072.Idx → EReal := fun i => up4 (dcol m c (i 1)) (wcol m c (i 1)) (i 0)
def KW : S4x3072.Idx → EReal := fun i => dwt (xcol m c (i 1)) (dcol m c (i 1)) (3 - (i 0).val)

theorem pt_3 (t : Fin cfg0.N) (r : Fin 2048) (a : Fin 256) :
    out0_3 (iblk m c 0 t) (iblk m c 1 t) (iblk m c 2 t) (ix2 r a) = KX m c (ix2 r (col t.val a)) := by
  rw [out_3, bx, bw, by']
  show _ = up4 (dcol m c (col t.val a)) (wcol m c (col t.val a)) r
  unfold dcol
  rfl

theorem emb_3 (t : Fin cfg0.N) (r : Fin 2048) (a : Fin 256) : ((cfg0.win 3).blk t).view.emb (ix2 r a) = ix2 r (col t.val a) := by
  obtain ⟨ht, -, -, -, ⟨e0, e1⟩, -⟩ := idx t
  refine funext fun z => Fin.ext ?_
  match z with
  | ⟨0, _⟩ => show win0_3.index t (0 : Fin 2) * 2048 + 1 * r.val = r.val; omega
  | ⟨1, _⟩ => show win0_3.index t (1 : Fin 2) * 256 + 1 * a.val = 256 * (t.val % 12) + a.val; omega

theorem arr_3 : (dats m 0 c).arrAt 3 cfg0.N = KX m c := by
  refine (dats m 0 c).arrAt_eq_of_covers 3 (KX m c) (by decide +kernel) fun t _ y => ?_
  rw [after0_3]
  obtain ⟨r, a, rfl⟩ : ∃ (r : Fin 2048) (a : Fin 256), y = ix2 r a := ⟨y 0, y 1, eta2 y⟩
  have hp := pt_3 m c t r a
  refine Eq.trans ?_ (congrArg (KX m c) (emb_3 t r a).symm)
  generalize KX m c (ix2 r (col t.val a)) = q at *
  generalize out0_3 (F := Ideal) (iblk m c 0 t) (iblk m c 1 t) (iblk m c 2 t) = f at *
  exact hp

theorem arr_4 : (dats m 0 c).arrAt 4 cfg0.N = KW m c := by
  refine (dats m 0 c).arrAt_eq_of_covers 4 (KW m c) (by decide +kernel) fun t _ y => ?_
  obtain ⟨ht, -, -, -, -, ⟨e0, e1⟩⟩ := idx t
  rw [after0_4]
  obtain ⟨k, a, rfl⟩ : ∃ (k : Fin 4) (a : Fin 256), y = ix2 k a := ⟨y 0, y 1, eta2 y⟩
  have h0 : ((cfg0.win 4).blk t).view.emb (ix2 k a) = ix2 k (col t.val a) := funext fun z => Fin.ext (by
    match z with
    | ⟨0, _⟩ => show win0_4.index t (0 : Fin 2) * 4 + 1 * k.val = k.val; omega
    | ⟨1, _⟩ => show win0_4.index t (1 : Fin 2) * 256 + 1 * a.val = 256 * (t.val % 12) + a.val; omega)
  show out0_4 (iblk m c 0 t) (iblk m c 1 t) (iblk m c 2 t) (ix2 k a) = KW m c (((cfg0.win 4).blk t).view.emb (ix2 k a))
  rw [h0, out_4, bx, bw, by']
  show _ = dwt (xcol m c (col t.val a)) (dcol m c (col t.val a)) (3 - k.val)
  unfold dcol
  rfl

/-! ## The reference -/

section Ref
open Cert.ConvSiluRefIdeal Cert.ConvSiluRefIdeal.Read

variable (x y : (⟨S2048x3072, .f32⟩ : BufTy).Contents (Elt Ideal)) (w : (⟨S4x3072, .f32⟩ : BufTy).Contents (Elt Ideal))
variable (r : Fin 2048) (o : Fin 1) (j : Fin 3072)

theorem r1 (i : Fin 2051) : val_main_v1 (F := Ideal) x (ix2 i j) = pd 3 (fun r => x (ix2 r j)) i := by
  unfold val_main_v1 val_main_v0 val_main_cst pd
  pointwise

theorem r1_at (i d : ℕ) (hd : i + d = 3) (n : ℕ) (hn : n = i + r.val) (h : n < 2051) :
    val_main_v1 (F := Ideal) x (ix2 ⟨n, h⟩ j) = sh d (fun r => x (ix2 r j)) r := by
  rw [r1]; exact pd_sh 3 i d hd _ r n hn h

theorem r23 : val_main_v23 (F := Ideal) x w (ix2 r j) = conv4 (fun r => x (ix2 r j)) (fun k => w (ix2 k j)) r := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst_1
  pointwise
  rw [r1_at x r j 0 3 rfl _ (Nat.zero_add _).symm, r1_at x r j 1 2 rfl _ rfl, r1_at x r j 2 1 rfl _ rfl, r1_at x r j 3 0 rfl _ rfl, sh_zero]
  unfold conv4
  abel

theorem r24 : val_main_v24_2 (F := Ideal) x w (ix2 r j) = Ideal.logistic (conv4 (fun r => x (ix2 r j)) (fun k => w (ix2 k j)) r) := by
  unfold val_main_v24_2 val_main_call0_v4 val_main_call0_v3 val_main_call0_v2 val_main_call0_v1 val_main_call0_v0 val_main_call0_cst val_main_call0_cst_0
  pointwise
  rw [r23]
  rfl

theorem r25 (hx : ∀ i, Fin' (x i)) (hw : ∀ i, Fin' (w i)) (hy : ∀ i, Fin' (y i)) : val_main_v25 (F := Ideal) x w y (ix2 r j)
    = da4 (fun r => x (ix2 r j)) (fun k => w (ix2 k j)) (fun r => y (ix2 r j)) r := by
  unfold val_main_v25 val_main_call1_v2 val_main_call1_v1 val_main_call1_v0 val_main_v24_1 val_main_call0_v7 val_main_call0_v6 val_main_call0_cst_1
  pointwise
  rw [r23, r24]
  exact (dsl_eq _ _ (fin_conv4 _ _ (fun r => hx _) (fun k => hw _) r) (hy _)).symm

variable (hx : ∀ i, Fin' (x i)) (hw : ∀ i, Fin' (w i)) (hy : ∀ i, Fin' (y i))
include hx hw hy

theorem r61 : val_main_v61 (F := Ideal) x w y (ix2 r j)
    = up4 (da4 (fun r => x (ix2 r j)) (fun k => w (ix2 k j)) (fun r => y (ix2 r j))) (fun k => w (ix2 k j)) r := by
  unfold val_main_v61 val_main_v59 val_main_v50 val_main_v41 val_main_v58 val_main_v49 val_main_v40 val_main_v32 val_main_cst_4 val_main_cst_7 val_main_cst_10 val_main_cst_13 val_main_v30 val_main_v37 val_main_v46 val_main_v55 val_main_v29 val_main_v36 val_main_v45 val_main_v54 val_main_v4 val_main_v10 val_main_v15 val_main_v20
  pointwise
  simp only [r25 x y w _ j hx hw hy]
  refine Eq.trans (congrArg₂ (fun p q : EReal => p + q) (congrArg₂ (fun p q : EReal => p + q) (congrArg (fun q : EReal => _ + q)
    (pad_su 3 2 1 rfl (fun r => da4 (fun r => x (ix2 r j)) (fun k => w (ix2 k j)) (fun r => y (ix2 r j)) r * w (ix2 2 j)) r))
    (pad_su 3 1 2 rfl (fun r => da4 (fun r => x (ix2 r j)) (fun k => w (ix2 k j)) (fun r => y (ix2 r j)) r * w (ix2 1 j)) r))
    (pad_su0 3 (fun r => da4 (fun r => x (ix2 r j)) (fun k => w (ix2 k j)) (fun r => y (ix2 r j)) r * w (ix2 0 j)) r)) ?_
  simp only [su_mul]
  unfold up4
  abel

theorem r28 : val_main_v28 (F := Ideal) x w y (ix2 o j)
    = dwt (fun r => x (ix2 r j)) (da4 (fun r => x (ix2 r j)) (fun k => w (ix2 k j)) (fun r => y (ix2 r j))) 0 := by
  obtain rfl : o = 0 := Subsingleton.elim _ _
  unfold val_main_v28 val_main_v27 val_main_v26 val_main_v19 val_main_cst_2
  pointwise
  exact Finset.sum_congr rfl fun r _ => by rw [r25 x y w r j hx hw hy, r1_at x r j 3 0 rfl _ rfl, mul_comm]

theorem r35 : val_main_v35 (F := Ideal) x w y (ix2 o j)
    = dwt (fun r => x (ix2 r j)) (da4 (fun r => x (ix2 r j)) (fun k => w (ix2 k j)) (fun r => y (ix2 r j))) 1 := by
  obtain rfl : o = 0 := Subsingleton.elim _ _
  unfold val_main_v35 val_main_v34 val_main_v33 val_main_v14 val_main_cst_5
  pointwise
  exact Finset.sum_congr rfl fun r _ => by rw [r25 x y w r j hx hw hy, r1_at x r j 2 1 rfl _ rfl, mul_comm]

theorem r44 : val_main_v44 (F := Ideal) x w y (ix2 o j)
    = dwt (fun r => x (ix2 r j)) (da4 (fun r => x (ix2 r j)) (fun k => w (ix2 k j)) (fun r => y (ix2 r j))) 2 := by
  obtain rfl : o = 0 := Subsingleton.elim _ _
  unfold val_main_v44 val_main_v43 val_main_v42 val_main_v9 val_main_cst_8
  pointwise
  exact Finset.sum_congr rfl fun r _ => by rw [r25 x y w r j hx hw hy, r1_at x r j 1 2 rfl _ rfl, mul_comm]

theorem r53 : val_main_v53 (F := Ideal) x w y (ix2 o j)
    = dwt (fun r => x (ix2 r j)) (da4 (fun r => x (ix2 r j)) (fun k => w (ix2 k j)) (fun r => y (ix2 r j))) 3 := by
  obtain rfl : o = 0 := Subsingleton.elim _ _
  unfold val_main_v53 val_main_v52 val_main_v51 val_main_v3 val_main_cst_11
  pointwise
  exact Finset.sum_congr rfl fun r _ => by rw [r25 x y w r j hx hw hy, r1_at x r j 0 3 rfl _ (Nat.zero_add _).symm, mul_comm]

theorem r57 (k : Fin 4) : val_main_v57 (F := Ideal) x w y (ix2 k j)
    = dwt (fun r => x (ix2 r j)) (da4 (fun r => x (ix2 r j)) (fun k => w (ix2 k j)) (fun r => y (ix2 r j))) (3 - k.val) := by
  unfold val_main_v57 val_main_v56 val_main_v48 val_main_v47 val_main_v39 val_main_v38 val_main_v31 val_main_cst_3 val_main_cst_6 val_main_cst_9 val_main_cst_12
  pointwise
  simp only [r28 x y w _ j hx hw hy, r35 x y w _ j hx hw hy, r44 x y w _ j hx hw hy, r53 x y w _ j hx hw hy]
  fin_cases k <;> simp
end Ref

/-! ## The claim -/

open Cert.Pre_conv_finite in
theorem finite_of_pre (x y : S2048x3072.Idx → EReal) (g : S4x3072.Idx → EReal) (h : Cert.Pre_conv_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_conv_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_conv_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.ConvSiluRefIdeal.Read.val_main_v61 (F := Ideal) (x0 m c) (x1 m c) (x2 m c) := by
  obtain ⟨hx, hw, hy⟩ := hf
  funext i
  obtain ⟨r, j, rfl⟩ : ∃ (r : Fin 2048) (j : Fin 3072), i = ix2 r j := ⟨i 0, i 1, eta2 i⟩
  rw [r61 _ _ _ r j hx hw hy]
  show up4 (dcol m c j) (wcol m c j) r = _
  unfold dcol xcol wcol ycol
  rfl

theorem dw_eq (hf : (∀ i, Fin' (x0 m c i)) ∧ (∀ i, Fin' (x1 m c i)) ∧ (∀ i, Fin' (x2 m c i))) :
    KW m c = Cert.ConvSiluRefIdeal.Read.val_main_v57 (F := Ideal) (x0 m c) (x1 m c) (x2 m c) := by
  obtain ⟨hx, hw, hy⟩ := hf
  funext i
  obtain ⟨k, j, rfl⟩ : ∃ (k : Fin 4) (j : Fin 3072), i = ix2 k j := ⟨i 0, i 1, eta2 i⟩
  rw [r57 _ _ _ j hx hw hy k]
  show dwt (xcol m c j) (dcol m c j) (3 - k.val) = _
  unfold dcol xcol wcol ycol
  rfl

/-- At real arguments, both programs leave the same two gradients. -/
theorem algebraic : Cert.algebraic_ConvSiluIdeal_ConvSiluRefIdeal_pre_conv_finite := by
  intro m ρ m' ρ' hpre hargs
  refine ⟨fun c => KX m c, fun c => KW m c, ?_, ?_⟩
  · refine (θ_run defs _ _).mono (fun r h c => ?_) (Cert.ConvSiluIdeal.Value.run_blocks m ρ)
    obtain ⟨h0, h1, h2⟩ := h c
    exact ⟨h0.trans (arr_3 m c), h1.trans (arr_4 m c), h2⟩
  · refine (θ_run Cert.ConvSiluRefIdeal.defs _ _).mono (fun r h c => ?_) (Cert.ConvSiluRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.ConvSiluRefIdeal.Read.val_main_v61_eq, a0, a1, a2]
      exact (dx_eq m c hf).symm
    · rw [Cert.ConvSiluRefIdeal.Read.val_main_v57_eq, a0, a1, a2]
      exact (dw_eq m c hf).symm

end Cert.ConvSiluIdeal.Val

end
-- ==== Proof.Nm.ConvGlu.lean ====
/- The gradients through the causal convolution of three taps, its bias and the gated activation: a gate's columns and its partner's at each point. -/
module

public import proofs.«01_k».proof.Proof.Gen.ConvGluIdeal.Value
public import proofs.«01_k».proof.Proof.Gen.ConvGluRefIdeal
public import proofs.«01_k».proof.Proof.Gen.ConvGluRefIdeal.Read
public import proofs.«01_k».proof.Proof.Gen.ConvGluRefIdeal.Run
public import proofs.«01_k».proof.Proof.Gen.Pre_glu_finite
public import proofs.«01_k».proof.Defs
public import proofs.«01_k».proof.Proof.Mm.Base
public import proofs.«01_k».proof.Proof.Nm.Conv
public import proofs.«01_k».proof.Proof.Finite
public import Idealize.ShloMosaic.Lib.Pipeline.ValueKit.Tiles

@[expose] public section

set_option maxRecDepth 16384

noncomputable section

namespace Cert.ConvGluIdeal.Val

open Cert.ConvGluIdeal Cert.ConvGluIdeal.Gen Cert.Mm Cert.Nm Cert.AttnMath Idealize.ShloMosaic Idealize.ShloMosaic.TcCoe Idealize.SL.Sem

/-! ## One point of the grid -/

section Pay
variable (x : Vec Ideal S2048x512 .f32) (w : Vec Ideal S3x512 .f32) (b : Vec Ideal S1x512 .f32) (y : Vec Ideal S2048x256 .f32)
variable (r : Fin 2048) (k : Fin 3) (o : Fin 1) (j : Fin 512) (i : Fin 256)

/-- The convolution of a block's column, plus its bias. -/
def AB (j : Fin 512) (r : Fin 2048) : EReal := conv3 (fun r => x (ix2 r j)) (fun k => w (ix2 k j)) r + b (ix2 0 j)

/-- The gradient of the convolution's column: of a gate's in the block's first half, of its partner's in the second. -/
def DB (j : Fin 512) (r : Fin 2048) : EReal :=
  if h : j.val < 256 then dsl (AB x w b ⟨j.val, by omega⟩ r) (y (ix2 r ⟨j.val, h⟩) * AB x w b ⟨256 + j.val, by omega⟩ r)
  else y (ix2 r ⟨j.val - 256, by omega⟩) * (AB x w b ⟨j.val - 256, by omega⟩ r * Ideal.logistic (AB x w b ⟨j.val - 256, by omega⟩ r))

theorem pay_3 : k0_pay3 (F := Ideal) x w b (ix2 r j) = AB x w b j r := by
  unfold k0_pay3
  pointwise
  exact congrArg (fun q : EReal => q + b (ix2 0 j)) (kconv3 (fun r => x (ix2 r j)) (fun k => w (ix2 k j)) r _ _)

theorem pay_5 : k0_pay5 (F := Ideal) x w b y (ix2 r i) = dsl (AB x w b ⟨i.val, by omega⟩ r) (y (ix2 r i) * AB x w b ⟨256 + i.val, by omega⟩ r) := by
  unfold k0_pay5 k0_pay4
  pointwise
  simp only [pay_3]
  rfl

theorem pay_6 : k0_pay6 (F := Ideal) x w b y (ix2 r i) = y (ix2 r i) * (AB x w b ⟨i.val, by omega⟩ r * Ideal.logistic (AB x w b ⟨i.val, by omega⟩ r)) := by
  unfold k0_pay6 k0_pay4
  pointwise
  simp only [pay_3]

theorem pay_7 : k0_pay7 (F := Ideal) (k0_pay5 x w b y) (k0_pay6 x w b y) (ix2 r j) = DB x w b y j r := by
  unfold k0_pay7 DB
  pointwise
  simp only [pay_5, pay_6]

theorem pay_8 : k0_pay8 (F := Ideal) w (k0_pay5 x w b y) (k0_pay6 x w b y) (ix2 r j) = up3 (DB x w b y j) (fun k => w (ix2 k j)) r := by
  unfold k0_pay8
  pointwise
  simp only [pay_7]
  exact kup3 (DB x w b y j) (fun k => w (ix2 k j)) r _ _

theorem pay_9 : k0_pay9 (F := Ideal) x (k0_pay5 x w b y) (k0_pay6 x w b y) (ix2 o j) = dwt (fun r => x (ix2 r j)) (DB x w b y j) 2 := by
  obtain rfl : o = 0 := Subsingleton.elim _ _
  unfold k0_pay9
  pointwise
  simp only [pay_7]
  exact Finset.sum_congr rfl fun r _ => sel_msh 2 (by norm_num) (fun r => x (ix2 r j)) _ r _

theorem pay_10 : k0_pay10 (F := Ideal) x (k0_pay5 x w b y) (k0_pay6 x w b y) (ix2 o j) = dwt (fun r => x (ix2 r j)) (DB x w b y j) 1 := by
  obtain rfl : o = 0 := Subsingleton.elim _ _
  unfold k0_pay10
  pointwise
  simp only [pay_7]
  exact Finset.sum_congr rfl fun r _ => sel_msh 1 (by norm_num) (fun r => x (ix2 r j)) _ r _

theorem pay_1 : k0_pay1 (F := Ideal) x (k0_pay7 (k0_pay5 x w b y) (k0_pay6 x w b y)) (ix2 o j) = dwt (fun r => x (ix2 r j)) (DB x w b y j) 0 := by
  obtain rfl : o = 0 := Subsingleton.elim _ _
  unfold k0_pay1
  pointwise
  simp only [pay_7]
  exact Finset.sum_congr rfl fun r _ => congrArg _ (sh_zero (fun r => x (ix2 r j)) r).symm

theorem pay_2 : k0_pay2 (F := Ideal) (k0_pay7 (k0_pay5 x w b y) (k0_pay6 x w b y)) (ix2 o j) = ∑ r : Fin 2048, DB x w b y j r := by
  obtain rfl : o = 0 := Subsingleton.elim _ _
  unfold k0_pay2
  pointwise
  simp only [pay_7]

theorem out_4 : out0_4 (F := Ideal) x w b y (ix2 r j) = up3 (DB x w b y j) (fun k => w (ix2 k j)) r := by
  unfold out0_4 k0_pay12 k0_pay11
  rw [View.canon_unit_zero hz2]
  simp only [View.ld_unit_zero (S := S2048x512) hz2, View.ld_unit_zero (S := S3x512) hz2, View.ld_unit_zero (S := S1x512) hz2,
    View.ld_unit_zero (S := S2048x256) hz2]
  rw [pay_8]

theorem out_5 : out0_5 (F := Ideal) x w b y (ix2 k j) = dwt (fun r => x (ix2 r j)) (DB x w b y j) (2 - k.val) := by
  unfold out0_5 k0_pay13 k0_pay12 k0_pay11
  simp only [View.ld_unit_zero (S := S2048x512) hz2, View.ld_unit_zero (S := S3x512) hz2, View.ld_unit_zero (S := S1x512) hz2,
    View.ld_unit_zero (S := S2048x256) hz2]
  canon_tiles z h using cover0_5 _ _ _ (ix2 k j)
  all_goals
    obtain ⟨o, i, rfl⟩ : ∃ (o : Fin 1) (i : Fin 512), z = ix2 o i := ⟨z 0, z 1, eta2 z⟩
    obtain rfl : i = j := Fin.ext h1.symm
    first | rw [pay_9] | rw [pay_10] | rw [pay_1]
    refine congrArg _ ?_
    have e0 := h0
    change k.val = _ at e0
    have e1 : o.val < 1 := o.isLt
    omega

theorem out_6 : out0_6 (F := Ideal) x w b y (ix2 o j) = ∑ r : Fin 2048, DB x w b y j r := by
  unfold out0_6 k0_pay13 k0_pay12 k0_pay11
  rw [View.canon_unit_zero hz2]
  simp only [View.ld_unit_zero (S := S2048x512) hz2, View.ld_unit_zero (S := S3x512) hz2, View.ld_unit_zero (S := S1x512) hz2,
    View.ld_unit_zero (S := S2048x256) hz2]
  rw [pay_2]
end Pay

/-! ## The arrays -/

section Whole
variable (x : S2048x11264.Idx → EReal) (w : S3x11264.Idx → EReal) (b : S1x11264.Idx → EReal) (y : S2048x5632.Idx → EReal)

/-- A column's gate, the gate's partner, and their column of the cotangent. -/
def gc (j : Fin 11264) : Fin 11264 := ⟨512 * (j.val / 512) + j.val % 256, by omega⟩
def uc (j : Fin 11264) : Fin 11264 := ⟨512 * (j.val / 512) + 256 + j.val % 256, by omega⟩
def yc (j : Fin 11264) : Fin 5632 := ⟨256 * (j.val / 512) + j.val % 256, by omega⟩

/-- The convolution of a column, plus its bias. -/
def AG (j : Fin 11264) (r : Fin 2048) : EReal := conv3 (fun r => x (ix2 r j)) (fun k => w (ix2 k j)) r + b (ix2 0 j)
/-- The gradient of the convolution's column. -/
def DG (j : Fin 11264) (r : Fin 2048) : EReal :=
  if j.val % 512 < 256 then dsl (AG x w b (gc j) r) (y (ix2 r (yc j)) * AG x w b (uc j) r)
  else y (ix2 r (yc j)) * (AG x w b (gc j) r * Ideal.logistic (AG x w b (gc j) r))

/-- What the kernel leaves: the gradients of the input, the filter and the bias. -/
def KX : S2048x11264.Idx → EReal := fun i => up3 (DG x w b y (i 1)) (fun k => w (ix2 k (i 1))) (i 0)
def KW : S3x11264.Idx → EReal := fun i => dwt (fun r => x (ix2 r (i 1))) (DG x w b y (i 1)) (2 - (i 0).val)
def KB : S1x11264.Idx → EReal := fun i => ∑ r : Fin 2048, DG x w b y (i 1) r
end Whole

variable (m : (ℓ : Loc nD τ sig) → Buf (Elt Ideal) ℓ) (ρ : Dev nD → PrngReg) (c : Dev nD)

/-- The arguments: the input, the filter, the bias and the cotangent. -/
abbrev x0 : S2048x11264.Idx → EReal := m ((c : Thread nD τ).loc main_arg0)
abbrev x1 : S3x11264.Idx → EReal := m ((c : Thread nD τ).loc main_arg1)
abbrev x2 : S1x11264.Idx → EReal := m ((c : Thread nD τ).loc main_arg2)
abbrev x3 : S2048x5632.Idx → EReal := m ((c : Thread nD τ).loc main_arg3)

/-- Column `a` of block `t`, and of the cotangent's. -/
def col (t : ℕ) (a : Fin 512) : Fin 11264 := ⟨512 * (t % 22) + a.val, by omega⟩
def hcol (t : ℕ) (a : Fin 256) : Fin 5632 := ⟨256 * (t % 22) + a.val, by omega⟩

theorem idx : ∀ t : Fin cfg0.N, t.val < 22
    ∧ (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

theorem blk0 (t : Fin cfg0.N) (r : Fin 2048) (a : Fin 512) : iblk m c 0 t (ix2 r a) = x0 m c (ix2 r (col t.val a)) := by
  obtain ⟨ht, ⟨e0, e1⟩, -⟩ := idx t
  show V m c main_arg0 (((cfg0.win 0).blk t).view.emb (ix2 r a)) = _
  rw [V_main_arg0]
  refine congrArg (x0 m c) (funext fun y => Fin.ext ?_)
  match y with
  | ⟨0, _⟩ => show win0_0.index t (0 : Fin 2) * 2048 + 1 * r.val = r.val; omega
  | ⟨1, _⟩ => show win0_0.index t (1 : Fin 2) * 512 + 1 * a.val = 512 * (t.val % 22) + a.val; omega

theorem blk1 (t : Fin cfg0.N) (k : Fin 3) (a : Fin 512) : iblk m c 1 t (ix2 k a) = x1 m c (ix2 k (col t.val a)) := by
  obtain ⟨ht, -, ⟨e0, e1⟩, -⟩ := idx t
  show V m c main_arg1 (((cfg0.win 1).blk t).view.emb (ix2 k a)) = _
  rw [V_main_arg1]
  refine congrArg (x1 m c) (funext fun y => Fin.ext ?_)
  match y with
  | ⟨0, _⟩ => show win0_1.index t (0 : Fin 2) * 3 + 1 * k.val = k.val; omega
  | ⟨1, _⟩ => show win0_1.index t (1 : Fin 2) * 512 + 1 * a.val = 512 * (t.val % 22) + a.val; omega

theorem blk2 (t : Fin cfg0.N) (o : Fin 1) (a : Fin 512) : iblk m c 2 t (ix2 o a) = x2 m c (ix2 o (col t.val a)) := by
  obtain ⟨ht, -, -, ⟨e0, e1⟩, -⟩ := idx t
  show V m c main_arg2 (((cfg0.win 2).blk t).view.emb (ix2 o a)) = _
  rw [V_main_arg2]
  refine congrArg (x2 m c) (funext fun y => Fin.ext ?_)
  match y with
  | ⟨0, _⟩ => show win0_2.index t (0 : Fin 2) * 1 + 1 * o.val = o.val; omega
  | ⟨1, _⟩ => show win0_2.index t (1 : Fin 2) * 512 + 1 * a.val = 512 * (t.val % 22) + a.val; omega

theorem blk3 (t : Fin cfg0.N) (r : Fin 2048) (a : Fin 256) : iblk m c 3 t (ix2 r a) = x3 m c (ix2 r (hcol t.val a)) := by
  obtain ⟨ht, -, -, -, ⟨e0, e1⟩, -⟩ := idx t
  show V m c main_arg3 (((cfg0.win 3).blk t).view.emb (ix2 r a)) = _
  rw [V_main_arg3]
  refine congrArg (x3 m c) (funext fun y => Fin.ext ?_)
  match y with
  | ⟨0, _⟩ => show win0_3.index t (0 : Fin 2) * 2048 + 1 * r.val = r.val; omega
  | ⟨1, _⟩ => show win0_3.index t (1 : Fin 2) * 256 + 1 * a.val = 256 * (t.val % 22) + a.val; omega

theorem bx (t : Fin cfg0.N) (a : Fin 512) : (fun r : Fin 2048 => iblk m c 0 t (ix2 r a)) = fun r => x0 m c (ix2 r (col t.val a)) :=
  funext fun r => blk0 m c t r a
theorem bw (t : Fin cfg0.N) (a : Fin 512) : (fun k : Fin 3 => iblk m c 1 t (ix2 k a)) = fun k => x1 m c (ix2 k (col t.val a)) :=
  funext fun k => blk1 m c t k a

theorem bA (t : Fin cfg0.N) (a : Fin 512) (r : Fin 2048) :
    AB (iblk m c 0 t) (iblk m c 1 t) (iblk m c 2 t) a r = AG (x0 m c) (x1 m c) (x2 m c) (col t.val a) r := by
  unfold AB AG
  rw [bx, bw, blk2]

theorem bD (t : Fin cfg0.N) (a : Fin 512) :
    DB (iblk m c 0 t) (iblk m c 1 t) (iblk m c 2 t) (iblk m c 3 t) a = DG (x0 m c) (x1 m c) (x2 m c) (x3 m c) (col t.val a) := by
  obtain ⟨ht, -⟩ := idx t
  funext r
  have hc : (col t.val a).val = 512 * (t.val % 22) + a.val := rfl
  unfold DB DG
  by_cases h : a.val < 256
  · rw [dif_pos h, if_pos (by rw [hc]; omega), bA, bA, blk3]
    have e1 : col t.val ⟨a.val, by omega⟩ = gc (col t.val a) := Fin.ext (by show 512 * (t.val % 22) + a.val = 512 * ((512 * (t.val % 22) + a.val) / 512) + (512 * (t.val % 22) + a.val) % 256; omega)
    have e2 : col t.val ⟨256 + a.val, by omega⟩ = uc (col t.val a) := Fin.ext (by show 512 * (t.val % 22) + (256 + a.val) = 512 * ((512 * (t.val % 22) + a.val) / 512) + 256 + (512 * (t.val % 22) + a.val) % 256; omega)
    have e3 : hcol t.val ⟨a.val, h⟩ = yc (col t.val a) := Fin.ext (by show 256 * (t.val % 22) + a.val = 256 * ((512 * (t.val % 22) + a.val) / 512) + (512 * (t.val % 22) + a.val) % 256; omega)
    exact congrArg₂ dsl (congrArg (fun q => AG (x0 m c) (x1 m c) (x2 m c) q r) e1)
      (congrArg₂ (fun p q : EReal => p * q) (congrArg (fun q => x3 m c (ix2 r q)) e3) (congrArg (fun q => AG (x0 m c) (x1 m c) (x2 m c) q r) e2))
  · rw [dif_neg h, if_neg (by rw [hc]; omega), bA, blk3]
    have e1 : col t.val ⟨a.val - 256, by omega⟩ = gc (col t.val a) := Fin.ext (by show 512 * (t.val % 22) + (a.val - 256) = 512 * ((512 * (t.val % 22) + a.val) / 512) + (512 * (t.val % 22) + a.val) % 256; omega)
    have e3 : hcol t.val ⟨a.val - 256, by omega⟩ = yc (col t.val a) := Fin.ext (by show 256 * (t.val % 22) + (a.val - 256) = 256 * ((512 * (t.val % 22) + a.val) / 512) + (512 * (t.val % 22) + a.val) % 256; omega)
    rw [e1, e3]

theorem pt_4 (t : Fin cfg0.N) (r : Fin 2048) (a : Fin 512) :
    out0_4 (iblk m c 0 t) (iblk m c 1 t) (iblk m c 2 t) (iblk m c 3 t) (ix2 r a) = KX (x0 m c) (x1 m c) (x2 m c) (x3 m c) (ix2 r (col t.val a)) := by
  rw [out_4, bD, bw]
  rfl

theorem pt_5 (t : Fin cfg0.N) (k : Fin 3) (a : Fin 512) :
    out0_5 (iblk m c 0 t) (iblk m c 1 t) (iblk m c 2 t) (iblk m c 3 t) (ix2 k a) = KW (x0 m c) (x1 m c) (x2 m c) (x3 m c) (ix2 k (col t.val a)) := by
  rw [out_5, bD, bx]
  rfl

theorem pt_6 (t : Fin cfg0.N) (o : Fin 1) (a : Fin 512) :
    out0_6 (iblk m c 0 t) (iblk m c 1 t) (iblk m c 2 t) (iblk m c 3 t) (ix2 o a) = KB (x0 m c) (x1 m c) (x2 m c) (x3 m c) (ix2 o (col t.val a)) := by
  rw [out_6, bD]
  rfl

theorem emb_4 (t : Fin cfg0.N) (r : Fin 2048) (a : Fin 512) : ((cfg0.win 4).blk t).view.emb (ix2 r a) = ix2 r (col t.val a) := by
  obtain ⟨ht, -, -, -, -, ⟨e0, e1⟩, -⟩ := idx t
  refine funext fun z => Fin.ext ?_
  match z with
  | ⟨0, _⟩ => show win0_4.index t (0 : Fin 2) * 2048 + 1 * r.val = r.val; omega
  | ⟨1, _⟩ => show win0_4.index t (1 : Fin 2) * 512 + 1 * a.val = 512 * (t.val % 22) + a.val; omega

theorem emb_5 (t : Fin cfg0.N) (k : Fin 3) (a : Fin 512) : ((cfg0.win 5).blk t).view.emb (ix2 k a) = ix2 k (col t.val a) := by
  obtain ⟨ht, -, -, -, -, -, ⟨e0, e1⟩, -⟩ := idx t
  refine funext fun z => Fin.ext ?_
  match z with
  | ⟨0, _⟩ => show win0_5.index t (0 : Fin 2) * 3 + 1 * k.val = k.val; omega
  | ⟨1, _⟩ => show win0_5.index t (1 : Fin 2) * 512 + 1 * a.val = 512 * (t.val % 22) + a.val; omega

theorem emb_6 (t : Fin cfg0.N) (o : Fin 1) (a : Fin 512) : ((cfg0.win 6).blk t).view.emb (ix2 o a) = ix2 o (col t.val a) := by
  obtain ⟨ht, -, -, -, -, -, -, ⟨e0, e1⟩⟩ := idx t
  refine funext fun z => Fin.ext ?_
  match z with
  | ⟨0, _⟩ => show win0_6.index t (0 : Fin 2) * 1 + 1 * o.val = o.val; omega
  | ⟨1, _⟩ => show win0_6.index t (1 : Fin 2) * 512 + 1 * a.val = 512 * (t.val % 22) + a.val; omega

theorem arr_4 : (dats m 0 c).arrAt 4 cfg0.N = KX (x0 m c) (x1 m c) (x2 m c) (x3 m c) := by
  refine (dats m 0 c).arrAt_eq_of_covers 4 (KX (x0 m c) (x1 m c) (x2 m c) (x3 m c)) (by decide +kernel) fun t _ y => ?_
  rw [after0_4]
  obtain ⟨r, a, rfl⟩ : ∃ (r : Fin 2048) (a : Fin 512), y = ix2 r a := ⟨y 0, y 1, eta2 y⟩
  have hp := pt_4 m c t r a
  refine Eq.trans ?_ (congrArg (KX (x0 m c) (x1 m c) (x2 m c) (x3 m c)) (emb_4 t r a).symm)
  generalize KX (x0 m c) (x1 m c) (x2 m c) (x3 m c) (ix2 r (col t.val a)) = q at *
  generalize out0_4 (F := Ideal) (iblk m c 0 t) (iblk m c 1 t) (iblk m c 2 t) (iblk m c 3 t) = f at *
  exact hp

theorem arr_5 : (dats m 0 c).arrAt 5 cfg0.N = KW (x0 m c) (x1 m c) (x2 m c) (x3 m c) := by
  refine (dats m 0 c).arrAt_eq_of_covers 5 (KW (x0 m c) (x1 m c) (x2 m c) (x3 m c)) (by decide +kernel) fun t _ y => ?_
  rw [after0_5]
  obtain ⟨k, a, rfl⟩ : ∃ (k : Fin 3) (a : Fin 512), y = ix2 k a := ⟨y 0, y 1, eta2 y⟩
  have hp := pt_5 m c t k a
  refine Eq.trans ?_ (congrArg (KW (x0 m c) (x1 m c) (x2 m c) (x3 m c)) (emb_5 t k a).symm)
  generalize KW (x0 m c) (x1 m c) (x2 m c) (x3 m c) (ix2 k (col t.val a)) = q at *
  generalize out0_5 (F := Ideal) (iblk m c 0 t) (iblk m c 1 t) (iblk m c 2 t) (iblk m c 3 t) = f at *
  exact hp

theorem arr_6 : (dats m 0 c).arrAt 6 cfg0.N = KB (x0 m c) (x1 m c) (x2 m c) (x3 m c) := by
  refine (dats m 0 c).arrAt_eq_of_covers 6 (KB (x0 m c) (x1 m c) (x2 m c) (x3 m c)) (by decide +kernel) fun t _ y => ?_
  rw [after0_6]
  obtain ⟨o, a, rfl⟩ : ∃ (o : Fin 1) (a : Fin 512), y = ix2 o a := ⟨y 0, y 1, eta2 y⟩
  have hp := pt_6 m c t o a
  refine Eq.trans ?_ (congrArg (KB (x0 m c) (x1 m c) (x2 m c) (x3 m c)) (emb_6 t o a).symm)
  generalize KB (x0 m c) (x1 m c) (x2 m c) (x3 m c) (ix2 o (col t.val a)) = q at *
  generalize out0_6 (F := Ideal) (iblk m c 0 t) (iblk m c 1 t) (iblk m c 2 t) (iblk m c 3 t) = f at *
  exact hp

/-! ## The reference -/

section Ref
open Cert.ConvGluRefIdeal Cert.ConvGluRefIdeal.Read

variable (x : (⟨S2048x11264, .f32⟩ : BufTy).Contents (Elt Ideal)) (w : (⟨S3x11264, .f32⟩ : BufTy).Contents (Elt Ideal))
  (b : (⟨S1x11264, .f32⟩ : BufTy).Contents (Elt Ideal)) (y : (⟨S2048x5632, .f32⟩ : BufTy).Contents (Elt Ideal))
variable (r : Fin 2048) (o : Fin 1) (j : Fin 11264) (t : Fin 22) (a : Fin 256) (p : Fin 2)

theorem r1 (i : Fin 2050) : val_main_v1 (F := Ideal) x (ix2 i j) = pd 2 (fun r => x (ix2 r j)) i := by
  unfold val_main_v1 val_main_v0 val_main_cst pd
  pointwise

theorem r1_at (i d : ℕ) (hd : i + d = 2) (n : ℕ) (hn : n = i + r.val) (h : n < 2050) :
    val_main_v1 (F := Ideal) x (ix2 ⟨n, h⟩ j) = sh d (fun r => x (ix2 r j)) r := by
  rw [r1]; exact pd_sh 2 i d hd _ r n hn h

theorem r20 : val_main_v20 (F := Ideal) x w b (ix2 r j) = AG x w b j r := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst_1
  pointwise
  rw [r1_at x r j 0 2 rfl _ (Nat.zero_add _).symm, r1_at x r j 1 1 rfl _ rfl, r1_at x r j 2 0 rfl _ rfl, sh_zero]
  unfold AG conv3
  abel

theorem r23 : val_main_v23 (F := Ideal) x w b (ix3 r t a) = AG x w b ⟨t.val * 512 + a.val, by omega⟩ r := by
  unfold val_main_v23 val_main_v22 val_main_v21
  pointwise
  rw [r20]

theorem r26 : val_main_v26 (F := Ideal) x w b (ix3 r t a) = AG x w b ⟨t.val * 512 + 256 + a.val, by omega⟩ r := by
  unfold val_main_v26 val_main_v25 val_main_v21
  pointwise
  rw [r20]

theorem r29 : val_main_v29 (F := Ideal) y (ix3 r t a) = y (ix2 r ⟨t.val * 256 + a.val, by omega⟩) := by
  unfold val_main_v29
  pointwise

theorem r24 : val_main_v24_2 (F := Ideal) x w b (ix3 r t a) = Ideal.logistic (AG x w b ⟨t.val * 512 + a.val, by omega⟩ r) := by
  unfold val_main_v24_2 val_main_call0_v4 val_main_call0_v3 val_main_call0_v2 val_main_call0_v1 val_main_call0_v0 val_main_call0_cst val_main_call0_cst_0
  pointwise
  rw [r23]
  rfl

theorem r30 : val_main_v30 (F := Ideal) x w b y (ix3 r t a)
    = y (ix2 r ⟨t.val * 256 + a.val, by omega⟩) * (AG x w b ⟨t.val * 512 + a.val, by omega⟩ r * Ideal.logistic (AG x w b ⟨t.val * 512 + a.val, by omega⟩ r)) := by
  unfold val_main_v30 val_main_v24_0
  pointwise
  rw [r23, r24, r29, mul_comm]

/-- Of two arrays padded beside each other, a column reads the one of its half. -/
theorem pair_sel (f g : S2048x22x256.Idx → EReal) (A B : EReal)
    (hf : f (ix3 r ⟨j.val / 512, by omega⟩ ⟨j.val % 256, by omega⟩) = B) (hg : g (ix3 r ⟨j.val / 512, by omega⟩ ⟨j.val % 256, by omega⟩) = A) :
    ((if h : j.val / 512 < 22 ∧ (1 ≤ j.val / 256 % 2 ∧ j.val / 256 % 2 - 1 < 1) ∧ j.val % 256 < 256 then
        f (ix3 r ⟨j.val / 512, by omega⟩ ⟨j.val % 256, by omega⟩) else 0) +
      if h : j.val / 512 < 22 ∧ j.val / 256 % 2 < 1 ∧ j.val % 256 < 256 then
        g (ix3 r ⟨j.val / 512, by omega⟩ ⟨j.val % 256, by omega⟩) else 0) = if j.val % 512 < 256 then A else B := by
  by_cases h : j.val % 512 < 256
  · rw [if_pos h, dif_neg (by omega), dif_pos (by omega), zero_add]
    exact hg
  · rw [if_neg h, dif_pos (by omega), dif_neg (by omega), add_zero]
    exact hf

variable (hx : ∀ i, Fin' (x i)) (hw : ∀ i, Fin' (w i)) (hb : ∀ i, Fin' (b i)) (hy : ∀ i, Fin' (y i))

theorem fin_AG (hx : ∀ i, Fin' (x i)) (hw : ∀ i, Fin' (w i)) (hb : ∀ i, Fin' (b i)) : Fin' (AG x w b j r) :=
  Fin'.add (fin_conv3 _ _ (fun r => hx _) (fun k => hw _) r) (hb _)

include hx hw hb hy

theorem r34 : val_main_v34 (F := Ideal) x w b y (ix3 r t a)
    = dsl (AG x w b ⟨t.val * 512 + a.val, by omega⟩ r) (y (ix2 r ⟨t.val * 256 + a.val, by omega⟩) * AG x w b ⟨t.val * 512 + 256 + a.val, by omega⟩ r) := by
  unfold val_main_v34 val_main_call1_v2 val_main_call1_v1 val_main_call1_v0 val_main_v24_1 val_main_call0_v7 val_main_call0_v6 val_main_call0_cst_1 val_main_v31
  pointwise
  rw [r23, r24, r26, r29]
  exact (dsl_eq _ _ (fin_AG x w b r _ hx hw hb) ((hy _).mul (fin_AG x w b r _ hx hw hb))).symm

theorem r38 : val_main_v38 (F := Ideal) x w b y (ix2 r j) = DG x w b y j r := by
  unfold val_main_v38 val_main_v37 val_main_v33 val_main_v32 val_main_v36 val_main_v35 val_main_cst_2 val_main_cst_3
  pointwise
  have e1 : (⟨j.val / 512 * 512 + j.val % 256, by omega⟩ : Fin 11264) = gc j := Fin.ext (by show j.val / 512 * 512 + j.val % 256 = 512 * (j.val / 512) + j.val % 256; omega)
  have e2 : (⟨j.val / 512 * 512 + 256 + j.val % 256, by omega⟩ : Fin 11264) = uc j := Fin.ext (by show j.val / 512 * 512 + 256 + j.val % 256 = 512 * (j.val / 512) + 256 + j.val % 256; omega)
  have e3 : (⟨j.val / 512 * 256 + j.val % 256, by omega⟩ : Fin 5632) = yc j := Fin.ext (by show j.val / 512 * 256 + j.val % 256 = 256 * (j.val / 512) + j.val % 256; omega)
  have h30 := r30 x w b y r ⟨j.val / 512, by omega⟩ ⟨j.val % 256, by omega⟩
  have h34 := r34 x w b y r ⟨j.val / 512, by omega⟩ ⟨j.val % 256, by omega⟩ hx hw hb hy
  dsimp only at h30 h34
  rw [e1, e3] at h30
  rw [e1, e2, e3] at h34
  exact pair_sel r j _ _ _ _ h30 h34

theorem r67 : val_main_v67 (F := Ideal) x w b y (ix2 r j) = up3 (DG x w b y j) (fun k => w (ix2 k j)) r := by
  unfold val_main_v67 val_main_v65 val_main_v64 val_main_v56 val_main_v55 val_main_v47 val_main_cst_7 val_main_cst_10 val_main_cst_13 val_main_v45 val_main_v52 val_main_v61 val_main_v44 val_main_v51 val_main_v60 val_main_v4 val_main_v10 val_main_v15
  pointwise
  simp only [r38 x w b y _ j hx hw hb hy]
  refine Eq.trans (congrArg₂ (fun p q : EReal => p + q) (congrArg (fun q : EReal => _ + q)
    (pad_su 2 1 1 rfl (fun r => DG x w b y j r * w (ix2 1 j)) r))
    (pad_su0 2 (fun r => DG x w b y j r * w (ix2 0 j)) r)) ?_
  simp only [su_mul]
  unfold up3
  abel

theorem r43 : val_main_v43 (F := Ideal) x w b y (ix2 o j) = dwt (fun r => x (ix2 r j)) (DG x w b y j) 0 := by
  obtain rfl : o = 0 := Subsingleton.elim _ _
  unfold val_main_v43 val_main_v42 val_main_v41 val_main_v14 val_main_cst_5
  pointwise
  exact Finset.sum_congr rfl fun r _ => by rw [r38 x w b y r j hx hw hb hy, r1_at x r j 2 0 rfl _ rfl, mul_comm]

theorem r50 : val_main_v50 (F := Ideal) x w b y (ix2 o j) = dwt (fun r => x (ix2 r j)) (DG x w b y j) 1 := by
  obtain rfl : o = 0 := Subsingleton.elim _ _
  unfold val_main_v50 val_main_v49 val_main_v48 val_main_v9 val_main_cst_8
  pointwise
  exact Finset.sum_congr rfl fun r _ => by rw [r38 x w b y r j hx hw hb hy, r1_at x r j 1 1 rfl _ rfl, mul_comm]

theorem r59 : val_main_v59 (F := Ideal) x w b y (ix2 o j) = dwt (fun r => x (ix2 r j)) (DG x w b y j) 2 := by
  obtain rfl : o = 0 := Subsingleton.elim _ _
  unfold val_main_v59 val_main_v58 val_main_v57 val_main_v3 val_main_cst_11
  pointwise
  exact Finset.sum_congr rfl fun r _ => by rw [r38 x w b y r j hx hw hb hy, r1_at x r j 0 2 rfl _ (Nat.zero_add _).symm, mul_comm]

theorem r63 (k : Fin 3) : val_main_v63 (F := Ideal) x w b y (ix2 k j) = dwt (fun r => x (ix2 r j)) (DG x w b y j) (2 - k.val) := by
  unfold val_main_v63 val_main_v62 val_main_v54 val_main_v53 val_main_v46 val_main_cst_6 val_main_cst_9 val_main_cst_12
  pointwise
  simp only [r43 x w b y _ j hx hw hb hy, r50 x w b y _ j hx hw hb hy, r59 x w b y _ j hx hw hb hy]
  fin_cases k <;> simp

theorem r40 : val_main_v40 (F := Ideal) x w b y (ix2 o j) = ∑ r : Fin 2048, DG x w b y j r := by
  obtain rfl : o = 0 := Subsingleton.elim _ _
  unfold val_main_v40 val_main_v39 val_main_cst_4
  pointwise
  exact Finset.sum_congr rfl fun r _ => r38 x w b y r j hx hw hb hy
end Ref

/-! ## The claim -/

open Cert.Pre_glu_finite in
theorem finite_of_pre (x : S2048x11264.Idx → EReal) (w : S3x11264.Idx → EReal) (b : S1x11264.Idx → EReal) (y : S2048x5632.Idx → EReal)
    (h : Cert.Pre_glu_finite.fn (F := Ideal) x w b y = fun _ => 1#1) :
    (∀ i, Fin' (x i)) ∧ (∀ i, Fin' (w i)) ∧ (∀ i, Fin' (b i)) ∧ (∀ i, Fin' (y i)) := by
  have h0 := congrFun h (fun a => a.elim0)
  dsimp only [Cert.Pre_glu_finite.fn] at h0
  have h1 := andi_left (show _ &&& _ = 1#1 from h0)
  have e3 := andi_right (show _ &&& _ = 1#1 from h0)
  have h2 := andi_left (show _ &&& _ = 1#1 from h1)
  have e2 := andi_right (show _ &&& _ = 1#1 from h1)
  have e0 := andi_left (show _ &&& _ = 1#1 from h2)
  have e1 := andi_right (show _ &&& _ = 1#1 from h2)
  haveI : Subsingleton Cert.Pre_glu_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i), fun i => fin_of_abs _ (Host.reduce_andi_all _ _ _ _ _ e3 i)⟩

section Eqs
variable (hx : ∀ i, Fin' (x0 m c i)) (hw : ∀ i, Fin' (x1 m c i)) (hb : ∀ i, Fin' (x2 m c i)) (hy : ∀ i, Fin' (x3 m c i))
include hx hw hb hy

theorem dx_eq : KX (x0 m c) (x1 m c) (x2 m c) (x3 m c)
    = Cert.ConvGluRefIdeal.Read.val_main_v67 (F := Ideal) (x0 m c) (x1 m c) (x2 m c) (x3 m c) := by
  funext i
  obtain ⟨r, j, rfl⟩ : ∃ (r : Fin 2048) (j : Fin 11264), i = ix2 r j := ⟨i 0, i 1, eta2 i⟩
  rw [r67 _ _ _ _ r j hx hw hb hy]
  rfl

theorem dw_eq : KW (x0 m c) (x1 m c) (x2 m c) (x3 m c)
    = Cert.ConvGluRefIdeal.Read.val_main_v63 (F := Ideal) (x0 m c) (x1 m c) (x2 m c) (x3 m c) := by
  funext i
  obtain ⟨k, j, rfl⟩ : ∃ (k : Fin 3) (j : Fin 11264), i = ix2 k j := ⟨i 0, i 1, eta2 i⟩
  rw [r63 _ _ _ _ j hx hw hb hy k]
  rfl

theorem db_eq : KB (x0 m c) (x1 m c) (x2 m c) (x3 m c)
    = Cert.ConvGluRefIdeal.Read.val_main_v40 (F := Ideal) (x0 m c) (x1 m c) (x2 m c) (x3 m c) := by
  funext i
  obtain ⟨o, j, rfl⟩ : ∃ (o : Fin 1) (j : Fin 11264), i = ix2 o j := ⟨i 0, i 1, eta2 i⟩
  rw [r40 _ _ _ _ o j hx hw hb hy]
  rfl
end Eqs

/-- At real arguments, both programs leave the same three gradients. -/
theorem algebraic : Cert.algebraic_ConvGluIdeal_ConvGluRefIdeal_pre_glu_finite := by
  intro m ρ m' ρ' hpre hargs
  refine ⟨fun c => KX (x0 m c) (x1 m c) (x2 m c) (x3 m c), fun c => KW (x0 m c) (x1 m c) (x2 m c) (x3 m c),
    fun c => KB (x0 m c) (x1 m c) (x2 m c) (x3 m c), ?_, ?_⟩
  · refine (θ_run defs _ _).mono (fun r h c => ?_) (Cert.ConvGluIdeal.Value.run_blocks m ρ)
    obtain ⟨h0, h1, h2, h3⟩ := h c
    exact ⟨h0.trans (arr_4 m c), h1.trans (arr_5 m c), h2.trans (arr_6 m c), h3⟩
  · refine (θ_run Cert.ConvGluRefIdeal.defs _ _).mono (fun r h c => ?_) (Cert.ConvGluRefIdeal.Value.run m' ρ')
    obtain ⟨h0, h1, h2, h3⟩ := h c
    obtain ⟨a0, a1, a2, a3⟩ := hargs c
    obtain ⟨hx, hw, hb, hy⟩ := finite_of_pre _ _ _ _ (hpre c)
    refine ⟨h0.trans ?_, h1.trans ?_, h2.trans ?_, h3⟩
    · rw [Cert.ConvGluRefIdeal.Read.val_main_v67_eq, a0, a1, a2, a3]
      exact (dx_eq m c hx hw hb hy).symm
    · rw [Cert.ConvGluRefIdeal.Read.val_main_v63_eq, a0, a1, a2, a3]
      exact (dw_eq m c hx hw hb hy).symm
    · rw [Cert.ConvGluRefIdeal.Read.val_main_v40_eq, a0, a1, a2, a3]
      exact (db_eq m c hx hw hb hy).symm

end Cert.ConvGluIdeal.Val

end
-- ==== Proof.Nm.GroupNorm.lean ====
/- The gradient of the norm of the heads: the rows' gradient block by block and head by head, and the gain's as a sum over both. -/
module

public import proofs.«01_k».proof.Proof.Gen.GroupNormIdeal.Value
public import proofs.«01_k».proof.Proof.Gen.GroupNormRefIdeal
public import proofs.«01_k».proof.Proof.Gen.GroupNormRefIdeal.Read
public import proofs.«01_k».proof.Proof.Gen.GroupNormRefIdeal.Run
public import proofs.«01_k».proof.Proof.Gen.Pre_group_norm_finite
public import proofs.«01_k».proof.Defs
public import proofs.«01_k».proof.Proof.Mm.Base
public import proofs.«01_k».proof.Proof.Nm.Math
public import proofs.«01_k».proof.Proof.Finite
public import proofs.«01_k».proof.Proof.BlockSum
public import Idealize.ShloMosaic.Lib.Pipeline.ValueKit.Tiles
public import Idealize.ShloMosaic.Lib.VecWindow

@[expose] public section

set_option maxRecDepth 16384

noncomputable section

namespace Cert.GroupNormIdeal.Val

open Cert.GroupNormIdeal Cert.GroupNormIdeal.Gen Cert.Mm Cert.Nm Cert.AttnMath Idealize.ShloMosaic Idealize.ShloMosaic.TcCoe Idealize.SL.Sem

/-! ## The heads' payloads -/

section Same
variable (X Y : Vec Ideal S512x128 .f32) (g acc : Vec Ideal S1x128 .f32)

/-! Every head's payloads are the first head's. -/

theorem same_x1 : k0_pay10 (F := Ideal) X Y g = k0_pay6 X Y g := rfl
theorem same_g1 : k0_pay11 (F := Ideal) X Y acc = k0_pay7 X Y acc := rfl
theorem same_x2 : k0_pay15 (F := Ideal) X (k0_pay12 X) Y g = k0_pay6 X Y g := rfl
theorem same_g2 : k0_pay16 (F := Ideal) X (k0_pay12 X) Y acc = k0_pay7 X Y acc := rfl
theorem same_x3 : k0_pay20 (F := Ideal) X (k0_pay17 X) (FloatOps.ofBits FTy.f32 897988541#32) Y g = k0_pay6 X Y g := rfl
theorem same_g3 : k0_pay21 (F := Ideal) X (k0_pay17 X) (FloatOps.ofBits FTy.f32 897988541#32) Y acc = k0_pay7 X Y acc := rfl
theorem same_x4 : k0_pay24 (F := Ideal) (k0_pay22 X) (k0_pay23 X) Y g = k0_pay6 X Y g := rfl
theorem same_g4 : k0_pay25 (F := Ideal) (k0_pay23 X) Y acc = k0_pay7 X Y acc := rfl
theorem same_x5 : k0_pay29 (F := Ideal) (k0_pay26 X) (k0_pay27 X) Y (k0_pay28 g) = k0_pay6 X Y g := rfl
theorem same_g5 : k0_pay30 (F := Ideal) (k0_pay27 X) Y acc = k0_pay7 X Y acc := rfl
theorem same_x6 : k0_pay35 (F := Ideal) (k0_pay31 X) (k0_pay32 X) (k0_pay33 Y g) (k0_pay34 X Y g) = k0_pay6 X Y g := rfl
theorem same_g6 : k0_pay36 (F := Ideal) (k0_pay32 X) Y acc = k0_pay7 X Y acc := rfl
theorem same_x7 : k0_pay1 (F := Ideal) (k0_pay37 X) (k0_pay39 X Y g) = k0_pay6 X Y g := rfl
theorem same_g7 : k0_pay2 (F := Ideal) (k0_pay38 X) Y acc = k0_pay7 X Y acc := rfl
end Same

/-- The columns of a head, from column `o`. -/
def hd (x : Vec Ideal S512x1024 .f32) (o : ℕ) (ho : o + 128 ≤ 1024) : Vec Ideal S512x128 .f32 :=
  fun i => x (ix2 (i 0) ⟨o + (i 1).val, by have h : (i 1).val < 128 := (i 1).isLt; omega⟩)

theorem ld_hd (x : Vec Ideal S512x1024 .f32) (o : ℕ) (ho : o + 128 ≤ 1024) (inb : ∀ a, (![0, o] : Fin 2 → ℕ) a + (![512, 128] : Fin 2 → ℕ) a ≤ S512x1024.size a) :
    View.ld x (Rect.unit ![0, o] ![512, 128] inb) = hd x o ho := by
  funext i
  refine congrArg x (funext fun z => Fin.ext ?_)
  match z with
  | ⟨0, _⟩ => show 0 + 1 * (i 0).val = (i 0).val; omega
  | ⟨1, _⟩ => show o + 1 * (i 1).val = o + (i 1).val; omega

/-- A row read back after a whole store is what was stored. -/
theorem rc {sig' : RefSig} {κ : Kind} {sp : Space} (v : View sig' κ sp S1x128 .f32) (w : Vec Ideal S1x128 .f32) (L : List (View.Piece (Elt Ideal) S1x128 .f32))
    (i1 i2 : ∀ a, (![0, 0] : Fin 2 → ℕ) a + (![1, 128] : Fin 2 → ℕ) a ≤ S1x128.size a) :
    v.readCov (⟨Rect.unit ![0, 0] ![1, 128] i1, w⟩ :: L) (Rect.unit ![0, 0] ![1, 128] i2).toLoadRect = w :=
  View.readCov_full v i2 i1 w L

/-- The row of sums after one point's heads. -/
def gsum (x y : Vec Ideal S512x1024 .f32) (acc : Vec Ideal S1x128 .f32) : Vec Ideal S1x128 .f32 :=
  k0_pay7 (hd x 896 (by norm_num)) (hd y 896 (by norm_num)) (k0_pay7 (hd x 768 (by norm_num)) (hd y 768 (by norm_num)) (k0_pay7 (hd x 640 (by norm_num)) (hd y 640 (by norm_num)) (k0_pay7 (hd x 512 (by norm_num)) (hd y 512 (by norm_num)) (k0_pay7 (hd x 384 (by norm_num)) (hd y 384 (by norm_num)) (k0_pay7 (hd x 256 (by norm_num)) (hd y 256 (by norm_num)) (k0_pay7 (hd x 128 (by norm_num)) (hd y 128 (by norm_num)) (k0_pay7 (hd x 0 (by norm_num)) (hd y 0 (by norm_num)) acc)))))))

/-! ## One point of the grid -/

section Cases
variable (c : Dev nD) (i : grid0.Coords)
  (a1 : Memref sig .tc .vmem S512x1024 .f32) (h1 : a1.IsWhole) (a2 : Memref sig .tc .vmem S1x128 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x128 .f32) (h5 : a5.IsWhole)
  (x0 : Vec Ideal S512x1024 .f32) (x1 : Vec Ideal S1x128 .f32) (x2 : Vec Ideal S512x1024 .f32)

/-- What a point leaves in entry `(a, j)` of its block: the head's payload there. -/
def dxv (x y : Vec Ideal S512x1024 .f32) (g : Vec Ideal S1x128 .f32) (a : Fin 512) (j : Fin 1024) : EReal :=
  k0_pay6 (F := Ideal) (hd x (128 * (j.val / 128)) (by omega)) (hd y (128 * (j.val / 128)) (by omega)) g (ix2 a ⟨j.val % 128, by omega⟩)

theorem dxv_at (x y : Vec Ideal S512x1024 .f32) (g : Vec Ideal S1x128 .f32) (a : Fin 512) (j : Fin 1024) (o : ℕ) (s : Fin 128) (hn : o % 128 = 0) (ho : o + 128 ≤ 1024)
    (hj : j.val = o + s.val) : k0_pay6 (F := Ideal) (hd x o ho) (hd y o ho) g (ix2 a s) = dxv x y g a j := by
  have e : o = 128 * (j.val / 128) := by have h := s.isLt; omega
  have e1 : s = ⟨j.val % 128, by omega⟩ := Fin.ext (by have h := s.isLt; show s.val = j.val % 128; omega)
  subst e
  unfold dxv
  rw [← e1]

/-- At the first point, the gradient of the block's rows. -/
theorem out_A_3 (hc : cond0_0 i) (a : Fin 512) (j : Fin 1024) :
    out0_A_3 c i a1 h1 a2 h2 a3 h3 a4 h4 a5 h5 hc x0 x1 x2 (ix2 a j) = dxv x0 x2 x1 a j := by
  unfold out0_A_3
  rw [View.read_writes_eq_canon _ _ _ (cover0_A_3 c i a1 h1 a2 h2 a3 h3 a4 h4 a5 h5 hc x0 x1 x2)]
  have hcov := cover0_A_3 c i a1 h1 a2 h2 a3 h3 a4 h4 a5 h5 hc x0 x1 x2 (ix2 a j)
  revert hcov
  unfold kernelRun0_A
  dsimp only
  sl_unfold_words
  simp only [View.readAt_eq_ld, h1.read_unread, h2.read_unread, h3.read_unread, h5.read_unread, View.ld_unit_zero (S := S1x128) hz2]
  simp only [same_x1, same_x2, same_x3, same_x4, same_x5, same_x6, same_x7]
  simp only [ld_hd _ 0 (by norm_num), ld_hd _ 128 (by norm_num), ld_hd _ 256 (by norm_num), ld_hd _ 384 (by norm_num), ld_hd _ 512 (by norm_num), ld_hd _ 640 (by norm_num), ld_hd _ 768 (by norm_num), ld_hd _ 896 (by norm_num)]
  intro hcov
  canon_tiles z h using hcov
  all_goals
    obtain ⟨b, s, rfl⟩ : ∃ (b : Fin 512) (s : Fin 128), z = ix2 b s := ⟨z 0, z 1, eta2 z⟩
    obtain rfl : b = a := Fin.ext h0.symm
    first | exact dxv_at _ _ _ _ _ _ s (by norm_num) _ h1 | exact dxv_at _ _ _ _ _ _ s (by norm_num) _ (h1.trans (Nat.zero_add _).symm)

/-- At the first point, the block's terms of the gain's gradient, added to the zero row. -/
theorem out_A_4 (hc : cond0_0 i) :
    out0_A_4 c i a1 h1 a2 h2 a3 h3 a4 h4 a5 h5 hc x0 x1 x2 = gsum x0 x2 (k0_pay3 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz2]
  simp only [rc]
  simp only [View.readAt_eq_ld, h1.read_unread, h2.read_unread, h3.read_unread, h5.read_unread, View.ld_unit_zero (S := S1x128) hz2]
  simp only [same_g1, same_g2, same_g3, same_g4, same_g5, same_g6, same_g7]
  simp only [ld_hd _ 0 (by norm_num), ld_hd _ 128 (by norm_num), ld_hd _ 256 (by norm_num), ld_hd _ 384 (by norm_num), ld_hd _ 512 (by norm_num), ld_hd _ 640 (by norm_num), ld_hd _ 768 (by norm_num), ld_hd _ 896 (by norm_num)]
  rfl

/-- At a later point, the gradient of the block's rows. -/
theorem out_B_3 (hc : ¬cond0_0 i) (xo4 : Vec Ideal S1x128 .f32) (a : Fin 512) (j : Fin 1024) :
    out0_B_3 c i a1 h1 a2 h2 a3 h3 a4 h4 a5 h5 hc x0 x1 x2 xo4 (ix2 a j) = dxv x0 x2 x1 a j := by
  unfold out0_B_3
  rw [View.read_writes_eq_canon _ _ _ (cover0_B_3 c i a1 h1 a2 h2 a3 h3 a4 h4 a5 h5 hc x0 x1 x2 xo4)]
  have hcov := cover0_B_3 c i a1 h1 a2 h2 a3 h3 a4 h4 a5 h5 hc x0 x1 x2 xo4 (ix2 a j)
  revert hcov
  unfold kernelRun0_B
  dsimp only
  sl_unfold_words
  simp only [View.readAt_eq_ld, h1.read_unread, h2.read_unread, h3.read_unread, h5.read_unread, View.ld_unit_zero (S := S1x128) hz2]
  simp only [same_x1, same_x2, same_x3, same_x4, same_x5, same_x6, same_x7]
  simp only [ld_hd _ 0 (by norm_num), ld_hd _ 128 (by norm_num), ld_hd _ 256 (by norm_num), ld_hd _ 384 (by norm_num), ld_hd _ 512 (by norm_num), ld_hd _ 640 (by norm_num), ld_hd _ 768 (by norm_num), ld_hd _ 896 (by norm_num)]
  intro hcov
  canon_tiles z h using hcov
  all_goals
    obtain ⟨b, s, rfl⟩ : ∃ (b : Fin 512) (s : Fin 128), z = ix2 b s := ⟨z 0, z 1, eta2 z⟩
    obtain rfl : b = a := Fin.ext h0.symm
    first | exact dxv_at _ _ _ _ _ _ s (by norm_num) _ h1 | exact dxv_at _ _ _ _ _ _ s (by norm_num) _ (h1.trans (Nat.zero_add _).symm)

/-- At a later point, the block's terms of the gain's gradient, added to what the point before left. -/
theorem out_B_4 (hc : ¬cond0_0 i) (xo4 : Vec Ideal S1x128 .f32) :
    out0_B_4 c i a1 h1 a2 h2 a3 h3 a4 h4 a5 h5 hc x0 x1 x2 xo4 = gsum x0 x2 xo4 := by
  unfold out0_B_4
  rw [View.read_writes_eq_canon _ _ _ (cover0_B_4 c i a1 h1 a2 h2 a3 h3 a4 h4 a5 h5 hc x0 x1 x2 xo4)]
  unfold kernelRun0_B
  dsimp only
  sl_unfold_words
  rw [View.canon_cons_unit_zero (S := S1x128) hz2]
  simp only [rc]
  simp only [View.readAt_eq_ld, h1.read_unread, h2.read_unread, h3.read_unread, h5.read_unread, View.ld_unit_zero (S := S1x128) hz2]
  simp only [same_g1, same_g2, same_g3, same_g4, same_g5, same_g6, same_g7]
  simp only [ld_hd _ 0 (by norm_num), ld_hd _ 128 (by norm_num), ld_hd _ 256 (by norm_num), ld_hd _ 384 (by norm_num), ld_hd _ 512 (by norm_num), ld_hd _ 640 (by norm_num), ld_hd _ 768 (by norm_num), ld_hd _ 896 (by norm_num)]
  rfl

end Cases

/-- The reciprocal of a head's width, as the word the kernel holds. -/
abbrev ic : EReal := Ideal.ofBits .f32 0x3C000000#32

theorem ofBits_128 : Ideal.ofBits .f32 0x43000000#32 = ((128 : ℝ) : EReal) := by
  simp [Ideal.ofBits, Ideal.ieee, -EReal.coe_mul]; norm_num
theorem ofBits_inv128 : Ideal.ofBits .f32 0x3C000000#32 = (((128 : ℝ)⁻¹ : ℝ) : EReal) := by
  simp [Ideal.ofBits, Ideal.ieee, -EReal.coe_mul]; norm_num

section Pay
variable (x y : Vec Ideal S512x128 .f32) (g acc : Vec Ideal S1x128 .f32) (a : Fin 512) (z : Fin 1) (j : Fin 128)

theorem pay_4 : k0_pay4 (F := Ideal) x (ix2 a z) = rr ic (fun s : Fin 128 => x (ix2 a s)) := by
  unfold k0_pay4 rr tt
  pointwise

theorem pay_5 : k0_pay5 (F := Ideal) x (ix2 a j) = x (ix2 a j) * rr ic (fun s : Fin 128 => x (ix2 a s)) := by
  unfold k0_pay5
  pointwise
  rw [pay_4]

theorem pay_6 : k0_pay6 (F := Ideal) x y g (ix2 a j)
    = kdx ic (fun s : Fin 128 => x (ix2 a s)) (fun s => y (ix2 a s) * g (ix2 0 s)) j := by
  unfold k0_pay6 kdx
  pointwise
  simp only [pay_4, pay_5]

theorem pay_3 : k0_pay3 (F := Ideal) (ix2 z j) = 0 := by
  unfold k0_pay3; pointwise

theorem pay_7 : k0_pay7 (F := Ideal) x y acc (ix2 z j)
    = acc (ix2 z j) + ∑ a : Fin 512, y (ix2 a j) * (x (ix2 a j) * rr ic (fun s : Fin 128 => x (ix2 a s))) := by
  obtain rfl : z = 0 := Subsingleton.elim _ _
  unfold k0_pay7
  pointwise
  simp only [pay_5]
end Pay

/-- Column `s` of head `h`. -/
def hc (h : Fin 8) (s : Fin 128) : Fin 1024 := ⟨128 * h.val + s.val, by omega⟩

/-- One row's term of one head in the gain's gradient. -/
def bterm (x y : Vec Ideal S512x1024 .f32) (a : Fin 512) (h : Fin 8) (j : Fin 128) : EReal :=
  y (ix2 a (hc h j)) * (x (ix2 a (hc h j)) * rr ic (fun s : Fin 128 => x (ix2 a (hc h s))))

theorem pay_hd (x y : Vec Ideal S512x1024 .f32) (acc : Vec Ideal S1x128 .f32) (z : Fin 1) (j : Fin 128) (o : ℕ) (ho : o + 128 ≤ 1024) (h : Fin 8) (e : o = 128 * h.val) :
    k0_pay7 (F := Ideal) (hd x o ho) (hd y o ho) acc (ix2 z j) = acc (ix2 z j) + ∑ a : Fin 512, bterm x y a h j := by
  subst e
  rw [pay_7]
  rfl

theorem gsum_at (x y : Vec Ideal S512x1024 .f32) (acc : Vec Ideal S1x128 .f32) (z : Fin 1) (j : Fin 128) :
    gsum x y acc (ix2 z j) = acc (ix2 z j) + ∑ a : Fin 512, ∑ h : Fin 8, bterm x y a h j := by
  unfold gsum
  rw [pay_hd x y _ z j 896 _ 7 rfl]
  rw [pay_hd x y _ z j 768 _ 6 rfl]
  rw [pay_hd x y _ z j 640 _ 5 rfl]
  rw [pay_hd x y _ z j 512 _ 4 rfl]
  rw [pay_hd x y _ z j 384 _ 3 rfl]
  rw [pay_hd x y _ z j 256 _ 2 rfl]
  rw [pay_hd x y _ z j 128 _ 1 rfl]
  rw [pay_hd x y _ z j 0 _ 0 rfl]
  rw [Finset.sum_comm, Fin.sum_univ_eight]
  simp only [add_assoc]

theorem dxv_eq (x y : Vec Ideal S512x1024 .f32) (g : Vec Ideal S1x128 .f32) (a : Fin 512) (h : Fin 8) (s : Fin 128) :
    dxv x y g a (hc h s) = kdx ic (fun s : Fin 128 => x (ix2 a (hc h s))) (fun s => y (ix2 a (hc h s)) * g (ix2 0 s)) s := by
  rw [← dxv_at x y g a (hc h s) (128 * h.val) s (by omega) (by omega) rfl, pay_6]
  rfl

/-! ## The arrays -/

variable (m : (ℓ : Loc nD τ sig) → Buf (Elt Ideal) ℓ) (ρ : Dev nD → PrngReg) (c : Dev nD)

/-- The arguments: the input, the gain and the cotangent. -/
abbrev x0 : S2048x1024.Idx → EReal := m ((c : Thread nD τ).loc main_arg0)
abbrev x1 : S128.Idx → EReal := m ((c : Thread nD τ).loc main_arg1)
abbrev x2 : S2048x1024.Idx → EReal := m ((c : Thread nD τ).loc main_arg2)

theorem entry_g (z : Fin 1) (j : Fin 128) : V m c main_v0 (ix2 z j) = x1 m c (ix1 j) := by
  entry_read
  pointwise

/-- A head's row of the input, and of the cotangent times the gain. -/
def xrow (r : Fin 2048) (h : Fin 8) : Fin 128 → EReal := fun s => x0 m c (ix2 r (hc h s))
def wrow (r : Fin 2048) (h : Fin 8) : Fin 128 → EReal := fun s => x2 m c (ix2 r (hc h s)) * x1 m c (ix1 s)

/-- Row `a` of block `t`. -/
def row (t : ℕ) (a : Fin 512) : Fin 2048 := ⟨512 * (t % 4) + a.val, by omega⟩

theorem idx : ∀ t : Fin cfg0.N, t.val < 4
    ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem blk0 (t : Fin cfg0.N) (a : Fin 512) (s : Fin 1024) : iblk m c 0 t (ix2 a s) = x0 m c (ix2 (row t.val a) s) := by
  obtain ⟨ht, ⟨e0, e1⟩, -⟩ := idx t
  show V m c main_arg0 (((cfg0.win 0).blk t).view.emb (ix2 a s)) = _
  rw [V_main_arg0]
  refine congrArg (x0 m c) (funext fun y => Fin.ext ?_)
  match y with
  | ⟨0, _⟩ => show win0_0.index t (0 : Fin 2) * 512 + 1 * a.val = 512 * (t.val % 4) + a.val; omega
  | ⟨1, _⟩ => show win0_0.index t (1 : Fin 2) * 1024 + 1 * s.val = s.val; omega

theorem blk1 (t : Fin cfg0.N) (z : Fin 1) (s : Fin 128) : iblk m c 1 t (ix2 z s) = x1 m c (ix1 s) := by
  obtain ⟨ht, -, ⟨e0, e1⟩, -⟩ := idx t
  refine Eq.trans ?_ (entry_g m c z s)
  show V m c main_v0 (((cfg0.win 1).blk t).view.emb (ix2 z s)) = _
  refine congrArg (V m c main_v0) (funext fun y => Fin.ext ?_)
  match y with
  | ⟨0, _⟩ => show win0_1.index t (0 : Fin 2) * 1 + 1 * z.val = z.val; omega
  | ⟨1, _⟩ => show win0_1.index t (1 : Fin 2) * 128 + 1 * s.val = s.val; omega

theorem blk2 (t : Fin cfg0.N) (a : Fin 512) (s : Fin 1024) : iblk m c 2 t (ix2 a s) = x2 m c (ix2 (row t.val a) s) := by
  obtain ⟨ht, -, -, ⟨e0, e1⟩, -⟩ := idx t
  show V m c main_arg2 (((cfg0.win 2).blk t).view.emb (ix2 a s)) = _
  rw [V_main_arg2]
  refine congrArg (x2 m c) (funext fun y => Fin.ext ?_)
  match y with
  | ⟨0, _⟩ => show win0_2.index t (0 : Fin 2) * 512 + 1 * a.val = 512 * (t.val % 4) + a.val; omega
  | ⟨1, _⟩ => show win0_2.index t (1 : Fin 2) * 1024 + 1 * s.val = s.val; omega

/-- What one row gives the gain's gradient: the terms of its heads. -/
def gterm (r : Fin 2048) (j : Fin 128) : EReal := ∑ h : Fin 8, x2 m c (ix2 r (hc h j)) * (x0 m c (ix2 r (hc h j)) * rr ic (xrow m c r h))
/-- What block `i` gives it. -/
def gtm (j : Fin 128) (i : ℕ) : EReal := ∑ a : Fin 512, if hr : 512 * i + a.val < 2048 then gterm m c ⟨512 * i + a.val, hr⟩ j else 0

/-- One point's step of the row of sums. -/
theorem gstep (t : Fin cfg0.N) (acc : Vec Ideal S1x128 .f32) (z : Fin 1) (j : Fin 128) :
    gsum (iblk m c 0 t) (iblk m c 2 t) acc (ix2 z j) = acc (ix2 z j) + gtm m c j t.val := by
  obtain ⟨ht, -⟩ := idx t
  rw [gsum_at]
  refine congrArg (fun q : EReal => acc (ix2 z j) + q) (Finset.sum_congr rfl fun a _ => ?_)
  rw [dif_pos (show 512 * t.val + a.val < 2048 by omega)]
  have e : row t.val a = ⟨512 * t.val + a.val, by omega⟩ := Fin.ext (by show 512 * (t.val % 4) + a.val = 512 * t.val + a.val; omega)
  rw [← e]
  refine Finset.sum_congr rfl fun h _ => ?_
  unfold bterm xrow
  simp only [blk0, blk2]

theorem dx_pt (t : Fin cfg0.N) (a : Fin 512) (h : Fin 8) (s : Fin 128) :
    dxv (iblk m c 0 t) (iblk m c 2 t) (iblk m c 1 t) a (hc h s) = kdx ic (xrow m c (row t.val a) h) (wrow m c (row t.val a) h) s := by
  rw [dxv_eq]
  unfold xrow wrow
  simp only [blk0, blk1, blk2]

theorem outs_3 (t : Fin cfg0.N) (a : Fin 512) (h : Fin 8) (s : Fin 128) :
    (outsAt0 m c t.val t.isLt).1 (ix2 a (hc h s)) = kdx ic (xrow m c (row t.val a) h) (wrow m c (row t.val a) h) s := by
  by_cases h0 : t.val % 4 = 0
  · rw [outsAt0_A m c t h0]
    dsimp only
    rw [out_A_3, dx_pt]
  · rw [outsAt0_B m c t h0]
    dsimp only
    rw [out_B_3, dx_pt]

/-- After a point the row of sums holds the terms of the blocks so far. -/
theorem outs_4 : ∀ (n : ℕ) (hn : n < cfg0.N) (z : Fin 1) (j : Fin 128),
    (outsAt0 m c n hn).2 (ix2 z j) = ∑ i ∈ Finset.range (n + 1), gtm m c j i := by
  have hN : cfg0.N = 4 := by decide +kernel
  intro n
  induction n with
  | zero =>
    intro hn z j
    rw [outsAt0_A m c ⟨0, hn⟩ rfl]
    dsimp only
    rw [out_A_4, gstep, pay_3]
    simp
  | succ n ih =>
    intro hn z j
    rw [outsAt0_B m c ⟨n + 1, hn⟩ (by dsimp only; omega)]
    dsimp only
    rw [out_B_4, gstep, Finset.sum_range_succ _ (n + 1)]
    exact congrArg (· + gtm m c j (n + 1)) (ih (by omega) z j)

/-- The head of a column, and its place in it. -/
def hq (j : Fin 1024) : Fin 8 := ⟨j.val / 128, by omega⟩
def hr (j : Fin 1024) : Fin 128 := ⟨j.val % 128, by omega⟩
theorem hc_qr (j : Fin 1024) : hc (hq j) (hr j) = j := Fin.ext (by show 128 * (j.val / 128) + j.val % 128 = j.val; omega)

/-- What the kernel leaves: the rows' gradient and the gain's. -/
def KX : S2048x1024.Idx → EReal := fun i => kdx ic (xrow m c (i 0) (hq (i 1))) (wrow m c (i 0) (hq (i 1))) (hr (i 1))
def KG : S1x128.Idx → EReal := fun i => ∑ r : Fin 2048, gterm m c r (i 1)

theorem arr_3 : (dats m 0 c).arrAt 3 cfg0.N = KX m c := by
  refine (dats m 0 c).arrAt_eq_of_covers 3 (KX m c) (by decide +kernel) fun t _ y => ?_
  obtain ⟨ht, -, -, -, ⟨e0, e1⟩, -⟩ := idx t
  rw [after0_3]
  obtain ⟨a, j, rfl⟩ : ∃ (a : Fin 512) (j : Fin 1024), y = ix2 a j := ⟨y 0, y 1, eta2 y⟩
  have h0 : ((cfg0.win 3).blk t).view.emb (ix2 a j) = ix2 (row t.val a) j := funext fun z => Fin.ext (by
    match z with
    | ⟨0, _⟩ => show win0_3.index t (0 : Fin 2) * 512 + 1 * a.val = 512 * (t.val % 4) + a.val; omega
    | ⟨1, _⟩ => show win0_3.index t (1 : Fin 2) * 1024 + 1 * j.val = j.val; omega)
  have hp := outs_3 m c t a (hq j) (hr j)
  rw [hc_qr] at hp
  show (outsAt0 m c t.val t.isLt).1 (ix2 a j) = KX m c (((cfg0.win 3).blk t).view.emb (ix2 a j))
  rw [h0, hp]
  rfl

theorem arr_4 : (dats m 0 c).arrAt 4 cfg0.N = KG m c := by
  refine (dats m 0 c).arrAt_eq_of_covers 4 (KG m c) (by decide +kernel) fun t hf y => ?_
  obtain ⟨ht, -, -, -, -, ⟨e0, e1⟩⟩ := idx t
  rw [after0_4]
  obtain ⟨z, j, rfl⟩ : ∃ (z : Fin 1) (j : Fin 128), y = ix2 z j := ⟨y 0, y 1, eta2 y⟩
  have h0 : ((cfg0.win 4).blk t).view.emb (ix2 z j) = ix2 z j := funext fun w => Fin.ext (by
    match w with
    | ⟨0, _⟩ => show win0_4.index t (0 : Fin 2) * 1 + 1 * z.val = z.val; omega
    | ⟨1, _⟩ => show win0_4.index t (1 : Fin 2) * 128 + 1 * j.val = j.val; omega)
  show (outsAt0 m c t.val t.isLt).2 (ix2 z j) = KG m c (((cfg0.win 4).blk t).view.emb (ix2 z j))
  have hl : t.val + 1 = 4 := by have h := (flush0_4 t).mp hf; omega
  rw [h0, outs_4 m c t.val t.isLt z j, hl]
  exact BlockSum.sum_blocks_fin 4 512 2048 rfl (fun r => gterm m c r j)

/-! ## The reference -/

section Ref
open Cert.GroupNormRefIdeal Cert.GroupNormRefIdeal.Read

variable (x y : (⟨S2048x1024, .f32⟩ : BufTy).Contents (Elt Ideal)) (g : (⟨S128, .f32⟩ : BufTy).Contents (Elt Ideal))
variable (r : Fin 2048) (h : Fin 8) (z : Fin 1) (j : Fin 128)

theorem r0 : val_main_v0 (F := Ideal) x (ix3 r h j) = x (ix2 r (hc h j)) := by
  unfold val_main_v0
  pointwise
  exact congrArg x (congrArg (ix2 r) (Fin.ext (by show h.val * 128 + j.val = 128 * h.val + j.val; omega)))

theorem r18 : val_main_v18 (F := Ideal) y (ix3 r h j) = y (ix2 r (hc h j)) := r0 y r h j

theorem r7 : val_main_v7 (F := Ideal) x (ix3 r h z) = tt ic (fun s : Fin 128 => x (ix2 r (hc h s))) := by
  unfold val_main_v7 val_main_v6 val_main_v5 val_main_v4 val_main_v3 val_main_v2 val_main_v1 val_main_cst val_main_cst_0 val_main_cst_1 tt
  pointwise
  simp only [r0]
  rw [ofBits_128, div_real _ _ (by norm_num), ← ofBits_inv128]

theorem r8 : val_main_v8 (F := Ideal) x (ix3 r h z) = rr ic (fun s : Fin 128 => x (ix2 r (hc h s))) := by
  unfold val_main_v8 rr
  pointwise
  rw [r7]

theorem r23 : val_main_v23 (F := Ideal) g y (ix3 r h j) = y (ix2 r (hc h j)) * g (ix1 j) := by
  unfold val_main_v23 val_main_v22 val_main_v14
  pointwise
  rw [r18]

theorem r32 : val_main_v32 (F := Ideal) x g y (ix3 r h z)
    = rz ic (Ideal.ofBits .f32 0xBF000000#32) (Ideal.ofBits .f32 0x43000000#32) (fun s : Fin 128 => x (ix2 r (hc h s))) (fun s => y (ix2 r (hc h s)) * g (ix1 s)) := by
  obtain rfl : z = 0 := Subsingleton.elim _ _
  unfold val_main_v32 val_main_v31 val_main_v30 val_main_v27 val_main_v26 val_main_v25 val_main_v11 val_main_v10 val_main_v9 val_main_cst_2 val_main_cst_5 val_main_cst_6 rz
  pointwise
  simp only [r0, r7, r8, r23]

theorem r38 : val_main_v38 (F := Ideal) x g y (ix3 r h j)
    = rdx ic (Ideal.ofBits .f32 0xBF000000#32) (Ideal.ofBits .f32 0x43000000#32) (fun s : Fin 128 => x (ix2 r (hc h s))) (fun s => y (ix2 r (hc h s)) * g (ix1 s)) j := by
  unfold val_main_v38 val_main_v37 val_main_v36 val_main_v35 val_main_v34 val_main_v33 val_main_v29 val_main_v28 val_main_cst_7 rdx
  pointwise
  simp only [r0, r8, r23, r32, Fin.sum_univ_one]

theorem r39 (k : Fin 1024) : val_main_v39 (F := Ideal) x g y (ix2 r k) = val_main_v38 (F := Ideal) x g y (ix3 r (hq k) (hr k)) := by
  unfold val_main_v39
  pointwise
  rfl

/-- A sum over the first two axes of a rank-3 array is the double sum along them. -/
theorem red01 {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ r : Fin n0, ∑ k : Fin n1, v (ix3 r k j) := by
  have hf : ∀ i : (⟨3, ![n0, n1, n2]⟩ : Shape).Idx,
      h.drop i = ix1 j ↔ ∃ p : Fin n0 × Fin n1, ix3 p.1 p.2 j = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  have hs := Finset.sum_filter_eq_sum_of_fiber (fun i => h.drop i = ix1 j)
    (fun p : Fin n0 × Fin n1 => (ix3 p.1 p.2 j : (⟨3, ![n0, n1, n2]⟩ : Shape).Idx))
    (fun _ _ e => Prod.ext (congrFun e 0) (congrFun e 1)) hf v
  rw [Fintype.sum_prod_type] at hs
  exact congrArg (init + ·) hs

theorem r40 : val_main_v40 (F := Ideal) x y (ix2 z j)
    = ∑ r : Fin 2048, ∑ h : Fin 8, x (ix2 r (hc h j)) * rr ic (fun s : Fin 128 => x (ix2 r (hc h s))) * y (ix2 r (hc h j)) := by
  obtain rfl : z = 0 := Subsingleton.elim _ _
  unfold val_main_v40 val_main_v24 val_main_v21 val_main_v20 val_main_v19 val_main_v13 val_main_v12 val_main_cst_3 val_main_cst_4
  pointwise
  rw [red01, zero_add, Fin.sum_univ_one, Fin.sum_univ_one]
  pointwise
  rw [red01, zero_add]
  pointwise
  simp only [r0, r8, r18]

end Ref

/-! ## The claim -/

open Cert.Pre_group_norm_finite in
theorem finite_of_pre (x y : S2048x1024.Idx → EReal) (g : S128.Idx → EReal) (h : Cert.Pre_group_norm_finite.fn (F := Ideal) x g y = fun _ => 1#1) :
    (∀ i, Fin' (x i)) ∧ (∀ i, Fin' (g i)) ∧ (∀ i, Fin' (y i)) := by
  have h0 := congrFun h (fun a => a.elim0)
  dsimp only [Cert.Pre_group_norm_finite.fn] at h0
  have h1 := andi_left (show _ &&& _ = 1#1 from h0)
  have e2 := andi_right (show _ &&& _ = 1#1 from h0)
  have e0 := andi_left (show _ &&& _ = 1#1 from h1)
  have e1 := andi_right (show _ &&& _ = 1#1 from h1)
  haveI : Subsingleton Cert.Pre_group_norm_finite.S_.Idx := ⟨fun a b => funext fun z => z.elim0⟩
  exact ⟨fun i => fin_of_abs _ (Host.reduce_andi_all _ _ _ _ _ e0 i), fun i => fin_of_abs _ (Host.reduce_andi_all _ _ _ _ _ e1 i),
    fun i => fin_of_abs _ (Host.reduce_andi_all _ _ _ _ _ e2 i)⟩

theorem dx_eq (hf : (∀ i, Fin' (x0 m c i)) ∧ (∀ i, Fin' (x1 m c i)) ∧ (∀ i, Fin' (x2 m c i))) :
    KX m c = Cert.GroupNormRefIdeal.Read.val_main_v39 (F := Ideal) (x0 m c) (x1 m c) (x2 m c) := by
  obtain ⟨hx, hg, hy⟩ := hf
  funext i
  obtain ⟨r, j, rfl⟩ : ∃ (r : Fin 2048) (j : Fin 1024), i = ix2 r j := ⟨i 0, i 1, eta2 i⟩
  rw [r39, r38, ofBits_neg_half, ofBits_128]
  show kdx ic (xrow m c r (hq j)) (wrow m c r (hq j)) (hr j) = _
  unfold ic
  rw [ofBits_inv128]
  exact kdx_eq_rdx 128 (by norm_num) (xrow m c r (hq j)) (wrow m c r (hq j)) (fun s => hx _) (fun s => (hy _).mul (hg _)) (hr j)

theorem dg_eq : KG m c = Cert.GroupNormRefIdeal.Read.val_main_v40 (F := Ideal) (x0 m c) (x2 m c) := by
  funext i
  obtain ⟨z, j, rfl⟩ : ∃ (z : Fin 1) (j : Fin 128), i = ix2 z j := ⟨i 0, i 1, eta2 i⟩
  rw [r40]
  exact Finset.sum_congr rfl fun r _ => Finset.sum_congr rfl fun h _ => mul_comm _ _

/-- At real arguments, both programs leave the same two gradients. -/
theorem algebraic : Cert.algebraic_GroupNormIdeal_GroupNormRefIdeal_pre_group_norm_finite := by
  intro m ρ m' ρ' hpre hargs
  refine ⟨fun c => KX m c, fun c => KG m c, ?_, ?_⟩
  · refine (θ_run defs _ _).mono (fun r h c => ?_) (Cert.GroupNormIdeal.Value.run_blocks m ρ)
    obtain ⟨h0, h1, h2⟩ := h c
    exact ⟨h0.trans (arr_3 m c), h1.trans (arr_4 m c), h2⟩
  · refine (θ_run Cert.GroupNormRefIdeal.defs _ _).mono (fun r h c => ?_) (Cert.GroupNormRefIdeal.Value.run m' ρ')
    obtain ⟨h0, h1, h2⟩ := h c
    obtain ⟨a0, a1, a2⟩ := hargs c
    have hf := finite_of_pre _ _ _ (hpre c)
    refine ⟨h0.trans ?_, h1.trans ?_, h2⟩
    · rw [Cert.GroupNormRefIdeal.Read.val_main_v39_eq, a0, a1, a2]
      exact (dx_eq m c hf).symm
    · rw [Cert.GroupNormRefIdeal.Read.val_main_v40_eq, a0, a2]
      exact (dg_eq m c).symm

end Cert.GroupNormIdeal.Val

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.XattnRefIdeal
public import proofs.«01_k».proof.Proof.Gen.XattnRefIdeal.Run
public import proofs.«01_k».proof.Proof.Gen.InNt
public import proofs.«01_k».proof.Proof.Gen.InNt.Frame
public import proofs.«01_k».proof.Proof.Gen.InNtIdeal
public import proofs.«01_k».proof.Proof.Gen.InNtIdeal.Frame
public import proofs.«01_k».proof.Proof.Gen.InNtRefIdeal
public import proofs.«01_k».proof.Proof.Gen.InNtRefIdeal.Run
public import proofs.«01_k».proof.Proof.Gen.InTn
public import proofs.«01_k».proof.Proof.Gen.InTn.Frame
public import proofs.«01_k».proof.Proof.Gen.InTnIdeal
public import proofs.«01_k».proof.Proof.Gen.InTnIdeal.Frame
public import proofs.«01_k».proof.Proof.Gen.InTnRefIdeal
public import proofs.«01_k».proof.Proof.Gen.InTnRefIdeal.Run
public import proofs.«01_k».proof.Proof.Gen.InNn
public import proofs.«01_k».proof.Proof.Gen.InNn.Frame
public import proofs.«01_k».proof.Proof.Gen.InNnIdeal
public import proofs.«01_k».proof.Proof.Gen.InNnIdeal.Frame
public import proofs.«01_k».proof.Proof.Gen.InNnRefIdeal
public import proofs.«01_k».proof.Proof.Gen.InNnRefIdeal.Run
public import proofs.«01_k».proof.Proof.Gen.QbNt
public import proofs.«01_k».proof.Proof.Gen.QbNt.Frame
public import proofs.«01_k».proof.Proof.Gen.QbNtIdeal
public import proofs.«01_k».proof.Proof.Gen.QbNtIdeal.Frame
public import proofs.«01_k».proof.Proof.Gen.QbNtRefIdeal
public import proofs.«01_k».proof.Proof.Gen.QbNtRefIdeal.Run
public import proofs.«01_k».proof.Proof.Gen.QbTn
public import proofs.«01_k».proof.Proof.Gen.QbTn.Frame
public import proofs.«01_k».proof.Proof.Gen.QbTnIdeal
public import proofs.«01_k».proof.Proof.Gen.QbTnIdeal.Frame
public import proofs.«01_k».proof.Proof.Gen.QbTnRefIdeal
public import proofs.«01_k».proof.Proof.Gen.QbTnRefIdeal.Run
public import proofs.«01_k».proof.Proof.Gen.QbNn
public import proofs.«01_k».proof.Proof.Gen.QbNn.Frame
public import proofs.«01_k».proof.Proof.Gen.QbNnIdeal
public import proofs.«01_k».proof.Proof.Gen.QbNnIdeal.Frame
public import proofs.«01_k».proof.Proof.Gen.QbNnRefIdeal
public import proofs.«01_k».proof.Proof.Gen.QbNnRefIdeal.Run
public import proofs.«01_k».proof.Proof.Gen.KvbNt
public import proofs.«01_k».proof.Proof.Gen.KvbNt.Frame
public import proofs.«01_k».proof.Proof.Gen.KvbNtIdeal
public import proofs.«01_k».proof.Proof.Gen.KvbNtIdeal.Frame
public import proofs.«01_k».proof.Proof.Gen.KvbNtRefIdeal
public import proofs.«01_k».proof.Proof.Gen.KvbNtRefIdeal.Run
public import proofs.«01_k».proof.Proof.Gen.KvbTn
public import proofs.«01_k».proof.Proof.Gen.KvbTn.Frame
public import proofs.«01_k».proof.Proof.Gen.KvbTnIdeal
public import proofs.«01_k».proof.Proof.Gen.KvbTnIdeal.Frame
public import proofs.«01_k».proof.Proof.Gen.KvbTnRefIdeal
public import proofs.«01_k».proof.Proof.Gen.KvbTnRefIdeal.Run
public import proofs.«01_k».proof.Proof.Gen.KvbNn
public import proofs.«01_k».proof.Proof.Gen.KvbNn.Frame
public import proofs.«01_k».proof.Proof.Gen.KvbNnIdeal
public import proofs.«01_k».proof.Proof.Gen.KvbNnIdeal.Frame
public import proofs.«01_k».proof.Proof.Gen.KvbNnRefIdeal
public import proofs.«01_k».proof.Proof.Gen.KvbNnRefIdeal.Run
public import proofs.«01_k».proof.Proof.Gen.SqNt
public import proofs.«01_k».proof.Proof.Gen.SqNt.Frame
public import proofs.«01_k».proof.Proof.Gen.SqNtIdeal
public import proofs.«01_k».proof.Proof.Gen.SqNtIdeal.Frame
public import proofs.«01_k».proof.Proof.Gen.SqNtRefIdeal
public import proofs.«01_k».proof.Proof.Gen.SqNtRefIdeal.Run
public import proofs.«01_k».proof.Proof.Gen.SqTn
public import proofs.«01_k».proof.Proof.Gen.SqTn.Frame
public import proofs.«01_k».proof.Proof.Gen.SqTnIdeal
public import proofs.«01_k».proof.Proof.Gen.SqTnIdeal.Frame
public import proofs.«01_k».proof.Proof.Gen.SqTnRefIdeal
public import proofs.«01_k».proof.Proof.Gen.SqTnRefIdeal.Run
public import proofs.«01_k».proof.Proof.Gen.SqNn
public import proofs.«01_k».proof.Proof.Gen.SqNn.Frame
public import proofs.«01_k».proof.Proof.Gen.SqNnIdeal
public import proofs.«01_k».proof.Proof.Gen.SqNnIdeal.Frame
public import proofs.«01_k».proof.Proof.Gen.SqNnRefIdeal
public import proofs.«01_k».proof.Proof.Gen.SqNnRefIdeal.Run
public import proofs.«01_k».proof.Proof.Gen.SqRes
public import proofs.«01_k».proof.Proof.Gen.SqRes.Frame
public import proofs.«01_k».proof.Proof.Gen.SqResIdeal
public import proofs.«01_k».proof.Proof.Gen.SqResIdeal.Frame
public import proofs.«01_k».proof.Proof.Gen.SqResRefIdeal
public import proofs.«01_k».proof.Proof.Gen.SqResRefIdeal.Run
public import proofs.«01_k».proof.Proof.Gen.MemNt
public import proofs.«01_k».proof.Proof.Gen.MemNt.Frame
public import proofs.«01_k».proof.Proof.Gen.MemNtIdeal
public import proofs.«01_k».proof.Proof.Gen.MemNtIdeal.Frame
public import proofs.«01_k».proof.Proof.Gen.MemNtRefIdeal
public import proofs.«01_k».proof.Proof.Gen.MemNtRefIdeal.Run
public import proofs.«01_k».proof.Proof.Gen.MemTn
public import proofs.«01_k».proof.Proof.Gen.MemTn.Frame
public import proofs.«01_k».proof.Proof.Gen.MemTnIdeal
public import proofs.«01_k».proof.Proof.Gen.MemTnIdeal.Frame
public import proofs.«01_k».proof.Proof.Gen.MemTnRefIdeal
public import proofs.«01_k».proof.Proof.Gen.MemTnRefIdeal.Run
public import proofs.«01_k».proof.Proof.Gen.MemNn
public import proofs.«01_k».proof.Proof.Gen.MemNn.Frame
public import proofs.«01_k».proof.Proof.Gen.MemNnIdeal
public import proofs.«01_k».proof.Proof.Gen.MemNnIdeal.Frame
public import proofs.«01_k».proof.Proof.Gen.MemNnRefIdeal
public import proofs.«01_k».proof.Proof.Gen.MemNnRefIdeal.Run
public import proofs.«01_k».proof.Proof.Gen.UpNt
public import proofs.«01_k».proof.Proof.Gen.UpNt.Frame
public import proofs.«01_k».proof.Proof.Gen.UpNtIdeal
public import proofs.«01_k».proof.Proof.Gen.UpNtIdeal.Frame
public import proofs.«01_k».proof.Proof.Gen.UpNtRefIdeal
public import proofs.«01_k».proof.Proof.Gen.UpNtRefIdeal.Run
public import proofs.«01_k».proof.Proof.Gen.UpTn
public import proofs.«01_k».proof.Proof.Gen.UpTn.Frame
public import proofs.«01_k».proof.Proof.Gen.UpTnIdeal
public import proofs.«01_k».proof.Proof.Gen.UpTnIdeal.Frame
public import proofs.«01_k».proof.Proof.Gen.UpTnRefIdeal
public import proofs.«01_k».proof.Proof.Gen.UpTnRefIdeal.Run
public import proofs.«01_k».proof.Proof.Gen.UpNn
public import proofs.«01_k».proof.Proof.Gen.UpNn.Frame
public import proofs.«01_k».proof.Proof.Gen.UpNnIdeal
public import proofs.«01_k».proof.Proof.Gen.UpNnIdeal.Frame
public import proofs.«01_k».proof.Proof.Gen.UpNnRefIdeal
public import proofs.«01_k».proof.Proof.Gen.UpNnRefIdeal.Run
public import proofs.«01_k».proof.Proof.Gen.DownNt
public import proofs.«01_k».proof.Proof.Gen.DownNt.Frame
public import proofs.«01_k».proof.Proof.Gen.DownNtIdeal
public import proofs.«01_k».proof.Proof.Gen.DownNtIdeal.Frame
public import proofs.«01_k».proof.Proof.Gen.DownNtRefIdeal
public import proofs.«01_k».proof.Proof.Gen.DownNtRefIdeal.Run
public import proofs.«01_k».proof.Proof.Gen.DownTn
public import proofs.«01_k».proof.Proof.Gen.DownTn.Frame
public import proofs.«01_k».proof.Proof.Gen.DownTnIdeal
public import proofs.«01_k».proof.Proof.Gen.DownTnIdeal.Frame
public import proofs.«01_k».proof.Proof.Gen.DownTnRefIdeal
public import proofs.«01_k».proof.Proof.Gen.DownTnRefIdeal.Run
public import proofs.«01_k».proof.Proof.Gen.DownRes
public import proofs.«01_k».proof.Proof.Gen.DownRes.Frame
public import proofs.«01_k».proof.Proof.Gen.DownResIdeal
public import proofs.«01_k».proof.Proof.Gen.DownResIdeal.Frame
public import proofs.«01_k».proof.Proof.Gen.DownResRefIdeal
public import proofs.«01_k».proof.Proof.Gen.DownResRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Read
public import proofs.«01_k».proof.Proof.Gen.AdamInRefIdeal.Run
public import proofs.«01_k».proof.Proof.Gen.AdamPacked
public import proofs.«01_k».proof.Proof.Gen.AdamPacked.Frame
public import proofs.«01_k».proof.Proof.Gen.AdamPackedIdeal
public import proofs.«01_k».proof.Proof.Gen.AdamPackedIdeal.Frame
public import proofs.«01_k».proof.Proof.Gen.AdamPackedIdeal.Value
public import proofs.«01_k».proof.Proof.Gen.AdamPackedRefIdeal
public import proofs.«01_k».proof.Proof.Gen.AdamPackedRefIdeal.Read
public import proofs.«01_k».proof.Proof.Gen.AdamPackedRefIdeal.Run
public import proofs.«01_k».proof.Proof.Gen.AdamQb
public import proofs.«01_k».proof.Proof.Gen.AdamQb.Frame
public import proofs.«01_k».proof.Proof.Gen.AdamQbIdeal
public import proofs.«01_k».proof.Proof.Gen.AdamQbIdeal.Frame
public import proofs.«01_k».proof.Proof.Gen.AdamQbRefIdeal
public import proofs.«01_k».proof.Proof.Gen.AdamQbRefIdeal.Read
public import proofs.«01_k».proof.Proof.Gen.AdamQbRefIdeal.Run
public import proofs.«01_k».proof.Proof.Gen.AdamKvb
public import proofs.«01_k».proof.Proof.Gen.AdamKvb.Frame
public import proofs.«01_k».proof.Proof.Gen.AdamKvbIdeal
public import proofs.«01_k».proof.Proof.Gen.AdamKvbIdeal.Frame
public import proofs.«01_k».proof.Proof.Gen.AdamKvbRefIdeal
public import proofs.«01_k».proof.Proof.Gen.AdamKvbRefIdeal.Read
public import proofs.«01_k».proof.Proof.Gen.AdamKvbRefIdeal.Run
public import proofs.«01_k».proof.Proof.Gen.AdamSq
public import proofs.«01_k».proof.Proof.Gen.AdamSq.Frame
public import proofs.«01_k».proof.Proof.Gen.AdamSqIdeal
public import proofs.«01_k».proof.Proof.Gen.AdamSqIdeal.Frame
public import proofs.«01_k».proof.Proof.Gen.AdamSqRefIdeal
public import proofs.«01_k».proof.Proof.Gen.AdamSqRefIdeal.Read
public import proofs.«01_k».proof.Proof.Gen.AdamSqRefIdeal.Run
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpRefIdeal
public import proofs.«01_k».proof.Proof.Gen.AdamUpRefIdeal.Read
public import proofs.«01_k».proof.Proof.Gen.AdamUpRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamDownRefIdeal.Read
public import proofs.«01_k».proof.Proof.Gen.AdamDownRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Read
public import proofs.«01_k».proof.Proof.Gen.NormRefIdeal.Run
public import proofs.«01_k».proof.Proof.Gen.NormMem
public import proofs.«01_k».proof.Proof.Gen.NormMem.Frame
public import proofs.«01_k».proof.Proof.Gen.NormMemIdeal
public import proofs.«01_k».proof.Proof.Gen.NormMemIdeal.Frame
public import proofs.«01_k».proof.Proof.Gen.NormMemIdeal.Value
public import proofs.«01_k».proof.Proof.Gen.NormMemRefIdeal
public import proofs.«01_k».proof.Proof.Gen.NormMemRefIdeal.Read
public import proofs.«01_k».proof.Proof.Gen.NormMemRefIdeal.Run
public import proofs.«01_k».proof.Proof.Gen.NormQ
public import proofs.«01_k».proof.Proof.Gen.NormQ.Frame
public import proofs.«01_k».proof.Proof.Gen.NormQIdeal
public import proofs.«01_k».proof.Proof.Gen.NormQIdeal.Frame
public import proofs.«01_k».proof.Proof.Gen.NormQIdeal.Value
public import proofs.«01_k».proof.Proof.Gen.NormQRefIdeal
public import proofs.«01_k».proof.Proof.Gen.NormQRefIdeal.Read
public import proofs.«01_k».proof.Proof.Gen.NormQRefIdeal.Run
public import proofs.«01_k».proof.Proof.Gen.NormKv
public import proofs.«01_k».proof.Proof.Gen.NormKv.Frame
public import proofs.«01_k».proof.Proof.Gen.NormKvIdeal
public import proofs.«01_k».proof.Proof.Gen.NormKvIdeal.Frame
public import proofs.«01_k».proof.Proof.Gen.NormKvIdeal.Value
public import proofs.«01_k».proof.Proof.Gen.NormKvRefIdeal
public import proofs.«01_k».proof.Proof.Gen.NormKvRefIdeal.Read
public import proofs.«01_k».proof.Proof.Gen.NormKvRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Read
public import proofs.«01_k».proof.Proof.Gen.LossRefIdeal.Run
public import proofs.«01_k».proof.Proof.Gen.ConvSilu
public import proofs.«01_k».proof.Proof.Gen.ConvSilu.Frame
public import proofs.«01_k».proof.Proof.Gen.ConvSiluIdeal
public import proofs.«01_k».proof.Proof.Gen.ConvSiluIdeal.Frame
public import proofs.«01_k».proof.Proof.Gen.ConvSiluIdeal.Value
public import proofs.«01_k».proof.Proof.Gen.ConvSiluRefIdeal
public import proofs.«01_k».proof.Proof.Gen.ConvSiluRefIdeal.Read
public import proofs.«01_k».proof.Proof.Gen.ConvSiluRefIdeal.Run
public import proofs.«01_k».proof.Proof.Gen.ConvGlu
public import proofs.«01_k».proof.Proof.Gen.ConvGlu.Frame
public import proofs.«01_k».proof.Proof.Gen.ConvGluIdeal
public import proofs.«01_k».proof.Proof.Gen.ConvGluIdeal.Frame
public import proofs.«01_k».proof.Proof.Gen.ConvGluIdeal.Value
public import proofs.«01_k».proof.Proof.Gen.ConvGluRefIdeal
public import proofs.«01_k».proof.Proof.Gen.ConvGluRefIdeal.Read
public import proofs.«01_k».proof.Proof.Gen.ConvGluRefIdeal.Run
public import proofs.«01_k».proof.Proof.Gen.GroupNorm
public import proofs.«01_k».proof.Proof.Gen.GroupNorm.Frame
public import proofs.«01_k».proof.Proof.Gen.GroupNormIdeal
public import proofs.«01_k».proof.Proof.Gen.GroupNormIdeal.Frame
public import proofs.«01_k».proof.Proof.Gen.GroupNormIdeal.Value
public import proofs.«01_k».proof.Proof.Gen.GroupNormRefIdeal
public import proofs.«01_k».proof.Proof.Gen.GroupNormRefIdeal.Read
public import proofs.«01_k».proof.Proof.Gen.GroupNormRefIdeal.Run
public import proofs.«01_k».proof.Proof.Gen.Pre_xa_finite
public import proofs.«01_k».proof.Proof.Gen.Pre_norm_finite
public import proofs.«01_k».proof.Proof.Gen.Pre_norm_mem_finite
public import proofs.«01_k».proof.Proof.Gen.Pre_norm_q_finite
public import proofs.«01_k».proof.Proof.Gen.Pre_norm_kv_finite
public import proofs.«01_k».proof.Proof.Gen.Pre_conv_finite
public import proofs.«01_k».proof.Proof.Gen.Pre_glu_finite
public import proofs.«01_k».proof.Proof.Gen.Pre_group_norm_finite
public import proofs.«01_k».proof.Proof.Xa.Equal
public import proofs.«01_k».proof.Proof.Mm.InNt
public import proofs.«01_k».proof.Proof.Mm.InTn
public import proofs.«01_k».proof.Proof.Mm.InNn
public import proofs.«01_k».proof.Proof.Mm.QbNt
public import proofs.«01_k».proof.Proof.Mm.QbTn
public import proofs.«01_k».proof.Proof.Mm.QbNn
public import proofs.«01_k».proof.Proof.Mm.KvbNt
public import proofs.«01_k».proof.Proof.Mm.KvbTn
public import proofs.«01_k».proof.Proof.Mm.KvbNn
public import proofs.«01_k».proof.Proof.Mm.SqNt
public import proofs.«01_k».proof.Proof.Mm.SqTn
public import proofs.«01_k».proof.Proof.Mm.SqNn
public import proofs.«01_k».proof.Proof.Mm.SqRes
public import proofs.«01_k».proof.Proof.Mm.MemNt
public import proofs.«01_k».proof.Proof.Mm.MemTn
public import proofs.«01_k».proof.Proof.Mm.MemNn
public import proofs.«01_k».proof.Proof.Mm.UpNt
public import proofs.«01_k».proof.Proof.Mm.UpTn
public import proofs.«01_k».proof.Proof.Mm.UpNn
public import proofs.«01_k».proof.Proof.Mm.DownNt
public import proofs.«01_k».proof.Proof.Mm.DownTn
public import proofs.«01_k».proof.Proof.Mm.DownRes
public import proofs.«01_k».proof.Proof.Ad.In
public import proofs.«01_k».proof.Proof.Ad.Packed
public import proofs.«01_k».proof.Proof.Ad.Qb
public import proofs.«01_k».proof.Proof.Ad.Kvb
public import proofs.«01_k».proof.Proof.Ad.Sq
public import proofs.«01_k».proof.Proof.Ad.Up
public import proofs.«01_k».proof.Proof.Ad.Down
public import proofs.«01_k».proof.Proof.Nm.Norm
public import proofs.«01_k».proof.Proof.Nm.NormMem
public import proofs.«01_k».proof.Proof.Nm.NormQ
public import proofs.«01_k».proof.Proof.Nm.NormKv
public import proofs.«01_k».proof.Proof.Nm.Loss
public import proofs.«01_k».proof.Proof.Nm.ConvSilu
public import proofs.«01_k».proof.Proof.Nm.ConvGlu
public import proofs.«01_k».proof.Proof.Nm.GroupNorm
public import Idealize.ShloMosaic.Adequacy
public import Idealize.ShloMosaic.Init

@[expose] public section

noncomputable section

namespace Cert.Proof

open Idealize.ShloMosaic Idealize.SL.Sem

/-- The reference of the causal attention: its arguments end unchanged, and it has no semaphores. -/
theorem frame_Attn : Cert.quiescent_AttnRefIdeal := fun m ρ _ =>
  (θ_run Cert.AttnRefIdeal.defs _ _).mono
    (fun r h => ⟨fun c => (h c).2.2.2, sem_eq_zero_of_no_sems (by decide) r.2⟩)
    (Cert.AttnRefIdeal.Value.run m ρ)

/-- The reference of the attention over the memory: likewise. -/
theorem frame_Xattn : Cert.quiescent_XattnRefIdeal := fun m ρ _ =>
  (θ_run Cert.XattnRefIdeal.defs _ _).mono
    (fun r h => ⟨fun c => (h c).2.2.2, sem_eq_zero_of_no_sems (by decide) r.2⟩)
    (Cert.XattnRefIdeal.Value.run m ρ)

/-! The references of the products: likewise. -/

theorem frame_InNt : Cert.quiescent_InNtRefIdeal := fun m ρ _ =>
  (θ_run Cert.InNtRefIdeal.defs _ _).mono (fun r h => ⟨fun c => (h c).2, sem_eq_zero_of_no_sems (by decide) r.2⟩) (Cert.InNtRefIdeal.Value.run m ρ)
theorem frame_InTn : Cert.quiescent_InTnRefIdeal := fun m ρ _ =>
  (θ_run Cert.InTnRefIdeal.defs _ _).mono (fun r h => ⟨fun c => (h c).2, sem_eq_zero_of_no_sems (by decide) r.2⟩) (Cert.InTnRefIdeal.Value.run m ρ)
theorem frame_InNn : Cert.quiescent_InNnRefIdeal := fun m ρ _ =>
  (θ_run Cert.InNnRefIdeal.defs _ _).mono (fun r h => ⟨fun c => (h c).2, sem_eq_zero_of_no_sems (by decide) r.2⟩) (Cert.InNnRefIdeal.Value.run m ρ)
theorem frame_QbNt : Cert.quiescent_QbNtRefIdeal := fun m ρ _ =>
  (θ_run Cert.QbNtRefIdeal.defs _ _).mono (fun r h => ⟨fun c => (h c).2, sem_eq_zero_of_no_sems (by decide) r.2⟩) (Cert.QbNtRefIdeal.Value.run m ρ)
theorem frame_QbTn : Cert.quiescent_QbTnRefIdeal := fun m ρ _ =>
  (θ_run Cert.QbTnRefIdeal.defs _ _).mono (fun r h => ⟨fun c => (h c).2, sem_eq_zero_of_no_sems (by decide) r.2⟩) (Cert.QbTnRefIdeal.Value.run m ρ)
theorem frame_QbNn : Cert.quiescent_QbNnRefIdeal := fun m ρ _ =>
  (θ_run Cert.QbNnRefIdeal.defs _ _).mono (fun r h => ⟨fun c => (h c).2, sem_eq_zero_of_no_sems (by decide) r.2⟩) (Cert.QbNnRefIdeal.Value.run m ρ)
theorem frame_KvbNt : Cert.quiescent_KvbNtRefIdeal := fun m ρ _ =>
  (θ_run Cert.KvbNtRefIdeal.defs _ _).mono (fun r h => ⟨fun c => (h c).2, sem_eq_zero_of_no_sems (by decide) r.2⟩) (Cert.KvbNtRefIdeal.Value.run m ρ)
theorem frame_KvbTn : Cert.quiescent_KvbTnRefIdeal := fun m ρ _ =>
  (θ_run Cert.KvbTnRefIdeal.defs _ _).mono (fun r h => ⟨fun c => (h c).2, sem_eq_zero_of_no_sems (by decide) r.2⟩) (Cert.KvbTnRefIdeal.Value.run m ρ)
theorem frame_KvbNn : Cert.quiescent_KvbNnRefIdeal := fun m ρ _ =>
  (θ_run Cert.KvbNnRefIdeal.defs _ _).mono (fun r h => ⟨fun c => (h c).2, sem_eq_zero_of_no_sems (by decide) r.2⟩) (Cert.KvbNnRefIdeal.Value.run m ρ)
theorem frame_SqNt : Cert.quiescent_SqNtRefIdeal := fun m ρ _ =>
  (θ_run Cert.SqNtRefIdeal.defs _ _).mono (fun r h => ⟨fun c => (h c).2, sem_eq_zero_of_no_sems (by decide) r.2⟩) (Cert.SqNtRefIdeal.Value.run m ρ)
theorem frame_SqTn : Cert.quiescent_SqTnRefIdeal := fun m ρ _ =>
  (θ_run Cert.SqTnRefIdeal.defs _ _).mono (fun r h => ⟨fun c => (h c).2, sem_eq_zero_of_no_sems (by decide) r.2⟩) (Cert.SqTnRefIdeal.Value.run m ρ)
theorem frame_SqNn : Cert.quiescent_SqNnRefIdeal := fun m ρ _ =>
  (θ_run Cert.SqNnRefIdeal.defs _ _).mono (fun r h => ⟨fun c => (h c).2, sem_eq_zero_of_no_sems (by decide) r.2⟩) (Cert.SqNnRefIdeal.Value.run m ρ)
theorem frame_SqRes : Cert.quiescent_SqResRefIdeal := fun m ρ _ =>
  (θ_run Cert.SqResRefIdeal.defs _ _).mono (fun r h => ⟨fun c => (h c).2, sem_eq_zero_of_no_sems (by decide) r.2⟩) (Cert.SqResRefIdeal.Value.run m ρ)
theorem frame_MemNt : Cert.quiescent_MemNtRefIdeal := fun m ρ _ =>
  (θ_run Cert.MemNtRefIdeal.defs _ _).mono (fun r h => ⟨fun c => (h c).2, sem_eq_zero_of_no_sems (by decide) r.2⟩) (Cert.MemNtRefIdeal.Value.run m ρ)
theorem frame_MemTn : Cert.quiescent_MemTnRefIdeal := fun m ρ _ =>
  (θ_run Cert.MemTnRefIdeal.defs _ _).mono (fun r h => ⟨fun c => (h c).2, sem_eq_zero_of_no_sems (by decide) r.2⟩) (Cert.MemTnRefIdeal.Value.run m ρ)
theorem frame_MemNn : Cert.quiescent_MemNnRefIdeal := fun m ρ _ =>
  (θ_run Cert.MemNnRefIdeal.defs _ _).mono (fun r h => ⟨fun c => (h c).2, sem_eq_zero_of_no_sems (by decide) r.2⟩) (Cert.MemNnRefIdeal.Value.run m ρ)
theorem frame_UpNt : Cert.quiescent_UpNtRefIdeal := fun m ρ _ =>
  (θ_run Cert.UpNtRefIdeal.defs _ _).mono (fun r h => ⟨fun c => (h c).2, sem_eq_zero_of_no_sems (by decide) r.2⟩) (Cert.UpNtRefIdeal.Value.run m ρ)
theorem frame_UpTn : Cert.quiescent_UpTnRefIdeal := fun m ρ _ =>
  (θ_run Cert.UpTnRefIdeal.defs _ _).mono (fun r h => ⟨fun c => (h c).2, sem_eq_zero_of_no_sems (by decide) r.2⟩) (Cert.UpTnRefIdeal.Value.run m ρ)
theorem frame_UpNn : Cert.quiescent_UpNnRefIdeal := fun m ρ _ =>
  (θ_run Cert.UpNnRefIdeal.defs _ _).mono (fun r h => ⟨fun c => (h c).2, sem_eq_zero_of_no_sems (by decide) r.2⟩) (Cert.UpNnRefIdeal.Value.run m ρ)
theorem frame_DownNt : Cert.quiescent_DownNtRefIdeal := fun m ρ _ =>
  (θ_run Cert.DownNtRefIdeal.defs _ _).mono (fun r h => ⟨fun c => (h c).2, sem_eq_zero_of_no_sems (by decide) r.2⟩) (Cert.DownNtRefIdeal.Value.run m ρ)
theorem frame_DownTn : Cert.quiescent_DownTnRefIdeal := fun m ρ _ =>
  (θ_run Cert.DownTnRefIdeal.defs _ _).mono (fun r h => ⟨fun c => (h c).2, sem_eq_zero_of_no_sems (by decide) r.2⟩) (Cert.DownTnRefIdeal.Value.run m ρ)
theorem frame_DownRes : Cert.quiescent_DownResRefIdeal := fun m ρ _ =>
  (θ_run Cert.DownResRefIdeal.defs _ _).mono (fun r h => ⟨fun c => (h c).2, sem_eq_zero_of_no_sems (by decide) r.2⟩) (Cert.DownResRefIdeal.Value.run m ρ)

/-! The references of the optimiser's updates: likewise. -/

theorem frame_AdamIn : Cert.quiescent_AdamInRefIdeal := fun m ρ _ =>
  (θ_run Cert.AdamInRefIdeal.defs _ _).mono (fun r h => ⟨fun c => (h c).2.2.2, sem_eq_zero_of_no_sems (by decide) r.2⟩) (Cert.AdamInRefIdeal.Value.run m ρ)
theorem frame_AdamPacked : Cert.quiescent_AdamPackedRefIdeal := fun m ρ _ =>
  (θ_run Cert.AdamPackedRefIdeal.defs _ _).mono (fun r h => ⟨fun c => (h c).2.2.2, sem_eq_zero_of_no_sems (by decide) r.2⟩) (Cert.AdamPackedRefIdeal.Value.run m ρ)
theorem frame_AdamQb : Cert.quiescent_AdamQbRefIdeal := fun m ρ _ =>
  (θ_run Cert.AdamQbRefIdeal.defs _ _).mono (fun r h => ⟨fun c => (h c).2.2.2.2, sem_eq_zero_of_no_sems (by decide) r.2⟩) (Cert.AdamQbRefIdeal.Value.run m ρ)
theorem frame_AdamKvb : Cert.quiescent_AdamKvbRefIdeal := fun m ρ _ =>
  (θ_run Cert.AdamKvbRefIdeal.defs _ _).mono (fun r h => ⟨fun c => (h c).2.2.2.2, sem_eq_zero_of_no_sems (by decide) r.2⟩) (Cert.AdamKvbRefIdeal.Value.run m ρ)
theorem frame_AdamSq : Cert.quiescent_AdamSqRefIdeal := fun m ρ _ =>
  (θ_run Cert.AdamSqRefIdeal.defs _ _).mono (fun r h => ⟨fun c => (h c).2.2.2.2, sem_eq_zero_of_no_sems (by decide) r.2⟩) (Cert.AdamSqRefIdeal.Value.run m ρ)
theorem frame_AdamUp : Cert.quiescent_AdamUpRefIdeal := fun m ρ _ =>
  (θ_run Cert.AdamUpRefIdeal.defs _ _).mono (fun r h => ⟨fun c => (h c).2.2.2.2, sem_eq_zero_of_no_sems (by decide) r.2⟩) (Cert.AdamUpRefIdeal.Value.run m ρ)
theorem frame_AdamDown : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run m ρ)

/-! The two named reciprocals of the bias corrections are the quotients in the tables of names. -/

theorem preserves_AdamIn : Cert.preserves_AdamIn_AdamInIdeal :=
  ⟨IdealRules.named_const.statement Cert.AdamInIdeal.κ "c1" .f32 0x3FC48605#32 ((8388608 / 5463681 : ℝ) : EReal) rfl,
    IdealRules.named_const.statement Cert.AdamInIdeal.κ "c2" .f32 0x42C8E6D3#32 ((268435456 / 2672307 : ℝ) : EReal) rfl⟩
theorem preserves_AdamPacked : Cert.preserves_AdamPacked_AdamPackedIdeal :=
  ⟨IdealRules.named_const.statement Cert.AdamPackedIdeal.κ "c1" .f32 0x3FC48605#32 ((8388608 / 5463681 : ℝ) : EReal) rfl,
    IdealRules.named_const.statement Cert.AdamPackedIdeal.κ "c2" .f32 0x42C8E6D3#32 ((268435456 / 2672307 : ℝ) : EReal) rfl⟩
theorem preserves_AdamQb : Cert.preserves_AdamQb_AdamQbIdeal :=
  ⟨IdealRules.named_const.statement Cert.AdamQbIdeal.κ "c1" .f32 0x3FC48605#32 ((8388608 / 5463681 : ℝ) : EReal) rfl,
    IdealRules.named_const.statement Cert.AdamQbIdeal.κ "c2" .f32 0x42C8E6D3#32 ((268435456 / 2672307 : ℝ) : EReal) rfl⟩
theorem preserves_AdamKvb : Cert.preserves_AdamKvb_AdamKvbIdeal :=
  ⟨IdealRules.named_const.statement Cert.AdamKvbIdeal.κ "c1" .f32 0x3FC48605#32 ((8388608 / 5463681 : ℝ) : EReal) rfl,
    IdealRules.named_const.statement Cert.AdamKvbIdeal.κ "c2" .f32 0x42C8E6D3#32 ((268435456 / 2672307 : ℝ) : EReal) rfl⟩
theorem preserves_AdamSq : Cert.preserves_AdamSq_AdamSqIdeal :=
  ⟨IdealRules.named_const.statement Cert.AdamSqIdeal.κ "c1" .f32 0x3FC48605#32 ((8388608 / 5463681 : ℝ) : EReal) rfl,
    IdealRules.named_const.statement Cert.AdamSqIdeal.κ "c2" .f32 0x42C8E6D3#32 ((268435456 / 2672307 : ℝ) : EReal) rfl⟩
theorem preserves_AdamUp : Cert.preserves_AdamUp_AdamUpIdeal :=
  ⟨IdealRules.named_const.statement Cert.AdamUpIdeal.κ "c1" .f32 0x3FC48605#32 ((8388608 / 5463681 : ℝ) : EReal) rfl,
    IdealRules.named_const.statement Cert.AdamUpIdeal.κ "c2" .f32 0x42C8E6D3#32 ((268435456 / 2672307 : ℝ) : EReal) rfl⟩
theorem preserves_AdamDown : Cert.preserves_AdamDown_AdamDownIdeal :=
  ⟨IdealRules.named_const.statement Cert.AdamDownIdeal.κ "c1" .f32 0x3FC48605#32 ((8388608 / 5463681 : ℝ) : EReal) rfl,
    IdealRules.named_const.statement Cert.AdamDownIdeal.κ "c2" .f32 0x42C8E6D3#32 ((268435456 / 2672307 : ℝ) : EReal) rfl⟩

/-! The references of the norms and of the loss: likewise. -/

theorem frame_Norm : Cert.quiescent_NormRefIdeal := fun m ρ _ =>
  (θ_run Cert.NormRefIdeal.defs _ _).mono (fun r h => ⟨fun c => (h c).2.2, sem_eq_zero_of_no_sems (by decide) r.2⟩) (Cert.NormRefIdeal.Value.run m ρ)
theorem frame_NormMem : Cert.quiescent_NormMemRefIdeal := fun m ρ _ =>
  (θ_run Cert.NormMemRefIdeal.defs _ _).mono (fun r h => ⟨fun c => (h c).2.2, sem_eq_zero_of_no_sems (by decide) r.2⟩) (Cert.NormMemRefIdeal.Value.run m ρ)
theorem frame_NormQ : Cert.quiescent_NormQRefIdeal := fun m ρ _ =>
  (θ_run Cert.NormQRefIdeal.defs _ _).mono (fun r h => ⟨fun c => (h c).2.2, sem_eq_zero_of_no_sems (by decide) r.2⟩) (Cert.NormQRefIdeal.Value.run m ρ)
theorem frame_NormKv : Cert.quiescent_NormKvRefIdeal := fun m ρ _ =>
  (θ_run Cert.NormKvRefIdeal.defs _ _).mono (fun r h => ⟨fun c => (h c).2.2, sem_eq_zero_of_no_sems (by decide) r.2⟩) (Cert.NormKvRefIdeal.Value.run m ρ)
theorem frame_Loss : Cert.quiescent_LossRefIdeal := fun m ρ _ =>
  (θ_run Cert.LossRefIdeal.defs _ _).mono (fun r h => ⟨fun c => (h c).2.2, sem_eq_zero_of_no_sems (by decide) r.2⟩) (Cert.LossRefIdeal.Value.run m ρ)

/-! The references of the convolutions' gradients: likewise. -/

theorem frame_ConvSilu : Cert.quiescent_ConvSiluRefIdeal := fun m ρ _ =>
  (θ_run Cert.ConvSiluRefIdeal.defs _ _).mono (fun r h => ⟨fun c => (h c).2.2, sem_eq_zero_of_no_sems (by decide) r.2⟩) (Cert.ConvSiluRefIdeal.Value.run m ρ)
theorem frame_ConvGlu : Cert.quiescent_ConvGluRefIdeal := fun m ρ _ =>
  (θ_run Cert.ConvGluRefIdeal.defs _ _).mono (fun r h => ⟨fun c => (h c).2.2.2, sem_eq_zero_of_no_sems (by decide) r.2⟩) (Cert.ConvGluRefIdeal.Value.run m ρ)

/-! The reference of the gradient of the norm of the heads: likewise. -/

theorem frame_GroupNorm : Cert.quiescent_GroupNormRefIdeal := fun m ρ _ =>
  (θ_run Cert.GroupNormRefIdeal.defs _ _).mono (fun r h => ⟨fun c => (h c).2.2, sem_eq_zero_of_no_sems (by decide) r.2⟩) (Cert.GroupNormRefIdeal.Value.run m ρ)

/-- The named mask constant is the bottom of the extended reals in the table of names. -/
theorem preserves_attn : Cert.preserves_Attn_AttnIdeal :=
  IdealRules.named_const.statement Cert.AttnIdeal.κ "mask" .f32 0xF149F2CA#32 ⊥ rfl

theorem claim : Cert.Claim :=
  ⟨Cert.Attn.Gen.facts, Cert.AttnIdeal.Gen.facts, Cert.AttnRefIdeal.Gen.facts,
    Cert.Xattn.Gen.facts, Cert.XattnIdeal.Gen.facts, Cert.XattnRefIdeal.Gen.facts,
    Cert.InNt.Gen.facts, Cert.InNtIdeal.Gen.facts, Cert.InNtRefIdeal.Gen.facts,
    Cert.InTn.Gen.facts, Cert.InTnIdeal.Gen.facts, Cert.InTnRefIdeal.Gen.facts,
    Cert.InNn.Gen.facts, Cert.InNnIdeal.Gen.facts, Cert.InNnRefIdeal.Gen.facts,
    Cert.QbNt.Gen.facts, Cert.QbNtIdeal.Gen.facts, Cert.QbNtRefIdeal.Gen.facts,
    Cert.QbTn.Gen.facts, Cert.QbTnIdeal.Gen.facts, Cert.QbTnRefIdeal.Gen.facts,
    Cert.QbNn.Gen.facts, Cert.QbNnIdeal.Gen.facts, Cert.QbNnRefIdeal.Gen.facts,
    Cert.KvbNt.Gen.facts, Cert.KvbNtIdeal.Gen.facts, Cert.KvbNtRefIdeal.Gen.facts,
    Cert.KvbTn.Gen.facts, Cert.KvbTnIdeal.Gen.facts, Cert.KvbTnRefIdeal.Gen.facts,
    Cert.KvbNn.Gen.facts, Cert.KvbNnIdeal.Gen.facts, Cert.KvbNnRefIdeal.Gen.facts,
    Cert.SqNt.Gen.facts, Cert.SqNtIdeal.Gen.facts, Cert.SqNtRefIdeal.Gen.facts,
    Cert.SqTn.Gen.facts, Cert.SqTnIdeal.Gen.facts, Cert.SqTnRefIdeal.Gen.facts,
    Cert.SqNn.Gen.facts, Cert.SqNnIdeal.Gen.facts, Cert.SqNnRefIdeal.Gen.facts,
    Cert.SqRes.Gen.facts, Cert.SqResIdeal.Gen.facts, Cert.SqResRefIdeal.Gen.facts,
    Cert.MemNt.Gen.facts, Cert.MemNtIdeal.Gen.facts, Cert.MemNtRefIdeal.Gen.facts,
    Cert.MemTn.Gen.facts, Cert.MemTnIdeal.Gen.facts, Cert.MemTnRefIdeal.Gen.facts,
    Cert.MemNn.Gen.facts, Cert.MemNnIdeal.Gen.facts, Cert.MemNnRefIdeal.Gen.facts,
    Cert.UpNt.Gen.facts, Cert.UpNtIdeal.Gen.facts, Cert.UpNtRefIdeal.Gen.facts,
    Cert.UpTn.Gen.facts, Cert.UpTnIdeal.Gen.facts, Cert.UpTnRefIdeal.Gen.facts,
    Cert.UpNn.Gen.facts, Cert.UpNnIdeal.Gen.facts, Cert.UpNnRefIdeal.Gen.facts,
    Cert.DownNt.Gen.facts, Cert.DownNtIdeal.Gen.facts, Cert.DownNtRefIdeal.Gen.facts,
    Cert.DownTn.Gen.facts, Cert.DownTnIdeal.Gen.facts, Cert.DownTnRefIdeal.Gen.facts,
    Cert.DownRes.Gen.facts, Cert.DownResIdeal.Gen.facts, Cert.DownResRefIdeal.Gen.facts,
    Cert.AdamIn.Gen.facts, Cert.AdamInIdeal.Gen.facts, Cert.AdamInRefIdeal.Gen.facts,
    Cert.AdamPacked.Gen.facts, Cert.AdamPackedIdeal.Gen.facts, Cert.AdamPackedRefIdeal.Gen.facts,
    Cert.AdamQb.Gen.facts, Cert.AdamQbIdeal.Gen.facts, Cert.AdamQbRefIdeal.Gen.facts,
    Cert.AdamKvb.Gen.facts, Cert.AdamKvbIdeal.Gen.facts, Cert.AdamKvbRefIdeal.Gen.facts,
    Cert.AdamSq.Gen.facts, Cert.AdamSqIdeal.Gen.facts, Cert.AdamSqRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.Norm.Gen.facts, Cert.NormIdeal.Gen.facts, Cert.NormRefIdeal.Gen.facts,
    Cert.NormMem.Gen.facts, Cert.NormMemIdeal.Gen.facts, Cert.NormMemRefIdeal.Gen.facts,
    Cert.NormQ.Gen.facts, Cert.NormQIdeal.Gen.facts, Cert.NormQRefIdeal.Gen.facts,
    Cert.NormKv.Gen.facts, Cert.NormKvIdeal.Gen.facts, Cert.NormKvRefIdeal.Gen.facts,
    Cert.Loss.Gen.facts, Cert.LossIdeal.Gen.facts, Cert.LossRefIdeal.Gen.facts,
    Cert.ConvSilu.Gen.facts, Cert.ConvSiluIdeal.Gen.facts, Cert.ConvSiluRefIdeal.Gen.facts,
    Cert.ConvGlu.Gen.facts, Cert.ConvGluIdeal.Gen.facts, Cert.ConvGluRefIdeal.Gen.facts,
    Cert.GroupNorm.Gen.facts, Cert.GroupNormIdeal.Gen.facts, Cert.GroupNormRefIdeal.Gen.facts,
    Cert.Pre_xa_finite.Gen.facts, Cert.Pre_norm_finite.Gen.facts, Cert.Pre_norm_mem_finite.Gen.facts, Cert.Pre_norm_q_finite.Gen.facts, Cert.Pre_norm_kv_finite.Gen.facts, Cert.Pre_conv_finite.Gen.facts, Cert.Pre_glu_finite.Gen.facts, Cert.Pre_group_norm_finite.Gen.facts,
    fun m ρ _ => Cert.Attn.Gen.frame m ρ, fun m ρ _ => Cert.AttnIdeal.Gen.frame m ρ, frame_Attn,
    fun m ρ _ => Cert.Xattn.Gen.frame m ρ, fun m ρ _ => Cert.XattnIdeal.Gen.frame m ρ, fun m ρ _ => Cert.XattnIdeal.Gen.frame m ρ, frame_Xattn, fun m ρ _ => frame_Xattn m ρ trivial,
    fun m ρ _ => Cert.InNt.Gen.frame m ρ, fun m ρ _ => Cert.InNtIdeal.Gen.frame m ρ, frame_InNt,
    fun m ρ _ => Cert.InTn.Gen.frame m ρ, fun m ρ _ => Cert.InTnIdeal.Gen.frame m ρ, frame_InTn,
    fun m ρ _ => Cert.InNn.Gen.frame m ρ, fun m ρ _ => Cert.InNnIdeal.Gen.frame m ρ, frame_InNn,
    fun m ρ _ => Cert.QbNt.Gen.frame m ρ, fun m ρ _ => Cert.QbNtIdeal.Gen.frame m ρ, frame_QbNt,
    fun m ρ _ => Cert.QbTn.Gen.frame m ρ, fun m ρ _ => Cert.QbTnIdeal.Gen.frame m ρ, frame_QbTn,
    fun m ρ _ => Cert.QbNn.Gen.frame m ρ, fun m ρ _ => Cert.QbNnIdeal.Gen.frame m ρ, frame_QbNn,
    fun m ρ _ => Cert.KvbNt.Gen.frame m ρ, fun m ρ _ => Cert.KvbNtIdeal.Gen.frame m ρ, frame_KvbNt,
    fun m ρ _ => Cert.KvbTn.Gen.frame m ρ, fun m ρ _ => Cert.KvbTnIdeal.Gen.frame m ρ, frame_KvbTn,
    fun m ρ _ => Cert.KvbNn.Gen.frame m ρ, fun m ρ _ => Cert.KvbNnIdeal.Gen.frame m ρ, frame_KvbNn,
    fun m ρ _ => Cert.SqNt.Gen.frame m ρ, fun m ρ _ => Cert.SqNtIdeal.Gen.frame m ρ, frame_SqNt,
    fun m ρ _ => Cert.SqTn.Gen.frame m ρ, fun m ρ _ => Cert.SqTnIdeal.Gen.frame m ρ, frame_SqTn,
    fun m ρ _ => Cert.SqNn.Gen.frame m ρ, fun m ρ _ => Cert.SqNnIdeal.Gen.frame m ρ, frame_SqNn,
    fun m ρ _ => Cert.SqRes.Gen.frame m ρ, fun m ρ _ => Cert.SqResIdeal.Gen.frame m ρ, frame_SqRes,
    fun m ρ _ => Cert.MemNt.Gen.frame m ρ, fun m ρ _ => Cert.MemNtIdeal.Gen.frame m ρ, frame_MemNt,
    fun m ρ _ => Cert.MemTn.Gen.frame m ρ, fun m ρ _ => Cert.MemTnIdeal.Gen.frame m ρ, frame_MemTn,
    fun m ρ _ => Cert.MemNn.Gen.frame m ρ, fun m ρ _ => Cert.MemNnIdeal.Gen.frame m ρ, frame_MemNn,
    fun m ρ _ => Cert.UpNt.Gen.frame m ρ, fun m ρ _ => Cert.UpNtIdeal.Gen.frame m ρ, frame_UpNt,
    fun m ρ _ => Cert.UpTn.Gen.frame m ρ, fun m ρ _ => Cert.UpTnIdeal.Gen.frame m ρ, frame_UpTn,
    fun m ρ _ => Cert.UpNn.Gen.frame m ρ, fun m ρ _ => Cert.UpNnIdeal.Gen.frame m ρ, frame_UpNn,
    fun m ρ _ => Cert.DownNt.Gen.frame m ρ, fun m ρ _ => Cert.DownNtIdeal.Gen.frame m ρ, frame_DownNt,
    fun m ρ _ => Cert.DownTn.Gen.frame m ρ, fun m ρ _ => Cert.DownTnIdeal.Gen.frame m ρ, frame_DownTn,
    fun m ρ _ => Cert.DownRes.Gen.frame m ρ, fun m ρ _ => Cert.DownResIdeal.Gen.frame m ρ, frame_DownRes,
    fun m ρ _ => Cert.AdamIn.Gen.frame m ρ, fun m ρ _ => Cert.AdamInIdeal.Gen.frame m ρ, frame_AdamIn,
    fun m ρ _ => Cert.AdamPacked.Gen.frame m ρ, fun m ρ _ => Cert.AdamPackedIdeal.Gen.frame m ρ, frame_AdamPacked,
    fun m ρ _ => Cert.AdamQb.Gen.frame m ρ trivial, fun m ρ _ => Cert.AdamQbIdeal.Gen.frame m ρ trivial, frame_AdamQb,
    fun m ρ _ => Cert.AdamKvb.Gen.frame m ρ trivial, fun m ρ _ => Cert.AdamKvbIdeal.Gen.frame m ρ trivial, frame_AdamKvb,
    fun m ρ _ => Cert.AdamSq.Gen.frame m ρ trivial, fun m ρ _ => Cert.AdamSqIdeal.Gen.frame m ρ trivial, frame_AdamSq,
    fun m ρ _ => Cert.AdamUp.Gen.frame m ρ trivial, fun m ρ _ => Cert.AdamUpIdeal.Gen.frame m ρ trivial, frame_AdamUp,
    fun m ρ _ => Cert.AdamDown.Gen.frame m ρ trivial, fun m ρ _ => Cert.AdamDownIdeal.Gen.frame m ρ trivial, frame_AdamDown,
    fun m ρ _ => Cert.Norm.Gen.frame m ρ, fun m ρ _ => Cert.NormIdeal.Gen.frame m ρ, fun m ρ _ => Cert.NormIdeal.Gen.frame m ρ, frame_Norm, fun m ρ _ => frame_Norm m ρ trivial,
    fun m ρ _ => Cert.NormMem.Gen.frame m ρ, fun m ρ _ => Cert.NormMemIdeal.Gen.frame m ρ, fun m ρ _ => Cert.NormMemIdeal.Gen.frame m ρ, frame_NormMem, fun m ρ _ => frame_NormMem m ρ trivial,
    fun m ρ _ => Cert.NormQ.Gen.frame m ρ, fun m ρ _ => Cert.NormQIdeal.Gen.frame m ρ, fun m ρ _ => Cert.NormQIdeal.Gen.frame m ρ, frame_NormQ, fun m ρ _ => frame_NormQ m ρ trivial,
    fun m ρ _ => Cert.NormKv.Gen.frame m ρ, fun m ρ _ => Cert.NormKvIdeal.Gen.frame m ρ, fun m ρ _ => Cert.NormKvIdeal.Gen.frame m ρ, frame_NormKv, fun m ρ _ => frame_NormKv m ρ trivial,
    fun m ρ _ => Cert.Loss.Gen.frame m ρ, fun m ρ _ => Cert.LossIdeal.Gen.frame m ρ, frame_Loss,
    fun m ρ _ => Cert.ConvSilu.Gen.frame m ρ, fun m ρ _ => Cert.ConvSiluIdeal.Gen.frame m ρ, fun m ρ _ => Cert.ConvSiluIdeal.Gen.frame m ρ, frame_ConvSilu, fun m ρ _ => frame_ConvSilu m ρ trivial,
    fun m ρ _ => Cert.ConvGlu.Gen.frame m ρ, fun m ρ _ => Cert.ConvGluIdeal.Gen.frame m ρ, fun m ρ _ => Cert.ConvGluIdeal.Gen.frame m ρ, frame_ConvGlu, fun m ρ _ => frame_ConvGlu m ρ trivial,
    fun m ρ _ => Cert.GroupNorm.Gen.frame m ρ, fun m ρ _ => Cert.GroupNormIdeal.Gen.frame m ρ, fun m ρ _ => Cert.GroupNormIdeal.Gen.frame m ρ, frame_GroupNorm, fun m ρ _ => frame_GroupNorm m ρ trivial,
    preserves_attn, trivial, Cert.XattnIdeal.Val.algebraic,
    trivial, Cert.InNtIdeal.Val.algebraic,
    trivial, Cert.InTnIdeal.Val.algebraic,
    trivial, Cert.InNnIdeal.Val.algebraic,
    trivial, Cert.QbNtIdeal.Val.algebraic,
    trivial, Cert.QbTnIdeal.Val.algebraic,
    trivial, Cert.QbNnIdeal.Val.algebraic,
    trivial, Cert.KvbNtIdeal.Val.algebraic,
    trivial, Cert.KvbTnIdeal.Val.algebraic,
    trivial, Cert.KvbNnIdeal.Val.algebraic,
    trivial, Cert.SqNtIdeal.Val.algebraic,
    trivial, Cert.SqTnIdeal.Val.algebraic,
    trivial, Cert.SqNnIdeal.Val.algebraic,
    trivial, Cert.SqResIdeal.Val.algebraic,
    trivial, Cert.MemNtIdeal.Val.algebraic,
    trivial, Cert.MemTnIdeal.Val.algebraic,
    trivial, Cert.MemNnIdeal.Val.algebraic,
    trivial, Cert.UpNtIdeal.Val.algebraic,
    trivial, Cert.UpTnIdeal.Val.algebraic,
    trivial, Cert.UpNnIdeal.Val.algebraic,
    trivial, Cert.DownNtIdeal.Val.algebraic,
    trivial, Cert.DownTnIdeal.Val.algebraic,
    trivial, Cert.DownResIdeal.Val.algebraic,
    preserves_AdamIn, Cert.AdamInIdeal.Val.algebraic,
    preserves_AdamPacked, Cert.AdamPackedIdeal.Val.algebraic,
    preserves_AdamQb, Cert.AdamQbIdeal.Val.algebraic,
    preserves_AdamKvb, Cert.AdamKvbIdeal.Val.algebraic,
    preserves_AdamSq, Cert.AdamSqIdeal.Val.algebraic,
    preserves_AdamUp, Cert.AdamUpIdeal.Val.algebraic,
    preserves_AdamDown, Cert.AdamDownIdeal.Val.algebraic,
    trivial, Cert.NormIdeal.Val.algebraic,
    trivial, Cert.NormMemIdeal.Val.algebraic,
    trivial, Cert.NormQIdeal.Val.algebraic,
    trivial, Cert.NormKvIdeal.Val.algebraic,
    trivial, Cert.LossIdeal.Val.algebraic,
    trivial, Cert.ConvSiluIdeal.Val.algebraic,
    trivial, Cert.ConvGluIdeal.Val.algebraic,
    trivial, Cert.GroupNormIdeal.Val.algebraic⟩

end Cert.Proof

end
